-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangedIdeal (m : (ℓ : Loc Cert.ExchangedIdeal.nD Cert.ExchangedIdeal.τ Cert.ExchangedIdeal.sig) → Buf (Elt Ideal) ℓ) : Prop :=
  True

def Pre_Exchanged (m : (ℓ : Loc Cert.Exchanged.nD Cert.Exchanged.τ Cert.Exchanged.sig) → Buf (Elt Bits) ℓ) : Prop :=
  True

def Pre_FfnSum (m : (ℓ : Loc Cert.FfnSum.nD Cert.FfnSum.τ Cert.FfnSum.sig) → Buf (Elt Bits) ℓ) : Prop :=
  True

def Pre_FfnSumIdeal (m : (ℓ : Loc Cert.FfnSumIdeal.nD Cert.FfnSumIdeal.τ Cert.FfnSumIdeal.sig) → Buf (Elt Ideal) ℓ) : Prop :=
  True

def Pre_FfnSumRefIdeal (m : (ℓ : Loc Cert.FfnSumRefIdeal.nD Cert.FfnSumRefIdeal.τ Cert.FfnSumRefIdeal.sig) → Buf (Elt Ideal) ℓ) : Prop :=
  True

def Pre_InSum (m : (ℓ : Loc Cert.InSum.nD Cert.InSum.τ Cert.InSum.sig) → Buf (Elt Bits) ℓ) : Prop :=
  True

def Pre_InSumIdeal (m : (ℓ : Loc Cert.InSumIdeal.nD Cert.InSumIdeal.τ Cert.InSumIdeal.sig) → Buf (Elt Ideal) ℓ) : Prop :=
  True

def Pre_InSumRefIdeal (m : (ℓ : Loc Cert.InSumRefIdeal.nD Cert.InSumRefIdeal.τ Cert.InSumRefIdeal.sig) → Buf (Elt Ideal) ℓ) : Prop :=
  True

def Pre_AttnSum (m : (ℓ : Loc Cert.AttnSum.nD Cert.AttnSum.τ Cert.AttnSum.sig) → Buf (Elt Bits) ℓ) : Prop :=
  True

def Pre_AttnSumIdeal (m : (ℓ : Loc Cert.AttnSumIdeal.nD Cert.AttnSumIdeal.τ Cert.AttnSumIdeal.sig) → Buf (Elt Ideal) ℓ) : Prop :=
  True

def Pre_AttnSumRefIdeal (m : (ℓ : Loc Cert.AttnSumRefIdeal.nD Cert.AttnSumRefIdeal.τ Cert.AttnSumRefIdeal.sig) → Buf (Elt Ideal) ℓ) : Prop :=
  True

def Pre_OutSum (m : (ℓ : Loc Cert.OutSum.nD Cert.OutSum.τ Cert.OutSum.sig) → Buf (Elt Bits) ℓ) : Prop :=
  True

def Pre_OutSumIdeal (m : (ℓ : Loc Cert.OutSumIdeal.nD Cert.OutSumIdeal.τ Cert.OutSumIdeal.sig) → Buf (Elt Ideal) ℓ) : Prop :=
  True

def Pre_OutSumRefIdeal (m : (ℓ : Loc Cert.OutSumRefIdeal.nD Cert.OutSumRefIdeal.τ Cert.OutSumRefIdeal.sig) → Buf (Elt Ideal) ℓ) : Prop :=
  True

def Pre_TapsSum (m : (ℓ : Loc Cert.TapsSum.nD Cert.TapsSum.τ Cert.TapsSum.sig) → Buf (Elt Bits) ℓ) : Prop :=
  True

def Pre_TapsSumIdeal (m : (ℓ : Loc Cert.TapsSumIdeal.nD Cert.TapsSumIdeal.τ Cert.TapsSumIdeal.sig) → Buf (Elt Ideal) ℓ) : Prop :=
  True

def Pre_TapsSumRefIdeal (m : (ℓ : Loc Cert.TapsSumRefIdeal.nD Cert.TapsSumRefIdeal.τ Cert.TapsSumRefIdeal.sig) → Buf (Elt Ideal) ℓ) : Prop :=
  True

def Pre_GateStep (m : (ℓ : Loc Cert.GateStep.nD Cert.GateStep.τ Cert.GateStep.sig) → Buf (Elt Bits) ℓ) : Prop :=
  True

def Pre_GateStepIdeal (m : (ℓ : Loc Cert.GateStepIdeal.nD Cert.GateStepIdeal.τ Cert.GateStepIdeal.sig) → Buf (Elt Ideal) ℓ) : Prop :=
  True

def Pre_GateStepRefIdeal (m : (ℓ : Loc Cert.GateStepRefIdeal.nD Cert.GateStepRefIdeal.τ Cert.GateStepRefIdeal.sig) → Buf (Elt Ideal) ℓ) : Prop :=
  True

def Pre_DownStep (m : (ℓ : Loc Cert.DownStep.nD Cert.DownStep.τ Cert.DownStep.sig) → Buf (Elt Bits) ℓ) : Prop :=
  True

def Pre_DownStepIdeal (m : (ℓ : Loc Cert.DownStepIdeal.nD Cert.DownStepIdeal.τ Cert.DownStepIdeal.sig) → Buf (Elt Ideal) ℓ) : Prop :=
  True

def Pre_DownStepRefIdeal (m : (ℓ : Loc Cert.DownStepRefIdeal.nD Cert.DownStepRefIdeal.τ Cert.DownStepRefIdeal.sig) → Buf (Elt Ideal) ℓ) : Prop :=
  True

def Pre_InStep (m : (ℓ : Loc Cert.InStep.nD Cert.InStep.τ Cert.InStep.sig) → Buf (Elt Bits) ℓ) : Prop :=
  True

def Pre_InStepIdeal (m : (ℓ : Loc Cert.InStepIdeal.nD Cert.InStepIdeal.τ Cert.InStepIdeal.sig) → Buf (Elt Ideal) ℓ) : Prop :=
  True

def Pre_InStepRefIdeal (m : (ℓ : Loc Cert.InStepRefIdeal.nD Cert.InStepRefIdeal.τ Cert.InStepRefIdeal.sig) → Buf (Elt Ideal) ℓ) : Prop :=
  True

def Pre_AttnStep (m : (ℓ : Loc Cert.AttnStep.nD Cert.AttnStep.τ Cert.AttnStep.sig) → Buf (Elt Bits) ℓ) : Prop :=
  True

def Pre_AttnStepIdeal (m : (ℓ : Loc Cert.AttnStepIdeal.nD Cert.AttnStepIdeal.τ Cert.AttnStepIdeal.sig) → Buf (Elt Ideal) ℓ) : Prop :=
  True

def Pre_AttnStepRefIdeal (m : (ℓ : Loc Cert.AttnStepRefIdeal.nD Cert.AttnStepRefIdeal.τ Cert.AttnStepRefIdeal.sig) → Buf (Elt Ideal) ℓ) : Prop :=
  True

def Pre_OutStep (m : (ℓ : Loc Cert.OutStep.nD Cert.OutStep.τ Cert.OutStep.sig) → Buf (Elt Bits) ℓ) : Prop :=
  True

def Pre_OutStepIdeal (m : (ℓ : Loc Cert.OutStepIdeal.nD Cert.OutStepIdeal.τ Cert.OutStepIdeal.sig) → Buf (Elt Ideal) ℓ) : Prop :=
  True

def Pre_OutStepRefIdeal (m : (ℓ : Loc Cert.OutStepRefIdeal.nD Cert.OutStepRefIdeal.τ Cert.OutStepRefIdeal.sig) → Buf (Elt Ideal) ℓ) : Prop :=
  True

def Pre_TapsStep (m : (ℓ : Loc Cert.TapsStep.nD Cert.TapsStep.τ Cert.TapsStep.sig) → Buf (Elt Bits) ℓ) : Prop :=
  True

def Pre_TapsStepIdeal (m : (ℓ : Loc Cert.TapsStepIdeal.nD Cert.TapsStepIdeal.τ Cert.TapsStepIdeal.sig) → Buf (Elt Ideal) ℓ) : Prop :=
  True

def Pre_TapsStepRefIdeal (m : (ℓ : Loc Cert.TapsStepRefIdeal.nD Cert.TapsStepRefIdeal.τ Cert.TapsStepRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackRefIdeal (m : (ℓ : Loc Cert.FfnBackRefIdeal.nD Cert.FfnBackRefIdeal.τ Cert.FfnBackRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_WGrad (m : (ℓ : Loc Cert.WGrad.nD Cert.WGrad.τ Cert.WGrad.sig) → Buf (Elt Bits) ℓ) : Prop :=
  True

def Pre_WGradIdeal (m : (ℓ : Loc Cert.WGradIdeal.nD Cert.WGradIdeal.τ Cert.WGradIdeal.sig) → Buf (Elt Ideal) ℓ) : Prop :=
  True

def Pre_WGradRefIdeal (m : (ℓ : Loc Cert.WGradRefIdeal.nD Cert.WGradRefIdeal.τ Cert.WGradRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackRefIdeal (m : (ℓ : Loc Cert.MixBackRefIdeal.nD Cert.MixBackRefIdeal.τ Cert.MixBackRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3)
      ∧ r.2.mem ((c.tc : Thread Cert.Exchange.nD Cert.Exchange.τ).loc Cert.Exchange.main_arg4) = m ((c.tc : Thread Cert.Exchange.nD Cert.Exchange.τ).loc Cert.Exchange.main_arg4)
      ∧ r.2.mem ((c.tc : Thread Cert.Exchange.nD Cert.Exchange.τ).loc Cert.Exchange.main_arg5) = m ((c.tc : Thread Cert.Exchange.nD Cert.Exchange.τ).loc Cert.Exchange.main_arg5)
      ∧ r.2.mem ((c.tc : Thread Cert.Exchange.nD Cert.Exchange.τ).loc Cert.Exchange.main_arg6) = m ((c.tc : Thread Cert.Exchange.nD Cert.Exchange.τ).loc Cert.Exchange.main_arg6)
      ∧ r.2.mem ((c.tc : Thread Cert.Exchange.nD Cert.Exchange.τ).loc Cert.Exchange.main_arg7) = m ((c.tc : Thread Cert.Exchange.nD Cert.Exchange.τ).loc Cert.Exchange.main_arg7)
      ∧ r.2.mem ((c.tc : Thread Cert.Exchange.nD Cert.Exchange.τ).loc Cert.Exchange.main_arg8) = m ((c.tc : Thread Cert.Exchange.nD Cert.Exchange.τ).loc Cert.Exchange.main_arg8)
      ∧ r.2.mem ((c.tc : Thread Cert.Exchange.nD Cert.Exchange.τ).loc Cert.Exchange.main_arg9) = m ((c.tc : Thread Cert.Exchange.nD Cert.Exchange.τ).loc Cert.Exchange.main_arg9)
      ∧ r.2.mem ((c.tc : Thread Cert.Exchange.nD Cert.Exchange.τ).loc Cert.Exchange.main_arg10) = m ((c.tc : Thread Cert.Exchange.nD Cert.Exchange.τ).loc Cert.Exchange.main_arg10)
      ∧ r.2.mem ((c.tc : Thread Cert.Exchange.nD Cert.Exchange.τ).loc Cert.Exchange.main_arg11) = m ((c.tc : Thread Cert.Exchange.nD Cert.Exchange.τ).loc Cert.Exchange.main_arg11))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
      ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
      ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
      ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
      ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7)
      ∧ r.2.mem ((c.tc : Thread Cert.ExchangeIdeal.nD Cert.ExchangeIdeal.τ).loc Cert.ExchangeIdeal.main_arg8) = m ((c.tc : Thread Cert.ExchangeIdeal.nD Cert.ExchangeIdeal.τ).loc Cert.ExchangeIdeal.main_arg8)
      ∧ r.2.mem ((c.tc : Thread Cert.ExchangeIdeal.nD Cert.ExchangeIdeal.τ).loc Cert.ExchangeIdeal.main_arg9) = m ((c.tc : Thread Cert.ExchangeIdeal.nD Cert.ExchangeIdeal.τ).loc Cert.ExchangeIdeal.main_arg9)
      ∧ r.2.mem ((c.tc : Thread Cert.ExchangeIdeal.nD Cert.ExchangeIdeal.τ).loc Cert.ExchangeIdeal.main_arg10) = m ((c.tc : Thread Cert.ExchangeIdeal.nD Cert.ExchangeIdeal.τ).loc Cert.ExchangeIdeal.main_arg10)
      ∧ r.2.mem ((c.tc : Thread Cert.ExchangeIdeal.nD Cert.ExchangeIdeal.τ).loc Cert.ExchangeIdeal.main_arg11) = m ((c.tc : Thread Cert.ExchangeIdeal.nD Cert.ExchangeIdeal.τ).loc Cert.ExchangeIdeal.main_arg11))
      ∧ r.2.sem = fun _ => 0)

def quiescent_ExchangedIdeal [hExchangedIdeal : Cert.ExchangedIdeal.Facts] : Prop :=
  ∀ (m : (ℓ : Loc Cert.ExchangedIdeal.nD Cert.ExchangedIdeal.τ Cert.ExchangedIdeal.sig) → Buf (Elt Ideal) ℓ) (g : Dev Cert.ExchangedIdeal.nD → PrngReg), Pre_ExchangedIdeal m →
    θ_run (Cert.ExchangedIdeal.defs (F := Ideal)) (onTc (τ := Cert.ExchangedIdeal.τ) (Cert.ExchangedIdeal.main (F := Ideal))) ⟨m, fun _ => 0, g⟩ (fun r => (∀ c : Dev Cert.ExchangedIdeal.nD,
      r.2.mem ((c.tc : Thread Cert.ExchangedIdeal.nD Cert.ExchangedIdeal.τ).loc Cert.ExchangedIdeal.main_arg0) = m ((c.tc : Thread Cert.ExchangedIdeal.nD Cert.ExchangedIdeal.τ).loc Cert.ExchangedIdeal.main_arg0)
      ∧ r.2.mem ((c.tc : Thread Cert.ExchangedIdeal.nD Cert.ExchangedIdeal.τ).loc Cert.ExchangedIdeal.main_arg1) = m ((c.tc : Thread Cert.ExchangedIdeal.nD Cert.ExchangedIdeal.τ).loc Cert.ExchangedIdeal.main_arg1)
      ∧ r.2.mem ((c.tc : Thread Cert.ExchangedIdeal.nD Cert.ExchangedIdeal.τ).loc Cert.ExchangedIdeal.main_arg2) = m ((c.tc : Thread Cert.ExchangedIdeal.nD Cert.ExchangedIdeal.τ).loc Cert.ExchangedIdeal.main_arg2)
      ∧ r.2.mem ((c.tc : Thread Cert.ExchangedIdeal.nD Cert.ExchangedIdeal.τ).loc Cert.ExchangedIdeal.main_arg3) = m ((c.tc : Thread Cert.ExchangedIdeal.nD Cert.ExchangedIdeal.τ).loc Cert.ExchangedIdeal.main_arg3)
      ∧ r.2.mem ((c.tc : Thread Cert.ExchangedIdeal.nD Cert.ExchangedIdeal.τ).loc Cert.ExchangedIdeal.main_arg4) = m ((c.tc : Thread Cert.ExchangedIdeal.nD Cert.ExchangedIdeal.τ).loc Cert.ExchangedIdeal.main_arg4)
      ∧ r.2.mem ((c.tc : Thread Cert.ExchangedIdeal.nD Cert.ExchangedIdeal.τ).loc Cert.ExchangedIdeal.main_arg5) = m ((c.tc : Thread Cert.ExchangedIdeal.nD Cert.ExchangedIdeal.τ).loc Cert.ExchangedIdeal.main_arg5)
      ∧ r.2.mem ((c.tc : Thread Cert.ExchangedIdeal.nD Cert.ExchangedIdeal.τ).loc Cert.ExchangedIdeal.main_arg6) = m ((c.tc : Thread Cert.ExchangedIdeal.nD Cert.ExchangedIdeal.τ).loc Cert.ExchangedIdeal.main_arg6)
      ∧ r.2.mem ((c.tc : Thread Cert.ExchangedIdeal.nD Cert.ExchangedIdeal.τ).loc Cert.ExchangedIdeal.main_arg7) = m ((c.tc : Thread Cert.ExchangedIdeal.nD Cert.ExchangedIdeal.τ).loc Cert.ExchangedIdeal.main_arg7)
      ∧ r.2.mem ((c.tc : Thread Cert.ExchangedIdeal.nD Cert.ExchangedIdeal.τ).loc Cert.ExchangedIdeal.main_arg8) = m ((c.tc : Thread Cert.ExchangedIdeal.nD Cert.ExchangedIdeal.τ).loc Cert.ExchangedIdeal.main_arg8)
      ∧ r.2.mem ((c.tc : Thread Cert.ExchangedIdeal.nD Cert.ExchangedIdeal.τ).loc Cert.ExchangedIdeal.main_arg9) = m ((c.tc : Thread Cert.ExchangedIdeal.nD Cert.ExchangedIdeal.τ).loc Cert.ExchangedIdeal.main_arg9)
      ∧ r.2.mem ((c.tc : Thread Cert.ExchangedIdeal.nD Cert.ExchangedIdeal.τ).loc Cert.ExchangedIdeal.main_arg10) = m ((c.tc : Thread Cert.ExchangedIdeal.nD Cert.ExchangedIdeal.τ).loc Cert.ExchangedIdeal.main_arg10)
      ∧ r.2.mem ((c.tc : Thread Cert.ExchangedIdeal.nD Cert.ExchangedIdeal.τ).loc Cert.ExchangedIdeal.main_arg11) = m ((c.tc : Thread Cert.ExchangedIdeal.nD Cert.ExchangedIdeal.τ).loc Cert.ExchangedIdeal.main_arg11))
      ∧ r.2.sem = fun _ => 0)

def quiescent_Exchanged [hExchanged : Cert.Exchanged.Facts] : Prop :=
  ∀ (m : (ℓ : Loc Cert.Exchanged.nD Cert.Exchanged.τ Cert.Exchanged.sig) → Buf (Elt Bits) ℓ) (g : Dev Cert.Exchanged.nD → PrngReg), Pre_Exchanged m →
    θ_run (Cert.Exchanged.defs (F := Bits)) (onTc (τ := Cert.Exchanged.τ) (Cert.Exchanged.main (F := Bits))) ⟨m, fun _ => 0, g⟩ (fun r => (∀ c : Dev Cert.Exchanged.nD,
      r.2.mem ((c.tc : Thread Cert.Exchanged.nD Cert.Exchanged.τ).loc Cert.Exchanged.main_arg0) = m ((c.tc : Thread Cert.Exchanged.nD Cert.Exchanged.τ).loc Cert.Exchanged.main_arg0)
      ∧ r.2.mem ((c.tc : Thread Cert.Exchanged.nD Cert.Exchanged.τ).loc Cert.Exchanged.main_arg1) = m ((c.tc : Thread Cert.Exchanged.nD Cert.Exchanged.τ).loc Cert.Exchanged.main_arg1)
      ∧ r.2.mem ((c.tc : Thread Cert.Exchanged.nD Cert.Exchanged.τ).loc Cert.Exchanged.main_arg2) = m ((c.tc : Thread Cert.Exchanged.nD Cert.Exchanged.τ).loc Cert.Exchanged.main_arg2)
      ∧ r.2.mem ((c.tc : Thread Cert.Exchanged.nD Cert.Exchanged.τ).loc Cert.Exchanged.main_arg3) = m ((c.tc : Thread Cert.Exchanged.nD Cert.Exchanged.τ).loc Cert.Exchanged.main_arg3)
      ∧ r.2.mem ((c.tc : Thread Cert.Exchanged.nD Cert.Exchanged.τ).loc Cert.Exchanged.main_arg4) = m ((c.tc : Thread Cert.Exchanged.nD Cert.Exchanged.τ).loc Cert.Exchanged.main_arg4)
      ∧ r.2.mem ((c.tc : Thread Cert.Exchanged.nD Cert.Exchanged.τ).loc Cert.Exchanged.main_arg5) = m ((c.tc : Thread Cert.Exchanged.nD Cert.Exchanged.τ).loc Cert.Exchanged.main_arg5)
      ∧ r.2.mem ((c.tc : Thread Cert.Exchanged.nD Cert.Exchanged.τ).loc Cert.Exchanged.main_arg6) = m ((c.tc : Thread Cert.Exchanged.nD Cert.Exchanged.τ).loc Cert.Exchanged.main_arg6)
      ∧ r.2.mem ((c.tc : Thread Cert.Exchanged.nD Cert.Exchanged.τ).loc Cert.Exchanged.main_arg7) = m ((c.tc : Thread Cert.Exchanged.nD Cert.Exchanged.τ).loc Cert.Exchanged.main_arg7)
      ∧ r.2.mem ((c.tc : Thread Cert.Exchanged.nD Cert.Exchanged.τ).loc Cert.Exchanged.main_arg8) = m ((c.tc : Thread Cert.Exchanged.nD Cert.Exchanged.τ).loc Cert.Exchanged.main_arg8)
      ∧ r.2.mem ((c.tc : Thread Cert.Exchanged.nD Cert.Exchanged.τ).loc Cert.Exchanged.main_arg9) = m ((c.tc : Thread Cert.Exchanged.nD Cert.Exchanged.τ).loc Cert.Exchanged.main_arg9)
      ∧ r.2.mem ((c.tc : Thread Cert.Exchanged.nD Cert.Exchanged.τ).loc Cert.Exchanged.main_arg10) = m ((c.tc : Thread Cert.Exchanged.nD Cert.Exchanged.τ).loc Cert.Exchanged.main_arg10)
      ∧ r.2.mem ((c.tc : Thread Cert.Exchanged.nD Cert.Exchanged.τ).loc Cert.Exchanged.main_arg11) = m ((c.tc : Thread Cert.Exchanged.nD Cert.Exchanged.τ).loc Cert.Exchanged.main_arg11))
      ∧ r.2.sem = fun _ => 0)

def quiescent_FfnSum [hFfnSum : Cert.FfnSum.Facts] : Prop :=
  ∀ (m : (ℓ : Loc Cert.FfnSum.nD Cert.FfnSum.τ Cert.FfnSum.sig) → Buf (Elt Bits) ℓ) (g : Dev Cert.FfnSum.nD → PrngReg), Pre_FfnSum m →
    θ_run (Cert.FfnSum.defs (F := Bits)) (onTc (τ := Cert.FfnSum.τ) (Cert.FfnSum.main (F := Bits))) ⟨m, fun _ => 0, g⟩ (fun r => (∀ c : Dev Cert.FfnSum.nD,
      r.2.mem ((c.tc : Thread Cert.FfnSum.nD Cert.FfnSum.τ).loc Cert.FfnSum.main_arg0) = m ((c.tc : Thread Cert.FfnSum.nD Cert.FfnSum.τ).loc Cert.FfnSum.main_arg0))
      ∧ r.2.sem = fun _ => 0)

def quiescent_FfnSumIdeal [hFfnSumIdeal : Cert.FfnSumIdeal.Facts] : Prop :=
  ∀ (m : (ℓ : Loc Cert.FfnSumIdeal.nD Cert.FfnSumIdeal.τ Cert.FfnSumIdeal.sig) → Buf (Elt Ideal) ℓ) (g : Dev Cert.FfnSumIdeal.nD → PrngReg), Pre_FfnSumIdeal m →
    θ_run (Cert.FfnSumIdeal.defs (F := Ideal)) (onTc (τ := Cert.FfnSumIdeal.τ) (Cert.FfnSumIdeal.main (F := Ideal))) ⟨m, fun _ => 0, g⟩ (fun r => (∀ c : Dev Cert.FfnSumIdeal.nD,
      r.2.mem ((c.tc : Thread Cert.FfnSumIdeal.nD Cert.FfnSumIdeal.τ).loc Cert.FfnSumIdeal.main_arg0) = m ((c.tc : Thread Cert.FfnSumIdeal.nD Cert.FfnSumIdeal.τ).loc Cert.FfnSumIdeal.main_arg0))
      ∧ r.2.sem = fun _ => 0)

def quiescent_FfnSumRefIdeal [hFfnSumRefIdeal : Cert.FfnSumRefIdeal.Facts] : Prop :=
  ∀ (m : (ℓ : Loc Cert.FfnSumRefIdeal.nD Cert.FfnSumRefIdeal.τ Cert.FfnSumRefIdeal.sig) → Buf (Elt Ideal) ℓ) (g : Dev Cert.FfnSumRefIdeal.nD → PrngReg), Pre_FfnSumRefIdeal m →
    θ_run (Cert.FfnSumRefIdeal.defs (F := Ideal)) (onTc (τ := Cert.FfnSumRefIdeal.τ) (Cert.FfnSumRefIdeal.main (F := Ideal))) ⟨m, fun _ => 0, g⟩ (fun r => (∀ c : Dev Cert.FfnSumRefIdeal.nD,
      r.2.mem ((c.tc : Thread Cert.FfnSumRefIdeal.nD Cert.FfnSumRefIdeal.τ).loc Cert.FfnSumRefIdeal.main_arg0) = m ((c.tc : Thread Cert.FfnSumRefIdeal.nD Cert.FfnSumRefIdeal.τ).loc Cert.FfnSumRefIdeal.main_arg0))
      ∧ r.2.sem = fun _ => 0)

def quiescent_InSum [hInSum : Cert.InSum.Facts] : Prop :=
  ∀ (m : (ℓ : Loc Cert.InSum.nD Cert.InSum.τ Cert.InSum.sig) → Buf (Elt Bits) ℓ) (g : Dev Cert.InSum.nD → PrngReg), Pre_InSum m →
    θ_run (Cert.InSum.defs (F := Bits)) (onTc (τ := Cert.InSum.τ) (Cert.InSum.main (F := Bits))) ⟨m, fun _ => 0, g⟩ (fun r => (∀ c : Dev Cert.InSum.nD,
      r.2.mem ((c.tc : Thread Cert.InSum.nD Cert.InSum.τ).loc Cert.InSum.main_arg0) = m ((c.tc : Thread Cert.InSum.nD Cert.InSum.τ).loc Cert.InSum.main_arg0))
      ∧ r.2.sem = fun _ => 0)

def quiescent_InSumIdeal [hInSumIdeal : Cert.InSumIdeal.Facts] : Prop :=
  ∀ (m : (ℓ : Loc Cert.InSumIdeal.nD Cert.InSumIdeal.τ Cert.InSumIdeal.sig) → Buf (Elt Ideal) ℓ) (g : Dev Cert.InSumIdeal.nD → PrngReg), Pre_InSumIdeal m →
    θ_run (Cert.InSumIdeal.defs (F := Ideal)) (onTc (τ := Cert.InSumIdeal.τ) (Cert.InSumIdeal.main (F := Ideal))) ⟨m, fun _ => 0, g⟩ (fun r => (∀ c : Dev Cert.InSumIdeal.nD,
      r.2.mem ((c.tc : Thread Cert.InSumIdeal.nD Cert.InSumIdeal.τ).loc Cert.InSumIdeal.main_arg0) = m ((c.tc : Thread Cert.InSumIdeal.nD Cert.InSumIdeal.τ).loc Cert.InSumIdeal.main_arg0))
      ∧ r.2.sem = fun _ => 0)

def quiescent_InSumRefIdeal [hInSumRefIdeal : Cert.InSumRefIdeal.Facts] : Prop :=
  ∀ (m : (ℓ : Loc Cert.InSumRefIdeal.nD Cert.InSumRefIdeal.τ Cert.InSumRefIdeal.sig) → Buf (Elt Ideal) ℓ) (g : Dev Cert.InSumRefIdeal.nD → PrngReg), Pre_InSumRefIdeal m →
    θ_run (Cert.InSumRefIdeal.defs (F := Ideal)) (onTc (τ := Cert.InSumRefIdeal.τ) (Cert.InSumRefIdeal.main (F := Ideal))) ⟨m, fun _ => 0, g⟩ (fun r => (∀ c : Dev Cert.InSumRefIdeal.nD,
      r.2.mem ((c.tc : Thread Cert.InSumRefIdeal.nD Cert.InSumRefIdeal.τ).loc Cert.InSumRefIdeal.main_arg0) = m ((c.tc : Thread Cert.InSumRefIdeal.nD Cert.InSumRefIdeal.τ).loc Cert.InSumRefIdeal.main_arg0))
      ∧ r.2.sem = fun _ => 0)

def quiescent_AttnSum [hAttnSum : Cert.AttnSum.Facts] : Prop :=
  ∀ (m : (ℓ : Loc Cert.AttnSum.nD Cert.AttnSum.τ Cert.AttnSum.sig) → Buf (Elt Bits) ℓ) (g : Dev Cert.AttnSum.nD → PrngReg), Pre_AttnSum m →
    θ_run (Cert.AttnSum.defs (F := Bits)) (onTc (τ := Cert.AttnSum.τ) (Cert.AttnSum.main (F := Bits))) ⟨m, fun _ => 0, g⟩ (fun r => (∀ c : Dev Cert.AttnSum.nD,
      r.2.mem ((c.tc : Thread Cert.AttnSum.nD Cert.AttnSum.τ).loc Cert.AttnSum.main_arg0) = m ((c.tc : Thread Cert.AttnSum.nD Cert.AttnSum.τ).loc Cert.AttnSum.main_arg0))
      ∧ r.2.sem = fun _ => 0)

def quiescent_AttnSumIdeal [hAttnSumIdeal : Cert.AttnSumIdeal.Facts] : Prop :=
  ∀ (m : (ℓ : Loc Cert.AttnSumIdeal.nD Cert.AttnSumIdeal.τ Cert.AttnSumIdeal.sig) → Buf (Elt Ideal) ℓ) (g : Dev Cert.AttnSumIdeal.nD → PrngReg), Pre_AttnSumIdeal m →
    θ_run (Cert.AttnSumIdeal.defs (F := Ideal)) (onTc (τ := Cert.AttnSumIdeal.τ) (Cert.AttnSumIdeal.main (F := Ideal))) ⟨m, fun _ => 0, g⟩ (fun r => (∀ c : Dev Cert.AttnSumIdeal.nD,
      r.2.mem ((c.tc : Thread Cert.AttnSumIdeal.nD Cert.AttnSumIdeal.τ).loc Cert.AttnSumIdeal.main_arg0) = m ((c.tc : Thread Cert.AttnSumIdeal.nD Cert.AttnSumIdeal.τ).loc Cert.AttnSumIdeal.main_arg0))
      ∧ r.2.sem = fun _ => 0)

def quiescent_AttnSumRefIdeal [hAttnSumRefIdeal : Cert.AttnSumRefIdeal.Facts] : Prop :=
  ∀ (m : (ℓ : Loc Cert.AttnSumRefIdeal.nD Cert.AttnSumRefIdeal.τ Cert.AttnSumRefIdeal.sig) → Buf (Elt Ideal) ℓ) (g : Dev Cert.AttnSumRefIdeal.nD → PrngReg), Pre_AttnSumRefIdeal m →
    θ_run (Cert.AttnSumRefIdeal.defs (F := Ideal)) (onTc (τ := Cert.AttnSumRefIdeal.τ) (Cert.AttnSumRefIdeal.main (F := Ideal))) ⟨m, fun _ => 0, g⟩ (fun r => (∀ c : Dev Cert.AttnSumRefIdeal.nD,
      r.2.mem ((c.tc : Thread Cert.AttnSumRefIdeal.nD Cert.AttnSumRefIdeal.τ).loc Cert.AttnSumRefIdeal.main_arg0) = m ((c.tc : Thread Cert.AttnSumRefIdeal.nD Cert.AttnSumRefIdeal.τ).loc Cert.AttnSumRefIdeal.main_arg0))
      ∧ r.2.sem = fun _ => 0)

def quiescent_OutSum [hOutSum : Cert.OutSum.Facts] : Prop :=
  ∀ (m : (ℓ : Loc Cert.OutSum.nD Cert.OutSum.τ Cert.OutSum.sig) → Buf (Elt Bits) ℓ) (g : Dev Cert.OutSum.nD → PrngReg), Pre_OutSum m →
    θ_run (Cert.OutSum.defs (F := Bits)) (onTc (τ := Cert.OutSum.τ) (Cert.OutSum.main (F := Bits))) ⟨m, fun _ => 0, g⟩ (fun r => (∀ c : Dev Cert.OutSum.nD,
      r.2.mem ((c.tc : Thread Cert.OutSum.nD Cert.OutSum.τ).loc Cert.OutSum.main_arg0) = m ((c.tc : Thread Cert.OutSum.nD Cert.OutSum.τ).loc Cert.OutSum.main_arg0))
      ∧ r.2.sem = fun _ => 0)

def quiescent_OutSumIdeal [hOutSumIdeal : Cert.OutSumIdeal.Facts] : Prop :=
  ∀ (m : (ℓ : Loc Cert.OutSumIdeal.nD Cert.OutSumIdeal.τ Cert.OutSumIdeal.sig) → Buf (Elt Ideal) ℓ) (g : Dev Cert.OutSumIdeal.nD → PrngReg), Pre_OutSumIdeal m →
    θ_run (Cert.OutSumIdeal.defs (F := Ideal)) (onTc (τ := Cert.OutSumIdeal.τ) (Cert.OutSumIdeal.main (F := Ideal))) ⟨m, fun _ => 0, g⟩ (fun r => (∀ c : Dev Cert.OutSumIdeal.nD,
      r.2.mem ((c.tc : Thread Cert.OutSumIdeal.nD Cert.OutSumIdeal.τ).loc Cert.OutSumIdeal.main_arg0) = m ((c.tc : Thread Cert.OutSumIdeal.nD Cert.OutSumIdeal.τ).loc Cert.OutSumIdeal.main_arg0))
      ∧ r.2.sem = fun _ => 0)

def quiescent_OutSumRefIdeal [hOutSumRefIdeal : Cert.OutSumRefIdeal.Facts] : Prop :=
  ∀ (m : (ℓ : Loc Cert.OutSumRefIdeal.nD Cert.OutSumRefIdeal.τ Cert.OutSumRefIdeal.sig) → Buf (Elt Ideal) ℓ) (g : Dev Cert.OutSumRefIdeal.nD → PrngReg), Pre_OutSumRefIdeal m →
    θ_run (Cert.OutSumRefIdeal.defs (F := Ideal)) (onTc (τ := Cert.OutSumRefIdeal.τ) (Cert.OutSumRefIdeal.main (F := Ideal))) ⟨m, fun _ => 0, g⟩ (fun r => (∀ c : Dev Cert.OutSumRefIdeal.nD,
      r.2.mem ((c.tc : Thread Cert.OutSumRefIdeal.nD Cert.OutSumRefIdeal.τ).loc Cert.OutSumRefIdeal.main_arg0) = m ((c.tc : Thread Cert.OutSumRefIdeal.nD Cert.OutSumRefIdeal.τ).loc Cert.OutSumRefIdeal.main_arg0))
      ∧ r.2.sem = fun _ => 0)

def quiescent_TapsSum [hTapsSum : Cert.TapsSum.Facts] : Prop :=
  ∀ (m : (ℓ : Loc Cert.TapsSum.nD Cert.TapsSum.τ Cert.TapsSum.sig) → Buf (Elt Bits) ℓ) (g : Dev Cert.TapsSum.nD → PrngReg), Pre_TapsSum m →
    θ_run (Cert.TapsSum.defs (F := Bits)) (onTc (τ := Cert.TapsSum.τ) (Cert.TapsSum.main (F := Bits))) ⟨m, fun _ => 0, g⟩ (fun r => (∀ c : Dev Cert.TapsSum.nD,
      r.2.mem ((c.tc : Thread Cert.TapsSum.nD Cert.TapsSum.τ).loc Cert.TapsSum.main_arg0) = m ((c.tc : Thread Cert.TapsSum.nD Cert.TapsSum.τ).loc Cert.TapsSum.main_arg0))
      ∧ r.2.sem = fun _ => 0)

def quiescent_TapsSumIdeal [hTapsSumIdeal : Cert.TapsSumIdeal.Facts] : Prop :=
  ∀ (m : (ℓ : Loc Cert.TapsSumIdeal.nD Cert.TapsSumIdeal.τ Cert.TapsSumIdeal.sig) → Buf (Elt Ideal) ℓ) (g : Dev Cert.TapsSumIdeal.nD → PrngReg), Pre_TapsSumIdeal m →
    θ_run (Cert.TapsSumIdeal.defs (F := Ideal)) (onTc (τ := Cert.TapsSumIdeal.τ) (Cert.TapsSumIdeal.main (F := Ideal))) ⟨m, fun _ => 0, g⟩ (fun r => (∀ c : Dev Cert.TapsSumIdeal.nD,
      r.2.mem ((c.tc : Thread Cert.TapsSumIdeal.nD Cert.TapsSumIdeal.τ).loc Cert.TapsSumIdeal.main_arg0) = m ((c.tc : Thread Cert.TapsSumIdeal.nD Cert.TapsSumIdeal.τ).loc Cert.TapsSumIdeal.main_arg0))
      ∧ r.2.sem = fun _ => 0)

def quiescent_TapsSumRefIdeal [hTapsSumRefIdeal : Cert.TapsSumRefIdeal.Facts] : Prop :=
  ∀ (m : (ℓ : Loc Cert.TapsSumRefIdeal.nD Cert.TapsSumRefIdeal.τ Cert.TapsSumRefIdeal.sig) → Buf (Elt Ideal) ℓ) (g : Dev Cert.TapsSumRefIdeal.nD → PrngReg), Pre_TapsSumRefIdeal m →
    θ_run (Cert.TapsSumRefIdeal.defs (F := Ideal)) (onTc (τ := Cert.TapsSumRefIdeal.τ) (Cert.TapsSumRefIdeal.main (F := Ideal))) ⟨m, fun _ => 0, g⟩ (fun r => (∀ c : Dev Cert.TapsSumRefIdeal.nD,
      r.2.mem ((c.tc : Thread Cert.TapsSumRefIdeal.nD Cert.TapsSumRefIdeal.τ).loc Cert.TapsSumRefIdeal.main_arg0) = m ((c.tc : Thread Cert.TapsSumRefIdeal.nD Cert.TapsSumRefIdeal.τ).loc Cert.TapsSumRefIdeal.main_arg0))
      ∧ r.2.sem = fun _ => 0)

def quiescent_GateStep [hGateStep : Cert.GateStep.Facts] : Prop :=
  ∀ (m : (ℓ : Loc Cert.GateStep.nD Cert.GateStep.τ Cert.GateStep.sig) → Buf (Elt Bits) ℓ) (g : Dev Cert.GateStep.nD → PrngReg), Pre_GateStep m →
    θ_run (Cert.GateStep.defs (F := Bits)) (onTc (τ := Cert.GateStep.τ) (Cert.GateStep.main (F := Bits))) ⟨m, fun _ => 0, g⟩ (fun r => (∀ c : Dev Cert.GateStep.nD,
      r.2.mem ((c.tc : Thread Cert.GateStep.nD Cert.GateStep.τ).loc Cert.GateStep.main_arg0) = m ((c.tc : Thread Cert.GateStep.nD Cert.GateStep.τ).loc Cert.GateStep.main_arg0)
      ∧ r.2.mem ((c.tc : Thread Cert.GateStep.nD Cert.GateStep.τ).loc Cert.GateStep.main_arg1) = m ((c.tc : Thread Cert.GateStep.nD Cert.GateStep.τ).loc Cert.GateStep.main_arg1)
      ∧ r.2.mem ((c.tc : Thread Cert.GateStep.nD Cert.GateStep.τ).loc Cert.GateStep.main_arg2) = m ((c.tc : Thread Cert.GateStep.nD Cert.GateStep.τ).loc Cert.GateStep.main_arg2)
      ∧ r.2.mem ((c.tc : Thread Cert.GateStep.nD Cert.GateStep.τ).loc Cert.GateStep.main_arg3) = m ((c.tc : Thread Cert.GateStep.nD Cert.GateStep.τ).loc Cert.GateStep.main_arg3))
      ∧ r.2.sem = fun _ => 0)

def quiescent_GateStepIdeal [hGateStepIdeal : Cert.GateStepIdeal.Facts] : Prop :=
  ∀ (m : (ℓ : Loc Cert.GateStepIdeal.nD Cert.GateStepIdeal.τ Cert.GateStepIdeal.sig) → Buf (Elt Ideal) ℓ) (g : Dev Cert.GateStepIdeal.nD → PrngReg), Pre_GateStepIdeal m →
    θ_run (Cert.GateStepIdeal.defs (F := Ideal)) (onTc (τ := Cert.GateStepIdeal.τ) (Cert.GateStepIdeal.main (F := Ideal))) ⟨m, fun _ => 0, g⟩ (fun r => (∀ c : Dev Cert.GateStepIdeal.nD,
      r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
      ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
      ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
      ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3))
      ∧ r.2.sem = fun _ => 0)

def quiescent_GateStepRefIdeal [hGateStepRefIdeal : Cert.GateStepRefIdeal.Facts] : Prop :=
  ∀ (m : (ℓ : Loc Cert.GateStepRefIdeal.nD Cert.GateStepRefIdeal.τ Cert.GateStepRefIdeal.sig) → Buf (Elt Ideal) ℓ) (g : Dev Cert.GateStepRefIdeal.nD → PrngReg), Pre_GateStepRefIdeal m →
    θ_run (Cert.GateStepRefIdeal.defs (F := Ideal)) (onTc (τ := Cert.GateStepRefIdeal.τ) (Cert.GateStepRefIdeal.main (F := Ideal))) ⟨m, fun _ => 0, g⟩ (fun r => (∀ c : Dev Cert.GateStepRefIdeal.nD,
      r.2.mem ((c.tc : Thread Cert.GateStepRefIdeal.nD Cert.GateStepRefIdeal.τ).loc Cert.GateStepRefIdeal.main_arg0) = m ((c.tc : Thread Cert.GateStepRefIdeal.nD Cert.GateStepRefIdeal.τ).loc Cert.GateStepRefIdeal.main_arg0)
      ∧ r.2.mem ((c.tc : Thread Cert.GateStepRefIdeal.nD Cert.GateStepRefIdeal.τ).loc Cert.GateStepRefIdeal.main_arg1) = m ((c.tc : Thread Cert.GateStepRefIdeal.nD Cert.GateStepRefIdeal.τ).loc Cert.GateStepRefIdeal.main_arg1)
      ∧ r.2.mem ((c.tc : Thread Cert.GateStepRefIdeal.nD Cert.GateStepRefIdeal.τ).loc Cert.GateStepRefIdeal.main_arg2) = m ((c.tc : Thread Cert.GateStepRefIdeal.nD Cert.GateStepRefIdeal.τ).loc Cert.GateStepRefIdeal.main_arg2)
      ∧ r.2.mem ((c.tc : Thread Cert.GateStepRefIdeal.nD Cert.GateStepRefIdeal.τ).loc Cert.GateStepRefIdeal.main_arg3) = m ((c.tc : Thread Cert.GateStepRefIdeal.nD Cert.GateStepRefIdeal.τ).loc Cert.GateStepRefIdeal.main_arg3))
      ∧ r.2.sem = fun _ => 0)

def quiescent_DownStep [hDownStep : Cert.DownStep.Facts] : Prop :=
  ∀ (m : (ℓ : Loc Cert.DownStep.nD Cert.DownStep.τ Cert.DownStep.sig) → Buf (Elt Bits) ℓ) (g : Dev Cert.DownStep.nD → PrngReg), Pre_DownStep m →
    θ_run (Cert.DownStep.defs (F := Bits)) (onTc (τ := Cert.DownStep.τ) (Cert.DownStep.main (F := Bits))) ⟨m, fun _ => 0, g⟩ (fun r => (∀ c : Dev Cert.DownStep.nD,
      r.2.mem ((c.tc : Thread Cert.DownStep.nD Cert.DownStep.τ).loc Cert.DownStep.main_arg0) = m ((c.tc : Thread Cert.DownStep.nD Cert.DownStep.τ).loc Cert.DownStep.main_arg0)
      ∧ r.2.mem ((c.tc : Thread Cert.DownStep.nD Cert.DownStep.τ).loc Cert.DownStep.main_arg1) = m ((c.tc : Thread Cert.DownStep.nD Cert.DownStep.τ).loc Cert.DownStep.main_arg1)
      ∧ r.2.mem ((c.tc : Thread Cert.DownStep.nD Cert.DownStep.τ).loc Cert.DownStep.main_arg2) = m ((c.tc : Thread Cert.DownStep.nD Cert.DownStep.τ).loc Cert.DownStep.main_arg2)
      ∧ r.2.mem ((c.tc : Thread Cert.DownStep.nD Cert.DownStep.τ).loc Cert.DownStep.main_arg3) = m ((c.tc : Thread Cert.DownStep.nD Cert.DownStep.τ).loc Cert.DownStep.main_arg3))
      ∧ r.2.sem = fun _ => 0)

def quiescent_DownStepIdeal [hDownStepIdeal : Cert.DownStepIdeal.Facts] : Prop :=
  ∀ (m : (ℓ : Loc Cert.DownStepIdeal.nD Cert.DownStepIdeal.τ Cert.DownStepIdeal.sig) → Buf (Elt Ideal) ℓ) (g : Dev Cert.DownStepIdeal.nD → PrngReg), Pre_DownStepIdeal m →
    θ_run (Cert.DownStepIdeal.defs (F := Ideal)) (onTc (τ := Cert.DownStepIdeal.τ) (Cert.DownStepIdeal.main (F := Ideal))) ⟨m, fun _ => 0, g⟩ (fun r => (∀ c : Dev Cert.DownStepIdeal.nD,
      r.2.mem ((c.tc : Thread Cert.DownStepIdeal.nD Cert.DownStepIdeal.τ).loc Cert.DownStepIdeal.main_arg0) = m ((c.tc : Thread Cert.DownStepIdeal.nD Cert.DownStepIdeal.τ).loc Cert.DownStepIdeal.main_arg0)
      ∧ r.2.mem ((c.tc : Thread Cert.DownStepIdeal.nD Cert.DownStepIdeal.τ).loc Cert.DownStepIdeal.main_arg1) = m ((c.tc : Thread Cert.DownStepIdeal.nD Cert.DownStepIdeal.τ).loc Cert.DownStepIdeal.main_arg1)
      ∧ r.2.mem ((c.tc : Thread Cert.DownStepIdeal.nD Cert.DownStepIdeal.τ).loc Cert.DownStepIdeal.main_arg2) = m ((c.tc : Thread Cert.DownStepIdeal.nD Cert.DownStepIdeal.τ).loc Cert.DownStepIdeal.main_arg2)
      ∧ r.2.mem ((c.tc : Thread Cert.DownStepIdeal.nD Cert.DownStepIdeal.τ).loc Cert.DownStepIdeal.main_arg3) = m ((c.tc : Thread Cert.DownStepIdeal.nD Cert.DownStepIdeal.τ).loc Cert.DownStepIdeal.main_arg3))
      ∧ r.2.sem = fun _ => 0)

def quiescent_DownStepRefIdeal [hDownStepRefIdeal : Cert.DownStepRefIdeal.Facts] : Prop :=
  ∀ (m : (ℓ : Loc Cert.DownStepRefIdeal.nD Cert.DownStepRefIdeal.τ Cert.DownStepRefIdeal.sig) → Buf (Elt Ideal) ℓ) (g : Dev Cert.DownStepRefIdeal.nD → PrngReg), Pre_DownStepRefIdeal m →
    θ_run (Cert.DownStepRefIdeal.defs (F := Ideal)) (onTc (τ := Cert.DownStepRefIdeal.τ) (Cert.DownStepRefIdeal.main (F := Ideal))) ⟨m, fun _ => 0, g⟩ (fun r => (∀ c : Dev Cert.DownStepRefIdeal.nD,
      r.2.mem ((c.tc : Thread Cert.DownStepRefIdeal.nD Cert.DownStepRefIdeal.τ).loc Cert.DownStepRefIdeal.main_arg0) = m ((c.tc : Thread Cert.DownStepRefIdeal.nD Cert.DownStepRefIdeal.τ).loc Cert.DownStepRefIdeal.main_arg0)
      ∧ r.2.mem ((c.tc : Thread Cert.DownStepRefIdeal.nD Cert.DownStepRefIdeal.τ).loc Cert.DownStepRefIdeal.main_arg1) = m ((c.tc : Thread Cert.DownStepRefIdeal.nD Cert.DownStepRefIdeal.τ).loc Cert.DownStepRefIdeal.main_arg1)
      ∧ r.2.mem ((c.tc : Thread Cert.DownStepRefIdeal.nD Cert.DownStepRefIdeal.τ).loc Cert.DownStepRefIdeal.main_arg2) = m ((c.tc : Thread Cert.DownStepRefIdeal.nD Cert.DownStepRefIdeal.τ).loc Cert.DownStepRefIdeal.main_arg2)
      ∧ r.2.mem ((c.tc : Thread Cert.DownStepRefIdeal.nD Cert.DownStepRefIdeal.τ).loc Cert.DownStepRefIdeal.main_arg3) = m ((c.tc : Thread Cert.DownStepRefIdeal.nD Cert.DownStepRefIdeal.τ).loc Cert.DownStepRefIdeal.main_arg3))
      ∧ r.2.sem = fun _ => 0)

def quiescent_InStep [hInStep : Cert.InStep.Facts] : Prop :=
  ∀ (m : (ℓ : Loc Cert.InStep.nD Cert.InStep.τ Cert.InStep.sig) → Buf (Elt Bits) ℓ) (g : Dev Cert.InStep.nD → PrngReg), Pre_InStep m →
    θ_run (Cert.InStep.defs (F := Bits)) (onTc (τ := Cert.InStep.τ) (Cert.InStep.main (F := Bits))) ⟨m, fun _ => 0, g⟩ (fun r => (∀ c : Dev Cert.InStep.nD,
      r.2.mem ((c.tc : Thread Cert.InStep.nD Cert.InStep.τ).loc Cert.InStep.main_arg0) = m ((c.tc : Thread Cert.InStep.nD Cert.InStep.τ).loc Cert.InStep.main_arg0)
      ∧ r.2.mem ((c.tc : Thread Cert.InStep.nD Cert.InStep.τ).loc Cert.InStep.main_arg1) = m ((c.tc : Thread Cert.InStep.nD Cert.InStep.τ).loc Cert.InStep.main_arg1)
      ∧ r.2.mem ((c.tc : Thread Cert.InStep.nD Cert.InStep.τ).loc Cert.InStep.main_arg2) = m ((c.tc : Thread Cert.InStep.nD Cert.InStep.τ).loc Cert.InStep.main_arg2)
      ∧ r.2.mem ((c.tc : Thread Cert.InStep.nD Cert.InStep.τ).loc Cert.InStep.main_arg3) = m ((c.tc : Thread Cert.InStep.nD Cert.InStep.τ).loc Cert.InStep.main_arg3))
      ∧ r.2.sem = fun _ => 0)

def quiescent_InStepIdeal [hInStepIdeal : Cert.InStepIdeal.Facts] : Prop :=
  ∀ (m : (ℓ : Loc Cert.InStepIdeal.nD Cert.InStepIdeal.τ Cert.InStepIdeal.sig) → Buf (Elt Ideal) ℓ) (g : Dev Cert.InStepIdeal.nD → PrngReg), Pre_InStepIdeal m →
    θ_run (Cert.InStepIdeal.defs (F := Ideal)) (onTc (τ := Cert.InStepIdeal.τ) (Cert.InStepIdeal.main (F := Ideal))) ⟨m, fun _ => 0, g⟩ (fun r => (∀ c : Dev Cert.InStepIdeal.nD,
      r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
      ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
      ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
      ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3))
      ∧ r.2.sem = fun _ => 0)

def quiescent_InStepRefIdeal [hInStepRefIdeal : Cert.InStepRefIdeal.Facts] : Prop :=
  ∀ (m : (ℓ : Loc Cert.InStepRefIdeal.nD Cert.InStepRefIdeal.τ Cert.InStepRefIdeal.sig) → Buf (Elt Ideal) ℓ) (g : Dev Cert.InStepRefIdeal.nD → PrngReg), Pre_InStepRefIdeal m →
    θ_run (Cert.InStepRefIdeal.defs (F := Ideal)) (onTc (τ := Cert.InStepRefIdeal.τ) (Cert.InStepRefIdeal.main (F := Ideal))) ⟨m, fun _ => 0, g⟩ (fun r => (∀ c : Dev Cert.InStepRefIdeal.nD,
      r.2.mem ((c.tc : Thread Cert.InStepRefIdeal.nD Cert.InStepRefIdeal.τ).loc Cert.InStepRefIdeal.main_arg0) = m ((c.tc : Thread Cert.InStepRefIdeal.nD Cert.InStepRefIdeal.τ).loc Cert.InStepRefIdeal.main_arg0)
      ∧ r.2.mem ((c.tc : Thread Cert.InStepRefIdeal.nD Cert.InStepRefIdeal.τ).loc Cert.InStepRefIdeal.main_arg1) = m ((c.tc : Thread Cert.InStepRefIdeal.nD Cert.InStepRefIdeal.τ).loc Cert.InStepRefIdeal.main_arg1)
      ∧ r.2.mem ((c.tc : Thread Cert.InStepRefIdeal.nD Cert.InStepRefIdeal.τ).loc Cert.InStepRefIdeal.main_arg2) = m ((c.tc : Thread Cert.InStepRefIdeal.nD Cert.InStepRefIdeal.τ).loc Cert.InStepRefIdeal.main_arg2)
      ∧ r.2.mem ((c.tc : Thread Cert.InStepRefIdeal.nD Cert.InStepRefIdeal.τ).loc Cert.InStepRefIdeal.main_arg3) = m ((c.tc : Thread Cert.InStepRefIdeal.nD Cert.InStepRefIdeal.τ).loc Cert.InStepRefIdeal.main_arg3))
      ∧ r.2.sem = fun _ => 0)

def quiescent_AttnStep [hAttnStep : Cert.AttnStep.Facts] : Prop :=
  ∀ (m : (ℓ : Loc Cert.AttnStep.nD Cert.AttnStep.τ Cert.AttnStep.sig) → Buf (Elt Bits) ℓ) (g : Dev Cert.AttnStep.nD → PrngReg), Pre_AttnStep m →
    θ_run (Cert.AttnStep.defs (F := Bits)) (onTc (τ := Cert.AttnStep.τ) (Cert.AttnStep.main (F := Bits))) ⟨m, fun _ => 0, g⟩ (fun r => (∀ c : Dev Cert.AttnStep.nD,
      r.2.mem ((c.tc : Thread Cert.AttnStep.nD Cert.AttnStep.τ).loc Cert.AttnStep.main_arg0) = m ((c.tc : Thread Cert.AttnStep.nD Cert.AttnStep.τ).loc Cert.AttnStep.main_arg0)
      ∧ r.2.mem ((c.tc : Thread Cert.AttnStep.nD Cert.AttnStep.τ).loc Cert.AttnStep.main_arg1) = m ((c.tc : Thread Cert.AttnStep.nD Cert.AttnStep.τ).loc Cert.AttnStep.main_arg1)
      ∧ r.2.mem ((c.tc : Thread Cert.AttnStep.nD Cert.AttnStep.τ).loc Cert.AttnStep.main_arg2) = m ((c.tc : Thread Cert.AttnStep.nD Cert.AttnStep.τ).loc Cert.AttnStep.main_arg2)
      ∧ r.2.mem ((c.tc : Thread Cert.AttnStep.nD Cert.AttnStep.τ).loc Cert.AttnStep.main_arg3) = m ((c.tc : Thread Cert.AttnStep.nD Cert.AttnStep.τ).loc Cert.AttnStep.main_arg3))
      ∧ r.2.sem = fun _ => 0)

def quiescent_AttnStepIdeal [hAttnStepIdeal : Cert.AttnStepIdeal.Facts] : Prop :=
  ∀ (m : (ℓ : Loc Cert.AttnStepIdeal.nD Cert.AttnStepIdeal.τ Cert.AttnStepIdeal.sig) → Buf (Elt Ideal) ℓ) (g : Dev Cert.AttnStepIdeal.nD → PrngReg), Pre_AttnStepIdeal m →
    θ_run (Cert.AttnStepIdeal.defs (F := Ideal)) (onTc (τ := Cert.AttnStepIdeal.τ) (Cert.AttnStepIdeal.main (F := Ideal))) ⟨m, fun _ => 0, g⟩ (fun r => (∀ c : Dev Cert.AttnStepIdeal.nD,
      r.2.mem ((c.tc : Thread Cert.AttnStepIdeal.nD Cert.AttnStepIdeal.τ).loc Cert.AttnStepIdeal.main_arg0) = m ((c.tc : Thread Cert.AttnStepIdeal.nD Cert.AttnStepIdeal.τ).loc Cert.AttnStepIdeal.main_arg0)
      ∧ r.2.mem ((c.tc : Thread Cert.AttnStepIdeal.nD Cert.AttnStepIdeal.τ).loc Cert.AttnStepIdeal.main_arg1) = m ((c.tc : Thread Cert.AttnStepIdeal.nD Cert.AttnStepIdeal.τ).loc Cert.AttnStepIdeal.main_arg1)
      ∧ r.2.mem ((c.tc : Thread Cert.AttnStepIdeal.nD Cert.AttnStepIdeal.τ).loc Cert.AttnStepIdeal.main_arg2) = m ((c.tc : Thread Cert.AttnStepIdeal.nD Cert.AttnStepIdeal.τ).loc Cert.AttnStepIdeal.main_arg2)
      ∧ r.2.mem ((c.tc : Thread Cert.AttnStepIdeal.nD Cert.AttnStepIdeal.τ).loc Cert.AttnStepIdeal.main_arg3) = m ((c.tc : Thread Cert.AttnStepIdeal.nD Cert.AttnStepIdeal.τ).loc Cert.AttnStepIdeal.main_arg3))
      ∧ r.2.sem = fun _ => 0)

def quiescent_AttnStepRefIdeal [hAttnStepRefIdeal : Cert.AttnStepRefIdeal.Facts] : Prop :=
  ∀ (m : (ℓ : Loc Cert.AttnStepRefIdeal.nD Cert.AttnStepRefIdeal.τ Cert.AttnStepRefIdeal.sig) → Buf (Elt Ideal) ℓ) (g : Dev Cert.AttnStepRefIdeal.nD → PrngReg), Pre_AttnStepRefIdeal m →
    θ_run (Cert.AttnStepRefIdeal.defs (F := Ideal)) (onTc (τ := Cert.AttnStepRefIdeal.τ) (Cert.AttnStepRefIdeal.main (F := Ideal))) ⟨m, fun _ => 0, g⟩ (fun r => (∀ c : Dev Cert.AttnStepRefIdeal.nD,
      r.2.mem ((c.tc : Thread Cert.AttnStepRefIdeal.nD Cert.AttnStepRefIdeal.τ).loc Cert.AttnStepRefIdeal.main_arg0) = m ((c.tc : Thread Cert.AttnStepRefIdeal.nD Cert.AttnStepRefIdeal.τ).loc Cert.AttnStepRefIdeal.main_arg0)
      ∧ r.2.mem ((c.tc : Thread Cert.AttnStepRefIdeal.nD Cert.AttnStepRefIdeal.τ).loc Cert.AttnStepRefIdeal.main_arg1) = m ((c.tc : Thread Cert.AttnStepRefIdeal.nD Cert.AttnStepRefIdeal.τ).loc Cert.AttnStepRefIdeal.main_arg1)
      ∧ r.2.mem ((c.tc : Thread Cert.AttnStepRefIdeal.nD Cert.AttnStepRefIdeal.τ).loc Cert.AttnStepRefIdeal.main_arg2) = m ((c.tc : Thread Cert.AttnStepRefIdeal.nD Cert.AttnStepRefIdeal.τ).loc Cert.AttnStepRefIdeal.main_arg2)
      ∧ r.2.mem ((c.tc : Thread Cert.AttnStepRefIdeal.nD Cert.AttnStepRefIdeal.τ).loc Cert.AttnStepRefIdeal.main_arg3) = m ((c.tc : Thread Cert.AttnStepRefIdeal.nD Cert.AttnStepRefIdeal.τ).loc Cert.AttnStepRefIdeal.main_arg3))
      ∧ r.2.sem = fun _ => 0)

def quiescent_OutStep [hOutStep : Cert.OutStep.Facts] : Prop :=
  ∀ (m : (ℓ : Loc Cert.OutStep.nD Cert.OutStep.τ Cert.OutStep.sig) → Buf (Elt Bits) ℓ) (g : Dev Cert.OutStep.nD → PrngReg), Pre_OutStep m →
    θ_run (Cert.OutStep.defs (F := Bits)) (onTc (τ := Cert.OutStep.τ) (Cert.OutStep.main (F := Bits))) ⟨m, fun _ => 0, g⟩ (fun r => (∀ c : Dev Cert.OutStep.nD,
      r.2.mem ((c.tc : Thread Cert.OutStep.nD Cert.OutStep.τ).loc Cert.OutStep.main_arg0) = m ((c.tc : Thread Cert.OutStep.nD Cert.OutStep.τ).loc Cert.OutStep.main_arg0)
      ∧ r.2.mem ((c.tc : Thread Cert.OutStep.nD Cert.OutStep.τ).loc Cert.OutStep.main_arg1) = m ((c.tc : Thread Cert.OutStep.nD Cert.OutStep.τ).loc Cert.OutStep.main_arg1)
      ∧ r.2.mem ((c.tc : Thread Cert.OutStep.nD Cert.OutStep.τ).loc Cert.OutStep.main_arg2) = m ((c.tc : Thread Cert.OutStep.nD Cert.OutStep.τ).loc Cert.OutStep.main_arg2)
      ∧ r.2.mem ((c.tc : Thread Cert.OutStep.nD Cert.OutStep.τ).loc Cert.OutStep.main_arg3) = m ((c.tc : Thread Cert.OutStep.nD Cert.OutStep.τ).loc Cert.OutStep.main_arg3))
      ∧ r.2.sem = fun _ => 0)

def quiescent_OutStepIdeal [hOutStepIdeal : Cert.OutStepIdeal.Facts] : Prop :=
  ∀ (m : (ℓ : Loc Cert.OutStepIdeal.nD Cert.OutStepIdeal.τ Cert.OutStepIdeal.sig) → Buf (Elt Ideal) ℓ) (g : Dev Cert.OutStepIdeal.nD → PrngReg), Pre_OutStepIdeal m →
    θ_run (Cert.OutStepIdeal.defs (F := Ideal)) (onTc (τ := Cert.OutStepIdeal.τ) (Cert.OutStepIdeal.main (F := Ideal))) ⟨m, fun _ => 0, g⟩ (fun r => (∀ c : Dev Cert.OutStepIdeal.nD,
      r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
      ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
      ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
      ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3))
      ∧ r.2.sem = fun _ => 0)

def quiescent_OutStepRefIdeal [hOutStepRefIdeal : Cert.OutStepRefIdeal.Facts] : Prop :=
  ∀ (m : (ℓ : Loc Cert.OutStepRefIdeal.nD Cert.OutStepRefIdeal.τ Cert.OutStepRefIdeal.sig) → Buf (Elt Ideal) ℓ) (g : Dev Cert.OutStepRefIdeal.nD → PrngReg), Pre_OutStepRefIdeal m →
    θ_run (Cert.OutStepRefIdeal.defs (F := Ideal)) (onTc (τ := Cert.OutStepRefIdeal.τ) (Cert.OutStepRefIdeal.main (F := Ideal))) ⟨m, fun _ => 0, g⟩ (fun r => (∀ c : Dev Cert.OutStepRefIdeal.nD,
      r.2.mem ((c.tc : Thread Cert.OutStepRefIdeal.nD Cert.OutStepRefIdeal.τ).loc Cert.OutStepRefIdeal.main_arg0) = m ((c.tc : Thread Cert.OutStepRefIdeal.nD Cert.OutStepRefIdeal.τ).loc Cert.OutStepRefIdeal.main_arg0)
      ∧ r.2.mem ((c.tc : Thread Cert.OutStepRefIdeal.nD Cert.OutStepRefIdeal.τ).loc Cert.OutStepRefIdeal.main_arg1) = m ((c.tc : Thread Cert.OutStepRefIdeal.nD Cert.OutStepRefIdeal.τ).loc Cert.OutStepRefIdeal.main_arg1)
      ∧ r.2.mem ((c.tc : Thread Cert.OutStepRefIdeal.nD Cert.OutStepRefIdeal.τ).loc Cert.OutStepRefIdeal.main_arg2) = m ((c.tc : Thread Cert.OutStepRefIdeal.nD Cert.OutStepRefIdeal.τ).loc Cert.OutStepRefIdeal.main_arg2)
      ∧ r.2.mem ((c.tc : Thread Cert.OutStepRefIdeal.nD Cert.OutStepRefIdeal.τ).loc Cert.OutStepRefIdeal.main_arg3) = m ((c.tc : Thread Cert.OutStepRefIdeal.nD Cert.OutStepRefIdeal.τ).loc Cert.OutStepRefIdeal.main_arg3))
      ∧ r.2.sem = fun _ => 0)

def quiescent_TapsStep [hTapsStep : Cert.TapsStep.Facts] : Prop :=
  ∀ (m : (ℓ : Loc Cert.TapsStep.nD Cert.TapsStep.τ Cert.TapsStep.sig) → Buf (Elt Bits) ℓ) (g : Dev Cert.TapsStep.nD → PrngReg), Pre_TapsStep m →
    θ_run (Cert.TapsStep.defs (F := Bits)) (onTc (τ := Cert.TapsStep.τ) (Cert.TapsStep.main (F := Bits))) ⟨m, fun _ => 0, g⟩ (fun r => (∀ c : Dev Cert.TapsStep.nD,
      r.2.mem ((c.tc : Thread Cert.TapsStep.nD Cert.TapsStep.τ).loc Cert.TapsStep.main_arg0) = m ((c.tc : Thread Cert.TapsStep.nD Cert.TapsStep.τ).loc Cert.TapsStep.main_arg0)
      ∧ r.2.mem ((c.tc : Thread Cert.TapsStep.nD Cert.TapsStep.τ).loc Cert.TapsStep.main_arg1) = m ((c.tc : Thread Cert.TapsStep.nD Cert.TapsStep.τ).loc Cert.TapsStep.main_arg1)
      ∧ r.2.mem ((c.tc : Thread Cert.TapsStep.nD Cert.TapsStep.τ).loc Cert.TapsStep.main_arg2) = m ((c.tc : Thread Cert.TapsStep.nD Cert.TapsStep.τ).loc Cert.TapsStep.main_arg2)
      ∧ r.2.mem ((c.tc : Thread Cert.TapsStep.nD Cert.TapsStep.τ).loc Cert.TapsStep.main_arg3) = m ((c.tc : Thread Cert.TapsStep.nD Cert.TapsStep.τ).loc Cert.TapsStep.main_arg3))
      ∧ r.2.sem = fun _ => 0)

def quiescent_TapsStepIdeal [hTapsStepIdeal : Cert.TapsStepIdeal.Facts] : Prop :=
  ∀ (m : (ℓ : Loc Cert.TapsStepIdeal.nD Cert.TapsStepIdeal.τ Cert.TapsStepIdeal.sig) → Buf (Elt Ideal) ℓ) (g : Dev Cert.TapsStepIdeal.nD → PrngReg), Pre_TapsStepIdeal m →
    θ_run (Cert.TapsStepIdeal.defs (F := Ideal)) (onTc (τ := Cert.TapsStepIdeal.τ) (Cert.TapsStepIdeal.main (F := Ideal))) ⟨m, fun _ => 0, g⟩ (fun r => (∀ c : Dev Cert.TapsStepIdeal.nD,
      r.2.mem ((c.tc : Thread Cert.TapsStepIdeal.nD Cert.TapsStepIdeal.τ).loc Cert.TapsStepIdeal.main_arg0) = m ((c.tc : Thread Cert.TapsStepIdeal.nD Cert.TapsStepIdeal.τ).loc Cert.TapsStepIdeal.main_arg0)
      ∧ r.2.mem ((c.tc : Thread Cert.TapsStepIdeal.nD Cert.TapsStepIdeal.τ).loc Cert.TapsStepIdeal.main_arg1) = m ((c.tc : Thread Cert.TapsStepIdeal.nD Cert.TapsStepIdeal.τ).loc Cert.TapsStepIdeal.main_arg1)
      ∧ r.2.mem ((c.tc : Thread Cert.TapsStepIdeal.nD Cert.TapsStepIdeal.τ).loc Cert.TapsStepIdeal.main_arg2) = m ((c.tc : Thread Cert.TapsStepIdeal.nD Cert.TapsStepIdeal.τ).loc Cert.TapsStepIdeal.main_arg2)
      ∧ r.2.mem ((c.tc : Thread Cert.TapsStepIdeal.nD Cert.TapsStepIdeal.τ).loc Cert.TapsStepIdeal.main_arg3) = m ((c.tc : Thread Cert.TapsStepIdeal.nD Cert.TapsStepIdeal.τ).loc Cert.TapsStepIdeal.main_arg3))
      ∧ r.2.sem = fun _ => 0)

def quiescent_TapsStepRefIdeal [hTapsStepRefIdeal : Cert.TapsStepRefIdeal.Facts] : Prop :=
  ∀ (m : (ℓ : Loc Cert.TapsStepRefIdeal.nD Cert.TapsStepRefIdeal.τ Cert.TapsStepRefIdeal.sig) → Buf (Elt Ideal) ℓ) (g : Dev Cert.TapsStepRefIdeal.nD → PrngReg), Pre_TapsStepRefIdeal m →
    θ_run (Cert.TapsStepRefIdeal.defs (F := Ideal)) (onTc (τ := Cert.TapsStepRefIdeal.τ) (Cert.TapsStepRefIdeal.main (F := Ideal))) ⟨m, fun _ => 0, g⟩ (fun r => (∀ c : Dev Cert.TapsStepRefIdeal.nD,
      r.2.mem ((c.tc : Thread Cert.TapsStepRefIdeal.nD Cert.TapsStepRefIdeal.τ).loc Cert.TapsStepRefIdeal.main_arg0) = m ((c.tc : Thread Cert.TapsStepRefIdeal.nD Cert.TapsStepRefIdeal.τ).loc Cert.TapsStepRefIdeal.main_arg0)
      ∧ r.2.mem ((c.tc : Thread Cert.TapsStepRefIdeal.nD Cert.TapsStepRefIdeal.τ).loc Cert.TapsStepRefIdeal.main_arg1) = m ((c.tc : Thread Cert.TapsStepRefIdeal.nD Cert.TapsStepRefIdeal.τ).loc Cert.TapsStepRefIdeal.main_arg1)
      ∧ r.2.mem ((c.tc : Thread Cert.TapsStepRefIdeal.nD Cert.TapsStepRefIdeal.τ).loc Cert.TapsStepRefIdeal.main_arg2) = m ((c.tc : Thread Cert.TapsStepRefIdeal.nD Cert.TapsStepRefIdeal.τ).loc Cert.TapsStepRefIdeal.main_arg2)
      ∧ r.2.mem ((c.tc : Thread Cert.TapsStepRefIdeal.nD Cert.TapsStepRefIdeal.τ).loc Cert.TapsStepRefIdeal.main_arg3) = m ((c.tc : Thread Cert.TapsStepRefIdeal.nD Cert.TapsStepRefIdeal.τ).loc Cert.TapsStepRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3)
      ∧ r.2.mem ((c.tc : Thread Cert.FfnBack.nD Cert.FfnBack.τ).loc Cert.FfnBack.main_arg4) = m ((c.tc : Thread Cert.FfnBack.nD Cert.FfnBack.τ).loc Cert.FfnBack.main_arg4)
      ∧ r.2.mem ((c.tc : Thread Cert.FfnBack.nD Cert.FfnBack.τ).loc Cert.FfnBack.main_arg5) = m ((c.tc : Thread Cert.FfnBack.nD Cert.FfnBack.τ).loc Cert.FfnBack.main_arg5)
      ∧ r.2.mem ((c.tc : Thread Cert.FfnBack.nD Cert.FfnBack.τ).loc Cert.FfnBack.main_arg6) = m ((c.tc : Thread Cert.FfnBack.nD Cert.FfnBack.τ).loc Cert.FfnBack.main_arg6)
      ∧ r.2.mem ((c.tc : Thread Cert.FfnBack.nD Cert.FfnBack.τ).loc Cert.FfnBack.main_arg7) = m ((c.tc : Thread Cert.FfnBack.nD Cert.FfnBack.τ).loc Cert.FfnBack.main_arg7))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5)
      ∧ r.2.mem ((c.tc : Thread Cert.FfnBackIdeal.nD Cert.FfnBackIdeal.τ).loc Cert.FfnBackIdeal.main_arg6) = m ((c.tc : Thread Cert.FfnBackIdeal.nD Cert.FfnBackIdeal.τ).loc Cert.FfnBackIdeal.main_arg6)
      ∧ r.2.mem ((c.tc : Thread Cert.FfnBackIdeal.nD Cert.FfnBackIdeal.τ).loc Cert.FfnBackIdeal.main_arg7) = m ((c.tc : Thread Cert.FfnBackIdeal.nD Cert.FfnBackIdeal.τ).loc Cert.FfnBackIdeal.main_arg7))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5)
      ∧ r.2.mem ((c.tc : Thread Cert.FfnBackRefIdeal.nD Cert.FfnBackRefIdeal.τ).loc Cert.FfnBackRefIdeal.main_arg6) = m ((c.tc : Thread Cert.FfnBackRefIdeal.nD Cert.FfnBackRefIdeal.τ).loc Cert.FfnBackRefIdeal.main_arg6)
      ∧ r.2.mem ((c.tc : Thread Cert.FfnBackRefIdeal.nD Cert.FfnBackRefIdeal.τ).loc Cert.FfnBackRefIdeal.main_arg7) = m ((c.tc : Thread Cert.FfnBackRefIdeal.nD Cert.FfnBackRefIdeal.τ).loc Cert.FfnBackRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3)
      ∧ r.2.mem ((c.tc : Thread Cert.NormBack.nD Cert.NormBack.τ).loc Cert.NormBack.main_arg4) = m ((c.tc : Thread Cert.NormBack.nD Cert.NormBack.τ).loc Cert.NormBack.main_arg4)
      ∧ r.2.mem ((c.tc : Thread Cert.NormBack.nD Cert.NormBack.τ).loc Cert.NormBack.main_arg5) = m ((c.tc : Thread Cert.NormBack.nD Cert.NormBack.τ).loc Cert.NormBack.main_arg5))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
      ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
      ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3)
      ∧ r.2.mem ((c.tc : Thread Cert.NormBackRefIdeal.nD Cert.NormBackRefIdeal.τ).loc Cert.NormBackRefIdeal.main_arg4) = m ((c.tc : Thread Cert.NormBackRefIdeal.nD Cert.NormBackRefIdeal.τ).loc Cert.NormBackRefIdeal.main_arg4)
      ∧ r.2.mem ((c.tc : Thread Cert.NormBackRefIdeal.nD Cert.NormBackRefIdeal.τ).loc Cert.NormBackRefIdeal.main_arg5) = m ((c.tc : Thread Cert.NormBackRefIdeal.nD Cert.NormBackRefIdeal.τ).loc Cert.NormBackRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_WGrad [hWGrad : Cert.WGrad.Facts] : Prop :=
  ∀ (m : (ℓ : Loc Cert.WGrad.nD Cert.WGrad.τ Cert.WGrad.sig) → Buf (Elt Bits) ℓ) (g : Dev Cert.WGrad.nD → PrngReg), Pre_WGrad m →
    θ_run (Cert.WGrad.defs (F := Bits)) (onTc (τ := Cert.WGrad.τ) (Cert.WGrad.main (F := Bits))) ⟨m, fun _ => 0, g⟩ (fun r => (∀ c : Dev Cert.WGrad.nD,
      r.2.mem ((c.tc : Thread Cert.WGrad.nD Cert.WGrad.τ).loc Cert.WGrad.main_arg0) = m ((c.tc : Thread Cert.WGrad.nD Cert.WGrad.τ).loc Cert.WGrad.main_arg0)
      ∧ r.2.mem ((c.tc : Thread Cert.WGrad.nD Cert.WGrad.τ).loc Cert.WGrad.main_arg1) = m ((c.tc : Thread Cert.WGrad.nD Cert.WGrad.τ).loc Cert.WGrad.main_arg1))
      ∧ r.2.sem = fun _ => 0)

def quiescent_WGradIdeal [hWGradIdeal : Cert.WGradIdeal.Facts] : Prop :=
  ∀ (m : (ℓ : Loc Cert.WGradIdeal.nD Cert.WGradIdeal.τ Cert.WGradIdeal.sig) → Buf (Elt Ideal) ℓ) (g : Dev Cert.WGradIdeal.nD → PrngReg), Pre_WGradIdeal m →
    θ_run (Cert.WGradIdeal.defs (F := Ideal)) (onTc (τ := Cert.WGradIdeal.τ) (Cert.WGradIdeal.main (F := Ideal))) ⟨m, fun _ => 0, g⟩ (fun r => (∀ c : Dev Cert.WGradIdeal.nD,
      r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
      ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ r.2.sem = fun _ => 0)

def quiescent_WGradRefIdeal [hWGradRefIdeal : Cert.WGradRefIdeal.Facts] : Prop :=
  ∀ (m : (ℓ : Loc Cert.WGradRefIdeal.nD Cert.WGradRefIdeal.τ Cert.WGradRefIdeal.sig) → Buf (Elt Ideal) ℓ) (g : Dev Cert.WGradRefIdeal.nD → PrngReg), Pre_WGradRefIdeal m →
    θ_run (Cert.WGradRefIdeal.defs (F := Ideal)) (onTc (τ := Cert.WGradRefIdeal.τ) (Cert.WGradRefIdeal.main (F := Ideal))) ⟨m, fun _ => 0, g⟩ (fun r => (∀ c : Dev Cert.WGradRefIdeal.nD,
      r.2.mem ((c.tc : Thread Cert.WGradRefIdeal.nD Cert.WGradRefIdeal.τ).loc Cert.WGradRefIdeal.main_arg0) = m ((c.tc : Thread Cert.WGradRefIdeal.nD Cert.WGradRefIdeal.τ).loc Cert.WGradRefIdeal.main_arg0)
      ∧ r.2.mem ((c.tc : Thread Cert.WGradRefIdeal.nD Cert.WGradRefIdeal.τ).loc Cert.WGradRefIdeal.main_arg1) = m ((c.tc : Thread Cert.WGradRefIdeal.nD Cert.WGradRefIdeal.τ).loc Cert.WGradRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4)
      ∧ r.2.mem ((c.tc : Thread Cert.MixBack.nD Cert.MixBack.τ).loc Cert.MixBack.main_arg5) = m ((c.tc : Thread Cert.MixBack.nD Cert.MixBack.τ).loc Cert.MixBack.main_arg5)
      ∧ r.2.mem ((c.tc : Thread Cert.MixBack.nD Cert.MixBack.τ).loc Cert.MixBack.main_arg6) = m ((c.tc : Thread Cert.MixBack.nD Cert.MixBack.τ).loc Cert.MixBack.main_arg6)
      ∧ r.2.mem ((c.tc : Thread Cert.MixBack.nD Cert.MixBack.τ).loc Cert.MixBack.main_arg7) = m ((c.tc : Thread Cert.MixBack.nD Cert.MixBack.τ).loc Cert.MixBack.main_arg7))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
      ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
      ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7))
      ∧ r.2.sem = fun _ => 0)

def quiescent_MixBackRefIdeal [hMixBackRefIdeal : Cert.MixBackRefIdeal.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4)
      ∧ r.2.mem ((c.tc : Thread Cert.MixBackRefIdeal.nD Cert.MixBackRefIdeal.τ).loc Cert.MixBackRefIdeal.main_arg5) = m ((c.tc : Thread Cert.MixBackRefIdeal.nD Cert.MixBackRefIdeal.τ).loc Cert.MixBackRefIdeal.main_arg5)
      ∧ r.2.mem ((c.tc : Thread Cert.MixBackRefIdeal.nD Cert.MixBackRefIdeal.τ).loc Cert.MixBackRefIdeal.main_arg6) = m ((c.tc : Thread Cert.MixBackRefIdeal.nD Cert.MixBackRefIdeal.τ).loc Cert.MixBackRefIdeal.main_arg6)
      ∧ r.2.mem ((c.tc : Thread Cert.MixBackRefIdeal.nD Cert.MixBackRefIdeal.τ).loc Cert.MixBackRefIdeal.main_arg7) = m ((c.tc : Thread Cert.MixBackRefIdeal.nD Cert.MixBackRefIdeal.τ).loc Cert.MixBackRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1088, 1024]⟩ ⟨2, ![8704, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![1024, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg8))
      ∧ m ((c.tc : Thread Cert.KernelIdeal.nD Cert.KernelIdeal.τ).loc Cert.KernelIdeal.main_arg9) = Layout.block ⟨2, ![352, 1024]⟩ ⟨2, ![2816, 1024]⟩ 0 8 c (m' (((0 : Dev Cert.ReferenceIdeal.nD).tc : Thread Cert.ReferenceIdeal.nD Cert.ReferenceIdeal.τ).loc Cert.ReferenceIdeal.main_arg9))
      ∧ m ((c.tc : Thread Cert.KernelIdeal.nD Cert.KernelIdeal.τ).loc Cert.KernelIdeal.main_arg10) = Layout.block ⟨2, ![32, 128]⟩ ⟨2, ![256, 128]⟩ 0 8 c (m' (((0 : Dev Cert.ReferenceIdeal.nD).tc : Thread Cert.ReferenceIdeal.nD Cert.ReferenceIdeal.τ).loc Cert.ReferenceIdeal.main_arg10))) →
    ∃ (v0 : Buf (Elt Ideal) (((0 : Dev Cert.ReferenceIdeal.nD).tc : Thread Cert.ReferenceIdeal.nD Cert.ReferenceIdeal.τ).loc Cert.ReferenceIdeal.main_arg0)) (v1 : Buf (Elt Ideal) (((0 : Dev Cert.ReferenceIdeal.nD).tc : Thread Cert.ReferenceIdeal.nD Cert.ReferenceIdeal.τ).loc Cert.ReferenceIdeal.main_arg1)) (v2 : Buf (Elt Ideal) (((0 : Dev Cert.ReferenceIdeal.nD).tc : Thread Cert.ReferenceIdeal.nD Cert.ReferenceIdeal.τ).loc Cert.ReferenceIdeal.main_arg2)) (v3 : Buf (Elt Ideal) (((0 : Dev Cert.ReferenceIdeal.nD).tc : Thread Cert.ReferenceIdeal.nD Cert.ReferenceIdeal.τ).loc Cert.ReferenceIdeal.main_arg3)) (v4 : Buf (Elt Ideal) (((0 : Dev Cert.ReferenceIdeal.nD).tc : Thread Cert.ReferenceIdeal.nD Cert.ReferenceIdeal.τ).loc Cert.ReferenceIdeal.main_arg4)) (v5 : Buf (Elt Ideal) (((0 : Dev Cert.ReferenceIdeal.nD).tc : Thread Cert.ReferenceIdeal.nD Cert.ReferenceIdeal.τ).loc Cert.ReferenceIdeal.main_arg5)) (v6 : Buf (Elt Ideal) (((0 : Dev Cert.ReferenceIdeal.nD).tc : Thread Cert.ReferenceIdeal.nD Cert.ReferenceIdeal.τ).loc Cert.ReferenceIdeal.main_arg6)) (v7 : Buf (Elt Ideal) (((0 : Dev Cert.ReferenceIdeal.nD).tc : Thread Cert.ReferenceIdeal.nD Cert.ReferenceIdeal.τ).loc Cert.ReferenceIdeal.main_arg7)) (v8 : Buf (Elt Ideal) (((0 : Dev Cert.ReferenceIdeal.nD).tc : Thread Cert.ReferenceIdeal.nD Cert.ReferenceIdeal.τ).loc Cert.ReferenceIdeal.main_arg8)) (v9 : Buf (Elt Ideal) (((0 : Dev Cert.ReferenceIdeal.nD).tc : Thread Cert.ReferenceIdeal.nD Cert.ReferenceIdeal.τ).loc Cert.ReferenceIdeal.main_arg9)) (v10 : Buf (Elt Ideal) (((0 : Dev Cert.ReferenceIdeal.nD).tc : Thread Cert.ReferenceIdeal.nD Cert.ReferenceIdeal.τ).loc Cert.ReferenceIdeal.main_arg10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_v1_1) = v1
          ∧ r.2.mem ((c.tc : Thread Cert.KernelIdeal.nD Cert.KernelIdeal.τ).loc Cert.KernelIdeal.main_v1_2) = v2
          ∧ r.2.mem ((c.tc : Thread Cert.KernelIdeal.nD Cert.KernelIdeal.τ).loc Cert.KernelIdeal.main_v1_3) = v3
          ∧ r.2.mem ((c.tc : Thread Cert.KernelIdeal.nD Cert.KernelIdeal.τ).loc Cert.KernelIdeal.main_v1_4) = v4
          ∧ r.2.mem ((c.tc : Thread Cert.KernelIdeal.nD Cert.KernelIdeal.τ).loc Cert.KernelIdeal.main_v1_5) = v5
          ∧ r.2.mem ((c.tc : Thread Cert.KernelIdeal.nD Cert.KernelIdeal.τ).loc Cert.KernelIdeal.main_v1_6) = v6
          ∧ r.2.mem ((c.tc : Thread Cert.KernelIdeal.nD Cert.KernelIdeal.τ).loc Cert.KernelIdeal.main_v1_7) = v7
          ∧ r.2.mem ((c.tc : Thread Cert.KernelIdeal.nD Cert.KernelIdeal.τ).loc Cert.KernelIdeal.main_v1_8) = v8
          ∧ r.2.mem ((c.tc : Thread Cert.KernelIdeal.nD Cert.KernelIdeal.τ).loc Cert.KernelIdeal.main_v1_9) = v9
          ∧ r.2.mem ((c.tc : Thread Cert.KernelIdeal.nD Cert.KernelIdeal.τ).loc Cert.KernelIdeal.main_v1_10) = v10
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg1) = v1
          ∧ r.2.mem (((0 : Dev Cert.ReferenceIdeal.nD).tc : Thread Cert.ReferenceIdeal.nD Cert.ReferenceIdeal.τ).loc Cert.ReferenceIdeal.main_arg2) = v2
          ∧ r.2.mem (((0 : Dev Cert.ReferenceIdeal.nD).tc : Thread Cert.ReferenceIdeal.nD Cert.ReferenceIdeal.τ).loc Cert.ReferenceIdeal.main_arg3) = v3
          ∧ r.2.mem (((0 : Dev Cert.ReferenceIdeal.nD).tc : Thread Cert.ReferenceIdeal.nD Cert.ReferenceIdeal.τ).loc Cert.ReferenceIdeal.main_arg4) = v4
          ∧ r.2.mem (((0 : Dev Cert.ReferenceIdeal.nD).tc : Thread Cert.ReferenceIdeal.nD Cert.ReferenceIdeal.τ).loc Cert.ReferenceIdeal.main_arg5) = v5
          ∧ r.2.mem (((0 : Dev Cert.ReferenceIdeal.nD).tc : Thread Cert.ReferenceIdeal.nD Cert.ReferenceIdeal.τ).loc Cert.ReferenceIdeal.main_arg6) = v6
          ∧ r.2.mem (((0 : Dev Cert.ReferenceIdeal.nD).tc : Thread Cert.ReferenceIdeal.nD Cert.ReferenceIdeal.τ).loc Cert.ReferenceIdeal.main_arg7) = v7
          ∧ r.2.mem (((0 : Dev Cert.ReferenceIdeal.nD).tc : Thread Cert.ReferenceIdeal.nD Cert.ReferenceIdeal.τ).loc Cert.ReferenceIdeal.main_arg8) = v8
          ∧ r.2.mem (((0 : Dev Cert.ReferenceIdeal.nD).tc : Thread Cert.ReferenceIdeal.nD Cert.ReferenceIdeal.τ).loc Cert.ReferenceIdeal.main_arg9) = v9
          ∧ r.2.mem (((0 : Dev Cert.ReferenceIdeal.nD).tc : Thread Cert.ReferenceIdeal.nD Cert.ReferenceIdeal.τ).loc Cert.ReferenceIdeal.main_arg10) = v10
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9)
          ∧ r.2.mem (((0 : Dev Cert.ReferenceIdeal.nD).tc : Thread Cert.ReferenceIdeal.nD Cert.ReferenceIdeal.τ).loc Cert.ReferenceIdeal.main_arg10) = m' (((0 : Dev Cert.ReferenceIdeal.nD).tc : Thread Cert.ReferenceIdeal.nD Cert.ReferenceIdeal.τ).loc Cert.ReferenceIdeal.main_arg10))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![352, 1024]⟩ ⟨2, ![2816, 1024]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨2, ![352, 1024]⟩ ⟨2, ![2816, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨2, ![1088, 1024]⟩ ⟨2, ![8704, 1024]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨2, ![128, 512]⟩ ⟨2, ![1024, 512]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨2, ![352, 1024]⟩ ⟨2, ![2816, 1024]⟩ 0 8 c (m' (((0 : Dev Cert.Reference.nD).tc : Thread Cert.Reference.nD Cert.Reference.τ).loc Cert.Reference.main_arg4))
      ∧ m ((c.tc : Thread Cert.Kernel.nD Cert.Kernel.τ).loc Cert.Kernel.main_arg5) = Layout.block ⟨2, ![352, 1024]⟩ ⟨2, ![2816, 1024]⟩ 0 8 c (m' (((0 : Dev Cert.Reference.nD).tc : Thread Cert.Reference.nD Cert.Reference.τ).loc Cert.Reference.main_arg5))
      ∧ m ((c.tc : Thread Cert.Kernel.nD Cert.Kernel.τ).loc Cert.Kernel.main_arg6) = Layout.block ⟨2, ![352, 1024]⟩ ⟨2, ![2816, 1024]⟩ 0 8 c (m' (((0 : Dev Cert.Reference.nD).tc : Thread Cert.Reference.nD Cert.Reference.τ).loc Cert.Reference.main_arg6))
      ∧ m ((c.tc : Thread Cert.Kernel.nD Cert.Kernel.τ).loc Cert.Kernel.main_arg7) = Layout.block ⟨2, ![128, 1024]⟩ ⟨2, ![1024, 1024]⟩ 0 8 c (m' (((0 : Dev Cert.Reference.nD).tc : Thread Cert.Reference.nD Cert.Reference.τ).loc Cert.Reference.main_arg7))
      ∧ m ((c.tc : Thread Cert.Kernel.nD Cert.Kernel.τ).loc Cert.Kernel.main_arg8) = Layout.block ⟨2, ![128, 1024]⟩ ⟨2, ![1024, 1024]⟩ 0 8 c (m' (((0 : Dev Cert.Reference.nD).tc : Thread Cert.Reference.nD Cert.Reference.τ).loc Cert.Reference.main_arg8))
      ∧ m ((c.tc : Thread Cert.Kernel.nD Cert.Kernel.τ).loc Cert.Kernel.main_arg9) = Layout.block ⟨2, ![352, 1024]⟩ ⟨2, ![2816, 1024]⟩ 0 8 c (m' (((0 : Dev Cert.Reference.nD).tc : Thread Cert.Reference.nD Cert.Reference.τ).loc Cert.Reference.main_arg9))
      ∧ m ((c.tc : Thread Cert.Kernel.nD Cert.Kernel.τ).loc Cert.Kernel.main_arg10) = Layout.block ⟨2, ![32, 128]⟩ ⟨2, ![256, 128]⟩ 0 8 c (m' (((0 : Dev Cert.Reference.nD).tc : Thread Cert.Reference.nD Cert.Reference.τ).loc Cert.Reference.main_arg10))) →
    ∃ (v0 : Buf (Elt Bits) (((0 : Dev Cert.Reference.nD).tc : Thread Cert.Reference.nD Cert.Reference.τ).loc Cert.Reference.main_arg0)) (v1 : Buf (Elt Bits) (((0 : Dev Cert.Reference.nD).tc : Thread Cert.Reference.nD Cert.Reference.τ).loc Cert.Reference.main_arg1)) (v2 : Buf (Elt Bits) (((0 : Dev Cert.Reference.nD).tc : Thread Cert.Reference.nD Cert.Reference.τ).loc Cert.Reference.main_arg2)) (v3 : Buf (Elt Bits) (((0 : Dev Cert.Reference.nD).tc : Thread Cert.Reference.nD Cert.Reference.τ).loc Cert.Reference.main_arg3)) (v4 : Buf (Elt Bits) (((0 : Dev Cert.Reference.nD).tc : Thread Cert.Reference.nD Cert.Reference.τ).loc Cert.Reference.main_arg4)) (v5 : Buf (Elt Bits) (((0 : Dev Cert.Reference.nD).tc : Thread Cert.Reference.nD Cert.Reference.τ).loc Cert.Reference.main_arg5)) (v6 : Buf (Elt Bits) (((0 : Dev Cert.Reference.nD).tc : Thread Cert.Reference.nD Cert.Reference.τ).loc Cert.Reference.main_arg6)) (v7 : Buf (Elt Bits) (((0 : Dev Cert.Reference.nD).tc : Thread Cert.Reference.nD Cert.Reference.τ).loc Cert.Reference.main_arg7)) (v8 : Buf (Elt Bits) (((0 : Dev Cert.Reference.nD).tc : Thread Cert.Reference.nD Cert.Reference.τ).loc Cert.Reference.main_arg8)) (v9 : Buf (Elt Bits) (((0 : Dev Cert.Reference.nD).tc : Thread Cert.Reference.nD Cert.Reference.τ).loc Cert.Reference.main_arg9)) (v10 : Buf (Elt Bits) (((0 : Dev Cert.Reference.nD).tc : Thread Cert.Reference.nD Cert.Reference.τ).loc Cert.Reference.main_arg10)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0
          ∧ r.2.mem ((c.tc : Thread Cert.Kernel.nD Cert.Kernel.τ).loc Cert.Kernel.main_v1_1) = v1
          ∧ r.2.mem ((c.tc : Thread Cert.Kernel.nD Cert.Kernel.τ).loc Cert.Kernel.main_v1_2) = v2
          ∧ r.2.mem ((c.tc : Thread Cert.Kernel.nD Cert.Kernel.τ).loc Cert.Kernel.main_v1_3) = v3
          ∧ r.2.mem ((c.tc : Thread Cert.Kernel.nD Cert.Kernel.τ).loc Cert.Kernel.main_v1_4) = v4
          ∧ r.2.mem ((c.tc : Thread Cert.Kernel.nD Cert.Kernel.τ).loc Cert.Kernel.main_v1_5) = v5
          ∧ r.2.mem ((c.tc : Thread Cert.Kernel.nD Cert.Kernel.τ).loc Cert.Kernel.main_v1_6) = v6
          ∧ r.2.mem ((c.tc : Thread Cert.Kernel.nD Cert.Kernel.τ).loc Cert.Kernel.main_v1_7) = v7
          ∧ r.2.mem ((c.tc : Thread Cert.Kernel.nD Cert.Kernel.τ).loc Cert.Kernel.main_v1_8) = v8
          ∧ r.2.mem ((c.tc : Thread Cert.Kernel.nD Cert.Kernel.τ).loc Cert.Kernel.main_v1_9) = v9
          ∧ r.2.mem ((c.tc : Thread Cert.Kernel.nD Cert.Kernel.τ).loc Cert.Kernel.main_v1_10) = v10
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9)
          ∧ r.2.mem ((c.tc : Thread Cert.Kernel.nD Cert.Kernel.τ).loc Cert.Kernel.main_arg10) = m ((c.tc : Thread Cert.Kernel.nD Cert.Kernel.τ).loc Cert.Kernel.main_arg10))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg1) = v1
          ∧ r.2.mem (((0 : Dev Cert.Reference.nD).tc : Thread Cert.Reference.nD Cert.Reference.τ).loc Cert.Reference.main_arg2) = v2
          ∧ r.2.mem (((0 : Dev Cert.Reference.nD).tc : Thread Cert.Reference.nD Cert.Reference.τ).loc Cert.Reference.main_arg3) = v3
          ∧ r.2.mem (((0 : Dev Cert.Reference.nD).tc : Thread Cert.Reference.nD Cert.Reference.τ).loc Cert.Reference.main_arg4) = v4
          ∧ r.2.mem (((0 : Dev Cert.Reference.nD).tc : Thread Cert.Reference.nD Cert.Reference.τ).loc Cert.Reference.main_arg5) = v5
          ∧ r.2.mem (((0 : Dev Cert.Reference.nD).tc : Thread Cert.Reference.nD Cert.Reference.τ).loc Cert.Reference.main_arg6) = v6
          ∧ r.2.mem (((0 : Dev Cert.Reference.nD).tc : Thread Cert.Reference.nD Cert.Reference.τ).loc Cert.Reference.main_arg7) = v7
          ∧ r.2.mem (((0 : Dev Cert.Reference.nD).tc : Thread Cert.Reference.nD Cert.Reference.τ).loc Cert.Reference.main_arg8) = v8
          ∧ r.2.mem (((0 : Dev Cert.Reference.nD).tc : Thread Cert.Reference.nD Cert.Reference.τ).loc Cert.Reference.main_arg9) = v9
          ∧ r.2.mem (((0 : Dev Cert.Reference.nD).tc : Thread Cert.Reference.nD Cert.Reference.τ).loc Cert.Reference.main_arg10) = v10
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4)
          ∧ r.2.mem (((0 : Dev Cert.Reference.nD).tc : Thread Cert.Reference.nD Cert.Reference.τ).loc Cert.Reference.main_arg5) = m' (((0 : Dev Cert.Reference.nD).tc : Thread Cert.Reference.nD Cert.Reference.τ).loc Cert.Reference.main_arg5)
          ∧ r.2.mem (((0 : Dev Cert.Reference.nD).tc : Thread Cert.Reference.nD Cert.Reference.τ).loc Cert.Reference.main_arg6) = m' (((0 : Dev Cert.Reference.nD).tc : Thread Cert.Reference.nD Cert.Reference.τ).loc Cert.Reference.main_arg6)
          ∧ r.2.mem (((0 : Dev Cert.Reference.nD).tc : Thread Cert.Reference.nD Cert.Reference.τ).loc Cert.Reference.main_arg7) = m' (((0 : Dev Cert.Reference.nD).tc : Thread Cert.Reference.nD Cert.Reference.τ).loc Cert.Reference.main_arg7)
          ∧ r.2.mem (((0 : Dev Cert.Reference.nD).tc : Thread Cert.Reference.nD Cert.Reference.τ).loc Cert.Reference.main_arg8) = m' (((0 : Dev Cert.Reference.nD).tc : Thread Cert.Reference.nD Cert.Reference.τ).loc Cert.Reference.main_arg8)
          ∧ r.2.mem (((0 : Dev Cert.Reference.nD).tc : Thread Cert.Reference.nD Cert.Reference.τ).loc Cert.Reference.main_arg9) = m' (((0 : Dev Cert.Reference.nD).tc : Thread Cert.Reference.nD Cert.Reference.τ).loc Cert.Reference.main_arg9)
          ∧ r.2.mem (((0 : Dev Cert.Reference.nD).tc : Thread Cert.Reference.nD Cert.Reference.τ).loc Cert.Reference.main_arg10) = m' (((0 : Dev Cert.Reference.nD).tc : Thread Cert.Reference.nD Cert.Reference.τ).loc Cert.Reference.main_arg10))

def preserves_Exchange_ExchangeIdeal : Prop :=
  True

def algebraic_ExchangeIdeal_ExchangedIdeal [hExchangeIdeal : Cert.ExchangeIdeal.Facts] [hExchangedIdeal : Cert.ExchangedIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangedIdeal.nD Cert.ExchangedIdeal.τ Cert.ExchangedIdeal.sig) → Buf (Elt Ideal) ℓ) (g' : Dev Cert.ExchangedIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨2, ![2816, 1024]⟩ ⟨2, ![22528, 1024]⟩ 0 8 c (m' (((0 : Dev Cert.ExchangedIdeal.nD).tc : Thread Cert.ExchangedIdeal.nD Cert.ExchangedIdeal.τ).loc Cert.ExchangedIdeal.main_arg0))
      ∧ m ((c.tc : Thread Cert.ExchangeIdeal.nD Cert.ExchangeIdeal.τ).loc Cert.ExchangeIdeal.main_arg1) = Layout.block ⟨2, ![2816, 1024]⟩ ⟨2, ![22528, 1024]⟩ 0 8 c (m' (((0 : Dev Cert.ExchangedIdeal.nD).tc : Thread Cert.ExchangedIdeal.nD Cert.ExchangedIdeal.τ).loc Cert.ExchangedIdeal.main_arg1))
      ∧ m ((c.tc : Thread Cert.ExchangeIdeal.nD Cert.ExchangeIdeal.τ).loc Cert.ExchangeIdeal.main_arg2) = Layout.block ⟨2, ![8704, 1024]⟩ ⟨2, ![69632, 1024]⟩ 0 8 c (m' (((0 : Dev Cert.ExchangedIdeal.nD).tc : Thread Cert.ExchangedIdeal.nD Cert.ExchangedIdeal.τ).loc Cert.ExchangedIdeal.main_arg2))
      ∧ m ((c.tc : Thread Cert.ExchangeIdeal.nD Cert.ExchangeIdeal.τ).loc Cert.ExchangeIdeal.main_arg3) = Layout.block ⟨2, ![1024, 512]⟩ ⟨2, ![8192, 512]⟩ 0 8 c (m' (((0 : Dev Cert.ExchangedIdeal.nD).tc : Thread Cert.ExchangedIdeal.nD Cert.ExchangedIdeal.τ).loc Cert.ExchangedIdeal.main_arg3))
      ∧ m ((c.tc : Thread Cert.ExchangeIdeal.nD Cert.ExchangeIdeal.τ).loc Cert.ExchangeIdeal.main_arg4) = Layout.block ⟨2, ![2816, 1024]⟩ ⟨2, ![22528, 1024]⟩ 0 8 c (m' (((0 : Dev Cert.ExchangedIdeal.nD).tc : Thread Cert.ExchangedIdeal.nD Cert.ExchangedIdeal.τ).loc Cert.ExchangedIdeal.main_arg4))
      ∧ m ((c.tc : Thread Cert.ExchangeIdeal.nD Cert.ExchangeIdeal.τ).loc Cert.ExchangeIdeal.main_arg5) = Layout.block ⟨2, ![2816, 1024]⟩ ⟨2, ![22528, 1024]⟩ 0 8 c (m' (((0 : Dev Cert.ExchangedIdeal.nD).tc : Thread Cert.ExchangedIdeal.nD Cert.ExchangedIdeal.τ).loc Cert.ExchangedIdeal.main_arg5))
      ∧ m ((c.tc : Thread Cert.ExchangeIdeal.nD Cert.ExchangeIdeal.τ).loc Cert.ExchangeIdeal.main_arg6) = Layout.block ⟨2, ![2816, 1024]⟩ ⟨2, ![22528, 1024]⟩ 0 8 c (m' (((0 : Dev Cert.ExchangedIdeal.nD).tc : Thread Cert.ExchangedIdeal.nD Cert.ExchangedIdeal.τ).loc Cert.ExchangedIdeal.main_arg6))
      ∧ m ((c.tc : Thread Cert.ExchangeIdeal.nD Cert.ExchangeIdeal.τ).loc Cert.ExchangeIdeal.main_arg7) = Layout.block ⟨2, ![1024, 1024]⟩ ⟨2, ![8192, 1024]⟩ 0 8 c (m' (((0 : Dev Cert.ExchangedIdeal.nD).tc : Thread Cert.ExchangedIdeal.nD Cert.ExchangedIdeal.τ).loc Cert.ExchangedIdeal.main_arg7))
      ∧ m ((c.tc : Thread Cert.ExchangeIdeal.nD Cert.ExchangeIdeal.τ).loc Cert.ExchangeIdeal.main_arg8) = Layout.block ⟨2, ![1024, 1024]⟩ ⟨2, ![8192, 1024]⟩ 0 8 c (m' (((0 : Dev Cert.ExchangedIdeal.nD).tc : Thread Cert.ExchangedIdeal.nD Cert.ExchangedIdeal.τ).loc Cert.ExchangedIdeal.main_arg8))
      ∧ m ((c.tc : Thread Cert.ExchangeIdeal.nD Cert.ExchangeIdeal.τ).loc Cert.ExchangeIdeal.main_arg9) = Layout.block ⟨2, ![2816, 1024]⟩ ⟨2, ![22528, 1024]⟩ 0 8 c (m' (((0 : Dev Cert.ExchangedIdeal.nD).tc : Thread Cert.ExchangedIdeal.nD Cert.ExchangedIdeal.τ).loc Cert.ExchangedIdeal.main_arg9))
      ∧ m ((c.tc : Thread Cert.ExchangeIdeal.nD Cert.ExchangeIdeal.τ).loc Cert.ExchangeIdeal.main_arg10) = Layout.block ⟨2, ![256, 128]⟩ ⟨2, ![2048, 128]⟩ 0 8 c (m' (((0 : Dev Cert.ExchangedIdeal.nD).tc : Thread Cert.ExchangedIdeal.nD Cert.ExchangedIdeal.τ).loc Cert.ExchangedIdeal.main_arg10))
      ∧ m ((c.tc : Thread Cert.ExchangeIdeal.nD Cert.ExchangeIdeal.τ).loc Cert.ExchangeIdeal.main_arg11) = Layout.block ⟨2, ![8, 1024]⟩ ⟨2, ![64, 1024]⟩ 0 8 c (m' (((0 : Dev Cert.ExchangedIdeal.nD).tc : Thread Cert.ExchangedIdeal.nD Cert.ExchangedIdeal.τ).loc Cert.ExchangedIdeal.main_arg11))) →
    ∃ (v0 : Buf (Elt Ideal) (((0 : Dev Cert.ExchangedIdeal.nD).tc : Thread Cert.ExchangedIdeal.nD Cert.ExchangedIdeal.τ).loc Cert.ExchangedIdeal.main_v5)) (v1 : Buf (Elt Ideal) (((0 : Dev Cert.ExchangedIdeal.nD).tc : Thread Cert.ExchangedIdeal.nD Cert.ExchangedIdeal.τ).loc Cert.ExchangedIdeal.main_v11)) (v2 : Buf (Elt Ideal) (((0 : Dev Cert.ExchangedIdeal.nD).tc : Thread Cert.ExchangedIdeal.nD Cert.ExchangedIdeal.τ).loc Cert.ExchangedIdeal.main_v17)) (v3 : Buf (Elt Ideal) (((0 : Dev Cert.ExchangedIdeal.nD).tc : Thread Cert.ExchangedIdeal.nD Cert.ExchangedIdeal.τ).loc Cert.ExchangedIdeal.main_v23)) (v4 : Buf (Elt Ideal) (((0 : Dev Cert.ExchangedIdeal.nD).tc : Thread Cert.ExchangedIdeal.nD Cert.ExchangedIdeal.τ).loc Cert.ExchangedIdeal.main_v29)) (v5 : Buf (Elt Ideal) (((0 : Dev Cert.ExchangedIdeal.nD).tc : Thread Cert.ExchangedIdeal.nD Cert.ExchangedIdeal.τ).loc Cert.ExchangedIdeal.main_v35)) (v6 : Buf (Elt Ideal) (((0 : Dev Cert.ExchangedIdeal.nD).tc : Thread Cert.ExchangedIdeal.nD Cert.ExchangedIdeal.τ).loc Cert.ExchangedIdeal.main_v41)) (v7 : Buf (Elt Ideal) (((0 : Dev Cert.ExchangedIdeal.nD).tc : Thread Cert.ExchangedIdeal.nD Cert.ExchangedIdeal.τ).loc Cert.ExchangedIdeal.main_v47)) (v8 : Buf (Elt Ideal) (((0 : Dev Cert.ExchangedIdeal.nD).tc : Thread Cert.ExchangedIdeal.nD Cert.ExchangedIdeal.τ).loc Cert.ExchangedIdeal.main_v53)) (v9 : Buf (Elt Ideal) (((0 : Dev Cert.ExchangedIdeal.nD).tc : Thread Cert.ExchangedIdeal.nD Cert.ExchangedIdeal.τ).loc Cert.ExchangedIdeal.main_v59)) (v10 : Buf (Elt Ideal) (((0 : Dev Cert.ExchangedIdeal.nD).tc : Thread Cert.ExchangedIdeal.nD Cert.ExchangedIdeal.τ).loc Cert.ExchangedIdeal.main_v65)) (v11 : Buf (Elt Ideal) (((0 : Dev Cert.ExchangedIdeal.nD).tc : Thread Cert.ExchangedIdeal.nD Cert.ExchangedIdeal.τ).loc Cert.ExchangedIdeal.main_v66)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![8, 352, 1024]⟩ ⟨3, ![64, 352, 1024]⟩ 0 8 c v0
          ∧ r.2.mem ((c.tc : Thread Cert.ExchangeIdeal.nD Cert.ExchangeIdeal.τ).loc Cert.ExchangeIdeal.main_v1_1) = Layout.block ⟨3, ![8, 352, 1024]⟩ ⟨3, ![64, 352, 1024]⟩ 0 8 c v1
          ∧ r.2.mem ((c.tc : Thread Cert.ExchangeIdeal.nD Cert.ExchangeIdeal.τ).loc Cert.ExchangeIdeal.main_v1_2) = Layout.block ⟨3, ![8, 1088, 1024]⟩ ⟨3, ![64, 1088, 1024]⟩ 0 8 c v2
          ∧ r.2.mem ((c.tc : Thread Cert.ExchangeIdeal.nD Cert.ExchangeIdeal.τ).loc Cert.ExchangeIdeal.main_v1_3) = Layout.block ⟨3, ![8, 128, 512]⟩ ⟨3, ![64, 128, 512]⟩ 0 8 c v3
          ∧ r.2.mem ((c.tc : Thread Cert.ExchangeIdeal.nD Cert.ExchangeIdeal.τ).loc Cert.ExchangeIdeal.main_v1_4) = Layout.block ⟨3, ![8, 352, 1024]⟩ ⟨3, ![64, 352, 1024]⟩ 0 8 c v4
          ∧ r.2.mem ((c.tc : Thread Cert.ExchangeIdeal.nD Cert.ExchangeIdeal.τ).loc Cert.ExchangeIdeal.main_v1_5) = Layout.block ⟨3, ![8, 352, 1024]⟩ ⟨3, ![64, 352, 1024]⟩ 0 8 c v5
          ∧ r.2.mem ((c.tc : Thread Cert.ExchangeIdeal.nD Cert.ExchangeIdeal.τ).loc Cert.ExchangeIdeal.main_v1_6) = Layout.block ⟨3, ![8, 352, 1024]⟩ ⟨3, ![64, 352, 1024]⟩ 0 8 c v6
          ∧ r.2.mem ((c.tc : Thread Cert.ExchangeIdeal.nD Cert.ExchangeIdeal.τ).loc Cert.ExchangeIdeal.main_v1_7) = Layout.block ⟨3, ![8, 128, 1024]⟩ ⟨3, ![64, 128, 1024]⟩ 0 8 c v7
          ∧ r.2.mem ((c.tc : Thread Cert.ExchangeIdeal.nD Cert.ExchangeIdeal.τ).loc Cert.ExchangeIdeal.main_v1_8) = Layout.block ⟨3, ![8, 128, 1024]⟩ ⟨3, ![64, 128, 1024]⟩ 0 8 c v8
          ∧ r.2.mem ((c.tc : Thread Cert.ExchangeIdeal.nD Cert.ExchangeIdeal.τ).loc Cert.ExchangeIdeal.main_v1_9) = Layout.block ⟨3, ![8, 352, 1024]⟩ ⟨3, ![64, 352, 1024]⟩ 0 8 c v9
          ∧ r.2.mem ((c.tc : Thread Cert.ExchangeIdeal.nD Cert.ExchangeIdeal.τ).loc Cert.ExchangeIdeal.main_v1_10) = Layout.block ⟨3, ![8, 32, 128]⟩ ⟨3, ![64, 32, 128]⟩ 0 8 c v10
          ∧ r.2.mem ((c.tc : Thread Cert.ExchangeIdeal.nD Cert.ExchangeIdeal.τ).loc Cert.ExchangeIdeal.main_v1_11) = v11
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
          ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
          ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
          ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
          ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7)
          ∧ r.2.mem ((c.tc : Thread Cert.ExchangeIdeal.nD Cert.ExchangeIdeal.τ).loc Cert.ExchangeIdeal.main_arg8) = m ((c.tc : Thread Cert.ExchangeIdeal.nD Cert.ExchangeIdeal.τ).loc Cert.ExchangeIdeal.main_arg8)
          ∧ r.2.mem ((c.tc : Thread Cert.ExchangeIdeal.nD Cert.ExchangeIdeal.τ).loc Cert.ExchangeIdeal.main_arg9) = m ((c.tc : Thread Cert.ExchangeIdeal.nD Cert.ExchangeIdeal.τ).loc Cert.ExchangeIdeal.main_arg9)
          ∧ r.2.mem ((c.tc : Thread Cert.ExchangeIdeal.nD Cert.ExchangeIdeal.τ).loc Cert.ExchangeIdeal.main_arg10) = m ((c.tc : Thread Cert.ExchangeIdeal.nD Cert.ExchangeIdeal.τ).loc Cert.ExchangeIdeal.main_arg10)
          ∧ r.2.mem ((c.tc : Thread Cert.ExchangeIdeal.nD Cert.ExchangeIdeal.τ).loc Cert.ExchangeIdeal.main_arg11) = m ((c.tc : Thread Cert.ExchangeIdeal.nD Cert.ExchangeIdeal.τ).loc Cert.ExchangeIdeal.main_arg11))
      ∧ θ_run (Cert.ExchangedIdeal.defs (F := Ideal)) (onTc (τ := Cert.ExchangedIdeal.τ) (Cert.ExchangedIdeal.main (F := Ideal))) ⟨m', fun _ => 0, g'⟩ (fun r =>
          r.2.mem (((0 : Dev Cert.ExchangedIdeal.nD).tc : Thread Cert.ExchangedIdeal.nD Cert.ExchangedIdeal.τ).loc Cert.ExchangedIdeal.main_v5) = v0
          ∧ r.2.mem (((0 : Dev Cert.ExchangedIdeal.nD).tc : Thread Cert.ExchangedIdeal.nD Cert.ExchangedIdeal.τ).loc Cert.ExchangedIdeal.main_v11) = v1
          ∧ r.2.mem (((0 : Dev Cert.ExchangedIdeal.nD).tc : Thread Cert.ExchangedIdeal.nD Cert.ExchangedIdeal.τ).loc Cert.ExchangedIdeal.main_v17) = v2
          ∧ r.2.mem (((0 : Dev Cert.ExchangedIdeal.nD).tc : Thread Cert.ExchangedIdeal.nD Cert.ExchangedIdeal.τ).loc Cert.ExchangedIdeal.main_v23) = v3
          ∧ r.2.mem (((0 : Dev Cert.ExchangedIdeal.nD).tc : Thread Cert.ExchangedIdeal.nD Cert.ExchangedIdeal.τ).loc Cert.ExchangedIdeal.main_v29) = v4
          ∧ r.2.mem (((0 : Dev Cert.ExchangedIdeal.nD).tc : Thread Cert.ExchangedIdeal.nD Cert.ExchangedIdeal.τ).loc Cert.ExchangedIdeal.main_v35) = v5
          ∧ r.2.mem (((0 : Dev Cert.ExchangedIdeal.nD).tc : Thread Cert.ExchangedIdeal.nD Cert.ExchangedIdeal.τ).loc Cert.ExchangedIdeal.main_v41) = v6
          ∧ r.2.mem (((0 : Dev Cert.ExchangedIdeal.nD).tc : Thread Cert.ExchangedIdeal.nD Cert.ExchangedIdeal.τ).loc Cert.ExchangedIdeal.main_v47) = v7
          ∧ r.2.mem (((0 : Dev Cert.ExchangedIdeal.nD).tc : Thread Cert.ExchangedIdeal.nD Cert.ExchangedIdeal.τ).loc Cert.ExchangedIdeal.main_v53) = v8
          ∧ r.2.mem (((0 : Dev Cert.ExchangedIdeal.nD).tc : Thread Cert.ExchangedIdeal.nD Cert.ExchangedIdeal.τ).loc Cert.ExchangedIdeal.main_v59) = v9
          ∧ r.2.mem (((0 : Dev Cert.ExchangedIdeal.nD).tc : Thread Cert.ExchangedIdeal.nD Cert.ExchangedIdeal.τ).loc Cert.ExchangedIdeal.main_v65) = v10
          ∧ r.2.mem (((0 : Dev Cert.ExchangedIdeal.nD).tc : Thread Cert.ExchangedIdeal.nD Cert.ExchangedIdeal.τ).loc Cert.ExchangedIdeal.main_v66) = v11
          ∧ r.2.mem (((0 : Dev Cert.ExchangedIdeal.nD).tc : Thread Cert.ExchangedIdeal.nD Cert.ExchangedIdeal.τ).loc Cert.ExchangedIdeal.main_arg0) = m' (((0 : Dev Cert.ExchangedIdeal.nD).tc : Thread Cert.ExchangedIdeal.nD Cert.ExchangedIdeal.τ).loc Cert.ExchangedIdeal.main_arg0)
          ∧ r.2.mem (((0 : Dev Cert.ExchangedIdeal.nD).tc : Thread Cert.ExchangedIdeal.nD Cert.ExchangedIdeal.τ).loc Cert.ExchangedIdeal.main_arg1) = m' (((0 : Dev Cert.ExchangedIdeal.nD).tc : Thread Cert.ExchangedIdeal.nD Cert.ExchangedIdeal.τ).loc Cert.ExchangedIdeal.main_arg1)
          ∧ r.2.mem (((0 : Dev Cert.ExchangedIdeal.nD).tc : Thread Cert.ExchangedIdeal.nD Cert.ExchangedIdeal.τ).loc Cert.ExchangedIdeal.main_arg2) = m' (((0 : Dev Cert.ExchangedIdeal.nD).tc : Thread Cert.ExchangedIdeal.nD Cert.ExchangedIdeal.τ).loc Cert.ExchangedIdeal.main_arg2)
          ∧ r.2.mem (((0 : Dev Cert.ExchangedIdeal.nD).tc : Thread Cert.ExchangedIdeal.nD Cert.ExchangedIdeal.τ).loc Cert.ExchangedIdeal.main_arg3) = m' (((0 : Dev Cert.ExchangedIdeal.nD).tc : Thread Cert.ExchangedIdeal.nD Cert.ExchangedIdeal.τ).loc Cert.ExchangedIdeal.main_arg3)
          ∧ r.2.mem (((0 : Dev Cert.ExchangedIdeal.nD).tc : Thread Cert.ExchangedIdeal.nD Cert.ExchangedIdeal.τ).loc Cert.ExchangedIdeal.main_arg4) = m' (((0 : Dev Cert.ExchangedIdeal.nD).tc : Thread Cert.ExchangedIdeal.nD Cert.ExchangedIdeal.τ).loc Cert.ExchangedIdeal.main_arg4)
          ∧ r.2.mem (((0 : Dev Cert.ExchangedIdeal.nD).tc : Thread Cert.ExchangedIdeal.nD Cert.ExchangedIdeal.τ).loc Cert.ExchangedIdeal.main_arg5) = m' (((0 : Dev Cert.ExchangedIdeal.nD).tc : Thread Cert.ExchangedIdeal.nD Cert.ExchangedIdeal.τ).loc Cert.ExchangedIdeal.main_arg5)
          ∧ r.2.mem (((0 : Dev Cert.ExchangedIdeal.nD).tc : Thread Cert.ExchangedIdeal.nD Cert.ExchangedIdeal.τ).loc Cert.ExchangedIdeal.main_arg6) = m' (((0 : Dev Cert.ExchangedIdeal.nD).tc : Thread Cert.ExchangedIdeal.nD Cert.ExchangedIdeal.τ).loc Cert.ExchangedIdeal.main_arg6)
          ∧ r.2.mem (((0 : Dev Cert.ExchangedIdeal.nD).tc : Thread Cert.ExchangedIdeal.nD Cert.ExchangedIdeal.τ).loc Cert.ExchangedIdeal.main_arg7) = m' (((0 : Dev Cert.ExchangedIdeal.nD).tc : Thread Cert.ExchangedIdeal.nD Cert.ExchangedIdeal.τ).loc Cert.ExchangedIdeal.main_arg7)
          ∧ r.2.mem (((0 : Dev Cert.ExchangedIdeal.nD).tc : Thread Cert.ExchangedIdeal.nD Cert.ExchangedIdeal.τ).loc Cert.ExchangedIdeal.main_arg8) = m' (((0 : Dev Cert.ExchangedIdeal.nD).tc : Thread Cert.ExchangedIdeal.nD Cert.ExchangedIdeal.τ).loc Cert.ExchangedIdeal.main_arg8)
          ∧ r.2.mem (((0 : Dev Cert.ExchangedIdeal.nD).tc : Thread Cert.ExchangedIdeal.nD Cert.ExchangedIdeal.τ).loc Cert.ExchangedIdeal.main_arg9) = m' (((0 : Dev Cert.ExchangedIdeal.nD).tc : Thread Cert.ExchangedIdeal.nD Cert.ExchangedIdeal.τ).loc Cert.ExchangedIdeal.main_arg9)
          ∧ r.2.mem (((0 : Dev Cert.ExchangedIdeal.nD).tc : Thread Cert.ExchangedIdeal.nD Cert.ExchangedIdeal.τ).loc Cert.ExchangedIdeal.main_arg10) = m' (((0 : Dev Cert.ExchangedIdeal.nD).tc : Thread Cert.ExchangedIdeal.nD Cert.ExchangedIdeal.τ).loc Cert.ExchangedIdeal.main_arg10)
          ∧ r.2.mem (((0 : Dev Cert.ExchangedIdeal.nD).tc : Thread Cert.ExchangedIdeal.nD Cert.ExchangedIdeal.τ).loc Cert.ExchangedIdeal.main_arg11) = m' (((0 : Dev Cert.ExchangedIdeal.nD).tc : Thread Cert.ExchangedIdeal.nD Cert.ExchangedIdeal.τ).loc Cert.ExchangedIdeal.main_arg11))

def bitexact_Exchange_Exchanged [hExchange : Cert.Exchange.Facts] [hExchanged : Cert.Exchanged.Facts] : Prop :=
  ∀ (m : (ℓ : Loc Cert.Exchange.nD Cert.Exchange.τ Cert.Exchange.sig) → Buf (Elt Bits) ℓ) (g : Dev Cert.Exchange.nD → PrngReg)
    (m' : (ℓ : Loc Cert.Exchanged.nD Cert.Exchanged.τ Cert.Exchanged.sig) → Buf (Elt Bits) ℓ) (g' : Dev Cert.Exchanged.nD → PrngReg), Pre_Exchange m →
    (∀ c : Dev Cert.Exchange.nD,
      m ((c.tc : Thread Cert.Exchange.nD Cert.Exchange.τ).loc Cert.Exchange.main_arg0) = Layout.block ⟨2, ![2816, 1024]⟩ ⟨2, ![22528, 1024]⟩ 0 8 c (m' (((0 : Dev Cert.Exchanged.nD).tc : Thread Cert.Exchanged.nD Cert.Exchanged.τ).loc Cert.Exchanged.main_arg0))
      ∧ m ((c.tc : Thread Cert.Exchange.nD Cert.Exchange.τ).loc Cert.Exchange.main_arg1) = Layout.block ⟨2, ![2816, 1024]⟩ ⟨2, ![22528, 1024]⟩ 0 8 c (m' (((0 : Dev Cert.Exchanged.nD).tc : Thread Cert.Exchanged.nD Cert.Exchanged.τ).loc Cert.Exchanged.main_arg1))
      ∧ m ((c.tc : Thread Cert.Exchange.nD Cert.Exchange.τ).loc Cert.Exchange.main_arg2) = Layout.block ⟨2, ![8704, 1024]⟩ ⟨2, ![69632, 1024]⟩ 0 8 c (m' (((0 : Dev Cert.Exchanged.nD).tc : Thread Cert.Exchanged.nD Cert.Exchanged.τ).loc Cert.Exchanged.main_arg2))
      ∧ m ((c.tc : Thread Cert.Exchange.nD Cert.Exchange.τ).loc Cert.Exchange.main_arg3) = Layout.block ⟨2, ![1024, 512]⟩ ⟨2, ![8192, 512]⟩ 0 8 c (m' (((0 : Dev Cert.Exchanged.nD).tc : Thread Cert.Exchanged.nD Cert.Exchanged.τ).loc Cert.Exchanged.main_arg3))
      ∧ m ((c.tc : Thread Cert.Exchange.nD Cert.Exchange.τ).loc Cert.Exchange.main_arg4) = Layout.block ⟨2, ![2816, 1024]⟩ ⟨2, ![22528, 1024]⟩ 0 8 c (m' (((0 : Dev Cert.Exchanged.nD).tc : Thread Cert.Exchanged.nD Cert.Exchanged.τ).loc Cert.Exchanged.main_arg4))
      ∧ m ((c.tc : Thread Cert.Exchange.nD Cert.Exchange.τ).loc Cert.Exchange.main_arg5) = Layout.block ⟨2, ![2816, 1024]⟩ ⟨2, ![22528, 1024]⟩ 0 8 c (m' (((0 : Dev Cert.Exchanged.nD).tc : Thread Cert.Exchanged.nD Cert.Exchanged.τ).loc Cert.Exchanged.main_arg5))
      ∧ m ((c.tc : Thread Cert.Exchange.nD Cert.Exchange.τ).loc Cert.Exchange.main_arg6) = Layout.block ⟨2, ![2816, 1024]⟩ ⟨2, ![22528, 1024]⟩ 0 8 c (m' (((0 : Dev Cert.Exchanged.nD).tc : Thread Cert.Exchanged.nD Cert.Exchanged.τ).loc Cert.Exchanged.main_arg6))
      ∧ m ((c.tc : Thread Cert.Exchange.nD Cert.Exchange.τ).loc Cert.Exchange.main_arg7) = Layout.block ⟨2, ![1024, 1024]⟩ ⟨2, ![8192, 1024]⟩ 0 8 c (m' (((0 : Dev Cert.Exchanged.nD).tc : Thread Cert.Exchanged.nD Cert.Exchanged.τ).loc Cert.Exchanged.main_arg7))
      ∧ m ((c.tc : Thread Cert.Exchange.nD Cert.Exchange.τ).loc Cert.Exchange.main_arg8) = Layout.block ⟨2, ![1024, 1024]⟩ ⟨2, ![8192, 1024]⟩ 0 8 c (m' (((0 : Dev Cert.Exchanged.nD).tc : Thread Cert.Exchanged.nD Cert.Exchanged.τ).loc Cert.Exchanged.main_arg8))
      ∧ m ((c.tc : Thread Cert.Exchange.nD Cert.Exchange.τ).loc Cert.Exchange.main_arg9) = Layout.block ⟨2, ![2816, 1024]⟩ ⟨2, ![22528, 1024]⟩ 0 8 c (m' (((0 : Dev Cert.Exchanged.nD).tc : Thread Cert.Exchanged.nD Cert.Exchanged.τ).loc Cert.Exchanged.main_arg9))
      ∧ m ((c.tc : Thread Cert.Exchange.nD Cert.Exchange.τ).loc Cert.Exchange.main_arg10) = Layout.block ⟨2, ![256, 128]⟩ ⟨2, ![2048, 128]⟩ 0 8 c (m' (((0 : Dev Cert.Exchanged.nD).tc : Thread Cert.Exchanged.nD Cert.Exchanged.τ).loc Cert.Exchanged.main_arg10))
      ∧ m ((c.tc : Thread Cert.Exchange.nD Cert.Exchange.τ).loc Cert.Exchange.main_arg11) = Layout.block ⟨2, ![8, 1024]⟩ ⟨2, ![64, 1024]⟩ 0 8 c (m' (((0 : Dev Cert.Exchanged.nD).tc : Thread Cert.Exchanged.nD Cert.Exchanged.τ).loc Cert.Exchanged.main_arg11))) →
    ∃ (v0 : Buf (Elt Bits) (((0 : Dev Cert.Exchanged.nD).tc : Thread Cert.Exchanged.nD Cert.Exchanged.τ).loc Cert.Exchanged.main_v5)) (v1 : Buf (Elt Bits) (((0 : Dev Cert.Exchanged.nD).tc : Thread Cert.Exchanged.nD Cert.Exchanged.τ).loc Cert.Exchanged.main_v11)) (v2 : Buf (Elt Bits) (((0 : Dev Cert.Exchanged.nD).tc : Thread Cert.Exchanged.nD Cert.Exchanged.τ).loc Cert.Exchanged.main_v17)) (v3 : Buf (Elt Bits) (((0 : Dev Cert.Exchanged.nD).tc : Thread Cert.Exchanged.nD Cert.Exchanged.τ).loc Cert.Exchanged.main_v23)) (v4 : Buf (Elt Bits) (((0 : Dev Cert.Exchanged.nD).tc : Thread Cert.Exchanged.nD Cert.Exchanged.τ).loc Cert.Exchanged.main_v29)) (v5 : Buf (Elt Bits) (((0 : Dev Cert.Exchanged.nD).tc : Thread Cert.Exchanged.nD Cert.Exchanged.τ).loc Cert.Exchanged.main_v35)) (v6 : Buf (Elt Bits) (((0 : Dev Cert.Exchanged.nD).tc : Thread Cert.Exchanged.nD Cert.Exchanged.τ).loc Cert.Exchanged.main_v41)) (v7 : Buf (Elt Bits) (((0 : Dev Cert.Exchanged.nD).tc : Thread Cert.Exchanged.nD Cert.Exchanged.τ).loc Cert.Exchanged.main_v47)) (v8 : Buf (Elt Bits) (((0 : Dev Cert.Exchanged.nD).tc : Thread Cert.Exchanged.nD Cert.Exchanged.τ).loc Cert.Exchanged.main_v53)) (v9 : Buf (Elt Bits) (((0 : Dev Cert.Exchanged.nD).tc : Thread Cert.Exchanged.nD Cert.Exchanged.τ).loc Cert.Exchanged.main_v59)) (v10 : Buf (Elt Bits) (((0 : Dev Cert.Exchanged.nD).tc : Thread Cert.Exchanged.nD Cert.Exchanged.τ).loc Cert.Exchanged.main_v65)) (v11 : Buf (Elt Bits) (((0 : Dev Cert.Exchanged.nD).tc : Thread Cert.Exchanged.nD Cert.Exchanged.τ).loc Cert.Exchanged.main_v66)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![8, 352, 1024]⟩ ⟨3, ![64, 352, 1024]⟩ 0 8 c v0
          ∧ r.2.mem ((c.tc : Thread Cert.Exchange.nD Cert.Exchange.τ).loc Cert.Exchange.main_v1_1) = Layout.block ⟨3, ![8, 352, 1024]⟩ ⟨3, ![64, 352, 1024]⟩ 0 8 c v1
          ∧ r.2.mem ((c.tc : Thread Cert.Exchange.nD Cert.Exchange.τ).loc Cert.Exchange.main_v1_2) = Layout.block ⟨3, ![8, 1088, 1024]⟩ ⟨3, ![64, 1088, 1024]⟩ 0 8 c v2
          ∧ r.2.mem ((c.tc : Thread Cert.Exchange.nD Cert.Exchange.τ).loc Cert.Exchange.main_v1_3) = Layout.block ⟨3, ![8, 128, 512]⟩ ⟨3, ![64, 128, 512]⟩ 0 8 c v3
          ∧ r.2.mem ((c.tc : Thread Cert.Exchange.nD Cert.Exchange.τ).loc Cert.Exchange.main_v1_4) = Layout.block ⟨3, ![8, 352, 1024]⟩ ⟨3, ![64, 352, 1024]⟩ 0 8 c v4
          ∧ r.2.mem ((c.tc : Thread Cert.Exchange.nD Cert.Exchange.τ).loc Cert.Exchange.main_v1_5) = Layout.block ⟨3, ![8, 352, 1024]⟩ ⟨3, ![64, 352, 1024]⟩ 0 8 c v5
          ∧ r.2.mem ((c.tc : Thread Cert.Exchange.nD Cert.Exchange.τ).loc Cert.Exchange.main_v1_6) = Layout.block ⟨3, ![8, 352, 1024]⟩ ⟨3, ![64, 352, 1024]⟩ 0 8 c v6
          ∧ r.2.mem ((c.tc : Thread Cert.Exchange.nD Cert.Exchange.τ).loc Cert.Exchange.main_v1_7) = Layout.block ⟨3, ![8, 128, 1024]⟩ ⟨3, ![64, 128, 1024]⟩ 0 8 c v7
          ∧ r.2.mem ((c.tc : Thread Cert.Exchange.nD Cert.Exchange.τ).loc Cert.Exchange.main_v1_8) = Layout.block ⟨3, ![8, 128, 1024]⟩ ⟨3, ![64, 128, 1024]⟩ 0 8 c v8
          ∧ r.2.mem ((c.tc : Thread Cert.Exchange.nD Cert.Exchange.τ).loc Cert.Exchange.main_v1_9) = Layout.block ⟨3, ![8, 352, 1024]⟩ ⟨3, ![64, 352, 1024]⟩ 0 8 c v9
          ∧ r.2.mem ((c.tc : Thread Cert.Exchange.nD Cert.Exchange.τ).loc Cert.Exchange.main_v1_10) = Layout.block ⟨3, ![8, 32, 128]⟩ ⟨3, ![64, 32, 128]⟩ 0 8 c v10
          ∧ r.2.mem ((c.tc : Thread Cert.Exchange.nD Cert.Exchange.τ).loc Cert.Exchange.main_v1_11) = v11
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1)
          ∧ r.2.mem ((c.tc : Thread Cert.Exchange.nD Cert.Exchange.τ).loc Cert.Exchange.main_arg2) = m ((c.tc : Thread Cert.Exchange.nD Cert.Exchange.τ).loc Cert.Exchange.main_arg2)
          ∧ r.2.mem ((c.tc : Thread Cert.Exchange.nD Cert.Exchange.τ).loc Cert.Exchange.main_arg3) = m ((c.tc : Thread Cert.Exchange.nD Cert.Exchange.τ).loc Cert.Exchange.main_arg3)
          ∧ r.2.mem ((c.tc : Thread Cert.Exchange.nD Cert.Exchange.τ).loc Cert.Exchange.main_arg4) = m ((c.tc : Thread Cert.Exchange.nD Cert.Exchange.τ).loc Cert.Exchange.main_arg4)
          ∧ r.2.mem ((c.tc : Thread Cert.Exchange.nD Cert.Exchange.τ).loc Cert.Exchange.main_arg5) = m ((c.tc : Thread Cert.Exchange.nD Cert.Exchange.τ).loc Cert.Exchange.main_arg5)
          ∧ r.2.mem ((c.tc : Thread Cert.Exchange.nD Cert.Exchange.τ).loc Cert.Exchange.main_arg6) = m ((c.tc : Thread Cert.Exchange.nD Cert.Exchange.τ).loc Cert.Exchange.main_arg6)
          ∧ r.2.mem ((c.tc : Thread Cert.Exchange.nD Cert.Exchange.τ).loc Cert.Exchange.main_arg7) = m ((c.tc : Thread Cert.Exchange.nD Cert.Exchange.τ).loc Cert.Exchange.main_arg7)
          ∧ r.2.mem ((c.tc : Thread Cert.Exchange.nD Cert.Exchange.τ).loc Cert.Exchange.main_arg8) = m ((c.tc : Thread Cert.Exchange.nD Cert.Exchange.τ).loc Cert.Exchange.main_arg8)
          ∧ r.2.mem ((c.tc : Thread Cert.Exchange.nD Cert.Exchange.τ).loc Cert.Exchange.main_arg9) = m ((c.tc : Thread Cert.Exchange.nD Cert.Exchange.τ).loc Cert.Exchange.main_arg9)
          ∧ r.2.mem ((c.tc : Thread Cert.Exchange.nD Cert.Exchange.τ).loc Cert.Exchange.main_arg10) = m ((c.tc : Thread Cert.Exchange.nD Cert.Exchange.τ).loc Cert.Exchange.main_arg10)
          ∧ r.2.mem ((c.tc : Thread Cert.Exchange.nD Cert.Exchange.τ).loc Cert.Exchange.main_arg11) = m ((c.tc : Thread Cert.Exchange.nD Cert.Exchange.τ).loc Cert.Exchange.main_arg11))
      ∧ θ_run (Cert.Exchanged.defs (F := Bits)) (onTc (τ := Cert.Exchanged.τ) (Cert.Exchanged.main (F := Bits))) ⟨m', fun _ => 0, g'⟩ (fun r =>
          r.2.mem (((0 : Dev Cert.Exchanged.nD).tc : Thread Cert.Exchanged.nD Cert.Exchanged.τ).loc Cert.Exchanged.main_v5) = v0
          ∧ r.2.mem (((0 : Dev Cert.Exchanged.nD).tc : Thread Cert.Exchanged.nD Cert.Exchanged.τ).loc Cert.Exchanged.main_v11) = v1
          ∧ r.2.mem (((0 : Dev Cert.Exchanged.nD).tc : Thread Cert.Exchanged.nD Cert.Exchanged.τ).loc Cert.Exchanged.main_v17) = v2
          ∧ r.2.mem (((0 : Dev Cert.Exchanged.nD).tc : Thread Cert.Exchanged.nD Cert.Exchanged.τ).loc Cert.Exchanged.main_v23) = v3
          ∧ r.2.mem (((0 : Dev Cert.Exchanged.nD).tc : Thread Cert.Exchanged.nD Cert.Exchanged.τ).loc Cert.Exchanged.main_v29) = v4
          ∧ r.2.mem (((0 : Dev Cert.Exchanged.nD).tc : Thread Cert.Exchanged.nD Cert.Exchanged.τ).loc Cert.Exchanged.main_v35) = v5
          ∧ r.2.mem (((0 : Dev Cert.Exchanged.nD).tc : Thread Cert.Exchanged.nD Cert.Exchanged.τ).loc Cert.Exchanged.main_v41) = v6
          ∧ r.2.mem (((0 : Dev Cert.Exchanged.nD).tc : Thread Cert.Exchanged.nD Cert.Exchanged.τ).loc Cert.Exchanged.main_v47) = v7
          ∧ r.2.mem (((0 : Dev Cert.Exchanged.nD).tc : Thread Cert.Exchanged.nD Cert.Exchanged.τ).loc Cert.Exchanged.main_v53) = v8
          ∧ r.2.mem (((0 : Dev Cert.Exchanged.nD).tc : Thread Cert.Exchanged.nD Cert.Exchanged.τ).loc Cert.Exchanged.main_v59) = v9
          ∧ r.2.mem (((0 : Dev Cert.Exchanged.nD).tc : Thread Cert.Exchanged.nD Cert.Exchanged.τ).loc Cert.Exchanged.main_v65) = v10
          ∧ r.2.mem (((0 : Dev Cert.Exchanged.nD).tc : Thread Cert.Exchanged.nD Cert.Exchanged.τ).loc Cert.Exchanged.main_v66) = v11
          ∧ r.2.mem (((0 : Dev Cert.Exchanged.nD).tc : Thread Cert.Exchanged.nD Cert.Exchanged.τ).loc Cert.Exchanged.main_arg0) = m' (((0 : Dev Cert.Exchanged.nD).tc : Thread Cert.Exchanged.nD Cert.Exchanged.τ).loc Cert.Exchanged.main_arg0)
          ∧ r.2.mem (((0 : Dev Cert.Exchanged.nD).tc : Thread Cert.Exchanged.nD Cert.Exchanged.τ).loc Cert.Exchanged.main_arg1) = m' (((0 : Dev Cert.Exchanged.nD).tc : Thread Cert.Exchanged.nD Cert.Exchanged.τ).loc Cert.Exchanged.main_arg1)
          ∧ r.2.mem (((0 : Dev Cert.Exchanged.nD).tc : Thread Cert.Exchanged.nD Cert.Exchanged.τ).loc Cert.Exchanged.main_arg2) = m' (((0 : Dev Cert.Exchanged.nD).tc : Thread Cert.Exchanged.nD Cert.Exchanged.τ).loc Cert.Exchanged.main_arg2)
          ∧ r.2.mem (((0 : Dev Cert.Exchanged.nD).tc : Thread Cert.Exchanged.nD Cert.Exchanged.τ).loc Cert.Exchanged.main_arg3) = m' (((0 : Dev Cert.Exchanged.nD).tc : Thread Cert.Exchanged.nD Cert.Exchanged.τ).loc Cert.Exchanged.main_arg3)
          ∧ r.2.mem (((0 : Dev Cert.Exchanged.nD).tc : Thread Cert.Exchanged.nD Cert.Exchanged.τ).loc Cert.Exchanged.main_arg4) = m' (((0 : Dev Cert.Exchanged.nD).tc : Thread Cert.Exchanged.nD Cert.Exchanged.τ).loc Cert.Exchanged.main_arg4)
          ∧ r.2.mem (((0 : Dev Cert.Exchanged.nD).tc : Thread Cert.Exchanged.nD Cert.Exchanged.τ).loc Cert.Exchanged.main_arg5) = m' (((0 : Dev Cert.Exchanged.nD).tc : Thread Cert.Exchanged.nD Cert.Exchanged.τ).loc Cert.Exchanged.main_arg5)
          ∧ r.2.mem (((0 : Dev Cert.Exchanged.nD).tc : Thread Cert.Exchanged.nD Cert.Exchanged.τ).loc Cert.Exchanged.main_arg6) = m' (((0 : Dev Cert.Exchanged.nD).tc : Thread Cert.Exchanged.nD Cert.Exchanged.τ).loc Cert.Exchanged.main_arg6)
          ∧ r.2.mem (((0 : Dev Cert.Exchanged.nD).tc : Thread Cert.Exchanged.nD Cert.Exchanged.τ).loc Cert.Exchanged.main_arg7) = m' (((0 : Dev Cert.Exchanged.nD).tc : Thread Cert.Exchanged.nD Cert.Exchanged.τ).loc Cert.Exchanged.main_arg7)
          ∧ r.2.mem (((0 : Dev Cert.Exchanged.nD).tc : Thread Cert.Exchanged.nD Cert.Exchanged.τ).loc Cert.Exchanged.main_arg8) = m' (((0 : Dev Cert.Exchanged.nD).tc : Thread Cert.Exchanged.nD Cert.Exchanged.τ).loc Cert.Exchanged.main_arg8)
          ∧ r.2.mem (((0 : Dev Cert.Exchanged.nD).tc : Thread Cert.Exchanged.nD Cert.Exchanged.τ).loc Cert.Exchanged.main_arg9) = m' (((0 : Dev Cert.Exchanged.nD).tc : Thread Cert.Exchanged.nD Cert.Exchanged.τ).loc Cert.Exchanged.main_arg9)
          ∧ r.2.mem (((0 : Dev Cert.Exchanged.nD).tc : Thread Cert.Exchanged.nD Cert.Exchanged.τ).loc Cert.Exchanged.main_arg10) = m' (((0 : Dev Cert.Exchanged.nD).tc : Thread Cert.Exchanged.nD Cert.Exchanged.τ).loc Cert.Exchanged.main_arg10)
          ∧ r.2.mem (((0 : Dev Cert.Exchanged.nD).tc : Thread Cert.Exchanged.nD Cert.Exchanged.τ).loc Cert.Exchanged.main_arg11) = m' (((0 : Dev Cert.Exchanged.nD).tc : Thread Cert.Exchanged.nD Cert.Exchanged.τ).loc Cert.Exchanged.main_arg11))

def preserves_FfnSum_FfnSumIdeal : Prop :=
  True

def algebraic_FfnSumIdeal_FfnSumRefIdeal [hFfnSumIdeal : Cert.FfnSumIdeal.Facts] [hFfnSumRefIdeal : Cert.FfnSumRefIdeal.Facts] : Prop :=
  ∀ (m : (ℓ : Loc Cert.FfnSumIdeal.nD Cert.FfnSumIdeal.τ Cert.FfnSumIdeal.sig) → Buf (Elt Ideal) ℓ) (g : Dev Cert.FfnSumIdeal.nD → PrngReg)
    (m' : (ℓ : Loc Cert.FfnSumRefIdeal.nD Cert.FfnSumRefIdeal.τ Cert.FfnSumRefIdeal.sig) → Buf (Elt Ideal) ℓ) (g' : Dev Cert.FfnSumRefIdeal.nD → PrngReg), Pre_FfnSumIdeal m →
    (∀ c : Dev Cert.FfnSumIdeal.nD,
      m' ((c.tc : Thread Cert.FfnSumRefIdeal.nD Cert.FfnSumRefIdeal.τ).loc Cert.FfnSumRefIdeal.main_arg0) = m ((c.tc : Thread Cert.FfnSumIdeal.nD Cert.FfnSumIdeal.τ).loc Cert.FfnSumIdeal.main_arg0)) →
    ∃ (v0 : (c : Dev Cert.FfnSumIdeal.nD) → Buf (Elt Ideal) ((c.tc : Thread Cert.FfnSumIdeal.nD Cert.FfnSumIdeal.τ).loc Cert.FfnSumIdeal.main_v0)),
      θ_run (Cert.FfnSumIdeal.defs (F := Ideal)) (onTc (τ := Cert.FfnSumIdeal.τ) (Cert.FfnSumIdeal.main (F := Ideal))) ⟨m, fun _ => 0, g⟩ (fun r => ∀ c : Dev Cert.FfnSumIdeal.nD,
          r.2.mem ((c.tc : Thread Cert.FfnSumIdeal.nD Cert.FfnSumIdeal.τ).loc Cert.FfnSumIdeal.main_v0) = v0 c
          ∧ r.2.mem ((c.tc : Thread Cert.FfnSumIdeal.nD Cert.FfnSumIdeal.τ).loc Cert.FfnSumIdeal.main_arg0) = m ((c.tc : Thread Cert.FfnSumIdeal.nD Cert.FfnSumIdeal.τ).loc Cert.FfnSumIdeal.main_arg0))
      ∧ θ_run (Cert.FfnSumRefIdeal.defs (F := Ideal)) (onTc (τ := Cert.FfnSumRefIdeal.τ) (Cert.FfnSumRefIdeal.main (F := Ideal))) ⟨m', fun _ => 0, g'⟩ (fun r => ∀ c : Dev Cert.FfnSumRefIdeal.nD,
          r.2.mem ((c.tc : Thread Cert.FfnSumRefIdeal.nD Cert.FfnSumRefIdeal.τ).loc Cert.FfnSumRefIdeal.main_v1) = v0 c
          ∧ r.2.mem ((c.tc : Thread Cert.FfnSumRefIdeal.nD Cert.FfnSumRefIdeal.τ).loc Cert.FfnSumRefIdeal.main_arg0) = m' ((c.tc : Thread Cert.FfnSumRefIdeal.nD Cert.FfnSumRefIdeal.τ).loc Cert.FfnSumRefIdeal.main_arg0))

def preserves_InSum_InSumIdeal : Prop :=
  True

def algebraic_InSumIdeal_InSumRefIdeal [hInSumIdeal : Cert.InSumIdeal.Facts] [hInSumRefIdeal : Cert.InSumRefIdeal.Facts] : Prop :=
  ∀ (m : (ℓ : Loc Cert.InSumIdeal.nD Cert.InSumIdeal.τ Cert.InSumIdeal.sig) → Buf (Elt Ideal) ℓ) (g : Dev Cert.InSumIdeal.nD → PrngReg)
    (m' : (ℓ : Loc Cert.InSumRefIdeal.nD Cert.InSumRefIdeal.τ Cert.InSumRefIdeal.sig) → Buf (Elt Ideal) ℓ) (g' : Dev Cert.InSumRefIdeal.nD → PrngReg), Pre_InSumIdeal m →
    (∀ c : Dev Cert.InSumIdeal.nD,
      m' ((c.tc : Thread Cert.InSumRefIdeal.nD Cert.InSumRefIdeal.τ).loc Cert.InSumRefIdeal.main_arg0) = m ((c.tc : Thread Cert.InSumIdeal.nD Cert.InSumIdeal.τ).loc Cert.InSumIdeal.main_arg0)) →
    ∃ (v0 : (c : Dev Cert.InSumIdeal.nD) → Buf (Elt Ideal) ((c.tc : Thread Cert.InSumIdeal.nD Cert.InSumIdeal.τ).loc Cert.InSumIdeal.main_v0)),
      θ_run (Cert.InSumIdeal.defs (F := Ideal)) (onTc (τ := Cert.InSumIdeal.τ) (Cert.InSumIdeal.main (F := Ideal))) ⟨m, fun _ => 0, g⟩ (fun r => ∀ c : Dev Cert.InSumIdeal.nD,
          r.2.mem ((c.tc : Thread Cert.InSumIdeal.nD Cert.InSumIdeal.τ).loc Cert.InSumIdeal.main_v0) = v0 c
          ∧ r.2.mem ((c.tc : Thread Cert.InSumIdeal.nD Cert.InSumIdeal.τ).loc Cert.InSumIdeal.main_arg0) = m ((c.tc : Thread Cert.InSumIdeal.nD Cert.InSumIdeal.τ).loc Cert.InSumIdeal.main_arg0))
      ∧ θ_run (Cert.InSumRefIdeal.defs (F := Ideal)) (onTc (τ := Cert.InSumRefIdeal.τ) (Cert.InSumRefIdeal.main (F := Ideal))) ⟨m', fun _ => 0, g'⟩ (fun r => ∀ c : Dev Cert.InSumRefIdeal.nD,
          r.2.mem ((c.tc : Thread Cert.InSumRefIdeal.nD Cert.InSumRefIdeal.τ).loc Cert.InSumRefIdeal.main_v1) = v0 c
          ∧ r.2.mem ((c.tc : Thread Cert.InSumRefIdeal.nD Cert.InSumRefIdeal.τ).loc Cert.InSumRefIdeal.main_arg0) = m' ((c.tc : Thread Cert.InSumRefIdeal.nD Cert.InSumRefIdeal.τ).loc Cert.InSumRefIdeal.main_arg0))

def preserves_AttnSum_AttnSumIdeal : Prop :=
  True

def algebraic_AttnSumIdeal_AttnSumRefIdeal [hAttnSumIdeal : Cert.AttnSumIdeal.Facts] [hAttnSumRefIdeal : Cert.AttnSumRefIdeal.Facts] : Prop :=
  ∀ (m : (ℓ : Loc Cert.AttnSumIdeal.nD Cert.AttnSumIdeal.τ Cert.AttnSumIdeal.sig) → Buf (Elt Ideal) ℓ) (g : Dev Cert.AttnSumIdeal.nD → PrngReg)
    (m' : (ℓ : Loc Cert.AttnSumRefIdeal.nD Cert.AttnSumRefIdeal.τ Cert.AttnSumRefIdeal.sig) → Buf (Elt Ideal) ℓ) (g' : Dev Cert.AttnSumRefIdeal.nD → PrngReg), Pre_AttnSumIdeal m →
    (∀ c : Dev Cert.AttnSumIdeal.nD,
      m' ((c.tc : Thread Cert.AttnSumRefIdeal.nD Cert.AttnSumRefIdeal.τ).loc Cert.AttnSumRefIdeal.main_arg0) = m ((c.tc : Thread Cert.AttnSumIdeal.nD Cert.AttnSumIdeal.τ).loc Cert.AttnSumIdeal.main_arg0)) →
    ∃ (v0 : (c : Dev Cert.AttnSumIdeal.nD) → Buf (Elt Ideal) ((c.tc : Thread Cert.AttnSumIdeal.nD Cert.AttnSumIdeal.τ).loc Cert.AttnSumIdeal.main_v0)),
      θ_run (Cert.AttnSumIdeal.defs (F := Ideal)) (onTc (τ := Cert.AttnSumIdeal.τ) (Cert.AttnSumIdeal.main (F := Ideal))) ⟨m, fun _ => 0, g⟩ (fun r => ∀ c : Dev Cert.AttnSumIdeal.nD,
          r.2.mem ((c.tc : Thread Cert.AttnSumIdeal.nD Cert.AttnSumIdeal.τ).loc Cert.AttnSumIdeal.main_v0) = v0 c
          ∧ r.2.mem ((c.tc : Thread Cert.AttnSumIdeal.nD Cert.AttnSumIdeal.τ).loc Cert.AttnSumIdeal.main_arg0) = m ((c.tc : Thread Cert.AttnSumIdeal.nD Cert.AttnSumIdeal.τ).loc Cert.AttnSumIdeal.main_arg0))
      ∧ θ_run (Cert.AttnSumRefIdeal.defs (F := Ideal)) (onTc (τ := Cert.AttnSumRefIdeal.τ) (Cert.AttnSumRefIdeal.main (F := Ideal))) ⟨m', fun _ => 0, g'⟩ (fun r => ∀ c : Dev Cert.AttnSumRefIdeal.nD,
          r.2.mem ((c.tc : Thread Cert.AttnSumRefIdeal.nD Cert.AttnSumRefIdeal.τ).loc Cert.AttnSumRefIdeal.main_v1) = v0 c
          ∧ r.2.mem ((c.tc : Thread Cert.AttnSumRefIdeal.nD Cert.AttnSumRefIdeal.τ).loc Cert.AttnSumRefIdeal.main_arg0) = m' ((c.tc : Thread Cert.AttnSumRefIdeal.nD Cert.AttnSumRefIdeal.τ).loc Cert.AttnSumRefIdeal.main_arg0))

def preserves_OutSum_OutSumIdeal : Prop :=
  True

def algebraic_OutSumIdeal_OutSumRefIdeal [hOutSumIdeal : Cert.OutSumIdeal.Facts] [hOutSumRefIdeal : Cert.OutSumRefIdeal.Facts] : Prop :=
  ∀ (m : (ℓ : Loc Cert.OutSumIdeal.nD Cert.OutSumIdeal.τ Cert.OutSumIdeal.sig) → Buf (Elt Ideal) ℓ) (g : Dev Cert.OutSumIdeal.nD → PrngReg)
    (m' : (ℓ : Loc Cert.OutSumRefIdeal.nD Cert.OutSumRefIdeal.τ Cert.OutSumRefIdeal.sig) → Buf (Elt Ideal) ℓ) (g' : Dev Cert.OutSumRefIdeal.nD → PrngReg), Pre_OutSumIdeal m →
    (∀ c : Dev Cert.OutSumIdeal.nD,
      m' ((c.tc : Thread Cert.OutSumRefIdeal.nD Cert.OutSumRefIdeal.τ).loc Cert.OutSumRefIdeal.main_arg0) = m ((c.tc : Thread Cert.OutSumIdeal.nD Cert.OutSumIdeal.τ).loc Cert.OutSumIdeal.main_arg0)) →
    ∃ (v0 : (c : Dev Cert.OutSumIdeal.nD) → Buf (Elt Ideal) ((c.tc : Thread Cert.OutSumIdeal.nD Cert.OutSumIdeal.τ).loc Cert.OutSumIdeal.main_v0)),
      θ_run (Cert.OutSumIdeal.defs (F := Ideal)) (onTc (τ := Cert.OutSumIdeal.τ) (Cert.OutSumIdeal.main (F := Ideal))) ⟨m, fun _ => 0, g⟩ (fun r => ∀ c : Dev Cert.OutSumIdeal.nD,
          r.2.mem ((c.tc : Thread Cert.OutSumIdeal.nD Cert.OutSumIdeal.τ).loc Cert.OutSumIdeal.main_v0) = v0 c
          ∧ r.2.mem ((c.tc : Thread Cert.OutSumIdeal.nD Cert.OutSumIdeal.τ).loc Cert.OutSumIdeal.main_arg0) = m ((c.tc : Thread Cert.OutSumIdeal.nD Cert.OutSumIdeal.τ).loc Cert.OutSumIdeal.main_arg0))
      ∧ θ_run (Cert.OutSumRefIdeal.defs (F := Ideal)) (onTc (τ := Cert.OutSumRefIdeal.τ) (Cert.OutSumRefIdeal.main (F := Ideal))) ⟨m', fun _ => 0, g'⟩ (fun r => ∀ c : Dev Cert.OutSumRefIdeal.nD,
          r.2.mem ((c.tc : Thread Cert.OutSumRefIdeal.nD Cert.OutSumRefIdeal.τ).loc Cert.OutSumRefIdeal.main_v1) = v0 c
          ∧ r.2.mem ((c.tc : Thread Cert.OutSumRefIdeal.nD Cert.OutSumRefIdeal.τ).loc Cert.OutSumRefIdeal.main_arg0) = m' ((c.tc : Thread Cert.OutSumRefIdeal.nD Cert.OutSumRefIdeal.τ).loc Cert.OutSumRefIdeal.main_arg0))

def preserves_TapsSum_TapsSumIdeal : Prop :=
  True

def algebraic_TapsSumIdeal_TapsSumRefIdeal [hTapsSumIdeal : Cert.TapsSumIdeal.Facts] [hTapsSumRefIdeal : Cert.TapsSumRefIdeal.Facts] : Prop :=
  ∀ (m : (ℓ : Loc Cert.TapsSumIdeal.nD Cert.TapsSumIdeal.τ Cert.TapsSumIdeal.sig) → Buf (Elt Ideal) ℓ) (g : Dev Cert.TapsSumIdeal.nD → PrngReg)
    (m' : (ℓ : Loc Cert.TapsSumRefIdeal.nD Cert.TapsSumRefIdeal.τ Cert.TapsSumRefIdeal.sig) → Buf (Elt Ideal) ℓ) (g' : Dev Cert.TapsSumRefIdeal.nD → PrngReg), Pre_TapsSumIdeal m →
    (∀ c : Dev Cert.TapsSumIdeal.nD,
      m' ((c.tc : Thread Cert.TapsSumRefIdeal.nD Cert.TapsSumRefIdeal.τ).loc Cert.TapsSumRefIdeal.main_arg0) = m ((c.tc : Thread Cert.TapsSumIdeal.nD Cert.TapsSumIdeal.τ).loc Cert.TapsSumIdeal.main_arg0)) →
    ∃ (v0 : (c : Dev Cert.TapsSumIdeal.nD) → Buf (Elt Ideal) ((c.tc : Thread Cert.TapsSumIdeal.nD Cert.TapsSumIdeal.τ).loc Cert.TapsSumIdeal.main_v0)),
      θ_run (Cert.TapsSumIdeal.defs (F := Ideal)) (onTc (τ := Cert.TapsSumIdeal.τ) (Cert.TapsSumIdeal.main (F := Ideal))) ⟨m, fun _ => 0, g⟩ (fun r => ∀ c : Dev Cert.TapsSumIdeal.nD,
          r.2.mem ((c.tc : Thread Cert.TapsSumIdeal.nD Cert.TapsSumIdeal.τ).loc Cert.TapsSumIdeal.main_v0) = v0 c
          ∧ r.2.mem ((c.tc : Thread Cert.TapsSumIdeal.nD Cert.TapsSumIdeal.τ).loc Cert.TapsSumIdeal.main_arg0) = m ((c.tc : Thread Cert.TapsSumIdeal.nD Cert.TapsSumIdeal.τ).loc Cert.TapsSumIdeal.main_arg0))
      ∧ θ_run (Cert.TapsSumRefIdeal.defs (F := Ideal)) (onTc (τ := Cert.TapsSumRefIdeal.τ) (Cert.TapsSumRefIdeal.main (F := Ideal))) ⟨m', fun _ => 0, g'⟩ (fun r => ∀ c : Dev Cert.TapsSumRefIdeal.nD,
          r.2.mem ((c.tc : Thread Cert.TapsSumRefIdeal.nD Cert.TapsSumRefIdeal.τ).loc Cert.TapsSumRefIdeal.main_v0) = v0 c
          ∧ r.2.mem ((c.tc : Thread Cert.TapsSumRefIdeal.nD Cert.TapsSumRefIdeal.τ).loc Cert.TapsSumRefIdeal.main_arg0) = m' ((c.tc : Thread Cert.TapsSumRefIdeal.nD Cert.TapsSumRefIdeal.τ).loc Cert.TapsSumRefIdeal.main_arg0))

def preserves_GateStep_GateStepIdeal : Prop :=
  True

def algebraic_GateStepIdeal_GateStepRefIdeal [hGateStepIdeal : Cert.GateStepIdeal.Facts] [hGateStepRefIdeal : Cert.GateStepRefIdeal.Facts] : Prop :=
  ∀ (m : (ℓ : Loc Cert.GateStepIdeal.nD Cert.GateStepIdeal.τ Cert.GateStepIdeal.sig) → Buf (Elt Ideal) ℓ) (g : Dev Cert.GateStepIdeal.nD → PrngReg)
    (m' : (ℓ : Loc Cert.GateStepRefIdeal.nD Cert.GateStepRefIdeal.τ Cert.GateStepRefIdeal.sig) → Buf (Elt Ideal) ℓ) (g' : Dev Cert.GateStepRefIdeal.nD → PrngReg), Pre_GateStepIdeal m →
    (∀ c : Dev Cert.GateStepIdeal.nD,
      m' ((c.tc : Thread Cert.GateStepRefIdeal.nD Cert.GateStepRefIdeal.τ).loc Cert.GateStepRefIdeal.main_arg0) = m ((c.tc : Thread Cert.GateStepIdeal.nD Cert.GateStepIdeal.τ).loc Cert.GateStepIdeal.main_arg0)
      ∧ m' ((c.tc : Thread Cert.GateStepRefIdeal.nD Cert.GateStepRefIdeal.τ).loc Cert.GateStepRefIdeal.main_arg1) = m ((c.tc : Thread Cert.GateStepIdeal.nD Cert.GateStepIdeal.τ).loc Cert.GateStepIdeal.main_arg1)
      ∧ m' ((c.tc : Thread Cert.GateStepRefIdeal.nD Cert.GateStepRefIdeal.τ).loc Cert.GateStepRefIdeal.main_arg2) = m ((c.tc : Thread Cert.GateStepIdeal.nD Cert.GateStepIdeal.τ).loc Cert.GateStepIdeal.main_arg2)
      ∧ m' ((c.tc : Thread Cert.GateStepRefIdeal.nD Cert.GateStepRefIdeal.τ).loc Cert.GateStepRefIdeal.main_arg3) = m ((c.tc : Thread Cert.GateStepIdeal.nD Cert.GateStepIdeal.τ).loc Cert.GateStepIdeal.main_arg3)) →
    ∃ (v0 : (c : Dev Cert.GateStepIdeal.nD) → Buf (Elt Ideal) ((c.tc : Thread Cert.GateStepIdeal.nD Cert.GateStepIdeal.τ).loc Cert.GateStepIdeal.main_v0_0)) (v1 : (c : Dev Cert.GateStepIdeal.nD) → Buf (Elt Ideal) ((c.tc : Thread Cert.GateStepIdeal.nD Cert.GateStepIdeal.τ).loc Cert.GateStepIdeal.main_v0_1)) (v2 : (c : Dev Cert.GateStepIdeal.nD) → Buf (Elt Ideal) ((c.tc : Thread Cert.GateStepIdeal.nD Cert.GateStepIdeal.τ).loc Cert.GateStepIdeal.main_v0_2)),
      θ_run (Cert.GateStepIdeal.defs (F := Ideal)) (onTc (τ := Cert.GateStepIdeal.τ) (Cert.GateStepIdeal.main (F := Ideal))) ⟨m, fun _ => 0, g⟩ (fun r => ∀ c : Dev Cert.GateStepIdeal.nD,
          r.2.mem ((c.tc : Thread Cert.GateStepIdeal.nD Cert.GateStepIdeal.τ).loc Cert.GateStepIdeal.main_v0_0) = v0 c
          ∧ r.2.mem ((c.tc : Thread Cert.GateStepIdeal.nD Cert.GateStepIdeal.τ).loc Cert.GateStepIdeal.main_v0_1) = v1 c
          ∧ r.2.mem ((c.tc : Thread Cert.GateStepIdeal.nD Cert.GateStepIdeal.τ).loc Cert.GateStepIdeal.main_v0_2) = v2 c
          ∧ r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
          ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
          ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
          ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3))
      ∧ θ_run (Cert.GateStepRefIdeal.defs (F := Ideal)) (onTc (τ := Cert.GateStepRefIdeal.τ) (Cert.GateStepRefIdeal.main (F := Ideal))) ⟨m', fun _ => 0, g'⟩ (fun r => ∀ c : Dev Cert.GateStepRefIdeal.nD,
          r.2.mem ((c.tc : Thread Cert.GateStepRefIdeal.nD Cert.GateStepRefIdeal.τ).loc Cert.GateStepRefIdeal.main_v23) = v0 c
          ∧ r.2.mem ((c.tc : Thread Cert.GateStepRefIdeal.nD Cert.GateStepRefIdeal.τ).loc Cert.GateStepRefIdeal.main_v4) = v1 c
          ∧ r.2.mem ((c.tc : Thread Cert.GateStepRefIdeal.nD Cert.GateStepRefIdeal.τ).loc Cert.GateStepRefIdeal.main_v10) = v2 c
          ∧ r.2.mem ((c.tc : Thread Cert.GateStepRefIdeal.nD Cert.GateStepRefIdeal.τ).loc Cert.GateStepRefIdeal.main_arg0) = m' ((c.tc : Thread Cert.GateStepRefIdeal.nD Cert.GateStepRefIdeal.τ).loc Cert.GateStepRefIdeal.main_arg0)
          ∧ r.2.mem ((c.tc : Thread Cert.GateStepRefIdeal.nD Cert.GateStepRefIdeal.τ).loc Cert.GateStepRefIdeal.main_arg1) = m' ((c.tc : Thread Cert.GateStepRefIdeal.nD Cert.GateStepRefIdeal.τ).loc Cert.GateStepRefIdeal.main_arg1)
          ∧ r.2.mem ((c.tc : Thread Cert.GateStepRefIdeal.nD Cert.GateStepRefIdeal.τ).loc Cert.GateStepRefIdeal.main_arg2) = m' ((c.tc : Thread Cert.GateStepRefIdeal.nD Cert.GateStepRefIdeal.τ).loc Cert.GateStepRefIdeal.main_arg2)
          ∧ r.2.mem ((c.tc : Thread Cert.GateStepRefIdeal.nD Cert.GateStepRefIdeal.τ).loc Cert.GateStepRefIdeal.main_arg3) = m' ((c.tc : Thread Cert.GateStepRefIdeal.nD Cert.GateStepRefIdeal.τ).loc Cert.GateStepRefIdeal.main_arg3))

def preserves_DownStep_DownStepIdeal : Prop :=
  True

def algebraic_DownStepIdeal_DownStepRefIdeal [hDownStepIdeal : Cert.DownStepIdeal.Facts] [hDownStepRefIdeal : Cert.DownStepRefIdeal.Facts] : Prop :=
  ∀ (m : (ℓ : Loc Cert.DownStepIdeal.nD Cert.DownStepIdeal.τ Cert.DownStepIdeal.sig) → Buf (Elt Ideal) ℓ) (g : Dev Cert.DownStepIdeal.nD → PrngReg)
    (m' : (ℓ : Loc Cert.DownStepRefIdeal.nD Cert.DownStepRefIdeal.τ Cert.DownStepRefIdeal.sig) → Buf (Elt Ideal) ℓ) (g' : Dev Cert.DownStepRefIdeal.nD → PrngReg), Pre_DownStepIdeal m →
    (∀ c : Dev Cert.DownStepIdeal.nD,
      m' ((c.tc : Thread Cert.DownStepRefIdeal.nD Cert.DownStepRefIdeal.τ).loc Cert.DownStepRefIdeal.main_arg0) = m ((c.tc : Thread Cert.DownStepIdeal.nD Cert.DownStepIdeal.τ).loc Cert.DownStepIdeal.main_arg0)
      ∧ m' ((c.tc : Thread Cert.DownStepRefIdeal.nD Cert.DownStepRefIdeal.τ).loc Cert.DownStepRefIdeal.main_arg1) = m ((c.tc : Thread Cert.DownStepIdeal.nD Cert.DownStepIdeal.τ).loc Cert.DownStepIdeal.main_arg1)
      ∧ m' ((c.tc : Thread Cert.DownStepRefIdeal.nD Cert.DownStepRefIdeal.τ).loc Cert.DownStepRefIdeal.main_arg2) = m ((c.tc : Thread Cert.DownStepIdeal.nD Cert.DownStepIdeal.τ).loc Cert.DownStepIdeal.main_arg2)
      ∧ m' ((c.tc : Thread Cert.DownStepRefIdeal.nD Cert.DownStepRefIdeal.τ).loc Cert.DownStepRefIdeal.main_arg3) = m ((c.tc : Thread Cert.DownStepIdeal.nD Cert.DownStepIdeal.τ).loc Cert.DownStepIdeal.main_arg3)) →
    ∃ (v0 : (c : Dev Cert.DownStepIdeal.nD) → Buf (Elt Ideal) ((c.tc : Thread Cert.DownStepIdeal.nD Cert.DownStepIdeal.τ).loc Cert.DownStepIdeal.main_v0_0)) (v1 : (c : Dev Cert.DownStepIdeal.nD) → Buf (Elt Ideal) ((c.tc : Thread Cert.DownStepIdeal.nD Cert.DownStepIdeal.τ).loc Cert.DownStepIdeal.main_v0_1)) (v2 : (c : Dev Cert.DownStepIdeal.nD) → Buf (Elt Ideal) ((c.tc : Thread Cert.DownStepIdeal.nD Cert.DownStepIdeal.τ).loc Cert.DownStepIdeal.main_v0_2)),
      θ_run (Cert.DownStepIdeal.defs (F := Ideal)) (onTc (τ := Cert.DownStepIdeal.τ) (Cert.DownStepIdeal.main (F := Ideal))) ⟨m, fun _ => 0, g⟩ (fun r => ∀ c : Dev Cert.DownStepIdeal.nD,
          r.2.mem ((c.tc : Thread Cert.DownStepIdeal.nD Cert.DownStepIdeal.τ).loc Cert.DownStepIdeal.main_v0_0) = v0 c
          ∧ r.2.mem ((c.tc : Thread Cert.DownStepIdeal.nD Cert.DownStepIdeal.τ).loc Cert.DownStepIdeal.main_v0_1) = v1 c
          ∧ r.2.mem ((c.tc : Thread Cert.DownStepIdeal.nD Cert.DownStepIdeal.τ).loc Cert.DownStepIdeal.main_v0_2) = v2 c
          ∧ r.2.mem ((c.tc : Thread Cert.DownStepIdeal.nD Cert.DownStepIdeal.τ).loc Cert.DownStepIdeal.main_arg0) = m ((c.tc : Thread Cert.DownStepIdeal.nD Cert.DownStepIdeal.τ).loc Cert.DownStepIdeal.main_arg0)
          ∧ r.2.mem ((c.tc : Thread Cert.DownStepIdeal.nD Cert.DownStepIdeal.τ).loc Cert.DownStepIdeal.main_arg1) = m ((c.tc : Thread Cert.DownStepIdeal.nD Cert.DownStepIdeal.τ).loc Cert.DownStepIdeal.main_arg1)
          ∧ r.2.mem ((c.tc : Thread Cert.DownStepIdeal.nD Cert.DownStepIdeal.τ).loc Cert.DownStepIdeal.main_arg2) = m ((c.tc : Thread Cert.DownStepIdeal.nD Cert.DownStepIdeal.τ).loc Cert.DownStepIdeal.main_arg2)
          ∧ r.2.mem ((c.tc : Thread Cert.DownStepIdeal.nD Cert.DownStepIdeal.τ).loc Cert.DownStepIdeal.main_arg3) = m ((c.tc : Thread Cert.DownStepIdeal.nD Cert.DownStepIdeal.τ).loc Cert.DownStepIdeal.main_arg3))
      ∧ θ_run (Cert.DownStepRefIdeal.defs (F := Ideal)) (onTc (τ := Cert.DownStepRefIdeal.τ) (Cert.DownStepRefIdeal.main (F := Ideal))) ⟨m', fun _ => 0, g'⟩ (fun r => ∀ c : Dev Cert.DownStepRefIdeal.nD,
          r.2.mem ((c.tc : Thread Cert.DownStepRefIdeal.nD Cert.DownStepRefIdeal.τ).loc Cert.DownStepRefIdeal.main_v23) = v0 c
          ∧ r.2.mem ((c.tc : Thread Cert.DownStepRefIdeal.nD Cert.DownStepRefIdeal.τ).loc Cert.DownStepRefIdeal.main_v4) = v1 c
          ∧ r.2.mem ((c.tc : Thread Cert.DownStepRefIdeal.nD Cert.DownStepRefIdeal.τ).loc Cert.DownStepRefIdeal.main_v10) = v2 c
          ∧ r.2.mem ((c.tc : Thread Cert.DownStepRefIdeal.nD Cert.DownStepRefIdeal.τ).loc Cert.DownStepRefIdeal.main_arg0) = m' ((c.tc : Thread Cert.DownStepRefIdeal.nD Cert.DownStepRefIdeal.τ).loc Cert.DownStepRefIdeal.main_arg0)
          ∧ r.2.mem ((c.tc : Thread Cert.DownStepRefIdeal.nD Cert.DownStepRefIdeal.τ).loc Cert.DownStepRefIdeal.main_arg1) = m' ((c.tc : Thread Cert.DownStepRefIdeal.nD Cert.DownStepRefIdeal.τ).loc Cert.DownStepRefIdeal.main_arg1)
          ∧ r.2.mem ((c.tc : Thread Cert.DownStepRefIdeal.nD Cert.DownStepRefIdeal.τ).loc Cert.DownStepRefIdeal.main_arg2) = m' ((c.tc : Thread Cert.DownStepRefIdeal.nD Cert.DownStepRefIdeal.τ).loc Cert.DownStepRefIdeal.main_arg2)
          ∧ r.2.mem ((c.tc : Thread Cert.DownStepRefIdeal.nD Cert.DownStepRefIdeal.τ).loc Cert.DownStepRefIdeal.main_arg3) = m' ((c.tc : Thread Cert.DownStepRefIdeal.nD Cert.DownStepRefIdeal.τ).loc Cert.DownStepRefIdeal.main_arg3))

def preserves_InStep_InStepIdeal : Prop :=
  True

def algebraic_InStepIdeal_InStepRefIdeal [hInStepIdeal : Cert.InStepIdeal.Facts] [hInStepRefIdeal : Cert.InStepRefIdeal.Facts] : Prop :=
  ∀ (m : (ℓ : Loc Cert.InStepIdeal.nD Cert.InStepIdeal.τ Cert.InStepIdeal.sig) → Buf (Elt Ideal) ℓ) (g : Dev Cert.InStepIdeal.nD → PrngReg)
    (m' : (ℓ : Loc Cert.InStepRefIdeal.nD Cert.InStepRefIdeal.τ Cert.InStepRefIdeal.sig) → Buf (Elt Ideal) ℓ) (g' : Dev Cert.InStepRefIdeal.nD → PrngReg), Pre_InStepIdeal m →
    (∀ c : Dev Cert.InStepIdeal.nD,
      m' ((c.tc : Thread Cert.InStepRefIdeal.nD Cert.InStepRefIdeal.τ).loc Cert.InStepRefIdeal.main_arg0) = m ((c.tc : Thread Cert.InStepIdeal.nD Cert.InStepIdeal.τ).loc Cert.InStepIdeal.main_arg0)
      ∧ m' ((c.tc : Thread Cert.InStepRefIdeal.nD Cert.InStepRefIdeal.τ).loc Cert.InStepRefIdeal.main_arg1) = m ((c.tc : Thread Cert.InStepIdeal.nD Cert.InStepIdeal.τ).loc Cert.InStepIdeal.main_arg1)
      ∧ m' ((c.tc : Thread Cert.InStepRefIdeal.nD Cert.InStepRefIdeal.τ).loc Cert.InStepRefIdeal.main_arg2) = m ((c.tc : Thread Cert.InStepIdeal.nD Cert.InStepIdeal.τ).loc Cert.InStepIdeal.main_arg2)
      ∧ m' ((c.tc : Thread Cert.InStepRefIdeal.nD Cert.InStepRefIdeal.τ).loc Cert.InStepRefIdeal.main_arg3) = m ((c.tc : Thread Cert.InStepIdeal.nD Cert.InStepIdeal.τ).loc Cert.InStepIdeal.main_arg3)) →
    ∃ (v0 : (c : Dev Cert.InStepIdeal.nD) → Buf (Elt Ideal) ((c.tc : Thread Cert.InStepIdeal.nD Cert.InStepIdeal.τ).loc Cert.InStepIdeal.main_v0_0)) (v1 : (c : Dev Cert.InStepIdeal.nD) → Buf (Elt Ideal) ((c.tc : Thread Cert.InStepIdeal.nD Cert.InStepIdeal.τ).loc Cert.InStepIdeal.main_v0_1)) (v2 : (c : Dev Cert.InStepIdeal.nD) → Buf (Elt Ideal) ((c.tc : Thread Cert.InStepIdeal.nD Cert.InStepIdeal.τ).loc Cert.InStepIdeal.main_v0_2)),
      θ_run (Cert.InStepIdeal.defs (F := Ideal)) (onTc (τ := Cert.InStepIdeal.τ) (Cert.InStepIdeal.main (F := Ideal))) ⟨m, fun _ => 0, g⟩ (fun r => ∀ c : Dev Cert.InStepIdeal.nD,
          r.2.mem ((c.tc : Thread Cert.InStepIdeal.nD Cert.InStepIdeal.τ).loc Cert.InStepIdeal.main_v0_0) = v0 c
          ∧ r.2.mem ((c.tc : Thread Cert.InStepIdeal.nD Cert.InStepIdeal.τ).loc Cert.InStepIdeal.main_v0_1) = v1 c
          ∧ r.2.mem ((c.tc : Thread Cert.InStepIdeal.nD Cert.InStepIdeal.τ).loc Cert.InStepIdeal.main_v0_2) = v2 c
          ∧ r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
          ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
          ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
          ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3))
      ∧ θ_run (Cert.InStepRefIdeal.defs (F := Ideal)) (onTc (τ := Cert.InStepRefIdeal.τ) (Cert.InStepRefIdeal.main (F := Ideal))) ⟨m', fun _ => 0, g'⟩ (fun r => ∀ c : Dev Cert.InStepRefIdeal.nD,
          r.2.mem ((c.tc : Thread Cert.InStepRefIdeal.nD Cert.InStepRefIdeal.τ).loc Cert.InStepRefIdeal.main_v23) = v0 c
          ∧ r.2.mem ((c.tc : Thread Cert.InStepRefIdeal.nD Cert.InStepRefIdeal.τ).loc Cert.InStepRefIdeal.main_v4) = v1 c
          ∧ r.2.mem ((c.tc : Thread Cert.InStepRefIdeal.nD Cert.InStepRefIdeal.τ).loc Cert.InStepRefIdeal.main_v10) = v2 c
          ∧ r.2.mem ((c.tc : Thread Cert.InStepRefIdeal.nD Cert.InStepRefIdeal.τ).loc Cert.InStepRefIdeal.main_arg0) = m' ((c.tc : Thread Cert.InStepRefIdeal.nD Cert.InStepRefIdeal.τ).loc Cert.InStepRefIdeal.main_arg0)
          ∧ r.2.mem ((c.tc : Thread Cert.InStepRefIdeal.nD Cert.InStepRefIdeal.τ).loc Cert.InStepRefIdeal.main_arg1) = m' ((c.tc : Thread Cert.InStepRefIdeal.nD Cert.InStepRefIdeal.τ).loc Cert.InStepRefIdeal.main_arg1)
          ∧ r.2.mem ((c.tc : Thread Cert.InStepRefIdeal.nD Cert.InStepRefIdeal.τ).loc Cert.InStepRefIdeal.main_arg2) = m' ((c.tc : Thread Cert.InStepRefIdeal.nD Cert.InStepRefIdeal.τ).loc Cert.InStepRefIdeal.main_arg2)
          ∧ r.2.mem ((c.tc : Thread Cert.InStepRefIdeal.nD Cert.InStepRefIdeal.τ).loc Cert.InStepRefIdeal.main_arg3) = m' ((c.tc : Thread Cert.InStepRefIdeal.nD Cert.InStepRefIdeal.τ).loc Cert.InStepRefIdeal.main_arg3))

def preserves_AttnStep_AttnStepIdeal : Prop :=
  True

def algebraic_AttnStepIdeal_AttnStepRefIdeal [hAttnStepIdeal : Cert.AttnStepIdeal.Facts] [hAttnStepRefIdeal : Cert.AttnStepRefIdeal.Facts] : Prop :=
  ∀ (m : (ℓ : Loc Cert.AttnStepIdeal.nD Cert.AttnStepIdeal.τ Cert.AttnStepIdeal.sig) → Buf (Elt Ideal) ℓ) (g : Dev Cert.AttnStepIdeal.nD → PrngReg)
    (m' : (ℓ : Loc Cert.AttnStepRefIdeal.nD Cert.AttnStepRefIdeal.τ Cert.AttnStepRefIdeal.sig) → Buf (Elt Ideal) ℓ) (g' : Dev Cert.AttnStepRefIdeal.nD → PrngReg), Pre_AttnStepIdeal m →
    (∀ c : Dev Cert.AttnStepIdeal.nD,
      m' ((c.tc : Thread Cert.AttnStepRefIdeal.nD Cert.AttnStepRefIdeal.τ).loc Cert.AttnStepRefIdeal.main_arg0) = m ((c.tc : Thread Cert.AttnStepIdeal.nD Cert.AttnStepIdeal.τ).loc Cert.AttnStepIdeal.main_arg0)
      ∧ m' ((c.tc : Thread Cert.AttnStepRefIdeal.nD Cert.AttnStepRefIdeal.τ).loc Cert.AttnStepRefIdeal.main_arg1) = m ((c.tc : Thread Cert.AttnStepIdeal.nD Cert.AttnStepIdeal.τ).loc Cert.AttnStepIdeal.main_arg1)
      ∧ m' ((c.tc : Thread Cert.AttnStepRefIdeal.nD Cert.AttnStepRefIdeal.τ).loc Cert.AttnStepRefIdeal.main_arg2) = m ((c.tc : Thread Cert.AttnStepIdeal.nD Cert.AttnStepIdeal.τ).loc Cert.AttnStepIdeal.main_arg2)
      ∧ m' ((c.tc : Thread Cert.AttnStepRefIdeal.nD Cert.AttnStepRefIdeal.τ).loc Cert.AttnStepRefIdeal.main_arg3) = m ((c.tc : Thread Cert.AttnStepIdeal.nD Cert.AttnStepIdeal.τ).loc Cert.AttnStepIdeal.main_arg3)) →
    ∃ (v0 : (c : Dev Cert.AttnStepIdeal.nD) → Buf (Elt Ideal) ((c.tc : Thread Cert.AttnStepIdeal.nD Cert.AttnStepIdeal.τ).loc Cert.AttnStepIdeal.main_v0_0)) (v1 : (c : Dev Cert.AttnStepIdeal.nD) → Buf (Elt Ideal) ((c.tc : Thread Cert.AttnStepIdeal.nD Cert.AttnStepIdeal.τ).loc Cert.AttnStepIdeal.main_v0_1)) (v2 : (c : Dev Cert.AttnStepIdeal.nD) → Buf (Elt Ideal) ((c.tc : Thread Cert.AttnStepIdeal.nD Cert.AttnStepIdeal.τ).loc Cert.AttnStepIdeal.main_v0_2)),
      θ_run (Cert.AttnStepIdeal.defs (F := Ideal)) (onTc (τ := Cert.AttnStepIdeal.τ) (Cert.AttnStepIdeal.main (F := Ideal))) ⟨m, fun _ => 0, g⟩ (fun r => ∀ c : Dev Cert.AttnStepIdeal.nD,
          r.2.mem ((c.tc : Thread Cert.AttnStepIdeal.nD Cert.AttnStepIdeal.τ).loc Cert.AttnStepIdeal.main_v0_0) = v0 c
          ∧ r.2.mem ((c.tc : Thread Cert.AttnStepIdeal.nD Cert.AttnStepIdeal.τ).loc Cert.AttnStepIdeal.main_v0_1) = v1 c
          ∧ r.2.mem ((c.tc : Thread Cert.AttnStepIdeal.nD Cert.AttnStepIdeal.τ).loc Cert.AttnStepIdeal.main_v0_2) = v2 c
          ∧ r.2.mem ((c.tc : Thread Cert.AttnStepIdeal.nD Cert.AttnStepIdeal.τ).loc Cert.AttnStepIdeal.main_arg0) = m ((c.tc : Thread Cert.AttnStepIdeal.nD Cert.AttnStepIdeal.τ).loc Cert.AttnStepIdeal.main_arg0)
          ∧ r.2.mem ((c.tc : Thread Cert.AttnStepIdeal.nD Cert.AttnStepIdeal.τ).loc Cert.AttnStepIdeal.main_arg1) = m ((c.tc : Thread Cert.AttnStepIdeal.nD Cert.AttnStepIdeal.τ).loc Cert.AttnStepIdeal.main_arg1)
          ∧ r.2.mem ((c.tc : Thread Cert.AttnStepIdeal.nD Cert.AttnStepIdeal.τ).loc Cert.AttnStepIdeal.main_arg2) = m ((c.tc : Thread Cert.AttnStepIdeal.nD Cert.AttnStepIdeal.τ).loc Cert.AttnStepIdeal.main_arg2)
          ∧ r.2.mem ((c.tc : Thread Cert.AttnStepIdeal.nD Cert.AttnStepIdeal.τ).loc Cert.AttnStepIdeal.main_arg3) = m ((c.tc : Thread Cert.AttnStepIdeal.nD Cert.AttnStepIdeal.τ).loc Cert.AttnStepIdeal.main_arg3))
      ∧ θ_run (Cert.AttnStepRefIdeal.defs (F := Ideal)) (onTc (τ := Cert.AttnStepRefIdeal.τ) (Cert.AttnStepRefIdeal.main (F := Ideal))) ⟨m', fun _ => 0, g'⟩ (fun r => ∀ c : Dev Cert.AttnStepRefIdeal.nD,
          r.2.mem ((c.tc : Thread Cert.AttnStepRefIdeal.nD Cert.AttnStepRefIdeal.τ).loc Cert.AttnStepRefIdeal.main_v23) = v0 c
          ∧ r.2.mem ((c.tc : Thread Cert.AttnStepRefIdeal.nD Cert.AttnStepRefIdeal.τ).loc Cert.AttnStepRefIdeal.main_v4) = v1 c
          ∧ r.2.mem ((c.tc : Thread Cert.AttnStepRefIdeal.nD Cert.AttnStepRefIdeal.τ).loc Cert.AttnStepRefIdeal.main_v10) = v2 c
          ∧ r.2.mem ((c.tc : Thread Cert.AttnStepRefIdeal.nD Cert.AttnStepRefIdeal.τ).loc Cert.AttnStepRefIdeal.main_arg0) = m' ((c.tc : Thread Cert.AttnStepRefIdeal.nD Cert.AttnStepRefIdeal.τ).loc Cert.AttnStepRefIdeal.main_arg0)
          ∧ r.2.mem ((c.tc : Thread Cert.AttnStepRefIdeal.nD Cert.AttnStepRefIdeal.τ).loc Cert.AttnStepRefIdeal.main_arg1) = m' ((c.tc : Thread Cert.AttnStepRefIdeal.nD Cert.AttnStepRefIdeal.τ).loc Cert.AttnStepRefIdeal.main_arg1)
          ∧ r.2.mem ((c.tc : Thread Cert.AttnStepRefIdeal.nD Cert.AttnStepRefIdeal.τ).loc Cert.AttnStepRefIdeal.main_arg2) = m' ((c.tc : Thread Cert.AttnStepRefIdeal.nD Cert.AttnStepRefIdeal.τ).loc Cert.AttnStepRefIdeal.main_arg2)
          ∧ r.2.mem ((c.tc : Thread Cert.AttnStepRefIdeal.nD Cert.AttnStepRefIdeal.τ).loc Cert.AttnStepRefIdeal.main_arg3) = m' ((c.tc : Thread Cert.AttnStepRefIdeal.nD Cert.AttnStepRefIdeal.τ).loc Cert.AttnStepRefIdeal.main_arg3))

def preserves_OutStep_OutStepIdeal : Prop :=
  True

def algebraic_OutStepIdeal_OutStepRefIdeal [hOutStepIdeal : Cert.OutStepIdeal.Facts] [hOutStepRefIdeal : Cert.OutStepRefIdeal.Facts] : Prop :=
  ∀ (m : (ℓ : Loc Cert.OutStepIdeal.nD Cert.OutStepIdeal.τ Cert.OutStepIdeal.sig) → Buf (Elt Ideal) ℓ) (g : Dev Cert.OutStepIdeal.nD → PrngReg)
    (m' : (ℓ : Loc Cert.OutStepRefIdeal.nD Cert.OutStepRefIdeal.τ Cert.OutStepRefIdeal.sig) → Buf (Elt Ideal) ℓ) (g' : Dev Cert.OutStepRefIdeal.nD → PrngReg), Pre_OutStepIdeal m →
    (∀ c : Dev Cert.OutStepIdeal.nD,
      m' ((c.tc : Thread Cert.OutStepRefIdeal.nD Cert.OutStepRefIdeal.τ).loc Cert.OutStepRefIdeal.main_arg0) = m ((c.tc : Thread Cert.OutStepIdeal.nD Cert.OutStepIdeal.τ).loc Cert.OutStepIdeal.main_arg0)
      ∧ m' ((c.tc : Thread Cert.OutStepRefIdeal.nD Cert.OutStepRefIdeal.τ).loc Cert.OutStepRefIdeal.main_arg1) = m ((c.tc : Thread Cert.OutStepIdeal.nD Cert.OutStepIdeal.τ).loc Cert.OutStepIdeal.main_arg1)
      ∧ m' ((c.tc : Thread Cert.OutStepRefIdeal.nD Cert.OutStepRefIdeal.τ).loc Cert.OutStepRefIdeal.main_arg2) = m ((c.tc : Thread Cert.OutStepIdeal.nD Cert.OutStepIdeal.τ).loc Cert.OutStepIdeal.main_arg2)
      ∧ m' ((c.tc : Thread Cert.OutStepRefIdeal.nD Cert.OutStepRefIdeal.τ).loc Cert.OutStepRefIdeal.main_arg3) = m ((c.tc : Thread Cert.OutStepIdeal.nD Cert.OutStepIdeal.τ).loc Cert.OutStepIdeal.main_arg3)) →
    ∃ (v0 : (c : Dev Cert.OutStepIdeal.nD) → Buf (Elt Ideal) ((c.tc : Thread Cert.OutStepIdeal.nD Cert.OutStepIdeal.τ).loc Cert.OutStepIdeal.main_v0_0)) (v1 : (c : Dev Cert.OutStepIdeal.nD) → Buf (Elt Ideal) ((c.tc : Thread Cert.OutStepIdeal.nD Cert.OutStepIdeal.τ).loc Cert.OutStepIdeal.main_v0_1)) (v2 : (c : Dev Cert.OutStepIdeal.nD) → Buf (Elt Ideal) ((c.tc : Thread Cert.OutStepIdeal.nD Cert.OutStepIdeal.τ).loc Cert.OutStepIdeal.main_v0_2)),
      θ_run (Cert.OutStepIdeal.defs (F := Ideal)) (onTc (τ := Cert.OutStepIdeal.τ) (Cert.OutStepIdeal.main (F := Ideal))) ⟨m, fun _ => 0, g⟩ (fun r => ∀ c : Dev Cert.OutStepIdeal.nD,
          r.2.mem ((c.tc : Thread Cert.OutStepIdeal.nD Cert.OutStepIdeal.τ).loc Cert.OutStepIdeal.main_v0_0) = v0 c
          ∧ r.2.mem ((c.tc : Thread Cert.OutStepIdeal.nD Cert.OutStepIdeal.τ).loc Cert.OutStepIdeal.main_v0_1) = v1 c
          ∧ r.2.mem ((c.tc : Thread Cert.OutStepIdeal.nD Cert.OutStepIdeal.τ).loc Cert.OutStepIdeal.main_v0_2) = v2 c
          ∧ r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
          ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
          ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
          ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3))
      ∧ θ_run (Cert.OutStepRefIdeal.defs (F := Ideal)) (onTc (τ := Cert.OutStepRefIdeal.τ) (Cert.OutStepRefIdeal.main (F := Ideal))) ⟨m', fun _ => 0, g'⟩ (fun r => ∀ c : Dev Cert.OutStepRefIdeal.nD,
          r.2.mem ((c.tc : Thread Cert.OutStepRefIdeal.nD Cert.OutStepRefIdeal.τ).loc Cert.OutStepRefIdeal.main_v23) = v0 c
          ∧ r.2.mem ((c.tc : Thread Cert.OutStepRefIdeal.nD Cert.OutStepRefIdeal.τ).loc Cert.OutStepRefIdeal.main_v4) = v1 c
          ∧ r.2.mem ((c.tc : Thread Cert.OutStepRefIdeal.nD Cert.OutStepRefIdeal.τ).loc Cert.OutStepRefIdeal.main_v10) = v2 c
          ∧ r.2.mem ((c.tc : Thread Cert.OutStepRefIdeal.nD Cert.OutStepRefIdeal.τ).loc Cert.OutStepRefIdeal.main_arg0) = m' ((c.tc : Thread Cert.OutStepRefIdeal.nD Cert.OutStepRefIdeal.τ).loc Cert.OutStepRefIdeal.main_arg0)
          ∧ r.2.mem ((c.tc : Thread Cert.OutStepRefIdeal.nD Cert.OutStepRefIdeal.τ).loc Cert.OutStepRefIdeal.main_arg1) = m' ((c.tc : Thread Cert.OutStepRefIdeal.nD Cert.OutStepRefIdeal.τ).loc Cert.OutStepRefIdeal.main_arg1)
          ∧ r.2.mem ((c.tc : Thread Cert.OutStepRefIdeal.nD Cert.OutStepRefIdeal.τ).loc Cert.OutStepRefIdeal.main_arg2) = m' ((c.tc : Thread Cert.OutStepRefIdeal.nD Cert.OutStepRefIdeal.τ).loc Cert.OutStepRefIdeal.main_arg2)
          ∧ r.2.mem ((c.tc : Thread Cert.OutStepRefIdeal.nD Cert.OutStepRefIdeal.τ).loc Cert.OutStepRefIdeal.main_arg3) = m' ((c.tc : Thread Cert.OutStepRefIdeal.nD Cert.OutStepRefIdeal.τ).loc Cert.OutStepRefIdeal.main_arg3))

def preserves_TapsStep_TapsStepIdeal : Prop :=
  True

def algebraic_TapsStepIdeal_TapsStepRefIdeal [hTapsStepIdeal : Cert.TapsStepIdeal.Facts] [hTapsStepRefIdeal : Cert.TapsStepRefIdeal.Facts] : Prop :=
  ∀ (m : (ℓ : Loc Cert.TapsStepIdeal.nD Cert.TapsStepIdeal.τ Cert.TapsStepIdeal.sig) → Buf (Elt Ideal) ℓ) (g : Dev Cert.TapsStepIdeal.nD → PrngReg)
    (m' : (ℓ : Loc Cert.TapsStepRefIdeal.nD Cert.TapsStepRefIdeal.τ Cert.TapsStepRefIdeal.sig) → Buf (Elt Ideal) ℓ) (g' : Dev Cert.TapsStepRefIdeal.nD → PrngReg), Pre_TapsStepIdeal m →
    (∀ c : Dev Cert.TapsStepIdeal.nD,
      m' ((c.tc : Thread Cert.TapsStepRefIdeal.nD Cert.TapsStepRefIdeal.τ).loc Cert.TapsStepRefIdeal.main_arg0) = m ((c.tc : Thread Cert.TapsStepIdeal.nD Cert.TapsStepIdeal.τ).loc Cert.TapsStepIdeal.main_arg0)
      ∧ m' ((c.tc : Thread Cert.TapsStepRefIdeal.nD Cert.TapsStepRefIdeal.τ).loc Cert.TapsStepRefIdeal.main_arg1) = m ((c.tc : Thread Cert.TapsStepIdeal.nD Cert.TapsStepIdeal.τ).loc Cert.TapsStepIdeal.main_arg1)
      ∧ m' ((c.tc : Thread Cert.TapsStepRefIdeal.nD Cert.TapsStepRefIdeal.τ).loc Cert.TapsStepRefIdeal.main_arg2) = m ((c.tc : Thread Cert.TapsStepIdeal.nD Cert.TapsStepIdeal.τ).loc Cert.TapsStepIdeal.main_arg2)
      ∧ m' ((c.tc : Thread Cert.TapsStepRefIdeal.nD Cert.TapsStepRefIdeal.τ).loc Cert.TapsStepRefIdeal.main_arg3) = m ((c.tc : Thread Cert.TapsStepIdeal.nD Cert.TapsStepIdeal.τ).loc Cert.TapsStepIdeal.main_arg3)) →
    ∃ (v0 : (c : Dev Cert.TapsStepIdeal.nD) → Buf (Elt Ideal) ((c.tc : Thread Cert.TapsStepIdeal.nD Cert.TapsStepIdeal.τ).loc Cert.TapsStepIdeal.main_v0_0)) (v1 : (c : Dev Cert.TapsStepIdeal.nD) → Buf (Elt Ideal) ((c.tc : Thread Cert.TapsStepIdeal.nD Cert.TapsStepIdeal.τ).loc Cert.TapsStepIdeal.main_v0_1)) (v2 : (c : Dev Cert.TapsStepIdeal.nD) → Buf (Elt Ideal) ((c.tc : Thread Cert.TapsStepIdeal.nD Cert.TapsStepIdeal.τ).loc Cert.TapsStepIdeal.main_v0_2)),
      θ_run (Cert.TapsStepIdeal.defs (F := Ideal)) (onTc (τ := Cert.TapsStepIdeal.τ) (Cert.TapsStepIdeal.main (F := Ideal))) ⟨m, fun _ => 0, g⟩ (fun r => ∀ c : Dev Cert.TapsStepIdeal.nD,
          r.2.mem ((c.tc : Thread Cert.TapsStepIdeal.nD Cert.TapsStepIdeal.τ).loc Cert.TapsStepIdeal.main_v0_0) = v0 c
          ∧ r.2.mem ((c.tc : Thread Cert.TapsStepIdeal.nD Cert.TapsStepIdeal.τ).loc Cert.TapsStepIdeal.main_v0_1) = v1 c
          ∧ r.2.mem ((c.tc : Thread Cert.TapsStepIdeal.nD Cert.TapsStepIdeal.τ).loc Cert.TapsStepIdeal.main_v0_2) = v2 c
          ∧ r.2.mem ((c.tc : Thread Cert.TapsStepIdeal.nD Cert.TapsStepIdeal.τ).loc Cert.TapsStepIdeal.main_arg0) = m ((c.tc : Thread Cert.TapsStepIdeal.nD Cert.TapsStepIdeal.τ).loc Cert.TapsStepIdeal.main_arg0)
          ∧ r.2.mem ((c.tc : Thread Cert.TapsStepIdeal.nD Cert.TapsStepIdeal.τ).loc Cert.TapsStepIdeal.main_arg1) = m ((c.tc : Thread Cert.TapsStepIdeal.nD Cert.TapsStepIdeal.τ).loc Cert.TapsStepIdeal.main_arg1)
          ∧ r.2.mem ((c.tc : Thread Cert.TapsStepIdeal.nD Cert.TapsStepIdeal.τ).loc Cert.TapsStepIdeal.main_arg2) = m ((c.tc : Thread Cert.TapsStepIdeal.nD Cert.TapsStepIdeal.τ).loc Cert.TapsStepIdeal.main_arg2)
          ∧ r.2.mem ((c.tc : Thread Cert.TapsStepIdeal.nD Cert.TapsStepIdeal.τ).loc Cert.TapsStepIdeal.main_arg3) = m ((c.tc : Thread Cert.TapsStepIdeal.nD Cert.TapsStepIdeal.τ).loc Cert.TapsStepIdeal.main_arg3))
      ∧ θ_run (Cert.TapsStepRefIdeal.defs (F := Ideal)) (onTc (τ := Cert.TapsStepRefIdeal.τ) (Cert.TapsStepRefIdeal.main (F := Ideal))) ⟨m', fun _ => 0, g'⟩ (fun r => ∀ c : Dev Cert.TapsStepRefIdeal.nD,
          r.2.mem ((c.tc : Thread Cert.TapsStepRefIdeal.nD Cert.TapsStepRefIdeal.τ).loc Cert.TapsStepRefIdeal.main_v23) = v0 c
          ∧ r.2.mem ((c.tc : Thread Cert.TapsStepRefIdeal.nD Cert.TapsStepRefIdeal.τ).loc Cert.TapsStepRefIdeal.main_v4) = v1 c
          ∧ r.2.mem ((c.tc : Thread Cert.TapsStepRefIdeal.nD Cert.TapsStepRefIdeal.τ).loc Cert.TapsStepRefIdeal.main_v10) = v2 c
          ∧ r.2.mem ((c.tc : Thread Cert.TapsStepRefIdeal.nD Cert.TapsStepRefIdeal.τ).loc Cert.TapsStepRefIdeal.main_arg0) = m' ((c.tc : Thread Cert.TapsStepRefIdeal.nD Cert.TapsStepRefIdeal.τ).loc Cert.TapsStepRefIdeal.main_arg0)
          ∧ r.2.mem ((c.tc : Thread Cert.TapsStepRefIdeal.nD Cert.TapsStepRefIdeal.τ).loc Cert.TapsStepRefIdeal.main_arg1) = m' ((c.tc : Thread Cert.TapsStepRefIdeal.nD Cert.TapsStepRefIdeal.τ).loc Cert.TapsStepRefIdeal.main_arg1)
          ∧ r.2.mem ((c.tc : Thread Cert.TapsStepRefIdeal.nD Cert.TapsStepRefIdeal.τ).loc Cert.TapsStepRefIdeal.main_arg2) = m' ((c.tc : Thread Cert.TapsStepRefIdeal.nD Cert.TapsStepRefIdeal.τ).loc Cert.TapsStepRefIdeal.main_arg2)
          ∧ r.2.mem ((c.tc : Thread Cert.TapsStepRefIdeal.nD Cert.TapsStepRefIdeal.τ).loc Cert.TapsStepRefIdeal.main_arg3) = m' ((c.tc : Thread Cert.TapsStepRefIdeal.nD Cert.TapsStepRefIdeal.τ).loc Cert.TapsStepRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v0) = v0 c
          ∧ r.2.mem ((c.tc : Thread Cert.SmallRefIdeal.nD Cert.SmallRefIdeal.τ).loc Cert.SmallRefIdeal.main_v24) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v11) = v3 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3))

def preserves_FfnBack_FfnBackIdeal : Prop :=
  True

def algebraic_FfnBackIdeal_FfnBackRefIdeal [hFfnBackIdeal : Cert.FfnBackIdeal.Facts] [hFfnBackRefIdeal : Cert.FfnBackRefIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)
      ∧ m' ((c.tc : Thread Cert.FfnBackRefIdeal.nD Cert.FfnBackRefIdeal.τ).loc Cert.FfnBackRefIdeal.main_arg4) = m ((c.tc : Thread Cert.FfnBackIdeal.nD Cert.FfnBackIdeal.τ).loc Cert.FfnBackIdeal.main_arg4)
      ∧ m' ((c.tc : Thread Cert.FfnBackRefIdeal.nD Cert.FfnBackRefIdeal.τ).loc Cert.FfnBackRefIdeal.main_arg5) = m ((c.tc : Thread Cert.FfnBackIdeal.nD Cert.FfnBackIdeal.τ).loc Cert.FfnBackIdeal.main_arg5)
      ∧ m' ((c.tc : Thread Cert.FfnBackRefIdeal.nD Cert.FfnBackRefIdeal.τ).loc Cert.FfnBackRefIdeal.main_arg6) = m ((c.tc : Thread Cert.FfnBackIdeal.nD Cert.FfnBackIdeal.τ).loc Cert.FfnBackIdeal.main_arg6)
      ∧ m' ((c.tc : Thread Cert.FfnBackRefIdeal.nD Cert.FfnBackRefIdeal.τ).loc Cert.FfnBackRefIdeal.main_arg7) = m ((c.tc : Thread Cert.FfnBackIdeal.nD Cert.FfnBackIdeal.τ).loc Cert.FfnBackIdeal.main_arg7)) →
    ∃ (v0 : (c : Dev Cert.FfnBackIdeal.nD) → Buf (Elt Ideal) ((c.tc : Thread Cert.FfnBackIdeal.nD Cert.FfnBackIdeal.τ).loc Cert.FfnBackIdeal.main_v0_0)) (v1 : (c : Dev Cert.FfnBackIdeal.nD) → Buf (Elt Ideal) ((c.tc : Thread Cert.FfnBackIdeal.nD Cert.FfnBackIdeal.τ).loc Cert.FfnBackIdeal.main_v0_1)) (v2 : (c : Dev Cert.FfnBackIdeal.nD) → Buf (Elt Ideal) ((c.tc : Thread Cert.FfnBackIdeal.nD Cert.FfnBackIdeal.τ).loc Cert.FfnBackIdeal.main_v0_2)) (v3 : (c : Dev Cert.FfnBackIdeal.nD) → Buf (Elt Ideal) ((c.tc : Thread Cert.FfnBackIdeal.nD Cert.FfnBackIdeal.τ).loc Cert.FfnBackIdeal.main_v0_3)) (v4 : (c : Dev Cert.FfnBackIdeal.nD) → Buf (Elt Ideal) ((c.tc : Thread Cert.FfnBackIdeal.nD Cert.FfnBackIdeal.τ).loc Cert.FfnBackIdeal.main_v0_4)) (v5 : (c : Dev Cert.FfnBackIdeal.nD) → Buf (Elt Ideal) ((c.tc : Thread Cert.FfnBackIdeal.nD Cert.FfnBackIdeal.τ).loc Cert.FfnBackIdeal.main_v0_5)) (v6 : (c : Dev Cert.FfnBackIdeal.nD) → Buf (Elt Ideal) ((c.tc : Thread Cert.FfnBackIdeal.nD Cert.FfnBackIdeal.τ).loc Cert.FfnBackIdeal.main_v0_6)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v0_0) = v0 c
          ∧ r.2.mem ((c.tc : Thread Cert.FfnBackIdeal.nD Cert.FfnBackIdeal.τ).loc Cert.FfnBackIdeal.main_v0_1) = v1 c
          ∧ r.2.mem ((c.tc : Thread Cert.FfnBackIdeal.nD Cert.FfnBackIdeal.τ).loc Cert.FfnBackIdeal.main_v0_2) = v2 c
          ∧ r.2.mem ((c.tc : Thread Cert.FfnBackIdeal.nD Cert.FfnBackIdeal.τ).loc Cert.FfnBackIdeal.main_v0_3) = v3 c
          ∧ r.2.mem ((c.tc : Thread Cert.FfnBackIdeal.nD Cert.FfnBackIdeal.τ).loc Cert.FfnBackIdeal.main_v0_4) = v4 c
          ∧ r.2.mem ((c.tc : Thread Cert.FfnBackIdeal.nD Cert.FfnBackIdeal.τ).loc Cert.FfnBackIdeal.main_v0_5) = v5 c
          ∧ r.2.mem ((c.tc : Thread Cert.FfnBackIdeal.nD Cert.FfnBackIdeal.τ).loc Cert.FfnBackIdeal.main_v0_6) = v6 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
          ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
          ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5)
          ∧ r.2.mem ((c.tc : Thread Cert.FfnBackIdeal.nD Cert.FfnBackIdeal.τ).loc Cert.FfnBackIdeal.main_arg6) = m ((c.tc : Thread Cert.FfnBackIdeal.nD Cert.FfnBackIdeal.τ).loc Cert.FfnBackIdeal.main_arg6)
          ∧ r.2.mem ((c.tc : Thread Cert.FfnBackIdeal.nD Cert.FfnBackIdeal.τ).loc Cert.FfnBackIdeal.main_arg7) = m ((c.tc : Thread Cert.FfnBackIdeal.nD Cert.FfnBackIdeal.τ).loc Cert.FfnBackIdeal.main_arg7))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v50) = v0 c
          ∧ r.2.mem ((c.tc : Thread Cert.FfnBackRefIdeal.nD Cert.FfnBackRefIdeal.τ).loc Cert.FfnBackRefIdeal.main_v53) = v1 c
          ∧ r.2.mem ((c.tc : Thread Cert.FfnBackRefIdeal.nD Cert.FfnBackRefIdeal.τ).loc Cert.FfnBackRefIdeal.main_v54) = v2 c
          ∧ r.2.mem ((c.tc : Thread Cert.FfnBackRefIdeal.nD Cert.FfnBackRefIdeal.τ).loc Cert.FfnBackRefIdeal.main_v55) = v3 c
          ∧ r.2.mem ((c.tc : Thread Cert.FfnBackRefIdeal.nD Cert.FfnBackRefIdeal.τ).loc Cert.FfnBackRefIdeal.main_v58) = v4 c
          ∧ r.2.mem ((c.tc : Thread Cert.FfnBackRefIdeal.nD Cert.FfnBackRefIdeal.τ).loc Cert.FfnBackRefIdeal.main_v61) = v5 c
          ∧ r.2.mem ((c.tc : Thread Cert.FfnBackRefIdeal.nD Cert.FfnBackRefIdeal.τ).loc Cert.FfnBackRefIdeal.main_v62) = v6 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3)
          ∧ r.2.mem ((c.tc : Thread Cert.FfnBackRefIdeal.nD Cert.FfnBackRefIdeal.τ).loc Cert.FfnBackRefIdeal.main_arg4) = m' ((c.tc : Thread Cert.FfnBackRefIdeal.nD Cert.FfnBackRefIdeal.τ).loc Cert.FfnBackRefIdeal.main_arg4)
          ∧ r.2.mem ((c.tc : Thread Cert.FfnBackRefIdeal.nD Cert.FfnBackRefIdeal.τ).loc Cert.FfnBackRefIdeal.main_arg5) = m' ((c.tc : Thread Cert.FfnBackRefIdeal.nD Cert.FfnBackRefIdeal.τ).loc Cert.FfnBackRefIdeal.main_arg5)
          ∧ r.2.mem ((c.tc : Thread Cert.FfnBackRefIdeal.nD Cert.FfnBackRefIdeal.τ).loc Cert.FfnBackRefIdeal.main_arg6) = m' ((c.tc : Thread Cert.FfnBackRefIdeal.nD Cert.FfnBackRefIdeal.τ).loc Cert.FfnBackRefIdeal.main_arg6)
          ∧ r.2.mem ((c.tc : Thread Cert.FfnBackRefIdeal.nD Cert.FfnBackRefIdeal.τ).loc Cert.FfnBackRefIdeal.main_arg7) = m' ((c.tc : Thread Cert.FfnBackRefIdeal.nD Cert.FfnBackRefIdeal.τ).loc Cert.FfnBackRefIdeal.main_arg7))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v24) = v0 c
          ∧ r.2.mem ((c.tc : Thread Cert.FfnFwdRefIdeal.nD Cert.FfnFwdRefIdeal.τ).loc Cert.FfnFwdRefIdeal.main_v25) = v1 c
          ∧ r.2.mem ((c.tc : Thread Cert.FfnFwdRefIdeal.nD Cert.FfnFwdRefIdeal.τ).loc Cert.FfnFwdRefIdeal.main_v26) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)
      ∧ m' ((c.tc : Thread Cert.NormBackRefIdeal.nD Cert.NormBackRefIdeal.τ).loc Cert.NormBackRefIdeal.main_arg4) = m ((c.tc : Thread Cert.NormBackIdeal.nD Cert.NormBackIdeal.τ).loc Cert.NormBackIdeal.main_arg4)
      ∧ m' ((c.tc : Thread Cert.NormBackRefIdeal.nD Cert.NormBackRefIdeal.τ).loc Cert.NormBackRefIdeal.main_arg5) = m ((c.tc : Thread Cert.NormBackIdeal.nD Cert.NormBackIdeal.τ).loc Cert.NormBackIdeal.main_arg5)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3)
          ∧ r.2.mem ((c.tc : Thread Cert.NormBackIdeal.nD Cert.NormBackIdeal.τ).loc Cert.NormBackIdeal.main_arg4) = m ((c.tc : Thread Cert.NormBackIdeal.nD Cert.NormBackIdeal.τ).loc Cert.NormBackIdeal.main_arg4)
          ∧ r.2.mem ((c.tc : Thread Cert.NormBackIdeal.nD Cert.NormBackIdeal.τ).loc Cert.NormBackIdeal.main_arg5) = m ((c.tc : Thread Cert.NormBackIdeal.nD Cert.NormBackIdeal.τ).loc Cert.NormBackIdeal.main_arg5))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v27) = v0 c
          ∧ r.2.mem ((c.tc : Thread Cert.NormBackRefIdeal.nD Cert.NormBackRefIdeal.τ).loc Cert.NormBackRefIdeal.main_v26) = v1 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3)
          ∧ r.2.mem ((c.tc : Thread Cert.NormBackRefIdeal.nD Cert.NormBackRefIdeal.τ).loc Cert.NormBackRefIdeal.main_arg4) = m' ((c.tc : Thread Cert.NormBackRefIdeal.nD Cert.NormBackRefIdeal.τ).loc Cert.NormBackRefIdeal.main_arg4)
          ∧ r.2.mem ((c.tc : Thread Cert.NormBackRefIdeal.nD Cert.NormBackRefIdeal.τ).loc Cert.NormBackRefIdeal.main_arg5) = m' ((c.tc : Thread Cert.NormBackRefIdeal.nD Cert.NormBackRefIdeal.τ).loc Cert.NormBackRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v26) = v0 c
          ∧ r.2.mem ((c.tc : Thread Cert.LossRefIdeal.nD Cert.LossRefIdeal.τ).loc Cert.LossRefIdeal.main_v29) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_WGrad_WGradIdeal : Prop :=
  True

def algebraic_WGradIdeal_WGradRefIdeal [hWGradIdeal : Cert.WGradIdeal.Facts] [hWGradRefIdeal : Cert.WGradRefIdeal.Facts] : Prop :=
  ∀ (m : (ℓ : Loc Cert.WGradIdeal.nD Cert.WGradIdeal.τ Cert.WGradIdeal.sig) → Buf (Elt Ideal) ℓ) (g : Dev Cert.WGradIdeal.nD → PrngReg)
    (m' : (ℓ : Loc Cert.WGradRefIdeal.nD Cert.WGradRefIdeal.τ Cert.WGradRefIdeal.sig) → Buf (Elt Ideal) ℓ) (g' : Dev Cert.WGradRefIdeal.nD → PrngReg), Pre_WGradIdeal m →
    (∀ c : Dev Cert.WGradIdeal.nD,
      m' ((c.tc : Thread Cert.WGradRefIdeal.nD Cert.WGradRefIdeal.τ).loc Cert.WGradRefIdeal.main_arg0) = m ((c.tc : Thread Cert.WGradIdeal.nD Cert.WGradIdeal.τ).loc Cert.WGradIdeal.main_arg0)
      ∧ m' ((c.tc : Thread Cert.WGradRefIdeal.nD Cert.WGradRefIdeal.τ).loc Cert.WGradRefIdeal.main_arg1) = m ((c.tc : Thread Cert.WGradIdeal.nD Cert.WGradIdeal.τ).loc Cert.WGradIdeal.main_arg1)) →
    ∃ (v0 : (c : Dev Cert.WGradIdeal.nD) → Buf (Elt Ideal) ((c.tc : Thread Cert.WGradIdeal.nD Cert.WGradIdeal.τ).loc Cert.WGradIdeal.main_v0)),
      θ_run (Cert.WGradIdeal.defs (F := Ideal)) (onTc (τ := Cert.WGradIdeal.τ) (Cert.WGradIdeal.main (F := Ideal))) ⟨m, fun _ => 0, g⟩ (fun r => ∀ c : Dev Cert.WGradIdeal.nD,
          r.2.mem ((c.tc : Thread Cert.WGradIdeal.nD Cert.WGradIdeal.τ).loc Cert.WGradIdeal.main_v0) = v0 c
          ∧ r.2.mem ((c.tc : Thread Cert.WGradIdeal.nD Cert.WGradIdeal.τ).loc Cert.WGradIdeal.main_arg0) = m ((c.tc : Thread Cert.WGradIdeal.nD Cert.WGradIdeal.τ).loc Cert.WGradIdeal.main_arg0)
          ∧ r.2.mem ((c.tc : Thread Cert.WGradIdeal.nD Cert.WGradIdeal.τ).loc Cert.WGradIdeal.main_arg1) = m ((c.tc : Thread Cert.WGradIdeal.nD Cert.WGradIdeal.τ).loc Cert.WGradIdeal.main_arg1))
      ∧ θ_run (Cert.WGradRefIdeal.defs (F := Ideal)) (onTc (τ := Cert.WGradRefIdeal.τ) (Cert.WGradRefIdeal.main (F := Ideal))) ⟨m', fun _ => 0, g'⟩ (fun r => ∀ c : Dev Cert.WGradRefIdeal.nD,
          r.2.mem ((c.tc : Thread Cert.WGradRefIdeal.nD Cert.WGradRefIdeal.τ).loc Cert.WGradRefIdeal.main_v4) = v0 c
          ∧ r.2.mem ((c.tc : Thread Cert.WGradRefIdeal.nD Cert.WGradRefIdeal.τ).loc Cert.WGradRefIdeal.main_arg0) = m' ((c.tc : Thread Cert.WGradRefIdeal.nD Cert.WGradRefIdeal.τ).loc Cert.WGradRefIdeal.main_arg0)
          ∧ r.2.mem ((c.tc : Thread Cert.WGradRefIdeal.nD Cert.WGradRefIdeal.τ).loc Cert.WGradRefIdeal.main_arg1) = m' ((c.tc : Thread Cert.WGradRefIdeal.nD Cert.WGradRefIdeal.τ).loc Cert.WGradRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v26) = v0 c
          ∧ r.2.mem ((c.tc : Thread Cert.MixRefIdeal.nD Cert.MixRefIdeal.τ).loc Cert.MixRefIdeal.main_v5) = v1 c
          ∧ r.2.mem ((c.tc : Thread Cert.MixRefIdeal.nD Cert.MixRefIdeal.τ).loc Cert.MixRefIdeal.main_v7) = v2 c
          ∧ r.2.mem ((c.tc : Thread Cert.MixRefIdeal.nD Cert.MixRefIdeal.τ).loc Cert.MixRefIdeal.main_v27) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_MixBack_MixBackIdeal : Prop :=
  True

def algebraic_MixBackIdeal_MixBackRefIdeal [hMixBackIdeal : Cert.MixBackIdeal.Facts] [hMixBackRefIdeal : Cert.MixBackRefIdeal.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackRefIdeal.nD Cert.MixBackRefIdeal.τ Cert.MixBackRefIdeal.sig) → Buf (Elt Ideal) ℓ) (g' : Dev Cert.MixBackRefIdeal.nD → PrngReg), Pre_MixBackIdeal m →
    (∀ c : Dev Cert.MixBackIdeal.nD,
      m' ((c.tc : Thread Cert.MixBackRefIdeal.nD Cert.MixBackRefIdeal.τ).loc Cert.MixBackRefIdeal.main_arg0) = m ((c.tc : Thread Cert.MixBackIdeal.nD Cert.MixBackIdeal.τ).loc Cert.MixBackIdeal.main_arg0)
      ∧ m' ((c.tc : Thread Cert.MixBackRefIdeal.nD Cert.MixBackRefIdeal.τ).loc Cert.MixBackRefIdeal.main_arg1) = m ((c.tc : Thread Cert.MixBackIdeal.nD Cert.MixBackIdeal.τ).loc Cert.MixBackIdeal.main_arg1)
      ∧ m' ((c.tc : Thread Cert.MixBackRefIdeal.nD Cert.MixBackRefIdeal.τ).loc Cert.MixBackRefIdeal.main_arg2) = m ((c.tc : Thread Cert.MixBackIdeal.nD Cert.MixBackIdeal.τ).loc Cert.MixBackIdeal.main_arg2)
      ∧ m' ((c.tc : Thread Cert.MixBackRefIdeal.nD Cert.MixBackRefIdeal.τ).loc Cert.MixBackRefIdeal.main_arg3) = m ((c.tc : Thread Cert.MixBackIdeal.nD Cert.MixBackIdeal.τ).loc Cert.MixBackIdeal.main_arg3)
      ∧ m' ((c.tc : Thread Cert.MixBackRefIdeal.nD Cert.MixBackRefIdeal.τ).loc Cert.MixBackRefIdeal.main_arg4) = m ((c.tc : Thread Cert.MixBackIdeal.nD Cert.MixBackIdeal.τ).loc Cert.MixBackIdeal.main_arg4)
      ∧ m' ((c.tc : Thread Cert.MixBackRefIdeal.nD Cert.MixBackRefIdeal.τ).loc Cert.MixBackRefIdeal.main_arg5) = m ((c.tc : Thread Cert.MixBackIdeal.nD Cert.MixBackIdeal.τ).loc Cert.MixBackIdeal.main_arg5)
      ∧ m' ((c.tc : Thread Cert.MixBackRefIdeal.nD Cert.MixBackRefIdeal.τ).loc Cert.MixBackRefIdeal.main_arg6) = m ((c.tc : Thread Cert.MixBackIdeal.nD Cert.MixBackIdeal.τ).loc Cert.MixBackIdeal.main_arg6)
      ∧ m' ((c.tc : Thread Cert.MixBackRefIdeal.nD Cert.MixBackRefIdeal.τ).loc Cert.MixBackRefIdeal.main_arg7) = m ((c.tc : Thread Cert.MixBackIdeal.nD Cert.MixBackIdeal.τ).loc Cert.MixBackIdeal.main_arg7)) →
    ∃ (v0 : (c : Dev Cert.MixBackIdeal.nD) → Buf (Elt Ideal) ((c.tc : Thread Cert.MixBackIdeal.nD Cert.MixBackIdeal.τ).loc Cert.MixBackIdeal.main_v0_0)) (v1 : (c : Dev Cert.MixBackIdeal.nD) → Buf (Elt Ideal) ((c.tc : Thread Cert.MixBackIdeal.nD Cert.MixBackIdeal.τ).loc Cert.MixBackIdeal.main_v0_1)) (v2 : (c : Dev Cert.MixBackIdeal.nD) → Buf (Elt Ideal) ((c.tc : Thread Cert.MixBackIdeal.nD Cert.MixBackIdeal.τ).loc Cert.MixBackIdeal.main_v0_2)) (v3 : (c : Dev Cert.MixBackIdeal.nD) → Buf (Elt Ideal) ((c.tc : Thread Cert.MixBackIdeal.nD Cert.MixBackIdeal.τ).loc Cert.MixBackIdeal.main_v0_3)) (v4 : (c : Dev Cert.MixBackIdeal.nD) → Buf (Elt Ideal) ((c.tc : Thread Cert.MixBackIdeal.nD Cert.MixBackIdeal.τ).loc Cert.MixBackIdeal.main_v0_4)) (v5 : (c : Dev Cert.MixBackIdeal.nD) → Buf (Elt Ideal) ((c.tc : Thread Cert.MixBackIdeal.nD Cert.MixBackIdeal.τ).loc Cert.MixBackIdeal.main_v0_5)) (v6 : (c : Dev Cert.MixBackIdeal.nD) → Buf (Elt Ideal) ((c.tc : Thread Cert.MixBackIdeal.nD Cert.MixBackIdeal.τ).loc Cert.MixBackIdeal.main_v0_6)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v0_0) = v0 c
          ∧ r.2.mem ((c.tc : Thread Cert.MixBackIdeal.nD Cert.MixBackIdeal.τ).loc Cert.MixBackIdeal.main_v0_1) = v1 c
          ∧ r.2.mem ((c.tc : Thread Cert.MixBackIdeal.nD Cert.MixBackIdeal.τ).loc Cert.MixBackIdeal.main_v0_2) = v2 c
          ∧ r.2.mem ((c.tc : Thread Cert.MixBackIdeal.nD Cert.MixBackIdeal.τ).loc Cert.MixBackIdeal.main_v0_3) = v3 c
          ∧ r.2.mem ((c.tc : Thread Cert.MixBackIdeal.nD Cert.MixBackIdeal.τ).loc Cert.MixBackIdeal.main_v0_4) = v4 c
          ∧ r.2.mem ((c.tc : Thread Cert.MixBackIdeal.nD Cert.MixBackIdeal.τ).loc Cert.MixBackIdeal.main_v0_5) = v5 c
          ∧ r.2.mem ((c.tc : Thread Cert.MixBackIdeal.nD Cert.MixBackIdeal.τ).loc Cert.MixBackIdeal.main_v0_6) = v6 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
          ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
          ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
          ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7))
      ∧ θ_run (Cert.MixBackRefIdeal.defs (F := Ideal)) (onTc (τ := Cert.MixBackRefIdeal.τ) (Cert.MixBackRefIdeal.main (F := Ideal))) ⟨m', fun _ => 0, g'⟩ (fun r => ∀ c : Dev Cert.MixBackRefIdeal.nD,
          r.2.mem ((c.tc : Thread Cert.MixBackRefIdeal.nD Cert.MixBackRefIdeal.τ).loc Cert.MixBackRefIdeal.main_v37) = v0 c
          ∧ r.2.mem ((c.tc : Thread Cert.MixBackRefIdeal.nD Cert.MixBackRefIdeal.τ).loc Cert.MixBackRefIdeal.main_v38) = v1 c
          ∧ r.2.mem ((c.tc : Thread Cert.MixBackRefIdeal.nD Cert.MixBackRefIdeal.τ).loc Cert.MixBackRefIdeal.main_v39) = v2 c
          ∧ r.2.mem ((c.tc : Thread Cert.MixBackRefIdeal.nD Cert.MixBackRefIdeal.τ).loc Cert.MixBackRefIdeal.main_v40) = v3 c
          ∧ r.2.mem ((c.tc : Thread Cert.MixBackRefIdeal.nD Cert.MixBackRefIdeal.τ).loc Cert.MixBackRefIdeal.main_v42) = v4 c
          ∧ r.2.mem ((c.tc : Thread Cert.MixBackRefIdeal.nD Cert.MixBackRefIdeal.τ).loc Cert.MixBackRefIdeal.main_v43) = v5 c
          ∧ r.2.mem ((c.tc : Thread Cert.MixBackRefIdeal.nD Cert.MixBackRefIdeal.τ).loc Cert.MixBackRefIdeal.main_v45) = v6 c
          ∧ r.2.mem ((c.tc : Thread Cert.MixBackRefIdeal.nD Cert.MixBackRefIdeal.τ).loc Cert.MixBackRefIdeal.main_arg0) = m' ((c.tc : Thread Cert.MixBackRefIdeal.nD Cert.MixBackRefIdeal.τ).loc Cert.MixBackRefIdeal.main_arg0)
          ∧ r.2.mem ((c.tc : Thread Cert.MixBackRefIdeal.nD Cert.MixBackRefIdeal.τ).loc Cert.MixBackRefIdeal.main_arg1) = m' ((c.tc : Thread Cert.MixBackRefIdeal.nD Cert.MixBackRefIdeal.τ).loc Cert.MixBackRefIdeal.main_arg1)
          ∧ r.2.mem ((c.tc : Thread Cert.MixBackRefIdeal.nD Cert.MixBackRefIdeal.τ).loc Cert.MixBackRefIdeal.main_arg2) = m' ((c.tc : Thread Cert.MixBackRefIdeal.nD Cert.MixBackRefIdeal.τ).loc Cert.MixBackRefIdeal.main_arg2)
          ∧ r.2.mem ((c.tc : Thread Cert.MixBackRefIdeal.nD Cert.MixBackRefIdeal.τ).loc Cert.MixBackRefIdeal.main_arg3) = m' ((c.tc : Thread Cert.MixBackRefIdeal.nD Cert.MixBackRefIdeal.τ).loc Cert.MixBackRefIdeal.main_arg3)
          ∧ r.2.mem ((c.tc : Thread Cert.MixBackRefIdeal.nD Cert.MixBackRefIdeal.τ).loc Cert.MixBackRefIdeal.main_arg4) = m' ((c.tc : Thread Cert.MixBackRefIdeal.nD Cert.MixBackRefIdeal.τ).loc Cert.MixBackRefIdeal.main_arg4)
          ∧ r.2.mem ((c.tc : Thread Cert.MixBackRefIdeal.nD Cert.MixBackRefIdeal.τ).loc Cert.MixBackRefIdeal.main_arg5) = m' ((c.tc : Thread Cert.MixBackRefIdeal.nD Cert.MixBackRefIdeal.τ).loc Cert.MixBackRefIdeal.main_arg5)
          ∧ r.2.mem ((c.tc : Thread Cert.MixBackRefIdeal.nD Cert.MixBackRefIdeal.τ).loc Cert.MixBackRefIdeal.main_arg6) = m' ((c.tc : Thread Cert.MixBackRefIdeal.nD Cert.MixBackRefIdeal.τ).loc Cert.MixBackRefIdeal.main_arg6)
          ∧ r.2.mem ((c.tc : Thread Cert.MixBackRefIdeal.nD Cert.MixBackRefIdeal.τ).loc Cert.MixBackRefIdeal.main_arg7) = m' ((c.tc : Thread Cert.MixBackRefIdeal.nD Cert.MixBackRefIdeal.τ).loc Cert.MixBackRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_v22) = v1 c
          ∧ r.2.mem ((c.tc : Thread Cert.MergeRefIdeal.nD Cert.MergeRefIdeal.τ).loc Cert.MergeRefIdeal.main_v29) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def Claim : Prop :=
  ∃ (hKernel : Cert.Kernel.Facts) (hKernelIdeal : Cert.KernelIdeal.Facts) (hReferenceIdeal : Cert.ReferenceIdeal.Facts) (hReference : Cert.Reference.Facts) (hExchange : Cert.Exchange.Facts) (hExchangeIdeal : Cert.ExchangeIdeal.Facts) (hExchangedIdeal : Cert.ExchangedIdeal.Facts) (hExchanged : Cert.Exchanged.Facts) (hFfnSum : Cert.FfnSum.Facts) (hFfnSumIdeal : Cert.FfnSumIdeal.Facts) (hFfnSumRefIdeal : Cert.FfnSumRefIdeal.Facts) (hInSum : Cert.InSum.Facts) (hInSumIdeal : Cert.InSumIdeal.Facts) (hInSumRefIdeal : Cert.InSumRefIdeal.Facts) (hAttnSum : Cert.AttnSum.Facts) (hAttnSumIdeal : Cert.AttnSumIdeal.Facts) (hAttnSumRefIdeal : Cert.AttnSumRefIdeal.Facts) (hOutSum : Cert.OutSum.Facts) (hOutSumIdeal : Cert.OutSumIdeal.Facts) (hOutSumRefIdeal : Cert.OutSumRefIdeal.Facts) (hTapsSum : Cert.TapsSum.Facts) (hTapsSumIdeal : Cert.TapsSumIdeal.Facts) (hTapsSumRefIdeal : Cert.TapsSumRefIdeal.Facts) (hGateStep : Cert.GateStep.Facts) (hGateStepIdeal : Cert.GateStepIdeal.Facts) (hGateStepRefIdeal : Cert.GateStepRefIdeal.Facts) (hDownStep : Cert.DownStep.Facts) (hDownStepIdeal : Cert.DownStepIdeal.Facts) (hDownStepRefIdeal : Cert.DownStepRefIdeal.Facts) (hInStep : Cert.InStep.Facts) (hInStepIdeal : Cert.InStepIdeal.Facts) (hInStepRefIdeal : Cert.InStepRefIdeal.Facts) (hAttnStep : Cert.AttnStep.Facts) (hAttnStepIdeal : Cert.AttnStepIdeal.Facts) (hAttnStepRefIdeal : Cert.AttnStepRefIdeal.Facts) (hOutStep : Cert.OutStep.Facts) (hOutStepIdeal : Cert.OutStepIdeal.Facts) (hOutStepRefIdeal : Cert.OutStepRefIdeal.Facts) (hTapsStep : Cert.TapsStep.Facts) (hTapsStepIdeal : Cert.TapsStepIdeal.Facts) (hTapsStepRefIdeal : Cert.TapsStepRefIdeal.Facts) (hSmall : Cert.Small.Facts) (hSmallIdeal : Cert.SmallIdeal.Facts) (hSmallRefIdeal : Cert.SmallRefIdeal.Facts) (hFfnBack : Cert.FfnBack.Facts) (hFfnBackIdeal : Cert.FfnBackIdeal.Facts) (hFfnBackRefIdeal : Cert.FfnBackRefIdeal.Facts) (hFfnFwd : Cert.FfnFwd.Facts) (hFfnFwdIdeal : Cert.FfnFwdIdeal.Facts) (hFfnFwdRefIdeal : Cert.FfnFwdRefIdeal.Facts) (hNorm : Cert.Norm.Facts) (hNormIdeal : Cert.NormIdeal.Facts) (hNormRefIdeal : Cert.NormRefIdeal.Facts) (hNormBack : Cert.NormBack.Facts) (hNormBackIdeal : Cert.NormBackIdeal.Facts) (hNormBackRefIdeal : Cert.NormBackRefIdeal.Facts) (hLoss : Cert.Loss.Facts) (hLossIdeal : Cert.LossIdeal.Facts) (hLossRefIdeal : Cert.LossRefIdeal.Facts) (hWGrad : Cert.WGrad.Facts) (hWGradIdeal : Cert.WGradIdeal.Facts) (hWGradRefIdeal : Cert.WGradRefIdeal.Facts) (hMix : Cert.Mix.Facts) (hMixIdeal : Cert.MixIdeal.Facts) (hMixRefIdeal : Cert.MixRefIdeal.Facts) (hMixBack : Cert.MixBack.Facts) (hMixBackIdeal : Cert.MixBackIdeal.Facts) (hMixBackRefIdeal : Cert.MixBackRefIdeal.Facts) (hMerge : Cert.Merge.Facts) (hMergeIdeal : Cert.MergeIdeal.Facts) (hMergeRefIdeal : Cert.MergeRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Exchange (hExchange := hExchange)
    ∧ quiescent_ExchangeIdeal (hExchangeIdeal := hExchangeIdeal)
    ∧ quiescent_ExchangedIdeal (hExchangedIdeal := hExchangedIdeal)
    ∧ quiescent_Exchanged (hExchanged := hExchanged)
    ∧ quiescent_FfnSum (hFfnSum := hFfnSum)
    ∧ quiescent_FfnSumIdeal (hFfnSumIdeal := hFfnSumIdeal)
    ∧ quiescent_FfnSumRefIdeal (hFfnSumRefIdeal := hFfnSumRefIdeal)
    ∧ quiescent_InSum (hInSum := hInSum)
    ∧ quiescent_InSumIdeal (hInSumIdeal := hInSumIdeal)
    ∧ quiescent_InSumRefIdeal (hInSumRefIdeal := hInSumRefIdeal)
    ∧ quiescent_AttnSum (hAttnSum := hAttnSum)
    ∧ quiescent_AttnSumIdeal (hAttnSumIdeal := hAttnSumIdeal)
    ∧ quiescent_AttnSumRefIdeal (hAttnSumRefIdeal := hAttnSumRefIdeal)
    ∧ quiescent_OutSum (hOutSum := hOutSum)
    ∧ quiescent_OutSumIdeal (hOutSumIdeal := hOutSumIdeal)
    ∧ quiescent_OutSumRefIdeal (hOutSumRefIdeal := hOutSumRefIdeal)
    ∧ quiescent_TapsSum (hTapsSum := hTapsSum)
    ∧ quiescent_TapsSumIdeal (hTapsSumIdeal := hTapsSumIdeal)
    ∧ quiescent_TapsSumRefIdeal (hTapsSumRefIdeal := hTapsSumRefIdeal)
    ∧ quiescent_GateStep (hGateStep := hGateStep)
    ∧ quiescent_GateStepIdeal (hGateStepIdeal := hGateStepIdeal)
    ∧ quiescent_GateStepRefIdeal (hGateStepRefIdeal := hGateStepRefIdeal)
    ∧ quiescent_DownStep (hDownStep := hDownStep)
    ∧ quiescent_DownStepIdeal (hDownStepIdeal := hDownStepIdeal)
    ∧ quiescent_DownStepRefIdeal (hDownStepRefIdeal := hDownStepRefIdeal)
    ∧ quiescent_InStep (hInStep := hInStep)
    ∧ quiescent_InStepIdeal (hInStepIdeal := hInStepIdeal)
    ∧ quiescent_InStepRefIdeal (hInStepRefIdeal := hInStepRefIdeal)
    ∧ quiescent_AttnStep (hAttnStep := hAttnStep)
    ∧ quiescent_AttnStepIdeal (hAttnStepIdeal := hAttnStepIdeal)
    ∧ quiescent_AttnStepRefIdeal (hAttnStepRefIdeal := hAttnStepRefIdeal)
    ∧ quiescent_OutStep (hOutStep := hOutStep)
    ∧ quiescent_OutStepIdeal (hOutStepIdeal := hOutStepIdeal)
    ∧ quiescent_OutStepRefIdeal (hOutStepRefIdeal := hOutStepRefIdeal)
    ∧ quiescent_TapsStep (hTapsStep := hTapsStep)
    ∧ quiescent_TapsStepIdeal (hTapsStepIdeal := hTapsStepIdeal)
    ∧ quiescent_TapsStepRefIdeal (hTapsStepRefIdeal := hTapsStepRefIdeal)
    ∧ quiescent_Small (hSmall := hSmall)
    ∧ quiescent_SmallIdeal (hSmallIdeal := hSmallIdeal)
    ∧ quiescent_SmallRefIdeal (hSmallRefIdeal := hSmallRefIdeal)
    ∧ quiescent_FfnBack (hFfnBack := hFfnBack)
    ∧ quiescent_FfnBackIdeal (hFfnBackIdeal := hFfnBackIdeal)
    ∧ quiescent_FfnBackRefIdeal (hFfnBackRefIdeal := hFfnBackRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Norm (hNorm := hNorm)
    ∧ quiescent_NormIdeal (hNormIdeal := hNormIdeal)
    ∧ quiescent_NormRefIdeal (hNormRefIdeal := hNormRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_Loss (hLoss := hLoss)
    ∧ quiescent_LossIdeal (hLossIdeal := hLossIdeal)
    ∧ quiescent_LossRefIdeal (hLossRefIdeal := hLossRefIdeal)
    ∧ quiescent_WGrad (hWGrad := hWGrad)
    ∧ quiescent_WGradIdeal (hWGradIdeal := hWGradIdeal)
    ∧ quiescent_WGradRefIdeal (hWGradRefIdeal := hWGradRefIdeal)
    ∧ quiescent_Mix (hMix := hMix)
    ∧ quiescent_MixIdeal (hMixIdeal := hMixIdeal)
    ∧ quiescent_MixRefIdeal (hMixRefIdeal := hMixRefIdeal)
    ∧ quiescent_MixBack (hMixBack := hMixBack)
    ∧ quiescent_MixBackIdeal (hMixBackIdeal := hMixBackIdeal)
    ∧ quiescent_MixBackRefIdeal (hMixBackRefIdeal := hMixBackRefIdeal)
    ∧ quiescent_Merge (hMerge := hMerge)
    ∧ quiescent_MergeIdeal (hMergeIdeal := hMergeIdeal)
    ∧ quiescent_MergeRefIdeal (hMergeRefIdeal := hMergeRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Exchange_ExchangeIdeal
    ∧ algebraic_ExchangeIdeal_ExchangedIdeal (hExchangeIdeal := hExchangeIdeal) (hExchangedIdeal := hExchangedIdeal)
    ∧ bitexact_Exchange_Exchanged (hExchange := hExchange) (hExchanged := hExchanged)
    ∧ preserves_FfnSum_FfnSumIdeal
    ∧ algebraic_FfnSumIdeal_FfnSumRefIdeal (hFfnSumIdeal := hFfnSumIdeal) (hFfnSumRefIdeal := hFfnSumRefIdeal)
    ∧ preserves_InSum_InSumIdeal
    ∧ algebraic_InSumIdeal_InSumRefIdeal (hInSumIdeal := hInSumIdeal) (hInSumRefIdeal := hInSumRefIdeal)
    ∧ preserves_AttnSum_AttnSumIdeal
    ∧ algebraic_AttnSumIdeal_AttnSumRefIdeal (hAttnSumIdeal := hAttnSumIdeal) (hAttnSumRefIdeal := hAttnSumRefIdeal)
    ∧ preserves_OutSum_OutSumIdeal
    ∧ algebraic_OutSumIdeal_OutSumRefIdeal (hOutSumIdeal := hOutSumIdeal) (hOutSumRefIdeal := hOutSumRefIdeal)
    ∧ preserves_TapsSum_TapsSumIdeal
    ∧ algebraic_TapsSumIdeal_TapsSumRefIdeal (hTapsSumIdeal := hTapsSumIdeal) (hTapsSumRefIdeal := hTapsSumRefIdeal)
    ∧ preserves_GateStep_GateStepIdeal
    ∧ algebraic_GateStepIdeal_GateStepRefIdeal (hGateStepIdeal := hGateStepIdeal) (hGateStepRefIdeal := hGateStepRefIdeal)
    ∧ preserves_DownStep_DownStepIdeal
    ∧ algebraic_DownStepIdeal_DownStepRefIdeal (hDownStepIdeal := hDownStepIdeal) (hDownStepRefIdeal := hDownStepRefIdeal)
    ∧ preserves_InStep_InStepIdeal
    ∧ algebraic_InStepIdeal_InStepRefIdeal (hInStepIdeal := hInStepIdeal) (hInStepRefIdeal := hInStepRefIdeal)
    ∧ preserves_AttnStep_AttnStepIdeal
    ∧ algebraic_AttnStepIdeal_AttnStepRefIdeal (hAttnStepIdeal := hAttnStepIdeal) (hAttnStepRefIdeal := hAttnStepRefIdeal)
    ∧ preserves_OutStep_OutStepIdeal
    ∧ algebraic_OutStepIdeal_OutStepRefIdeal (hOutStepIdeal := hOutStepIdeal) (hOutStepRefIdeal := hOutStepRefIdeal)
    ∧ preserves_TapsStep_TapsStepIdeal
    ∧ algebraic_TapsStepIdeal_TapsStepRefIdeal (hTapsStepIdeal := hTapsStepIdeal) (hTapsStepRefIdeal := hTapsStepRefIdeal)
    ∧ preserves_Small_SmallIdeal
    ∧ algebraic_SmallIdeal_SmallRefIdeal (hSmallIdeal := hSmallIdeal) (hSmallRefIdeal := hSmallRefIdeal)
    ∧ preserves_FfnBack_FfnBackIdeal
    ∧ algebraic_FfnBackIdeal_FfnBackRefIdeal (hFfnBackIdeal := hFfnBackIdeal) (hFfnBackRefIdeal := hFfnBackRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Norm_NormIdeal
    ∧ algebraic_NormIdeal_NormRefIdeal (hNormIdeal := hNormIdeal) (hNormRefIdeal := hNormRefIdeal)
    ∧ preserves_NormBack_NormBackIdeal
    ∧ algebraic_NormBackIdeal_NormBackRefIdeal (hNormBackIdeal := hNormBackIdeal) (hNormBackRefIdeal := hNormBackRefIdeal)
    ∧ preserves_Loss_LossIdeal
    ∧ algebraic_LossIdeal_LossRefIdeal (hLossIdeal := hLossIdeal) (hLossRefIdeal := hLossRefIdeal)
    ∧ preserves_WGrad_WGradIdeal
    ∧ algebraic_WGradIdeal_WGradRefIdeal (hWGradIdeal := hWGradIdeal) (hWGradRefIdeal := hWGradRefIdeal)
    ∧ preserves_Mix_MixIdeal
    ∧ algebraic_MixIdeal_MixRefIdeal (hMixIdeal := hMixIdeal) (hMixRefIdeal := hMixRefIdeal)
    ∧ preserves_MixBack_MixBackIdeal
    ∧ algebraic_MixBackIdeal_MixBackRefIdeal (hMixBackIdeal := hMixBackIdeal) (hMixBackRefIdeal := hMixBackRefIdeal)
    ∧ preserves_Merge_MergeIdeal
    ∧ algebraic_MergeIdeal_MergeRefIdeal (hMergeIdeal := hMergeIdeal) (hMergeRefIdeal := hMergeRefIdeal)
-- ==== Kernel.lean ====
abbrev S352x1024 : Shape := ⟨2, ![352, 1024]⟩
abbrev S1088x1024 : Shape := ⟨2, ![1088, 1024]⟩
abbrev S128x512 : Shape := ⟨2, ![128, 512]⟩
abbrev S128x1024 : Shape := ⟨2, ![128, 1024]⟩
abbrev S32x128 : Shape := ⟨2, ![32, 128]⟩
abbrev S2816x1024 : Shape := ⟨2, ![2816, 1024]⟩
abbrev S8704x1024 : Shape := ⟨2, ![8704, 1024]⟩
abbrev S1024x512 : Shape := ⟨2, ![1024, 512]⟩
abbrev S1024x1024 : Shape := ⟨2, ![1024, 1024]⟩
abbrev S256x128 : Shape := ⟨2, ![256, 128]⟩
abbrev S11x7 : Shape := ⟨2, ![11, 7]⟩
abbrev S11 : Shape := ⟨1, ![11]⟩
abbrev S1 : Shape := ⟨1, ![1]⟩
abbrev S_ : Shape := ⟨0, ![]⟩
abbrev S1x1 : Shape := ⟨2, ![1, 1]⟩

abbrev nBuf : Space → Nat
  | .hbm => 22
  | .vmem => 0
  | .smem => 0
  | _ => 0

abbrev bufTy : (tb : Table) → Fin (tcTables nBuf tb) → BufTy
  | .hbm, ⟨0, _⟩ => ⟨S352x1024, .bf16⟩
  | .hbm, ⟨1, _⟩ => ⟨S352x1024, .bf16⟩
  | .hbm, ⟨2, _⟩ => ⟨S1088x1024, .bf16⟩
  | .hbm, ⟨3, _⟩ => ⟨S128x512, .bf16⟩
  | .hbm, ⟨4, _⟩ => ⟨S352x1024, .bf16⟩
  | .hbm, ⟨5, _⟩ => ⟨S352x1024, .bf16⟩
  | .hbm, ⟨6, _⟩ => ⟨S352x1024, .bf16⟩
  | .hbm, ⟨7, _⟩ => ⟨S128x1024, .bf16⟩
  | .hbm, ⟨8, _⟩ => ⟨S128x1024, .bf16⟩
  | .hbm, ⟨9, _⟩ => ⟨S352x1024, .bf16⟩
  | .hbm, ⟨10, _⟩ => ⟨S32x128, .f32⟩
  | .hbm, ⟨11, _⟩ => ⟨S2816x1024, .bf16⟩
  | .hbm, ⟨12, _⟩ => ⟨S2816x1024, .bf16⟩
  | .hbm, ⟨13, _⟩ => ⟨S8704x1024, .bf16⟩
  | .hbm, ⟨14, _⟩ => ⟨S1024x512, .bf16⟩
  | .hbm, ⟨15, _⟩ => ⟨S2816x1024, .bf16⟩
  | .hbm, ⟨16, _⟩ => ⟨S2816x1024, .bf16⟩
  | .hbm, ⟨17, _⟩ => ⟨S2816x1024, .bf16⟩
  | .hbm, ⟨18, _⟩ => ⟨S1024x1024, .bf16⟩
  | .hbm, ⟨19, _⟩ => ⟨S1024x1024, .bf16⟩
  | .hbm, ⟨20, _⟩ => ⟨S2816x1024, .bf16⟩
  | .hbm, ⟨21, _⟩ => ⟨S256x128, .f32⟩
  | _, _ => ⟨S352x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 165 → Bool
  | ⟨i, _⟩ => dmaSemScopedAt i

abbrev sig : RefSig :=
  ofTc nBuf bufTy 0 165 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev main_v1_8 : Ref sig .tc := ⟨.hbm, 19, rfl⟩
abbrev main_v1_9 : Ref sig .tc := ⟨.hbm, 20, rfl⟩
abbrev main_v1_10 : Ref sig .tc := ⟨.hbm, 21, rfl⟩

abbrev nD : Nat := 8
abbrev τ : Topo := Topo.v7x

variable {F : FTy → Type} [FloatOps F]

abbrev grid0 : Pipeline.Grid := .none

def k0_off1 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c352_i32 : BitVec 32 := 352#32
  let v13 : BitVec 32 := Scalar.muli v12 c352_i32
  let c0_i32_5 : BitVec 32 := 0#32
  ![v13.toNat, 0]
def k0_dev1 (d0 : Dev nD) : Nat :=
  let c0_i32_18 : BitVec 32 := 0#32
  let v17 : BitVec 32 := Dev.word d0
  let c4_i32_7 : BitVec 32 := 4#32
  let v18 : BitVec 32 := Scalar.divsi v17 c4_i32_7
  let c2_i32_6 : BitVec 32 := 2#32
  let v19 : BitVec 32 := Scalar.remsi v18 c2_i32_6
  let c4_i32_17 : BitVec 32 := 4#32
  let v27 : BitVec 32 := Scalar.muli v19 c4_i32_17
  let v28 : BitVec 32 := Scalar.addi c0_i32_18 v27
  let v20 : BitVec 32 := Dev.word d0
  let c2_i32_9 : BitVec 32 := 2#32
  let v21 : BitVec 32 := Scalar.divsi v20 c2_i32_9
  let c2_i32_8 : BitVec 32 := 2#32
  let v22 : BitVec 32 := Scalar.remsi v21 c2_i32_8
  let c2_i32_19 : BitVec 32 := 2#32
  let v29 : BitVec 32 := Scalar.muli v22 c2_i32_19
  let v30 : BitVec 32 := Scalar.addi v28 v29
  let c1_i32_12 : BitVec 32 := 1#32
  let v23 : BitVec 32 := Dev.word d0
  let c1_i32_11 : BitVec 32 := 1#32
  let v24 : BitVec 32 := Scalar.divsi v23 c1_i32_11
  let c2_i32_10 : BitVec 32 := 2#32
  let v25 : BitVec 32 := Scalar.remsi v24 c2_i32_10
  let v26 : BitVec 32 := Scalar.subi c1_i32_12 v25
  let c1_i32_20 : BitVec 32 := 1#32
  let v31 : BitVec 32 := Scalar.muli v26 c1_i32_20
  let v32 : BitVec 32 := Scalar.addi v30 v31
  v32.toNat
def k0_dev2 (d0 : Dev nD) : Nat :=
  let c0_i32_34 : BitVec 32 := 0#32
  let v38 : BitVec 32 := Dev.word d0
  let c4_i32_23 : BitVec 32 := 4#32
  let v39 : BitVec 32 := Scalar.divsi v38 c4_i32_23
  let c2_i32_22 : BitVec 32 := 2#32
  let v40 : BitVec 32 := Scalar.remsi v39 c2_i32_22
  let c4_i32_33 : BitVec 32 := 4#32
  let v48 : BitVec 32 := Scalar.muli v40 c4_i32_33
  let v49 : BitVec 32 := Scalar.addi c0_i32_34 v48
  let c1_i32_28 : BitVec 32 := 1#32
  let v41 : BitVec 32 := Dev.word d0
  let c2_i32_25 : BitVec 32 := 2#32
  let v42 : BitVec 32 := Scalar.divsi v41 c2_i32_25
  let c2_i32_24 : BitVec 32 := 2#32
  let v43 : BitVec 32 := Scalar.remsi v42 c2_i32_24
  let v47 : BitVec 32 := Scalar.subi c1_i32_28 v43
  let c2_i32_35 : BitVec 32 := 2#32
  let v50 : BitVec 32 := Scalar.muli v47 c2_i32_35
  let v51 : BitVec 32 := Scalar.addi v49 v50
  let v44 : BitVec 32 := Dev.word d0
  let c1_i32_27 : BitVec 32 := 1#32
  let v45 : BitVec 32 := Scalar.divsi v44 c1_i32_27
  let c2_i32_26 : BitVec 32 := 2#32
  let v46 : BitVec 32 := Scalar.remsi v45 c2_i32_26
  let c1_i32_36 : BitVec 32 := 1#32
  let v52 : BitVec 32 := Scalar.muli v46 c1_i32_36
  let v53 : BitVec 32 := Scalar.addi v51 v52
  v53.toNat
def k0_dev3 (d0 : Dev nD) : Nat :=
  let c0_i32_51 : BitVec 32 := 0#32
  let v59 : BitVec 32 := Dev.word d0
  let c4_i32_39 : BitVec 32 := 4#32
  let v60 : BitVec 32 := Scalar.divsi v59 c4_i32_39
  let c2_i32_38 : BitVec 32 := 2#32
  let v61 : BitVec 32 := Scalar.remsi v60 c2_i32_38
  let c4_i32_50 : BitVec 32 := 4#32
  let v70 : BitVec 32 := Scalar.muli v61 c4_i32_50
  let v71 : BitVec 32 := Scalar.addi c0_i32_51 v70
  let c1_i32_44 : BitVec 32 := 1#32
  let v62 : BitVec 32 := Dev.word d0
  let c2_i32_41 : BitVec 32 := 2#32
  let v63 : BitVec 32 := Scalar.divsi v62 c2_i32_41
  let c2_i32_40 : BitVec 32 := 2#32
  let v64 : BitVec 32 := Scalar.remsi v63 c2_i32_40
  let v68 : BitVec 32 := Scalar.subi c1_i32_44 v64
  let c2_i32_52 : BitVec 32 := 2#32
  let v72 : BitVec 32 := Scalar.muli v68 c2_i32_52
  let v73 : BitVec 32 := Scalar.addi v71 v72
  let c1_i32_45 : BitVec 32 := 1#32
  let v65 : BitVec 32 := Dev.word d0
  let c1_i32_43 : BitVec 32 := 1#32
  let v66 : BitVec 32 := Scalar.divsi v65 c1_i32_43
  let c2_i32_42 : BitVec 32 := 2#32
  let v67 : BitVec 32 := Scalar.remsi v66 c2_i32_42
  let v69 : BitVec 32 := Scalar.subi c1_i32_45 v67
  let c1_i32_53 : BitVec 32 := 1#32
  let v74 : BitVec 32 := Scalar.muli v69 c1_i32_53
  let v75 : BitVec 32 := Scalar.addi v73 v74
  v75.toNat
def k0_dev4 (d0 : Dev nD) : Nat :=
  let c0_i32_66 : BitVec 32 := 0#32
  let c1_i32_61 : BitVec 32 := 1#32
  let v81 : BitVec 32 := Dev.word d0
  let c4_i32_56 : BitVec 32 := 4#32
  let v82 : BitVec 32 := Scalar.divsi v81 c4_i32_56
  let c2_i32_55 : BitVec 32 := 2#32
  let v83 : BitVec 32 := Scalar.remsi v82 c2_i32_55
  let v90 : BitVec 32 := Scalar.subi c1_i32_61 v83
  let c4_i32_65 : BitVec 32 := 4#32
  let v91 : BitVec 32 := Scalar.muli v90 c4_i32_65
  let v92 : BitVec 32 := Scalar.addi c0_i32_66 v91
  let v84 : BitVec 32 := Dev.word d0
  let c2_i32_58 : BitVec 32 := 2#32
  let v85 : BitVec 32 := Scalar.divsi v84 c2_i32_58
  let c2_i32_57 : BitVec 32 := 2#32
  let v86 : BitVec 32 := Scalar.remsi v85 c2_i32_57
  let c2_i32_67 : BitVec 32 := 2#32
  let v93 : BitVec 32 := Scalar.muli v86 c2_i32_67
  let v94 : BitVec 32 := Scalar.addi v92 v93
  let v87 : BitVec 32 := Dev.word d0
  let c1_i32_60 : BitVec 32 := 1#32
  let v88 : BitVec 32 := Scalar.divsi v87 c1_i32_60
  let c2_i32_59 : BitVec 32 := 2#32
  let v89 : BitVec 32 := Scalar.remsi v88 c2_i32_59
  let c1_i32_68 : BitVec 32 := 1#32
  let v95 : BitVec 32 := Scalar.muli v89 c1_i32_68
  let v96 : BitVec 32 := Scalar.addi v94 v95
  v96.toNat
def k0_dev5 (d0 : Dev nD) : Nat :=
  let c0_i32_83 : BitVec 32 := 0#32
  let c1_i32_76 : BitVec 32 := 1#32
  let v102 : BitVec 32 := Dev.word d0
  let c4_i32_71 : BitVec 32 := 4#32
  let v103 : BitVec 32 := Scalar.divsi v102 c4_i32_71
  let c2_i32_70 : BitVec 32 := 2#32
  let v104 : BitVec 32 := Scalar.remsi v103 c2_i32_70
  let v111 : BitVec 32 := Scalar.subi c1_i32_76 v104
  let c4_i32_82 : BitVec 32 := 4#32
  let v113 : BitVec 32 := Scalar.muli v111 c4_i32_82
  let v114 : BitVec 32 := Scalar.addi c0_i32_83 v113
  let v105 : BitVec 32 := Dev.word d0
  let c2_i32_73 : BitVec 32 := 2#32
  let v106 : BitVec 32 := Scalar.divsi v105 c2_i32_73
  let c2_i32_72 : BitVec 32 := 2#32
  let v107 : BitVec 32 := Scalar.remsi v106 c2_i32_72
  let c2_i32_84 : BitVec 32 := 2#32
  let v115 : BitVec 32 := Scalar.muli v107 c2_i32_84
  let v116 : BitVec 32 := Scalar.addi v114 v115
  let c1_i32_77 : BitVec 32 := 1#32
  let v108 : BitVec 32 := Dev.word d0
  let c1_i32_75 : BitVec 32 := 1#32
  let v109 : BitVec 32 := Scalar.divsi v108 c1_i32_75
  let c2_i32_74 : BitVec 32 := 2#32
  let v110 : BitVec 32 := Scalar.remsi v109 c2_i32_74
  let v112 : BitVec 32 := Scalar.subi c1_i32_77 v110
  let c1_i32_85 : BitVec 32 := 1#32
  let v117 : BitVec 32 := Scalar.muli v112 c1_i32_85
  let v118 : BitVec 32 := Scalar.addi v116 v117
  v118.toNat
def k0_dev6 (d0 : Dev nD) : Nat :=
  let c0_i32_99 : BitVec 32 := 0#32
  let c1_i32_93 : BitVec 32 := 1#32
  let v124 : BitVec 32 := Dev.word d0
  let c4_i32_88 : BitVec 32 := 4#32
  let v125 : BitVec 32 := Scalar.divsi v124 c4_i32_88
  let c2_i32_87 : BitVec 32 := 2#32
  let v126 : BitVec 32 := Scalar.remsi v125 c2_i32_87
  let v133 : BitVec 32 := Scalar.subi c1_i32_93 v126
  let c4_i32_98 : BitVec 32 := 4#32
  let v135 : BitVec 32 := Scalar.muli v133 c4_i32_98
  let v136 : BitVec 32 := Scalar.addi c0_i32_99 v135
  let c1_i32_94 : BitVec 32 := 1#32
  let v127 : BitVec 32 := Dev.word d0
  let c2_i32_90 : BitVec 32 := 2#32
  let v128 : BitVec 32 := Scalar.divsi v127 c2_i32_90
  let c2_i32_89 : BitVec 32 := 2#32
  let v129 : BitVec 32 := Scalar.remsi v128 c2_i32_89
  let v134 : BitVec 32 := Scalar.subi c1_i32_94 v129
  let c2_i32_100 : BitVec 32 := 2#32
  let v137 : BitVec 32 := Scalar.muli v134 c2_i32_100
  let v138 : BitVec 32 := Scalar.addi v136 v137
  let v130 : BitVec 32 := Dev.word d0
  let c1_i32_92 : BitVec 32 := 1#32
  let v131 : BitVec 32 := Scalar.divsi v130 c1_i32_92
  let c2_i32_91 : BitVec 32 := 2#32
  let v132 : BitVec 32 := Scalar.remsi v131 c2_i32_91
  let c1_i32_101 : BitVec 32 := 1#32
  let v139 : BitVec 32 := Scalar.muli v132 c1_i32_101
  let v140 : BitVec 32 := Scalar.addi v138 v139
  v140.toNat
def k0_dev7 (d0 : Dev nD) : Nat :=
  let c0_i32_116 : BitVec 32 := 0#32
  let c1_i32_109 : BitVec 32 := 1#32
  let v146 : BitVec 32 := Dev.word d0
  let c4_i32_104 : BitVec 32 := 4#32
  let v147 : BitVec 32 := Scalar.divsi v146 c4_i32_104
  let c2_i32_103 : BitVec 32 := 2#32
  let v148 : BitVec 32 := Scalar.remsi v147 c2_i32_103
  let v155 : BitVec 32 := Scalar.subi c1_i32_109 v148
  let c4_i32_115 : BitVec 32 := 4#32
  let v158 : BitVec 32 := Scalar.muli v155 c4_i32_115
  let v159 : BitVec 32 := Scalar.addi c0_i32_116 v158
  let c1_i32_110 : BitVec 32 := 1#32
  let v149 : BitVec 32 := Dev.word d0
  let c2_i32_106 : BitVec 32 := 2#32
  let v150 : BitVec 32 := Scalar.divsi v149 c2_i32_106
  let c2_i32_105 : BitVec 32 := 2#32
  let v151 : BitVec 32 := Scalar.remsi v150 c2_i32_105
  let v156 : BitVec 32 := Scalar.subi c1_i32_110 v151
  let c2_i32_117 : BitVec 32 := 2#32
  let v160 : BitVec 32 := Scalar.muli v156 c2_i32_117
  let v161 : BitVec 32 := Scalar.addi v159 v160
  let c1_i32_111 : BitVec 32 := 1#32
  let v152 : BitVec 32 := Dev.word d0
  let c1_i32_108 : BitVec 32 := 1#32
  let v153 : BitVec 32 := Scalar.divsi v152 c1_i32_108
  let c2_i32_107 : BitVec 32 := 2#32
  let v154 : BitVec 32 := Scalar.remsi v153 c2_i32_107
  let v157 : BitVec 32 := Scalar.subi c1_i32_111 v154
  let c1_i32_118 : BitVec 32 := 1#32
  let v162 : BitVec 32 := Scalar.muli v157 c1_i32_118
  let v163 : BitVec 32 := Scalar.addi v161 v162
  v163.toNat
def k0_dev8 (d0 : Dev nD) : Nat :=
  let c0_i32_135 : BitVec 32 := 0#32
  let v173 : BitVec 32 := Dev.word d0
  let c4_i32_124 : BitVec 32 := 4#32
  let v174 : BitVec 32 := Scalar.divsi v173 c4_i32_124
  let c2_i32_123 : BitVec 32 := 2#32
  let v175 : BitVec 32 := Scalar.remsi v174 c2_i32_123
  let c4_i32_134 : BitVec 32 := 4#32
  let v183 : BitVec 32 := Scalar.muli v175 c4_i32_134
  let v184 : BitVec 32 := Scalar.addi c0_i32_135 v183
  let v176 : BitVec 32 := Dev.word d0
  let c2_i32_126 : BitVec 32 := 2#32
  let v177 : BitVec 32 := Scalar.divsi v176 c2_i32_126
  let c2_i32_125 : BitVec 32 := 2#32
  let v178 : BitVec 32 := Scalar.remsi v177 c2_i32_125
  let c2_i32_136 : BitVec 32 := 2#32
  let v185 : BitVec 32 := Scalar.muli v178 c2_i32_136
  let v186 : BitVec 32 := Scalar.addi v184 v185
  let c1_i32_129 : BitVec 32 := 1#32
  let v179 : BitVec 32 := Dev.word d0
  let c1_i32_128 : BitVec 32 := 1#32
  let v180 : BitVec 32 := Scalar.divsi v179 c1_i32_128
  let c2_i32_127 : BitVec 32 := 2#32
  let v181 : BitVec 32 := Scalar.remsi v180 c2_i32_127
  let v182 : BitVec 32 := Scalar.subi c1_i32_129 v181
  let c1_i32_137 : BitVec 32 := 1#32
  let v187 : BitVec 32 := Scalar.muli v182 c1_i32_137
  let v188 : BitVec 32 := Scalar.addi v186 v187
  v188.toNat
def k0_dev9 (d0 : Dev nD) : Nat :=
  let c0_i32_151 : BitVec 32 := 0#32
  let v194 : BitVec 32 := Dev.word d0
  let c4_i32_140 : BitVec 32 := 4#32
  let v195 : BitVec 32 := Scalar.divsi v194 c4_i32_140
  let c2_i32_139 : BitVec 32 := 2#32
  let v196 : BitVec 32 := Scalar.remsi v195 c2_i32_139
  let c4_i32_150 : BitVec 32 := 4#32
  let v204 : BitVec 32 := Scalar.muli v196 c4_i32_150
  let v205 : BitVec 32 := Scalar.addi c0_i32_151 v204
  let c1_i32_145 : BitVec 32 := 1#32
  let v197 : BitVec 32 := Dev.word d0
  let c2_i32_142 : BitVec 32 := 2#32
  let v198 : BitVec 32 := Scalar.divsi v197 c2_i32_142
  let c2_i32_141 : BitVec 32 := 2#32
  let v199 : BitVec 32 := Scalar.remsi v198 c2_i32_141
  let v203 : BitVec 32 := Scalar.subi c1_i32_145 v199
  let c2_i32_152 : BitVec 32 := 2#32
  let v206 : BitVec 32 := Scalar.muli v203 c2_i32_152
  let v207 : BitVec 32 := Scalar.addi v205 v206
  let v200 : BitVec 32 := Dev.word d0
  let c1_i32_144 : BitVec 32 := 1#32
  let v201 : BitVec 32 := Scalar.divsi v200 c1_i32_144
  let c2_i32_143 : BitVec 32 := 2#32
  let v202 : BitVec 32 := Scalar.remsi v201 c2_i32_143
  let c1_i32_153 : BitVec 32 := 1#32
  let v208 : BitVec 32 := Scalar.muli v202 c1_i32_153
  let v209 : BitVec 32 := Scalar.addi v207 v208
  v209.toNat
def k0_dev10 (d0 : Dev nD) : Nat :=
  let c0_i32_168 : BitVec 32 := 0#32
  let v215 : BitVec 32 := Dev.word d0
  let c4_i32_156 : BitVec 32 := 4#32
  let v216 : BitVec 32 := Scalar.divsi v215 c4_i32_156
  let c2_i32_155 : BitVec 32 := 2#32
  let v217 : BitVec 32 := Scalar.remsi v216 c2_i32_155
  let c4_i32_167 : BitVec 32 := 4#32
  let v226 : BitVec 32 := Scalar.muli v217 c4_i32_167
  let v227 : BitVec 32 := Scalar.addi c0_i32_168 v226
  let c1_i32_161 : BitVec 32 := 1#32
  let v218 : BitVec 32 := Dev.word d0
  let c2_i32_158 : BitVec 32 := 2#32
  let v219 : BitVec 32 := Scalar.divsi v218 c2_i32_158
  let c2_i32_157 : BitVec 32 := 2#32
  let v220 : BitVec 32 := Scalar.remsi v219 c2_i32_157
  let v224 : BitVec 32 := Scalar.subi c1_i32_161 v220
  let c2_i32_169 : BitVec 32 := 2#32
  let v228 : BitVec 32 := Scalar.muli v224 c2_i32_169
  let v229 : BitVec 32 := Scalar.addi v227 v228
  let c1_i32_162 : BitVec 32 := 1#32
  let v221 : BitVec 32 := Dev.word d0
  let c1_i32_160 : BitVec 32 := 1#32
  let v222 : BitVec 32 := Scalar.divsi v221 c1_i32_160
  let c2_i32_159 : BitVec 32 := 2#32
  let v223 : BitVec 32 := Scalar.remsi v222 c2_i32_159
  let v225 : BitVec 32 := Scalar.subi c1_i32_162 v223
  let c1_i32_170 : BitVec 32 := 1#32
  let v230 : BitVec 32 := Scalar.muli v225 c1_i32_170
  let v231 : BitVec 32 := Scalar.addi v229 v230
  v231.toNat
def k0_dev11 (d0 : Dev nD) : Nat :=
  let c0_i32_184 : BitVec 32 := 0#32
  let c1_i32_178 : BitVec 32 := 1#32
  let v237 : BitVec 32 := Dev.word d0
  let c4_i32_173 : BitVec 32 := 4#32
  let v238 : BitVec 32 := Scalar.divsi v237 c4_i32_173
  let c2_i32_172 : BitVec 32 := 2#32
  let v239 : BitVec 32 := Scalar.remsi v238 c2_i32_172
  let v246 : BitVec 32 := Scalar.subi c1_i32_178 v239
  let c4_i32_183 : BitVec 32 := 4#32
  let v247 : BitVec 32 := Scalar.muli v246 c4_i32_183
  let v248 : BitVec 32 := Scalar.addi c0_i32_184 v247
  let v240 : BitVec 32 := Dev.word d0
  let c2_i32_175 : BitVec 32 := 2#32
  let v241 : BitVec 32 := Scalar.divsi v240 c2_i32_175
  let c2_i32_174 : BitVec 32 := 2#32
  let v242 : BitVec 32 := Scalar.remsi v241 c2_i32_174
  let c2_i32_185 : BitVec 32 := 2#32
  let v249 : BitVec 32 := Scalar.muli v242 c2_i32_185
  let v250 : BitVec 32 := Scalar.addi v248 v249
  let v243 : BitVec 32 := Dev.word d0
  let c1_i32_177 : BitVec 32 := 1#32
  let v244 : BitVec 32 := Scalar.divsi v243 c1_i32_177
  let c2_i32_176 : BitVec 32 := 2#32
  let v245 : BitVec 32 := Scalar.remsi v244 c2_i32_176
  let c1_i32_186 : BitVec 32 := 1#32
  let v251 : BitVec 32 := Scalar.muli v245 c1_i32_186
  let v252 : BitVec 32 := Scalar.addi v250 v251
  v252.toNat
def k0_dev12 (d0 : Dev nD) : Nat :=
  let c0_i32_201 : BitVec 32 := 0#32
  let c1_i32_194 : BitVec 32 := 1#32
  let v258 : BitVec 32 := Dev.word d0
  let c4_i32_189 : BitVec 32 := 4#32
  let v259 : BitVec 32 := Scalar.divsi v258 c4_i32_189
  let c2_i32_188 : BitVec 32 := 2#32
  let v260 : BitVec 32 := Scalar.remsi v259 c2_i32_188
  let v267 : BitVec 32 := Scalar.subi c1_i32_194 v260
  let c4_i32_200 : BitVec 32 := 4#32
  let v269 : BitVec 32 := Scalar.muli v267 c4_i32_200
  let v270 : BitVec 32 := Scalar.addi c0_i32_201 v269
  let v261 : BitVec 32 := Dev.word d0
  let c2_i32_191 : BitVec 32 := 2#32
  let v262 : BitVec 32 := Scalar.divsi v261 c2_i32_191
  let c2_i32_190 : BitVec 32 := 2#32
  let v263 : BitVec 32 := Scalar.remsi v262 c2_i32_190
  let c2_i32_202 : BitVec 32 := 2#32
  let v271 : BitVec 32 := Scalar.muli v263 c2_i32_202
  let v272 : BitVec 32 := Scalar.addi v270 v271
  let c1_i32_195 : BitVec 32 := 1#32
  let v264 : BitVec 32 := Dev.word d0
  let c1_i32_193 : BitVec 32 := 1#32
  let v265 : BitVec 32 := Scalar.divsi v264 c1_i32_193
  let c2_i32_192 : BitVec 32 := 2#32
  let v266 : BitVec 32 := Scalar.remsi v265 c2_i32_192
  let v268 : BitVec 32 := Scalar.subi c1_i32_195 v266
  let c1_i32_203 : BitVec 32 := 1#32
  let v273 : BitVec 32 := Scalar.muli v268 c1_i32_203
  let v274 : BitVec 32 := Scalar.addi v272 v273
  v274.toNat
def k0_dev13 (d0 : Dev nD) : Nat :=
  let c0_i32_218 : BitVec 32 := 0#32
  let c1_i32_211 : BitVec 32 := 1#32
  let v280 : BitVec 32 := Dev.word d0
  let c4_i32_206 : BitVec 32 := 4#32
  let v281 : BitVec 32 := Scalar.divsi v280 c4_i32_206
  let c2_i32_205 : BitVec 32 := 2#32
  let v282 : BitVec 32 := Scalar.remsi v281 c2_i32_205
  let v289 : BitVec 32 := Scalar.subi c1_i32_211 v282
  let c4_i32_217 : BitVec 32 := 4#32
  let v291 : BitVec 32 := Scalar.muli v289 c4_i32_217
  let v292 : BitVec 32 := Scalar.addi c0_i32_218 v291
  let c1_i32_212 : BitVec 32 := 1#32
  let v283 : BitVec 32 := Dev.word d0
  let c2_i32_208 : BitVec 32 := 2#32
  let v284 : BitVec 32 := Scalar.divsi v283 c2_i32_208
  let c2_i32_207 : BitVec 32 := 2#32
  let v285 : BitVec 32 := Scalar.remsi v284 c2_i32_207
  let v290 : BitVec 32 := Scalar.subi c1_i32_212 v285
  let c2_i32_219 : BitVec 32 := 2#32
  let v293 : BitVec 32 := Scalar.muli v290 c2_i32_219
  let v294 : BitVec 32 := Scalar.addi v292 v293
  let v286 : BitVec 32 := Dev.word d0
  let c1_i32_210 : BitVec 32 := 1#32
  let v287 : BitVec 32 := Scalar.divsi v286 c1_i32_210
  let c2_i32_209 : BitVec 32 := 2#32
  let v288 : BitVec 32 := Scalar.remsi v287 c2_i32_209
  let c1_i32_220 : BitVec 32 := 1#32
  let v295 : BitVec 32 := Scalar.muli v288 c1_i32_220
  let v296 : BitVec 32 := Scalar.addi v294 v295
  v296.toNat
def k0_dev14 (d0 : Dev nD) : Nat :=
  let c0_i32_236 : BitVec 32 := 0#32
  let c1_i32_228 : BitVec 32 := 1#32
  let v302 : BitVec 32 := Dev.word d0
  let c4_i32_223 : BitVec 32 := 4#32
  let v303 : BitVec 32 := Scalar.divsi v302 c4_i32_223
  let c2_i32_222 : BitVec 32 := 2#32
  let v304 : BitVec 32 := Scalar.remsi v303 c2_i32_222
  let v311 : BitVec 32 := Scalar.subi c1_i32_228 v304
  let c4_i32_235 : BitVec 32 := 4#32
  let v314 : BitVec 32 := Scalar.muli v311 c4_i32_235
  let v315 : BitVec 32 := Scalar.addi c0_i32_236 v314
  let c1_i32_229 : BitVec 32 := 1#32
  let v305 : BitVec 32 := Dev.word d0
  let c2_i32_225 : BitVec 32 := 2#32
  let v306 : BitVec 32 := Scalar.divsi v305 c2_i32_225
  let c2_i32_224 : BitVec 32 := 2#32
  let v307 : BitVec 32 := Scalar.remsi v306 c2_i32_224
  let v312 : BitVec 32 := Scalar.subi c1_i32_229 v307
  let c2_i32_237 : BitVec 32 := 2#32
  let v316 : BitVec 32 := Scalar.muli v312 c2_i32_237
  let v317 : BitVec 32 := Scalar.addi v315 v316
  let c1_i32_230 : BitVec 32 := 1#32
  let v308 : BitVec 32 := Dev.word d0
  let c1_i32_227 : BitVec 32 := 1#32
  let v309 : BitVec 32 := Scalar.divsi v308 c1_i32_227
  let c2_i32_226 : BitVec 32 := 2#32
  let v310 : BitVec 32 := Scalar.remsi v309 c2_i32_226
  let v313 : BitVec 32 := Scalar.subi c1_i32_230 v310
  let c1_i32_238 : BitVec 32 := 1#32
  let v318 : BitVec 32 := Scalar.muli v313 c1_i32_238
  let v319 : BitVec 32 := Scalar.addi v317 v318
  v319.toNat
def k0_off2 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1088_i32 : BitVec 32 := 1088#32
  let v325 : BitVec 32 := Scalar.muli v12 c1088_i32
  let c0_i32_241 : BitVec 32 := 0#32
  ![v325.toNat, 0]
def k0_dev15 (d0 : Dev nD) : Nat :=
  let c0_i32_254 : BitVec 32 := 0#32
  let v329 : BitVec 32 := Dev.word d0
  let c4_i32_243 : BitVec 32 := 4#32
  let v330 : BitVec 32 := Scalar.divsi v329 c4_i32_243
  let c2_i32_242 : BitVec 32 := 2#32
  let v331 : BitVec 32 := Scalar.remsi v330 c2_i32_242
  let c4_i32_253 : BitVec 32 := 4#32
  let v339 : BitVec 32 := Scalar.muli v331 c4_i32_253
  let v340 : BitVec 32 := Scalar.addi c0_i32_254 v339
  let v332 : BitVec 32 := Dev.word d0
  let c2_i32_245 : BitVec 32 := 2#32
  let v333 : BitVec 32 := Scalar.divsi v332 c2_i32_245
  let c2_i32_244 : BitVec 32 := 2#32
  let v334 : BitVec 32 := Scalar.remsi v333 c2_i32_244
  let c2_i32_255 : BitVec 32 := 2#32
  let v341 : BitVec 32 := Scalar.muli v334 c2_i32_255
  let v342 : BitVec 32 := Scalar.addi v340 v341
  let c1_i32_248 : BitVec 32 := 1#32
  let v335 : BitVec 32 := Dev.word d0
  let c1_i32_247 : BitVec 32 := 1#32
  let v336 : BitVec 32 := Scalar.divsi v335 c1_i32_247
  let c2_i32_246 : BitVec 32 := 2#32
  let v337 : BitVec 32 := Scalar.remsi v336 c2_i32_246
  let v338 : BitVec 32 := Scalar.subi c1_i32_248 v337
  let c1_i32_256 : BitVec 32 := 1#32
  let v343 : BitVec 32 := Scalar.muli v338 c1_i32_256
  let v344 : BitVec 32 := Scalar.addi v342 v343
  v344.toNat
def k0_dev16 (d0 : Dev nD) : Nat :=
  let c0_i32_270 : BitVec 32 := 0#32
  let v350 : BitVec 32 := Dev.word d0
  let c4_i32_259 : BitVec 32 := 4#32
  let v351 : BitVec 32 := Scalar.divsi v350 c4_i32_259
  let c2_i32_258 : BitVec 32 := 2#32
  let v352 : BitVec 32 := Scalar.remsi v351 c2_i32_258
  let c4_i32_269 : BitVec 32 := 4#32
  let v360 : BitVec 32 := Scalar.muli v352 c4_i32_269
  let v361 : BitVec 32 := Scalar.addi c0_i32_270 v360
  let c1_i32_264 : BitVec 32 := 1#32
  let v353 : BitVec 32 := Dev.word d0
  let c2_i32_261 : BitVec 32 := 2#32
  let v354 : BitVec 32 := Scalar.divsi v353 c2_i32_261
  let c2_i32_260 : BitVec 32 := 2#32
  let v355 : BitVec 32 := Scalar.remsi v354 c2_i32_260
  let v359 : BitVec 32 := Scalar.subi c1_i32_264 v355
  let c2_i32_271 : BitVec 32 := 2#32
  let v362 : BitVec 32 := Scalar.muli v359 c2_i32_271
  let v363 : BitVec 32 := Scalar.addi v361 v362
  let v356 : BitVec 32 := Dev.word d0
  let c1_i32_263 : BitVec 32 := 1#32
  let v357 : BitVec 32 := Scalar.divsi v356 c1_i32_263
  let c2_i32_262 : BitVec 32 := 2#32
  let v358 : BitVec 32 := Scalar.remsi v357 c2_i32_262
  let c1_i32_272 : BitVec 32 := 1#32
  let v364 : BitVec 32 := Scalar.muli v358 c1_i32_272
  let v365 : BitVec 32 := Scalar.addi v363 v364
  v365.toNat
def k0_dev17 (d0 : Dev nD) : Nat :=
  let c0_i32_287 : BitVec 32 := 0#32
  let v371 : BitVec 32 := Dev.word d0
  let c4_i32_275 : BitVec 32 := 4#32
  let v372 : BitVec 32 := Scalar.divsi v371 c4_i32_275
  let c2_i32_274 : BitVec 32 := 2#32
  let v373 : BitVec 32 := Scalar.remsi v372 c2_i32_274
  let c4_i32_286 : BitVec 32 := 4#32
  let v382 : BitVec 32 := Scalar.muli v373 c4_i32_286
  let v383 : BitVec 32 := Scalar.addi c0_i32_287 v382
  let c1_i32_280 : BitVec 32 := 1#32
  let v374 : BitVec 32 := Dev.word d0
  let c2_i32_277 : BitVec 32 := 2#32
  let v375 : BitVec 32 := Scalar.divsi v374 c2_i32_277
  let c2_i32_276 : BitVec 32 := 2#32
  let v376 : BitVec 32 := Scalar.remsi v375 c2_i32_276
  let v380 : BitVec 32 := Scalar.subi c1_i32_280 v376
  let c2_i32_288 : BitVec 32 := 2#32
  let v384 : BitVec 32 := Scalar.muli v380 c2_i32_288
  let v385 : BitVec 32 := Scalar.addi v383 v384
  let c1_i32_281 : BitVec 32 := 1#32
  let v377 : BitVec 32 := Dev.word d0
  let c1_i32_279 : BitVec 32 := 1#32
  let v378 : BitVec 32 := Scalar.divsi v377 c1_i32_279
  let c2_i32_278 : BitVec 32 := 2#32
  let v379 : BitVec 32 := Scalar.remsi v378 c2_i32_278
  let v381 : BitVec 32 := Scalar.subi c1_i32_281 v379
  let c1_i32_289 : BitVec 32 := 1#32
  let v386 : BitVec 32 := Scalar.muli v381 c1_i32_289
  let v387 : BitVec 32 := Scalar.addi v385 v386
  v387.toNat
def k0_dev18 (d0 : Dev nD) : Nat :=
  let c0_i32_303 : BitVec 32 := 0#32
  let c1_i32_297 : BitVec 32 := 1#32
  let v393 : BitVec 32 := Dev.word d0
  let c4_i32_292 : BitVec 32 := 4#32
  let v394 : BitVec 32 := Scalar.divsi v393 c4_i32_292
  let c2_i32_291 : BitVec 32 := 2#32
  let v395 : BitVec 32 := Scalar.remsi v394 c2_i32_291
  let v402 : BitVec 32 := Scalar.subi c1_i32_297 v395
  let c4_i32_302 : BitVec 32 := 4#32
  let v403 : BitVec 32 := Scalar.muli v402 c4_i32_302
  let v404 : BitVec 32 := Scalar.addi c0_i32_303 v403
  let v396 : BitVec 32 := Dev.word d0
  let c2_i32_294 : BitVec 32 := 2#32
  let v397 : BitVec 32 := Scalar.divsi v396 c2_i32_294
  let c2_i32_293 : BitVec 32 := 2#32
  let v398 : BitVec 32 := Scalar.remsi v397 c2_i32_293
  let c2_i32_304 : BitVec 32 := 2#32
  let v405 : BitVec 32 := Scalar.muli v398 c2_i32_304
  let v406 : BitVec 32 := Scalar.addi v404 v405
  let v399 : BitVec 32 := Dev.word d0
  let c1_i32_296 : BitVec 32 := 1#32
  let v400 : BitVec 32 := Scalar.divsi v399 c1_i32_296
  let c2_i32_295 : BitVec 32 := 2#32
  let v401 : BitVec 32 := Scalar.remsi v400 c2_i32_295
  let c1_i32_305 : BitVec 32 := 1#32
  let v407 : BitVec 32 := Scalar.muli v401 c1_i32_305
  let v408 : BitVec 32 := Scalar.addi v406 v407
  v408.toNat
def k0_dev19 (d0 : Dev nD) : Nat :=
  let c0_i32_320 : BitVec 32 := 0#32
  let c1_i32_313 : BitVec 32 := 1#32
  let v414 : BitVec 32 := Dev.word d0
  let c4_i32_308 : BitVec 32 := 4#32
  let v415 : BitVec 32 := Scalar.divsi v414 c4_i32_308
  let c2_i32_307 : BitVec 32 := 2#32
  let v416 : BitVec 32 := Scalar.remsi v415 c2_i32_307
  let v423 : BitVec 32 := Scalar.subi c1_i32_313 v416
  let c4_i32_319 : BitVec 32 := 4#32
  let v425 : BitVec 32 := Scalar.muli v423 c4_i32_319
  let v426 : BitVec 32 := Scalar.addi c0_i32_320 v425
  let v417 : BitVec 32 := Dev.word d0
  let c2_i32_310 : BitVec 32 := 2#32
  let v418 : BitVec 32 := Scalar.divsi v417 c2_i32_310
  let c2_i32_309 : BitVec 32 := 2#32
  let v419 : BitVec 32 := Scalar.remsi v418 c2_i32_309
  let c2_i32_321 : BitVec 32 := 2#32
  let v427 : BitVec 32 := Scalar.muli v419 c2_i32_321
  let v428 : BitVec 32 := Scalar.addi v426 v427
  let c1_i32_314 : BitVec 32 := 1#32
  let v420 : BitVec 32 := Dev.word d0
  let c1_i32_312 : BitVec 32 := 1#32
  let v421 : BitVec 32 := Scalar.divsi v420 c1_i32_312
  let c2_i32_311 : BitVec 32 := 2#32
  let v422 : BitVec 32 := Scalar.remsi v421 c2_i32_311
  let v424 : BitVec 32 := Scalar.subi c1_i32_314 v422
  let c1_i32_322 : BitVec 32 := 1#32
  let v429 : BitVec 32 := Scalar.muli v424 c1_i32_322
  let v430 : BitVec 32 := Scalar.addi v428 v429
  v430.toNat
def k0_dev20 (d0 : Dev nD) : Nat :=
  let c0_i32_337 : BitVec 32 := 0#32
  let c1_i32_330 : BitVec 32 := 1#32
  let v436 : BitVec 32 := Dev.word d0
  let c4_i32_325 : BitVec 32 := 4#32
  let v437 : BitVec 32 := Scalar.divsi v436 c4_i32_325
  let c2_i32_324 : BitVec 32 := 2#32
  let v438 : BitVec 32 := Scalar.remsi v437 c2_i32_324
  let v445 : BitVec 32 := Scalar.subi c1_i32_330 v438
  let c4_i32_336 : BitVec 32 := 4#32
  let v447 : BitVec 32 := Scalar.muli v445 c4_i32_336
  let v448 : BitVec 32 := Scalar.addi c0_i32_337 v447
  let c1_i32_331 : BitVec 32 := 1#32
  let v439 : BitVec 32 := Dev.word d0
  let c2_i32_327 : BitVec 32 := 2#32
  let v440 : BitVec 32 := Scalar.divsi v439 c2_i32_327
  let c2_i32_326 : BitVec 32 := 2#32
  let v441 : BitVec 32 := Scalar.remsi v440 c2_i32_326
  let v446 : BitVec 32 := Scalar.subi c1_i32_331 v441
  let c2_i32_338 : BitVec 32 := 2#32
  let v449 : BitVec 32 := Scalar.muli v446 c2_i32_338
  let v450 : BitVec 32 := Scalar.addi v448 v449
  let v442 : BitVec 32 := Dev.word d0
  let c1_i32_329 : BitVec 32 := 1#32
  let v443 : BitVec 32 := Scalar.divsi v442 c1_i32_329
  let c2_i32_328 : BitVec 32 := 2#32
  let v444 : BitVec 32 := Scalar.remsi v443 c2_i32_328
  let c1_i32_339 : BitVec 32 := 1#32
  let v451 : BitVec 32 := Scalar.muli v444 c1_i32_339
  let v452 : BitVec 32 := Scalar.addi v450 v451
  v452.toNat
def k0_dev21 (d0 : Dev nD) : Nat :=
  let c0_i32_355 : BitVec 32 := 0#32
  let c1_i32_347 : BitVec 32 := 1#32
  let v458 : BitVec 32 := Dev.word d0
  let c4_i32_342 : BitVec 32 := 4#32
  let v459 : BitVec 32 := Scalar.divsi v458 c4_i32_342
  let c2_i32_341 : BitVec 32 := 2#32
  let v460 : BitVec 32 := Scalar.remsi v459 c2_i32_341
  let v467 : BitVec 32 := Scalar.subi c1_i32_347 v460
  let c4_i32_354 : BitVec 32 := 4#32
  let v470 : BitVec 32 := Scalar.muli v467 c4_i32_354
  let v471 : BitVec 32 := Scalar.addi c0_i32_355 v470
  let c1_i32_348 : BitVec 32 := 1#32
  let v461 : BitVec 32 := Dev.word d0
  let c2_i32_344 : BitVec 32 := 2#32
  let v462 : BitVec 32 := Scalar.divsi v461 c2_i32_344
  let c2_i32_343 : BitVec 32 := 2#32
  let v463 : BitVec 32 := Scalar.remsi v462 c2_i32_343
  let v468 : BitVec 32 := Scalar.subi c1_i32_348 v463
  let c2_i32_356 : BitVec 32 := 2#32
  let v472 : BitVec 32 := Scalar.muli v468 c2_i32_356
  let v473 : BitVec 32 := Scalar.addi v471 v472
  let c1_i32_349 : BitVec 32 := 1#32
  let v464 : BitVec 32 := Dev.word d0
  let c1_i32_346 : BitVec 32 := 1#32
  let v465 : BitVec 32 := Scalar.divsi v464 c1_i32_346
  let c2_i32_345 : BitVec 32 := 2#32
  let v466 : BitVec 32 := Scalar.remsi v465 c2_i32_345
  let v469 : BitVec 32 := Scalar.subi c1_i32_349 v466
  let c1_i32_357 : BitVec 32 := 1#32
  let v474 : BitVec 32 := Scalar.muli v469 c1_i32_357
  let v475 : BitVec 32 := Scalar.addi v473 v474
  v475.toNat
def k0_off3 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v481 : BitVec 32 := Scalar.muli v12 c128_i32
  let c0_i32_360 : BitVec 32 := 0#32
  ![v481.toNat, 0]
def k0_dev22 (d0 : Dev nD) : Nat :=
  let c0_i32_373 : BitVec 32 := 0#32
  let v485 : BitVec 32 := Dev.word d0
  let c4_i32_362 : BitVec 32 := 4#32
  let v486 : BitVec 32 := Scalar.divsi v485 c4_i32_362
  let c2_i32_361 : BitVec 32 := 2#32
  let v487 : BitVec 32 := Scalar.remsi v486 c2_i32_361
  let c4_i32_372 : BitVec 32 := 4#32
  let v495 : BitVec 32 := Scalar.muli v487 c4_i32_372
  let v496 : BitVec 32 := Scalar.addi c0_i32_373 v495
  let v488 : BitVec 32 := Dev.word d0
  let c2_i32_364 : BitVec 32 := 2#32
  let v489 : BitVec 32 := Scalar.divsi v488 c2_i32_364
  let c2_i32_363 : BitVec 32 := 2#32
  let v490 : BitVec 32 := Scalar.remsi v489 c2_i32_363
  let c2_i32_374 : BitVec 32 := 2#32
  let v497 : BitVec 32 := Scalar.muli v490 c2_i32_374
  let v498 : BitVec 32 := Scalar.addi v496 v497
  let c1_i32_367 : BitVec 32 := 1#32
  let v491 : BitVec 32 := Dev.word d0
  let c1_i32_366 : BitVec 32 := 1#32
  let v492 : BitVec 32 := Scalar.divsi v491 c1_i32_366
  let c2_i32_365 : BitVec 32 := 2#32
  let v493 : BitVec 32 := Scalar.remsi v492 c2_i32_365
  let v494 : BitVec 32 := Scalar.subi c1_i32_367 v493
  let c1_i32_375 : BitVec 32 := 1#32
  let v499 : BitVec 32 := Scalar.muli v494 c1_i32_375
  let v500 : BitVec 32 := Scalar.addi v498 v499
  v500.toNat
def k0_dev23 (d0 : Dev nD) : Nat :=
  let c0_i32_389 : BitVec 32 := 0#32
  let v506 : BitVec 32 := Dev.word d0
  let c4_i32_378 : BitVec 32 := 4#32
  let v507 : BitVec 32 := Scalar.divsi v506 c4_i32_378
  let c2_i32_377 : BitVec 32 := 2#32
  let v508 : BitVec 32 := Scalar.remsi v507 c2_i32_377
  let c4_i32_388 : BitVec 32 := 4#32
  let v516 : BitVec 32 := Scalar.muli v508 c4_i32_388
  let v517 : BitVec 32 := Scalar.addi c0_i32_389 v516
  let c1_i32_383 : BitVec 32 := 1#32
  let v509 : BitVec 32 := Dev.word d0
  let c2_i32_380 : BitVec 32 := 2#32
  let v510 : BitVec 32 := Scalar.divsi v509 c2_i32_380
  let c2_i32_379 : BitVec 32 := 2#32
  let v511 : BitVec 32 := Scalar.remsi v510 c2_i32_379
  let v515 : BitVec 32 := Scalar.subi c1_i32_383 v511
  let c2_i32_390 : BitVec 32 := 2#32
  let v518 : BitVec 32 := Scalar.muli v515 c2_i32_390
  let v519 : BitVec 32 := Scalar.addi v517 v518
  let v512 : BitVec 32 := Dev.word d0
  let c1_i32_382 : BitVec 32 := 1#32
  let v513 : BitVec 32 := Scalar.divsi v512 c1_i32_382
  let c2_i32_381 : BitVec 32 := 2#32
  let v514 : BitVec 32 := Scalar.remsi v513 c2_i32_381
  let c1_i32_391 : BitVec 32 := 1#32
  let v520 : BitVec 32 := Scalar.muli v514 c1_i32_391
  let v521 : BitVec 32 := Scalar.addi v519 v520
  v521.toNat
def k0_dev24 (d0 : Dev nD) : Nat :=
  let c0_i32_406 : BitVec 32 := 0#32
  let v527 : BitVec 32 := Dev.word d0
  let c4_i32_394 : BitVec 32 := 4#32
  let v528 : BitVec 32 := Scalar.divsi v527 c4_i32_394
  let c2_i32_393 : BitVec 32 := 2#32
  let v529 : BitVec 32 := Scalar.remsi v528 c2_i32_393
  let c4_i32_405 : BitVec 32 := 4#32
  let v538 : BitVec 32 := Scalar.muli v529 c4_i32_405
  let v539 : BitVec 32 := Scalar.addi c0_i32_406 v538
  let c1_i32_399 : BitVec 32 := 1#32
  let v530 : BitVec 32 := Dev.word d0
  let c2_i32_396 : BitVec 32 := 2#32
  let v531 : BitVec 32 := Scalar.divsi v530 c2_i32_396
  let c2_i32_395 : BitVec 32 := 2#32
  let v532 : BitVec 32 := Scalar.remsi v531 c2_i32_395
  let v536 : BitVec 32 := Scalar.subi c1_i32_399 v532
  let c2_i32_407 : BitVec 32 := 2#32
  let v540 : BitVec 32 := Scalar.muli v536 c2_i32_407
  let v541 : BitVec 32 := Scalar.addi v539 v540
  let c1_i32_400 : BitVec 32 := 1#32
  let v533 : BitVec 32 := Dev.word d0
  let c1_i32_398 : BitVec 32 := 1#32
  let v534 : BitVec 32 := Scalar.divsi v533 c1_i32_398
  let c2_i32_397 : BitVec 32 := 2#32
  let v535 : BitVec 32 := Scalar.remsi v534 c2_i32_397
  let v537 : BitVec 32 := Scalar.subi c1_i32_400 v535
  let c1_i32_408 : BitVec 32 := 1#32
  let v542 : BitVec 32 := Scalar.muli v537 c1_i32_408
  let v543 : BitVec 32 := Scalar.addi v541 v542
  v543.toNat
def k0_dev25 (d0 : Dev nD) : Nat :=
  let c0_i32_422 : BitVec 32 := 0#32
  let c1_i32_416 : BitVec 32 := 1#32
  let v549 : BitVec 32 := Dev.word d0
  let c4_i32_411 : BitVec 32 := 4#32
  let v550 : BitVec 32 := Scalar.divsi v549 c4_i32_411
  let c2_i32_410 : BitVec 32 := 2#32
  let v551 : BitVec 32 := Scalar.remsi v550 c2_i32_410
  let v558 : BitVec 32 := Scalar.subi c1_i32_416 v551
  let c4_i32_421 : BitVec 32 := 4#32
  let v559 : BitVec 32 := Scalar.muli v558 c4_i32_421
  let v560 : BitVec 32 := Scalar.addi c0_i32_422 v559
  let v552 : BitVec 32 := Dev.word d0
  let c2_i32_413 : BitVec 32 := 2#32
  let v553 : BitVec 32 := Scalar.divsi v552 c2_i32_413
  let c2_i32_412 : BitVec 32 := 2#32
  let v554 : BitVec 32 := Scalar.remsi v553 c2_i32_412
  let c2_i32_423 : BitVec 32 := 2#32
  let v561 : BitVec 32 := Scalar.muli v554 c2_i32_423
  let v562 : BitVec 32 := Scalar.addi v560 v561
  let v555 : BitVec 32 := Dev.word d0
  let c1_i32_415 : BitVec 32 := 1#32
  let v556 : BitVec 32 := Scalar.divsi v555 c1_i32_415
  let c2_i32_414 : BitVec 32 := 2#32
  let v557 : BitVec 32 := Scalar.remsi v556 c2_i32_414
  let c1_i32_424 : BitVec 32 := 1#32
  let v563 : BitVec 32 := Scalar.muli v557 c1_i32_424
  let v564 : BitVec 32 := Scalar.addi v562 v563
  v564.toNat
def k0_dev26 (d0 : Dev nD) : Nat :=
  let c0_i32_439 : BitVec 32 := 0#32
  let c1_i32_432 : BitVec 32 := 1#32
  let v570 : BitVec 32 := Dev.word d0
  let c4_i32_427 : BitVec 32 := 4#32
  let v571 : BitVec 32 := Scalar.divsi v570 c4_i32_427
  let c2_i32_426 : BitVec 32 := 2#32
  let v572 : BitVec 32 := Scalar.remsi v571 c2_i32_426
  let v579 : BitVec 32 := Scalar.subi c1_i32_432 v572
  let c4_i32_438 : BitVec 32 := 4#32
  let v581 : BitVec 32 := Scalar.muli v579 c4_i32_438
  let v582 : BitVec 32 := Scalar.addi c0_i32_439 v581
  let v573 : BitVec 32 := Dev.word d0
  let c2_i32_429 : BitVec 32 := 2#32
  let v574 : BitVec 32 := Scalar.divsi v573 c2_i32_429
  let c2_i32_428 : BitVec 32 := 2#32
  let v575 : BitVec 32 := Scalar.remsi v574 c2_i32_428
  let c2_i32_440 : BitVec 32 := 2#32
  let v583 : BitVec 32 := Scalar.muli v575 c2_i32_440
  let v584 : BitVec 32 := Scalar.addi v582 v583
  let c1_i32_433 : BitVec 32 := 1#32
  let v576 : BitVec 32 := Dev.word d0
  let c1_i32_431 : BitVec 32 := 1#32
  let v577 : BitVec 32 := Scalar.divsi v576 c1_i32_431
  let c2_i32_430 : BitVec 32 := 2#32
  let v578 : BitVec 32 := Scalar.remsi v577 c2_i32_430
  let v580 : BitVec 32 := Scalar.subi c1_i32_433 v578
  let c1_i32_441 : BitVec 32 := 1#32
  let v585 : BitVec 32 := Scalar.muli v580 c1_i32_441
  let v586 : BitVec 32 := Scalar.addi v584 v585
  v586.toNat
def k0_dev27 (d0 : Dev nD) : Nat :=
  let c0_i32_456 : BitVec 32 := 0#32
  let c1_i32_449 : BitVec 32 := 1#32
  let v592 : BitVec 32 := Dev.word d0
  let c4_i32_444 : BitVec 32 := 4#32
  let v593 : BitVec 32 := Scalar.divsi v592 c4_i32_444
  let c2_i32_443 : BitVec 32 := 2#32
  let v594 : BitVec 32 := Scalar.remsi v593 c2_i32_443
  let v601 : BitVec 32 := Scalar.subi c1_i32_449 v594
  let c4_i32_455 : BitVec 32 := 4#32
  let v603 : BitVec 32 := Scalar.muli v601 c4_i32_455
  let v604 : BitVec 32 := Scalar.addi c0_i32_456 v603
  let c1_i32_450 : BitVec 32 := 1#32
  let v595 : BitVec 32 := Dev.word d0
  let c2_i32_446 : BitVec 32 := 2#32
  let v596 : BitVec 32 := Scalar.divsi v595 c2_i32_446
  let c2_i32_445 : BitVec 32 := 2#32
  let v597 : BitVec 32 := Scalar.remsi v596 c2_i32_445
  let v602 : BitVec 32 := Scalar.subi c1_i32_450 v597
  let c2_i32_457 : BitVec 32 := 2#32
  let v605 : BitVec 32 := Scalar.muli v602 c2_i32_457
  let v606 : BitVec 32 := Scalar.addi v604 v605
  let v598 : BitVec 32 := Dev.word d0
  let c1_i32_448 : BitVec 32 := 1#32
  let v599 : BitVec 32 := Scalar.divsi v598 c1_i32_448
  let c2_i32_447 : BitVec 32 := 2#32
  let v600 : BitVec 32 := Scalar.remsi v599 c2_i32_447
  let c1_i32_458 : BitVec 32 := 1#32
  let v607 : BitVec 32 := Scalar.muli v600 c1_i32_458
  let v608 : BitVec 32 := Scalar.addi v606 v607
  v608.toNat
def k0_dev28 (d0 : Dev nD) : Nat :=
  let c0_i32_474 : BitVec 32 := 0#32
  let c1_i32_466 : BitVec 32 := 1#32
  let v614 : BitVec 32 := Dev.word d0
  let c4_i32_461 : BitVec 32 := 4#32
  let v615 : BitVec 32 := Scalar.divsi v614 c4_i32_461
  let c2_i32_460 : BitVec 32 := 2#32
  let v616 : BitVec 32 := Scalar.remsi v615 c2_i32_460
  let v623 : BitVec 32 := Scalar.subi c1_i32_466 v616
  let c4_i32_473 : BitVec 32 := 4#32
  let v626 : BitVec 32 := Scalar.muli v623 c4_i32_473
  let v627 : BitVec 32 := Scalar.addi c0_i32_474 v626
  let c1_i32_467 : BitVec 32 := 1#32
  let v617 : BitVec 32 := Dev.word d0
  let c2_i32_463 : BitVec 32 := 2#32
  let v618 : BitVec 32 := Scalar.divsi v617 c2_i32_463
  let c2_i32_462 : BitVec 32 := 2#32
  let v619 : BitVec 32 := Scalar.remsi v618 c2_i32_462
  let v624 : BitVec 32 := Scalar.subi c1_i32_467 v619
  let c2_i32_475 : BitVec 32 := 2#32
  let v628 : BitVec 32 := Scalar.muli v624 c2_i32_475
  let v629 : BitVec 32 := Scalar.addi v627 v628
  let c1_i32_468 : BitVec 32 := 1#32
  let v620 : BitVec 32 := Dev.word d0
  let c1_i32_465 : BitVec 32 := 1#32
  let v621 : BitVec 32 := Scalar.divsi v620 c1_i32_465
  let c2_i32_464 : BitVec 32 := 2#32
  let v622 : BitVec 32 := Scalar.remsi v621 c2_i32_464
  let v625 : BitVec 32 := Scalar.subi c1_i32_468 v622
  let c1_i32_476 : BitVec 32 := 1#32
  let v630 : BitVec 32 := Scalar.muli v625 c1_i32_476
  let v631 : BitVec 32 := Scalar.addi v629 v630
  v631.toNat
def k0_dev29 (d0 : Dev nD) : Nat :=
  let c0_i32_493 : BitVec 32 := 0#32
  let v641 : BitVec 32 := Dev.word d0
  let c4_i32_482 : BitVec 32 := 4#32
  let v642 : BitVec 32 := Scalar.divsi v641 c4_i32_482
  let c2_i32_481 : BitVec 32 := 2#32
  let v643 : BitVec 32 := Scalar.remsi v642 c2_i32_481
  let c4_i32_492 : BitVec 32 := 4#32
  let v651 : BitVec 32 := Scalar.muli v643 c4_i32_492
  let v652 : BitVec 32 := Scalar.addi c0_i32_493 v651
  let v644 : BitVec 32 := Dev.word d0
  let c2_i32_484 : BitVec 32 := 2#32
  let v645 : BitVec 32 := Scalar.divsi v644 c2_i32_484
  let c2_i32_483 : BitVec 32 := 2#32
  let v646 : BitVec 32 := Scalar.remsi v645 c2_i32_483
  let c2_i32_494 : BitVec 32 := 2#32
  let v653 : BitVec 32 := Scalar.muli v646 c2_i32_494
  let v654 : BitVec 32 := Scalar.addi v652 v653
  let c1_i32_487 : BitVec 32 := 1#32
  let v647 : BitVec 32 := Dev.word d0
  let c1_i32_486 : BitVec 32 := 1#32
  let v648 : BitVec 32 := Scalar.divsi v647 c1_i32_486
  let c2_i32_485 : BitVec 32 := 2#32
  let v649 : BitVec 32 := Scalar.remsi v648 c2_i32_485
  let v650 : BitVec 32 := Scalar.subi c1_i32_487 v649
  let c1_i32_495 : BitVec 32 := 1#32
  let v655 : BitVec 32 := Scalar.muli v650 c1_i32_495
  let v656 : BitVec 32 := Scalar.addi v654 v655
  v656.toNat
def k0_dev30 (d0 : Dev nD) : Nat :=
  let c0_i32_509 : BitVec 32 := 0#32
  let v662 : BitVec 32 := Dev.word d0
  let c4_i32_498 : BitVec 32 := 4#32
  let v663 : BitVec 32 := Scalar.divsi v662 c4_i32_498
  let c2_i32_497 : BitVec 32 := 2#32
  let v664 : BitVec 32 := Scalar.remsi v663 c2_i32_497
  let c4_i32_508 : BitVec 32 := 4#32
  let v672 : BitVec 32 := Scalar.muli v664 c4_i32_508
  let v673 : BitVec 32 := Scalar.addi c0_i32_509 v672
  let c1_i32_503 : BitVec 32 := 1#32
  let v665 : BitVec 32 := Dev.word d0
  let c2_i32_500 : BitVec 32 := 2#32
  let v666 : BitVec 32 := Scalar.divsi v665 c2_i32_500
  let c2_i32_499 : BitVec 32 := 2#32
  let v667 : BitVec 32 := Scalar.remsi v666 c2_i32_499
  let v671 : BitVec 32 := Scalar.subi c1_i32_503 v667
  let c2_i32_510 : BitVec 32 := 2#32
  let v674 : BitVec 32 := Scalar.muli v671 c2_i32_510
  let v675 : BitVec 32 := Scalar.addi v673 v674
  let v668 : BitVec 32 := Dev.word d0
  let c1_i32_502 : BitVec 32 := 1#32
  let v669 : BitVec 32 := Scalar.divsi v668 c1_i32_502
  let c2_i32_501 : BitVec 32 := 2#32
  let v670 : BitVec 32 := Scalar.remsi v669 c2_i32_501
  let c1_i32_511 : BitVec 32 := 1#32
  let v676 : BitVec 32 := Scalar.muli v670 c1_i32_511
  let v677 : BitVec 32 := Scalar.addi v675 v676
  v677.toNat
def k0_dev31 (d0 : Dev nD) : Nat :=
  let c0_i32_526 : BitVec 32 := 0#32
  let v683 : BitVec 32 := Dev.word d0
  let c4_i32_514 : BitVec 32 := 4#32
  let v684 : BitVec 32 := Scalar.divsi v683 c4_i32_514
  let c2_i32_513 : BitVec 32 := 2#32
  let v685 : BitVec 32 := Scalar.remsi v684 c2_i32_513
  let c4_i32_525 : BitVec 32 := 4#32
  let v694 : BitVec 32 := Scalar.muli v685 c4_i32_525
  let v695 : BitVec 32 := Scalar.addi c0_i32_526 v694
  let c1_i32_519 : BitVec 32 := 1#32
  let v686 : BitVec 32 := Dev.word d0
  let c2_i32_516 : BitVec 32 := 2#32
  let v687 : BitVec 32 := Scalar.divsi v686 c2_i32_516
  let c2_i32_515 : BitVec 32 := 2#32
  let v688 : BitVec 32 := Scalar.remsi v687 c2_i32_515
  let v692 : BitVec 32 := Scalar.subi c1_i32_519 v688
  let c2_i32_527 : BitVec 32 := 2#32
  let v696 : BitVec 32 := Scalar.muli v692 c2_i32_527
  let v697 : BitVec 32 := Scalar.addi v695 v696
  let c1_i32_520 : BitVec 32 := 1#32
  let v689 : BitVec 32 := Dev.word d0
  let c1_i32_518 : BitVec 32 := 1#32
  let v690 : BitVec 32 := Scalar.divsi v689 c1_i32_518
  let c2_i32_517 : BitVec 32 := 2#32
  let v691 : BitVec 32 := Scalar.remsi v690 c2_i32_517
  let v693 : BitVec 32 := Scalar.subi c1_i32_520 v691
  let c1_i32_528 : BitVec 32 := 1#32
  let v698 : BitVec 32 := Scalar.muli v693 c1_i32_528
  let v699 : BitVec 32 := Scalar.addi v697 v698
  v699.toNat
def k0_dev32 (d0 : Dev nD) : Nat :=
  let c0_i32_542 : BitVec 32 := 0#32
  let c1_i32_536 : BitVec 32 := 1#32
  let v705 : BitVec 32 := Dev.word d0
  let c4_i32_531 : BitVec 32 := 4#32
  let v706 : BitVec 32 := Scalar.divsi v705 c4_i32_531
  let c2_i32_530 : BitVec 32 := 2#32
  let v707 : BitVec 32 := Scalar.remsi v706 c2_i32_530
  let v714 : BitVec 32 := Scalar.subi c1_i32_536 v707
  let c4_i32_541 : BitVec 32 := 4#32
  let v715 : BitVec 32 := Scalar.muli v714 c4_i32_541
  let v716 : BitVec 32 := Scalar.addi c0_i32_542 v715
  let v708 : BitVec 32 := Dev.word d0
  let c2_i32_533 : BitVec 32 := 2#32
  let v709 : BitVec 32 := Scalar.divsi v708 c2_i32_533
  let c2_i32_532 : BitVec 32 := 2#32
  let v710 : BitVec 32 := Scalar.remsi v709 c2_i32_532
  let c2_i32_543 : BitVec 32 := 2#32
  let v717 : BitVec 32 := Scalar.muli v710 c2_i32_543
  let v718 : BitVec 32 := Scalar.addi v716 v717
  let v711 : BitVec 32 := Dev.word d0
  let c1_i32_535 : BitVec 32 := 1#32
  let v712 : BitVec 32 := Scalar.divsi v711 c1_i32_535
  let c2_i32_534 : BitVec 32 := 2#32
  let v713 : BitVec 32 := Scalar.remsi v712 c2_i32_534
  let c1_i32_544 : BitVec 32 := 1#32
  let v719 : BitVec 32 := Scalar.muli v713 c1_i32_544
  let v720 : BitVec 32 := Scalar.addi v718 v719
  v720.toNat
def k0_dev33 (d0 : Dev nD) : Nat :=
  let c0_i32_559 : BitVec 32 := 0#32
  let c1_i32_552 : BitVec 32 := 1#32
  let v726 : BitVec 32 := Dev.word d0
  let c4_i32_547 : BitVec 32 := 4#32
  let v727 : BitVec 32 := Scalar.divsi v726 c4_i32_547
  let c2_i32_546 : BitVec 32 := 2#32
  let v728 : BitVec 32 := Scalar.remsi v727 c2_i32_546
  let v735 : BitVec 32 := Scalar.subi c1_i32_552 v728
  let c4_i32_558 : BitVec 32 := 4#32
  let v737 : BitVec 32 := Scalar.muli v735 c4_i32_558
  let v738 : BitVec 32 := Scalar.addi c0_i32_559 v737
  let v729 : BitVec 32 := Dev.word d0
  let c2_i32_549 : BitVec 32 := 2#32
  let v730 : BitVec 32 := Scalar.divsi v729 c2_i32_549
  let c2_i32_548 : BitVec 32 := 2#32
  let v731 : BitVec 32 := Scalar.remsi v730 c2_i32_548
  let c2_i32_560 : BitVec 32 := 2#32
  let v739 : BitVec 32 := Scalar.muli v731 c2_i32_560
  let v740 : BitVec 32 := Scalar.addi v738 v739
  let c1_i32_553 : BitVec 32 := 1#32
  let v732 : BitVec 32 := Dev.word d0
  let c1_i32_551 : BitVec 32 := 1#32
  let v733 : BitVec 32 := Scalar.divsi v732 c1_i32_551
  let c2_i32_550 : BitVec 32 := 2#32
  let v734 : BitVec 32 := Scalar.remsi v733 c2_i32_550
  let v736 : BitVec 32 := Scalar.subi c1_i32_553 v734
  let c1_i32_561 : BitVec 32 := 1#32
  let v741 : BitVec 32 := Scalar.muli v736 c1_i32_561
  let v742 : BitVec 32 := Scalar.addi v740 v741
  v742.toNat
def k0_dev34 (d0 : Dev nD) : Nat :=
  let c0_i32_576 : BitVec 32 := 0#32
  let c1_i32_569 : BitVec 32 := 1#32
  let v748 : BitVec 32 := Dev.word d0
  let c4_i32_564 : BitVec 32 := 4#32
  let v749 : BitVec 32 := Scalar.divsi v748 c4_i32_564
  let c2_i32_563 : BitVec 32 := 2#32
  let v750 : BitVec 32 := Scalar.remsi v749 c2_i32_563
  let v757 : BitVec 32 := Scalar.subi c1_i32_569 v750
  let c4_i32_575 : BitVec 32 := 4#32
  let v759 : BitVec 32 := Scalar.muli v757 c4_i32_575
  let v760 : BitVec 32 := Scalar.addi c0_i32_576 v759
  let c1_i32_570 : BitVec 32 := 1#32
  let v751 : BitVec 32 := Dev.word d0
  let c2_i32_566 : BitVec 32 := 2#32
  let v752 : BitVec 32 := Scalar.divsi v751 c2_i32_566
  let c2_i32_565 : BitVec 32 := 2#32
  let v753 : BitVec 32 := Scalar.remsi v752 c2_i32_565
  let v758 : BitVec 32 := Scalar.subi c1_i32_570 v753
  let c2_i32_577 : BitVec 32 := 2#32
  let v761 : BitVec 32 := Scalar.muli v758 c2_i32_577
  let v762 : BitVec 32 := Scalar.addi v760 v761
  let v754 : BitVec 32 := Dev.word d0
  let c1_i32_568 : BitVec 32 := 1#32
  let v755 : BitVec 32 := Scalar.divsi v754 c1_i32_568
  let c2_i32_567 : BitVec 32 := 2#32
  let v756 : BitVec 32 := Scalar.remsi v755 c2_i32_567
  let c1_i32_578 : BitVec 32 := 1#32
  let v763 : BitVec 32 := Scalar.muli v756 c1_i32_578
  let v764 : BitVec 32 := Scalar.addi v762 v763
  v764.toNat
def k0_dev35 (d0 : Dev nD) : Nat :=
  let c0_i32_594 : BitVec 32 := 0#32
  let c1_i32_586 : BitVec 32 := 1#32
  let v770 : BitVec 32 := Dev.word d0
  let c4_i32_581 : BitVec 32 := 4#32
  let v771 : BitVec 32 := Scalar.divsi v770 c4_i32_581
  let c2_i32_580 : BitVec 32 := 2#32
  let v772 : BitVec 32 := Scalar.remsi v771 c2_i32_580
  let v779 : BitVec 32 := Scalar.subi c1_i32_586 v772
  let c4_i32_593 : BitVec 32 := 4#32
  let v782 : BitVec 32 := Scalar.muli v779 c4_i32_593
  let v783 : BitVec 32 := Scalar.addi c0_i32_594 v782
  let c1_i32_587 : BitVec 32 := 1#32
  let v773 : BitVec 32 := Dev.word d0
  let c2_i32_583 : BitVec 32 := 2#32
  let v774 : BitVec 32 := Scalar.divsi v773 c2_i32_583
  let c2_i32_582 : BitVec 32 := 2#32
  let v775 : BitVec 32 := Scalar.remsi v774 c2_i32_582
  let v780 : BitVec 32 := Scalar.subi c1_i32_587 v775
  let c2_i32_595 : BitVec 32 := 2#32
  let v784 : BitVec 32 := Scalar.muli v780 c2_i32_595
  let v785 : BitVec 32 := Scalar.addi v783 v784
  let c1_i32_588 : BitVec 32 := 1#32
  let v776 : BitVec 32 := Dev.word d0
  let c1_i32_585 : BitVec 32 := 1#32
  let v777 : BitVec 32 := Scalar.divsi v776 c1_i32_585
  let c2_i32_584 : BitVec 32 := 2#32
  let v778 : BitVec 32 := Scalar.remsi v777 c2_i32_584
  let v781 : BitVec 32 := Scalar.subi c1_i32_588 v778
  let c1_i32_596 : BitVec 32 := 1#32
  let v786 : BitVec 32 := Scalar.muli v781 c1_i32_596
  let v787 : BitVec 32 := Scalar.addi v785 v786
  v787.toNat
def k0_dev36 (d0 : Dev nD) : Nat :=
  let c0_i32_613 : BitVec 32 := 0#32
  let v797 : BitVec 32 := Dev.word d0
  let c4_i32_602 : BitVec 32 := 4#32
  let v798 : BitVec 32 := Scalar.divsi v797 c4_i32_602
  let c2_i32_601 : BitVec 32 := 2#32
  let v799 : BitVec 32 := Scalar.remsi v798 c2_i32_601
  let c4_i32_612 : BitVec 32 := 4#32
  let v807 : BitVec 32 := Scalar.muli v799 c4_i32_612
  let v808 : BitVec 32 := Scalar.addi c0_i32_613 v807
  let v800 : BitVec 32 := Dev.word d0
  let c2_i32_604 : BitVec 32 := 2#32
  let v801 : BitVec 32 := Scalar.divsi v800 c2_i32_604
  let c2_i32_603 : BitVec 32 := 2#32
  let v802 : BitVec 32 := Scalar.remsi v801 c2_i32_603
  let c2_i32_614 : BitVec 32 := 2#32
  let v809 : BitVec 32 := Scalar.muli v802 c2_i32_614
  let v810 : BitVec 32 := Scalar.addi v808 v809
  let c1_i32_607 : BitVec 32 := 1#32
  let v803 : BitVec 32 := Dev.word d0
  let c1_i32_606 : BitVec 32 := 1#32
  let v804 : BitVec 32 := Scalar.divsi v803 c1_i32_606
  let c2_i32_605 : BitVec 32 := 2#32
  let v805 : BitVec 32 := Scalar.remsi v804 c2_i32_605
  let v806 : BitVec 32 := Scalar.subi c1_i32_607 v805
  let c1_i32_615 : BitVec 32 := 1#32
  let v811 : BitVec 32 := Scalar.muli v806 c1_i32_615
  let v812 : BitVec 32 := Scalar.addi v810 v811
  v812.toNat
def k0_dev37 (d0 : Dev nD) : Nat :=
  let c0_i32_629 : BitVec 32 := 0#32
  let v818 : BitVec 32 := Dev.word d0
  let c4_i32_618 : BitVec 32 := 4#32
  let v819 : BitVec 32 := Scalar.divsi v818 c4_i32_618
  let c2_i32_617 : BitVec 32 := 2#32
  let v820 : BitVec 32 := Scalar.remsi v819 c2_i32_617
  let c4_i32_628 : BitVec 32 := 4#32
  let v828 : BitVec 32 := Scalar.muli v820 c4_i32_628
  let v829 : BitVec 32 := Scalar.addi c0_i32_629 v828
  let c1_i32_623 : BitVec 32 := 1#32
  let v821 : BitVec 32 := Dev.word d0
  let c2_i32_620 : BitVec 32 := 2#32
  let v822 : BitVec 32 := Scalar.divsi v821 c2_i32_620
  let c2_i32_619 : BitVec 32 := 2#32
  let v823 : BitVec 32 := Scalar.remsi v822 c2_i32_619
  let v827 : BitVec 32 := Scalar.subi c1_i32_623 v823
  let c2_i32_630 : BitVec 32 := 2#32
  let v830 : BitVec 32 := Scalar.muli v827 c2_i32_630
  let v831 : BitVec 32 := Scalar.addi v829 v830
  let v824 : BitVec 32 := Dev.word d0
  let c1_i32_622 : BitVec 32 := 1#32
  let v825 : BitVec 32 := Scalar.divsi v824 c1_i32_622
  let c2_i32_621 : BitVec 32 := 2#32
  let v826 : BitVec 32 := Scalar.remsi v825 c2_i32_621
  let c1_i32_631 : BitVec 32 := 1#32
  let v832 : BitVec 32 := Scalar.muli v826 c1_i32_631
  let v833 : BitVec 32 := Scalar.addi v831 v832
  v833.toNat
def k0_dev38 (d0 : Dev nD) : Nat :=
  let c0_i32_646 : BitVec 32 := 0#32
  let v839 : BitVec 32 := Dev.word d0
  let c4_i32_634 : BitVec 32 := 4#32
  let v840 : BitVec 32 := Scalar.divsi v839 c4_i32_634
  let c2_i32_633 : BitVec 32 := 2#32
  let v841 : BitVec 32 := Scalar.remsi v840 c2_i32_633
  let c4_i32_645 : BitVec 32 := 4#32
  let v850 : BitVec 32 := Scalar.muli v841 c4_i32_645
  let v851 : BitVec 32 := Scalar.addi c0_i32_646 v850
  let c1_i32_639 : BitVec 32 := 1#32
  let v842 : BitVec 32 := Dev.word d0
  let c2_i32_636 : BitVec 32 := 2#32
  let v843 : BitVec 32 := Scalar.divsi v842 c2_i32_636
  let c2_i32_635 : BitVec 32 := 2#32
  let v844 : BitVec 32 := Scalar.remsi v843 c2_i32_635
  let v848 : BitVec 32 := Scalar.subi c1_i32_639 v844
  let c2_i32_647 : BitVec 32 := 2#32
  let v852 : BitVec 32 := Scalar.muli v848 c2_i32_647
  let v853 : BitVec 32 := Scalar.addi v851 v852
  let c1_i32_640 : BitVec 32 := 1#32
  let v845 : BitVec 32 := Dev.word d0
  let c1_i32_638 : BitVec 32 := 1#32
  let v846 : BitVec 32 := Scalar.divsi v845 c1_i32_638
  let c2_i32_637 : BitVec 32 := 2#32
  let v847 : BitVec 32 := Scalar.remsi v846 c2_i32_637
  let v849 : BitVec 32 := Scalar.subi c1_i32_640 v847
  let c1_i32_648 : BitVec 32 := 1#32
  let v854 : BitVec 32 := Scalar.muli v849 c1_i32_648
  let v855 : BitVec 32 := Scalar.addi v853 v854
  v855.toNat
def k0_dev39 (d0 : Dev nD) : Nat :=
  let c0_i32_662 : BitVec 32 := 0#32
  let c1_i32_656 : BitVec 32 := 1#32
  let v861 : BitVec 32 := Dev.word d0
  let c4_i32_651 : BitVec 32 := 4#32
  let v862 : BitVec 32 := Scalar.divsi v861 c4_i32_651
  let c2_i32_650 : BitVec 32 := 2#32
  let v863 : BitVec 32 := Scalar.remsi v862 c2_i32_650
  let v870 : BitVec 32 := Scalar.subi c1_i32_656 v863
  let c4_i32_661 : BitVec 32 := 4#32
  let v871 : BitVec 32 := Scalar.muli v870 c4_i32_661
  let v872 : BitVec 32 := Scalar.addi c0_i32_662 v871
  let v864 : BitVec 32 := Dev.word d0
  let c2_i32_653 : BitVec 32 := 2#32
  let v865 : BitVec 32 := Scalar.divsi v864 c2_i32_653
  let c2_i32_652 : BitVec 32 := 2#32
  let v866 : BitVec 32 := Scalar.remsi v865 c2_i32_652
  let c2_i32_663 : BitVec 32 := 2#32
  let v873 : BitVec 32 := Scalar.muli v866 c2_i32_663
  let v874 : BitVec 32 := Scalar.addi v872 v873
  let v867 : BitVec 32 := Dev.word d0
  let c1_i32_655 : BitVec 32 := 1#32
  let v868 : BitVec 32 := Scalar.divsi v867 c1_i32_655
  let c2_i32_654 : BitVec 32 := 2#32
  let v869 : BitVec 32 := Scalar.remsi v868 c2_i32_654
  let c1_i32_664 : BitVec 32 := 1#32
  let v875 : BitVec 32 := Scalar.muli v869 c1_i32_664
  let v876 : BitVec 32 := Scalar.addi v874 v875
  v876.toNat
def k0_dev40 (d0 : Dev nD) : Nat :=
  let c0_i32_679 : BitVec 32 := 0#32
  let c1_i32_672 : BitVec 32 := 1#32
  let v882 : BitVec 32 := Dev.word d0
  let c4_i32_667 : BitVec 32 := 4#32
  let v883 : BitVec 32 := Scalar.divsi v882 c4_i32_667
  let c2_i32_666 : BitVec 32 := 2#32
  let v884 : BitVec 32 := Scalar.remsi v883 c2_i32_666
  let v891 : BitVec 32 := Scalar.subi c1_i32_672 v884
  let c4_i32_678 : BitVec 32 := 4#32
  let v893 : BitVec 32 := Scalar.muli v891 c4_i32_678
  let v894 : BitVec 32 := Scalar.addi c0_i32_679 v893
  let v885 : BitVec 32 := Dev.word d0
  let c2_i32_669 : BitVec 32 := 2#32
  let v886 : BitVec 32 := Scalar.divsi v885 c2_i32_669
  let c2_i32_668 : BitVec 32 := 2#32
  let v887 : BitVec 32 := Scalar.remsi v886 c2_i32_668
  let c2_i32_680 : BitVec 32 := 2#32
  let v895 : BitVec 32 := Scalar.muli v887 c2_i32_680
  let v896 : BitVec 32 := Scalar.addi v894 v895
  let c1_i32_673 : BitVec 32 := 1#32
  let v888 : BitVec 32 := Dev.word d0
  let c1_i32_671 : BitVec 32 := 1#32
  let v889 : BitVec 32 := Scalar.divsi v888 c1_i32_671
  let c2_i32_670 : BitVec 32 := 2#32
  let v890 : BitVec 32 := Scalar.remsi v889 c2_i32_670
  let v892 : BitVec 32 := Scalar.subi c1_i32_673 v890
  let c1_i32_681 : BitVec 32 := 1#32
  let v897 : BitVec 32 := Scalar.muli v892 c1_i32_681
  let v898 : BitVec 32 := Scalar.addi v896 v897
  v898.toNat
def k0_dev41 (d0 : Dev nD) : Nat :=
  let c0_i32_696 : BitVec 32 := 0#32
  let c1_i32_689 : BitVec 32 := 1#32
  let v904 : BitVec 32 := Dev.word d0
  let c4_i32_684 : BitVec 32 := 4#32
  let v905 : BitVec 32 := Scalar.divsi v904 c4_i32_684
  let c2_i32_683 : BitVec 32 := 2#32
  let v906 : BitVec 32 := Scalar.remsi v905 c2_i32_683
  let v913 : BitVec 32 := Scalar.subi c1_i32_689 v906
  let c4_i32_695 : BitVec 32 := 4#32
  let v915 : BitVec 32 := Scalar.muli v913 c4_i32_695
  let v916 : BitVec 32 := Scalar.addi c0_i32_696 v915
  let c1_i32_690 : BitVec 32 := 1#32
  let v907 : BitVec 32 := Dev.word d0
  let c2_i32_686 : BitVec 32 := 2#32
  let v908 : BitVec 32 := Scalar.divsi v907 c2_i32_686
  let c2_i32_685 : BitVec 32 := 2#32
  let v909 : BitVec 32 := Scalar.remsi v908 c2_i32_685
  let v914 : BitVec 32 := Scalar.subi c1_i32_690 v909
  let c2_i32_697 : BitVec 32 := 2#32
  let v917 : BitVec 32 := Scalar.muli v914 c2_i32_697
  let v918 : BitVec 32 := Scalar.addi v916 v917
  let v910 : BitVec 32 := Dev.word d0
  let c1_i32_688 : BitVec 32 := 1#32
  let v911 : BitVec 32 := Scalar.divsi v910 c1_i32_688
  let c2_i32_687 : BitVec 32 := 2#32
  let v912 : BitVec 32 := Scalar.remsi v911 c2_i32_687
  let c1_i32_698 : BitVec 32 := 1#32
  let v919 : BitVec 32 := Scalar.muli v912 c1_i32_698
  let v920 : BitVec 32 := Scalar.addi v918 v919
  v920.toNat
def k0_dev42 (d0 : Dev nD) : Nat :=
  let c0_i32_714 : BitVec 32 := 0#32
  let c1_i32_706 : BitVec 32 := 1#32
  let v926 : BitVec 32 := Dev.word d0
  let c4_i32_701 : BitVec 32 := 4#32
  let v927 : BitVec 32 := Scalar.divsi v926 c4_i32_701
  let c2_i32_700 : BitVec 32 := 2#32
  let v928 : BitVec 32 := Scalar.remsi v927 c2_i32_700
  let v935 : BitVec 32 := Scalar.subi c1_i32_706 v928
  let c4_i32_713 : BitVec 32 := 4#32
  let v938 : BitVec 32 := Scalar.muli v935 c4_i32_713
  let v939 : BitVec 32 := Scalar.addi c0_i32_714 v938
  let c1_i32_707 : BitVec 32 := 1#32
  let v929 : BitVec 32 := Dev.word d0
  let c2_i32_703 : BitVec 32 := 2#32
  let v930 : BitVec 32 := Scalar.divsi v929 c2_i32_703
  let c2_i32_702 : BitVec 32 := 2#32
  let v931 : BitVec 32 := Scalar.remsi v930 c2_i32_702
  let v936 : BitVec 32 := Scalar.subi c1_i32_707 v931
  let c2_i32_715 : BitVec 32 := 2#32
  let v940 : BitVec 32 := Scalar.muli v936 c2_i32_715
  let v941 : BitVec 32 := Scalar.addi v939 v940
  let c1_i32_708 : BitVec 32 := 1#32
  let v932 : BitVec 32 := Dev.word d0
  let c1_i32_705 : BitVec 32 := 1#32
  let v933 : BitVec 32 := Scalar.divsi v932 c1_i32_705
  let c2_i32_704 : BitVec 32 := 2#32
  let v934 : BitVec 32 := Scalar.remsi v933 c2_i32_704
  let v937 : BitVec 32 := Scalar.subi c1_i32_708 v934
  let c1_i32_716 : BitVec 32 := 1#32
  let v942 : BitVec 32 := Scalar.muli v937 c1_i32_716
  let v943 : BitVec 32 := Scalar.addi v941 v942
  v943.toNat
def k0_dev43 (d0 : Dev nD) : Nat :=
  let c0_i32_733 : BitVec 32 := 0#32
  let v953 : BitVec 32 := Dev.word d0
  let c4_i32_722 : BitVec 32 := 4#32
  let v954 : BitVec 32 := Scalar.divsi v953 c4_i32_722
  let c2_i32_721 : BitVec 32 := 2#32
  let v955 : BitVec 32 := Scalar.remsi v954 c2_i32_721
  let c4_i32_732 : BitVec 32 := 4#32
  let v963 : BitVec 32 := Scalar.muli v955 c4_i32_732
  let v964 : BitVec 32 := Scalar.addi c0_i32_733 v963
  let v956 : BitVec 32 := Dev.word d0
  let c2_i32_724 : BitVec 32 := 2#32
  let v957 : BitVec 32 := Scalar.divsi v956 c2_i32_724
  let c2_i32_723 : BitVec 32 := 2#32
  let v958 : BitVec 32 := Scalar.remsi v957 c2_i32_723
  let c2_i32_734 : BitVec 32 := 2#32
  let v965 : BitVec 32 := Scalar.muli v958 c2_i32_734
  let v966 : BitVec 32 := Scalar.addi v964 v965
  let c1_i32_727 : BitVec 32 := 1#32
  let v959 : BitVec 32 := Dev.word d0
  let c1_i32_726 : BitVec 32 := 1#32
  let v960 : BitVec 32 := Scalar.divsi v959 c1_i32_726
  let c2_i32_725 : BitVec 32 := 2#32
  let v961 : BitVec 32 := Scalar.remsi v960 c2_i32_725
  let v962 : BitVec 32 := Scalar.subi c1_i32_727 v961
  let c1_i32_735 : BitVec 32 := 1#32
  let v967 : BitVec 32 := Scalar.muli v962 c1_i32_735
  let v968 : BitVec 32 := Scalar.addi v966 v967
  v968.toNat
def k0_dev44 (d0 : Dev nD) : Nat :=
  let c0_i32_749 : BitVec 32 := 0#32
  let v974 : BitVec 32 := Dev.word d0
  let c4_i32_738 : BitVec 32 := 4#32
  let v975 : BitVec 32 := Scalar.divsi v974 c4_i32_738
  let c2_i32_737 : BitVec 32 := 2#32
  let v976 : BitVec 32 := Scalar.remsi v975 c2_i32_737
  let c4_i32_748 : BitVec 32 := 4#32
  let v984 : BitVec 32 := Scalar.muli v976 c4_i32_748
  let v985 : BitVec 32 := Scalar.addi c0_i32_749 v984
  let c1_i32_743 : BitVec 32 := 1#32
  let v977 : BitVec 32 := Dev.word d0
  let c2_i32_740 : BitVec 32 := 2#32
  let v978 : BitVec 32 := Scalar.divsi v977 c2_i32_740
  let c2_i32_739 : BitVec 32 := 2#32
  let v979 : BitVec 32 := Scalar.remsi v978 c2_i32_739
  let v983 : BitVec 32 := Scalar.subi c1_i32_743 v979
  let c2_i32_750 : BitVec 32 := 2#32
  let v986 : BitVec 32 := Scalar.muli v983 c2_i32_750
  let v987 : BitVec 32 := Scalar.addi v985 v986
  let v980 : BitVec 32 := Dev.word d0
  let c1_i32_742 : BitVec 32 := 1#32
  let v981 : BitVec 32 := Scalar.divsi v980 c1_i32_742
  let c2_i32_741 : BitVec 32 := 2#32
  let v982 : BitVec 32 := Scalar.remsi v981 c2_i32_741
  let c1_i32_751 : BitVec 32 := 1#32
  let v988 : BitVec 32 := Scalar.muli v982 c1_i32_751
  let v989 : BitVec 32 := Scalar.addi v987 v988
  v989.toNat
def k0_dev45 (d0 : Dev nD) : Nat :=
  let c0_i32_766 : BitVec 32 := 0#32
  let v995 : BitVec 32 := Dev.word d0
  let c4_i32_754 : BitVec 32 := 4#32
  let v996 : BitVec 32 := Scalar.divsi v995 c4_i32_754
  let c2_i32_753 : BitVec 32 := 2#32
  let v997 : BitVec 32 := Scalar.remsi v996 c2_i32_753
  let c4_i32_765 : BitVec 32 := 4#32
  let v1006 : BitVec 32 := Scalar.muli v997 c4_i32_765
  let v1007 : BitVec 32 := Scalar.addi c0_i32_766 v1006
  let c1_i32_759 : BitVec 32 := 1#32
  let v998 : BitVec 32 := Dev.word d0
  let c2_i32_756 : BitVec 32 := 2#32
  let v999 : BitVec 32 := Scalar.divsi v998 c2_i32_756
  let c2_i32_755 : BitVec 32 := 2#32
  let v1000 : BitVec 32 := Scalar.remsi v999 c2_i32_755
  let v1004 : BitVec 32 := Scalar.subi c1_i32_759 v1000
  let c2_i32_767 : BitVec 32 := 2#32
  let v1008 : BitVec 32 := Scalar.muli v1004 c2_i32_767
  let v1009 : BitVec 32 := Scalar.addi v1007 v1008
  let c1_i32_760 : BitVec 32 := 1#32
  let v1001 : BitVec 32 := Dev.word d0
  let c1_i32_758 : BitVec 32 := 1#32
  let v1002 : BitVec 32 := Scalar.divsi v1001 c1_i32_758
  let c2_i32_757 : BitVec 32 := 2#32
  let v1003 : BitVec 32 := Scalar.remsi v1002 c2_i32_757
  let v1005 : BitVec 32 := Scalar.subi c1_i32_760 v1003
  let c1_i32_768 : BitVec 32 := 1#32
  let v1010 : BitVec 32 := Scalar.muli v1005 c1_i32_768
  let v1011 : BitVec 32 := Scalar.addi v1009 v1010
  v1011.toNat
def k0_dev46 (d0 : Dev nD) : Nat :=
  let c0_i32_782 : BitVec 32 := 0#32
  let c1_i32_776 : BitVec 32 := 1#32
  let v1017 : BitVec 32 := Dev.word d0
  let c4_i32_771 : BitVec 32 := 4#32
  let v1018 : BitVec 32 := Scalar.divsi v1017 c4_i32_771
  let c2_i32_770 : BitVec 32 := 2#32
  let v1019 : BitVec 32 := Scalar.remsi v1018 c2_i32_770
  let v1026 : BitVec 32 := Scalar.subi c1_i32_776 v1019
  let c4_i32_781 : BitVec 32 := 4#32
  let v1027 : BitVec 32 := Scalar.muli v1026 c4_i32_781
  let v1028 : BitVec 32 := Scalar.addi c0_i32_782 v1027
  let v1020 : BitVec 32 := Dev.word d0
  let c2_i32_773 : BitVec 32 := 2#32
  let v1021 : BitVec 32 := Scalar.divsi v1020 c2_i32_773
  let c2_i32_772 : BitVec 32 := 2#32
  let v1022 : BitVec 32 := Scalar.remsi v1021 c2_i32_772
  let c2_i32_783 : BitVec 32 := 2#32
  let v1029 : BitVec 32 := Scalar.muli v1022 c2_i32_783
  let v1030 : BitVec 32 := Scalar.addi v1028 v1029
  let v1023 : BitVec 32 := Dev.word d0
  let c1_i32_775 : BitVec 32 := 1#32
  let v1024 : BitVec 32 := Scalar.divsi v1023 c1_i32_775
  let c2_i32_774 : BitVec 32 := 2#32
  let v1025 : BitVec 32 := Scalar.remsi v1024 c2_i32_774
  let c1_i32_784 : BitVec 32 := 1#32
  let v1031 : BitVec 32 := Scalar.muli v1025 c1_i32_784
  let v1032 : BitVec 32 := Scalar.addi v1030 v1031
  v1032.toNat
def k0_dev47 (d0 : Dev nD) : Nat :=
  let c0_i32_799 : BitVec 32 := 0#32
  let c1_i32_792 : BitVec 32 := 1#32
  let v1038 : BitVec 32 := Dev.word d0
  let c4_i32_787 : BitVec 32 := 4#32
  let v1039 : BitVec 32 := Scalar.divsi v1038 c4_i32_787
  let c2_i32_786 : BitVec 32 := 2#32
  let v1040 : BitVec 32 := Scalar.remsi v1039 c2_i32_786
  let v1047 : BitVec 32 := Scalar.subi c1_i32_792 v1040
  let c4_i32_798 : BitVec 32 := 4#32
  let v1049 : BitVec 32 := Scalar.muli v1047 c4_i32_798
  let v1050 : BitVec 32 := Scalar.addi c0_i32_799 v1049
  let v1041 : BitVec 32 := Dev.word d0
  let c2_i32_789 : BitVec 32 := 2#32
  let v1042 : BitVec 32 := Scalar.divsi v1041 c2_i32_789
  let c2_i32_788 : BitVec 32 := 2#32
  let v1043 : BitVec 32 := Scalar.remsi v1042 c2_i32_788
  let c2_i32_800 : BitVec 32 := 2#32
  let v1051 : BitVec 32 := Scalar.muli v1043 c2_i32_800
  let v1052 : BitVec 32 := Scalar.addi v1050 v1051
  let c1_i32_793 : BitVec 32 := 1#32
  let v1044 : BitVec 32 := Dev.word d0
  let c1_i32_791 : BitVec 32 := 1#32
  let v1045 : BitVec 32 := Scalar.divsi v1044 c1_i32_791
  let c2_i32_790 : BitVec 32 := 2#32
  let v1046 : BitVec 32 := Scalar.remsi v1045 c2_i32_790
  let v1048 : BitVec 32 := Scalar.subi c1_i32_793 v1046
  let c1_i32_801 : BitVec 32 := 1#32
  let v1053 : BitVec 32 := Scalar.muli v1048 c1_i32_801
  let v1054 : BitVec 32 := Scalar.addi v1052 v1053
  v1054.toNat
def k0_dev48 (d0 : Dev nD) : Nat :=
  let c0_i32_816 : BitVec 32 := 0#32
  let c1_i32_809 : BitVec 32 := 1#32
  let v1060 : BitVec 32 := Dev.word d0
  let c4_i32_804 : BitVec 32 := 4#32
  let v1061 : BitVec 32 := Scalar.divsi v1060 c4_i32_804
  let c2_i32_803 : BitVec 32 := 2#32
  let v1062 : BitVec 32 := Scalar.remsi v1061 c2_i32_803
  let v1069 : BitVec 32 := Scalar.subi c1_i32_809 v1062
  let c4_i32_815 : BitVec 32 := 4#32
  let v1071 : BitVec 32 := Scalar.muli v1069 c4_i32_815
  let v1072 : BitVec 32 := Scalar.addi c0_i32_816 v1071
  let c1_i32_810 : BitVec 32 := 1#32
  let v1063 : BitVec 32 := Dev.word d0
  let c2_i32_806 : BitVec 32 := 2#32
  let v1064 : BitVec 32 := Scalar.divsi v1063 c2_i32_806
  let c2_i32_805 : BitVec 32 := 2#32
  let v1065 : BitVec 32 := Scalar.remsi v1064 c2_i32_805
  let v1070 : BitVec 32 := Scalar.subi c1_i32_810 v1065
  let c2_i32_817 : BitVec 32 := 2#32
  let v1073 : BitVec 32 := Scalar.muli v1070 c2_i32_817
  let v1074 : BitVec 32 := Scalar.addi v1072 v1073
  let v1066 : BitVec 32 := Dev.word d0
  let c1_i32_808 : BitVec 32 := 1#32
  let v1067 : BitVec 32 := Scalar.divsi v1066 c1_i32_808
  let c2_i32_807 : BitVec 32 := 2#32
  let v1068 : BitVec 32 := Scalar.remsi v1067 c2_i32_807
  let c1_i32_818 : BitVec 32 := 1#32
  let v1075 : BitVec 32 := Scalar.muli v1068 c1_i32_818
  let v1076 : BitVec 32 := Scalar.addi v1074 v1075
  v1076.toNat
def k0_dev49 (d0 : Dev nD) : Nat :=
  let c0_i32_834 : BitVec 32 := 0#32
  let c1_i32_826 : BitVec 32 := 1#32
  let v1082 : BitVec 32 := Dev.word d0
  let c4_i32_821 : BitVec 32 := 4#32
  let v1083 : BitVec 32 := Scalar.divsi v1082 c4_i32_821
  let c2_i32_820 : BitVec 32 := 2#32
  let v1084 : BitVec 32 := Scalar.remsi v1083 c2_i32_820
  let v1091 : BitVec 32 := Scalar.subi c1_i32_826 v1084
  let c4_i32_833 : BitVec 32 := 4#32
  let v1094 : BitVec 32 := Scalar.muli v1091 c4_i32_833
  let v1095 : BitVec 32 := Scalar.addi c0_i32_834 v1094
  let c1_i32_827 : BitVec 32 := 1#32
  let v1085 : BitVec 32 := Dev.word d0
  let c2_i32_823 : BitVec 32 := 2#32
  let v1086 : BitVec 32 := Scalar.divsi v1085 c2_i32_823
  let c2_i32_822 : BitVec 32 := 2#32
  let v1087 : BitVec 32 := Scalar.remsi v1086 c2_i32_822
  let v1092 : BitVec 32 := Scalar.subi c1_i32_827 v1087
  let c2_i32_835 : BitVec 32 := 2#32
  let v1096 : BitVec 32 := Scalar.muli v1092 c2_i32_835
  let v1097 : BitVec 32 := Scalar.addi v1095 v1096
  let c1_i32_828 : BitVec 32 := 1#32
  let v1088 : BitVec 32 := Dev.word d0
  let c1_i32_825 : BitVec 32 := 1#32
  let v1089 : BitVec 32 := Scalar.divsi v1088 c1_i32_825
  let c2_i32_824 : BitVec 32 := 2#32
  let v1090 : BitVec 32 := Scalar.remsi v1089 c2_i32_824
  let v1093 : BitVec 32 := Scalar.subi c1_i32_828 v1090
  let c1_i32_836 : BitVec 32 := 1#32
  let v1098 : BitVec 32 := Scalar.muli v1093 c1_i32_836
  let v1099 : BitVec 32 := Scalar.addi v1097 v1098
  v1099.toNat
def k0_off4 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_838 : BitVec 32 := 128#32
  let v1105 : BitVec 32 := Scalar.muli v12 c128_i32_838
  let c0_i32_839 : BitVec 32 := 0#32
  ![v1105.toNat, 0]
def k0_dev50 (d0 : Dev nD) : Nat :=
  let c0_i32_852 : BitVec 32 := 0#32
  let v1109 : BitVec 32 := Dev.word d0
  let c4_i32_841 : BitVec 32 := 4#32
  let v1110 : BitVec 32 := Scalar.divsi v1109 c4_i32_841
  let c2_i32_840 : BitVec 32 := 2#32
  let v1111 : BitVec 32 := Scalar.remsi v1110 c2_i32_840
  let c4_i32_851 : BitVec 32 := 4#32
  let v1119 : BitVec 32 := Scalar.muli v1111 c4_i32_851
  let v1120 : BitVec 32 := Scalar.addi c0_i32_852 v1119
  let v1112 : BitVec 32 := Dev.word d0
  let c2_i32_843 : BitVec 32 := 2#32
  let v1113 : BitVec 32 := Scalar.divsi v1112 c2_i32_843
  let c2_i32_842 : BitVec 32 := 2#32
  let v1114 : BitVec 32 := Scalar.remsi v1113 c2_i32_842
  let c2_i32_853 : BitVec 32 := 2#32
  let v1121 : BitVec 32 := Scalar.muli v1114 c2_i32_853
  let v1122 : BitVec 32 := Scalar.addi v1120 v1121
  let c1_i32_846 : BitVec 32 := 1#32
  let v1115 : BitVec 32 := Dev.word d0
  let c1_i32_845 : BitVec 32 := 1#32
  let v1116 : BitVec 32 := Scalar.divsi v1115 c1_i32_845
  let c2_i32_844 : BitVec 32 := 2#32
  let v1117 : BitVec 32 := Scalar.remsi v1116 c2_i32_844
  let v1118 : BitVec 32 := Scalar.subi c1_i32_846 v1117
  let c1_i32_854 : BitVec 32 := 1#32
  let v1123 : BitVec 32 := Scalar.muli v1118 c1_i32_854
  let v1124 : BitVec 32 := Scalar.addi v1122 v1123
  v1124.toNat
def k0_dev51 (d0 : Dev nD) : Nat :=
  let c0_i32_868 : BitVec 32 := 0#32
  let v1130 : BitVec 32 := Dev.word d0
  let c4_i32_857 : BitVec 32 := 4#32
  let v1131 : BitVec 32 := Scalar.divsi v1130 c4_i32_857
  let c2_i32_856 : BitVec 32 := 2#32
  let v1132 : BitVec 32 := Scalar.remsi v1131 c2_i32_856
  let c4_i32_867 : BitVec 32 := 4#32
  let v1140 : BitVec 32 := Scalar.muli v1132 c4_i32_867
  let v1141 : BitVec 32 := Scalar.addi c0_i32_868 v1140
  let c1_i32_862 : BitVec 32 := 1#32
  let v1133 : BitVec 32 := Dev.word d0
  let c2_i32_859 : BitVec 32 := 2#32
  let v1134 : BitVec 32 := Scalar.divsi v1133 c2_i32_859
  let c2_i32_858 : BitVec 32 := 2#32
  let v1135 : BitVec 32 := Scalar.remsi v1134 c2_i32_858
  let v1139 : BitVec 32 := Scalar.subi c1_i32_862 v1135
  let c2_i32_869 : BitVec 32 := 2#32
  let v1142 : BitVec 32 := Scalar.muli v1139 c2_i32_869
  let v1143 : BitVec 32 := Scalar.addi v1141 v1142
  let v1136 : BitVec 32 := Dev.word d0
  let c1_i32_861 : BitVec 32 := 1#32
  let v1137 : BitVec 32 := Scalar.divsi v1136 c1_i32_861
  let c2_i32_860 : BitVec 32 := 2#32
  let v1138 : BitVec 32 := Scalar.remsi v1137 c2_i32_860
  let c1_i32_870 : BitVec 32 := 1#32
  let v1144 : BitVec 32 := Scalar.muli v1138 c1_i32_870
  let v1145 : BitVec 32 := Scalar.addi v1143 v1144
  v1145.toNat
def k0_dev52 (d0 : Dev nD) : Nat :=
  let c0_i32_885 : BitVec 32 := 0#32
  let v1151 : BitVec 32 := Dev.word d0
  let c4_i32_873 : BitVec 32 := 4#32
  let v1152 : BitVec 32 := Scalar.divsi v1151 c4_i32_873
  let c2_i32_872 : BitVec 32 := 2#32
  let v1153 : BitVec 32 := Scalar.remsi v1152 c2_i32_872
  let c4_i32_884 : BitVec 32 := 4#32
  let v1162 : BitVec 32 := Scalar.muli v1153 c4_i32_884
  let v1163 : BitVec 32 := Scalar.addi c0_i32_885 v1162
  let c1_i32_878 : BitVec 32 := 1#32
  let v1154 : BitVec 32 := Dev.word d0
  let c2_i32_875 : BitVec 32 := 2#32
  let v1155 : BitVec 32 := Scalar.divsi v1154 c2_i32_875
  let c2_i32_874 : BitVec 32 := 2#32
  let v1156 : BitVec 32 := Scalar.remsi v1155 c2_i32_874
  let v1160 : BitVec 32 := Scalar.subi c1_i32_878 v1156
  let c2_i32_886 : BitVec 32 := 2#32
  let v1164 : BitVec 32 := Scalar.muli v1160 c2_i32_886
  let v1165 : BitVec 32 := Scalar.addi v1163 v1164
  let c1_i32_879 : BitVec 32 := 1#32
  let v1157 : BitVec 32 := Dev.word d0
  let c1_i32_877 : BitVec 32 := 1#32
  let v1158 : BitVec 32 := Scalar.divsi v1157 c1_i32_877
  let c2_i32_876 : BitVec 32 := 2#32
  let v1159 : BitVec 32 := Scalar.remsi v1158 c2_i32_876
  let v1161 : BitVec 32 := Scalar.subi c1_i32_879 v1159
  let c1_i32_887 : BitVec 32 := 1#32
  let v1166 : BitVec 32 := Scalar.muli v1161 c1_i32_887
  let v1167 : BitVec 32 := Scalar.addi v1165 v1166
  v1167.toNat
def k0_dev53 (d0 : Dev nD) : Nat :=
  let c0_i32_901 : BitVec 32 := 0#32
  let c1_i32_895 : BitVec 32 := 1#32
  let v1173 : BitVec 32 := Dev.word d0
  let c4_i32_890 : BitVec 32 := 4#32
  let v1174 : BitVec 32 := Scalar.divsi v1173 c4_i32_890
  let c2_i32_889 : BitVec 32 := 2#32
  let v1175 : BitVec 32 := Scalar.remsi v1174 c2_i32_889
  let v1182 : BitVec 32 := Scalar.subi c1_i32_895 v1175
  let c4_i32_900 : BitVec 32 := 4#32
  let v1183 : BitVec 32 := Scalar.muli v1182 c4_i32_900
  let v1184 : BitVec 32 := Scalar.addi c0_i32_901 v1183
  let v1176 : BitVec 32 := Dev.word d0
  let c2_i32_892 : BitVec 32 := 2#32
  let v1177 : BitVec 32 := Scalar.divsi v1176 c2_i32_892
  let c2_i32_891 : BitVec 32 := 2#32
  let v1178 : BitVec 32 := Scalar.remsi v1177 c2_i32_891
  let c2_i32_902 : BitVec 32 := 2#32
  let v1185 : BitVec 32 := Scalar.muli v1178 c2_i32_902
  let v1186 : BitVec 32 := Scalar.addi v1184 v1185
  let v1179 : BitVec 32 := Dev.word d0
  let c1_i32_894 : BitVec 32 := 1#32
  let v1180 : BitVec 32 := Scalar.divsi v1179 c1_i32_894
  let c2_i32_893 : BitVec 32 := 2#32
  let v1181 : BitVec 32 := Scalar.remsi v1180 c2_i32_893
  let c1_i32_903 : BitVec 32 := 1#32
  let v1187 : BitVec 32 := Scalar.muli v1181 c1_i32_903
  let v1188 : BitVec 32 := Scalar.addi v1186 v1187
  v1188.toNat
def k0_dev54 (d0 : Dev nD) : Nat :=
  let c0_i32_918 : BitVec 32 := 0#32
  let c1_i32_911 : BitVec 32 := 1#32
  let v1194 : BitVec 32 := Dev.word d0
  let c4_i32_906 : BitVec 32 := 4#32
  let v1195 : BitVec 32 := Scalar.divsi v1194 c4_i32_906
  let c2_i32_905 : BitVec 32 := 2#32
  let v1196 : BitVec 32 := Scalar.remsi v1195 c2_i32_905
  let v1203 : BitVec 32 := Scalar.subi c1_i32_911 v1196
  let c4_i32_917 : BitVec 32 := 4#32
  let v1205 : BitVec 32 := Scalar.muli v1203 c4_i32_917
  let v1206 : BitVec 32 := Scalar.addi c0_i32_918 v1205
  let v1197 : BitVec 32 := Dev.word d0
  let c2_i32_908 : BitVec 32 := 2#32
  let v1198 : BitVec 32 := Scalar.divsi v1197 c2_i32_908
  let c2_i32_907 : BitVec 32 := 2#32
  let v1199 : BitVec 32 := Scalar.remsi v1198 c2_i32_907
  let c2_i32_919 : BitVec 32 := 2#32
  let v1207 : BitVec 32 := Scalar.muli v1199 c2_i32_919
  let v1208 : BitVec 32 := Scalar.addi v1206 v1207
  let c1_i32_912 : BitVec 32 := 1#32
  let v1200 : BitVec 32 := Dev.word d0
  let c1_i32_910 : BitVec 32 := 1#32
  let v1201 : BitVec 32 := Scalar.divsi v1200 c1_i32_910
  let c2_i32_909 : BitVec 32 := 2#32
  let v1202 : BitVec 32 := Scalar.remsi v1201 c2_i32_909
  let v1204 : BitVec 32 := Scalar.subi c1_i32_912 v1202
  let c1_i32_920 : BitVec 32 := 1#32
  let v1209 : BitVec 32 := Scalar.muli v1204 c1_i32_920
  let v1210 : BitVec 32 := Scalar.addi v1208 v1209
  v1210.toNat
def k0_dev55 (d0 : Dev nD) : Nat :=
  let c0_i32_935 : BitVec 32 := 0#32
  let c1_i32_928 : BitVec 32 := 1#32
  let v1216 : BitVec 32 := Dev.word d0
  let c4_i32_923 : BitVec 32 := 4#32
  let v1217 : BitVec 32 := Scalar.divsi v1216 c4_i32_923
  let c2_i32_922 : BitVec 32 := 2#32
  let v1218 : BitVec 32 := Scalar.remsi v1217 c2_i32_922
  let v1225 : BitVec 32 := Scalar.subi c1_i32_928 v1218
  let c4_i32_934 : BitVec 32 := 4#32
  let v1227 : BitVec 32 := Scalar.muli v1225 c4_i32_934
  let v1228 : BitVec 32 := Scalar.addi c0_i32_935 v1227
  let c1_i32_929 : BitVec 32 := 1#32
  let v1219 : BitVec 32 := Dev.word d0
  let c2_i32_925 : BitVec 32 := 2#32
  let v1220 : BitVec 32 := Scalar.divsi v1219 c2_i32_925
  let c2_i32_924 : BitVec 32 := 2#32
  let v1221 : BitVec 32 := Scalar.remsi v1220 c2_i32_924
  let v1226 : BitVec 32 := Scalar.subi c1_i32_929 v1221
  let c2_i32_936 : BitVec 32 := 2#32
  let v1229 : BitVec 32 := Scalar.muli v1226 c2_i32_936
  let v1230 : BitVec 32 := Scalar.addi v1228 v1229
  let v1222 : BitVec 32 := Dev.word d0
  let c1_i32_927 : BitVec 32 := 1#32
  let v1223 : BitVec 32 := Scalar.divsi v1222 c1_i32_927
  let c2_i32_926 : BitVec 32 := 2#32
  let v1224 : BitVec 32 := Scalar.remsi v1223 c2_i32_926
  let c1_i32_937 : BitVec 32 := 1#32
  let v1231 : BitVec 32 := Scalar.muli v1224 c1_i32_937
  let v1232 : BitVec 32 := Scalar.addi v1230 v1231
  v1232.toNat
def k0_dev56 (d0 : Dev nD) : Nat :=
  let c0_i32_953 : BitVec 32 := 0#32
  let c1_i32_945 : BitVec 32 := 1#32
  let v1238 : BitVec 32 := Dev.word d0
  let c4_i32_940 : BitVec 32 := 4#32
  let v1239 : BitVec 32 := Scalar.divsi v1238 c4_i32_940
  let c2_i32_939 : BitVec 32 := 2#32
  let v1240 : BitVec 32 := Scalar.remsi v1239 c2_i32_939
  let v1247 : BitVec 32 := Scalar.subi c1_i32_945 v1240
  let c4_i32_952 : BitVec 32 := 4#32
  let v1250 : BitVec 32 := Scalar.muli v1247 c4_i32_952
  let v1251 : BitVec 32 := Scalar.addi c0_i32_953 v1250
  let c1_i32_946 : BitVec 32 := 1#32
  let v1241 : BitVec 32 := Dev.word d0
  let c2_i32_942 : BitVec 32 := 2#32
  let v1242 : BitVec 32 := Scalar.divsi v1241 c2_i32_942
  let c2_i32_941 : BitVec 32 := 2#32
  let v1243 : BitVec 32 := Scalar.remsi v1242 c2_i32_941
  let v1248 : BitVec 32 := Scalar.subi c1_i32_946 v1243
  let c2_i32_954 : BitVec 32 := 2#32
  let v1252 : BitVec 32 := Scalar.muli v1248 c2_i32_954
  let v1253 : BitVec 32 := Scalar.addi v1251 v1252
  let c1_i32_947 : BitVec 32 := 1#32
  let v1244 : BitVec 32 := Dev.word d0
  let c1_i32_944 : BitVec 32 := 1#32
  let v1245 : BitVec 32 := Scalar.divsi v1244 c1_i32_944
  let c2_i32_943 : BitVec 32 := 2#32
  let v1246 : BitVec 32 := Scalar.remsi v1245 c2_i32_943
  let v1249 : BitVec 32 := Scalar.subi c1_i32_947 v1246
  let c1_i32_955 : BitVec 32 := 1#32
  let v1254 : BitVec 32 := Scalar.muli v1249 c1_i32_955
  let v1255 : BitVec 32 := Scalar.addi v1253 v1254
  v1255.toNat
def k0_dev57 (d0 : Dev nD) : Nat :=
  let c0_i32_971 : BitVec 32 := 0#32
  let v1265 : BitVec 32 := Dev.word d0
  let c4_i32_960 : BitVec 32 := 4#32
  let v1266 : BitVec 32 := Scalar.divsi v1265 c4_i32_960
  let c2_i32_959 : BitVec 32 := 2#32
  let v1267 : BitVec 32 := Scalar.remsi v1266 c2_i32_959
  let c4_i32_970 : BitVec 32 := 4#32
  let v1275 : BitVec 32 := Scalar.muli v1267 c4_i32_970
  let v1276 : BitVec 32 := Scalar.addi c0_i32_971 v1275
  let v1268 : BitVec 32 := Dev.word d0
  let c2_i32_962 : BitVec 32 := 2#32
  let v1269 : BitVec 32 := Scalar.divsi v1268 c2_i32_962
  let c2_i32_961 : BitVec 32 := 2#32
  let v1270 : BitVec 32 := Scalar.remsi v1269 c2_i32_961
  let c2_i32_972 : BitVec 32 := 2#32
  let v1277 : BitVec 32 := Scalar.muli v1270 c2_i32_972
  let v1278 : BitVec 32 := Scalar.addi v1276 v1277
  let c1_i32_965 : BitVec 32 := 1#32
  let v1271 : BitVec 32 := Dev.word d0
  let c1_i32_964 : BitVec 32 := 1#32
  let v1272 : BitVec 32 := Scalar.divsi v1271 c1_i32_964
  let c2_i32_963 : BitVec 32 := 2#32
  let v1273 : BitVec 32 := Scalar.remsi v1272 c2_i32_963
  let v1274 : BitVec 32 := Scalar.subi c1_i32_965 v1273
  let c1_i32_973 : BitVec 32 := 1#32
  let v1279 : BitVec 32 := Scalar.muli v1274 c1_i32_973
  let v1280 : BitVec 32 := Scalar.addi v1278 v1279
  v1280.toNat
def k0_dev58 (d0 : Dev nD) : Nat :=
  let c0_i32_987 : BitVec 32 := 0#32
  let v1286 : BitVec 32 := Dev.word d0
  let c4_i32_976 : BitVec 32 := 4#32
  let v1287 : BitVec 32 := Scalar.divsi v1286 c4_i32_976
  let c2_i32_975 : BitVec 32 := 2#32
  let v1288 : BitVec 32 := Scalar.remsi v1287 c2_i32_975
  let c4_i32_986 : BitVec 32 := 4#32
  let v1296 : BitVec 32 := Scalar.muli v1288 c4_i32_986
  let v1297 : BitVec 32 := Scalar.addi c0_i32_987 v1296
  let c1_i32_981 : BitVec 32 := 1#32
  let v1289 : BitVec 32 := Dev.word d0
  let c2_i32_978 : BitVec 32 := 2#32
  let v1290 : BitVec 32 := Scalar.divsi v1289 c2_i32_978
  let c2_i32_977 : BitVec 32 := 2#32
  let v1291 : BitVec 32 := Scalar.remsi v1290 c2_i32_977
  let v1295 : BitVec 32 := Scalar.subi c1_i32_981 v1291
  let c2_i32_988 : BitVec 32 := 2#32
  let v1298 : BitVec 32 := Scalar.muli v1295 c2_i32_988
  let v1299 : BitVec 32 := Scalar.addi v1297 v1298
  let v1292 : BitVec 32 := Dev.word d0
  let c1_i32_980 : BitVec 32 := 1#32
  let v1293 : BitVec 32 := Scalar.divsi v1292 c1_i32_980
  let c2_i32_979 : BitVec 32 := 2#32
  let v1294 : BitVec 32 := Scalar.remsi v1293 c2_i32_979
  let c1_i32_989 : BitVec 32 := 1#32
  let v1300 : BitVec 32 := Scalar.muli v1294 c1_i32_989
  let v1301 : BitVec 32 := Scalar.addi v1299 v1300
  v1301.toNat
def k0_dev59 (d0 : Dev nD) : Nat :=
  let c0_i32_1004 : BitVec 32 := 0#32
  let v1307 : BitVec 32 := Dev.word d0
  let c4_i32_992 : BitVec 32 := 4#32
  let v1308 : BitVec 32 := Scalar.divsi v1307 c4_i32_992
  let c2_i32_991 : BitVec 32 := 2#32
  let v1309 : BitVec 32 := Scalar.remsi v1308 c2_i32_991
  let c4_i32_1003 : BitVec 32 := 4#32
  let v1318 : BitVec 32 := Scalar.muli v1309 c4_i32_1003
  let v1319 : BitVec 32 := Scalar.addi c0_i32_1004 v1318
  let c1_i32_997 : BitVec 32 := 1#32
  let v1310 : BitVec 32 := Dev.word d0
  let c2_i32_994 : BitVec 32 := 2#32
  let v1311 : BitVec 32 := Scalar.divsi v1310 c2_i32_994
  let c2_i32_993 : BitVec 32 := 2#32
  let v1312 : BitVec 32 := Scalar.remsi v1311 c2_i32_993
  let v1316 : BitVec 32 := Scalar.subi c1_i32_997 v1312
  let c2_i32_1005 : BitVec 32 := 2#32
  let v1320 : BitVec 32 := Scalar.muli v1316 c2_i32_1005
  let v1321 : BitVec 32 := Scalar.addi v1319 v1320
  let c1_i32_998 : BitVec 32 := 1#32
  let v1313 : BitVec 32 := Dev.word d0
  let c1_i32_996 : BitVec 32 := 1#32
  let v1314 : BitVec 32 := Scalar.divsi v1313 c1_i32_996
  let c2_i32_995 : BitVec 32 := 2#32
  let v1315 : BitVec 32 := Scalar.remsi v1314 c2_i32_995
  let v1317 : BitVec 32 := Scalar.subi c1_i32_998 v1315
  let c1_i32_1006 : BitVec 32 := 1#32
  let v1322 : BitVec 32 := Scalar.muli v1317 c1_i32_1006
  let v1323 : BitVec 32 := Scalar.addi v1321 v1322
  v1323.toNat
def k0_dev60 (d0 : Dev nD) : Nat :=
  let c0_i32_1020 : BitVec 32 := 0#32
  let c1_i32_1014 : BitVec 32 := 1#32
  let v1329 : BitVec 32 := Dev.word d0
  let c4_i32_1009 : BitVec 32 := 4#32
  let v1330 : BitVec 32 := Scalar.divsi v1329 c4_i32_1009
  let c2_i32_1008 : BitVec 32 := 2#32
  let v1331 : BitVec 32 := Scalar.remsi v1330 c2_i32_1008
  let v1338 : BitVec 32 := Scalar.subi c1_i32_1014 v1331
  let c4_i32_1019 : BitVec 32 := 4#32
  let v1339 : BitVec 32 := Scalar.muli v1338 c4_i32_1019
  let v1340 : BitVec 32 := Scalar.addi c0_i32_1020 v1339
  let v1332 : BitVec 32 := Dev.word d0
  let c2_i32_1011 : BitVec 32 := 2#32
  let v1333 : BitVec 32 := Scalar.divsi v1332 c2_i32_1011
  let c2_i32_1010 : BitVec 32 := 2#32
  let v1334 : BitVec 32 := Scalar.remsi v1333 c2_i32_1010
  let c2_i32_1021 : BitVec 32 := 2#32
  let v1341 : BitVec 32 := Scalar.muli v1334 c2_i32_1021
  let v1342 : BitVec 32 := Scalar.addi v1340 v1341
  let v1335 : BitVec 32 := Dev.word d0
  let c1_i32_1013 : BitVec 32 := 1#32
  let v1336 : BitVec 32 := Scalar.divsi v1335 c1_i32_1013
  let c2_i32_1012 : BitVec 32 := 2#32
  let v1337 : BitVec 32 := Scalar.remsi v1336 c2_i32_1012
  let c1_i32_1022 : BitVec 32 := 1#32
  let v1343 : BitVec 32 := Scalar.muli v1337 c1_i32_1022
  let v1344 : BitVec 32 := Scalar.addi v1342 v1343
  v1344.toNat
def k0_dev61 (d0 : Dev nD) : Nat :=
  let c0_i32_1037 : BitVec 32 := 0#32
  let c1_i32_1030 : BitVec 32 := 1#32
  let v1350 : BitVec 32 := Dev.word d0
  let c4_i32_1025 : BitVec 32 := 4#32
  let v1351 : BitVec 32 := Scalar.divsi v1350 c4_i32_1025
  let c2_i32_1024 : BitVec 32 := 2#32
  let v1352 : BitVec 32 := Scalar.remsi v1351 c2_i32_1024
  let v1359 : BitVec 32 := Scalar.subi c1_i32_1030 v1352
  let c4_i32_1036 : BitVec 32 := 4#32
  let v1361 : BitVec 32 := Scalar.muli v1359 c4_i32_1036
  let v1362 : BitVec 32 := Scalar.addi c0_i32_1037 v1361
  let v1353 : BitVec 32 := Dev.word d0
  let c2_i32_1027 : BitVec 32 := 2#32
  let v1354 : BitVec 32 := Scalar.divsi v1353 c2_i32_1027
  let c2_i32_1026 : BitVec 32 := 2#32
  let v1355 : BitVec 32 := Scalar.remsi v1354 c2_i32_1026
  let c2_i32_1038 : BitVec 32 := 2#32
  let v1363 : BitVec 32 := Scalar.muli v1355 c2_i32_1038
  let v1364 : BitVec 32 := Scalar.addi v1362 v1363
  let c1_i32_1031 : BitVec 32 := 1#32
  let v1356 : BitVec 32 := Dev.word d0
  let c1_i32_1029 : BitVec 32 := 1#32
  let v1357 : BitVec 32 := Scalar.divsi v1356 c1_i32_1029
  let c2_i32_1028 : BitVec 32 := 2#32
  let v1358 : BitVec 32 := Scalar.remsi v1357 c2_i32_1028
  let v1360 : BitVec 32 := Scalar.subi c1_i32_1031 v1358
  let c1_i32_1039 : BitVec 32 := 1#32
  let v1365 : BitVec 32 := Scalar.muli v1360 c1_i32_1039
  let v1366 : BitVec 32 := Scalar.addi v1364 v1365
  v1366.toNat
def k0_dev62 (d0 : Dev nD) : Nat :=
  let c0_i32_1054 : BitVec 32 := 0#32
  let c1_i32_1047 : BitVec 32 := 1#32
  let v1372 : BitVec 32 := Dev.word d0
  let c4_i32_1042 : BitVec 32 := 4#32
  let v1373 : BitVec 32 := Scalar.divsi v1372 c4_i32_1042
  let c2_i32_1041 : BitVec 32 := 2#32
  let v1374 : BitVec 32 := Scalar.remsi v1373 c2_i32_1041
  let v1381 : BitVec 32 := Scalar.subi c1_i32_1047 v1374
  let c4_i32_1053 : BitVec 32 := 4#32
  let v1383 : BitVec 32 := Scalar.muli v1381 c4_i32_1053
  let v1384 : BitVec 32 := Scalar.addi c0_i32_1054 v1383
  let c1_i32_1048 : BitVec 32 := 1#32
  let v1375 : BitVec 32 := Dev.word d0
  let c2_i32_1044 : BitVec 32 := 2#32
  let v1376 : BitVec 32 := Scalar.divsi v1375 c2_i32_1044
  let c2_i32_1043 : BitVec 32 := 2#32
  let v1377 : BitVec 32 := Scalar.remsi v1376 c2_i32_1043
  let v1382 : BitVec 32 := Scalar.subi c1_i32_1048 v1377
  let c2_i32_1055 : BitVec 32 := 2#32
  let v1385 : BitVec 32 := Scalar.muli v1382 c2_i32_1055
  let v1386 : BitVec 32 := Scalar.addi v1384 v1385
  let v1378 : BitVec 32 := Dev.word d0
  let c1_i32_1046 : BitVec 32 := 1#32
  let v1379 : BitVec 32 := Scalar.divsi v1378 c1_i32_1046
  let c2_i32_1045 : BitVec 32 := 2#32
  let v1380 : BitVec 32 := Scalar.remsi v1379 c2_i32_1045
  let c1_i32_1056 : BitVec 32 := 1#32
  let v1387 : BitVec 32 := Scalar.muli v1380 c1_i32_1056
  let v1388 : BitVec 32 := Scalar.addi v1386 v1387
  v1388.toNat
def k0_dev63 (d0 : Dev nD) : Nat :=
  let c0_i32_1072 : BitVec 32 := 0#32
  let c1_i32_1064 : BitVec 32 := 1#32
  let v1394 : BitVec 32 := Dev.word d0
  let c4_i32_1059 : BitVec 32 := 4#32
  let v1395 : BitVec 32 := Scalar.divsi v1394 c4_i32_1059
  let c2_i32_1058 : BitVec 32 := 2#32
  let v1396 : BitVec 32 := Scalar.remsi v1395 c2_i32_1058
  let v1403 : BitVec 32 := Scalar.subi c1_i32_1064 v1396
  let c4_i32_1071 : BitVec 32 := 4#32
  let v1406 : BitVec 32 := Scalar.muli v1403 c4_i32_1071
  let v1407 : BitVec 32 := Scalar.addi c0_i32_1072 v1406
  let c1_i32_1065 : BitVec 32 := 1#32
  let v1397 : BitVec 32 := Dev.word d0
  let c2_i32_1061 : BitVec 32 := 2#32
  let v1398 : BitVec 32 := Scalar.divsi v1397 c2_i32_1061
  let c2_i32_1060 : BitVec 32 := 2#32
  let v1399 : BitVec 32 := Scalar.remsi v1398 c2_i32_1060
  let v1404 : BitVec 32 := Scalar.subi c1_i32_1065 v1399
  let c2_i32_1073 : BitVec 32 := 2#32
  let v1408 : BitVec 32 := Scalar.muli v1404 c2_i32_1073
  let v1409 : BitVec 32 := Scalar.addi v1407 v1408
  let c1_i32_1066 : BitVec 32 := 1#32
  let v1400 : BitVec 32 := Dev.word d0
  let c1_i32_1063 : BitVec 32 := 1#32
  let v1401 : BitVec 32 := Scalar.divsi v1400 c1_i32_1063
  let c2_i32_1062 : BitVec 32 := 2#32
  let v1402 : BitVec 32 := Scalar.remsi v1401 c2_i32_1062
  let v1405 : BitVec 32 := Scalar.subi c1_i32_1066 v1402
  let c1_i32_1074 : BitVec 32 := 1#32
  let v1410 : BitVec 32 := Scalar.muli v1405 c1_i32_1074
  let v1411 : BitVec 32 := Scalar.addi v1409 v1410
  v1411.toNat
def k0_dev64 (d0 : Dev nD) : Nat :=
  let c0_i32_1090 : BitVec 32 := 0#32
  let v1421 : BitVec 32 := Dev.word d0
  let c4_i32_1079 : BitVec 32 := 4#32
  let v1422 : BitVec 32 := Scalar.divsi v1421 c4_i32_1079
  let c2_i32_1078 : BitVec 32 := 2#32
  let v1423 : BitVec 32 := Scalar.remsi v1422 c2_i32_1078
  let c4_i32_1089 : BitVec 32 := 4#32
  let v1431 : BitVec 32 := Scalar.muli v1423 c4_i32_1089
  let v1432 : BitVec 32 := Scalar.addi c0_i32_1090 v1431
  let v1424 : BitVec 32 := Dev.word d0
  let c2_i32_1081 : BitVec 32 := 2#32
  let v1425 : BitVec 32 := Scalar.divsi v1424 c2_i32_1081
  let c2_i32_1080 : BitVec 32 := 2#32
  let v1426 : BitVec 32 := Scalar.remsi v1425 c2_i32_1080
  let c2_i32_1091 : BitVec 32 := 2#32
  let v1433 : BitVec 32 := Scalar.muli v1426 c2_i32_1091
  let v1434 : BitVec 32 := Scalar.addi v1432 v1433
  let c1_i32_1084 : BitVec 32 := 1#32
  let v1427 : BitVec 32 := Dev.word d0
  let c1_i32_1083 : BitVec 32 := 1#32
  let v1428 : BitVec 32 := Scalar.divsi v1427 c1_i32_1083
  let c2_i32_1082 : BitVec 32 := 2#32
  let v1429 : BitVec 32 := Scalar.remsi v1428 c2_i32_1082
  let v1430 : BitVec 32 := Scalar.subi c1_i32_1084 v1429
  let c1_i32_1092 : BitVec 32 := 1#32
  let v1435 : BitVec 32 := Scalar.muli v1430 c1_i32_1092
  let v1436 : BitVec 32 := Scalar.addi v1434 v1435
  v1436.toNat
def k0_dev65 (d0 : Dev nD) : Nat :=
  let c0_i32_1106 : BitVec 32 := 0#32
  let v1442 : BitVec 32 := Dev.word d0
  let c4_i32_1095 : BitVec 32 := 4#32
  let v1443 : BitVec 32 := Scalar.divsi v1442 c4_i32_1095
  let c2_i32_1094 : BitVec 32 := 2#32
  let v1444 : BitVec 32 := Scalar.remsi v1443 c2_i32_1094
  let c4_i32_1105 : BitVec 32 := 4#32
  let v1452 : BitVec 32 := Scalar.muli v1444 c4_i32_1105
  let v1453 : BitVec 32 := Scalar.addi c0_i32_1106 v1452
  let c1_i32_1100 : BitVec 32 := 1#32
  let v1445 : BitVec 32 := Dev.word d0
  let c2_i32_1097 : BitVec 32 := 2#32
  let v1446 : BitVec 32 := Scalar.divsi v1445 c2_i32_1097
  let c2_i32_1096 : BitVec 32 := 2#32
  let v1447 : BitVec 32 := Scalar.remsi v1446 c2_i32_1096
  let v1451 : BitVec 32 := Scalar.subi c1_i32_1100 v1447
  let c2_i32_1107 : BitVec 32 := 2#32
  let v1454 : BitVec 32 := Scalar.muli v1451 c2_i32_1107
  let v1455 : BitVec 32 := Scalar.addi v1453 v1454
  let v1448 : BitVec 32 := Dev.word d0
  let c1_i32_1099 : BitVec 32 := 1#32
  let v1449 : BitVec 32 := Scalar.divsi v1448 c1_i32_1099
  let c2_i32_1098 : BitVec 32 := 2#32
  let v1450 : BitVec 32 := Scalar.remsi v1449 c2_i32_1098
  let c1_i32_1108 : BitVec 32 := 1#32
  let v1456 : BitVec 32 := Scalar.muli v1450 c1_i32_1108
  let v1457 : BitVec 32 := Scalar.addi v1455 v1456
  v1457.toNat
def k0_dev66 (d0 : Dev nD) : Nat :=
  let c0_i32_1123 : BitVec 32 := 0#32
  let v1463 : BitVec 32 := Dev.word d0
  let c4_i32_1111 : BitVec 32 := 4#32
  let v1464 : BitVec 32 := Scalar.divsi v1463 c4_i32_1111
  let c2_i32_1110 : BitVec 32 := 2#32
  let v1465 : BitVec 32 := Scalar.remsi v1464 c2_i32_1110
  let c4_i32_1122 : BitVec 32 := 4#32
  let v1474 : BitVec 32 := Scalar.muli v1465 c4_i32_1122
  let v1475 : BitVec 32 := Scalar.addi c0_i32_1123 v1474
  let c1_i32_1116 : BitVec 32 := 1#32
  let v1466 : BitVec 32 := Dev.word d0
  let c2_i32_1113 : BitVec 32 := 2#32
  let v1467 : BitVec 32 := Scalar.divsi v1466 c2_i32_1113
  let c2_i32_1112 : BitVec 32 := 2#32
  let v1468 : BitVec 32 := Scalar.remsi v1467 c2_i32_1112
  let v1472 : BitVec 32 := Scalar.subi c1_i32_1116 v1468
  let c2_i32_1124 : BitVec 32 := 2#32
  let v1476 : BitVec 32 := Scalar.muli v1472 c2_i32_1124
  let v1477 : BitVec 32 := Scalar.addi v1475 v1476
  let c1_i32_1117 : BitVec 32 := 1#32
  let v1469 : BitVec 32 := Dev.word d0
  let c1_i32_1115 : BitVec 32 := 1#32
  let v1470 : BitVec 32 := Scalar.divsi v1469 c1_i32_1115
  let c2_i32_1114 : BitVec 32 := 2#32
  let v1471 : BitVec 32 := Scalar.remsi v1470 c2_i32_1114
  let v1473 : BitVec 32 := Scalar.subi c1_i32_1117 v1471
  let c1_i32_1125 : BitVec 32 := 1#32
  let v1478 : BitVec 32 := Scalar.muli v1473 c1_i32_1125
  let v1479 : BitVec 32 := Scalar.addi v1477 v1478
  v1479.toNat
def k0_dev67 (d0 : Dev nD) : Nat :=
  let c0_i32_1139 : BitVec 32 := 0#32
  let c1_i32_1133 : BitVec 32 := 1#32
  let v1485 : BitVec 32 := Dev.word d0
  let c4_i32_1128 : BitVec 32 := 4#32
  let v1486 : BitVec 32 := Scalar.divsi v1485 c4_i32_1128
  let c2_i32_1127 : BitVec 32 := 2#32
  let v1487 : BitVec 32 := Scalar.remsi v1486 c2_i32_1127
  let v1494 : BitVec 32 := Scalar.subi c1_i32_1133 v1487
  let c4_i32_1138 : BitVec 32 := 4#32
  let v1495 : BitVec 32 := Scalar.muli v1494 c4_i32_1138
  let v1496 : BitVec 32 := Scalar.addi c0_i32_1139 v1495
  let v1488 : BitVec 32 := Dev.word d0
  let c2_i32_1130 : BitVec 32 := 2#32
  let v1489 : BitVec 32 := Scalar.divsi v1488 c2_i32_1130
  let c2_i32_1129 : BitVec 32 := 2#32
  let v1490 : BitVec 32 := Scalar.remsi v1489 c2_i32_1129
  let c2_i32_1140 : BitVec 32 := 2#32
  let v1497 : BitVec 32 := Scalar.muli v1490 c2_i32_1140
  let v1498 : BitVec 32 := Scalar.addi v1496 v1497
  let v1491 : BitVec 32 := Dev.word d0
  let c1_i32_1132 : BitVec 32 := 1#32
  let v1492 : BitVec 32 := Scalar.divsi v1491 c1_i32_1132
  let c2_i32_1131 : BitVec 32 := 2#32
  let v1493 : BitVec 32 := Scalar.remsi v1492 c2_i32_1131
  let c1_i32_1141 : BitVec 32 := 1#32
  let v1499 : BitVec 32 := Scalar.muli v1493 c1_i32_1141
  let v1500 : BitVec 32 := Scalar.addi v1498 v1499
  v1500.toNat
def k0_dev68 (d0 : Dev nD) : Nat :=
  let c0_i32_1156 : BitVec 32 := 0#32
  let c1_i32_1149 : BitVec 32 := 1#32
  let v1506 : BitVec 32 := Dev.word d0
  let c4_i32_1144 : BitVec 32 := 4#32
  let v1507 : BitVec 32 := Scalar.divsi v1506 c4_i32_1144
  let c2_i32_1143 : BitVec 32 := 2#32
  let v1508 : BitVec 32 := Scalar.remsi v1507 c2_i32_1143
  let v1515 : BitVec 32 := Scalar.subi c1_i32_1149 v1508
  let c4_i32_1155 : BitVec 32 := 4#32
  let v1517 : BitVec 32 := Scalar.muli v1515 c4_i32_1155
  let v1518 : BitVec 32 := Scalar.addi c0_i32_1156 v1517
  let v1509 : BitVec 32 := Dev.word d0
  let c2_i32_1146 : BitVec 32 := 2#32
  let v1510 : BitVec 32 := Scalar.divsi v1509 c2_i32_1146
  let c2_i32_1145 : BitVec 32 := 2#32
  let v1511 : BitVec 32 := Scalar.remsi v1510 c2_i32_1145
  let c2_i32_1157 : BitVec 32 := 2#32
  let v1519 : BitVec 32 := Scalar.muli v1511 c2_i32_1157
  let v1520 : BitVec 32 := Scalar.addi v1518 v1519
  let c1_i32_1150 : BitVec 32 := 1#32
  let v1512 : BitVec 32 := Dev.word d0
  let c1_i32_1148 : BitVec 32 := 1#32
  let v1513 : BitVec 32 := Scalar.divsi v1512 c1_i32_1148
  let c2_i32_1147 : BitVec 32 := 2#32
  let v1514 : BitVec 32 := Scalar.remsi v1513 c2_i32_1147
  let v1516 : BitVec 32 := Scalar.subi c1_i32_1150 v1514
  let c1_i32_1158 : BitVec 32 := 1#32
  let v1521 : BitVec 32 := Scalar.muli v1516 c1_i32_1158
  let v1522 : BitVec 32 := Scalar.addi v1520 v1521
  v1522.toNat
def k0_dev69 (d0 : Dev nD) : Nat :=
  let c0_i32_1173 : BitVec 32 := 0#32
  let c1_i32_1166 : BitVec 32 := 1#32
  let v1528 : BitVec 32 := Dev.word d0
  let c4_i32_1161 : BitVec 32 := 4#32
  let v1529 : BitVec 32 := Scalar.divsi v1528 c4_i32_1161
  let c2_i32_1160 : BitVec 32 := 2#32
  let v1530 : BitVec 32 := Scalar.remsi v1529 c2_i32_1160
  let v1537 : BitVec 32 := Scalar.subi c1_i32_1166 v1530
  let c4_i32_1172 : BitVec 32 := 4#32
  let v1539 : BitVec 32 := Scalar.muli v1537 c4_i32_1172
  let v1540 : BitVec 32 := Scalar.addi c0_i32_1173 v1539
  let c1_i32_1167 : BitVec 32 := 1#32
  let v1531 : BitVec 32 := Dev.word d0
  let c2_i32_1163 : BitVec 32 := 2#32
  let v1532 : BitVec 32 := Scalar.divsi v1531 c2_i32_1163
  let c2_i32_1162 : BitVec 32 := 2#32
  let v1533 : BitVec 32 := Scalar.remsi v1532 c2_i32_1162
  let v1538 : BitVec 32 := Scalar.subi c1_i32_1167 v1533
  let c2_i32_1174 : BitVec 32 := 2#32
  let v1541 : BitVec 32 := Scalar.muli v1538 c2_i32_1174
  let v1542 : BitVec 32 := Scalar.addi v1540 v1541
  let v1534 : BitVec 32 := Dev.word d0
  let c1_i32_1165 : BitVec 32 := 1#32
  let v1535 : BitVec 32 := Scalar.divsi v1534 c1_i32_1165
  let c2_i32_1164 : BitVec 32 := 2#32
  let v1536 : BitVec 32 := Scalar.remsi v1535 c2_i32_1164
  let c1_i32_1175 : BitVec 32 := 1#32
  let v1543 : BitVec 32 := Scalar.muli v1536 c1_i32_1175
  let v1544 : BitVec 32 := Scalar.addi v1542 v1543
  v1544.toNat
def k0_dev70 (d0 : Dev nD) : Nat :=
  let c0_i32_1191 : BitVec 32 := 0#32
  let c1_i32_1183 : BitVec 32 := 1#32
  let v1550 : BitVec 32 := Dev.word d0
  let c4_i32_1178 : BitVec 32 := 4#32
  let v1551 : BitVec 32 := Scalar.divsi v1550 c4_i32_1178
  let c2_i32_1177 : BitVec 32 := 2#32
  let v1552 : BitVec 32 := Scalar.remsi v1551 c2_i32_1177
  let v1559 : BitVec 32 := Scalar.subi c1_i32_1183 v1552
  let c4_i32_1190 : BitVec 32 := 4#32
  let v1562 : BitVec 32 := Scalar.muli v1559 c4_i32_1190
  let v1563 : BitVec 32 := Scalar.addi c0_i32_1191 v1562
  let c1_i32_1184 : BitVec 32 := 1#32
  let v1553 : BitVec 32 := Dev.word d0
  let c2_i32_1180 : BitVec 32 := 2#32
  let v1554 : BitVec 32 := Scalar.divsi v1553 c2_i32_1180
  let c2_i32_1179 : BitVec 32 := 2#32
  let v1555 : BitVec 32 := Scalar.remsi v1554 c2_i32_1179
  let v1560 : BitVec 32 := Scalar.subi c1_i32_1184 v1555
  let c2_i32_1192 : BitVec 32 := 2#32
  let v1564 : BitVec 32 := Scalar.muli v1560 c2_i32_1192
  let v1565 : BitVec 32 := Scalar.addi v1563 v1564
  let c1_i32_1185 : BitVec 32 := 1#32
  let v1556 : BitVec 32 := Dev.word d0
  let c1_i32_1182 : BitVec 32 := 1#32
  let v1557 : BitVec 32 := Scalar.divsi v1556 c1_i32_1182
  let c2_i32_1181 : BitVec 32 := 2#32
  let v1558 : BitVec 32 := Scalar.remsi v1557 c2_i32_1181
  let v1561 : BitVec 32 := Scalar.subi c1_i32_1185 v1558
  let c1_i32_1193 : BitVec 32 := 1#32
  let v1566 : BitVec 32 := Scalar.muli v1561 c1_i32_1193
  let v1567 : BitVec 32 := Scalar.addi v1565 v1566
  v1567.toNat
def k0_off5 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c32_i32 : BitVec 32 := 32#32
  let v1573 : BitVec 32 := Scalar.muli v12 c32_i32
  let c0_i32_1195 : BitVec 32 := 0#32
  ![v1573.toNat, 0]
def k0_dev71 (d0 : Dev nD) : Nat :=
  let c0_i32_1208 : BitVec 32 := 0#32
  let v1577 : BitVec 32 := Dev.word d0
  let c4_i32_1197 : BitVec 32 := 4#32
  let v1578 : BitVec 32 := Scalar.divsi v1577 c4_i32_1197
  let c2_i32_1196 : BitVec 32 := 2#32
  let v1579 : BitVec 32 := Scalar.remsi v1578 c2_i32_1196
  let c4_i32_1207 : BitVec 32 := 4#32
  let v1587 : BitVec 32 := Scalar.muli v1579 c4_i32_1207
  let v1588 : BitVec 32 := Scalar.addi c0_i32_1208 v1587
  let v1580 : BitVec 32 := Dev.word d0
  let c2_i32_1199 : BitVec 32 := 2#32
  let v1581 : BitVec 32 := Scalar.divsi v1580 c2_i32_1199
  let c2_i32_1198 : BitVec 32 := 2#32
  let v1582 : BitVec 32 := Scalar.remsi v1581 c2_i32_1198
  let c2_i32_1209 : BitVec 32 := 2#32
  let v1589 : BitVec 32 := Scalar.muli v1582 c2_i32_1209
  let v1590 : BitVec 32 := Scalar.addi v1588 v1589
  let c1_i32_1202 : BitVec 32 := 1#32
  let v1583 : BitVec 32 := Dev.word d0
  let c1_i32_1201 : BitVec 32 := 1#32
  let v1584 : BitVec 32 := Scalar.divsi v1583 c1_i32_1201
  let c2_i32_1200 : BitVec 32 := 2#32
  let v1585 : BitVec 32 := Scalar.remsi v1584 c2_i32_1200
  let v1586 : BitVec 32 := Scalar.subi c1_i32_1202 v1585
  let c1_i32_1210 : BitVec 32 := 1#32
  let v1591 : BitVec 32 := Scalar.muli v1586 c1_i32_1210
  let v1592 : BitVec 32 := Scalar.addi v1590 v1591
  v1592.toNat
def k0_dev72 (d0 : Dev nD) : Nat :=
  let c0_i32_1224 : BitVec 32 := 0#32
  let v1598 : BitVec 32 := Dev.word d0
  let c4_i32_1213 : BitVec 32 := 4#32
  let v1599 : BitVec 32 := Scalar.divsi v1598 c4_i32_1213
  let c2_i32_1212 : BitVec 32 := 2#32
  let v1600 : BitVec 32 := Scalar.remsi v1599 c2_i32_1212
  let c4_i32_1223 : BitVec 32 := 4#32
  let v1608 : BitVec 32 := Scalar.muli v1600 c4_i32_1223
  let v1609 : BitVec 32 := Scalar.addi c0_i32_1224 v1608
  let c1_i32_1218 : BitVec 32 := 1#32
  let v1601 : BitVec 32 := Dev.word d0
  let c2_i32_1215 : BitVec 32 := 2#32
  let v1602 : BitVec 32 := Scalar.divsi v1601 c2_i32_1215
  let c2_i32_1214 : BitVec 32 := 2#32
  let v1603 : BitVec 32 := Scalar.remsi v1602 c2_i32_1214
  let v1607 : BitVec 32 := Scalar.subi c1_i32_1218 v1603
  let c2_i32_1225 : BitVec 32 := 2#32
  let v1610 : BitVec 32 := Scalar.muli v1607 c2_i32_1225
  let v1611 : BitVec 32 := Scalar.addi v1609 v1610
  let v1604 : BitVec 32 := Dev.word d0
  let c1_i32_1217 : BitVec 32 := 1#32
  let v1605 : BitVec 32 := Scalar.divsi v1604 c1_i32_1217
  let c2_i32_1216 : BitVec 32 := 2#32
  let v1606 : BitVec 32 := Scalar.remsi v1605 c2_i32_1216
  let c1_i32_1226 : BitVec 32 := 1#32
  let v1612 : BitVec 32 := Scalar.muli v1606 c1_i32_1226
  let v1613 : BitVec 32 := Scalar.addi v1611 v1612
  v1613.toNat
def k0_dev73 (d0 : Dev nD) : Nat :=
  let c0_i32_1241 : BitVec 32 := 0#32
  let v1619 : BitVec 32 := Dev.word d0
  let c4_i32_1229 : BitVec 32 := 4#32
  let v1620 : BitVec 32 := Scalar.divsi v1619 c4_i32_1229
  let c2_i32_1228 : BitVec 32 := 2#32
  let v1621 : BitVec 32 := Scalar.remsi v1620 c2_i32_1228
  let c4_i32_1240 : BitVec 32 := 4#32
  let v1630 : BitVec 32 := Scalar.muli v1621 c4_i32_1240
  let v1631 : BitVec 32 := Scalar.addi c0_i32_1241 v1630
  let c1_i32_1234 : BitVec 32 := 1#32
  let v1622 : BitVec 32 := Dev.word d0
  let c2_i32_1231 : BitVec 32 := 2#32
  let v1623 : BitVec 32 := Scalar.divsi v1622 c2_i32_1231
  let c2_i32_1230 : BitVec 32 := 2#32
  let v1624 : BitVec 32 := Scalar.remsi v1623 c2_i32_1230
  let v1628 : BitVec 32 := Scalar.subi c1_i32_1234 v1624
  let c2_i32_1242 : BitVec 32 := 2#32
  let v1632 : BitVec 32 := Scalar.muli v1628 c2_i32_1242
  let v1633 : BitVec 32 := Scalar.addi v1631 v1632
  let c1_i32_1235 : BitVec 32 := 1#32
  let v1625 : BitVec 32 := Dev.word d0
  let c1_i32_1233 : BitVec 32 := 1#32
  let v1626 : BitVec 32 := Scalar.divsi v1625 c1_i32_1233
  let c2_i32_1232 : BitVec 32 := 2#32
  let v1627 : BitVec 32 := Scalar.remsi v1626 c2_i32_1232
  let v1629 : BitVec 32 := Scalar.subi c1_i32_1235 v1627
  let c1_i32_1243 : BitVec 32 := 1#32
  let v1634 : BitVec 32 := Scalar.muli v1629 c1_i32_1243
  let v1635 : BitVec 32 := Scalar.addi v1633 v1634
  v1635.toNat
def k0_dev74 (d0 : Dev nD) : Nat :=
  let c0_i32_1257 : BitVec 32 := 0#32
  let c1_i32_1251 : BitVec 32 := 1#32
  let v1641 : BitVec 32 := Dev.word d0
  let c4_i32_1246 : BitVec 32 := 4#32
  let v1642 : BitVec 32 := Scalar.divsi v1641 c4_i32_1246
  let c2_i32_1245 : BitVec 32 := 2#32
  let v1643 : BitVec 32 := Scalar.remsi v1642 c2_i32_1245
  let v1650 : BitVec 32 := Scalar.subi c1_i32_1251 v1643
  let c4_i32_1256 : BitVec 32 := 4#32
  let v1651 : BitVec 32 := Scalar.muli v1650 c4_i32_1256
  let v1652 : BitVec 32 := Scalar.addi c0_i32_1257 v1651
  let v1644 : BitVec 32 := Dev.word d0
  let c2_i32_1248 : BitVec 32 := 2#32
  let v1645 : BitVec 32 := Scalar.divsi v1644 c2_i32_1248
  let c2_i32_1247 : BitVec 32 := 2#32
  let v1646 : BitVec 32 := Scalar.remsi v1645 c2_i32_1247
  let c2_i32_1258 : BitVec 32 := 2#32
  let v1653 : BitVec 32 := Scalar.muli v1646 c2_i32_1258
  let v1654 : BitVec 32 := Scalar.addi v1652 v1653
  let v1647 : BitVec 32 := Dev.word d0
  let c1_i32_1250 : BitVec 32 := 1#32
  let v1648 : BitVec 32 := Scalar.divsi v1647 c1_i32_1250
  let c2_i32_1249 : BitVec 32 := 2#32
  let v1649 : BitVec 32 := Scalar.remsi v1648 c2_i32_1249
  let c1_i32_1259 : BitVec 32 := 1#32
  let v1655 : BitVec 32 := Scalar.muli v1649 c1_i32_1259
  let v1656 : BitVec 32 := Scalar.addi v1654 v1655
  v1656.toNat
def k0_dev75 (d0 : Dev nD) : Nat :=
  let c0_i32_1274 : BitVec 32 := 0#32
  let c1_i32_1267 : BitVec 32 := 1#32
  let v1662 : BitVec 32 := Dev.word d0
  let c4_i32_1262 : BitVec 32 := 4#32
  let v1663 : BitVec 32 := Scalar.divsi v1662 c4_i32_1262
  let c2_i32_1261 : BitVec 32 := 2#32
  let v1664 : BitVec 32 := Scalar.remsi v1663 c2_i32_1261
  let v1671 : BitVec 32 := Scalar.subi c1_i32_1267 v1664
  let c4_i32_1273 : BitVec 32 := 4#32
  let v1673 : BitVec 32 := Scalar.muli v1671 c4_i32_1273
  let v1674 : BitVec 32 := Scalar.addi c0_i32_1274 v1673
  let v1665 : BitVec 32 := Dev.word d0
  let c2_i32_1264 : BitVec 32 := 2#32
  let v1666 : BitVec 32 := Scalar.divsi v1665 c2_i32_1264
  let c2_i32_1263 : BitVec 32 := 2#32
  let v1667 : BitVec 32 := Scalar.remsi v1666 c2_i32_1263
  let c2_i32_1275 : BitVec 32 := 2#32
  let v1675 : BitVec 32 := Scalar.muli v1667 c2_i32_1275
  let v1676 : BitVec 32 := Scalar.addi v1674 v1675
  let c1_i32_1268 : BitVec 32 := 1#32
  let v1668 : BitVec 32 := Dev.word d0
  let c1_i32_1266 : BitVec 32 := 1#32
  let v1669 : BitVec 32 := Scalar.divsi v1668 c1_i32_1266
  let c2_i32_1265 : BitVec 32 := 2#32
  let v1670 : BitVec 32 := Scalar.remsi v1669 c2_i32_1265
  let v1672 : BitVec 32 := Scalar.subi c1_i32_1268 v1670
  let c1_i32_1276 : BitVec 32 := 1#32
  let v1677 : BitVec 32 := Scalar.muli v1672 c1_i32_1276
  let v1678 : BitVec 32 := Scalar.addi v1676 v1677
  v1678.toNat
def k0_dev76 (d0 : Dev nD) : Nat :=
  let c0_i32_1291 : BitVec 32 := 0#32
  let c1_i32_1284 : BitVec 32 := 1#32
  let v1684 : BitVec 32 := Dev.word d0
  let c4_i32_1279 : BitVec 32 := 4#32
  let v1685 : BitVec 32 := Scalar.divsi v1684 c4_i32_1279
  let c2_i32_1278 : BitVec 32 := 2#32
  let v1686 : BitVec 32 := Scalar.remsi v1685 c2_i32_1278
  let v1693 : BitVec 32 := Scalar.subi c1_i32_1284 v1686
  let c4_i32_1290 : BitVec 32 := 4#32
  let v1695 : BitVec 32 := Scalar.muli v1693 c4_i32_1290
  let v1696 : BitVec 32 := Scalar.addi c0_i32_1291 v1695
  let c1_i32_1285 : BitVec 32 := 1#32
  let v1687 : BitVec 32 := Dev.word d0
  let c2_i32_1281 : BitVec 32 := 2#32
  let v1688 : BitVec 32 := Scalar.divsi v1687 c2_i32_1281
  let c2_i32_1280 : BitVec 32 := 2#32
  let v1689 : BitVec 32 := Scalar.remsi v1688 c2_i32_1280
  let v1694 : BitVec 32 := Scalar.subi c1_i32_1285 v1689
  let c2_i32_1292 : BitVec 32 := 2#32
  let v1697 : BitVec 32 := Scalar.muli v1694 c2_i32_1292
  let v1698 : BitVec 32 := Scalar.addi v1696 v1697
  let v1690 : BitVec 32 := Dev.word d0
  let c1_i32_1283 : BitVec 32 := 1#32
  let v1691 : BitVec 32 := Scalar.divsi v1690 c1_i32_1283
  let c2_i32_1282 : BitVec 32 := 2#32
  let v1692 : BitVec 32 := Scalar.remsi v1691 c2_i32_1282
  let c1_i32_1293 : BitVec 32 := 1#32
  let v1699 : BitVec 32 := Scalar.muli v1692 c1_i32_1293
  let v1700 : BitVec 32 := Scalar.addi v1698 v1699
  v1700.toNat
def k0_dev77 (d0 : Dev nD) : Nat :=
  let c0_i32_1309 : BitVec 32 := 0#32
  let c1_i32_1301 : BitVec 32 := 1#32
  let v1706 : BitVec 32 := Dev.word d0
  let c4_i32_1296 : BitVec 32 := 4#32
  let v1707 : BitVec 32 := Scalar.divsi v1706 c4_i32_1296
  let c2_i32_1295 : BitVec 32 := 2#32
  let v1708 : BitVec 32 := Scalar.remsi v1707 c2_i32_1295
  let v1715 : BitVec 32 := Scalar.subi c1_i32_1301 v1708
  let c4_i32_1308 : BitVec 32 := 4#32
  let v1718 : BitVec 32 := Scalar.muli v1715 c4_i32_1308
  let v1719 : BitVec 32 := Scalar.addi c0_i32_1309 v1718
  let c1_i32_1302 : BitVec 32 := 1#32
  let v1709 : BitVec 32 := Dev.word d0
  let c2_i32_1298 : BitVec 32 := 2#32
  let v1710 : BitVec 32 := Scalar.divsi v1709 c2_i32_1298
  let c2_i32_1297 : BitVec 32 := 2#32
  let v1711 : BitVec 32 := Scalar.remsi v1710 c2_i32_1297
  let v1716 : BitVec 32 := Scalar.subi c1_i32_1302 v1711
  let c2_i32_1310 : BitVec 32 := 2#32
  let v1720 : BitVec 32 := Scalar.muli v1716 c2_i32_1310
  let v1721 : BitVec 32 := Scalar.addi v1719 v1720
  let c1_i32_1303 : BitVec 32 := 1#32
  let v1712 : BitVec 32 := Dev.word d0
  let c1_i32_1300 : BitVec 32 := 1#32
  let v1713 : BitVec 32 := Scalar.divsi v1712 c1_i32_1300
  let c2_i32_1299 : BitVec 32 := 2#32
  let v1714 : BitVec 32 := Scalar.remsi v1713 c2_i32_1299
  let v1717 : BitVec 32 := Scalar.subi c1_i32_1303 v1714
  let c1_i32_1311 : BitVec 32 := 1#32
  let v1722 : BitVec 32 := Scalar.muli v1717 c1_i32_1311
  let v1723 : BitVec 32 := Scalar.addi v1721 v1722
  v1723.toNat
-- ==== Reference.lean ====
abbrev S2816x1024 : Shape := ⟨2, ![2816, 1024]⟩
abbrev S8704x1024 : Shape := ⟨2, ![8704, 1024]⟩
abbrev S1024x512 : Shape := ⟨2, ![1024, 512]⟩
abbrev S1024x1024 : Shape := ⟨2, ![1024, 1024]⟩
abbrev S256x128 : Shape := ⟨2, ![256, 128]⟩

abbrev nBuf : Space → Nat
  | .hbm => 11
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2816x1024, .bf16⟩
  | .hbm, ⟨2, _⟩ => ⟨S8704x1024, .bf16⟩
  | .hbm, ⟨3, _⟩ => ⟨S1024x512, .bf16⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S1024x1024, .bf16⟩
  | .hbm, ⟨8, _⟩ => ⟨S1024x1024, .bf16⟩
  | .hbm, ⟨9, _⟩ => ⟨S2816x1024, .bf16⟩
  | .hbm, ⟨10, _⟩ => ⟨S256x128, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩

abbrev nD : Nat := 1
abbrev τ : Topo := Topo.v7x

variable {F : FTy → Type} [FloatOps F]
-- ==== Exchange.lean ====
abbrev S2816x1024 : Shape := ⟨2, ![2816, 1024]⟩
abbrev S8704x1024 : Shape := ⟨2, ![8704, 1024]⟩
abbrev S1024x512 : Shape := ⟨2, ![1024, 512]⟩
abbrev S1024x1024 : Shape := ⟨2, ![1024, 1024]⟩
abbrev S256x128 : Shape := ⟨2, ![256, 128]⟩
abbrev S8x1024 : Shape := ⟨2, ![8, 1024]⟩
abbrev S8x352x1024 : Shape := ⟨3, ![8, 352, 1024]⟩
abbrev S8x1088x1024 : Shape := ⟨3, ![8, 1088, 1024]⟩
abbrev S8x128x512 : Shape := ⟨3, ![8, 128, 512]⟩
abbrev S8x128x1024 : Shape := ⟨3, ![8, 128, 1024]⟩
abbrev S8x32x128 : Shape := ⟨3, ![8, 32, 128]⟩
abbrev S8x8x1024 : Shape := ⟨3, ![8, 8, 1024]⟩
abbrev S12x7 : Shape := ⟨2, ![12, 7]⟩
abbrev S12 : Shape := ⟨1, ![12]⟩
abbrev S1 : Shape := ⟨1, ![1]⟩
abbrev S_ : Shape := ⟨0, ![]⟩
abbrev S1x352x1024 : Shape := ⟨3, ![1, 352, 1024]⟩
abbrev S352x1024 : Shape := ⟨2, ![352, 1024]⟩
abbrev S1x1 : Shape := ⟨2, ![1, 1]⟩
abbrev S1x1088x1024 : Shape := ⟨3, ![1, 1088, 1024]⟩
abbrev S1088x1024 : Shape := ⟨2, ![1088, 1024]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩
abbrev S1x32x128 : Shape := ⟨3, ![1, 32, 128]⟩
abbrev S32x128 : Shape := ⟨2, ![32, 128]⟩
abbrev S1x8x1024 : Shape := ⟨3, ![1, 8, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S2816x1024, .bf16⟩
  | .hbm, ⟨2, _⟩ => ⟨S8704x1024, .bf16⟩
  | .hbm, ⟨3, _⟩ => ⟨S1024x512, .bf16⟩
  | .hbm, ⟨4, _⟩ => ⟨S2816x1024, .bf16⟩
  | .hbm, ⟨5, _⟩ => ⟨S2816x1024, .bf16⟩
  | .hbm, ⟨6, _⟩ => ⟨S2816x1024, .bf16⟩
  | .hbm, ⟨7, _⟩ => ⟨S1024x1024, .bf16⟩
  | .hbm, ⟨8, _⟩ => ⟨S1024x1024, .bf16⟩
  | .hbm, ⟨9, _⟩ => ⟨S2816x1024, .bf16⟩
  | .hbm, ⟨10, _⟩ => ⟨S256x128, .f32⟩
  | .hbm, ⟨11, _⟩ => ⟨S8x1024, .f32⟩
  | .hbm, ⟨12, _⟩ => ⟨S8x352x1024, .bf16⟩
  | .hbm, ⟨13, _⟩ => ⟨S8x352x1024, .bf16⟩
  | .hbm, ⟨14, _⟩ => ⟨S8x1088x1024, .bf16⟩
  | .hbm, ⟨15, _⟩ => ⟨S8x128x512, .bf16⟩
  | .hbm, ⟨16, _⟩ => ⟨S8x352x1024, .bf16⟩
  | .hbm, ⟨17, _⟩ => ⟨S8x352x1024, .bf16⟩
  | .hbm, ⟨18, _⟩ => ⟨S8x352x1024, .bf16⟩
  | .hbm, ⟨19, _⟩ => ⟨S8x128x1024, .bf16⟩
  | .hbm, ⟨20, _⟩ => ⟨S8x128x1024, .bf16⟩
  | .hbm, ⟨21, _⟩ => ⟨S8x352x1024, .bf16⟩
  | .hbm, ⟨22, _⟩ => ⟨S8x32x128, .f32⟩
  | .hbm, ⟨23, _⟩ => ⟨S8x8x1024, .f32⟩
  | _, _ => ⟨S2816x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 180 → Bool
  | ⟨i, _⟩ => dmaSemScopedAt i

abbrev sig : RefSig :=
  ofTc nBuf bufTy 0 180 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev main_v1_9 : Ref sig .tc := ⟨.hbm, 21, rfl⟩
abbrev main_v1_10 : Ref sig .tc := ⟨.hbm, 22, rfl⟩
abbrev main_v1_11 : Ref sig .tc := ⟨.hbm, 23, rfl⟩

abbrev nD : Nat := 8
abbrev τ : Topo := Topo.v7x

variable {F : FTy → Type} [FloatOps F]

abbrev grid0 : Pipeline.Grid := .none

def k0_off1 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c352_i32 : BitVec 32 := 352#32
  let v13 : BitVec 32 := Scalar.muli v12 c352_i32
  let c0_i32_8 : BitVec 32 := 0#32
  ![v13.toNat, 0]
def k0_off2 (d0 : Dev nD) : Fin 2 → Nat :=
  let c4_i32_16 : BitVec 32 := 4#32
  let v19 : BitVec 32 := Dev.word d0
  let c4_i32_10 : BitVec 32 := 4#32
  let v20 : BitVec 32 := Scalar.divsi v19 c4_i32_10
  let c2_i32_9 : BitVec 32 := 2#32
  let v21 : BitVec 32 := Scalar.remsi v20 c2_i32_9
  let v29 : BitVec 32 := Scalar.muli c4_i32_16 v21
  let c2_i32_17 : BitVec 32 := 2#32
  let v22 : BitVec 32 := Dev.word d0
  let c2_i32_12 : BitVec 32 := 2#32
  let v23 : BitVec 32 := Scalar.divsi v22 c2_i32_12
  let c2_i32_11 : BitVec 32 := 2#32
  let v24 : BitVec 32 := Scalar.remsi v23 c2_i32_11
  let v30 : BitVec 32 := Scalar.muli c2_i32_17 v24
  let v31 : BitVec 32 := Scalar.addi v29 v30
  let c1_i32_15 : BitVec 32 := 1#32
  let v25 : BitVec 32 := Dev.word d0
  let c1_i32_14 : BitVec 32 := 1#32
  let v26 : BitVec 32 := Scalar.divsi v25 c1_i32_14
  let c2_i32_13 : BitVec 32 := 2#32
  let v27 : BitVec 32 := Scalar.remsi v26 c2_i32_13
  let v28 : BitVec 32 := Scalar.subi c1_i32_15 v27
  let v32 : BitVec 32 := Scalar.addi v31 v28
  let c352_i32_18 : BitVec 32 := 352#32
  let v33 : BitVec 32 := Scalar.muli v32 c352_i32_18
  let c0_i32_30 : BitVec 32 := 0#32
  ![v33.toNat, 0]
def k0_dev1 (d0 : Dev nD) : Nat :=
  let c0_i32_25 : BitVec 32 := 0#32
  let v19 : BitVec 32 := Dev.word d0
  let c4_i32_10 : BitVec 32 := 4#32
  let v20 : BitVec 32 := Scalar.divsi v19 c4_i32_10
  let c2_i32_9 : BitVec 32 := 2#32
  let v21 : BitVec 32 := Scalar.remsi v20 c2_i32_9
  let c4_i32_24 : BitVec 32 := 4#32
  let v34 : BitVec 32 := Scalar.muli v21 c4_i32_24
  let v35 : BitVec 32 := Scalar.addi c0_i32_25 v34
  let v22 : BitVec 32 := Dev.word d0
  let c2_i32_12 : BitVec 32 := 2#32
  let v23 : BitVec 32 := Scalar.divsi v22 c2_i32_12
  let c2_i32_11 : BitVec 32 := 2#32
  let v24 : BitVec 32 := Scalar.remsi v23 c2_i32_11
  let c2_i32_26 : BitVec 32 := 2#32
  let v36 : BitVec 32 := Scalar.muli v24 c2_i32_26
  let v37 : BitVec 32 := Scalar.addi v35 v36
  let c1_i32_15 : BitVec 32 := 1#32
  let v25 : BitVec 32 := Dev.word d0
  let c1_i32_14 : BitVec 32 := 1#32
  let v26 : BitVec 32 := Scalar.divsi v25 c1_i32_14
  let c2_i32_13 : BitVec 32 := 2#32
  let v27 : BitVec 32 := Scalar.remsi v26 c2_i32_13
  let v28 : BitVec 32 := Scalar.subi c1_i32_15 v27
  let c1_i32_27 : BitVec 32 := 1#32
  let v38 : BitVec 32 := Scalar.muli v28 c1_i32_27
  let v39 : BitVec 32 := Scalar.addi v37 v38
  v39.toNat
def k0_off3 (d0 : Dev nD) : Fin 2 → Nat :=
  let c4_i32_38 : BitVec 32 := 4#32
  let v47 : BitVec 32 := Dev.word d0
  let c4_i32_32 : BitVec 32 := 4#32
  let v48 : BitVec 32 := Scalar.divsi v47 c4_i32_32
  let c2_i32_31 : BitVec 32 := 2#32
  let v49 : BitVec 32 := Scalar.remsi v48 c2_i32_31
  let v57 : BitVec 32 := Scalar.muli c4_i32_38 v49
  let c2_i32_39 : BitVec 32 := 2#32
  let c1_i32_37 : BitVec 32 := 1#32
  let v50 : BitVec 32 := Dev.word d0
  let c2_i32_34 : BitVec 32 := 2#32
  let v51 : BitVec 32 := Scalar.divsi v50 c2_i32_34
  let c2_i32_33 : BitVec 32 := 2#32
  let v52 : BitVec 32 := Scalar.remsi v51 c2_i32_33
  let v56 : BitVec 32 := Scalar.subi c1_i32_37 v52
  let v58 : BitVec 32 := Scalar.muli c2_i32_39 v56
  let v59 : BitVec 32 := Scalar.addi v57 v58
  let v53 : BitVec 32 := Dev.word d0
  let c1_i32_36 : BitVec 32 := 1#32
  let v54 : BitVec 32 := Scalar.divsi v53 c1_i32_36
  let c2_i32_35 : BitVec 32 := 2#32
  let v55 : BitVec 32 := Scalar.remsi v54 c2_i32_35
  let v60 : BitVec 32 := Scalar.addi v59 v55
  let c352_i32_40 : BitVec 32 := 352#32
  let v61 : BitVec 32 := Scalar.muli v60 c352_i32_40
  let c0_i32_52 : BitVec 32 := 0#32
  ![v61.toNat, 0]
def k0_dev2 (d0 : Dev nD) : Nat :=
  let c0_i32_47 : BitVec 32 := 0#32
  let v47 : BitVec 32 := Dev.word d0
  let c4_i32_32 : BitVec 32 := 4#32
  let v48 : BitVec 32 := Scalar.divsi v47 c4_i32_32
  let c2_i32_31 : BitVec 32 := 2#32
  let v49 : BitVec 32 := Scalar.remsi v48 c2_i32_31
  let c4_i32_46 : BitVec 32 := 4#32
  let v62 : BitVec 32 := Scalar.muli v49 c4_i32_46
  let v63 : BitVec 32 := Scalar.addi c0_i32_47 v62
  let c1_i32_37 : BitVec 32 := 1#32
  let v50 : BitVec 32 := Dev.word d0
  let c2_i32_34 : BitVec 32 := 2#32
  let v51 : BitVec 32 := Scalar.divsi v50 c2_i32_34
  let c2_i32_33 : BitVec 32 := 2#32
  let v52 : BitVec 32 := Scalar.remsi v51 c2_i32_33
  let v56 : BitVec 32 := Scalar.subi c1_i32_37 v52
  let c2_i32_48 : BitVec 32 := 2#32
  let v64 : BitVec 32 := Scalar.muli v56 c2_i32_48
  let v65 : BitVec 32 := Scalar.addi v63 v64
  let v53 : BitVec 32 := Dev.word d0
  let c1_i32_36 : BitVec 32 := 1#32
  let v54 : BitVec 32 := Scalar.divsi v53 c1_i32_36
  let c2_i32_35 : BitVec 32 := 2#32
  let v55 : BitVec 32 := Scalar.remsi v54 c2_i32_35
  let c1_i32_49 : BitVec 32 := 1#32
  let v66 : BitVec 32 := Scalar.muli v55 c1_i32_49
  let v67 : BitVec 32 := Scalar.addi v65 v66
  v67.toNat
def k0_off4 (d0 : Dev nD) : Fin 2 → Nat :=
  let c4_i32_61 : BitVec 32 := 4#32
  let v75 : BitVec 32 := Dev.word d0
  let c4_i32_54 : BitVec 32 := 4#32
  let v76 : BitVec 32 := Scalar.divsi v75 c4_i32_54
  let c2_i32_53 : BitVec 32 := 2#32
  let v77 : BitVec 32 := Scalar.remsi v76 c2_i32_53
  let v86 : BitVec 32 := Scalar.muli c4_i32_61 v77
  let c2_i32_62 : BitVec 32 := 2#32
  let c1_i32_59 : BitVec 32 := 1#32
  let v78 : BitVec 32 := Dev.word d0
  let c2_i32_56 : BitVec 32 := 2#32
  let v79 : BitVec 32 := Scalar.divsi v78 c2_i32_56
  let c2_i32_55 : BitVec 32 := 2#32
  let v80 : BitVec 32 := Scalar.remsi v79 c2_i32_55
  let v84 : BitVec 32 := Scalar.subi c1_i32_59 v80
  let v87 : BitVec 32 := Scalar.muli c2_i32_62 v84
  let v88 : BitVec 32 := Scalar.addi v86 v87
  let c1_i32_60 : BitVec 32 := 1#32
  let v81 : BitVec 32 := Dev.word d0
  let c1_i32_58 : BitVec 32 := 1#32
  let v82 : BitVec 32 := Scalar.divsi v81 c1_i32_58
  let c2_i32_57 : BitVec 32 := 2#32
  let v83 : BitVec 32 := Scalar.remsi v82 c2_i32_57
  let v85 : BitVec 32 := Scalar.subi c1_i32_60 v83
  let v89 : BitVec 32 := Scalar.addi v88 v85
  let c352_i32_63 : BitVec 32 := 352#32
  let v90 : BitVec 32 := Scalar.muli v89 c352_i32_63
  let c0_i32_74 : BitVec 32 := 0#32
  ![v90.toNat, 0]
def k0_dev3 (d0 : Dev nD) : Nat :=
  let c0_i32_69 : BitVec 32 := 0#32
  let v75 : BitVec 32 := Dev.word d0
  let c4_i32_54 : BitVec 32 := 4#32
  let v76 : BitVec 32 := Scalar.divsi v75 c4_i32_54
  let c2_i32_53 : BitVec 32 := 2#32
  let v77 : BitVec 32 := Scalar.remsi v76 c2_i32_53
  let c4_i32_68 : BitVec 32 := 4#32
  let v91 : BitVec 32 := Scalar.muli v77 c4_i32_68
  let v92 : BitVec 32 := Scalar.addi c0_i32_69 v91
  let c1_i32_59 : BitVec 32 := 1#32
  let v78 : BitVec 32 := Dev.word d0
  let c2_i32_56 : BitVec 32 := 2#32
  let v79 : BitVec 32 := Scalar.divsi v78 c2_i32_56
  let c2_i32_55 : BitVec 32 := 2#32
  let v80 : BitVec 32 := Scalar.remsi v79 c2_i32_55
  let v84 : BitVec 32 := Scalar.subi c1_i32_59 v80
  let c2_i32_70 : BitVec 32 := 2#32
  let v93 : BitVec 32 := Scalar.muli v84 c2_i32_70
  let v94 : BitVec 32 := Scalar.addi v92 v93
  let c1_i32_60 : BitVec 32 := 1#32
  let v81 : BitVec 32 := Dev.word d0
  let c1_i32_58 : BitVec 32 := 1#32
  let v82 : BitVec 32 := Scalar.divsi v81 c1_i32_58
  let c2_i32_57 : BitVec 32 := 2#32
  let v83 : BitVec 32 := Scalar.remsi v82 c2_i32_57
  let v85 : BitVec 32 := Scalar.subi c1_i32_60 v83
  let c1_i32_71 : BitVec 32 := 1#32
  let v95 : BitVec 32 := Scalar.muli v85 c1_i32_71
  let v96 : BitVec 32 := Scalar.addi v94 v95
  v96.toNat
def k0_off5 (d0 : Dev nD) : Fin 2 → Nat :=
  let c4_i32_82 : BitVec 32 := 4#32
  let c1_i32_81 : BitVec 32 := 1#32
  let v104 : BitVec 32 := Dev.word d0
  let c4_i32_76 : BitVec 32 := 4#32
  let v105 : BitVec 32 := Scalar.divsi v104 c4_i32_76
  let c2_i32_75 : BitVec 32 := 2#32
  let v106 : BitVec 32 := Scalar.remsi v105 c2_i32_75
  let v113 : BitVec 32 := Scalar.subi c1_i32_81 v106
  let v114 : BitVec 32 := Scalar.muli c4_i32_82 v113
  let c2_i32_83 : BitVec 32 := 2#32
  let v107 : BitVec 32 := Dev.word d0
  let c2_i32_78 : BitVec 32 := 2#32
  let v108 : BitVec 32 := Scalar.divsi v107 c2_i32_78
  let c2_i32_77 : BitVec 32 := 2#32
  let v109 : BitVec 32 := Scalar.remsi v108 c2_i32_77
  let v115 : BitVec 32 := Scalar.muli c2_i32_83 v109
  let v116 : BitVec 32 := Scalar.addi v114 v115
  let v110 : BitVec 32 := Dev.word d0
  let c1_i32_80 : BitVec 32 := 1#32
  let v111 : BitVec 32 := Scalar.divsi v110 c1_i32_80
  let c2_i32_79 : BitVec 32 := 2#32
  let v112 : BitVec 32 := Scalar.remsi v111 c2_i32_79
  let v117 : BitVec 32 := Scalar.addi v116 v112
  let c352_i32_84 : BitVec 32 := 352#32
  let v118 : BitVec 32 := Scalar.muli v117 c352_i32_84
  let c0_i32_96 : BitVec 32 := 0#32
  ![v118.toNat, 0]
def k0_dev4 (d0 : Dev nD) : Nat :=
  let c0_i32_91 : BitVec 32 := 0#32
  let c1_i32_81 : BitVec 32 := 1#32
  let v104 : BitVec 32 := Dev.word d0
  let c4_i32_76 : BitVec 32 := 4#32
  let v105 : BitVec 32 := Scalar.divsi v104 c4_i32_76
  let c2_i32_75 : BitVec 32 := 2#32
  let v106 : BitVec 32 := Scalar.remsi v105 c2_i32_75
  let v113 : BitVec 32 := Scalar.subi c1_i32_81 v106
  let c4_i32_90 : BitVec 32 := 4#32
  let v119 : BitVec 32 := Scalar.muli v113 c4_i32_90
  let v120 : BitVec 32 := Scalar.addi c0_i32_91 v119
  let v107 : BitVec 32 := Dev.word d0
  let c2_i32_78 : BitVec 32 := 2#32
  let v108 : BitVec 32 := Scalar.divsi v107 c2_i32_78
  let c2_i32_77 : BitVec 32 := 2#32
  let v109 : BitVec 32 := Scalar.remsi v108 c2_i32_77
  let c2_i32_92 : BitVec 32 := 2#32
  let v121 : BitVec 32 := Scalar.muli v109 c2_i32_92
  let v122 : BitVec 32 := Scalar.addi v120 v121
  let v110 : BitVec 32 := Dev.word d0
  let c1_i32_80 : BitVec 32 := 1#32
  let v111 : BitVec 32 := Scalar.divsi v110 c1_i32_80
  let c2_i32_79 : BitVec 32 := 2#32
  let v112 : BitVec 32 := Scalar.remsi v111 c2_i32_79
  let c1_i32_93 : BitVec 32 := 1#32
  let v123 : BitVec 32 := Scalar.muli v112 c1_i32_93
  let v124 : BitVec 32 := Scalar.addi v122 v123
  v124.toNat
def k0_off6 (d0 : Dev nD) : Fin 2 → Nat :=
  let c4_i32_105 : BitVec 32 := 4#32
  let c1_i32_103 : BitVec 32 := 1#32
  let v132 : BitVec 32 := Dev.word d0
  let c4_i32_98 : BitVec 32 := 4#32
  let v133 : BitVec 32 := Scalar.divsi v132 c4_i32_98
  let c2_i32_97 : BitVec 32 := 2#32
  let v134 : BitVec 32 := Scalar.remsi v133 c2_i32_97
  let v141 : BitVec 32 := Scalar.subi c1_i32_103 v134
  let v143 : BitVec 32 := Scalar.muli c4_i32_105 v141
  let c2_i32_106 : BitVec 32 := 2#32
  let v135 : BitVec 32 := Dev.word d0
  let c2_i32_100 : BitVec 32 := 2#32
  let v136 : BitVec 32 := Scalar.divsi v135 c2_i32_100
  let c2_i32_99 : BitVec 32 := 2#32
  let v137 : BitVec 32 := Scalar.remsi v136 c2_i32_99
  let v144 : BitVec 32 := Scalar.muli c2_i32_106 v137
  let v145 : BitVec 32 := Scalar.addi v143 v144
  let c1_i32_104 : BitVec 32 := 1#32
  let v138 : BitVec 32 := Dev.word d0
  let c1_i32_102 : BitVec 32 := 1#32
  let v139 : BitVec 32 := Scalar.divsi v138 c1_i32_102
  let c2_i32_101 : BitVec 32 := 2#32
  let v140 : BitVec 32 := Scalar.remsi v139 c2_i32_101
  let v142 : BitVec 32 := Scalar.subi c1_i32_104 v140
  let v146 : BitVec 32 := Scalar.addi v145 v142
  let c352_i32_107 : BitVec 32 := 352#32
  let v147 : BitVec 32 := Scalar.muli v146 c352_i32_107
  let c0_i32_118 : BitVec 32 := 0#32
  ![v147.toNat, 0]
def k0_dev5 (d0 : Dev nD) : Nat :=
  let c0_i32_113 : BitVec 32 := 0#32
  let c1_i32_103 : BitVec 32 := 1#32
  let v132 : BitVec 32 := Dev.word d0
  let c4_i32_98 : BitVec 32 := 4#32
  let v133 : BitVec 32 := Scalar.divsi v132 c4_i32_98
  let c2_i32_97 : BitVec 32 := 2#32
  let v134 : BitVec 32 := Scalar.remsi v133 c2_i32_97
  let v141 : BitVec 32 := Scalar.subi c1_i32_103 v134
  let c4_i32_112 : BitVec 32 := 4#32
  let v148 : BitVec 32 := Scalar.muli v141 c4_i32_112
  let v149 : BitVec 32 := Scalar.addi c0_i32_113 v148
  let v135 : BitVec 32 := Dev.word d0
  let c2_i32_100 : BitVec 32 := 2#32
  let v136 : BitVec 32 := Scalar.divsi v135 c2_i32_100
  let c2_i32_99 : BitVec 32 := 2#32
  let v137 : BitVec 32 := Scalar.remsi v136 c2_i32_99
  let c2_i32_114 : BitVec 32 := 2#32
  let v150 : BitVec 32 := Scalar.muli v137 c2_i32_114
  let v151 : BitVec 32 := Scalar.addi v149 v150
  let c1_i32_104 : BitVec 32 := 1#32
  let v138 : BitVec 32 := Dev.word d0
  let c1_i32_102 : BitVec 32 := 1#32
  let v139 : BitVec 32 := Scalar.divsi v138 c1_i32_102
  let c2_i32_101 : BitVec 32 := 2#32
  let v140 : BitVec 32 := Scalar.remsi v139 c2_i32_101
  let v142 : BitVec 32 := Scalar.subi c1_i32_104 v140
  let c1_i32_115 : BitVec 32 := 1#32
  let v152 : BitVec 32 := Scalar.muli v142 c1_i32_115
  let v153 : BitVec 32 := Scalar.addi v151 v152
  v153.toNat
def k0_off7 (d0 : Dev nD) : Fin 2 → Nat :=
  let c4_i32_127 : BitVec 32 := 4#32
  let c1_i32_125 : BitVec 32 := 1#32
  let v161 : BitVec 32 := Dev.word d0
  let c4_i32_120 : BitVec 32 := 4#32
  let v162 : BitVec 32 := Scalar.divsi v161 c4_i32_120
  let c2_i32_119 : BitVec 32 := 2#32
  let v163 : BitVec 32 := Scalar.remsi v162 c2_i32_119
  let v170 : BitVec 32 := Scalar.subi c1_i32_125 v163
  let v172 : BitVec 32 := Scalar.muli c4_i32_127 v170
  let c2_i32_128 : BitVec 32 := 2#32
  let c1_i32_126 : BitVec 32 := 1#32
  let v164 : BitVec 32 := Dev.word d0
  let c2_i32_122 : BitVec 32 := 2#32
  let v165 : BitVec 32 := Scalar.divsi v164 c2_i32_122
  let c2_i32_121 : BitVec 32 := 2#32
  let v166 : BitVec 32 := Scalar.remsi v165 c2_i32_121
  let v171 : BitVec 32 := Scalar.subi c1_i32_126 v166
  let v173 : BitVec 32 := Scalar.muli c2_i32_128 v171
  let v174 : BitVec 32 := Scalar.addi v172 v173
  let v167 : BitVec 32 := Dev.word d0
  let c1_i32_124 : BitVec 32 := 1#32
  let v168 : BitVec 32 := Scalar.divsi v167 c1_i32_124
  let c2_i32_123 : BitVec 32 := 2#32
  let v169 : BitVec 32 := Scalar.remsi v168 c2_i32_123
  let v175 : BitVec 32 := Scalar.addi v174 v169
  let c352_i32_129 : BitVec 32 := 352#32
  let v176 : BitVec 32 := Scalar.muli v175 c352_i32_129
  let c0_i32_140 : BitVec 32 := 0#32
  ![v176.toNat, 0]
def k0_dev6 (d0 : Dev nD) : Nat :=
  let c0_i32_135 : BitVec 32 := 0#32
  let c1_i32_125 : BitVec 32 := 1#32
  let v161 : BitVec 32 := Dev.word d0
  let c4_i32_120 : BitVec 32 := 4#32
  let v162 : BitVec 32 := Scalar.divsi v161 c4_i32_120
  let c2_i32_119 : BitVec 32 := 2#32
  let v163 : BitVec 32 := Scalar.remsi v162 c2_i32_119
  let v170 : BitVec 32 := Scalar.subi c1_i32_125 v163
  let c4_i32_134 : BitVec 32 := 4#32
  let v177 : BitVec 32 := Scalar.muli v170 c4_i32_134
  let v178 : BitVec 32 := Scalar.addi c0_i32_135 v177
  let c1_i32_126 : BitVec 32 := 1#32
  let v164 : BitVec 32 := Dev.word d0
  let c2_i32_122 : BitVec 32 := 2#32
  let v165 : BitVec 32 := Scalar.divsi v164 c2_i32_122
  let c2_i32_121 : BitVec 32 := 2#32
  let v166 : BitVec 32 := Scalar.remsi v165 c2_i32_121
  let v171 : BitVec 32 := Scalar.subi c1_i32_126 v166
  let c2_i32_136 : BitVec 32 := 2#32
  let v179 : BitVec 32 := Scalar.muli v171 c2_i32_136
  let v180 : BitVec 32 := Scalar.addi v178 v179
  let v167 : BitVec 32 := Dev.word d0
  let c1_i32_124 : BitVec 32 := 1#32
  let v168 : BitVec 32 := Scalar.divsi v167 c1_i32_124
  let c2_i32_123 : BitVec 32 := 2#32
  let v169 : BitVec 32 := Scalar.remsi v168 c2_i32_123
  let c1_i32_137 : BitVec 32 := 1#32
  let v181 : BitVec 32 := Scalar.muli v169 c1_i32_137
  let v182 : BitVec 32 := Scalar.addi v180 v181
  v182.toNat
def k0_off8 (d0 : Dev nD) : Fin 2 → Nat :=
  let c4_i32_150 : BitVec 32 := 4#32
  let c1_i32_147 : BitVec 32 := 1#32
  let v190 : BitVec 32 := Dev.word d0
  let c4_i32_142 : BitVec 32 := 4#32
  let v191 : BitVec 32 := Scalar.divsi v190 c4_i32_142
  let c2_i32_141 : BitVec 32 := 2#32
  let v192 : BitVec 32 := Scalar.remsi v191 c2_i32_141
  let v199 : BitVec 32 := Scalar.subi c1_i32_147 v192
  let v202 : BitVec 32 := Scalar.muli c4_i32_150 v199
  let c2_i32_151 : BitVec 32 := 2#32
  let c1_i32_148 : BitVec 32 := 1#32
  let v193 : BitVec 32 := Dev.word d0
  let c2_i32_144 : BitVec 32 := 2#32
  let v194 : BitVec 32 := Scalar.divsi v193 c2_i32_144
  let c2_i32_143 : BitVec 32 := 2#32
  let v195 : BitVec 32 := Scalar.remsi v194 c2_i32_143
  let v200 : BitVec 32 := Scalar.subi c1_i32_148 v195
  let v203 : BitVec 32 := Scalar.muli c2_i32_151 v200
  let v204 : BitVec 32 := Scalar.addi v202 v203
  let c1_i32_149 : BitVec 32 := 1#32
  let v196 : BitVec 32 := Dev.word d0
  let c1_i32_146 : BitVec 32 := 1#32
  let v197 : BitVec 32 := Scalar.divsi v196 c1_i32_146
  let c2_i32_145 : BitVec 32 := 2#32
  let v198 : BitVec 32 := Scalar.remsi v197 c2_i32_145
  let v201 : BitVec 32 := Scalar.subi c1_i32_149 v198
  let v205 : BitVec 32 := Scalar.addi v204 v201
  let c352_i32_152 : BitVec 32 := 352#32
  let v206 : BitVec 32 := Scalar.muli v205 c352_i32_152
  let c0_i32_163 : BitVec 32 := 0#32
  ![v206.toNat, 0]
def k0_dev7 (d0 : Dev nD) : Nat :=
  let c0_i32_158 : BitVec 32 := 0#32
  let c1_i32_147 : BitVec 32 := 1#32
  let v190 : BitVec 32 := Dev.word d0
  let c4_i32_142 : BitVec 32 := 4#32
  let v191 : BitVec 32 := Scalar.divsi v190 c4_i32_142
  let c2_i32_141 : BitVec 32 := 2#32
  let v192 : BitVec 32 := Scalar.remsi v191 c2_i32_141
  let v199 : BitVec 32 := Scalar.subi c1_i32_147 v192
  let c4_i32_157 : BitVec 32 := 4#32
  let v207 : BitVec 32 := Scalar.muli v199 c4_i32_157
  let v208 : BitVec 32 := Scalar.addi c0_i32_158 v207
  let c1_i32_148 : BitVec 32 := 1#32
  let v193 : BitVec 32 := Dev.word d0
  let c2_i32_144 : BitVec 32 := 2#32
  let v194 : BitVec 32 := Scalar.divsi v193 c2_i32_144
  let c2_i32_143 : BitVec 32 := 2#32
  let v195 : BitVec 32 := Scalar.remsi v194 c2_i32_143
  let v200 : BitVec 32 := Scalar.subi c1_i32_148 v195
  let c2_i32_159 : BitVec 32 := 2#32
  let v209 : BitVec 32 := Scalar.muli v200 c2_i32_159
  let v210 : BitVec 32 := Scalar.addi v208 v209
  let c1_i32_149 : BitVec 32 := 1#32
  let v196 : BitVec 32 := Dev.word d0
  let c1_i32_146 : BitVec 32 := 1#32
  let v197 : BitVec 32 := Scalar.divsi v196 c1_i32_146
  let c2_i32_145 : BitVec 32 := 2#32
  let v198 : BitVec 32 := Scalar.remsi v197 c2_i32_145
  let v201 : BitVec 32 := Scalar.subi c1_i32_149 v198
  let c1_i32_160 : BitVec 32 := 1#32
  let v211 : BitVec 32 := Scalar.muli v201 c1_i32_160
  let v212 : BitVec 32 := Scalar.addi v210 v211
  v212.toNat
def k0_dev8 (d0 : Dev nD) : Nat :=
  let c0_i32_186 : BitVec 32 := 0#32
  let v226 : BitVec 32 := Dev.word d0
  let c4_i32_171 : BitVec 32 := 4#32
  let v227 : BitVec 32 := Scalar.divsi v226 c4_i32_171
  let c2_i32_170 : BitVec 32 := 2#32
  let v228 : BitVec 32 := Scalar.remsi v227 c2_i32_170
  let c4_i32_185 : BitVec 32 := 4#32
  let v241 : BitVec 32 := Scalar.muli v228 c4_i32_185
  let v242 : BitVec 32 := Scalar.addi c0_i32_186 v241
  let v229 : BitVec 32 := Dev.word d0
  let c2_i32_173 : BitVec 32 := 2#32
  let v230 : BitVec 32 := Scalar.divsi v229 c2_i32_173
  let c2_i32_172 : BitVec 32 := 2#32
  let v231 : BitVec 32 := Scalar.remsi v230 c2_i32_172
  let c2_i32_187 : BitVec 32 := 2#32
  let v243 : BitVec 32 := Scalar.muli v231 c2_i32_187
  let v244 : BitVec 32 := Scalar.addi v242 v243
  let c1_i32_176 : BitVec 32 := 1#32
  let v232 : BitVec 32 := Dev.word d0
  let c1_i32_175 : BitVec 32 := 1#32
  let v233 : BitVec 32 := Scalar.divsi v232 c1_i32_175
  let c2_i32_174 : BitVec 32 := 2#32
  let v234 : BitVec 32 := Scalar.remsi v233 c2_i32_174
  let v235 : BitVec 32 := Scalar.subi c1_i32_176 v234
  let c1_i32_188 : BitVec 32 := 1#32
  let v245 : BitVec 32 := Scalar.muli v235 c1_i32_188
  let v246 : BitVec 32 := Scalar.addi v244 v245
  v246.toNat
def k0_dev9 (d0 : Dev nD) : Nat :=
  let c0_i32_208 : BitVec 32 := 0#32
  let v254 : BitVec 32 := Dev.word d0
  let c4_i32_193 : BitVec 32 := 4#32
  let v255 : BitVec 32 := Scalar.divsi v254 c4_i32_193
  let c2_i32_192 : BitVec 32 := 2#32
  let v256 : BitVec 32 := Scalar.remsi v255 c2_i32_192
  let c4_i32_207 : BitVec 32 := 4#32
  let v269 : BitVec 32 := Scalar.muli v256 c4_i32_207
  let v270 : BitVec 32 := Scalar.addi c0_i32_208 v269
  let c1_i32_198 : BitVec 32 := 1#32
  let v257 : BitVec 32 := Dev.word d0
  let c2_i32_195 : BitVec 32 := 2#32
  let v258 : BitVec 32 := Scalar.divsi v257 c2_i32_195
  let c2_i32_194 : BitVec 32 := 2#32
  let v259 : BitVec 32 := Scalar.remsi v258 c2_i32_194
  let v263 : BitVec 32 := Scalar.subi c1_i32_198 v259
  let c2_i32_209 : BitVec 32 := 2#32
  let v271 : BitVec 32 := Scalar.muli v263 c2_i32_209
  let v272 : BitVec 32 := Scalar.addi v270 v271
  let v260 : BitVec 32 := Dev.word d0
  let c1_i32_197 : BitVec 32 := 1#32
  let v261 : BitVec 32 := Scalar.divsi v260 c1_i32_197
  let c2_i32_196 : BitVec 32 := 2#32
  let v262 : BitVec 32 := Scalar.remsi v261 c2_i32_196
  let c1_i32_210 : BitVec 32 := 1#32
  let v273 : BitVec 32 := Scalar.muli v262 c1_i32_210
  let v274 : BitVec 32 := Scalar.addi v272 v273
  v274.toNat
def k0_dev10 (d0 : Dev nD) : Nat :=
  let c0_i32_231 : BitVec 32 := 0#32
  let v282 : BitVec 32 := Dev.word d0
  let c4_i32_215 : BitVec 32 := 4#32
  let v283 : BitVec 32 := Scalar.divsi v282 c4_i32_215
  let c2_i32_214 : BitVec 32 := 2#32
  let v284 : BitVec 32 := Scalar.remsi v283 c2_i32_214
  let c4_i32_230 : BitVec 32 := 4#32
  let v298 : BitVec 32 := Scalar.muli v284 c4_i32_230
  let v299 : BitVec 32 := Scalar.addi c0_i32_231 v298
  let c1_i32_220 : BitVec 32 := 1#32
  let v285 : BitVec 32 := Dev.word d0
  let c2_i32_217 : BitVec 32 := 2#32
  let v286 : BitVec 32 := Scalar.divsi v285 c2_i32_217
  let c2_i32_216 : BitVec 32 := 2#32
  let v287 : BitVec 32 := Scalar.remsi v286 c2_i32_216
  let v291 : BitVec 32 := Scalar.subi c1_i32_220 v287
  let c2_i32_232 : BitVec 32 := 2#32
  let v300 : BitVec 32 := Scalar.muli v291 c2_i32_232
  let v301 : BitVec 32 := Scalar.addi v299 v300
  let c1_i32_221 : BitVec 32 := 1#32
  let v288 : BitVec 32 := Dev.word d0
  let c1_i32_219 : BitVec 32 := 1#32
  let v289 : BitVec 32 := Scalar.divsi v288 c1_i32_219
  let c2_i32_218 : BitVec 32 := 2#32
  let v290 : BitVec 32 := Scalar.remsi v289 c2_i32_218
  let v292 : BitVec 32 := Scalar.subi c1_i32_221 v290
  let c1_i32_233 : BitVec 32 := 1#32
  let v302 : BitVec 32 := Scalar.muli v292 c1_i32_233
  let v303 : BitVec 32 := Scalar.addi v301 v302
  v303.toNat
def k0_dev11 (d0 : Dev nD) : Nat :=
  let c0_i32_253 : BitVec 32 := 0#32
  let c1_i32_243 : BitVec 32 := 1#32
  let v311 : BitVec 32 := Dev.word d0
  let c4_i32_238 : BitVec 32 := 4#32
  let v312 : BitVec 32 := Scalar.divsi v311 c4_i32_238
  let c2_i32_237 : BitVec 32 := 2#32
  let v313 : BitVec 32 := Scalar.remsi v312 c2_i32_237
  let v320 : BitVec 32 := Scalar.subi c1_i32_243 v313
  let c4_i32_252 : BitVec 32 := 4#32
  let v326 : BitVec 32 := Scalar.muli v320 c4_i32_252
  let v327 : BitVec 32 := Scalar.addi c0_i32_253 v326
  let v314 : BitVec 32 := Dev.word d0
  let c2_i32_240 : BitVec 32 := 2#32
  let v315 : BitVec 32 := Scalar.divsi v314 c2_i32_240
  let c2_i32_239 : BitVec 32 := 2#32
  let v316 : BitVec 32 := Scalar.remsi v315 c2_i32_239
  let c2_i32_254 : BitVec 32 := 2#32
  let v328 : BitVec 32 := Scalar.muli v316 c2_i32_254
  let v329 : BitVec 32 := Scalar.addi v327 v328
  let v317 : BitVec 32 := Dev.word d0
  let c1_i32_242 : BitVec 32 := 1#32
  let v318 : BitVec 32 := Scalar.divsi v317 c1_i32_242
  let c2_i32_241 : BitVec 32 := 2#32
  let v319 : BitVec 32 := Scalar.remsi v318 c2_i32_241
  let c1_i32_255 : BitVec 32 := 1#32
  let v330 : BitVec 32 := Scalar.muli v319 c1_i32_255
  let v331 : BitVec 32 := Scalar.addi v329 v330
  v331.toNat
def k0_dev12 (d0 : Dev nD) : Nat :=
  let c0_i32_276 : BitVec 32 := 0#32
  let c1_i32_265 : BitVec 32 := 1#32
  let v339 : BitVec 32 := Dev.word d0
  let c4_i32_260 : BitVec 32 := 4#32
  let v340 : BitVec 32 := Scalar.divsi v339 c4_i32_260
  let c2_i32_259 : BitVec 32 := 2#32
  let v341 : BitVec 32 := Scalar.remsi v340 c2_i32_259
  let v348 : BitVec 32 := Scalar.subi c1_i32_265 v341
  let c4_i32_275 : BitVec 32 := 4#32
  let v355 : BitVec 32 := Scalar.muli v348 c4_i32_275
  let v356 : BitVec 32 := Scalar.addi c0_i32_276 v355
  let v342 : BitVec 32 := Dev.word d0
  let c2_i32_262 : BitVec 32 := 2#32
  let v343 : BitVec 32 := Scalar.divsi v342 c2_i32_262
  let c2_i32_261 : BitVec 32 := 2#32
  let v344 : BitVec 32 := Scalar.remsi v343 c2_i32_261
  let c2_i32_277 : BitVec 32 := 2#32
  let v357 : BitVec 32 := Scalar.muli v344 c2_i32_277
  let v358 : BitVec 32 := Scalar.addi v356 v357
  let c1_i32_266 : BitVec 32 := 1#32
  let v345 : BitVec 32 := Dev.word d0
  let c1_i32_264 : BitVec 32 := 1#32
  let v346 : BitVec 32 := Scalar.divsi v345 c1_i32_264
  let c2_i32_263 : BitVec 32 := 2#32
  let v347 : BitVec 32 := Scalar.remsi v346 c2_i32_263
  let v349 : BitVec 32 := Scalar.subi c1_i32_266 v347
  let c1_i32_278 : BitVec 32 := 1#32
  let v359 : BitVec 32 := Scalar.muli v349 c1_i32_278
  let v360 : BitVec 32 := Scalar.addi v358 v359
  v360.toNat
def k0_dev13 (d0 : Dev nD) : Nat :=
  let c0_i32_299 : BitVec 32 := 0#32
  let c1_i32_288 : BitVec 32 := 1#32
  let v368 : BitVec 32 := Dev.word d0
  let c4_i32_283 : BitVec 32 := 4#32
  let v369 : BitVec 32 := Scalar.divsi v368 c4_i32_283
  let c2_i32_282 : BitVec 32 := 2#32
  let v370 : BitVec 32 := Scalar.remsi v369 c2_i32_282
  let v377 : BitVec 32 := Scalar.subi c1_i32_288 v370
  let c4_i32_298 : BitVec 32 := 4#32
  let v384 : BitVec 32 := Scalar.muli v377 c4_i32_298
  let v385 : BitVec 32 := Scalar.addi c0_i32_299 v384
  let c1_i32_289 : BitVec 32 := 1#32
  let v371 : BitVec 32 := Dev.word d0
  let c2_i32_285 : BitVec 32 := 2#32
  let v372 : BitVec 32 := Scalar.divsi v371 c2_i32_285
  let c2_i32_284 : BitVec 32 := 2#32
  let v373 : BitVec 32 := Scalar.remsi v372 c2_i32_284
  let v378 : BitVec 32 := Scalar.subi c1_i32_289 v373
  let c2_i32_300 : BitVec 32 := 2#32
  let v386 : BitVec 32 := Scalar.muli v378 c2_i32_300
  let v387 : BitVec 32 := Scalar.addi v385 v386
  let v374 : BitVec 32 := Dev.word d0
  let c1_i32_287 : BitVec 32 := 1#32
  let v375 : BitVec 32 := Scalar.divsi v374 c1_i32_287
  let c2_i32_286 : BitVec 32 := 2#32
  let v376 : BitVec 32 := Scalar.remsi v375 c2_i32_286
  let c1_i32_301 : BitVec 32 := 1#32
  let v388 : BitVec 32 := Scalar.muli v376 c1_i32_301
  let v389 : BitVec 32 := Scalar.addi v387 v388
  v389.toNat
def k0_dev14 (d0 : Dev nD) : Nat :=
  let c0_i32_323 : BitVec 32 := 0#32
  let c1_i32_311 : BitVec 32 := 1#32
  let v397 : BitVec 32 := Dev.word d0
  let c4_i32_306 : BitVec 32 := 4#32
  let v398 : BitVec 32 := Scalar.divsi v397 c4_i32_306
  let c2_i32_305 : BitVec 32 := 2#32
  let v399 : BitVec 32 := Scalar.remsi v398 c2_i32_305
  let v406 : BitVec 32 := Scalar.subi c1_i32_311 v399
  let c4_i32_322 : BitVec 32 := 4#32
  let v414 : BitVec 32 := Scalar.muli v406 c4_i32_322
  let v415 : BitVec 32 := Scalar.addi c0_i32_323 v414
  let c1_i32_312 : BitVec 32 := 1#32
  let v400 : BitVec 32 := Dev.word d0
  let c2_i32_308 : BitVec 32 := 2#32
  let v401 : BitVec 32 := Scalar.divsi v400 c2_i32_308
  let c2_i32_307 : BitVec 32 := 2#32
  let v402 : BitVec 32 := Scalar.remsi v401 c2_i32_307
  let v407 : BitVec 32 := Scalar.subi c1_i32_312 v402
  let c2_i32_324 : BitVec 32 := 2#32
  let v416 : BitVec 32 := Scalar.muli v407 c2_i32_324
  let v417 : BitVec 32 := Scalar.addi v415 v416
  let c1_i32_313 : BitVec 32 := 1#32
  let v403 : BitVec 32 := Dev.word d0
  let c1_i32_310 : BitVec 32 := 1#32
  let v404 : BitVec 32 := Scalar.divsi v403 c1_i32_310
  let c2_i32_309 : BitVec 32 := 2#32
  let v405 : BitVec 32 := Scalar.remsi v404 c2_i32_309
  let v408 : BitVec 32 := Scalar.subi c1_i32_313 v405
  let c1_i32_325 : BitVec 32 := 1#32
  let v418 : BitVec 32 := Scalar.muli v408 c1_i32_325
  let v419 : BitVec 32 := Scalar.addi v417 v418
  v419.toNat
def k0_off9 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c1088_i32 : BitVec 32 := 1088#32
  let v427 : BitVec 32 := Scalar.muli v12 c1088_i32
  let c0_i32_333 : BitVec 32 := 0#32
  ![v427.toNat, 0]
def k0_off10 (d0 : Dev nD) : Fin 2 → Nat :=
  let c4_i32_341 : BitVec 32 := 4#32
  let v433 : BitVec 32 := Dev.word d0
  let c4_i32_335 : BitVec 32 := 4#32
  let v434 : BitVec 32 := Scalar.divsi v433 c4_i32_335
  let c2_i32_334 : BitVec 32 := 2#32
  let v435 : BitVec 32 := Scalar.remsi v434 c2_i32_334
  let v443 : BitVec 32 := Scalar.muli c4_i32_341 v435
  let c2_i32_342 : BitVec 32 := 2#32
  let v436 : BitVec 32 := Dev.word d0
  let c2_i32_337 : BitVec 32 := 2#32
  let v437 : BitVec 32 := Scalar.divsi v436 c2_i32_337
  let c2_i32_336 : BitVec 32 := 2#32
  let v438 : BitVec 32 := Scalar.remsi v437 c2_i32_336
  let v444 : BitVec 32 := Scalar.muli c2_i32_342 v438
  let v445 : BitVec 32 := Scalar.addi v443 v444
  let c1_i32_340 : BitVec 32 := 1#32
  let v439 : BitVec 32 := Dev.word d0
  let c1_i32_339 : BitVec 32 := 1#32
  let v440 : BitVec 32 := Scalar.divsi v439 c1_i32_339
  let c2_i32_338 : BitVec 32 := 2#32
  let v441 : BitVec 32 := Scalar.remsi v440 c2_i32_338
  let v442 : BitVec 32 := Scalar.subi c1_i32_340 v441
  let v446 : BitVec 32 := Scalar.addi v445 v442
  let c1088_i32_343 : BitVec 32 := 1088#32
  let v447 : BitVec 32 := Scalar.muli v446 c1088_i32_343
  let c0_i32_355 : BitVec 32 := 0#32
  ![v447.toNat, 0]
def k0_dev15 (d0 : Dev nD) : Nat :=
  let c0_i32_350 : BitVec 32 := 0#32
  let v433 : BitVec 32 := Dev.word d0
  let c4_i32_335 : BitVec 32 := 4#32
  let v434 : BitVec 32 := Scalar.divsi v433 c4_i32_335
  let c2_i32_334 : BitVec 32 := 2#32
  let v435 : BitVec 32 := Scalar.remsi v434 c2_i32_334
  let c4_i32_349 : BitVec 32 := 4#32
  let v448 : BitVec 32 := Scalar.muli v435 c4_i32_349
  let v449 : BitVec 32 := Scalar.addi c0_i32_350 v448
  let v436 : BitVec 32 := Dev.word d0
  let c2_i32_337 : BitVec 32 := 2#32
  let v437 : BitVec 32 := Scalar.divsi v436 c2_i32_337
  let c2_i32_336 : BitVec 32 := 2#32
  let v438 : BitVec 32 := Scalar.remsi v437 c2_i32_336
  let c2_i32_351 : BitVec 32 := 2#32
  let v450 : BitVec 32 := Scalar.muli v438 c2_i32_351
  let v451 : BitVec 32 := Scalar.addi v449 v450
  let c1_i32_340 : BitVec 32 := 1#32
  let v439 : BitVec 32 := Dev.word d0
  let c1_i32_339 : BitVec 32 := 1#32
  let v440 : BitVec 32 := Scalar.divsi v439 c1_i32_339
  let c2_i32_338 : BitVec 32 := 2#32
  let v441 : BitVec 32 := Scalar.remsi v440 c2_i32_338
  let v442 : BitVec 32 := Scalar.subi c1_i32_340 v441
  let c1_i32_352 : BitVec 32 := 1#32
  let v452 : BitVec 32 := Scalar.muli v442 c1_i32_352
  let v453 : BitVec 32 := Scalar.addi v451 v452
  v453.toNat
def k0_off11 (d0 : Dev nD) : Fin 2 → Nat :=
  let c4_i32_363 : BitVec 32 := 4#32
  let v461 : BitVec 32 := Dev.word d0
  let c4_i32_357 : BitVec 32 := 4#32
  let v462 : BitVec 32 := Scalar.divsi v461 c4_i32_357
  let c2_i32_356 : BitVec 32 := 2#32
  let v463 : BitVec 32 := Scalar.remsi v462 c2_i32_356
  let v471 : BitVec 32 := Scalar.muli c4_i32_363 v463
  let c2_i32_364 : BitVec 32 := 2#32
  let c1_i32_362 : BitVec 32 := 1#32
  let v464 : BitVec 32 := Dev.word d0
  let c2_i32_359 : BitVec 32 := 2#32
  let v465 : BitVec 32 := Scalar.divsi v464 c2_i32_359
  let c2_i32_358 : BitVec 32 := 2#32
  let v466 : BitVec 32 := Scalar.remsi v465 c2_i32_358
  let v470 : BitVec 32 := Scalar.subi c1_i32_362 v466
  let v472 : BitVec 32 := Scalar.muli c2_i32_364 v470
  let v473 : BitVec 32 := Scalar.addi v471 v472
  let v467 : BitVec 32 := Dev.word d0
  let c1_i32_361 : BitVec 32 := 1#32
  let v468 : BitVec 32 := Scalar.divsi v467 c1_i32_361
  let c2_i32_360 : BitVec 32 := 2#32
  let v469 : BitVec 32 := Scalar.remsi v468 c2_i32_360
  let v474 : BitVec 32 := Scalar.addi v473 v469
  let c1088_i32_365 : BitVec 32 := 1088#32
  let v475 : BitVec 32 := Scalar.muli v474 c1088_i32_365
  let c0_i32_377 : BitVec 32 := 0#32
  ![v475.toNat, 0]
def k0_dev16 (d0 : Dev nD) : Nat :=
  let c0_i32_372 : BitVec 32 := 0#32
  let v461 : BitVec 32 := Dev.word d0
  let c4_i32_357 : BitVec 32 := 4#32
  let v462 : BitVec 32 := Scalar.divsi v461 c4_i32_357
  let c2_i32_356 : BitVec 32 := 2#32
  let v463 : BitVec 32 := Scalar.remsi v462 c2_i32_356
  let c4_i32_371 : BitVec 32 := 4#32
  let v476 : BitVec 32 := Scalar.muli v463 c4_i32_371
  let v477 : BitVec 32 := Scalar.addi c0_i32_372 v476
  let c1_i32_362 : BitVec 32 := 1#32
  let v464 : BitVec 32 := Dev.word d0
  let c2_i32_359 : BitVec 32 := 2#32
  let v465 : BitVec 32 := Scalar.divsi v464 c2_i32_359
  let c2_i32_358 : BitVec 32 := 2#32
  let v466 : BitVec 32 := Scalar.remsi v465 c2_i32_358
  let v470 : BitVec 32 := Scalar.subi c1_i32_362 v466
  let c2_i32_373 : BitVec 32 := 2#32
  let v478 : BitVec 32 := Scalar.muli v470 c2_i32_373
  let v479 : BitVec 32 := Scalar.addi v477 v478
  let v467 : BitVec 32 := Dev.word d0
  let c1_i32_361 : BitVec 32 := 1#32
  let v468 : BitVec 32 := Scalar.divsi v467 c1_i32_361
  let c2_i32_360 : BitVec 32 := 2#32
  let v469 : BitVec 32 := Scalar.remsi v468 c2_i32_360
  let c1_i32_374 : BitVec 32 := 1#32
  let v480 : BitVec 32 := Scalar.muli v469 c1_i32_374
  let v481 : BitVec 32 := Scalar.addi v479 v480
  v481.toNat
def k0_off12 (d0 : Dev nD) : Fin 2 → Nat :=
  let c4_i32_386 : BitVec 32 := 4#32
  let v489 : BitVec 32 := Dev.word d0
  let c4_i32_379 : BitVec 32 := 4#32
  let v490 : BitVec 32 := Scalar.divsi v489 c4_i32_379
  let c2_i32_378 : BitVec 32 := 2#32
  let v491 : BitVec 32 := Scalar.remsi v490 c2_i32_378
  let v500 : BitVec 32 := Scalar.muli c4_i32_386 v491
  let c2_i32_387 : BitVec 32 := 2#32
  let c1_i32_384 : BitVec 32 := 1#32
  let v492 : BitVec 32 := Dev.word d0
  let c2_i32_381 : BitVec 32 := 2#32
  let v493 : BitVec 32 := Scalar.divsi v492 c2_i32_381
  let c2_i32_380 : BitVec 32 := 2#32
  let v494 : BitVec 32 := Scalar.remsi v493 c2_i32_380
  let v498 : BitVec 32 := Scalar.subi c1_i32_384 v494
  let v501 : BitVec 32 := Scalar.muli c2_i32_387 v498
  let v502 : BitVec 32 := Scalar.addi v500 v501
  let c1_i32_385 : BitVec 32 := 1#32
  let v495 : BitVec 32 := Dev.word d0
  let c1_i32_383 : BitVec 32 := 1#32
  let v496 : BitVec 32 := Scalar.divsi v495 c1_i32_383
  let c2_i32_382 : BitVec 32 := 2#32
  let v497 : BitVec 32 := Scalar.remsi v496 c2_i32_382
  let v499 : BitVec 32 := Scalar.subi c1_i32_385 v497
  let v503 : BitVec 32 := Scalar.addi v502 v499
  let c1088_i32_388 : BitVec 32 := 1088#32
  let v504 : BitVec 32 := Scalar.muli v503 c1088_i32_388
  let c0_i32_400 : BitVec 32 := 0#32
  ![v504.toNat, 0]
def k0_dev17 (d0 : Dev nD) : Nat :=
  let c0_i32_395 : BitVec 32 := 0#32
  let v489 : BitVec 32 := Dev.word d0
  let c4_i32_379 : BitVec 32 := 4#32
  let v490 : BitVec 32 := Scalar.divsi v489 c4_i32_379
  let c2_i32_378 : BitVec 32 := 2#32
  let v491 : BitVec 32 := Scalar.remsi v490 c2_i32_378
  let c4_i32_394 : BitVec 32 := 4#32
  let v505 : BitVec 32 := Scalar.muli v491 c4_i32_394
  let v506 : BitVec 32 := Scalar.addi c0_i32_395 v505
  let c1_i32_384 : BitVec 32 := 1#32
  let v492 : BitVec 32 := Dev.word d0
  let c2_i32_381 : BitVec 32 := 2#32
  let v493 : BitVec 32 := Scalar.divsi v492 c2_i32_381
  let c2_i32_380 : BitVec 32 := 2#32
  let v494 : BitVec 32 := Scalar.remsi v493 c2_i32_380
  let v498 : BitVec 32 := Scalar.subi c1_i32_384 v494
  let c2_i32_396 : BitVec 32 := 2#32
  let v507 : BitVec 32 := Scalar.muli v498 c2_i32_396
  let v508 : BitVec 32 := Scalar.addi v506 v507
  let c1_i32_385 : BitVec 32 := 1#32
  let v495 : BitVec 32 := Dev.word d0
  let c1_i32_383 : BitVec 32 := 1#32
  let v496 : BitVec 32 := Scalar.divsi v495 c1_i32_383
  let c2_i32_382 : BitVec 32 := 2#32
  let v497 : BitVec 32 := Scalar.remsi v496 c2_i32_382
  let v499 : BitVec 32 := Scalar.subi c1_i32_385 v497
  let c1_i32_397 : BitVec 32 := 1#32
  let v509 : BitVec 32 := Scalar.muli v499 c1_i32_397
  let v510 : BitVec 32 := Scalar.addi v508 v509
  v510.toNat
def k0_off13 (d0 : Dev nD) : Fin 2 → Nat :=
  let c4_i32_408 : BitVec 32 := 4#32
  let c1_i32_407 : BitVec 32 := 1#32
  let v518 : BitVec 32 := Dev.word d0
  let c4_i32_402 : BitVec 32 := 4#32
  let v519 : BitVec 32 := Scalar.divsi v518 c4_i32_402
  let c2_i32_401 : BitVec 32 := 2#32
  let v520 : BitVec 32 := Scalar.remsi v519 c2_i32_401
  let v527 : BitVec 32 := Scalar.subi c1_i32_407 v520
  let v528 : BitVec 32 := Scalar.muli c4_i32_408 v527
  let c2_i32_409 : BitVec 32 := 2#32
  let v521 : BitVec 32 := Dev.word d0
  let c2_i32_404 : BitVec 32 := 2#32
  let v522 : BitVec 32 := Scalar.divsi v521 c2_i32_404
  let c2_i32_403 : BitVec 32 := 2#32
  let v523 : BitVec 32 := Scalar.remsi v522 c2_i32_403
  let v529 : BitVec 32 := Scalar.muli c2_i32_409 v523
  let v530 : BitVec 32 := Scalar.addi v528 v529
  let v524 : BitVec 32 := Dev.word d0
  let c1_i32_406 : BitVec 32 := 1#32
  let v525 : BitVec 32 := Scalar.divsi v524 c1_i32_406
  let c2_i32_405 : BitVec 32 := 2#32
  let v526 : BitVec 32 := Scalar.remsi v525 c2_i32_405
  let v531 : BitVec 32 := Scalar.addi v530 v526
  let c1088_i32_410 : BitVec 32 := 1088#32
  let v532 : BitVec 32 := Scalar.muli v531 c1088_i32_410
  let c0_i32_422 : BitVec 32 := 0#32
  ![v532.toNat, 0]
def k0_dev18 (d0 : Dev nD) : Nat :=
  let c0_i32_417 : BitVec 32 := 0#32
  let c1_i32_407 : BitVec 32 := 1#32
  let v518 : BitVec 32 := Dev.word d0
  let c4_i32_402 : BitVec 32 := 4#32
  let v519 : BitVec 32 := Scalar.divsi v518 c4_i32_402
  let c2_i32_401 : BitVec 32 := 2#32
  let v520 : BitVec 32 := Scalar.remsi v519 c2_i32_401
  let v527 : BitVec 32 := Scalar.subi c1_i32_407 v520
  let c4_i32_416 : BitVec 32 := 4#32
  let v533 : BitVec 32 := Scalar.muli v527 c4_i32_416
  let v534 : BitVec 32 := Scalar.addi c0_i32_417 v533
  let v521 : BitVec 32 := Dev.word d0
  let c2_i32_404 : BitVec 32 := 2#32
  let v522 : BitVec 32 := Scalar.divsi v521 c2_i32_404
  let c2_i32_403 : BitVec 32 := 2#32
  let v523 : BitVec 32 := Scalar.remsi v522 c2_i32_403
  let c2_i32_418 : BitVec 32 := 2#32
  let v535 : BitVec 32 := Scalar.muli v523 c2_i32_418
  let v536 : BitVec 32 := Scalar.addi v534 v535
  let v524 : BitVec 32 := Dev.word d0
  let c1_i32_406 : BitVec 32 := 1#32
  let v525 : BitVec 32 := Scalar.divsi v524 c1_i32_406
  let c2_i32_405 : BitVec 32 := 2#32
  let v526 : BitVec 32 := Scalar.remsi v525 c2_i32_405
  let c1_i32_419 : BitVec 32 := 1#32
  let v537 : BitVec 32 := Scalar.muli v526 c1_i32_419
  let v538 : BitVec 32 := Scalar.addi v536 v537
  v538.toNat
def k0_off14 (d0 : Dev nD) : Fin 2 → Nat :=
  let c4_i32_431 : BitVec 32 := 4#32
  let c1_i32_429 : BitVec 32 := 1#32
  let v546 : BitVec 32 := Dev.word d0
  let c4_i32_424 : BitVec 32 := 4#32
  let v547 : BitVec 32 := Scalar.divsi v546 c4_i32_424
  let c2_i32_423 : BitVec 32 := 2#32
  let v548 : BitVec 32 := Scalar.remsi v547 c2_i32_423
  let v555 : BitVec 32 := Scalar.subi c1_i32_429 v548
  let v557 : BitVec 32 := Scalar.muli c4_i32_431 v555
  let c2_i32_432 : BitVec 32 := 2#32
  let v549 : BitVec 32 := Dev.word d0
  let c2_i32_426 : BitVec 32 := 2#32
  let v550 : BitVec 32 := Scalar.divsi v549 c2_i32_426
  let c2_i32_425 : BitVec 32 := 2#32
  let v551 : BitVec 32 := Scalar.remsi v550 c2_i32_425
  let v558 : BitVec 32 := Scalar.muli c2_i32_432 v551
  let v559 : BitVec 32 := Scalar.addi v557 v558
  let c1_i32_430 : BitVec 32 := 1#32
  let v552 : BitVec 32 := Dev.word d0
  let c1_i32_428 : BitVec 32 := 1#32
  let v553 : BitVec 32 := Scalar.divsi v552 c1_i32_428
  let c2_i32_427 : BitVec 32 := 2#32
  let v554 : BitVec 32 := Scalar.remsi v553 c2_i32_427
  let v556 : BitVec 32 := Scalar.subi c1_i32_430 v554
  let v560 : BitVec 32 := Scalar.addi v559 v556
  let c1088_i32_433 : BitVec 32 := 1088#32
  let v561 : BitVec 32 := Scalar.muli v560 c1088_i32_433
  let c0_i32_445 : BitVec 32 := 0#32
  ![v561.toNat, 0]
def k0_dev19 (d0 : Dev nD) : Nat :=
  let c0_i32_440 : BitVec 32 := 0#32
  let c1_i32_429 : BitVec 32 := 1#32
  let v546 : BitVec 32 := Dev.word d0
  let c4_i32_424 : BitVec 32 := 4#32
  let v547 : BitVec 32 := Scalar.divsi v546 c4_i32_424
  let c2_i32_423 : BitVec 32 := 2#32
  let v548 : BitVec 32 := Scalar.remsi v547 c2_i32_423
  let v555 : BitVec 32 := Scalar.subi c1_i32_429 v548
  let c4_i32_439 : BitVec 32 := 4#32
  let v562 : BitVec 32 := Scalar.muli v555 c4_i32_439
  let v563 : BitVec 32 := Scalar.addi c0_i32_440 v562
  let v549 : BitVec 32 := Dev.word d0
  let c2_i32_426 : BitVec 32 := 2#32
  let v550 : BitVec 32 := Scalar.divsi v549 c2_i32_426
  let c2_i32_425 : BitVec 32 := 2#32
  let v551 : BitVec 32 := Scalar.remsi v550 c2_i32_425
  let c2_i32_441 : BitVec 32 := 2#32
  let v564 : BitVec 32 := Scalar.muli v551 c2_i32_441
  let v565 : BitVec 32 := Scalar.addi v563 v564
  let c1_i32_430 : BitVec 32 := 1#32
  let v552 : BitVec 32 := Dev.word d0
  let c1_i32_428 : BitVec 32 := 1#32
  let v553 : BitVec 32 := Scalar.divsi v552 c1_i32_428
  let c2_i32_427 : BitVec 32 := 2#32
  let v554 : BitVec 32 := Scalar.remsi v553 c2_i32_427
  let v556 : BitVec 32 := Scalar.subi c1_i32_430 v554
  let c1_i32_442 : BitVec 32 := 1#32
  let v566 : BitVec 32 := Scalar.muli v556 c1_i32_442
  let v567 : BitVec 32 := Scalar.addi v565 v566
  v567.toNat
def k0_off15 (d0 : Dev nD) : Fin 2 → Nat :=
  let c4_i32_454 : BitVec 32 := 4#32
  let c1_i32_452 : BitVec 32 := 1#32
  let v575 : BitVec 32 := Dev.word d0
  let c4_i32_447 : BitVec 32 := 4#32
  let v576 : BitVec 32 := Scalar.divsi v575 c4_i32_447
  let c2_i32_446 : BitVec 32 := 2#32
  let v577 : BitVec 32 := Scalar.remsi v576 c2_i32_446
  let v584 : BitVec 32 := Scalar.subi c1_i32_452 v577
  let v586 : BitVec 32 := Scalar.muli c4_i32_454 v584
  let c2_i32_455 : BitVec 32 := 2#32
  let c1_i32_453 : BitVec 32 := 1#32
  let v578 : BitVec 32 := Dev.word d0
  let c2_i32_449 : BitVec 32 := 2#32
  let v579 : BitVec 32 := Scalar.divsi v578 c2_i32_449
  let c2_i32_448 : BitVec 32 := 2#32
  let v580 : BitVec 32 := Scalar.remsi v579 c2_i32_448
  let v585 : BitVec 32 := Scalar.subi c1_i32_453 v580
  let v587 : BitVec 32 := Scalar.muli c2_i32_455 v585
  let v588 : BitVec 32 := Scalar.addi v586 v587
  let v581 : BitVec 32 := Dev.word d0
  let c1_i32_451 : BitVec 32 := 1#32
  let v582 : BitVec 32 := Scalar.divsi v581 c1_i32_451
  let c2_i32_450 : BitVec 32 := 2#32
  let v583 : BitVec 32 := Scalar.remsi v582 c2_i32_450
  let v589 : BitVec 32 := Scalar.addi v588 v583
  let c1088_i32_456 : BitVec 32 := 1088#32
  let v590 : BitVec 32 := Scalar.muli v589 c1088_i32_456
  let c0_i32_468 : BitVec 32 := 0#32
  ![v590.toNat, 0]
def k0_dev20 (d0 : Dev nD) : Nat :=
  let c0_i32_463 : BitVec 32 := 0#32
  let c1_i32_452 : BitVec 32 := 1#32
  let v575 : BitVec 32 := Dev.word d0
  let c4_i32_447 : BitVec 32 := 4#32
  let v576 : BitVec 32 := Scalar.divsi v575 c4_i32_447
  let c2_i32_446 : BitVec 32 := 2#32
  let v577 : BitVec 32 := Scalar.remsi v576 c2_i32_446
  let v584 : BitVec 32 := Scalar.subi c1_i32_452 v577
  let c4_i32_462 : BitVec 32 := 4#32
  let v591 : BitVec 32 := Scalar.muli v584 c4_i32_462
  let v592 : BitVec 32 := Scalar.addi c0_i32_463 v591
  let c1_i32_453 : BitVec 32 := 1#32
  let v578 : BitVec 32 := Dev.word d0
  let c2_i32_449 : BitVec 32 := 2#32
  let v579 : BitVec 32 := Scalar.divsi v578 c2_i32_449
  let c2_i32_448 : BitVec 32 := 2#32
  let v580 : BitVec 32 := Scalar.remsi v579 c2_i32_448
  let v585 : BitVec 32 := Scalar.subi c1_i32_453 v580
  let c2_i32_464 : BitVec 32 := 2#32
  let v593 : BitVec 32 := Scalar.muli v585 c2_i32_464
  let v594 : BitVec 32 := Scalar.addi v592 v593
  let v581 : BitVec 32 := Dev.word d0
  let c1_i32_451 : BitVec 32 := 1#32
  let v582 : BitVec 32 := Scalar.divsi v581 c1_i32_451
  let c2_i32_450 : BitVec 32 := 2#32
  let v583 : BitVec 32 := Scalar.remsi v582 c2_i32_450
  let c1_i32_465 : BitVec 32 := 1#32
  let v595 : BitVec 32 := Scalar.muli v583 c1_i32_465
  let v596 : BitVec 32 := Scalar.addi v594 v595
  v596.toNat
def k0_off16 (d0 : Dev nD) : Fin 2 → Nat :=
  let c4_i32_478 : BitVec 32 := 4#32
  let c1_i32_475 : BitVec 32 := 1#32
  let v604 : BitVec 32 := Dev.word d0
  let c4_i32_470 : BitVec 32 := 4#32
  let v605 : BitVec 32 := Scalar.divsi v604 c4_i32_470
  let c2_i32_469 : BitVec 32 := 2#32
  let v606 : BitVec 32 := Scalar.remsi v605 c2_i32_469
  let v613 : BitVec 32 := Scalar.subi c1_i32_475 v606
  let v616 : BitVec 32 := Scalar.muli c4_i32_478 v613
  let c2_i32_479 : BitVec 32 := 2#32
  let c1_i32_476 : BitVec 32 := 1#32
  let v607 : BitVec 32 := Dev.word d0
  let c2_i32_472 : BitVec 32 := 2#32
  let v608 : BitVec 32 := Scalar.divsi v607 c2_i32_472
  let c2_i32_471 : BitVec 32 := 2#32
  let v609 : BitVec 32 := Scalar.remsi v608 c2_i32_471
  let v614 : BitVec 32 := Scalar.subi c1_i32_476 v609
  let v617 : BitVec 32 := Scalar.muli c2_i32_479 v614
  let v618 : BitVec 32 := Scalar.addi v616 v617
  let c1_i32_477 : BitVec 32 := 1#32
  let v610 : BitVec 32 := Dev.word d0
  let c1_i32_474 : BitVec 32 := 1#32
  let v611 : BitVec 32 := Scalar.divsi v610 c1_i32_474
  let c2_i32_473 : BitVec 32 := 2#32
  let v612 : BitVec 32 := Scalar.remsi v611 c2_i32_473
  let v615 : BitVec 32 := Scalar.subi c1_i32_477 v612
  let v619 : BitVec 32 := Scalar.addi v618 v615
  let c1088_i32_480 : BitVec 32 := 1088#32
  let v620 : BitVec 32 := Scalar.muli v619 c1088_i32_480
  let c0_i32_492 : BitVec 32 := 0#32
  ![v620.toNat, 0]
def k0_dev21 (d0 : Dev nD) : Nat :=
  let c0_i32_487 : BitVec 32 := 0#32
  let c1_i32_475 : BitVec 32 := 1#32
  let v604 : BitVec 32 := Dev.word d0
  let c4_i32_470 : BitVec 32 := 4#32
  let v605 : BitVec 32 := Scalar.divsi v604 c4_i32_470
  let c2_i32_469 : BitVec 32 := 2#32
  let v606 : BitVec 32 := Scalar.remsi v605 c2_i32_469
  let v613 : BitVec 32 := Scalar.subi c1_i32_475 v606
  let c4_i32_486 : BitVec 32 := 4#32
  let v621 : BitVec 32 := Scalar.muli v613 c4_i32_486
  let v622 : BitVec 32 := Scalar.addi c0_i32_487 v621
  let c1_i32_476 : BitVec 32 := 1#32
  let v607 : BitVec 32 := Dev.word d0
  let c2_i32_472 : BitVec 32 := 2#32
  let v608 : BitVec 32 := Scalar.divsi v607 c2_i32_472
  let c2_i32_471 : BitVec 32 := 2#32
  let v609 : BitVec 32 := Scalar.remsi v608 c2_i32_471
  let v614 : BitVec 32 := Scalar.subi c1_i32_476 v609
  let c2_i32_488 : BitVec 32 := 2#32
  let v623 : BitVec 32 := Scalar.muli v614 c2_i32_488
  let v624 : BitVec 32 := Scalar.addi v622 v623
  let c1_i32_477 : BitVec 32 := 1#32
  let v610 : BitVec 32 := Dev.word d0
  let c1_i32_474 : BitVec 32 := 1#32
  let v611 : BitVec 32 := Scalar.divsi v610 c1_i32_474
  let c2_i32_473 : BitVec 32 := 2#32
  let v612 : BitVec 32 := Scalar.remsi v611 c2_i32_473
  let v615 : BitVec 32 := Scalar.subi c1_i32_477 v612
  let c1_i32_489 : BitVec 32 := 1#32
  let v625 : BitVec 32 := Scalar.muli v615 c1_i32_489
  let v626 : BitVec 32 := Scalar.addi v624 v625
  v626.toNat
def k0_off17 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32 : BitVec 32 := 128#32
  let v634 : BitVec 32 := Scalar.muli v12 c128_i32
  let c0_i32_497 : BitVec 32 := 0#32
  ![v634.toNat, 0]
def k0_off18 (d0 : Dev nD) : Fin 2 → Nat :=
  let c4_i32_505 : BitVec 32 := 4#32
  let v640 : BitVec 32 := Dev.word d0
  let c4_i32_499 : BitVec 32 := 4#32
  let v641 : BitVec 32 := Scalar.divsi v640 c4_i32_499
  let c2_i32_498 : BitVec 32 := 2#32
  let v642 : BitVec 32 := Scalar.remsi v641 c2_i32_498
  let v650 : BitVec 32 := Scalar.muli c4_i32_505 v642
  let c2_i32_506 : BitVec 32 := 2#32
  let v643 : BitVec 32 := Dev.word d0
  let c2_i32_501 : BitVec 32 := 2#32
  let v644 : BitVec 32 := Scalar.divsi v643 c2_i32_501
  let c2_i32_500 : BitVec 32 := 2#32
  let v645 : BitVec 32 := Scalar.remsi v644 c2_i32_500
  let v651 : BitVec 32 := Scalar.muli c2_i32_506 v645
  let v652 : BitVec 32 := Scalar.addi v650 v651
  let c1_i32_504 : BitVec 32 := 1#32
  let v646 : BitVec 32 := Dev.word d0
  let c1_i32_503 : BitVec 32 := 1#32
  let v647 : BitVec 32 := Scalar.divsi v646 c1_i32_503
  let c2_i32_502 : BitVec 32 := 2#32
  let v648 : BitVec 32 := Scalar.remsi v647 c2_i32_502
  let v649 : BitVec 32 := Scalar.subi c1_i32_504 v648
  let v653 : BitVec 32 := Scalar.addi v652 v649
  let c128_i32_507 : BitVec 32 := 128#32
  let v654 : BitVec 32 := Scalar.muli v653 c128_i32_507
  let c0_i32_519 : BitVec 32 := 0#32
  ![v654.toNat, 0]
def k0_dev22 (d0 : Dev nD) : Nat :=
  let c0_i32_514 : BitVec 32 := 0#32
  let v640 : BitVec 32 := Dev.word d0
  let c4_i32_499 : BitVec 32 := 4#32
  let v641 : BitVec 32 := Scalar.divsi v640 c4_i32_499
  let c2_i32_498 : BitVec 32 := 2#32
  let v642 : BitVec 32 := Scalar.remsi v641 c2_i32_498
  let c4_i32_513 : BitVec 32 := 4#32
  let v655 : BitVec 32 := Scalar.muli v642 c4_i32_513
  let v656 : BitVec 32 := Scalar.addi c0_i32_514 v655
  let v643 : BitVec 32 := Dev.word d0
  let c2_i32_501 : BitVec 32 := 2#32
  let v644 : BitVec 32 := Scalar.divsi v643 c2_i32_501
  let c2_i32_500 : BitVec 32 := 2#32
  let v645 : BitVec 32 := Scalar.remsi v644 c2_i32_500
  let c2_i32_515 : BitVec 32 := 2#32
  let v657 : BitVec 32 := Scalar.muli v645 c2_i32_515
  let v658 : BitVec 32 := Scalar.addi v656 v657
  let c1_i32_504 : BitVec 32 := 1#32
  let v646 : BitVec 32 := Dev.word d0
  let c1_i32_503 : BitVec 32 := 1#32
  let v647 : BitVec 32 := Scalar.divsi v646 c1_i32_503
  let c2_i32_502 : BitVec 32 := 2#32
  let v648 : BitVec 32 := Scalar.remsi v647 c2_i32_502
  let v649 : BitVec 32 := Scalar.subi c1_i32_504 v648
  let c1_i32_516 : BitVec 32 := 1#32
  let v659 : BitVec 32 := Scalar.muli v649 c1_i32_516
  let v660 : BitVec 32 := Scalar.addi v658 v659
  v660.toNat
def k0_off19 (d0 : Dev nD) : Fin 2 → Nat :=
  let c4_i32_527 : BitVec 32 := 4#32
  let v668 : BitVec 32 := Dev.word d0
  let c4_i32_521 : BitVec 32 := 4#32
  let v669 : BitVec 32 := Scalar.divsi v668 c4_i32_521
  let c2_i32_520 : BitVec 32 := 2#32
  let v670 : BitVec 32 := Scalar.remsi v669 c2_i32_520
  let v678 : BitVec 32 := Scalar.muli c4_i32_527 v670
  let c2_i32_528 : BitVec 32 := 2#32
  let c1_i32_526 : BitVec 32 := 1#32
  let v671 : BitVec 32 := Dev.word d0
  let c2_i32_523 : BitVec 32 := 2#32
  let v672 : BitVec 32 := Scalar.divsi v671 c2_i32_523
  let c2_i32_522 : BitVec 32 := 2#32
  let v673 : BitVec 32 := Scalar.remsi v672 c2_i32_522
  let v677 : BitVec 32 := Scalar.subi c1_i32_526 v673
  let v679 : BitVec 32 := Scalar.muli c2_i32_528 v677
  let v680 : BitVec 32 := Scalar.addi v678 v679
  let v674 : BitVec 32 := Dev.word d0
  let c1_i32_525 : BitVec 32 := 1#32
  let v675 : BitVec 32 := Scalar.divsi v674 c1_i32_525
  let c2_i32_524 : BitVec 32 := 2#32
  let v676 : BitVec 32 := Scalar.remsi v675 c2_i32_524
  let v681 : BitVec 32 := Scalar.addi v680 v676
  let c128_i32_529 : BitVec 32 := 128#32
  let v682 : BitVec 32 := Scalar.muli v681 c128_i32_529
  let c0_i32_541 : BitVec 32 := 0#32
  ![v682.toNat, 0]
def k0_dev23 (d0 : Dev nD) : Nat :=
  let c0_i32_536 : BitVec 32 := 0#32
  let v668 : BitVec 32 := Dev.word d0
  let c4_i32_521 : BitVec 32 := 4#32
  let v669 : BitVec 32 := Scalar.divsi v668 c4_i32_521
  let c2_i32_520 : BitVec 32 := 2#32
  let v670 : BitVec 32 := Scalar.remsi v669 c2_i32_520
  let c4_i32_535 : BitVec 32 := 4#32
  let v683 : BitVec 32 := Scalar.muli v670 c4_i32_535
  let v684 : BitVec 32 := Scalar.addi c0_i32_536 v683
  let c1_i32_526 : BitVec 32 := 1#32
  let v671 : BitVec 32 := Dev.word d0
  let c2_i32_523 : BitVec 32 := 2#32
  let v672 : BitVec 32 := Scalar.divsi v671 c2_i32_523
  let c2_i32_522 : BitVec 32 := 2#32
  let v673 : BitVec 32 := Scalar.remsi v672 c2_i32_522
  let v677 : BitVec 32 := Scalar.subi c1_i32_526 v673
  let c2_i32_537 : BitVec 32 := 2#32
  let v685 : BitVec 32 := Scalar.muli v677 c2_i32_537
  let v686 : BitVec 32 := Scalar.addi v684 v685
  let v674 : BitVec 32 := Dev.word d0
  let c1_i32_525 : BitVec 32 := 1#32
  let v675 : BitVec 32 := Scalar.divsi v674 c1_i32_525
  let c2_i32_524 : BitVec 32 := 2#32
  let v676 : BitVec 32 := Scalar.remsi v675 c2_i32_524
  let c1_i32_538 : BitVec 32 := 1#32
  let v687 : BitVec 32 := Scalar.muli v676 c1_i32_538
  let v688 : BitVec 32 := Scalar.addi v686 v687
  v688.toNat
def k0_off20 (d0 : Dev nD) : Fin 2 → Nat :=
  let c4_i32_550 : BitVec 32 := 4#32
  let v696 : BitVec 32 := Dev.word d0
  let c4_i32_543 : BitVec 32 := 4#32
  let v697 : BitVec 32 := Scalar.divsi v696 c4_i32_543
  let c2_i32_542 : BitVec 32 := 2#32
  let v698 : BitVec 32 := Scalar.remsi v697 c2_i32_542
  let v707 : BitVec 32 := Scalar.muli c4_i32_550 v698
  let c2_i32_551 : BitVec 32 := 2#32
  let c1_i32_548 : BitVec 32 := 1#32
  let v699 : BitVec 32 := Dev.word d0
  let c2_i32_545 : BitVec 32 := 2#32
  let v700 : BitVec 32 := Scalar.divsi v699 c2_i32_545
  let c2_i32_544 : BitVec 32 := 2#32
  let v701 : BitVec 32 := Scalar.remsi v700 c2_i32_544
  let v705 : BitVec 32 := Scalar.subi c1_i32_548 v701
  let v708 : BitVec 32 := Scalar.muli c2_i32_551 v705
  let v709 : BitVec 32 := Scalar.addi v707 v708
  let c1_i32_549 : BitVec 32 := 1#32
  let v702 : BitVec 32 := Dev.word d0
  let c1_i32_547 : BitVec 32 := 1#32
  let v703 : BitVec 32 := Scalar.divsi v702 c1_i32_547
  let c2_i32_546 : BitVec 32 := 2#32
  let v704 : BitVec 32 := Scalar.remsi v703 c2_i32_546
  let v706 : BitVec 32 := Scalar.subi c1_i32_549 v704
  let v710 : BitVec 32 := Scalar.addi v709 v706
  let c128_i32_552 : BitVec 32 := 128#32
  let v711 : BitVec 32 := Scalar.muli v710 c128_i32_552
  let c0_i32_564 : BitVec 32 := 0#32
  ![v711.toNat, 0]
def k0_dev24 (d0 : Dev nD) : Nat :=
  let c0_i32_559 : BitVec 32 := 0#32
  let v696 : BitVec 32 := Dev.word d0
  let c4_i32_543 : BitVec 32 := 4#32
  let v697 : BitVec 32 := Scalar.divsi v696 c4_i32_543
  let c2_i32_542 : BitVec 32 := 2#32
  let v698 : BitVec 32 := Scalar.remsi v697 c2_i32_542
  let c4_i32_558 : BitVec 32 := 4#32
  let v712 : BitVec 32 := Scalar.muli v698 c4_i32_558
  let v713 : BitVec 32 := Scalar.addi c0_i32_559 v712
  let c1_i32_548 : BitVec 32 := 1#32
  let v699 : BitVec 32 := Dev.word d0
  let c2_i32_545 : BitVec 32 := 2#32
  let v700 : BitVec 32 := Scalar.divsi v699 c2_i32_545
  let c2_i32_544 : BitVec 32 := 2#32
  let v701 : BitVec 32 := Scalar.remsi v700 c2_i32_544
  let v705 : BitVec 32 := Scalar.subi c1_i32_548 v701
  let c2_i32_560 : BitVec 32 := 2#32
  let v714 : BitVec 32 := Scalar.muli v705 c2_i32_560
  let v715 : BitVec 32 := Scalar.addi v713 v714
  let c1_i32_549 : BitVec 32 := 1#32
  let v702 : BitVec 32 := Dev.word d0
  let c1_i32_547 : BitVec 32 := 1#32
  let v703 : BitVec 32 := Scalar.divsi v702 c1_i32_547
  let c2_i32_546 : BitVec 32 := 2#32
  let v704 : BitVec 32 := Scalar.remsi v703 c2_i32_546
  let v706 : BitVec 32 := Scalar.subi c1_i32_549 v704
  let c1_i32_561 : BitVec 32 := 1#32
  let v716 : BitVec 32 := Scalar.muli v706 c1_i32_561
  let v717 : BitVec 32 := Scalar.addi v715 v716
  v717.toNat
def k0_off21 (d0 : Dev nD) : Fin 2 → Nat :=
  let c4_i32_572 : BitVec 32 := 4#32
  let c1_i32_571 : BitVec 32 := 1#32
  let v725 : BitVec 32 := Dev.word d0
  let c4_i32_566 : BitVec 32 := 4#32
  let v726 : BitVec 32 := Scalar.divsi v725 c4_i32_566
  let c2_i32_565 : BitVec 32 := 2#32
  let v727 : BitVec 32 := Scalar.remsi v726 c2_i32_565
  let v734 : BitVec 32 := Scalar.subi c1_i32_571 v727
  let v735 : BitVec 32 := Scalar.muli c4_i32_572 v734
  let c2_i32_573 : BitVec 32 := 2#32
  let v728 : BitVec 32 := Dev.word d0
  let c2_i32_568 : BitVec 32 := 2#32
  let v729 : BitVec 32 := Scalar.divsi v728 c2_i32_568
  let c2_i32_567 : BitVec 32 := 2#32
  let v730 : BitVec 32 := Scalar.remsi v729 c2_i32_567
  let v736 : BitVec 32 := Scalar.muli c2_i32_573 v730
  let v737 : BitVec 32 := Scalar.addi v735 v736
  let v731 : BitVec 32 := Dev.word d0
  let c1_i32_570 : BitVec 32 := 1#32
  let v732 : BitVec 32 := Scalar.divsi v731 c1_i32_570
  let c2_i32_569 : BitVec 32 := 2#32
  let v733 : BitVec 32 := Scalar.remsi v732 c2_i32_569
  let v738 : BitVec 32 := Scalar.addi v737 v733
  let c128_i32_574 : BitVec 32 := 128#32
  let v739 : BitVec 32 := Scalar.muli v738 c128_i32_574
  let c0_i32_586 : BitVec 32 := 0#32
  ![v739.toNat, 0]
def k0_dev25 (d0 : Dev nD) : Nat :=
  let c0_i32_581 : BitVec 32 := 0#32
  let c1_i32_571 : BitVec 32 := 1#32
  let v725 : BitVec 32 := Dev.word d0
  let c4_i32_566 : BitVec 32 := 4#32
  let v726 : BitVec 32 := Scalar.divsi v725 c4_i32_566
  let c2_i32_565 : BitVec 32 := 2#32
  let v727 : BitVec 32 := Scalar.remsi v726 c2_i32_565
  let v734 : BitVec 32 := Scalar.subi c1_i32_571 v727
  let c4_i32_580 : BitVec 32 := 4#32
  let v740 : BitVec 32 := Scalar.muli v734 c4_i32_580
  let v741 : BitVec 32 := Scalar.addi c0_i32_581 v740
  let v728 : BitVec 32 := Dev.word d0
  let c2_i32_568 : BitVec 32 := 2#32
  let v729 : BitVec 32 := Scalar.divsi v728 c2_i32_568
  let c2_i32_567 : BitVec 32 := 2#32
  let v730 : BitVec 32 := Scalar.remsi v729 c2_i32_567
  let c2_i32_582 : BitVec 32 := 2#32
  let v742 : BitVec 32 := Scalar.muli v730 c2_i32_582
  let v743 : BitVec 32 := Scalar.addi v741 v742
  let v731 : BitVec 32 := Dev.word d0
  let c1_i32_570 : BitVec 32 := 1#32
  let v732 : BitVec 32 := Scalar.divsi v731 c1_i32_570
  let c2_i32_569 : BitVec 32 := 2#32
  let v733 : BitVec 32 := Scalar.remsi v732 c2_i32_569
  let c1_i32_583 : BitVec 32 := 1#32
  let v744 : BitVec 32 := Scalar.muli v733 c1_i32_583
  let v745 : BitVec 32 := Scalar.addi v743 v744
  v745.toNat
def k0_off22 (d0 : Dev nD) : Fin 2 → Nat :=
  let c4_i32_595 : BitVec 32 := 4#32
  let c1_i32_593 : BitVec 32 := 1#32
  let v753 : BitVec 32 := Dev.word d0
  let c4_i32_588 : BitVec 32 := 4#32
  let v754 : BitVec 32 := Scalar.divsi v753 c4_i32_588
  let c2_i32_587 : BitVec 32 := 2#32
  let v755 : BitVec 32 := Scalar.remsi v754 c2_i32_587
  let v762 : BitVec 32 := Scalar.subi c1_i32_593 v755
  let v764 : BitVec 32 := Scalar.muli c4_i32_595 v762
  let c2_i32_596 : BitVec 32 := 2#32
  let v756 : BitVec 32 := Dev.word d0
  let c2_i32_590 : BitVec 32 := 2#32
  let v757 : BitVec 32 := Scalar.divsi v756 c2_i32_590
  let c2_i32_589 : BitVec 32 := 2#32
  let v758 : BitVec 32 := Scalar.remsi v757 c2_i32_589
  let v765 : BitVec 32 := Scalar.muli c2_i32_596 v758
  let v766 : BitVec 32 := Scalar.addi v764 v765
  let c1_i32_594 : BitVec 32 := 1#32
  let v759 : BitVec 32 := Dev.word d0
  let c1_i32_592 : BitVec 32 := 1#32
  let v760 : BitVec 32 := Scalar.divsi v759 c1_i32_592
  let c2_i32_591 : BitVec 32 := 2#32
  let v761 : BitVec 32 := Scalar.remsi v760 c2_i32_591
  let v763 : BitVec 32 := Scalar.subi c1_i32_594 v761
  let v767 : BitVec 32 := Scalar.addi v766 v763
  let c128_i32_597 : BitVec 32 := 128#32
  let v768 : BitVec 32 := Scalar.muli v767 c128_i32_597
  let c0_i32_609 : BitVec 32 := 0#32
  ![v768.toNat, 0]
def k0_dev26 (d0 : Dev nD) : Nat :=
  let c0_i32_604 : BitVec 32 := 0#32
  let c1_i32_593 : BitVec 32 := 1#32
  let v753 : BitVec 32 := Dev.word d0
  let c4_i32_588 : BitVec 32 := 4#32
  let v754 : BitVec 32 := Scalar.divsi v753 c4_i32_588
  let c2_i32_587 : BitVec 32 := 2#32
  let v755 : BitVec 32 := Scalar.remsi v754 c2_i32_587
  let v762 : BitVec 32 := Scalar.subi c1_i32_593 v755
  let c4_i32_603 : BitVec 32 := 4#32
  let v769 : BitVec 32 := Scalar.muli v762 c4_i32_603
  let v770 : BitVec 32 := Scalar.addi c0_i32_604 v769
  let v756 : BitVec 32 := Dev.word d0
  let c2_i32_590 : BitVec 32 := 2#32
  let v757 : BitVec 32 := Scalar.divsi v756 c2_i32_590
  let c2_i32_589 : BitVec 32 := 2#32
  let v758 : BitVec 32 := Scalar.remsi v757 c2_i32_589
  let c2_i32_605 : BitVec 32 := 2#32
  let v771 : BitVec 32 := Scalar.muli v758 c2_i32_605
  let v772 : BitVec 32 := Scalar.addi v770 v771
  let c1_i32_594 : BitVec 32 := 1#32
  let v759 : BitVec 32 := Dev.word d0
  let c1_i32_592 : BitVec 32 := 1#32
  let v760 : BitVec 32 := Scalar.divsi v759 c1_i32_592
  let c2_i32_591 : BitVec 32 := 2#32
  let v761 : BitVec 32 := Scalar.remsi v760 c2_i32_591
  let v763 : BitVec 32 := Scalar.subi c1_i32_594 v761
  let c1_i32_606 : BitVec 32 := 1#32
  let v773 : BitVec 32 := Scalar.muli v763 c1_i32_606
  let v774 : BitVec 32 := Scalar.addi v772 v773
  v774.toNat
def k0_off23 (d0 : Dev nD) : Fin 2 → Nat :=
  let c4_i32_618 : BitVec 32 := 4#32
  let c1_i32_616 : BitVec 32 := 1#32
  let v782 : BitVec 32 := Dev.word d0
  let c4_i32_611 : BitVec 32 := 4#32
  let v783 : BitVec 32 := Scalar.divsi v782 c4_i32_611
  let c2_i32_610 : BitVec 32 := 2#32
  let v784 : BitVec 32 := Scalar.remsi v783 c2_i32_610
  let v791 : BitVec 32 := Scalar.subi c1_i32_616 v784
  let v793 : BitVec 32 := Scalar.muli c4_i32_618 v791
  let c2_i32_619 : BitVec 32 := 2#32
  let c1_i32_617 : BitVec 32 := 1#32
  let v785 : BitVec 32 := Dev.word d0
  let c2_i32_613 : BitVec 32 := 2#32
  let v786 : BitVec 32 := Scalar.divsi v785 c2_i32_613
  let c2_i32_612 : BitVec 32 := 2#32
  let v787 : BitVec 32 := Scalar.remsi v786 c2_i32_612
  let v792 : BitVec 32 := Scalar.subi c1_i32_617 v787
  let v794 : BitVec 32 := Scalar.muli c2_i32_619 v792
  let v795 : BitVec 32 := Scalar.addi v793 v794
  let v788 : BitVec 32 := Dev.word d0
  let c1_i32_615 : BitVec 32 := 1#32
  let v789 : BitVec 32 := Scalar.divsi v788 c1_i32_615
  let c2_i32_614 : BitVec 32 := 2#32
  let v790 : BitVec 32 := Scalar.remsi v789 c2_i32_614
  let v796 : BitVec 32 := Scalar.addi v795 v790
  let c128_i32_620 : BitVec 32 := 128#32
  let v797 : BitVec 32 := Scalar.muli v796 c128_i32_620
  let c0_i32_632 : BitVec 32 := 0#32
  ![v797.toNat, 0]
def k0_dev27 (d0 : Dev nD) : Nat :=
  let c0_i32_627 : BitVec 32 := 0#32
  let c1_i32_616 : BitVec 32 := 1#32
  let v782 : BitVec 32 := Dev.word d0
  let c4_i32_611 : BitVec 32 := 4#32
  let v783 : BitVec 32 := Scalar.divsi v782 c4_i32_611
  let c2_i32_610 : BitVec 32 := 2#32
  let v784 : BitVec 32 := Scalar.remsi v783 c2_i32_610
  let v791 : BitVec 32 := Scalar.subi c1_i32_616 v784
  let c4_i32_626 : BitVec 32 := 4#32
  let v798 : BitVec 32 := Scalar.muli v791 c4_i32_626
  let v799 : BitVec 32 := Scalar.addi c0_i32_627 v798
  let c1_i32_617 : BitVec 32 := 1#32
  let v785 : BitVec 32 := Dev.word d0
  let c2_i32_613 : BitVec 32 := 2#32
  let v786 : BitVec 32 := Scalar.divsi v785 c2_i32_613
  let c2_i32_612 : BitVec 32 := 2#32
  let v787 : BitVec 32 := Scalar.remsi v786 c2_i32_612
  let v792 : BitVec 32 := Scalar.subi c1_i32_617 v787
  let c2_i32_628 : BitVec 32 := 2#32
  let v800 : BitVec 32 := Scalar.muli v792 c2_i32_628
  let v801 : BitVec 32 := Scalar.addi v799 v800
  let v788 : BitVec 32 := Dev.word d0
  let c1_i32_615 : BitVec 32 := 1#32
  let v789 : BitVec 32 := Scalar.divsi v788 c1_i32_615
  let c2_i32_614 : BitVec 32 := 2#32
  let v790 : BitVec 32 := Scalar.remsi v789 c2_i32_614
  let c1_i32_629 : BitVec 32 := 1#32
  let v802 : BitVec 32 := Scalar.muli v790 c1_i32_629
  let v803 : BitVec 32 := Scalar.addi v801 v802
  v803.toNat
def k0_off24 (d0 : Dev nD) : Fin 2 → Nat :=
  let c4_i32_642 : BitVec 32 := 4#32
  let c1_i32_639 : BitVec 32 := 1#32
  let v811 : BitVec 32 := Dev.word d0
  let c4_i32_634 : BitVec 32 := 4#32
  let v812 : BitVec 32 := Scalar.divsi v811 c4_i32_634
  let c2_i32_633 : BitVec 32 := 2#32
  let v813 : BitVec 32 := Scalar.remsi v812 c2_i32_633
  let v820 : BitVec 32 := Scalar.subi c1_i32_639 v813
  let v823 : BitVec 32 := Scalar.muli c4_i32_642 v820
  let c2_i32_643 : BitVec 32 := 2#32
  let c1_i32_640 : BitVec 32 := 1#32
  let v814 : BitVec 32 := Dev.word d0
  let c2_i32_636 : BitVec 32 := 2#32
  let v815 : BitVec 32 := Scalar.divsi v814 c2_i32_636
  let c2_i32_635 : BitVec 32 := 2#32
  let v816 : BitVec 32 := Scalar.remsi v815 c2_i32_635
  let v821 : BitVec 32 := Scalar.subi c1_i32_640 v816
  let v824 : BitVec 32 := Scalar.muli c2_i32_643 v821
  let v825 : BitVec 32 := Scalar.addi v823 v824
  let c1_i32_641 : BitVec 32 := 1#32
  let v817 : BitVec 32 := Dev.word d0
  let c1_i32_638 : BitVec 32 := 1#32
  let v818 : BitVec 32 := Scalar.divsi v817 c1_i32_638
  let c2_i32_637 : BitVec 32 := 2#32
  let v819 : BitVec 32 := Scalar.remsi v818 c2_i32_637
  let v822 : BitVec 32 := Scalar.subi c1_i32_641 v819
  let v826 : BitVec 32 := Scalar.addi v825 v822
  let c128_i32_644 : BitVec 32 := 128#32
  let v827 : BitVec 32 := Scalar.muli v826 c128_i32_644
  let c0_i32_656 : BitVec 32 := 0#32
  ![v827.toNat, 0]
def k0_dev28 (d0 : Dev nD) : Nat :=
  let c0_i32_651 : BitVec 32 := 0#32
  let c1_i32_639 : BitVec 32 := 1#32
  let v811 : BitVec 32 := Dev.word d0
  let c4_i32_634 : BitVec 32 := 4#32
  let v812 : BitVec 32 := Scalar.divsi v811 c4_i32_634
  let c2_i32_633 : BitVec 32 := 2#32
  let v813 : BitVec 32 := Scalar.remsi v812 c2_i32_633
  let v820 : BitVec 32 := Scalar.subi c1_i32_639 v813
  let c4_i32_650 : BitVec 32 := 4#32
  let v828 : BitVec 32 := Scalar.muli v820 c4_i32_650
  let v829 : BitVec 32 := Scalar.addi c0_i32_651 v828
  let c1_i32_640 : BitVec 32 := 1#32
  let v814 : BitVec 32 := Dev.word d0
  let c2_i32_636 : BitVec 32 := 2#32
  let v815 : BitVec 32 := Scalar.divsi v814 c2_i32_636
  let c2_i32_635 : BitVec 32 := 2#32
  let v816 : BitVec 32 := Scalar.remsi v815 c2_i32_635
  let v821 : BitVec 32 := Scalar.subi c1_i32_640 v816
  let c2_i32_652 : BitVec 32 := 2#32
  let v830 : BitVec 32 := Scalar.muli v821 c2_i32_652
  let v831 : BitVec 32 := Scalar.addi v829 v830
  let c1_i32_641 : BitVec 32 := 1#32
  let v817 : BitVec 32 := Dev.word d0
  let c1_i32_638 : BitVec 32 := 1#32
  let v818 : BitVec 32 := Scalar.divsi v817 c1_i32_638
  let c2_i32_637 : BitVec 32 := 2#32
  let v819 : BitVec 32 := Scalar.remsi v818 c2_i32_637
  let v822 : BitVec 32 := Scalar.subi c1_i32_641 v819
  let c1_i32_653 : BitVec 32 := 1#32
  let v832 : BitVec 32 := Scalar.muli v822 c1_i32_653
  let v833 : BitVec 32 := Scalar.addi v831 v832
  v833.toNat
def k0_dev29 (d0 : Dev nD) : Nat :=
  let c0_i32_679 : BitVec 32 := 0#32
  let v847 : BitVec 32 := Dev.word d0
  let c4_i32_664 : BitVec 32 := 4#32
  let v848 : BitVec 32 := Scalar.divsi v847 c4_i32_664
  let c2_i32_663 : BitVec 32 := 2#32
  let v849 : BitVec 32 := Scalar.remsi v848 c2_i32_663
  let c4_i32_678 : BitVec 32 := 4#32
  let v862 : BitVec 32 := Scalar.muli v849 c4_i32_678
  let v863 : BitVec 32 := Scalar.addi c0_i32_679 v862
  let v850 : BitVec 32 := Dev.word d0
  let c2_i32_666 : BitVec 32 := 2#32
  let v851 : BitVec 32 := Scalar.divsi v850 c2_i32_666
  let c2_i32_665 : BitVec 32 := 2#32
  let v852 : BitVec 32 := Scalar.remsi v851 c2_i32_665
  let c2_i32_680 : BitVec 32 := 2#32
  let v864 : BitVec 32 := Scalar.muli v852 c2_i32_680
  let v865 : BitVec 32 := Scalar.addi v863 v864
  let c1_i32_669 : BitVec 32 := 1#32
  let v853 : BitVec 32 := Dev.word d0
  let c1_i32_668 : BitVec 32 := 1#32
  let v854 : BitVec 32 := Scalar.divsi v853 c1_i32_668
  let c2_i32_667 : BitVec 32 := 2#32
  let v855 : BitVec 32 := Scalar.remsi v854 c2_i32_667
  let v856 : BitVec 32 := Scalar.subi c1_i32_669 v855
  let c1_i32_681 : BitVec 32 := 1#32
  let v866 : BitVec 32 := Scalar.muli v856 c1_i32_681
  let v867 : BitVec 32 := Scalar.addi v865 v866
  v867.toNat
def k0_dev30 (d0 : Dev nD) : Nat :=
  let c0_i32_701 : BitVec 32 := 0#32
  let v875 : BitVec 32 := Dev.word d0
  let c4_i32_686 : BitVec 32 := 4#32
  let v876 : BitVec 32 := Scalar.divsi v875 c4_i32_686
  let c2_i32_685 : BitVec 32 := 2#32
  let v877 : BitVec 32 := Scalar.remsi v876 c2_i32_685
  let c4_i32_700 : BitVec 32 := 4#32
  let v890 : BitVec 32 := Scalar.muli v877 c4_i32_700
  let v891 : BitVec 32 := Scalar.addi c0_i32_701 v890
  let c1_i32_691 : BitVec 32 := 1#32
  let v878 : BitVec 32 := Dev.word d0
  let c2_i32_688 : BitVec 32 := 2#32
  let v879 : BitVec 32 := Scalar.divsi v878 c2_i32_688
  let c2_i32_687 : BitVec 32 := 2#32
  let v880 : BitVec 32 := Scalar.remsi v879 c2_i32_687
  let v884 : BitVec 32 := Scalar.subi c1_i32_691 v880
  let c2_i32_702 : BitVec 32 := 2#32
  let v892 : BitVec 32 := Scalar.muli v884 c2_i32_702
  let v893 : BitVec 32 := Scalar.addi v891 v892
  let v881 : BitVec 32 := Dev.word d0
  let c1_i32_690 : BitVec 32 := 1#32
  let v882 : BitVec 32 := Scalar.divsi v881 c1_i32_690
  let c2_i32_689 : BitVec 32 := 2#32
  let v883 : BitVec 32 := Scalar.remsi v882 c2_i32_689
  let c1_i32_703 : BitVec 32 := 1#32
  let v894 : BitVec 32 := Scalar.muli v883 c1_i32_703
  let v895 : BitVec 32 := Scalar.addi v893 v894
  v895.toNat
def k0_dev31 (d0 : Dev nD) : Nat :=
  let c0_i32_724 : BitVec 32 := 0#32
  let v903 : BitVec 32 := Dev.word d0
  let c4_i32_708 : BitVec 32 := 4#32
  let v904 : BitVec 32 := Scalar.divsi v903 c4_i32_708
  let c2_i32_707 : BitVec 32 := 2#32
  let v905 : BitVec 32 := Scalar.remsi v904 c2_i32_707
  let c4_i32_723 : BitVec 32 := 4#32
  let v919 : BitVec 32 := Scalar.muli v905 c4_i32_723
  let v920 : BitVec 32 := Scalar.addi c0_i32_724 v919
  let c1_i32_713 : BitVec 32 := 1#32
  let v906 : BitVec 32 := Dev.word d0
  let c2_i32_710 : BitVec 32 := 2#32
  let v907 : BitVec 32 := Scalar.divsi v906 c2_i32_710
  let c2_i32_709 : BitVec 32 := 2#32
  let v908 : BitVec 32 := Scalar.remsi v907 c2_i32_709
  let v912 : BitVec 32 := Scalar.subi c1_i32_713 v908
  let c2_i32_725 : BitVec 32 := 2#32
  let v921 : BitVec 32 := Scalar.muli v912 c2_i32_725
  let v922 : BitVec 32 := Scalar.addi v920 v921
  let c1_i32_714 : BitVec 32 := 1#32
  let v909 : BitVec 32 := Dev.word d0
  let c1_i32_712 : BitVec 32 := 1#32
  let v910 : BitVec 32 := Scalar.divsi v909 c1_i32_712
  let c2_i32_711 : BitVec 32 := 2#32
  let v911 : BitVec 32 := Scalar.remsi v910 c2_i32_711
  let v913 : BitVec 32 := Scalar.subi c1_i32_714 v911
  let c1_i32_726 : BitVec 32 := 1#32
  let v923 : BitVec 32 := Scalar.muli v913 c1_i32_726
  let v924 : BitVec 32 := Scalar.addi v922 v923
  v924.toNat
def k0_dev32 (d0 : Dev nD) : Nat :=
  let c0_i32_746 : BitVec 32 := 0#32
  let c1_i32_736 : BitVec 32 := 1#32
  let v932 : BitVec 32 := Dev.word d0
  let c4_i32_731 : BitVec 32 := 4#32
  let v933 : BitVec 32 := Scalar.divsi v932 c4_i32_731
  let c2_i32_730 : BitVec 32 := 2#32
  let v934 : BitVec 32 := Scalar.remsi v933 c2_i32_730
  let v941 : BitVec 32 := Scalar.subi c1_i32_736 v934
  let c4_i32_745 : BitVec 32 := 4#32
  let v947 : BitVec 32 := Scalar.muli v941 c4_i32_745
  let v948 : BitVec 32 := Scalar.addi c0_i32_746 v947
  let v935 : BitVec 32 := Dev.word d0
  let c2_i32_733 : BitVec 32 := 2#32
  let v936 : BitVec 32 := Scalar.divsi v935 c2_i32_733
  let c2_i32_732 : BitVec 32 := 2#32
  let v937 : BitVec 32 := Scalar.remsi v936 c2_i32_732
  let c2_i32_747 : BitVec 32 := 2#32
  let v949 : BitVec 32 := Scalar.muli v937 c2_i32_747
  let v950 : BitVec 32 := Scalar.addi v948 v949
  let v938 : BitVec 32 := Dev.word d0
  let c1_i32_735 : BitVec 32 := 1#32
  let v939 : BitVec 32 := Scalar.divsi v938 c1_i32_735
  let c2_i32_734 : BitVec 32 := 2#32
  let v940 : BitVec 32 := Scalar.remsi v939 c2_i32_734
  let c1_i32_748 : BitVec 32 := 1#32
  let v951 : BitVec 32 := Scalar.muli v940 c1_i32_748
  let v952 : BitVec 32 := Scalar.addi v950 v951
  v952.toNat
def k0_dev33 (d0 : Dev nD) : Nat :=
  let c0_i32_769 : BitVec 32 := 0#32
  let c1_i32_758 : BitVec 32 := 1#32
  let v960 : BitVec 32 := Dev.word d0
  let c4_i32_753 : BitVec 32 := 4#32
  let v961 : BitVec 32 := Scalar.divsi v960 c4_i32_753
  let c2_i32_752 : BitVec 32 := 2#32
  let v962 : BitVec 32 := Scalar.remsi v961 c2_i32_752
  let v969 : BitVec 32 := Scalar.subi c1_i32_758 v962
  let c4_i32_768 : BitVec 32 := 4#32
  let v976 : BitVec 32 := Scalar.muli v969 c4_i32_768
  let v977 : BitVec 32 := Scalar.addi c0_i32_769 v976
  let v963 : BitVec 32 := Dev.word d0
  let c2_i32_755 : BitVec 32 := 2#32
  let v964 : BitVec 32 := Scalar.divsi v963 c2_i32_755
  let c2_i32_754 : BitVec 32 := 2#32
  let v965 : BitVec 32 := Scalar.remsi v964 c2_i32_754
  let c2_i32_770 : BitVec 32 := 2#32
  let v978 : BitVec 32 := Scalar.muli v965 c2_i32_770
  let v979 : BitVec 32 := Scalar.addi v977 v978
  let c1_i32_759 : BitVec 32 := 1#32
  let v966 : BitVec 32 := Dev.word d0
  let c1_i32_757 : BitVec 32 := 1#32
  let v967 : BitVec 32 := Scalar.divsi v966 c1_i32_757
  let c2_i32_756 : BitVec 32 := 2#32
  let v968 : BitVec 32 := Scalar.remsi v967 c2_i32_756
  let v970 : BitVec 32 := Scalar.subi c1_i32_759 v968
  let c1_i32_771 : BitVec 32 := 1#32
  let v980 : BitVec 32 := Scalar.muli v970 c1_i32_771
  let v981 : BitVec 32 := Scalar.addi v979 v980
  v981.toNat
def k0_dev34 (d0 : Dev nD) : Nat :=
  let c0_i32_792 : BitVec 32 := 0#32
  let c1_i32_781 : BitVec 32 := 1#32
  let v989 : BitVec 32 := Dev.word d0
  let c4_i32_776 : BitVec 32 := 4#32
  let v990 : BitVec 32 := Scalar.divsi v989 c4_i32_776
  let c2_i32_775 : BitVec 32 := 2#32
  let v991 : BitVec 32 := Scalar.remsi v990 c2_i32_775
  let v998 : BitVec 32 := Scalar.subi c1_i32_781 v991
  let c4_i32_791 : BitVec 32 := 4#32
  let v1005 : BitVec 32 := Scalar.muli v998 c4_i32_791
  let v1006 : BitVec 32 := Scalar.addi c0_i32_792 v1005
  let c1_i32_782 : BitVec 32 := 1#32
  let v992 : BitVec 32 := Dev.word d0
  let c2_i32_778 : BitVec 32 := 2#32
  let v993 : BitVec 32 := Scalar.divsi v992 c2_i32_778
  let c2_i32_777 : BitVec 32 := 2#32
  let v994 : BitVec 32 := Scalar.remsi v993 c2_i32_777
  let v999 : BitVec 32 := Scalar.subi c1_i32_782 v994
  let c2_i32_793 : BitVec 32 := 2#32
  let v1007 : BitVec 32 := Scalar.muli v999 c2_i32_793
  let v1008 : BitVec 32 := Scalar.addi v1006 v1007
  let v995 : BitVec 32 := Dev.word d0
  let c1_i32_780 : BitVec 32 := 1#32
  let v996 : BitVec 32 := Scalar.divsi v995 c1_i32_780
  let c2_i32_779 : BitVec 32 := 2#32
  let v997 : BitVec 32 := Scalar.remsi v996 c2_i32_779
  let c1_i32_794 : BitVec 32 := 1#32
  let v1009 : BitVec 32 := Scalar.muli v997 c1_i32_794
  let v1010 : BitVec 32 := Scalar.addi v1008 v1009
  v1010.toNat
def k0_dev35 (d0 : Dev nD) : Nat :=
  let c0_i32_816 : BitVec 32 := 0#32
  let c1_i32_804 : BitVec 32 := 1#32
  let v1018 : BitVec 32 := Dev.word d0
  let c4_i32_799 : BitVec 32 := 4#32
  let v1019 : BitVec 32 := Scalar.divsi v1018 c4_i32_799
  let c2_i32_798 : BitVec 32 := 2#32
  let v1020 : BitVec 32 := Scalar.remsi v1019 c2_i32_798
  let v1027 : BitVec 32 := Scalar.subi c1_i32_804 v1020
  let c4_i32_815 : BitVec 32 := 4#32
  let v1035 : BitVec 32 := Scalar.muli v1027 c4_i32_815
  let v1036 : BitVec 32 := Scalar.addi c0_i32_816 v1035
  let c1_i32_805 : BitVec 32 := 1#32
  let v1021 : BitVec 32 := Dev.word d0
  let c2_i32_801 : BitVec 32 := 2#32
  let v1022 : BitVec 32 := Scalar.divsi v1021 c2_i32_801
  let c2_i32_800 : BitVec 32 := 2#32
  let v1023 : BitVec 32 := Scalar.remsi v1022 c2_i32_800
  let v1028 : BitVec 32 := Scalar.subi c1_i32_805 v1023
  let c2_i32_817 : BitVec 32 := 2#32
  let v1037 : BitVec 32 := Scalar.muli v1028 c2_i32_817
  let v1038 : BitVec 32 := Scalar.addi v1036 v1037
  let c1_i32_806 : BitVec 32 := 1#32
  let v1024 : BitVec 32 := Dev.word d0
  let c1_i32_803 : BitVec 32 := 1#32
  let v1025 : BitVec 32 := Scalar.divsi v1024 c1_i32_803
  let c2_i32_802 : BitVec 32 := 2#32
  let v1026 : BitVec 32 := Scalar.remsi v1025 c2_i32_802
  let v1029 : BitVec 32 := Scalar.subi c1_i32_806 v1026
  let c1_i32_818 : BitVec 32 := 1#32
  let v1039 : BitVec 32 := Scalar.muli v1029 c1_i32_818
  let v1040 : BitVec 32 := Scalar.addi v1038 v1039
  v1040.toNat
def k0_dev36 (d0 : Dev nD) : Nat :=
  let c0_i32_844 : BitVec 32 := 0#32
  let v1054 : BitVec 32 := Dev.word d0
  let c4_i32_829 : BitVec 32 := 4#32
  let v1055 : BitVec 32 := Scalar.divsi v1054 c4_i32_829
  let c2_i32_828 : BitVec 32 := 2#32
  let v1056 : BitVec 32 := Scalar.remsi v1055 c2_i32_828
  let c4_i32_843 : BitVec 32 := 4#32
  let v1069 : BitVec 32 := Scalar.muli v1056 c4_i32_843
  let v1070 : BitVec 32 := Scalar.addi c0_i32_844 v1069
  let v1057 : BitVec 32 := Dev.word d0
  let c2_i32_831 : BitVec 32 := 2#32
  let v1058 : BitVec 32 := Scalar.divsi v1057 c2_i32_831
  let c2_i32_830 : BitVec 32 := 2#32
  let v1059 : BitVec 32 := Scalar.remsi v1058 c2_i32_830
  let c2_i32_845 : BitVec 32 := 2#32
  let v1071 : BitVec 32 := Scalar.muli v1059 c2_i32_845
  let v1072 : BitVec 32 := Scalar.addi v1070 v1071
  let c1_i32_834 : BitVec 32 := 1#32
  let v1060 : BitVec 32 := Dev.word d0
  let c1_i32_833 : BitVec 32 := 1#32
  let v1061 : BitVec 32 := Scalar.divsi v1060 c1_i32_833
  let c2_i32_832 : BitVec 32 := 2#32
  let v1062 : BitVec 32 := Scalar.remsi v1061 c2_i32_832
  let v1063 : BitVec 32 := Scalar.subi c1_i32_834 v1062
  let c1_i32_846 : BitVec 32 := 1#32
  let v1073 : BitVec 32 := Scalar.muli v1063 c1_i32_846
  let v1074 : BitVec 32 := Scalar.addi v1072 v1073
  v1074.toNat
def k0_dev37 (d0 : Dev nD) : Nat :=
  let c0_i32_866 : BitVec 32 := 0#32
  let v1082 : BitVec 32 := Dev.word d0
  let c4_i32_851 : BitVec 32 := 4#32
  let v1083 : BitVec 32 := Scalar.divsi v1082 c4_i32_851
  let c2_i32_850 : BitVec 32 := 2#32
  let v1084 : BitVec 32 := Scalar.remsi v1083 c2_i32_850
  let c4_i32_865 : BitVec 32 := 4#32
  let v1097 : BitVec 32 := Scalar.muli v1084 c4_i32_865
  let v1098 : BitVec 32 := Scalar.addi c0_i32_866 v1097
  let c1_i32_856 : BitVec 32 := 1#32
  let v1085 : BitVec 32 := Dev.word d0
  let c2_i32_853 : BitVec 32 := 2#32
  let v1086 : BitVec 32 := Scalar.divsi v1085 c2_i32_853
  let c2_i32_852 : BitVec 32 := 2#32
  let v1087 : BitVec 32 := Scalar.remsi v1086 c2_i32_852
  let v1091 : BitVec 32 := Scalar.subi c1_i32_856 v1087
  let c2_i32_867 : BitVec 32 := 2#32
  let v1099 : BitVec 32 := Scalar.muli v1091 c2_i32_867
  let v1100 : BitVec 32 := Scalar.addi v1098 v1099
  let v1088 : BitVec 32 := Dev.word d0
  let c1_i32_855 : BitVec 32 := 1#32
  let v1089 : BitVec 32 := Scalar.divsi v1088 c1_i32_855
  let c2_i32_854 : BitVec 32 := 2#32
  let v1090 : BitVec 32 := Scalar.remsi v1089 c2_i32_854
  let c1_i32_868 : BitVec 32 := 1#32
  let v1101 : BitVec 32 := Scalar.muli v1090 c1_i32_868
  let v1102 : BitVec 32 := Scalar.addi v1100 v1101
  v1102.toNat
def k0_dev38 (d0 : Dev nD) : Nat :=
  let c0_i32_889 : BitVec 32 := 0#32
  let v1110 : BitVec 32 := Dev.word d0
  let c4_i32_873 : BitVec 32 := 4#32
  let v1111 : BitVec 32 := Scalar.divsi v1110 c4_i32_873
  let c2_i32_872 : BitVec 32 := 2#32
  let v1112 : BitVec 32 := Scalar.remsi v1111 c2_i32_872
  let c4_i32_888 : BitVec 32 := 4#32
  let v1126 : BitVec 32 := Scalar.muli v1112 c4_i32_888
  let v1127 : BitVec 32 := Scalar.addi c0_i32_889 v1126
  let c1_i32_878 : BitVec 32 := 1#32
  let v1113 : BitVec 32 := Dev.word d0
  let c2_i32_875 : BitVec 32 := 2#32
  let v1114 : BitVec 32 := Scalar.divsi v1113 c2_i32_875
  let c2_i32_874 : BitVec 32 := 2#32
  let v1115 : BitVec 32 := Scalar.remsi v1114 c2_i32_874
  let v1119 : BitVec 32 := Scalar.subi c1_i32_878 v1115
  let c2_i32_890 : BitVec 32 := 2#32
  let v1128 : BitVec 32 := Scalar.muli v1119 c2_i32_890
  let v1129 : BitVec 32 := Scalar.addi v1127 v1128
  let c1_i32_879 : BitVec 32 := 1#32
  let v1116 : BitVec 32 := Dev.word d0
  let c1_i32_877 : BitVec 32 := 1#32
  let v1117 : BitVec 32 := Scalar.divsi v1116 c1_i32_877
  let c2_i32_876 : BitVec 32 := 2#32
  let v1118 : BitVec 32 := Scalar.remsi v1117 c2_i32_876
  let v1120 : BitVec 32 := Scalar.subi c1_i32_879 v1118
  let c1_i32_891 : BitVec 32 := 1#32
  let v1130 : BitVec 32 := Scalar.muli v1120 c1_i32_891
  let v1131 : BitVec 32 := Scalar.addi v1129 v1130
  v1131.toNat
def k0_dev39 (d0 : Dev nD) : Nat :=
  let c0_i32_911 : BitVec 32 := 0#32
  let c1_i32_901 : BitVec 32 := 1#32
  let v1139 : BitVec 32 := Dev.word d0
  let c4_i32_896 : BitVec 32 := 4#32
  let v1140 : BitVec 32 := Scalar.divsi v1139 c4_i32_896
  let c2_i32_895 : BitVec 32 := 2#32
  let v1141 : BitVec 32 := Scalar.remsi v1140 c2_i32_895
  let v1148 : BitVec 32 := Scalar.subi c1_i32_901 v1141
  let c4_i32_910 : BitVec 32 := 4#32
  let v1154 : BitVec 32 := Scalar.muli v1148 c4_i32_910
  let v1155 : BitVec 32 := Scalar.addi c0_i32_911 v1154
  let v1142 : BitVec 32 := Dev.word d0
  let c2_i32_898 : BitVec 32 := 2#32
  let v1143 : BitVec 32 := Scalar.divsi v1142 c2_i32_898
  let c2_i32_897 : BitVec 32 := 2#32
  let v1144 : BitVec 32 := Scalar.remsi v1143 c2_i32_897
  let c2_i32_912 : BitVec 32 := 2#32
  let v1156 : BitVec 32 := Scalar.muli v1144 c2_i32_912
  let v1157 : BitVec 32 := Scalar.addi v1155 v1156
  let v1145 : BitVec 32 := Dev.word d0
  let c1_i32_900 : BitVec 32 := 1#32
  let v1146 : BitVec 32 := Scalar.divsi v1145 c1_i32_900
  let c2_i32_899 : BitVec 32 := 2#32
  let v1147 : BitVec 32 := Scalar.remsi v1146 c2_i32_899
  let c1_i32_913 : BitVec 32 := 1#32
  let v1158 : BitVec 32 := Scalar.muli v1147 c1_i32_913
  let v1159 : BitVec 32 := Scalar.addi v1157 v1158
  v1159.toNat
def k0_dev40 (d0 : Dev nD) : Nat :=
  let c0_i32_934 : BitVec 32 := 0#32
  let c1_i32_923 : BitVec 32 := 1#32
  let v1167 : BitVec 32 := Dev.word d0
  let c4_i32_918 : BitVec 32 := 4#32
  let v1168 : BitVec 32 := Scalar.divsi v1167 c4_i32_918
  let c2_i32_917 : BitVec 32 := 2#32
  let v1169 : BitVec 32 := Scalar.remsi v1168 c2_i32_917
  let v1176 : BitVec 32 := Scalar.subi c1_i32_923 v1169
  let c4_i32_933 : BitVec 32 := 4#32
  let v1183 : BitVec 32 := Scalar.muli v1176 c4_i32_933
  let v1184 : BitVec 32 := Scalar.addi c0_i32_934 v1183
  let v1170 : BitVec 32 := Dev.word d0
  let c2_i32_920 : BitVec 32 := 2#32
  let v1171 : BitVec 32 := Scalar.divsi v1170 c2_i32_920
  let c2_i32_919 : BitVec 32 := 2#32
  let v1172 : BitVec 32 := Scalar.remsi v1171 c2_i32_919
  let c2_i32_935 : BitVec 32 := 2#32
  let v1185 : BitVec 32 := Scalar.muli v1172 c2_i32_935
  let v1186 : BitVec 32 := Scalar.addi v1184 v1185
  let c1_i32_924 : BitVec 32 := 1#32
  let v1173 : BitVec 32 := Dev.word d0
  let c1_i32_922 : BitVec 32 := 1#32
  let v1174 : BitVec 32 := Scalar.divsi v1173 c1_i32_922
  let c2_i32_921 : BitVec 32 := 2#32
  let v1175 : BitVec 32 := Scalar.remsi v1174 c2_i32_921
  let v1177 : BitVec 32 := Scalar.subi c1_i32_924 v1175
  let c1_i32_936 : BitVec 32 := 1#32
  let v1187 : BitVec 32 := Scalar.muli v1177 c1_i32_936
  let v1188 : BitVec 32 := Scalar.addi v1186 v1187
  v1188.toNat
def k0_dev41 (d0 : Dev nD) : Nat :=
  let c0_i32_957 : BitVec 32 := 0#32
  let c1_i32_946 : BitVec 32 := 1#32
  let v1196 : BitVec 32 := Dev.word d0
  let c4_i32_941 : BitVec 32 := 4#32
  let v1197 : BitVec 32 := Scalar.divsi v1196 c4_i32_941
  let c2_i32_940 : BitVec 32 := 2#32
  let v1198 : BitVec 32 := Scalar.remsi v1197 c2_i32_940
  let v1205 : BitVec 32 := Scalar.subi c1_i32_946 v1198
  let c4_i32_956 : BitVec 32 := 4#32
  let v1212 : BitVec 32 := Scalar.muli v1205 c4_i32_956
  let v1213 : BitVec 32 := Scalar.addi c0_i32_957 v1212
  let c1_i32_947 : BitVec 32 := 1#32
  let v1199 : BitVec 32 := Dev.word d0
  let c2_i32_943 : BitVec 32 := 2#32
  let v1200 : BitVec 32 := Scalar.divsi v1199 c2_i32_943
  let c2_i32_942 : BitVec 32 := 2#32
  let v1201 : BitVec 32 := Scalar.remsi v1200 c2_i32_942
  let v1206 : BitVec 32 := Scalar.subi c1_i32_947 v1201
  let c2_i32_958 : BitVec 32 := 2#32
  let v1214 : BitVec 32 := Scalar.muli v1206 c2_i32_958
  let v1215 : BitVec 32 := Scalar.addi v1213 v1214
  let v1202 : BitVec 32 := Dev.word d0
  let c1_i32_945 : BitVec 32 := 1#32
  let v1203 : BitVec 32 := Scalar.divsi v1202 c1_i32_945
  let c2_i32_944 : BitVec 32 := 2#32
  let v1204 : BitVec 32 := Scalar.remsi v1203 c2_i32_944
  let c1_i32_959 : BitVec 32 := 1#32
  let v1216 : BitVec 32 := Scalar.muli v1204 c1_i32_959
  let v1217 : BitVec 32 := Scalar.addi v1215 v1216
  v1217.toNat
def k0_dev42 (d0 : Dev nD) : Nat :=
  let c0_i32_981 : BitVec 32 := 0#32
  let c1_i32_969 : BitVec 32 := 1#32
  let v1225 : BitVec 32 := Dev.word d0
  let c4_i32_964 : BitVec 32 := 4#32
  let v1226 : BitVec 32 := Scalar.divsi v1225 c4_i32_964
  let c2_i32_963 : BitVec 32 := 2#32
  let v1227 : BitVec 32 := Scalar.remsi v1226 c2_i32_963
  let v1234 : BitVec 32 := Scalar.subi c1_i32_969 v1227
  let c4_i32_980 : BitVec 32 := 4#32
  let v1242 : BitVec 32 := Scalar.muli v1234 c4_i32_980
  let v1243 : BitVec 32 := Scalar.addi c0_i32_981 v1242
  let c1_i32_970 : BitVec 32 := 1#32
  let v1228 : BitVec 32 := Dev.word d0
  let c2_i32_966 : BitVec 32 := 2#32
  let v1229 : BitVec 32 := Scalar.divsi v1228 c2_i32_966
  let c2_i32_965 : BitVec 32 := 2#32
  let v1230 : BitVec 32 := Scalar.remsi v1229 c2_i32_965
  let v1235 : BitVec 32 := Scalar.subi c1_i32_970 v1230
  let c2_i32_982 : BitVec 32 := 2#32
  let v1244 : BitVec 32 := Scalar.muli v1235 c2_i32_982
  let v1245 : BitVec 32 := Scalar.addi v1243 v1244
  let c1_i32_971 : BitVec 32 := 1#32
  let v1231 : BitVec 32 := Dev.word d0
  let c1_i32_968 : BitVec 32 := 1#32
  let v1232 : BitVec 32 := Scalar.divsi v1231 c1_i32_968
  let c2_i32_967 : BitVec 32 := 2#32
  let v1233 : BitVec 32 := Scalar.remsi v1232 c2_i32_967
  let v1236 : BitVec 32 := Scalar.subi c1_i32_971 v1233
  let c1_i32_983 : BitVec 32 := 1#32
  let v1246 : BitVec 32 := Scalar.muli v1236 c1_i32_983
  let v1247 : BitVec 32 := Scalar.addi v1245 v1246
  v1247.toNat
def k0_dev43 (d0 : Dev nD) : Nat :=
  let c0_i32_1009 : BitVec 32 := 0#32
  let v1261 : BitVec 32 := Dev.word d0
  let c4_i32_994 : BitVec 32 := 4#32
  let v1262 : BitVec 32 := Scalar.divsi v1261 c4_i32_994
  let c2_i32_993 : BitVec 32 := 2#32
  let v1263 : BitVec 32 := Scalar.remsi v1262 c2_i32_993
  let c4_i32_1008 : BitVec 32 := 4#32
  let v1276 : BitVec 32 := Scalar.muli v1263 c4_i32_1008
  let v1277 : BitVec 32 := Scalar.addi c0_i32_1009 v1276
  let v1264 : BitVec 32 := Dev.word d0
  let c2_i32_996 : BitVec 32 := 2#32
  let v1265 : BitVec 32 := Scalar.divsi v1264 c2_i32_996
  let c2_i32_995 : BitVec 32 := 2#32
  let v1266 : BitVec 32 := Scalar.remsi v1265 c2_i32_995
  let c2_i32_1010 : BitVec 32 := 2#32
  let v1278 : BitVec 32 := Scalar.muli v1266 c2_i32_1010
  let v1279 : BitVec 32 := Scalar.addi v1277 v1278
  let c1_i32_999 : BitVec 32 := 1#32
  let v1267 : BitVec 32 := Dev.word d0
  let c1_i32_998 : BitVec 32 := 1#32
  let v1268 : BitVec 32 := Scalar.divsi v1267 c1_i32_998
  let c2_i32_997 : BitVec 32 := 2#32
  let v1269 : BitVec 32 := Scalar.remsi v1268 c2_i32_997
  let v1270 : BitVec 32 := Scalar.subi c1_i32_999 v1269
  let c1_i32_1011 : BitVec 32 := 1#32
  let v1280 : BitVec 32 := Scalar.muli v1270 c1_i32_1011
  let v1281 : BitVec 32 := Scalar.addi v1279 v1280
  v1281.toNat
def k0_dev44 (d0 : Dev nD) : Nat :=
  let c0_i32_1031 : BitVec 32 := 0#32
  let v1289 : BitVec 32 := Dev.word d0
  let c4_i32_1016 : BitVec 32 := 4#32
  let v1290 : BitVec 32 := Scalar.divsi v1289 c4_i32_1016
  let c2_i32_1015 : BitVec 32 := 2#32
  let v1291 : BitVec 32 := Scalar.remsi v1290 c2_i32_1015
  let c4_i32_1030 : BitVec 32 := 4#32
  let v1304 : BitVec 32 := Scalar.muli v1291 c4_i32_1030
  let v1305 : BitVec 32 := Scalar.addi c0_i32_1031 v1304
  let c1_i32_1021 : BitVec 32 := 1#32
  let v1292 : BitVec 32 := Dev.word d0
  let c2_i32_1018 : BitVec 32 := 2#32
  let v1293 : BitVec 32 := Scalar.divsi v1292 c2_i32_1018
  let c2_i32_1017 : BitVec 32 := 2#32
  let v1294 : BitVec 32 := Scalar.remsi v1293 c2_i32_1017
  let v1298 : BitVec 32 := Scalar.subi c1_i32_1021 v1294
  let c2_i32_1032 : BitVec 32 := 2#32
  let v1306 : BitVec 32 := Scalar.muli v1298 c2_i32_1032
  let v1307 : BitVec 32 := Scalar.addi v1305 v1306
  let v1295 : BitVec 32 := Dev.word d0
  let c1_i32_1020 : BitVec 32 := 1#32
  let v1296 : BitVec 32 := Scalar.divsi v1295 c1_i32_1020
  let c2_i32_1019 : BitVec 32 := 2#32
  let v1297 : BitVec 32 := Scalar.remsi v1296 c2_i32_1019
  let c1_i32_1033 : BitVec 32 := 1#32
  let v1308 : BitVec 32 := Scalar.muli v1297 c1_i32_1033
  let v1309 : BitVec 32 := Scalar.addi v1307 v1308
  v1309.toNat
def k0_dev45 (d0 : Dev nD) : Nat :=
  let c0_i32_1054 : BitVec 32 := 0#32
  let v1317 : BitVec 32 := Dev.word d0
  let c4_i32_1038 : BitVec 32 := 4#32
  let v1318 : BitVec 32 := Scalar.divsi v1317 c4_i32_1038
  let c2_i32_1037 : BitVec 32 := 2#32
  let v1319 : BitVec 32 := Scalar.remsi v1318 c2_i32_1037
  let c4_i32_1053 : BitVec 32 := 4#32
  let v1333 : BitVec 32 := Scalar.muli v1319 c4_i32_1053
  let v1334 : BitVec 32 := Scalar.addi c0_i32_1054 v1333
  let c1_i32_1043 : BitVec 32 := 1#32
  let v1320 : BitVec 32 := Dev.word d0
  let c2_i32_1040 : BitVec 32 := 2#32
  let v1321 : BitVec 32 := Scalar.divsi v1320 c2_i32_1040
  let c2_i32_1039 : BitVec 32 := 2#32
  let v1322 : BitVec 32 := Scalar.remsi v1321 c2_i32_1039
  let v1326 : BitVec 32 := Scalar.subi c1_i32_1043 v1322
  let c2_i32_1055 : BitVec 32 := 2#32
  let v1335 : BitVec 32 := Scalar.muli v1326 c2_i32_1055
  let v1336 : BitVec 32 := Scalar.addi v1334 v1335
  let c1_i32_1044 : BitVec 32 := 1#32
  let v1323 : BitVec 32 := Dev.word d0
  let c1_i32_1042 : BitVec 32 := 1#32
  let v1324 : BitVec 32 := Scalar.divsi v1323 c1_i32_1042
  let c2_i32_1041 : BitVec 32 := 2#32
  let v1325 : BitVec 32 := Scalar.remsi v1324 c2_i32_1041
  let v1327 : BitVec 32 := Scalar.subi c1_i32_1044 v1325
  let c1_i32_1056 : BitVec 32 := 1#32
  let v1337 : BitVec 32 := Scalar.muli v1327 c1_i32_1056
  let v1338 : BitVec 32 := Scalar.addi v1336 v1337
  v1338.toNat
def k0_dev46 (d0 : Dev nD) : Nat :=
  let c0_i32_1076 : BitVec 32 := 0#32
  let c1_i32_1066 : BitVec 32 := 1#32
  let v1346 : BitVec 32 := Dev.word d0
  let c4_i32_1061 : BitVec 32 := 4#32
  let v1347 : BitVec 32 := Scalar.divsi v1346 c4_i32_1061
  let c2_i32_1060 : BitVec 32 := 2#32
  let v1348 : BitVec 32 := Scalar.remsi v1347 c2_i32_1060
  let v1355 : BitVec 32 := Scalar.subi c1_i32_1066 v1348
  let c4_i32_1075 : BitVec 32 := 4#32
  let v1361 : BitVec 32 := Scalar.muli v1355 c4_i32_1075
  let v1362 : BitVec 32 := Scalar.addi c0_i32_1076 v1361
  let v1349 : BitVec 32 := Dev.word d0
  let c2_i32_1063 : BitVec 32 := 2#32
  let v1350 : BitVec 32 := Scalar.divsi v1349 c2_i32_1063
  let c2_i32_1062 : BitVec 32 := 2#32
  let v1351 : BitVec 32 := Scalar.remsi v1350 c2_i32_1062
  let c2_i32_1077 : BitVec 32 := 2#32
  let v1363 : BitVec 32 := Scalar.muli v1351 c2_i32_1077
  let v1364 : BitVec 32 := Scalar.addi v1362 v1363
  let v1352 : BitVec 32 := Dev.word d0
  let c1_i32_1065 : BitVec 32 := 1#32
  let v1353 : BitVec 32 := Scalar.divsi v1352 c1_i32_1065
  let c2_i32_1064 : BitVec 32 := 2#32
  let v1354 : BitVec 32 := Scalar.remsi v1353 c2_i32_1064
  let c1_i32_1078 : BitVec 32 := 1#32
  let v1365 : BitVec 32 := Scalar.muli v1354 c1_i32_1078
  let v1366 : BitVec 32 := Scalar.addi v1364 v1365
  v1366.toNat
def k0_dev47 (d0 : Dev nD) : Nat :=
  let c0_i32_1099 : BitVec 32 := 0#32
  let c1_i32_1088 : BitVec 32 := 1#32
  let v1374 : BitVec 32 := Dev.word d0
  let c4_i32_1083 : BitVec 32 := 4#32
  let v1375 : BitVec 32 := Scalar.divsi v1374 c4_i32_1083
  let c2_i32_1082 : BitVec 32 := 2#32
  let v1376 : BitVec 32 := Scalar.remsi v1375 c2_i32_1082
  let v1383 : BitVec 32 := Scalar.subi c1_i32_1088 v1376
  let c4_i32_1098 : BitVec 32 := 4#32
  let v1390 : BitVec 32 := Scalar.muli v1383 c4_i32_1098
  let v1391 : BitVec 32 := Scalar.addi c0_i32_1099 v1390
  let v1377 : BitVec 32 := Dev.word d0
  let c2_i32_1085 : BitVec 32 := 2#32
  let v1378 : BitVec 32 := Scalar.divsi v1377 c2_i32_1085
  let c2_i32_1084 : BitVec 32 := 2#32
  let v1379 : BitVec 32 := Scalar.remsi v1378 c2_i32_1084
  let c2_i32_1100 : BitVec 32 := 2#32
  let v1392 : BitVec 32 := Scalar.muli v1379 c2_i32_1100
  let v1393 : BitVec 32 := Scalar.addi v1391 v1392
  let c1_i32_1089 : BitVec 32 := 1#32
  let v1380 : BitVec 32 := Dev.word d0
  let c1_i32_1087 : BitVec 32 := 1#32
  let v1381 : BitVec 32 := Scalar.divsi v1380 c1_i32_1087
  let c2_i32_1086 : BitVec 32 := 2#32
  let v1382 : BitVec 32 := Scalar.remsi v1381 c2_i32_1086
  let v1384 : BitVec 32 := Scalar.subi c1_i32_1089 v1382
  let c1_i32_1101 : BitVec 32 := 1#32
  let v1394 : BitVec 32 := Scalar.muli v1384 c1_i32_1101
  let v1395 : BitVec 32 := Scalar.addi v1393 v1394
  v1395.toNat
def k0_dev48 (d0 : Dev nD) : Nat :=
  let c0_i32_1122 : BitVec 32 := 0#32
  let c1_i32_1111 : BitVec 32 := 1#32
  let v1403 : BitVec 32 := Dev.word d0
  let c4_i32_1106 : BitVec 32 := 4#32
  let v1404 : BitVec 32 := Scalar.divsi v1403 c4_i32_1106
  let c2_i32_1105 : BitVec 32 := 2#32
  let v1405 : BitVec 32 := Scalar.remsi v1404 c2_i32_1105
  let v1412 : BitVec 32 := Scalar.subi c1_i32_1111 v1405
  let c4_i32_1121 : BitVec 32 := 4#32
  let v1419 : BitVec 32 := Scalar.muli v1412 c4_i32_1121
  let v1420 : BitVec 32 := Scalar.addi c0_i32_1122 v1419
  let c1_i32_1112 : BitVec 32 := 1#32
  let v1406 : BitVec 32 := Dev.word d0
  let c2_i32_1108 : BitVec 32 := 2#32
  let v1407 : BitVec 32 := Scalar.divsi v1406 c2_i32_1108
  let c2_i32_1107 : BitVec 32 := 2#32
  let v1408 : BitVec 32 := Scalar.remsi v1407 c2_i32_1107
  let v1413 : BitVec 32 := Scalar.subi c1_i32_1112 v1408
  let c2_i32_1123 : BitVec 32 := 2#32
  let v1421 : BitVec 32 := Scalar.muli v1413 c2_i32_1123
  let v1422 : BitVec 32 := Scalar.addi v1420 v1421
  let v1409 : BitVec 32 := Dev.word d0
  let c1_i32_1110 : BitVec 32 := 1#32
  let v1410 : BitVec 32 := Scalar.divsi v1409 c1_i32_1110
  let c2_i32_1109 : BitVec 32 := 2#32
  let v1411 : BitVec 32 := Scalar.remsi v1410 c2_i32_1109
  let c1_i32_1124 : BitVec 32 := 1#32
  let v1423 : BitVec 32 := Scalar.muli v1411 c1_i32_1124
  let v1424 : BitVec 32 := Scalar.addi v1422 v1423
  v1424.toNat
def k0_dev49 (d0 : Dev nD) : Nat :=
  let c0_i32_1146 : BitVec 32 := 0#32
  let c1_i32_1134 : BitVec 32 := 1#32
  let v1432 : BitVec 32 := Dev.word d0
  let c4_i32_1129 : BitVec 32 := 4#32
  let v1433 : BitVec 32 := Scalar.divsi v1432 c4_i32_1129
  let c2_i32_1128 : BitVec 32 := 2#32
  let v1434 : BitVec 32 := Scalar.remsi v1433 c2_i32_1128
  let v1441 : BitVec 32 := Scalar.subi c1_i32_1134 v1434
  let c4_i32_1145 : BitVec 32 := 4#32
  let v1449 : BitVec 32 := Scalar.muli v1441 c4_i32_1145
  let v1450 : BitVec 32 := Scalar.addi c0_i32_1146 v1449
  let c1_i32_1135 : BitVec 32 := 1#32
  let v1435 : BitVec 32 := Dev.word d0
  let c2_i32_1131 : BitVec 32 := 2#32
  let v1436 : BitVec 32 := Scalar.divsi v1435 c2_i32_1131
  let c2_i32_1130 : BitVec 32 := 2#32
  let v1437 : BitVec 32 := Scalar.remsi v1436 c2_i32_1130
  let v1442 : BitVec 32 := Scalar.subi c1_i32_1135 v1437
  let c2_i32_1147 : BitVec 32 := 2#32
  let v1451 : BitVec 32 := Scalar.muli v1442 c2_i32_1147
  let v1452 : BitVec 32 := Scalar.addi v1450 v1451
  let c1_i32_1136 : BitVec 32 := 1#32
  let v1438 : BitVec 32 := Dev.word d0
  let c1_i32_1133 : BitVec 32 := 1#32
  let v1439 : BitVec 32 := Scalar.divsi v1438 c1_i32_1133
  let c2_i32_1132 : BitVec 32 := 2#32
  let v1440 : BitVec 32 := Scalar.remsi v1439 c2_i32_1132
  let v1443 : BitVec 32 := Scalar.subi c1_i32_1136 v1440
  let c1_i32_1148 : BitVec 32 := 1#32
  let v1453 : BitVec 32 := Scalar.muli v1443 c1_i32_1148
  let v1454 : BitVec 32 := Scalar.addi v1452 v1453
  v1454.toNat
def k0_off25 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c128_i32_1152 : BitVec 32 := 128#32
  let v1462 : BitVec 32 := Scalar.muli v12 c128_i32_1152
  let c0_i32_1157 : BitVec 32 := 0#32
  ![v1462.toNat, 0]
def k0_off26 (d0 : Dev nD) : Fin 2 → Nat :=
  let c4_i32_1165 : BitVec 32 := 4#32
  let v1468 : BitVec 32 := Dev.word d0
  let c4_i32_1159 : BitVec 32 := 4#32
  let v1469 : BitVec 32 := Scalar.divsi v1468 c4_i32_1159
  let c2_i32_1158 : BitVec 32 := 2#32
  let v1470 : BitVec 32 := Scalar.remsi v1469 c2_i32_1158
  let v1478 : BitVec 32 := Scalar.muli c4_i32_1165 v1470
  let c2_i32_1166 : BitVec 32 := 2#32
  let v1471 : BitVec 32 := Dev.word d0
  let c2_i32_1161 : BitVec 32 := 2#32
  let v1472 : BitVec 32 := Scalar.divsi v1471 c2_i32_1161
  let c2_i32_1160 : BitVec 32 := 2#32
  let v1473 : BitVec 32 := Scalar.remsi v1472 c2_i32_1160
  let v1479 : BitVec 32 := Scalar.muli c2_i32_1166 v1473
  let v1480 : BitVec 32 := Scalar.addi v1478 v1479
  let c1_i32_1164 : BitVec 32 := 1#32
  let v1474 : BitVec 32 := Dev.word d0
  let c1_i32_1163 : BitVec 32 := 1#32
  let v1475 : BitVec 32 := Scalar.divsi v1474 c1_i32_1163
  let c2_i32_1162 : BitVec 32 := 2#32
  let v1476 : BitVec 32 := Scalar.remsi v1475 c2_i32_1162
  let v1477 : BitVec 32 := Scalar.subi c1_i32_1164 v1476
  let v1481 : BitVec 32 := Scalar.addi v1480 v1477
  let c128_i32_1167 : BitVec 32 := 128#32
  let v1482 : BitVec 32 := Scalar.muli v1481 c128_i32_1167
  let c0_i32_1179 : BitVec 32 := 0#32
  ![v1482.toNat, 0]
def k0_dev50 (d0 : Dev nD) : Nat :=
  let c0_i32_1174 : BitVec 32 := 0#32
  let v1468 : BitVec 32 := Dev.word d0
  let c4_i32_1159 : BitVec 32 := 4#32
  let v1469 : BitVec 32 := Scalar.divsi v1468 c4_i32_1159
  let c2_i32_1158 : BitVec 32 := 2#32
  let v1470 : BitVec 32 := Scalar.remsi v1469 c2_i32_1158
  let c4_i32_1173 : BitVec 32 := 4#32
  let v1483 : BitVec 32 := Scalar.muli v1470 c4_i32_1173
  let v1484 : BitVec 32 := Scalar.addi c0_i32_1174 v1483
  let v1471 : BitVec 32 := Dev.word d0
  let c2_i32_1161 : BitVec 32 := 2#32
  let v1472 : BitVec 32 := Scalar.divsi v1471 c2_i32_1161
  let c2_i32_1160 : BitVec 32 := 2#32
  let v1473 : BitVec 32 := Scalar.remsi v1472 c2_i32_1160
  let c2_i32_1175 : BitVec 32 := 2#32
  let v1485 : BitVec 32 := Scalar.muli v1473 c2_i32_1175
  let v1486 : BitVec 32 := Scalar.addi v1484 v1485
  let c1_i32_1164 : BitVec 32 := 1#32
  let v1474 : BitVec 32 := Dev.word d0
  let c1_i32_1163 : BitVec 32 := 1#32
  let v1475 : BitVec 32 := Scalar.divsi v1474 c1_i32_1163
  let c2_i32_1162 : BitVec 32 := 2#32
  let v1476 : BitVec 32 := Scalar.remsi v1475 c2_i32_1162
  let v1477 : BitVec 32 := Scalar.subi c1_i32_1164 v1476
  let c1_i32_1176 : BitVec 32 := 1#32
  let v1487 : BitVec 32 := Scalar.muli v1477 c1_i32_1176
  let v1488 : BitVec 32 := Scalar.addi v1486 v1487
  v1488.toNat
def k0_off27 (d0 : Dev nD) : Fin 2 → Nat :=
  let c4_i32_1187 : BitVec 32 := 4#32
  let v1496 : BitVec 32 := Dev.word d0
  let c4_i32_1181 : BitVec 32 := 4#32
  let v1497 : BitVec 32 := Scalar.divsi v1496 c4_i32_1181
  let c2_i32_1180 : BitVec 32 := 2#32
  let v1498 : BitVec 32 := Scalar.remsi v1497 c2_i32_1180
  let v1506 : BitVec 32 := Scalar.muli c4_i32_1187 v1498
  let c2_i32_1188 : BitVec 32 := 2#32
  let c1_i32_1186 : BitVec 32 := 1#32
  let v1499 : BitVec 32 := Dev.word d0
  let c2_i32_1183 : BitVec 32 := 2#32
  let v1500 : BitVec 32 := Scalar.divsi v1499 c2_i32_1183
  let c2_i32_1182 : BitVec 32 := 2#32
  let v1501 : BitVec 32 := Scalar.remsi v1500 c2_i32_1182
  let v1505 : BitVec 32 := Scalar.subi c1_i32_1186 v1501
  let v1507 : BitVec 32 := Scalar.muli c2_i32_1188 v1505
  let v1508 : BitVec 32 := Scalar.addi v1506 v1507
  let v1502 : BitVec 32 := Dev.word d0
  let c1_i32_1185 : BitVec 32 := 1#32
  let v1503 : BitVec 32 := Scalar.divsi v1502 c1_i32_1185
  let c2_i32_1184 : BitVec 32 := 2#32
  let v1504 : BitVec 32 := Scalar.remsi v1503 c2_i32_1184
  let v1509 : BitVec 32 := Scalar.addi v1508 v1504
  let c128_i32_1189 : BitVec 32 := 128#32
  let v1510 : BitVec 32 := Scalar.muli v1509 c128_i32_1189
  let c0_i32_1201 : BitVec 32 := 0#32
  ![v1510.toNat, 0]
def k0_dev51 (d0 : Dev nD) : Nat :=
  let c0_i32_1196 : BitVec 32 := 0#32
  let v1496 : BitVec 32 := Dev.word d0
  let c4_i32_1181 : BitVec 32 := 4#32
  let v1497 : BitVec 32 := Scalar.divsi v1496 c4_i32_1181
  let c2_i32_1180 : BitVec 32 := 2#32
  let v1498 : BitVec 32 := Scalar.remsi v1497 c2_i32_1180
  let c4_i32_1195 : BitVec 32 := 4#32
  let v1511 : BitVec 32 := Scalar.muli v1498 c4_i32_1195
  let v1512 : BitVec 32 := Scalar.addi c0_i32_1196 v1511
  let c1_i32_1186 : BitVec 32 := 1#32
  let v1499 : BitVec 32 := Dev.word d0
  let c2_i32_1183 : BitVec 32 := 2#32
  let v1500 : BitVec 32 := Scalar.divsi v1499 c2_i32_1183
  let c2_i32_1182 : BitVec 32 := 2#32
  let v1501 : BitVec 32 := Scalar.remsi v1500 c2_i32_1182
  let v1505 : BitVec 32 := Scalar.subi c1_i32_1186 v1501
  let c2_i32_1197 : BitVec 32 := 2#32
  let v1513 : BitVec 32 := Scalar.muli v1505 c2_i32_1197
  let v1514 : BitVec 32 := Scalar.addi v1512 v1513
  let v1502 : BitVec 32 := Dev.word d0
  let c1_i32_1185 : BitVec 32 := 1#32
  let v1503 : BitVec 32 := Scalar.divsi v1502 c1_i32_1185
  let c2_i32_1184 : BitVec 32 := 2#32
  let v1504 : BitVec 32 := Scalar.remsi v1503 c2_i32_1184
  let c1_i32_1198 : BitVec 32 := 1#32
  let v1515 : BitVec 32 := Scalar.muli v1504 c1_i32_1198
  let v1516 : BitVec 32 := Scalar.addi v1514 v1515
  v1516.toNat
def k0_off28 (d0 : Dev nD) : Fin 2 → Nat :=
  let c4_i32_1210 : BitVec 32 := 4#32
  let v1524 : BitVec 32 := Dev.word d0
  let c4_i32_1203 : BitVec 32 := 4#32
  let v1525 : BitVec 32 := Scalar.divsi v1524 c4_i32_1203
  let c2_i32_1202 : BitVec 32 := 2#32
  let v1526 : BitVec 32 := Scalar.remsi v1525 c2_i32_1202
  let v1535 : BitVec 32 := Scalar.muli c4_i32_1210 v1526
  let c2_i32_1211 : BitVec 32 := 2#32
  let c1_i32_1208 : BitVec 32 := 1#32
  let v1527 : BitVec 32 := Dev.word d0
  let c2_i32_1205 : BitVec 32 := 2#32
  let v1528 : BitVec 32 := Scalar.divsi v1527 c2_i32_1205
  let c2_i32_1204 : BitVec 32 := 2#32
  let v1529 : BitVec 32 := Scalar.remsi v1528 c2_i32_1204
  let v1533 : BitVec 32 := Scalar.subi c1_i32_1208 v1529
  let v1536 : BitVec 32 := Scalar.muli c2_i32_1211 v1533
  let v1537 : BitVec 32 := Scalar.addi v1535 v1536
  let c1_i32_1209 : BitVec 32 := 1#32
  let v1530 : BitVec 32 := Dev.word d0
  let c1_i32_1207 : BitVec 32 := 1#32
  let v1531 : BitVec 32 := Scalar.divsi v1530 c1_i32_1207
  let c2_i32_1206 : BitVec 32 := 2#32
  let v1532 : BitVec 32 := Scalar.remsi v1531 c2_i32_1206
  let v1534 : BitVec 32 := Scalar.subi c1_i32_1209 v1532
  let v1538 : BitVec 32 := Scalar.addi v1537 v1534
  let c128_i32_1212 : BitVec 32 := 128#32
  let v1539 : BitVec 32 := Scalar.muli v1538 c128_i32_1212
  let c0_i32_1224 : BitVec 32 := 0#32
  ![v1539.toNat, 0]
def k0_dev52 (d0 : Dev nD) : Nat :=
  let c0_i32_1219 : BitVec 32 := 0#32
  let v1524 : BitVec 32 := Dev.word d0
  let c4_i32_1203 : BitVec 32 := 4#32
  let v1525 : BitVec 32 := Scalar.divsi v1524 c4_i32_1203
  let c2_i32_1202 : BitVec 32 := 2#32
  let v1526 : BitVec 32 := Scalar.remsi v1525 c2_i32_1202
  let c4_i32_1218 : BitVec 32 := 4#32
  let v1540 : BitVec 32 := Scalar.muli v1526 c4_i32_1218
  let v1541 : BitVec 32 := Scalar.addi c0_i32_1219 v1540
  let c1_i32_1208 : BitVec 32 := 1#32
  let v1527 : BitVec 32 := Dev.word d0
  let c2_i32_1205 : BitVec 32 := 2#32
  let v1528 : BitVec 32 := Scalar.divsi v1527 c2_i32_1205
  let c2_i32_1204 : BitVec 32 := 2#32
  let v1529 : BitVec 32 := Scalar.remsi v1528 c2_i32_1204
  let v1533 : BitVec 32 := Scalar.subi c1_i32_1208 v1529
  let c2_i32_1220 : BitVec 32 := 2#32
  let v1542 : BitVec 32 := Scalar.muli v1533 c2_i32_1220
  let v1543 : BitVec 32 := Scalar.addi v1541 v1542
  let c1_i32_1209 : BitVec 32 := 1#32
  let v1530 : BitVec 32 := Dev.word d0
  let c1_i32_1207 : BitVec 32 := 1#32
  let v1531 : BitVec 32 := Scalar.divsi v1530 c1_i32_1207
  let c2_i32_1206 : BitVec 32 := 2#32
  let v1532 : BitVec 32 := Scalar.remsi v1531 c2_i32_1206
  let v1534 : BitVec 32 := Scalar.subi c1_i32_1209 v1532
  let c1_i32_1221 : BitVec 32 := 1#32
  let v1544 : BitVec 32 := Scalar.muli v1534 c1_i32_1221
  let v1545 : BitVec 32 := Scalar.addi v1543 v1544
  v1545.toNat
def k0_off29 (d0 : Dev nD) : Fin 2 → Nat :=
  let c4_i32_1232 : BitVec 32 := 4#32
  let c1_i32_1231 : BitVec 32 := 1#32
  let v1553 : BitVec 32 := Dev.word d0
  let c4_i32_1226 : BitVec 32 := 4#32
  let v1554 : BitVec 32 := Scalar.divsi v1553 c4_i32_1226
  let c2_i32_1225 : BitVec 32 := 2#32
  let v1555 : BitVec 32 := Scalar.remsi v1554 c2_i32_1225
  let v1562 : BitVec 32 := Scalar.subi c1_i32_1231 v1555
  let v1563 : BitVec 32 := Scalar.muli c4_i32_1232 v1562
  let c2_i32_1233 : BitVec 32 := 2#32
  let v1556 : BitVec 32 := Dev.word d0
  let c2_i32_1228 : BitVec 32 := 2#32
  let v1557 : BitVec 32 := Scalar.divsi v1556 c2_i32_1228
  let c2_i32_1227 : BitVec 32 := 2#32
  let v1558 : BitVec 32 := Scalar.remsi v1557 c2_i32_1227
  let v1564 : BitVec 32 := Scalar.muli c2_i32_1233 v1558
  let v1565 : BitVec 32 := Scalar.addi v1563 v1564
  let v1559 : BitVec 32 := Dev.word d0
  let c1_i32_1230 : BitVec 32 := 1#32
  let v1560 : BitVec 32 := Scalar.divsi v1559 c1_i32_1230
  let c2_i32_1229 : BitVec 32 := 2#32
  let v1561 : BitVec 32 := Scalar.remsi v1560 c2_i32_1229
  let v1566 : BitVec 32 := Scalar.addi v1565 v1561
  let c128_i32_1234 : BitVec 32 := 128#32
  let v1567 : BitVec 32 := Scalar.muli v1566 c128_i32_1234
  let c0_i32_1246 : BitVec 32 := 0#32
  ![v1567.toNat, 0]
def k0_dev53 (d0 : Dev nD) : Nat :=
  let c0_i32_1241 : BitVec 32 := 0#32
  let c1_i32_1231 : BitVec 32 := 1#32
  let v1553 : BitVec 32 := Dev.word d0
  let c4_i32_1226 : BitVec 32 := 4#32
  let v1554 : BitVec 32 := Scalar.divsi v1553 c4_i32_1226
  let c2_i32_1225 : BitVec 32 := 2#32
  let v1555 : BitVec 32 := Scalar.remsi v1554 c2_i32_1225
  let v1562 : BitVec 32 := Scalar.subi c1_i32_1231 v1555
  let c4_i32_1240 : BitVec 32 := 4#32
  let v1568 : BitVec 32 := Scalar.muli v1562 c4_i32_1240
  let v1569 : BitVec 32 := Scalar.addi c0_i32_1241 v1568
  let v1556 : BitVec 32 := Dev.word d0
  let c2_i32_1228 : BitVec 32 := 2#32
  let v1557 : BitVec 32 := Scalar.divsi v1556 c2_i32_1228
  let c2_i32_1227 : BitVec 32 := 2#32
  let v1558 : BitVec 32 := Scalar.remsi v1557 c2_i32_1227
  let c2_i32_1242 : BitVec 32 := 2#32
  let v1570 : BitVec 32 := Scalar.muli v1558 c2_i32_1242
  let v1571 : BitVec 32 := Scalar.addi v1569 v1570
  let v1559 : BitVec 32 := Dev.word d0
  let c1_i32_1230 : BitVec 32 := 1#32
  let v1560 : BitVec 32 := Scalar.divsi v1559 c1_i32_1230
  let c2_i32_1229 : BitVec 32 := 2#32
  let v1561 : BitVec 32 := Scalar.remsi v1560 c2_i32_1229
  let c1_i32_1243 : BitVec 32 := 1#32
  let v1572 : BitVec 32 := Scalar.muli v1561 c1_i32_1243
  let v1573 : BitVec 32 := Scalar.addi v1571 v1572
  v1573.toNat
def k0_off30 (d0 : Dev nD) : Fin 2 → Nat :=
  let c4_i32_1255 : BitVec 32 := 4#32
  let c1_i32_1253 : BitVec 32 := 1#32
  let v1581 : BitVec 32 := Dev.word d0
  let c4_i32_1248 : BitVec 32 := 4#32
  let v1582 : BitVec 32 := Scalar.divsi v1581 c4_i32_1248
  let c2_i32_1247 : BitVec 32 := 2#32
  let v1583 : BitVec 32 := Scalar.remsi v1582 c2_i32_1247
  let v1590 : BitVec 32 := Scalar.subi c1_i32_1253 v1583
  let v1592 : BitVec 32 := Scalar.muli c4_i32_1255 v1590
  let c2_i32_1256 : BitVec 32 := 2#32
  let v1584 : BitVec 32 := Dev.word d0
  let c2_i32_1250 : BitVec 32 := 2#32
  let v1585 : BitVec 32 := Scalar.divsi v1584 c2_i32_1250
  let c2_i32_1249 : BitVec 32 := 2#32
  let v1586 : BitVec 32 := Scalar.remsi v1585 c2_i32_1249
  let v1593 : BitVec 32 := Scalar.muli c2_i32_1256 v1586
  let v1594 : BitVec 32 := Scalar.addi v1592 v1593
  let c1_i32_1254 : BitVec 32 := 1#32
  let v1587 : BitVec 32 := Dev.word d0
  let c1_i32_1252 : BitVec 32 := 1#32
  let v1588 : BitVec 32 := Scalar.divsi v1587 c1_i32_1252
  let c2_i32_1251 : BitVec 32 := 2#32
  let v1589 : BitVec 32 := Scalar.remsi v1588 c2_i32_1251
  let v1591 : BitVec 32 := Scalar.subi c1_i32_1254 v1589
  let v1595 : BitVec 32 := Scalar.addi v1594 v1591
  let c128_i32_1257 : BitVec 32 := 128#32
  let v1596 : BitVec 32 := Scalar.muli v1595 c128_i32_1257
  let c0_i32_1269 : BitVec 32 := 0#32
  ![v1596.toNat, 0]
def k0_dev54 (d0 : Dev nD) : Nat :=
  let c0_i32_1264 : BitVec 32 := 0#32
  let c1_i32_1253 : BitVec 32 := 1#32
  let v1581 : BitVec 32 := Dev.word d0
  let c4_i32_1248 : BitVec 32 := 4#32
  let v1582 : BitVec 32 := Scalar.divsi v1581 c4_i32_1248
  let c2_i32_1247 : BitVec 32 := 2#32
  let v1583 : BitVec 32 := Scalar.remsi v1582 c2_i32_1247
  let v1590 : BitVec 32 := Scalar.subi c1_i32_1253 v1583
  let c4_i32_1263 : BitVec 32 := 4#32
  let v1597 : BitVec 32 := Scalar.muli v1590 c4_i32_1263
  let v1598 : BitVec 32 := Scalar.addi c0_i32_1264 v1597
  let v1584 : BitVec 32 := Dev.word d0
  let c2_i32_1250 : BitVec 32 := 2#32
  let v1585 : BitVec 32 := Scalar.divsi v1584 c2_i32_1250
  let c2_i32_1249 : BitVec 32 := 2#32
  let v1586 : BitVec 32 := Scalar.remsi v1585 c2_i32_1249
  let c2_i32_1265 : BitVec 32 := 2#32
  let v1599 : BitVec 32 := Scalar.muli v1586 c2_i32_1265
  let v1600 : BitVec 32 := Scalar.addi v1598 v1599
  let c1_i32_1254 : BitVec 32 := 1#32
  let v1587 : BitVec 32 := Dev.word d0
  let c1_i32_1252 : BitVec 32 := 1#32
  let v1588 : BitVec 32 := Scalar.divsi v1587 c1_i32_1252
  let c2_i32_1251 : BitVec 32 := 2#32
  let v1589 : BitVec 32 := Scalar.remsi v1588 c2_i32_1251
  let v1591 : BitVec 32 := Scalar.subi c1_i32_1254 v1589
  let c1_i32_1266 : BitVec 32 := 1#32
  let v1601 : BitVec 32 := Scalar.muli v1591 c1_i32_1266
  let v1602 : BitVec 32 := Scalar.addi v1600 v1601
  v1602.toNat
def k0_off31 (d0 : Dev nD) : Fin 2 → Nat :=
  let c4_i32_1278 : BitVec 32 := 4#32
  let c1_i32_1276 : BitVec 32 := 1#32
  let v1610 : BitVec 32 := Dev.word d0
  let c4_i32_1271 : BitVec 32 := 4#32
  let v1611 : BitVec 32 := Scalar.divsi v1610 c4_i32_1271
  let c2_i32_1270 : BitVec 32 := 2#32
  let v1612 : BitVec 32 := Scalar.remsi v1611 c2_i32_1270
  let v1619 : BitVec 32 := Scalar.subi c1_i32_1276 v1612
  let v1621 : BitVec 32 := Scalar.muli c4_i32_1278 v1619
  let c2_i32_1279 : BitVec 32 := 2#32
  let c1_i32_1277 : BitVec 32 := 1#32
  let v1613 : BitVec 32 := Dev.word d0
  let c2_i32_1273 : BitVec 32 := 2#32
  let v1614 : BitVec 32 := Scalar.divsi v1613 c2_i32_1273
  let c2_i32_1272 : BitVec 32 := 2#32
  let v1615 : BitVec 32 := Scalar.remsi v1614 c2_i32_1272
  let v1620 : BitVec 32 := Scalar.subi c1_i32_1277 v1615
  let v1622 : BitVec 32 := Scalar.muli c2_i32_1279 v1620
  let v1623 : BitVec 32 := Scalar.addi v1621 v1622
  let v1616 : BitVec 32 := Dev.word d0
  let c1_i32_1275 : BitVec 32 := 1#32
  let v1617 : BitVec 32 := Scalar.divsi v1616 c1_i32_1275
  let c2_i32_1274 : BitVec 32 := 2#32
  let v1618 : BitVec 32 := Scalar.remsi v1617 c2_i32_1274
  let v1624 : BitVec 32 := Scalar.addi v1623 v1618
  let c128_i32_1280 : BitVec 32 := 128#32
  let v1625 : BitVec 32 := Scalar.muli v1624 c128_i32_1280
  let c0_i32_1292 : BitVec 32 := 0#32
  ![v1625.toNat, 0]
def k0_dev55 (d0 : Dev nD) : Nat :=
  let c0_i32_1287 : BitVec 32 := 0#32
  let c1_i32_1276 : BitVec 32 := 1#32
  let v1610 : BitVec 32 := Dev.word d0
  let c4_i32_1271 : BitVec 32 := 4#32
  let v1611 : BitVec 32 := Scalar.divsi v1610 c4_i32_1271
  let c2_i32_1270 : BitVec 32 := 2#32
  let v1612 : BitVec 32 := Scalar.remsi v1611 c2_i32_1270
  let v1619 : BitVec 32 := Scalar.subi c1_i32_1276 v1612
  let c4_i32_1286 : BitVec 32 := 4#32
  let v1626 : BitVec 32 := Scalar.muli v1619 c4_i32_1286
  let v1627 : BitVec 32 := Scalar.addi c0_i32_1287 v1626
  let c1_i32_1277 : BitVec 32 := 1#32
  let v1613 : BitVec 32 := Dev.word d0
  let c2_i32_1273 : BitVec 32 := 2#32
  let v1614 : BitVec 32 := Scalar.divsi v1613 c2_i32_1273
  let c2_i32_1272 : BitVec 32 := 2#32
  let v1615 : BitVec 32 := Scalar.remsi v1614 c2_i32_1272
  let v1620 : BitVec 32 := Scalar.subi c1_i32_1277 v1615
  let c2_i32_1288 : BitVec 32 := 2#32
  let v1628 : BitVec 32 := Scalar.muli v1620 c2_i32_1288
  let v1629 : BitVec 32 := Scalar.addi v1627 v1628
  let v1616 : BitVec 32 := Dev.word d0
  let c1_i32_1275 : BitVec 32 := 1#32
  let v1617 : BitVec 32 := Scalar.divsi v1616 c1_i32_1275
  let c2_i32_1274 : BitVec 32 := 2#32
  let v1618 : BitVec 32 := Scalar.remsi v1617 c2_i32_1274
  let c1_i32_1289 : BitVec 32 := 1#32
  let v1630 : BitVec 32 := Scalar.muli v1618 c1_i32_1289
  let v1631 : BitVec 32 := Scalar.addi v1629 v1630
  v1631.toNat
def k0_off32 (d0 : Dev nD) : Fin 2 → Nat :=
  let c4_i32_1302 : BitVec 32 := 4#32
  let c1_i32_1299 : BitVec 32 := 1#32
  let v1639 : BitVec 32 := Dev.word d0
  let c4_i32_1294 : BitVec 32 := 4#32
  let v1640 : BitVec 32 := Scalar.divsi v1639 c4_i32_1294
  let c2_i32_1293 : BitVec 32 := 2#32
  let v1641 : BitVec 32 := Scalar.remsi v1640 c2_i32_1293
  let v1648 : BitVec 32 := Scalar.subi c1_i32_1299 v1641
  let v1651 : BitVec 32 := Scalar.muli c4_i32_1302 v1648
  let c2_i32_1303 : BitVec 32 := 2#32
  let c1_i32_1300 : BitVec 32 := 1#32
  let v1642 : BitVec 32 := Dev.word d0
  let c2_i32_1296 : BitVec 32 := 2#32
  let v1643 : BitVec 32 := Scalar.divsi v1642 c2_i32_1296
  let c2_i32_1295 : BitVec 32 := 2#32
  let v1644 : BitVec 32 := Scalar.remsi v1643 c2_i32_1295
  let v1649 : BitVec 32 := Scalar.subi c1_i32_1300 v1644
  let v1652 : BitVec 32 := Scalar.muli c2_i32_1303 v1649
  let v1653 : BitVec 32 := Scalar.addi v1651 v1652
  let c1_i32_1301 : BitVec 32 := 1#32
  let v1645 : BitVec 32 := Dev.word d0
  let c1_i32_1298 : BitVec 32 := 1#32
  let v1646 : BitVec 32 := Scalar.divsi v1645 c1_i32_1298
  let c2_i32_1297 : BitVec 32 := 2#32
  let v1647 : BitVec 32 := Scalar.remsi v1646 c2_i32_1297
  let v1650 : BitVec 32 := Scalar.subi c1_i32_1301 v1647
  let v1654 : BitVec 32 := Scalar.addi v1653 v1650
  let c128_i32_1304 : BitVec 32 := 128#32
  let v1655 : BitVec 32 := Scalar.muli v1654 c128_i32_1304
  let c0_i32_1316 : BitVec 32 := 0#32
  ![v1655.toNat, 0]
def k0_dev56 (d0 : Dev nD) : Nat :=
  let c0_i32_1311 : BitVec 32 := 0#32
  let c1_i32_1299 : BitVec 32 := 1#32
  let v1639 : BitVec 32 := Dev.word d0
  let c4_i32_1294 : BitVec 32 := 4#32
  let v1640 : BitVec 32 := Scalar.divsi v1639 c4_i32_1294
  let c2_i32_1293 : BitVec 32 := 2#32
  let v1641 : BitVec 32 := Scalar.remsi v1640 c2_i32_1293
  let v1648 : BitVec 32 := Scalar.subi c1_i32_1299 v1641
  let c4_i32_1310 : BitVec 32 := 4#32
  let v1656 : BitVec 32 := Scalar.muli v1648 c4_i32_1310
  let v1657 : BitVec 32 := Scalar.addi c0_i32_1311 v1656
  let c1_i32_1300 : BitVec 32 := 1#32
  let v1642 : BitVec 32 := Dev.word d0
  let c2_i32_1296 : BitVec 32 := 2#32
  let v1643 : BitVec 32 := Scalar.divsi v1642 c2_i32_1296
  let c2_i32_1295 : BitVec 32 := 2#32
  let v1644 : BitVec 32 := Scalar.remsi v1643 c2_i32_1295
  let v1649 : BitVec 32 := Scalar.subi c1_i32_1300 v1644
  let c2_i32_1312 : BitVec 32 := 2#32
  let v1658 : BitVec 32 := Scalar.muli v1649 c2_i32_1312
  let v1659 : BitVec 32 := Scalar.addi v1657 v1658
  let c1_i32_1301 : BitVec 32 := 1#32
  let v1645 : BitVec 32 := Dev.word d0
  let c1_i32_1298 : BitVec 32 := 1#32
  let v1646 : BitVec 32 := Scalar.divsi v1645 c1_i32_1298
  let c2_i32_1297 : BitVec 32 := 2#32
  let v1647 : BitVec 32 := Scalar.remsi v1646 c2_i32_1297
  let v1650 : BitVec 32 := Scalar.subi c1_i32_1301 v1647
  let c1_i32_1313 : BitVec 32 := 1#32
  let v1660 : BitVec 32 := Scalar.muli v1650 c1_i32_1313
  let v1661 : BitVec 32 := Scalar.addi v1659 v1660
  v1661.toNat
def k0_dev57 (d0 : Dev nD) : Nat :=
  let c0_i32_1338 : BitVec 32 := 0#32
  let v1675 : BitVec 32 := Dev.word d0
  let c4_i32_1323 : BitVec 32 := 4#32
  let v1676 : BitVec 32 := Scalar.divsi v1675 c4_i32_1323
  let c2_i32_1322 : BitVec 32 := 2#32
  let v1677 : BitVec 32 := Scalar.remsi v1676 c2_i32_1322
  let c4_i32_1337 : BitVec 32 := 4#32
  let v1690 : BitVec 32 := Scalar.muli v1677 c4_i32_1337
  let v1691 : BitVec 32 := Scalar.addi c0_i32_1338 v1690
  let v1678 : BitVec 32 := Dev.word d0
  let c2_i32_1325 : BitVec 32 := 2#32
  let v1679 : BitVec 32 := Scalar.divsi v1678 c2_i32_1325
  let c2_i32_1324 : BitVec 32 := 2#32
  let v1680 : BitVec 32 := Scalar.remsi v1679 c2_i32_1324
  let c2_i32_1339 : BitVec 32 := 2#32
  let v1692 : BitVec 32 := Scalar.muli v1680 c2_i32_1339
  let v1693 : BitVec 32 := Scalar.addi v1691 v1692
  let c1_i32_1328 : BitVec 32 := 1#32
  let v1681 : BitVec 32 := Dev.word d0
  let c1_i32_1327 : BitVec 32 := 1#32
  let v1682 : BitVec 32 := Scalar.divsi v1681 c1_i32_1327
  let c2_i32_1326 : BitVec 32 := 2#32
  let v1683 : BitVec 32 := Scalar.remsi v1682 c2_i32_1326
  let v1684 : BitVec 32 := Scalar.subi c1_i32_1328 v1683
  let c1_i32_1340 : BitVec 32 := 1#32
  let v1694 : BitVec 32 := Scalar.muli v1684 c1_i32_1340
  let v1695 : BitVec 32 := Scalar.addi v1693 v1694
  v1695.toNat
def k0_dev58 (d0 : Dev nD) : Nat :=
  let c0_i32_1360 : BitVec 32 := 0#32
  let v1703 : BitVec 32 := Dev.word d0
  let c4_i32_1345 : BitVec 32 := 4#32
  let v1704 : BitVec 32 := Scalar.divsi v1703 c4_i32_1345
  let c2_i32_1344 : BitVec 32 := 2#32
  let v1705 : BitVec 32 := Scalar.remsi v1704 c2_i32_1344
  let c4_i32_1359 : BitVec 32 := 4#32
  let v1718 : BitVec 32 := Scalar.muli v1705 c4_i32_1359
  let v1719 : BitVec 32 := Scalar.addi c0_i32_1360 v1718
  let c1_i32_1350 : BitVec 32 := 1#32
  let v1706 : BitVec 32 := Dev.word d0
  let c2_i32_1347 : BitVec 32 := 2#32
  let v1707 : BitVec 32 := Scalar.divsi v1706 c2_i32_1347
  let c2_i32_1346 : BitVec 32 := 2#32
  let v1708 : BitVec 32 := Scalar.remsi v1707 c2_i32_1346
  let v1712 : BitVec 32 := Scalar.subi c1_i32_1350 v1708
  let c2_i32_1361 : BitVec 32 := 2#32
  let v1720 : BitVec 32 := Scalar.muli v1712 c2_i32_1361
  let v1721 : BitVec 32 := Scalar.addi v1719 v1720
  let v1709 : BitVec 32 := Dev.word d0
  let c1_i32_1349 : BitVec 32 := 1#32
  let v1710 : BitVec 32 := Scalar.divsi v1709 c1_i32_1349
  let c2_i32_1348 : BitVec 32 := 2#32
  let v1711 : BitVec 32 := Scalar.remsi v1710 c2_i32_1348
  let c1_i32_1362 : BitVec 32 := 1#32
  let v1722 : BitVec 32 := Scalar.muli v1711 c1_i32_1362
  let v1723 : BitVec 32 := Scalar.addi v1721 v1722
  v1723.toNat
def k0_dev59 (d0 : Dev nD) : Nat :=
  let c0_i32_1383 : BitVec 32 := 0#32
  let v1731 : BitVec 32 := Dev.word d0
  let c4_i32_1367 : BitVec 32 := 4#32
  let v1732 : BitVec 32 := Scalar.divsi v1731 c4_i32_1367
  let c2_i32_1366 : BitVec 32 := 2#32
  let v1733 : BitVec 32 := Scalar.remsi v1732 c2_i32_1366
  let c4_i32_1382 : BitVec 32 := 4#32
  let v1747 : BitVec 32 := Scalar.muli v1733 c4_i32_1382
  let v1748 : BitVec 32 := Scalar.addi c0_i32_1383 v1747
  let c1_i32_1372 : BitVec 32 := 1#32
  let v1734 : BitVec 32 := Dev.word d0
  let c2_i32_1369 : BitVec 32 := 2#32
  let v1735 : BitVec 32 := Scalar.divsi v1734 c2_i32_1369
  let c2_i32_1368 : BitVec 32 := 2#32
  let v1736 : BitVec 32 := Scalar.remsi v1735 c2_i32_1368
  let v1740 : BitVec 32 := Scalar.subi c1_i32_1372 v1736
  let c2_i32_1384 : BitVec 32 := 2#32
  let v1749 : BitVec 32 := Scalar.muli v1740 c2_i32_1384
  let v1750 : BitVec 32 := Scalar.addi v1748 v1749
  let c1_i32_1373 : BitVec 32 := 1#32
  let v1737 : BitVec 32 := Dev.word d0
  let c1_i32_1371 : BitVec 32 := 1#32
  let v1738 : BitVec 32 := Scalar.divsi v1737 c1_i32_1371
  let c2_i32_1370 : BitVec 32 := 2#32
  let v1739 : BitVec 32 := Scalar.remsi v1738 c2_i32_1370
  let v1741 : BitVec 32 := Scalar.subi c1_i32_1373 v1739
  let c1_i32_1385 : BitVec 32 := 1#32
  let v1751 : BitVec 32 := Scalar.muli v1741 c1_i32_1385
  let v1752 : BitVec 32 := Scalar.addi v1750 v1751
  v1752.toNat
def k0_dev60 (d0 : Dev nD) : Nat :=
  let c0_i32_1405 : BitVec 32 := 0#32
  let c1_i32_1395 : BitVec 32 := 1#32
  let v1760 : BitVec 32 := Dev.word d0
  let c4_i32_1390 : BitVec 32 := 4#32
  let v1761 : BitVec 32 := Scalar.divsi v1760 c4_i32_1390
  let c2_i32_1389 : BitVec 32 := 2#32
  let v1762 : BitVec 32 := Scalar.remsi v1761 c2_i32_1389
  let v1769 : BitVec 32 := Scalar.subi c1_i32_1395 v1762
  let c4_i32_1404 : BitVec 32 := 4#32
  let v1775 : BitVec 32 := Scalar.muli v1769 c4_i32_1404
  let v1776 : BitVec 32 := Scalar.addi c0_i32_1405 v1775
  let v1763 : BitVec 32 := Dev.word d0
  let c2_i32_1392 : BitVec 32 := 2#32
  let v1764 : BitVec 32 := Scalar.divsi v1763 c2_i32_1392
  let c2_i32_1391 : BitVec 32 := 2#32
  let v1765 : BitVec 32 := Scalar.remsi v1764 c2_i32_1391
  let c2_i32_1406 : BitVec 32 := 2#32
  let v1777 : BitVec 32 := Scalar.muli v1765 c2_i32_1406
  let v1778 : BitVec 32 := Scalar.addi v1776 v1777
  let v1766 : BitVec 32 := Dev.word d0
  let c1_i32_1394 : BitVec 32 := 1#32
  let v1767 : BitVec 32 := Scalar.divsi v1766 c1_i32_1394
  let c2_i32_1393 : BitVec 32 := 2#32
  let v1768 : BitVec 32 := Scalar.remsi v1767 c2_i32_1393
  let c1_i32_1407 : BitVec 32 := 1#32
  let v1779 : BitVec 32 := Scalar.muli v1768 c1_i32_1407
  let v1780 : BitVec 32 := Scalar.addi v1778 v1779
  v1780.toNat
def k0_dev61 (d0 : Dev nD) : Nat :=
  let c0_i32_1428 : BitVec 32 := 0#32
  let c1_i32_1417 : BitVec 32 := 1#32
  let v1788 : BitVec 32 := Dev.word d0
  let c4_i32_1412 : BitVec 32 := 4#32
  let v1789 : BitVec 32 := Scalar.divsi v1788 c4_i32_1412
  let c2_i32_1411 : BitVec 32 := 2#32
  let v1790 : BitVec 32 := Scalar.remsi v1789 c2_i32_1411
  let v1797 : BitVec 32 := Scalar.subi c1_i32_1417 v1790
  let c4_i32_1427 : BitVec 32 := 4#32
  let v1804 : BitVec 32 := Scalar.muli v1797 c4_i32_1427
  let v1805 : BitVec 32 := Scalar.addi c0_i32_1428 v1804
  let v1791 : BitVec 32 := Dev.word d0
  let c2_i32_1414 : BitVec 32 := 2#32
  let v1792 : BitVec 32 := Scalar.divsi v1791 c2_i32_1414
  let c2_i32_1413 : BitVec 32 := 2#32
  let v1793 : BitVec 32 := Scalar.remsi v1792 c2_i32_1413
  let c2_i32_1429 : BitVec 32 := 2#32
  let v1806 : BitVec 32 := Scalar.muli v1793 c2_i32_1429
  let v1807 : BitVec 32 := Scalar.addi v1805 v1806
  let c1_i32_1418 : BitVec 32 := 1#32
  let v1794 : BitVec 32 := Dev.word d0
  let c1_i32_1416 : BitVec 32 := 1#32
  let v1795 : BitVec 32 := Scalar.divsi v1794 c1_i32_1416
  let c2_i32_1415 : BitVec 32 := 2#32
  let v1796 : BitVec 32 := Scalar.remsi v1795 c2_i32_1415
  let v1798 : BitVec 32 := Scalar.subi c1_i32_1418 v1796
  let c1_i32_1430 : BitVec 32 := 1#32
  let v1808 : BitVec 32 := Scalar.muli v1798 c1_i32_1430
  let v1809 : BitVec 32 := Scalar.addi v1807 v1808
  v1809.toNat
def k0_dev62 (d0 : Dev nD) : Nat :=
  let c0_i32_1451 : BitVec 32 := 0#32
  let c1_i32_1440 : BitVec 32 := 1#32
  let v1817 : BitVec 32 := Dev.word d0
  let c4_i32_1435 : BitVec 32 := 4#32
  let v1818 : BitVec 32 := Scalar.divsi v1817 c4_i32_1435
  let c2_i32_1434 : BitVec 32 := 2#32
  let v1819 : BitVec 32 := Scalar.remsi v1818 c2_i32_1434
  let v1826 : BitVec 32 := Scalar.subi c1_i32_1440 v1819
  let c4_i32_1450 : BitVec 32 := 4#32
  let v1833 : BitVec 32 := Scalar.muli v1826 c4_i32_1450
  let v1834 : BitVec 32 := Scalar.addi c0_i32_1451 v1833
  let c1_i32_1441 : BitVec 32 := 1#32
  let v1820 : BitVec 32 := Dev.word d0
  let c2_i32_1437 : BitVec 32 := 2#32
  let v1821 : BitVec 32 := Scalar.divsi v1820 c2_i32_1437
  let c2_i32_1436 : BitVec 32 := 2#32
  let v1822 : BitVec 32 := Scalar.remsi v1821 c2_i32_1436
  let v1827 : BitVec 32 := Scalar.subi c1_i32_1441 v1822
  let c2_i32_1452 : BitVec 32 := 2#32
  let v1835 : BitVec 32 := Scalar.muli v1827 c2_i32_1452
  let v1836 : BitVec 32 := Scalar.addi v1834 v1835
  let v1823 : BitVec 32 := Dev.word d0
  let c1_i32_1439 : BitVec 32 := 1#32
  let v1824 : BitVec 32 := Scalar.divsi v1823 c1_i32_1439
  let c2_i32_1438 : BitVec 32 := 2#32
  let v1825 : BitVec 32 := Scalar.remsi v1824 c2_i32_1438
  let c1_i32_1453 : BitVec 32 := 1#32
  let v1837 : BitVec 32 := Scalar.muli v1825 c1_i32_1453
  let v1838 : BitVec 32 := Scalar.addi v1836 v1837
  v1838.toNat
def k0_dev63 (d0 : Dev nD) : Nat :=
  let c0_i32_1475 : BitVec 32 := 0#32
  let c1_i32_1463 : BitVec 32 := 1#32
  let v1846 : BitVec 32 := Dev.word d0
  let c4_i32_1458 : BitVec 32 := 4#32
  let v1847 : BitVec 32 := Scalar.divsi v1846 c4_i32_1458
  let c2_i32_1457 : BitVec 32 := 2#32
  let v1848 : BitVec 32 := Scalar.remsi v1847 c2_i32_1457
  let v1855 : BitVec 32 := Scalar.subi c1_i32_1463 v1848
  let c4_i32_1474 : BitVec 32 := 4#32
  let v1863 : BitVec 32 := Scalar.muli v1855 c4_i32_1474
  let v1864 : BitVec 32 := Scalar.addi c0_i32_1475 v1863
  let c1_i32_1464 : BitVec 32 := 1#32
  let v1849 : BitVec 32 := Dev.word d0
  let c2_i32_1460 : BitVec 32 := 2#32
  let v1850 : BitVec 32 := Scalar.divsi v1849 c2_i32_1460
  let c2_i32_1459 : BitVec 32 := 2#32
  let v1851 : BitVec 32 := Scalar.remsi v1850 c2_i32_1459
  let v1856 : BitVec 32 := Scalar.subi c1_i32_1464 v1851
  let c2_i32_1476 : BitVec 32 := 2#32
  let v1865 : BitVec 32 := Scalar.muli v1856 c2_i32_1476
  let v1866 : BitVec 32 := Scalar.addi v1864 v1865
  let c1_i32_1465 : BitVec 32 := 1#32
  let v1852 : BitVec 32 := Dev.word d0
  let c1_i32_1462 : BitVec 32 := 1#32
  let v1853 : BitVec 32 := Scalar.divsi v1852 c1_i32_1462
  let c2_i32_1461 : BitVec 32 := 2#32
  let v1854 : BitVec 32 := Scalar.remsi v1853 c2_i32_1461
  let v1857 : BitVec 32 := Scalar.subi c1_i32_1465 v1854
  let c1_i32_1477 : BitVec 32 := 1#32
  let v1867 : BitVec 32 := Scalar.muli v1857 c1_i32_1477
  let v1868 : BitVec 32 := Scalar.addi v1866 v1867
  v1868.toNat
def k0_dev64 (d0 : Dev nD) : Nat :=
  let c0_i32_1502 : BitVec 32 := 0#32
  let v1882 : BitVec 32 := Dev.word d0
  let c4_i32_1487 : BitVec 32 := 4#32
  let v1883 : BitVec 32 := Scalar.divsi v1882 c4_i32_1487
  let c2_i32_1486 : BitVec 32 := 2#32
  let v1884 : BitVec 32 := Scalar.remsi v1883 c2_i32_1486
  let c4_i32_1501 : BitVec 32 := 4#32
  let v1897 : BitVec 32 := Scalar.muli v1884 c4_i32_1501
  let v1898 : BitVec 32 := Scalar.addi c0_i32_1502 v1897
  let v1885 : BitVec 32 := Dev.word d0
  let c2_i32_1489 : BitVec 32 := 2#32
  let v1886 : BitVec 32 := Scalar.divsi v1885 c2_i32_1489
  let c2_i32_1488 : BitVec 32 := 2#32
  let v1887 : BitVec 32 := Scalar.remsi v1886 c2_i32_1488
  let c2_i32_1503 : BitVec 32 := 2#32
  let v1899 : BitVec 32 := Scalar.muli v1887 c2_i32_1503
  let v1900 : BitVec 32 := Scalar.addi v1898 v1899
  let c1_i32_1492 : BitVec 32 := 1#32
  let v1888 : BitVec 32 := Dev.word d0
  let c1_i32_1491 : BitVec 32 := 1#32
  let v1889 : BitVec 32 := Scalar.divsi v1888 c1_i32_1491
  let c2_i32_1490 : BitVec 32 := 2#32
  let v1890 : BitVec 32 := Scalar.remsi v1889 c2_i32_1490
  let v1891 : BitVec 32 := Scalar.subi c1_i32_1492 v1890
  let c1_i32_1504 : BitVec 32 := 1#32
  let v1901 : BitVec 32 := Scalar.muli v1891 c1_i32_1504
  let v1902 : BitVec 32 := Scalar.addi v1900 v1901
  v1902.toNat
def k0_dev65 (d0 : Dev nD) : Nat :=
  let c0_i32_1524 : BitVec 32 := 0#32
  let v1910 : BitVec 32 := Dev.word d0
  let c4_i32_1509 : BitVec 32 := 4#32
  let v1911 : BitVec 32 := Scalar.divsi v1910 c4_i32_1509
  let c2_i32_1508 : BitVec 32 := 2#32
  let v1912 : BitVec 32 := Scalar.remsi v1911 c2_i32_1508
  let c4_i32_1523 : BitVec 32 := 4#32
  let v1925 : BitVec 32 := Scalar.muli v1912 c4_i32_1523
  let v1926 : BitVec 32 := Scalar.addi c0_i32_1524 v1925
  let c1_i32_1514 : BitVec 32 := 1#32
  let v1913 : BitVec 32 := Dev.word d0
  let c2_i32_1511 : BitVec 32 := 2#32
  let v1914 : BitVec 32 := Scalar.divsi v1913 c2_i32_1511
  let c2_i32_1510 : BitVec 32 := 2#32
  let v1915 : BitVec 32 := Scalar.remsi v1914 c2_i32_1510
  let v1919 : BitVec 32 := Scalar.subi c1_i32_1514 v1915
  let c2_i32_1525 : BitVec 32 := 2#32
  let v1927 : BitVec 32 := Scalar.muli v1919 c2_i32_1525
  let v1928 : BitVec 32 := Scalar.addi v1926 v1927
  let v1916 : BitVec 32 := Dev.word d0
  let c1_i32_1513 : BitVec 32 := 1#32
  let v1917 : BitVec 32 := Scalar.divsi v1916 c1_i32_1513
  let c2_i32_1512 : BitVec 32 := 2#32
  let v1918 : BitVec 32 := Scalar.remsi v1917 c2_i32_1512
  let c1_i32_1526 : BitVec 32 := 1#32
  let v1929 : BitVec 32 := Scalar.muli v1918 c1_i32_1526
  let v1930 : BitVec 32 := Scalar.addi v1928 v1929
  v1930.toNat
def k0_dev66 (d0 : Dev nD) : Nat :=
  let c0_i32_1547 : BitVec 32 := 0#32
  let v1938 : BitVec 32 := Dev.word d0
  let c4_i32_1531 : BitVec 32 := 4#32
  let v1939 : BitVec 32 := Scalar.divsi v1938 c4_i32_1531
  let c2_i32_1530 : BitVec 32 := 2#32
  let v1940 : BitVec 32 := Scalar.remsi v1939 c2_i32_1530
  let c4_i32_1546 : BitVec 32 := 4#32
  let v1954 : BitVec 32 := Scalar.muli v1940 c4_i32_1546
  let v1955 : BitVec 32 := Scalar.addi c0_i32_1547 v1954
  let c1_i32_1536 : BitVec 32 := 1#32
  let v1941 : BitVec 32 := Dev.word d0
  let c2_i32_1533 : BitVec 32 := 2#32
  let v1942 : BitVec 32 := Scalar.divsi v1941 c2_i32_1533
  let c2_i32_1532 : BitVec 32 := 2#32
  let v1943 : BitVec 32 := Scalar.remsi v1942 c2_i32_1532
  let v1947 : BitVec 32 := Scalar.subi c1_i32_1536 v1943
  let c2_i32_1548 : BitVec 32 := 2#32
  let v1956 : BitVec 32 := Scalar.muli v1947 c2_i32_1548
  let v1957 : BitVec 32 := Scalar.addi v1955 v1956
  let c1_i32_1537 : BitVec 32 := 1#32
  let v1944 : BitVec 32 := Dev.word d0
  let c1_i32_1535 : BitVec 32 := 1#32
  let v1945 : BitVec 32 := Scalar.divsi v1944 c1_i32_1535
  let c2_i32_1534 : BitVec 32 := 2#32
  let v1946 : BitVec 32 := Scalar.remsi v1945 c2_i32_1534
  let v1948 : BitVec 32 := Scalar.subi c1_i32_1537 v1946
  let c1_i32_1549 : BitVec 32 := 1#32
  let v1958 : BitVec 32 := Scalar.muli v1948 c1_i32_1549
  let v1959 : BitVec 32 := Scalar.addi v1957 v1958
  v1959.toNat
def k0_dev67 (d0 : Dev nD) : Nat :=
  let c0_i32_1569 : BitVec 32 := 0#32
  let c1_i32_1559 : BitVec 32 := 1#32
  let v1967 : BitVec 32 := Dev.word d0
  let c4_i32_1554 : BitVec 32 := 4#32
  let v1968 : BitVec 32 := Scalar.divsi v1967 c4_i32_1554
  let c2_i32_1553 : BitVec 32 := 2#32
  let v1969 : BitVec 32 := Scalar.remsi v1968 c2_i32_1553
  let v1976 : BitVec 32 := Scalar.subi c1_i32_1559 v1969
  let c4_i32_1568 : BitVec 32 := 4#32
  let v1982 : BitVec 32 := Scalar.muli v1976 c4_i32_1568
  let v1983 : BitVec 32 := Scalar.addi c0_i32_1569 v1982
  let v1970 : BitVec 32 := Dev.word d0
  let c2_i32_1556 : BitVec 32 := 2#32
  let v1971 : BitVec 32 := Scalar.divsi v1970 c2_i32_1556
  let c2_i32_1555 : BitVec 32 := 2#32
  let v1972 : BitVec 32 := Scalar.remsi v1971 c2_i32_1555
  let c2_i32_1570 : BitVec 32 := 2#32
  let v1984 : BitVec 32 := Scalar.muli v1972 c2_i32_1570
  let v1985 : BitVec 32 := Scalar.addi v1983 v1984
  let v1973 : BitVec 32 := Dev.word d0
  let c1_i32_1558 : BitVec 32 := 1#32
  let v1974 : BitVec 32 := Scalar.divsi v1973 c1_i32_1558
  let c2_i32_1557 : BitVec 32 := 2#32
  let v1975 : BitVec 32 := Scalar.remsi v1974 c2_i32_1557
  let c1_i32_1571 : BitVec 32 := 1#32
  let v1986 : BitVec 32 := Scalar.muli v1975 c1_i32_1571
  let v1987 : BitVec 32 := Scalar.addi v1985 v1986
  v1987.toNat
def k0_dev68 (d0 : Dev nD) : Nat :=
  let c0_i32_1592 : BitVec 32 := 0#32
  let c1_i32_1581 : BitVec 32 := 1#32
  let v1995 : BitVec 32 := Dev.word d0
  let c4_i32_1576 : BitVec 32 := 4#32
  let v1996 : BitVec 32 := Scalar.divsi v1995 c4_i32_1576
  let c2_i32_1575 : BitVec 32 := 2#32
  let v1997 : BitVec 32 := Scalar.remsi v1996 c2_i32_1575
  let v2004 : BitVec 32 := Scalar.subi c1_i32_1581 v1997
  let c4_i32_1591 : BitVec 32 := 4#32
  let v2011 : BitVec 32 := Scalar.muli v2004 c4_i32_1591
  let v2012 : BitVec 32 := Scalar.addi c0_i32_1592 v2011
  let v1998 : BitVec 32 := Dev.word d0
  let c2_i32_1578 : BitVec 32 := 2#32
  let v1999 : BitVec 32 := Scalar.divsi v1998 c2_i32_1578
  let c2_i32_1577 : BitVec 32 := 2#32
  let v2000 : BitVec 32 := Scalar.remsi v1999 c2_i32_1577
  let c2_i32_1593 : BitVec 32 := 2#32
  let v2013 : BitVec 32 := Scalar.muli v2000 c2_i32_1593
  let v2014 : BitVec 32 := Scalar.addi v2012 v2013
  let c1_i32_1582 : BitVec 32 := 1#32
  let v2001 : BitVec 32 := Dev.word d0
  let c1_i32_1580 : BitVec 32 := 1#32
  let v2002 : BitVec 32 := Scalar.divsi v2001 c1_i32_1580
  let c2_i32_1579 : BitVec 32 := 2#32
  let v2003 : BitVec 32 := Scalar.remsi v2002 c2_i32_1579
  let v2005 : BitVec 32 := Scalar.subi c1_i32_1582 v2003
  let c1_i32_1594 : BitVec 32 := 1#32
  let v2015 : BitVec 32 := Scalar.muli v2005 c1_i32_1594
  let v2016 : BitVec 32 := Scalar.addi v2014 v2015
  v2016.toNat
def k0_dev69 (d0 : Dev nD) : Nat :=
  let c0_i32_1615 : BitVec 32 := 0#32
  let c1_i32_1604 : BitVec 32 := 1#32
  let v2024 : BitVec 32 := Dev.word d0
  let c4_i32_1599 : BitVec 32 := 4#32
  let v2025 : BitVec 32 := Scalar.divsi v2024 c4_i32_1599
  let c2_i32_1598 : BitVec 32 := 2#32
  let v2026 : BitVec 32 := Scalar.remsi v2025 c2_i32_1598
  let v2033 : BitVec 32 := Scalar.subi c1_i32_1604 v2026
  let c4_i32_1614 : BitVec 32 := 4#32
  let v2040 : BitVec 32 := Scalar.muli v2033 c4_i32_1614
  let v2041 : BitVec 32 := Scalar.addi c0_i32_1615 v2040
  let c1_i32_1605 : BitVec 32 := 1#32
  let v2027 : BitVec 32 := Dev.word d0
  let c2_i32_1601 : BitVec 32 := 2#32
  let v2028 : BitVec 32 := Scalar.divsi v2027 c2_i32_1601
  let c2_i32_1600 : BitVec 32 := 2#32
  let v2029 : BitVec 32 := Scalar.remsi v2028 c2_i32_1600
  let v2034 : BitVec 32 := Scalar.subi c1_i32_1605 v2029
  let c2_i32_1616 : BitVec 32 := 2#32
  let v2042 : BitVec 32 := Scalar.muli v2034 c2_i32_1616
  let v2043 : BitVec 32 := Scalar.addi v2041 v2042
  let v2030 : BitVec 32 := Dev.word d0
  let c1_i32_1603 : BitVec 32 := 1#32
  let v2031 : BitVec 32 := Scalar.divsi v2030 c1_i32_1603
  let c2_i32_1602 : BitVec 32 := 2#32
  let v2032 : BitVec 32 := Scalar.remsi v2031 c2_i32_1602
  let c1_i32_1617 : BitVec 32 := 1#32
  let v2044 : BitVec 32 := Scalar.muli v2032 c1_i32_1617
  let v2045 : BitVec 32 := Scalar.addi v2043 v2044
  v2045.toNat
def k0_dev70 (d0 : Dev nD) : Nat :=
  let c0_i32_1639 : BitVec 32 := 0#32
  let c1_i32_1627 : BitVec 32 := 1#32
  let v2053 : BitVec 32 := Dev.word d0
  let c4_i32_1622 : BitVec 32 := 4#32
  let v2054 : BitVec 32 := Scalar.divsi v2053 c4_i32_1622
  let c2_i32_1621 : BitVec 32 := 2#32
  let v2055 : BitVec 32 := Scalar.remsi v2054 c2_i32_1621
  let v2062 : BitVec 32 := Scalar.subi c1_i32_1627 v2055
  let c4_i32_1638 : BitVec 32 := 4#32
  let v2070 : BitVec 32 := Scalar.muli v2062 c4_i32_1638
  let v2071 : BitVec 32 := Scalar.addi c0_i32_1639 v2070
  let c1_i32_1628 : BitVec 32 := 1#32
  let v2056 : BitVec 32 := Dev.word d0
  let c2_i32_1624 : BitVec 32 := 2#32
  let v2057 : BitVec 32 := Scalar.divsi v2056 c2_i32_1624
  let c2_i32_1623 : BitVec 32 := 2#32
  let v2058 : BitVec 32 := Scalar.remsi v2057 c2_i32_1623
  let v2063 : BitVec 32 := Scalar.subi c1_i32_1628 v2058
  let c2_i32_1640 : BitVec 32 := 2#32
  let v2072 : BitVec 32 := Scalar.muli v2063 c2_i32_1640
  let v2073 : BitVec 32 := Scalar.addi v2071 v2072
  let c1_i32_1629 : BitVec 32 := 1#32
  let v2059 : BitVec 32 := Dev.word d0
  let c1_i32_1626 : BitVec 32 := 1#32
  let v2060 : BitVec 32 := Scalar.divsi v2059 c1_i32_1626
  let c2_i32_1625 : BitVec 32 := 2#32
  let v2061 : BitVec 32 := Scalar.remsi v2060 c2_i32_1625
  let v2064 : BitVec 32 := Scalar.subi c1_i32_1629 v2061
  let c1_i32_1641 : BitVec 32 := 1#32
  let v2074 : BitVec 32 := Scalar.muli v2064 c1_i32_1641
  let v2075 : BitVec 32 := Scalar.addi v2073 v2074
  v2075.toNat
def k0_off33 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c32_i32 : BitVec 32 := 32#32
  let v2083 : BitVec 32 := Scalar.muli v12 c32_i32
  let c0_i32_1648 : BitVec 32 := 0#32
  ![v2083.toNat, 0]
def k0_off34 (d0 : Dev nD) : Fin 2 → Nat :=
  let c4_i32_1656 : BitVec 32 := 4#32
  let v2089 : BitVec 32 := Dev.word d0
  let c4_i32_1650 : BitVec 32 := 4#32
  let v2090 : BitVec 32 := Scalar.divsi v2089 c4_i32_1650
  let c2_i32_1649 : BitVec 32 := 2#32
  let v2091 : BitVec 32 := Scalar.remsi v2090 c2_i32_1649
  let v2099 : BitVec 32 := Scalar.muli c4_i32_1656 v2091
  let c2_i32_1657 : BitVec 32 := 2#32
  let v2092 : BitVec 32 := Dev.word d0
  let c2_i32_1652 : BitVec 32 := 2#32
  let v2093 : BitVec 32 := Scalar.divsi v2092 c2_i32_1652
  let c2_i32_1651 : BitVec 32 := 2#32
  let v2094 : BitVec 32 := Scalar.remsi v2093 c2_i32_1651
  let v2100 : BitVec 32 := Scalar.muli c2_i32_1657 v2094
  let v2101 : BitVec 32 := Scalar.addi v2099 v2100
  let c1_i32_1655 : BitVec 32 := 1#32
  let v2095 : BitVec 32 := Dev.word d0
  let c1_i32_1654 : BitVec 32 := 1#32
  let v2096 : BitVec 32 := Scalar.divsi v2095 c1_i32_1654
  let c2_i32_1653 : BitVec 32 := 2#32
  let v2097 : BitVec 32 := Scalar.remsi v2096 c2_i32_1653
  let v2098 : BitVec 32 := Scalar.subi c1_i32_1655 v2097
  let v2102 : BitVec 32 := Scalar.addi v2101 v2098
  let c32_i32_1658 : BitVec 32 := 32#32
  let v2103 : BitVec 32 := Scalar.muli v2102 c32_i32_1658
  let c0_i32_1670 : BitVec 32 := 0#32
  ![v2103.toNat, 0]
def k0_dev71 (d0 : Dev nD) : Nat :=
  let c0_i32_1665 : BitVec 32 := 0#32
  let v2089 : BitVec 32 := Dev.word d0
  let c4_i32_1650 : BitVec 32 := 4#32
  let v2090 : BitVec 32 := Scalar.divsi v2089 c4_i32_1650
  let c2_i32_1649 : BitVec 32 := 2#32
  let v2091 : BitVec 32 := Scalar.remsi v2090 c2_i32_1649
  let c4_i32_1664 : BitVec 32 := 4#32
  let v2104 : BitVec 32 := Scalar.muli v2091 c4_i32_1664
  let v2105 : BitVec 32 := Scalar.addi c0_i32_1665 v2104
  let v2092 : BitVec 32 := Dev.word d0
  let c2_i32_1652 : BitVec 32 := 2#32
  let v2093 : BitVec 32 := Scalar.divsi v2092 c2_i32_1652
  let c2_i32_1651 : BitVec 32 := 2#32
  let v2094 : BitVec 32 := Scalar.remsi v2093 c2_i32_1651
  let c2_i32_1666 : BitVec 32 := 2#32
  let v2106 : BitVec 32 := Scalar.muli v2094 c2_i32_1666
  let v2107 : BitVec 32 := Scalar.addi v2105 v2106
  let c1_i32_1655 : BitVec 32 := 1#32
  let v2095 : BitVec 32 := Dev.word d0
  let c1_i32_1654 : BitVec 32 := 1#32
  let v2096 : BitVec 32 := Scalar.divsi v2095 c1_i32_1654
  let c2_i32_1653 : BitVec 32 := 2#32
  let v2097 : BitVec 32 := Scalar.remsi v2096 c2_i32_1653
  let v2098 : BitVec 32 := Scalar.subi c1_i32_1655 v2097
  let c1_i32_1667 : BitVec 32 := 1#32
  let v2108 : BitVec 32 := Scalar.muli v2098 c1_i32_1667
  let v2109 : BitVec 32 := Scalar.addi v2107 v2108
  v2109.toNat
def k0_off35 (d0 : Dev nD) : Fin 2 → Nat :=
  let c4_i32_1678 : BitVec 32 := 4#32
  let v2117 : BitVec 32 := Dev.word d0
  let c4_i32_1672 : BitVec 32 := 4#32
  let v2118 : BitVec 32 := Scalar.divsi v2117 c4_i32_1672
  let c2_i32_1671 : BitVec 32 := 2#32
  let v2119 : BitVec 32 := Scalar.remsi v2118 c2_i32_1671
  let v2127 : BitVec 32 := Scalar.muli c4_i32_1678 v2119
  let c2_i32_1679 : BitVec 32 := 2#32
  let c1_i32_1677 : BitVec 32 := 1#32
  let v2120 : BitVec 32 := Dev.word d0
  let c2_i32_1674 : BitVec 32 := 2#32
  let v2121 : BitVec 32 := Scalar.divsi v2120 c2_i32_1674
  let c2_i32_1673 : BitVec 32 := 2#32
  let v2122 : BitVec 32 := Scalar.remsi v2121 c2_i32_1673
  let v2126 : BitVec 32 := Scalar.subi c1_i32_1677 v2122
  let v2128 : BitVec 32 := Scalar.muli c2_i32_1679 v2126
  let v2129 : BitVec 32 := Scalar.addi v2127 v2128
  let v2123 : BitVec 32 := Dev.word d0
  let c1_i32_1676 : BitVec 32 := 1#32
  let v2124 : BitVec 32 := Scalar.divsi v2123 c1_i32_1676
  let c2_i32_1675 : BitVec 32 := 2#32
  let v2125 : BitVec 32 := Scalar.remsi v2124 c2_i32_1675
  let v2130 : BitVec 32 := Scalar.addi v2129 v2125
  let c32_i32_1680 : BitVec 32 := 32#32
  let v2131 : BitVec 32 := Scalar.muli v2130 c32_i32_1680
  let c0_i32_1692 : BitVec 32 := 0#32
  ![v2131.toNat, 0]
def k0_dev72 (d0 : Dev nD) : Nat :=
  let c0_i32_1687 : BitVec 32 := 0#32
  let v2117 : BitVec 32 := Dev.word d0
  let c4_i32_1672 : BitVec 32 := 4#32
  let v2118 : BitVec 32 := Scalar.divsi v2117 c4_i32_1672
  let c2_i32_1671 : BitVec 32 := 2#32
  let v2119 : BitVec 32 := Scalar.remsi v2118 c2_i32_1671
  let c4_i32_1686 : BitVec 32 := 4#32
  let v2132 : BitVec 32 := Scalar.muli v2119 c4_i32_1686
  let v2133 : BitVec 32 := Scalar.addi c0_i32_1687 v2132
  let c1_i32_1677 : BitVec 32 := 1#32
  let v2120 : BitVec 32 := Dev.word d0
  let c2_i32_1674 : BitVec 32 := 2#32
  let v2121 : BitVec 32 := Scalar.divsi v2120 c2_i32_1674
  let c2_i32_1673 : BitVec 32 := 2#32
  let v2122 : BitVec 32 := Scalar.remsi v2121 c2_i32_1673
  let v2126 : BitVec 32 := Scalar.subi c1_i32_1677 v2122
  let c2_i32_1688 : BitVec 32 := 2#32
  let v2134 : BitVec 32 := Scalar.muli v2126 c2_i32_1688
  let v2135 : BitVec 32 := Scalar.addi v2133 v2134
  let v2123 : BitVec 32 := Dev.word d0
  let c1_i32_1676 : BitVec 32 := 1#32
  let v2124 : BitVec 32 := Scalar.divsi v2123 c1_i32_1676
  let c2_i32_1675 : BitVec 32 := 2#32
  let v2125 : BitVec 32 := Scalar.remsi v2124 c2_i32_1675
  let c1_i32_1689 : BitVec 32 := 1#32
  let v2136 : BitVec 32 := Scalar.muli v2125 c1_i32_1689
  let v2137 : BitVec 32 := Scalar.addi v2135 v2136
  v2137.toNat
def k0_off36 (d0 : Dev nD) : Fin 2 → Nat :=
  let c4_i32_1701 : BitVec 32 := 4#32
  let v2145 : BitVec 32 := Dev.word d0
  let c4_i32_1694 : BitVec 32 := 4#32
  let v2146 : BitVec 32 := Scalar.divsi v2145 c4_i32_1694
  let c2_i32_1693 : BitVec 32 := 2#32
  let v2147 : BitVec 32 := Scalar.remsi v2146 c2_i32_1693
  let v2156 : BitVec 32 := Scalar.muli c4_i32_1701 v2147
  let c2_i32_1702 : BitVec 32 := 2#32
  let c1_i32_1699 : BitVec 32 := 1#32
  let v2148 : BitVec 32 := Dev.word d0
  let c2_i32_1696 : BitVec 32 := 2#32
  let v2149 : BitVec 32 := Scalar.divsi v2148 c2_i32_1696
  let c2_i32_1695 : BitVec 32 := 2#32
  let v2150 : BitVec 32 := Scalar.remsi v2149 c2_i32_1695
  let v2154 : BitVec 32 := Scalar.subi c1_i32_1699 v2150
  let v2157 : BitVec 32 := Scalar.muli c2_i32_1702 v2154
  let v2158 : BitVec 32 := Scalar.addi v2156 v2157
  let c1_i32_1700 : BitVec 32 := 1#32
  let v2151 : BitVec 32 := Dev.word d0
  let c1_i32_1698 : BitVec 32 := 1#32
  let v2152 : BitVec 32 := Scalar.divsi v2151 c1_i32_1698
  let c2_i32_1697 : BitVec 32 := 2#32
  let v2153 : BitVec 32 := Scalar.remsi v2152 c2_i32_1697
  let v2155 : BitVec 32 := Scalar.subi c1_i32_1700 v2153
  let v2159 : BitVec 32 := Scalar.addi v2158 v2155
  let c32_i32_1703 : BitVec 32 := 32#32
  let v2160 : BitVec 32 := Scalar.muli v2159 c32_i32_1703
  let c0_i32_1715 : BitVec 32 := 0#32
  ![v2160.toNat, 0]
def k0_dev73 (d0 : Dev nD) : Nat :=
  let c0_i32_1710 : BitVec 32 := 0#32
  let v2145 : BitVec 32 := Dev.word d0
  let c4_i32_1694 : BitVec 32 := 4#32
  let v2146 : BitVec 32 := Scalar.divsi v2145 c4_i32_1694
  let c2_i32_1693 : BitVec 32 := 2#32
  let v2147 : BitVec 32 := Scalar.remsi v2146 c2_i32_1693
  let c4_i32_1709 : BitVec 32 := 4#32
  let v2161 : BitVec 32 := Scalar.muli v2147 c4_i32_1709
  let v2162 : BitVec 32 := Scalar.addi c0_i32_1710 v2161
  let c1_i32_1699 : BitVec 32 := 1#32
  let v2148 : BitVec 32 := Dev.word d0
  let c2_i32_1696 : BitVec 32 := 2#32
  let v2149 : BitVec 32 := Scalar.divsi v2148 c2_i32_1696
  let c2_i32_1695 : BitVec 32 := 2#32
  let v2150 : BitVec 32 := Scalar.remsi v2149 c2_i32_1695
  let v2154 : BitVec 32 := Scalar.subi c1_i32_1699 v2150
  let c2_i32_1711 : BitVec 32 := 2#32
  let v2163 : BitVec 32 := Scalar.muli v2154 c2_i32_1711
  let v2164 : BitVec 32 := Scalar.addi v2162 v2163
  let c1_i32_1700 : BitVec 32 := 1#32
  let v2151 : BitVec 32 := Dev.word d0
  let c1_i32_1698 : BitVec 32 := 1#32
  let v2152 : BitVec 32 := Scalar.divsi v2151 c1_i32_1698
  let c2_i32_1697 : BitVec 32 := 2#32
  let v2153 : BitVec 32 := Scalar.remsi v2152 c2_i32_1697
  let v2155 : BitVec 32 := Scalar.subi c1_i32_1700 v2153
  let c1_i32_1712 : BitVec 32 := 1#32
  let v2165 : BitVec 32 := Scalar.muli v2155 c1_i32_1712
  let v2166 : BitVec 32 := Scalar.addi v2164 v2165
  v2166.toNat
def k0_off37 (d0 : Dev nD) : Fin 2 → Nat :=
  let c4_i32_1723 : BitVec 32 := 4#32
  let c1_i32_1722 : BitVec 32 := 1#32
  let v2174 : BitVec 32 := Dev.word d0
  let c4_i32_1717 : BitVec 32 := 4#32
  let v2175 : BitVec 32 := Scalar.divsi v2174 c4_i32_1717
  let c2_i32_1716 : BitVec 32 := 2#32
  let v2176 : BitVec 32 := Scalar.remsi v2175 c2_i32_1716
  let v2183 : BitVec 32 := Scalar.subi c1_i32_1722 v2176
  let v2184 : BitVec 32 := Scalar.muli c4_i32_1723 v2183
  let c2_i32_1724 : BitVec 32 := 2#32
  let v2177 : BitVec 32 := Dev.word d0
  let c2_i32_1719 : BitVec 32 := 2#32
  let v2178 : BitVec 32 := Scalar.divsi v2177 c2_i32_1719
  let c2_i32_1718 : BitVec 32 := 2#32
  let v2179 : BitVec 32 := Scalar.remsi v2178 c2_i32_1718
  let v2185 : BitVec 32 := Scalar.muli c2_i32_1724 v2179
  let v2186 : BitVec 32 := Scalar.addi v2184 v2185
  let v2180 : BitVec 32 := Dev.word d0
  let c1_i32_1721 : BitVec 32 := 1#32
  let v2181 : BitVec 32 := Scalar.divsi v2180 c1_i32_1721
  let c2_i32_1720 : BitVec 32 := 2#32
  let v2182 : BitVec 32 := Scalar.remsi v2181 c2_i32_1720
  let v2187 : BitVec 32 := Scalar.addi v2186 v2182
  let c32_i32_1725 : BitVec 32 := 32#32
  let v2188 : BitVec 32 := Scalar.muli v2187 c32_i32_1725
  let c0_i32_1737 : BitVec 32 := 0#32
  ![v2188.toNat, 0]
def k0_dev74 (d0 : Dev nD) : Nat :=
  let c0_i32_1732 : BitVec 32 := 0#32
  let c1_i32_1722 : BitVec 32 := 1#32
  let v2174 : BitVec 32 := Dev.word d0
  let c4_i32_1717 : BitVec 32 := 4#32
  let v2175 : BitVec 32 := Scalar.divsi v2174 c4_i32_1717
  let c2_i32_1716 : BitVec 32 := 2#32
  let v2176 : BitVec 32 := Scalar.remsi v2175 c2_i32_1716
  let v2183 : BitVec 32 := Scalar.subi c1_i32_1722 v2176
  let c4_i32_1731 : BitVec 32 := 4#32
  let v2189 : BitVec 32 := Scalar.muli v2183 c4_i32_1731
  let v2190 : BitVec 32 := Scalar.addi c0_i32_1732 v2189
  let v2177 : BitVec 32 := Dev.word d0
  let c2_i32_1719 : BitVec 32 := 2#32
  let v2178 : BitVec 32 := Scalar.divsi v2177 c2_i32_1719
  let c2_i32_1718 : BitVec 32 := 2#32
  let v2179 : BitVec 32 := Scalar.remsi v2178 c2_i32_1718
  let c2_i32_1733 : BitVec 32 := 2#32
  let v2191 : BitVec 32 := Scalar.muli v2179 c2_i32_1733
  let v2192 : BitVec 32 := Scalar.addi v2190 v2191
  let v2180 : BitVec 32 := Dev.word d0
  let c1_i32_1721 : BitVec 32 := 1#32
  let v2181 : BitVec 32 := Scalar.divsi v2180 c1_i32_1721
  let c2_i32_1720 : BitVec 32 := 2#32
  let v2182 : BitVec 32 := Scalar.remsi v2181 c2_i32_1720
  let c1_i32_1734 : BitVec 32 := 1#32
  let v2193 : BitVec 32 := Scalar.muli v2182 c1_i32_1734
  let v2194 : BitVec 32 := Scalar.addi v2192 v2193
  v2194.toNat
def k0_off38 (d0 : Dev nD) : Fin 2 → Nat :=
  let c4_i32_1746 : BitVec 32 := 4#32
  let c1_i32_1744 : BitVec 32 := 1#32
  let v2202 : BitVec 32 := Dev.word d0
  let c4_i32_1739 : BitVec 32 := 4#32
  let v2203 : BitVec 32 := Scalar.divsi v2202 c4_i32_1739
  let c2_i32_1738 : BitVec 32 := 2#32
  let v2204 : BitVec 32 := Scalar.remsi v2203 c2_i32_1738
  let v2211 : BitVec 32 := Scalar.subi c1_i32_1744 v2204
  let v2213 : BitVec 32 := Scalar.muli c4_i32_1746 v2211
  let c2_i32_1747 : BitVec 32 := 2#32
  let v2205 : BitVec 32 := Dev.word d0
  let c2_i32_1741 : BitVec 32 := 2#32
  let v2206 : BitVec 32 := Scalar.divsi v2205 c2_i32_1741
  let c2_i32_1740 : BitVec 32 := 2#32
  let v2207 : BitVec 32 := Scalar.remsi v2206 c2_i32_1740
  let v2214 : BitVec 32 := Scalar.muli c2_i32_1747 v2207
  let v2215 : BitVec 32 := Scalar.addi v2213 v2214
  let c1_i32_1745 : BitVec 32 := 1#32
  let v2208 : BitVec 32 := Dev.word d0
  let c1_i32_1743 : BitVec 32 := 1#32
  let v2209 : BitVec 32 := Scalar.divsi v2208 c1_i32_1743
  let c2_i32_1742 : BitVec 32 := 2#32
  let v2210 : BitVec 32 := Scalar.remsi v2209 c2_i32_1742
  let v2212 : BitVec 32 := Scalar.subi c1_i32_1745 v2210
  let v2216 : BitVec 32 := Scalar.addi v2215 v2212
  let c32_i32_1748 : BitVec 32 := 32#32
  let v2217 : BitVec 32 := Scalar.muli v2216 c32_i32_1748
  let c0_i32_1760 : BitVec 32 := 0#32
  ![v2217.toNat, 0]
def k0_dev75 (d0 : Dev nD) : Nat :=
  let c0_i32_1755 : BitVec 32 := 0#32
  let c1_i32_1744 : BitVec 32 := 1#32
  let v2202 : BitVec 32 := Dev.word d0
  let c4_i32_1739 : BitVec 32 := 4#32
  let v2203 : BitVec 32 := Scalar.divsi v2202 c4_i32_1739
  let c2_i32_1738 : BitVec 32 := 2#32
  let v2204 : BitVec 32 := Scalar.remsi v2203 c2_i32_1738
  let v2211 : BitVec 32 := Scalar.subi c1_i32_1744 v2204
  let c4_i32_1754 : BitVec 32 := 4#32
  let v2218 : BitVec 32 := Scalar.muli v2211 c4_i32_1754
  let v2219 : BitVec 32 := Scalar.addi c0_i32_1755 v2218
  let v2205 : BitVec 32 := Dev.word d0
  let c2_i32_1741 : BitVec 32 := 2#32
  let v2206 : BitVec 32 := Scalar.divsi v2205 c2_i32_1741
  let c2_i32_1740 : BitVec 32 := 2#32
  let v2207 : BitVec 32 := Scalar.remsi v2206 c2_i32_1740
  let c2_i32_1756 : BitVec 32 := 2#32
  let v2220 : BitVec 32 := Scalar.muli v2207 c2_i32_1756
  let v2221 : BitVec 32 := Scalar.addi v2219 v2220
  let c1_i32_1745 : BitVec 32 := 1#32
  let v2208 : BitVec 32 := Dev.word d0
  let c1_i32_1743 : BitVec 32 := 1#32
  let v2209 : BitVec 32 := Scalar.divsi v2208 c1_i32_1743
  let c2_i32_1742 : BitVec 32 := 2#32
  let v2210 : BitVec 32 := Scalar.remsi v2209 c2_i32_1742
  let v2212 : BitVec 32 := Scalar.subi c1_i32_1745 v2210
  let c1_i32_1757 : BitVec 32 := 1#32
  let v2222 : BitVec 32 := Scalar.muli v2212 c1_i32_1757
  let v2223 : BitVec 32 := Scalar.addi v2221 v2222
  v2223.toNat
def k0_off39 (d0 : Dev nD) : Fin 2 → Nat :=
  let c4_i32_1769 : BitVec 32 := 4#32
  let c1_i32_1767 : BitVec 32 := 1#32
  let v2231 : BitVec 32 := Dev.word d0
  let c4_i32_1762 : BitVec 32 := 4#32
  let v2232 : BitVec 32 := Scalar.divsi v2231 c4_i32_1762
  let c2_i32_1761 : BitVec 32 := 2#32
  let v2233 : BitVec 32 := Scalar.remsi v2232 c2_i32_1761
  let v2240 : BitVec 32 := Scalar.subi c1_i32_1767 v2233
  let v2242 : BitVec 32 := Scalar.muli c4_i32_1769 v2240
  let c2_i32_1770 : BitVec 32 := 2#32
  let c1_i32_1768 : BitVec 32 := 1#32
  let v2234 : BitVec 32 := Dev.word d0
  let c2_i32_1764 : BitVec 32 := 2#32
  let v2235 : BitVec 32 := Scalar.divsi v2234 c2_i32_1764
  let c2_i32_1763 : BitVec 32 := 2#32
  let v2236 : BitVec 32 := Scalar.remsi v2235 c2_i32_1763
  let v2241 : BitVec 32 := Scalar.subi c1_i32_1768 v2236
  let v2243 : BitVec 32 := Scalar.muli c2_i32_1770 v2241
  let v2244 : BitVec 32 := Scalar.addi v2242 v2243
  let v2237 : BitVec 32 := Dev.word d0
  let c1_i32_1766 : BitVec 32 := 1#32
  let v2238 : BitVec 32 := Scalar.divsi v2237 c1_i32_1766
  let c2_i32_1765 : BitVec 32 := 2#32
  let v2239 : BitVec 32 := Scalar.remsi v2238 c2_i32_1765
  let v2245 : BitVec 32 := Scalar.addi v2244 v2239
  let c32_i32_1771 : BitVec 32 := 32#32
  let v2246 : BitVec 32 := Scalar.muli v2245 c32_i32_1771
  let c0_i32_1783 : BitVec 32 := 0#32
  ![v2246.toNat, 0]
def k0_dev76 (d0 : Dev nD) : Nat :=
  let c0_i32_1778 : BitVec 32 := 0#32
  let c1_i32_1767 : BitVec 32 := 1#32
  let v2231 : BitVec 32 := Dev.word d0
  let c4_i32_1762 : BitVec 32 := 4#32
  let v2232 : BitVec 32 := Scalar.divsi v2231 c4_i32_1762
  let c2_i32_1761 : BitVec 32 := 2#32
  let v2233 : BitVec 32 := Scalar.remsi v2232 c2_i32_1761
  let v2240 : BitVec 32 := Scalar.subi c1_i32_1767 v2233
  let c4_i32_1777 : BitVec 32 := 4#32
  let v2247 : BitVec 32 := Scalar.muli v2240 c4_i32_1777
  let v2248 : BitVec 32 := Scalar.addi c0_i32_1778 v2247
  let c1_i32_1768 : BitVec 32 := 1#32
  let v2234 : BitVec 32 := Dev.word d0
  let c2_i32_1764 : BitVec 32 := 2#32
  let v2235 : BitVec 32 := Scalar.divsi v2234 c2_i32_1764
  let c2_i32_1763 : BitVec 32 := 2#32
  let v2236 : BitVec 32 := Scalar.remsi v2235 c2_i32_1763
  let v2241 : BitVec 32 := Scalar.subi c1_i32_1768 v2236
  let c2_i32_1779 : BitVec 32 := 2#32
  let v2249 : BitVec 32 := Scalar.muli v2241 c2_i32_1779
  let v2250 : BitVec 32 := Scalar.addi v2248 v2249
  let v2237 : BitVec 32 := Dev.word d0
  let c1_i32_1766 : BitVec 32 := 1#32
  let v2238 : BitVec 32 := Scalar.divsi v2237 c1_i32_1766
  let c2_i32_1765 : BitVec 32 := 2#32
  let v2239 : BitVec 32 := Scalar.remsi v2238 c2_i32_1765
  let c1_i32_1780 : BitVec 32 := 1#32
  let v2251 : BitVec 32 := Scalar.muli v2239 c1_i32_1780
  let v2252 : BitVec 32 := Scalar.addi v2250 v2251
  v2252.toNat
def k0_off40 (d0 : Dev nD) : Fin 2 → Nat :=
  let c4_i32_1793 : BitVec 32 := 4#32
  let c1_i32_1790 : BitVec 32 := 1#32
  let v2260 : BitVec 32 := Dev.word d0
  let c4_i32_1785 : BitVec 32 := 4#32
  let v2261 : BitVec 32 := Scalar.divsi v2260 c4_i32_1785
  let c2_i32_1784 : BitVec 32 := 2#32
  let v2262 : BitVec 32 := Scalar.remsi v2261 c2_i32_1784
  let v2269 : BitVec 32 := Scalar.subi c1_i32_1790 v2262
  let v2272 : BitVec 32 := Scalar.muli c4_i32_1793 v2269
  let c2_i32_1794 : BitVec 32 := 2#32
  let c1_i32_1791 : BitVec 32 := 1#32
  let v2263 : BitVec 32 := Dev.word d0
  let c2_i32_1787 : BitVec 32 := 2#32
  let v2264 : BitVec 32 := Scalar.divsi v2263 c2_i32_1787
  let c2_i32_1786 : BitVec 32 := 2#32
  let v2265 : BitVec 32 := Scalar.remsi v2264 c2_i32_1786
  let v2270 : BitVec 32 := Scalar.subi c1_i32_1791 v2265
  let v2273 : BitVec 32 := Scalar.muli c2_i32_1794 v2270
  let v2274 : BitVec 32 := Scalar.addi v2272 v2273
  let c1_i32_1792 : BitVec 32 := 1#32
  let v2266 : BitVec 32 := Dev.word d0
  let c1_i32_1789 : BitVec 32 := 1#32
  let v2267 : BitVec 32 := Scalar.divsi v2266 c1_i32_1789
  let c2_i32_1788 : BitVec 32 := 2#32
  let v2268 : BitVec 32 := Scalar.remsi v2267 c2_i32_1788
  let v2271 : BitVec 32 := Scalar.subi c1_i32_1792 v2268
  let v2275 : BitVec 32 := Scalar.addi v2274 v2271
  let c32_i32_1795 : BitVec 32 := 32#32
  let v2276 : BitVec 32 := Scalar.muli v2275 c32_i32_1795
  let c0_i32_1807 : BitVec 32 := 0#32
  ![v2276.toNat, 0]
def k0_dev77 (d0 : Dev nD) : Nat :=
  let c0_i32_1802 : BitVec 32 := 0#32
  let c1_i32_1790 : BitVec 32 := 1#32
  let v2260 : BitVec 32 := Dev.word d0
  let c4_i32_1785 : BitVec 32 := 4#32
  let v2261 : BitVec 32 := Scalar.divsi v2260 c4_i32_1785
  let c2_i32_1784 : BitVec 32 := 2#32
  let v2262 : BitVec 32 := Scalar.remsi v2261 c2_i32_1784
  let v2269 : BitVec 32 := Scalar.subi c1_i32_1790 v2262
  let c4_i32_1801 : BitVec 32 := 4#32
  let v2277 : BitVec 32 := Scalar.muli v2269 c4_i32_1801
  let v2278 : BitVec 32 := Scalar.addi c0_i32_1802 v2277
  let c1_i32_1791 : BitVec 32 := 1#32
  let v2263 : BitVec 32 := Dev.word d0
  let c2_i32_1787 : BitVec 32 := 2#32
  let v2264 : BitVec 32 := Scalar.divsi v2263 c2_i32_1787
  let c2_i32_1786 : BitVec 32 := 2#32
  let v2265 : BitVec 32 := Scalar.remsi v2264 c2_i32_1786
  let v2270 : BitVec 32 := Scalar.subi c1_i32_1791 v2265
  let c2_i32_1803 : BitVec 32 := 2#32
  let v2279 : BitVec 32 := Scalar.muli v2270 c2_i32_1803
  let v2280 : BitVec 32 := Scalar.addi v2278 v2279
  let c1_i32_1792 : BitVec 32 := 1#32
  let v2266 : BitVec 32 := Dev.word d0
  let c1_i32_1789 : BitVec 32 := 1#32
  let v2267 : BitVec 32 := Scalar.divsi v2266 c1_i32_1789
  let c2_i32_1788 : BitVec 32 := 2#32
  let v2268 : BitVec 32 := Scalar.remsi v2267 c2_i32_1788
  let v2271 : BitVec 32 := Scalar.subi c1_i32_1792 v2268
  let c1_i32_1804 : BitVec 32 := 1#32
  let v2281 : BitVec 32 := Scalar.muli v2271 c1_i32_1804
  let v2282 : BitVec 32 := Scalar.addi v2280 v2281
  v2282.toNat
def k0_off41 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_1808 : BitVec 32 := 0#32
  let c0_i32_1809 : BitVec 32 := 0#32
  ![v12.toNat, 0, 0]
def k0_dev78 (d0 : Dev nD) : Nat :=
  let c0_i32_1822 : BitVec 32 := 0#32
  let v2294 : BitVec 32 := Dev.word d0
  let c4_i32_1811 : BitVec 32 := 4#32
  let v2295 : BitVec 32 := Scalar.divsi v2294 c4_i32_1811
  let c2_i32_1810 : BitVec 32 := 2#32
  let v2296 : BitVec 32 := Scalar.remsi v2295 c2_i32_1810
  let c4_i32_1821 : BitVec 32 := 4#32
  let v2304 : BitVec 32 := Scalar.muli v2296 c4_i32_1821
  let v2305 : BitVec 32 := Scalar.addi c0_i32_1822 v2304
  let v2297 : BitVec 32 := Dev.word d0
  let c2_i32_1813 : BitVec 32 := 2#32
  let v2298 : BitVec 32 := Scalar.divsi v2297 c2_i32_1813
  let c2_i32_1812 : BitVec 32 := 2#32
  let v2299 : BitVec 32 := Scalar.remsi v2298 c2_i32_1812
  let c2_i32_1823 : BitVec 32 := 2#32
  let v2306 : BitVec 32 := Scalar.muli v2299 c2_i32_1823
  let v2307 : BitVec 32 := Scalar.addi v2305 v2306
  let c1_i32_1816 : BitVec 32 := 1#32
  let v2300 : BitVec 32 := Dev.word d0
  let c1_i32_1815 : BitVec 32 := 1#32
  let v2301 : BitVec 32 := Scalar.divsi v2300 c1_i32_1815
  let c2_i32_1814 : BitVec 32 := 2#32
  let v2302 : BitVec 32 := Scalar.remsi v2301 c2_i32_1814
  let v2303 : BitVec 32 := Scalar.subi c1_i32_1816 v2302
  let c1_i32_1824 : BitVec 32 := 1#32
  let v2308 : BitVec 32 := Scalar.muli v2303 c1_i32_1824
  let v2309 : BitVec 32 := Scalar.addi v2307 v2308
  v2309.toNat
def k0_dev79 (d0 : Dev nD) : Nat :=
  let c0_i32_1839 : BitVec 32 := 0#32
  let v2316 : BitVec 32 := Dev.word d0
  let c4_i32_1828 : BitVec 32 := 4#32
  let v2317 : BitVec 32 := Scalar.divsi v2316 c4_i32_1828
  let c2_i32_1827 : BitVec 32 := 2#32
  let v2318 : BitVec 32 := Scalar.remsi v2317 c2_i32_1827
  let c4_i32_1838 : BitVec 32 := 4#32
  let v2326 : BitVec 32 := Scalar.muli v2318 c4_i32_1838
  let v2327 : BitVec 32 := Scalar.addi c0_i32_1839 v2326
  let c1_i32_1833 : BitVec 32 := 1#32
  let v2319 : BitVec 32 := Dev.word d0
  let c2_i32_1830 : BitVec 32 := 2#32
  let v2320 : BitVec 32 := Scalar.divsi v2319 c2_i32_1830
  let c2_i32_1829 : BitVec 32 := 2#32
  let v2321 : BitVec 32 := Scalar.remsi v2320 c2_i32_1829
  let v2325 : BitVec 32 := Scalar.subi c1_i32_1833 v2321
  let c2_i32_1840 : BitVec 32 := 2#32
  let v2328 : BitVec 32 := Scalar.muli v2325 c2_i32_1840
  let v2329 : BitVec 32 := Scalar.addi v2327 v2328
  let v2322 : BitVec 32 := Dev.word d0
  let c1_i32_1832 : BitVec 32 := 1#32
  let v2323 : BitVec 32 := Scalar.divsi v2322 c1_i32_1832
  let c2_i32_1831 : BitVec 32 := 2#32
  let v2324 : BitVec 32 := Scalar.remsi v2323 c2_i32_1831
  let c1_i32_1841 : BitVec 32 := 1#32
  let v2330 : BitVec 32 := Scalar.muli v2324 c1_i32_1841
  let v2331 : BitVec 32 := Scalar.addi v2329 v2330
  v2331.toNat
def k0_dev80 (d0 : Dev nD) : Nat :=
  let c0_i32_1857 : BitVec 32 := 0#32
  let v2338 : BitVec 32 := Dev.word d0
  let c4_i32_1845 : BitVec 32 := 4#32
  let v2339 : BitVec 32 := Scalar.divsi v2338 c4_i32_1845
  let c2_i32_1844 : BitVec 32 := 2#32
  let v2340 : BitVec 32 := Scalar.remsi v2339 c2_i32_1844
  let c4_i32_1856 : BitVec 32 := 4#32
  let v2349 : BitVec 32 := Scalar.muli v2340 c4_i32_1856
  let v2350 : BitVec 32 := Scalar.addi c0_i32_1857 v2349
  let c1_i32_1850 : BitVec 32 := 1#32
  let v2341 : BitVec 32 := Dev.word d0
  let c2_i32_1847 : BitVec 32 := 2#32
  let v2342 : BitVec 32 := Scalar.divsi v2341 c2_i32_1847
  let c2_i32_1846 : BitVec 32 := 2#32
  let v2343 : BitVec 32 := Scalar.remsi v2342 c2_i32_1846
  let v2347 : BitVec 32 := Scalar.subi c1_i32_1850 v2343
  let c2_i32_1858 : BitVec 32 := 2#32
  let v2351 : BitVec 32 := Scalar.muli v2347 c2_i32_1858
  let v2352 : BitVec 32 := Scalar.addi v2350 v2351
  let c1_i32_1851 : BitVec 32 := 1#32
  let v2344 : BitVec 32 := Dev.word d0
  let c1_i32_1849 : BitVec 32 := 1#32
  let v2345 : BitVec 32 := Scalar.divsi v2344 c1_i32_1849
  let c2_i32_1848 : BitVec 32 := 2#32
  let v2346 : BitVec 32 := Scalar.remsi v2345 c2_i32_1848
  let v2348 : BitVec 32 := Scalar.subi c1_i32_1851 v2346
  let c1_i32_1859 : BitVec 32 := 1#32
  let v2353 : BitVec 32 := Scalar.muli v2348 c1_i32_1859
  let v2354 : BitVec 32 := Scalar.addi v2352 v2353
  v2354.toNat
def k0_dev81 (d0 : Dev nD) : Nat :=
  let c0_i32_1874 : BitVec 32 := 0#32
  let c1_i32_1868 : BitVec 32 := 1#32
  let v2361 : BitVec 32 := Dev.word d0
  let c4_i32_1863 : BitVec 32 := 4#32
  let v2362 : BitVec 32 := Scalar.divsi v2361 c4_i32_1863
  let c2_i32_1862 : BitVec 32 := 2#32
  let v2363 : BitVec 32 := Scalar.remsi v2362 c2_i32_1862
  let v2370 : BitVec 32 := Scalar.subi c1_i32_1868 v2363
  let c4_i32_1873 : BitVec 32 := 4#32
  let v2371 : BitVec 32 := Scalar.muli v2370 c4_i32_1873
  let v2372 : BitVec 32 := Scalar.addi c0_i32_1874 v2371
  let v2364 : BitVec 32 := Dev.word d0
  let c2_i32_1865 : BitVec 32 := 2#32
  let v2365 : BitVec 32 := Scalar.divsi v2364 c2_i32_1865
  let c2_i32_1864 : BitVec 32 := 2#32
  let v2366 : BitVec 32 := Scalar.remsi v2365 c2_i32_1864
  let c2_i32_1875 : BitVec 32 := 2#32
  let v2373 : BitVec 32 := Scalar.muli v2366 c2_i32_1875
  let v2374 : BitVec 32 := Scalar.addi v2372 v2373
  let v2367 : BitVec 32 := Dev.word d0
  let c1_i32_1867 : BitVec 32 := 1#32
  let v2368 : BitVec 32 := Scalar.divsi v2367 c1_i32_1867
  let c2_i32_1866 : BitVec 32 := 2#32
  let v2369 : BitVec 32 := Scalar.remsi v2368 c2_i32_1866
  let c1_i32_1876 : BitVec 32 := 1#32
  let v2375 : BitVec 32 := Scalar.muli v2369 c1_i32_1876
  let v2376 : BitVec 32 := Scalar.addi v2374 v2375
  v2376.toNat
def k0_dev82 (d0 : Dev nD) : Nat :=
  let c0_i32_1892 : BitVec 32 := 0#32
  let c1_i32_1885 : BitVec 32 := 1#32
  let v2383 : BitVec 32 := Dev.word d0
  let c4_i32_1880 : BitVec 32 := 4#32
  let v2384 : BitVec 32 := Scalar.divsi v2383 c4_i32_1880
  let c2_i32_1879 : BitVec 32 := 2#32
  let v2385 : BitVec 32 := Scalar.remsi v2384 c2_i32_1879
  let v2392 : BitVec 32 := Scalar.subi c1_i32_1885 v2385
  let c4_i32_1891 : BitVec 32 := 4#32
  let v2394 : BitVec 32 := Scalar.muli v2392 c4_i32_1891
  let v2395 : BitVec 32 := Scalar.addi c0_i32_1892 v2394
  let v2386 : BitVec 32 := Dev.word d0
  let c2_i32_1882 : BitVec 32 := 2#32
  let v2387 : BitVec 32 := Scalar.divsi v2386 c2_i32_1882
  let c2_i32_1881 : BitVec 32 := 2#32
  let v2388 : BitVec 32 := Scalar.remsi v2387 c2_i32_1881
  let c2_i32_1893 : BitVec 32 := 2#32
  let v2396 : BitVec 32 := Scalar.muli v2388 c2_i32_1893
  let v2397 : BitVec 32 := Scalar.addi v2395 v2396
  let c1_i32_1886 : BitVec 32 := 1#32
  let v2389 : BitVec 32 := Dev.word d0
  let c1_i32_1884 : BitVec 32 := 1#32
  let v2390 : BitVec 32 := Scalar.divsi v2389 c1_i32_1884
  let c2_i32_1883 : BitVec 32 := 2#32
  let v2391 : BitVec 32 := Scalar.remsi v2390 c2_i32_1883
  let v2393 : BitVec 32 := Scalar.subi c1_i32_1886 v2391
  let c1_i32_1894 : BitVec 32 := 1#32
  let v2398 : BitVec 32 := Scalar.muli v2393 c1_i32_1894
  let v2399 : BitVec 32 := Scalar.addi v2397 v2398
  v2399.toNat
def k0_dev83 (d0 : Dev nD) : Nat :=
  let c0_i32_1910 : BitVec 32 := 0#32
  let c1_i32_1903 : BitVec 32 := 1#32
  let v2406 : BitVec 32 := Dev.word d0
  let c4_i32_1898 : BitVec 32 := 4#32
  let v2407 : BitVec 32 := Scalar.divsi v2406 c4_i32_1898
  let c2_i32_1897 : BitVec 32 := 2#32
  let v2408 : BitVec 32 := Scalar.remsi v2407 c2_i32_1897
  let v2415 : BitVec 32 := Scalar.subi c1_i32_1903 v2408
  let c4_i32_1909 : BitVec 32 := 4#32
  let v2417 : BitVec 32 := Scalar.muli v2415 c4_i32_1909
  let v2418 : BitVec 32 := Scalar.addi c0_i32_1910 v2417
  let c1_i32_1904 : BitVec 32 := 1#32
  let v2409 : BitVec 32 := Dev.word d0
  let c2_i32_1900 : BitVec 32 := 2#32
  let v2410 : BitVec 32 := Scalar.divsi v2409 c2_i32_1900
  let c2_i32_1899 : BitVec 32 := 2#32
  let v2411 : BitVec 32 := Scalar.remsi v2410 c2_i32_1899
  let v2416 : BitVec 32 := Scalar.subi c1_i32_1904 v2411
  let c2_i32_1911 : BitVec 32 := 2#32
  let v2419 : BitVec 32 := Scalar.muli v2416 c2_i32_1911
  let v2420 : BitVec 32 := Scalar.addi v2418 v2419
  let v2412 : BitVec 32 := Dev.word d0
  let c1_i32_1902 : BitVec 32 := 1#32
  let v2413 : BitVec 32 := Scalar.divsi v2412 c1_i32_1902
  let c2_i32_1901 : BitVec 32 := 2#32
  let v2414 : BitVec 32 := Scalar.remsi v2413 c2_i32_1901
  let c1_i32_1912 : BitVec 32 := 1#32
  let v2421 : BitVec 32 := Scalar.muli v2414 c1_i32_1912
  let v2422 : BitVec 32 := Scalar.addi v2420 v2421
  v2422.toNat
def k0_dev84 (d0 : Dev nD) : Nat :=
  let c0_i32_1929 : BitVec 32 := 0#32
  let c1_i32_1921 : BitVec 32 := 1#32
  let v2429 : BitVec 32 := Dev.word d0
  let c4_i32_1916 : BitVec 32 := 4#32
  let v2430 : BitVec 32 := Scalar.divsi v2429 c4_i32_1916
  let c2_i32_1915 : BitVec 32 := 2#32
  let v2431 : BitVec 32 := Scalar.remsi v2430 c2_i32_1915
  let v2438 : BitVec 32 := Scalar.subi c1_i32_1921 v2431
  let c4_i32_1928 : BitVec 32 := 4#32
  let v2441 : BitVec 32 := Scalar.muli v2438 c4_i32_1928
  let v2442 : BitVec 32 := Scalar.addi c0_i32_1929 v2441
  let c1_i32_1922 : BitVec 32 := 1#32
  let v2432 : BitVec 32 := Dev.word d0
  let c2_i32_1918 : BitVec 32 := 2#32
  let v2433 : BitVec 32 := Scalar.divsi v2432 c2_i32_1918
  let c2_i32_1917 : BitVec 32 := 2#32
  let v2434 : BitVec 32 := Scalar.remsi v2433 c2_i32_1917
  let v2439 : BitVec 32 := Scalar.subi c1_i32_1922 v2434
  let c2_i32_1930 : BitVec 32 := 2#32
  let v2443 : BitVec 32 := Scalar.muli v2439 c2_i32_1930
  let v2444 : BitVec 32 := Scalar.addi v2442 v2443
  let c1_i32_1923 : BitVec 32 := 1#32
  let v2435 : BitVec 32 := Dev.word d0
  let c1_i32_1920 : BitVec 32 := 1#32
  let v2436 : BitVec 32 := Scalar.divsi v2435 c1_i32_1920
  let c2_i32_1919 : BitVec 32 := 2#32
  let v2437 : BitVec 32 := Scalar.remsi v2436 c2_i32_1919
  let v2440 : BitVec 32 := Scalar.subi c1_i32_1923 v2437
  let c1_i32_1931 : BitVec 32 := 1#32
  let v2445 : BitVec 32 := Scalar.muli v2440 c1_i32_1931
  let v2446 : BitVec 32 := Scalar.addi v2444 v2445
  v2446.toNat
-- ==== Exchanged.lean ====
abbrev S22528x1024 : Shape := ⟨2, ![22528, 1024]⟩
abbrev S69632x1024 : Shape := ⟨2, ![69632, 1024]⟩
abbrev S8192x512 : Shape := ⟨2, ![8192, 512]⟩
abbrev S8192x1024 : Shape := ⟨2, ![8192, 1024]⟩
abbrev S2048x128 : Shape := ⟨2, ![2048, 128]⟩
abbrev S64x1024 : Shape := ⟨2, ![64, 1024]⟩
abbrev S64 : Shape := ⟨1, ![64]⟩
abbrev S64x352x1024 : Shape := ⟨3, ![64, 352, 1024]⟩
abbrev S_ : Shape := ⟨0, ![]⟩
abbrev S64x1 : Shape := ⟨2, ![64, 1]⟩
abbrev S64x1088x1024 : Shape := ⟨3, ![64, 1088, 1024]⟩
abbrev S64x128x512 : Shape := ⟨3, ![64, 128, 512]⟩
abbrev S64x128x1024 : Shape := ⟨3, ![64, 128, 1024]⟩
abbrev S64x32x128 : Shape := ⟨3, ![64, 32, 128]⟩
abbrev S8x8x1024 : Shape := ⟨3, ![8, 8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S22528x1024, .bf16⟩
  | .hbm, ⟨1, _⟩ => ⟨S22528x1024, .bf16⟩
  | .hbm, ⟨2, _⟩ => ⟨S69632x1024, .bf16⟩
  | .hbm, ⟨3, _⟩ => ⟨S8192x512, .bf16⟩
  | .hbm, ⟨4, _⟩ => ⟨S22528x1024, .bf16⟩
  | .hbm, ⟨5, _⟩ => ⟨S22528x1024, .bf16⟩
  | .hbm, ⟨6, _⟩ => ⟨S22528x1024, .bf16⟩
  | .hbm, ⟨7, _⟩ => ⟨S8192x1024, .bf16⟩
  | .hbm, ⟨8, _⟩ => ⟨S8192x1024, .bf16⟩
  | .hbm, ⟨9, _⟩ => ⟨S22528x1024, .bf16⟩
  | .hbm, ⟨10, _⟩ => ⟨S2048x128, .f32⟩
  | .hbm, ⟨11, _⟩ => ⟨S64x1024, .f32⟩
  | .hbm, ⟨12, _⟩ => ⟨S64, .i32⟩
  | .hbm, ⟨13, _⟩ => ⟨S64, .i1⟩
  | .hbm, ⟨14, _⟩ => ⟨S64, .i1⟩
  | .hbm, ⟨15, _⟩ => ⟨S64, .i1⟩
  | .hbm, ⟨16, _⟩ => ⟨S64, .i1⟩
  | .hbm, ⟨17, _⟩ => ⟨S64, .i1⟩
  | .hbm, ⟨18, _⟩ => ⟨S64, .i1⟩
  | .hbm, ⟨19, _⟩ => ⟨S64, .i1⟩
  | .hbm, ⟨20, _⟩ => ⟨S64, .i1⟩
  | .hbm, ⟨21, _⟩ => ⟨S64, .i1⟩
  | .hbm, ⟨22, _⟩ => ⟨S64, .i1⟩
  | .hbm, ⟨23, _⟩ => ⟨S64, .i1⟩
  | .hbm, ⟨24, _⟩ => ⟨S64x352x1024, .bf16⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64x352x1024, .bf16⟩
  | .hbm, ⟨31, _⟩ => ⟨S64x352x1024, .bf16⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S64, .i32⟩
  | .hbm, ⟨36, _⟩ => ⟨S64x1, .i32⟩
  | .hbm, ⟨37, _⟩ => ⟨S64x352x1024, .bf16⟩
  | .hbm, ⟨38, _⟩ => ⟨S64x1088x1024, .bf16⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S64x1, .i32⟩
  | .hbm, ⟨44, _⟩ => ⟨S64x1088x1024, .bf16⟩
  | .hbm, ⟨45, _⟩ => ⟨S64x128x512, .bf16⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S64x1, .i32⟩
  | .hbm, ⟨51, _⟩ => ⟨S64x128x512, .bf16⟩
  | .hbm, ⟨52, _⟩ => ⟨S64x352x1024, .bf16⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S64, .i32⟩
  | .hbm, ⟨57, _⟩ => ⟨S64x1, .i32⟩
  | .hbm, ⟨58, _⟩ => ⟨S64x352x1024, .bf16⟩
  | .hbm, ⟨59, _⟩ => ⟨S64x352x1024, .bf16⟩
  | .hbm, ⟨60, _⟩ => ⟨S_, .i32⟩
  | .hbm, ⟨61, _⟩ => ⟨S64, .i32⟩
  | .hbm, ⟨62, _⟩ => ⟨S64, .i32⟩
  | .hbm, ⟨63, _⟩ => ⟨S64, .i32⟩
  | .hbm, ⟨64, _⟩ => ⟨S64x1, .i32⟩
  | .hbm, ⟨65, _⟩ => ⟨S64x352x1024, .bf16⟩
  | .hbm, ⟨66, _⟩ => ⟨S64x352x1024, .bf16⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S64x1, .i32⟩
  | .hbm, ⟨72, _⟩ => ⟨S64x352x1024, .bf16⟩
  | .hbm, ⟨73, _⟩ => ⟨S64x128x1024, .bf16⟩
  | .hbm, ⟨74, _⟩ => ⟨S_, .i32⟩
  | .hbm, ⟨75, _⟩ => ⟨S64, .i32⟩
  | .hbm, ⟨76, _⟩ => ⟨S64, .i32⟩
  | .hbm, ⟨77, _⟩ => ⟨S64, .i32⟩
  | .hbm, ⟨78, _⟩ => ⟨S64x1, .i32⟩
  | .hbm, ⟨79, _⟩ => ⟨S64x128x1024, .bf16⟩
  | .hbm, ⟨80, _⟩ => ⟨S64x128x1024, .bf16⟩
  | .hbm, ⟨81, _⟩ => ⟨S_, .i32⟩
  | .hbm, ⟨82, _⟩ => ⟨S64, .i32⟩
  | .hbm, ⟨83, _⟩ => ⟨S64, .i32⟩
  | .hbm, ⟨84, _⟩ => ⟨S64, .i32⟩
  | .hbm, ⟨85, _⟩ => ⟨S64x1, .i32⟩
  | .hbm, ⟨86, _⟩ => ⟨S64x128x1024, .bf16⟩
  | .hbm, ⟨87, _⟩ => ⟨S64x352x1024, .bf16⟩
  | .hbm, ⟨88, _⟩ => ⟨S_, .i32⟩
  | .hbm, ⟨89, _⟩ => ⟨S64, .i32⟩
  | .hbm, ⟨90, _⟩ => ⟨S64, .i32⟩
  | .hbm, ⟨91, _⟩ => ⟨S64, .i32⟩
  | .hbm, ⟨92, _⟩ => ⟨S64x1, .i32⟩
  | .hbm, ⟨93, _⟩ => ⟨S64x352x1024, .bf16⟩
  | .hbm, ⟨94, _⟩ => ⟨S64x32x128, .f32⟩
  | .hbm, ⟨95, _⟩ => ⟨S_, .i32⟩
  | .hbm, ⟨96, _⟩ => ⟨S64, .i32⟩
  | .hbm, ⟨97, _⟩ => ⟨S64, .i32⟩
  | .hbm, ⟨98, _⟩ => ⟨S64, .i32⟩
  | .hbm, ⟨99, _⟩ => ⟨S64x1, .i32⟩
  | .hbm, ⟨100, _⟩ => ⟨S64x32x128, .f32⟩
  | .hbm, ⟨101, _⟩ => ⟨S8x8x1024, .f32⟩
  | _, _ => ⟨S22528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_c_2 : Ref sig .tc := ⟨.hbm, 15, rfl⟩
abbrev main_c_3 : Ref sig .tc := ⟨.hbm, 16, rfl⟩
abbrev main_c_4 : Ref sig .tc := ⟨.hbm, 17, rfl⟩
abbrev main_c_5 : Ref sig .tc := ⟨.hbm, 18, rfl⟩
abbrev main_c_6 : Ref sig .tc := ⟨.hbm, 19, rfl⟩
abbrev main_c_7 : Ref sig .tc := ⟨.hbm, 20, rfl⟩
abbrev main_c_8 : Ref sig .tc := ⟨.hbm, 21, rfl⟩
abbrev main_c_9 : Ref sig .tc := ⟨.hbm, 22, rfl⟩
abbrev main_c_10 : Ref sig .tc := ⟨.hbm, 23, rfl⟩
abbrev main_v0 : Ref sig .tc := ⟨.hbm, 24, rfl⟩
abbrev main_c_11 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_12 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_13 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_14 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_15 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_16 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_17 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_18 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_19 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_20 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_21 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== FfnSum.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== FfnSumIdeal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .local _ .vmem, ⟨0, _⟩ => ⟨S8x352x1024, .bf16⟩
  | .local _ .vmem, ⟨1, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== FfnSumRefIdeal.lean ====
abbrev S8x352x1024 : Shape := ⟨3, ![8, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .f32⟩
  | .hbm, ⟨2, _⟩ => ⟨S_, .f32⟩
  | .hbm, ⟨3, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InSum.lean ====
abbrev S8x1088x1024 : Shape := ⟨3, ![8, 1088, 1024]⟩
abbrev S1088x1024 : Shape := ⟨2, ![1088, 1024]⟩
abbrev S8x544x1024 : Shape := ⟨3, ![8, 544, 1024]⟩
abbrev S544x1024 : Shape := ⟨2, ![544, 1024]⟩
abbrev S1x544x1024 : Shape := ⟨3, ![1, 544, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1088x1024, .bf16⟩
  | .hbm, ⟨1, _⟩ => ⟨S1088x1024, .f32⟩
  | .local _ .vmem, ⟨0, _⟩ => ⟨S8x544x1024, .bf16⟩
  | .local _ .vmem, ⟨1, _⟩ => ⟨S8x544x1024, .bf16⟩
  | .local _ .vmem, ⟨2, _⟩ => ⟨S544x1024, .f32⟩
  | .local _ .vmem, ⟨3, _⟩ => ⟨S544x1024, .f32⟩
  | _, _ => ⟨S8x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== InSumIdeal.lean ====
abbrev S8x1088x1024 : Shape := ⟨3, ![8, 1088, 1024]⟩
abbrev S1088x1024 : Shape := ⟨2, ![1088, 1024]⟩
abbrev S8x544x1024 : Shape := ⟨3, ![8, 544, 1024]⟩
abbrev S544x1024 : Shape := ⟨2, ![544, 1024]⟩
abbrev S1x544x1024 : Shape := ⟨3, ![1, 544, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1088x1024, .bf16⟩
  | .hbm, ⟨1, _⟩ => ⟨S1088x1024, .f32⟩
  | .local _ .vmem, ⟨0, _⟩ => ⟨S8x544x1024, .bf16⟩
  | .local _ .vmem, ⟨1, _⟩ => ⟨S8x544x1024, .bf16⟩
  | .local _ .vmem, ⟨2, _⟩ => ⟨S544x1024, .f32⟩
  | .local _ .vmem, ⟨3, _⟩ => ⟨S544x1024, .f32⟩
  | _, _ => ⟨S8x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== InSumRefIdeal.lean ====
abbrev S8x1088x1024 : Shape := ⟨3, ![8, 1088, 1024]⟩
abbrev S_ : Shape := ⟨0, ![]⟩
abbrev S1088x1024 : Shape := ⟨2, ![1088, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1088x1024, .bf16⟩
  | .hbm, ⟨1, _⟩ => ⟨S8x1088x1024, .f32⟩
  | .hbm, ⟨2, _⟩ => ⟨S_, .f32⟩
  | .hbm, ⟨3, _⟩ => ⟨S1088x1024, .f32⟩
  | _, _ => ⟨S8x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AttnSum.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .local _ .vmem, ⟨0, _⟩ => ⟨S8x128x512, .bf16⟩
  | .local _ .vmem, ⟨1, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== AttnSumIdeal.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .local _ .vmem, ⟨0, _⟩ => ⟨S8x128x512, .bf16⟩
  | .local _ .vmem, ⟨1, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== AttnSumRefIdeal.lean ====
abbrev S8x128x512 : Shape := ⟨3, ![8, 128, 512]⟩
abbrev S_ : Shape := ⟨0, ![]⟩
abbrev S128x512 : Shape := ⟨2, ![128, 512]⟩

abbrev nBuf : Space → Nat
  | .hbm => 4
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .f32⟩
  | .hbm, ⟨2, _⟩ => ⟨S_, .f32⟩
  | .hbm, ⟨3, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutSum.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== OutSumIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .local _ .vmem, ⟨0, _⟩ => ⟨S8x128x1024, .bf16⟩
  | .local _ .vmem, ⟨1, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== OutSumRefIdeal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .f32⟩
  | .hbm, ⟨2, _⟩ => ⟨S_, .f32⟩
  | .hbm, ⟨3, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== TapsSum.lean ====
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x32x128, .f32⟩
  | .hbm, ⟨1, _⟩ => ⟨S32x128, .f32⟩
  | .local _ .vmem, ⟨0, _⟩ => ⟨S8x32x128, .f32⟩
  | .local _ .vmem, ⟨1, _⟩ => ⟨S32x128, .f32⟩
  | _, _ => ⟨S8x32x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== TapsSumRefIdeal.lean ====
abbrev S8x32x128 : Shape := ⟨3, ![8, 32, 128]⟩
abbrev S_ : Shape := ⟨0, ![]⟩
abbrev S32x128 : Shape := ⟨2, ![32, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S_, .f32⟩
  | .hbm, ⟨2, _⟩ => ⟨S32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateStep.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateStepIdeal.lean ====
abbrev S1024x352 : Shape := ⟨2, ![1024, 352]⟩
abbrev S256x352 : Shape := ⟨2, ![256, 352]⟩

abbrev nBuf : Space → Nat
  | .hbm => 7
  | .vmem => 14
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S1024x352, .f32⟩
  | .hbm, ⟨5, _⟩ => ⟨S1024x352, .f32⟩
  | .hbm, ⟨6, _⟩ => ⟨S1024x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S256x352, .f32⟩
  | .local _ .vmem, ⟨7, _⟩ => ⟨S256x352, .f32⟩
  | .local _ .vmem, ⟨8, _⟩ => ⟨S256x352, .f32⟩
  | .local _ .vmem, ⟨9, _⟩ => ⟨S256x352, .f32⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateStepRefIdeal.lean ====
abbrev S1024x352 : Shape := ⟨2, ![1024, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S_, .f32⟩
  | .hbm, ⟨5, _⟩ => ⟨S1024x352, .f32⟩
  | .hbm, ⟨6, _⟩ => ⟨S1024x352, .f32⟩
  | .hbm, ⟨7, _⟩ => ⟨S_, .f32⟩
  | .hbm, ⟨8, _⟩ => ⟨S1024x352, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S_, .f32⟩
  | .hbm, ⟨23, _⟩ => ⟨S1024x352, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DownStep.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== DownStepIdeal.lean ====
abbrev S352x1024 : Shape := ⟨2, ![352, 1024]⟩

abbrev nBuf : Space → Nat
  | .hbm => 7
  | .vmem => 7
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== DownStepRefIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InStep.lean ====
abbrev S1024x1088 : Shape := ⟨2, ![1024, 1088]⟩
abbrev S256x1088 : Shape := ⟨2, ![256, 1088]⟩

abbrev nBuf : Space → Nat
  | .hbm => 7
  | .vmem => 14
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S1024x1088, .f32⟩
  | .hbm, ⟨5, _⟩ => ⟨S1024x1088, .f32⟩
  | .hbm, ⟨6, _⟩ => ⟨S1024x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InStepIdeal.lean ====
abbrev S1024x1088 : Shape := ⟨2, ![1024, 1088]⟩
abbrev S256x1088 : Shape := ⟨2, ![256, 1088]⟩

abbrev nBuf : Space → Nat
  | .hbm => 7
  | .vmem => 14
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S1024x1088, .f32⟩
  | .hbm, ⟨5, _⟩ => ⟨S1024x1088, .f32⟩
  | .hbm, ⟨6, _⟩ => ⟨S1024x1088, .f32⟩
  | .local _ .vmem, ⟨0, _⟩ => ⟨S256x1088, .f32⟩
  | .local _ .vmem, ⟨1, _⟩ => ⟨S256x1088, .f32⟩
  | .local _ .vmem, ⟨2, _⟩ => ⟨S256x1088, .f32⟩
  | .local _ .vmem, ⟨3, _⟩ => ⟨S256x1088, .f32⟩
  | .local _ .vmem, ⟨4, _⟩ => ⟨S256x1088, .f32⟩
  | .local _ .vmem, ⟨5, _⟩ => ⟨S256x1088, .f32⟩
  | .local _ .vmem, ⟨6, _⟩ => ⟨S256x1088, .f32⟩
  | .local _ .vmem, ⟨7, _⟩ => ⟨S256x1088, .f32⟩
  | .local _ .vmem, ⟨8, _⟩ => ⟨S256x1088, .f32⟩
  | .local _ .vmem, ⟨9, _⟩ => ⟨S256x1088, .f32⟩
  | .local _ .vmem, ⟨10, _⟩ => ⟨S256x1088, .f32⟩
  | .local _ .vmem, ⟨11, _⟩ => ⟨S256x1088, .f32⟩
  | .local _ .vmem, ⟨12, _⟩ => ⟨S256x1088, .f32⟩
  | .local _ .vmem, ⟨13, _⟩ => ⟨S256x1088, .f32⟩
  | _, _ => ⟨S1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1088 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InStepRefIdeal.lean ====
abbrev S1024x1088 : Shape := ⟨2, ![1024, 1088]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S_, .f32⟩
  | .hbm, ⟨5, _⟩ => ⟨S1024x1088, .f32⟩
  | .hbm, ⟨6, _⟩ => ⟨S1024x1088, .f32⟩
  | .hbm, ⟨7, _⟩ => ⟨S_, .f32⟩
  | .hbm, ⟨8, _⟩ => ⟨S1024x1088, .f32⟩
  | .hbm, ⟨9, _⟩ => ⟨S1024x1088, .f32⟩
  | .hbm, ⟨10, _⟩ => ⟨S1024x1088, .f32⟩
  | .hbm, ⟨11, _⟩ => ⟨S_, .f32⟩
  | .hbm, ⟨12, _⟩ => ⟨S1024x1088, .f32⟩
  | .hbm, ⟨13, _⟩ => ⟨S1024x1088, .f32⟩
  | .hbm, ⟨14, _⟩ => ⟨S1024x1088, .f32⟩
  | .hbm, ⟨15, _⟩ => ⟨S_, .f32⟩
  | .hbm, ⟨16, _⟩ => ⟨S1024x1088, .f32⟩
  | .hbm, ⟨17, _⟩ => ⟨S1024x1088, .f32⟩
  | .hbm, ⟨18, _⟩ => ⟨S1024x1088, .f32⟩
  | .hbm, ⟨19, _⟩ => ⟨S_, .f32⟩
  | .hbm, ⟨20, _⟩ => ⟨S1024x1088, .f32⟩
  | .hbm, ⟨21, _⟩ => ⟨S1024x1088, .f32⟩
  | .hbm, ⟨22, _⟩ => ⟨S_, .f32⟩
  | .hbm, ⟨23, _⟩ => ⟨S1024x1088, .f32⟩
  | .hbm, ⟨24, _⟩ => ⟨S1024x1088, .f32⟩
  | .hbm, ⟨25, _⟩ => ⟨S1024x1088, .f32⟩
  | .hbm, ⟨26, _⟩ => ⟨S_, .f32⟩
  | .hbm, ⟨27, _⟩ => ⟨S1024x1088, .f32⟩
  | .hbm, ⟨28, _⟩ => ⟨S1024x1088, .f32⟩
  | .hbm, ⟨29, _⟩ => ⟨S1024x1088, .f32⟩
  | .hbm, ⟨30, _⟩ => ⟨S_, .f32⟩
  | .hbm, ⟨31, _⟩ => ⟨S1024x1088, .f32⟩
  | .hbm, ⟨32, _⟩ => ⟨S1024x1088, .f32⟩
  | .hbm, ⟨33, _⟩ => ⟨S1024x1088, .f32⟩
  | .hbm, ⟨34, _⟩ => ⟨S_, .f32⟩
  | .hbm, ⟨35, _⟩ => ⟨S1024x1088, .f32⟩
  | .hbm, ⟨36, _⟩ => ⟨S1024x1088, .f32⟩
  | _, _ => ⟨S1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AttnStep.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnStepIdeal.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnStepRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== OutStep.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutStepIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutStepRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== TapsStep.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== TapsStepRefIdeal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Small.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallRefIdeal.lean ====
abbrev S8x8x1024 : Shape := ⟨3, ![8, 8, 1024]⟩
abbrev S8x1024 : Shape := ⟨2, ![8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== FfnBack.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x256 : Shape := ⟨2, ![256, 256]⟩
abbrev S1024 : Shape := ⟨1, ![1024]⟩

abbrev nBuf : Space → Nat
  | .hbm => 15
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S2816x1024, .bf16⟩
  | .hbm, ⟨6, _⟩ => ⟨S2816x1024, .bf16⟩
  | .hbm, ⟨7, _⟩ => ⟨S2816x1024, .bf16⟩
  | .hbm, ⟨8, _⟩ => ⟨S4096x1024, .f32⟩
  | .hbm, ⟨9, _⟩ => ⟨S1x1024, .f32⟩
  | .hbm, ⟨10, _⟩ => ⟨S4096x2816, .bf16⟩
  | .hbm, ⟨11, _⟩ => ⟨S4096x2816, .bf16⟩
  | .hbm, ⟨12, _⟩ => ⟨S4096x2816, .bf16⟩
  | .hbm, ⟨13, _⟩ => ⟨S4096x1024, .bf16⟩
  | .hbm, ⟨14, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x1024, .f32⟩
  | .local _ .vmem, ⟨8, _⟩ => ⟨S256x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnBackRefIdeal.lean ====
abbrev S4096x1024 : Shape := ⟨2, ![4096, 1024]⟩
abbrev S1x1024 : Shape := ⟨2, ![1, 1024]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S2816x1024, .bf16⟩
  | .hbm, ⟨6, _⟩ => ⟨S2816x1024, .bf16⟩
  | .hbm, ⟨7, _⟩ => ⟨S2816x1024, .bf16⟩
  | .hbm, ⟨8, _⟩ => ⟨S4096x2816, .f32⟩
  | .hbm, ⟨9, _⟩ => ⟨S4096x2816, .f32⟩
  | .hbm, ⟨10, _⟩ => ⟨S2816x1024, .f32⟩
  | .hbm, ⟨11, _⟩ => ⟨S2816x1024, .f32⟩
  | .hbm, ⟨12, _⟩ => ⟨S2816x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x2816, .bf16⟩
  | .hbm, ⟨74, _⟩ => ⟨S4096x2816, .bf16⟩
  | .hbm, ⟨75, _⟩ => ⟨S4096x2816, .f32⟩
  | .hbm, ⟨76, _⟩ => ⟨S4096x2816, .f32⟩
  | .hbm, ⟨77, _⟩ => ⟨S4096x2816, .bf16⟩
  | .hbm, ⟨78, _⟩ => ⟨S4096x1024, .f32⟩
  | .hbm, ⟨79, _⟩ => ⟨S4096x1024, .f32⟩
  | .hbm, ⟨80, _⟩ => ⟨S4096x1024, .bf16⟩
  | .hbm, ⟨81, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== FfnFwd.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .f32⟩
  | .hbm, ⟨6, _⟩ => ⟨S4096x2816, .bf16⟩
  | .hbm, ⟨7, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S4096x2816, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x2816, .bf16⟩
  | .hbm, ⟨43, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBack.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormBackRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== WGrad.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WGradRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S2816x4096, .f32⟩
  | .hbm, ⟨4, _⟩ => ⟨S4096x1024, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mix.lean ====
abbrev S4096x1024 : Shape := ⟨2, ![4096, 1024]⟩
abbrev S4096x512 : Shape := ⟨2, ![4096, 512]⟩
abbrev S4096x2048 : Shape := ⟨2, ![4096, 2048]⟩
abbrev S1024x1024 : Shape := ⟨2, ![1024, 1024]⟩
abbrev S1024x512 : Shape := ⟨2, ![1024, 512]⟩
abbrev S512x1024 : Shape := ⟨2, ![512, 1024]⟩
abbrev S512x512 : Shape := ⟨2, ![512, 512]⟩
abbrev S512x2048 : Shape := ⟨2, ![512, 2048]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x2048, .f32⟩
  | .hbm, ⟨3, _⟩ => ⟨S1024x1024, .bf16⟩
  | .hbm, ⟨4, _⟩ => ⟨S1024x512, .bf16⟩
  | .hbm, ⟨5, _⟩ => ⟨S1024x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S1024x1024, .bf16⟩
  | .local _ .vmem, ⟨7, _⟩ => ⟨S1024x512, .bf16⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S4096x1024 : Shape := ⟨2, ![4096, 1024]⟩
abbrev S4096x512 : Shape := ⟨2, ![4096, 512]⟩
abbrev S4096x2048 : Shape := ⟨2, ![4096, 2048]⟩
abbrev S1024x1024 : Shape := ⟨2, ![1024, 1024]⟩
abbrev S1024x512 : Shape := ⟨2, ![1024, 512]⟩
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x2048, .f32⟩
  | .hbm, ⟨3, _⟩ => ⟨S1024x1024, .bf16⟩
  | .hbm, ⟨4, _⟩ => ⟨S1024x512, .bf16⟩
  | .hbm, ⟨5, _⟩ => ⟨S1024x1024, .bf16⟩
  | .hbm, ⟨6, _⟩ => ⟨S4096x1024, .f32⟩
  | .hbm, ⟨7, _⟩ => ⟨S4096x1024, .f32⟩
  | .hbm, ⟨8, _⟩ => ⟨S4096x512, .f32⟩
  | .hbm, ⟨9, _⟩ => ⟨S1024x1024, .f32⟩
  | .hbm, ⟨10, _⟩ => ⟨S1024x512, .f32⟩
  | .hbm, ⟨11, _⟩ => ⟨S1024x1024, .f32⟩
  | .hbm, ⟨12, _⟩ => ⟨S4096x1024, .f32⟩
  | .hbm, ⟨13, _⟩ => ⟨S512x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== MixBack.lean ====
abbrev S4096x1024 : Shape := ⟨2, ![4096, 1024]⟩
abbrev S4096x2048 : Shape := ⟨2, ![4096, 2048]⟩
abbrev S4096x512 : Shape := ⟨2, ![4096, 512]⟩
abbrev S1024x1024 : Shape := ⟨2, ![1024, 1024]⟩
abbrev S1024x512 : Shape := ⟨2, ![1024, 512]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S1024x1024, .bf16⟩
  | .hbm, ⟨6, _⟩ => ⟨S1024x512, .bf16⟩
  | .hbm, ⟨7, _⟩ => ⟨S1024x1024, .bf16⟩
  | .hbm, ⟨8, _⟩ => ⟨S4096x2048, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x512, .bf16⟩
  | .hbm, ⟨14, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S1024x1024, .bf16⟩
  | .local _ .vmem, ⟨11, _⟩ => ⟨S1024x512, .bf16⟩
  | .local _ .vmem, ⟨12, _⟩ => ⟨S1024x1024, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x512, .bf16⟩
  | .local _ .vmem, ⟨24, _⟩ => ⟨S512x512, .bf16⟩
  | .local _ .vmem, ⟨25, _⟩ => ⟨S512x512, .f32⟩
  | .local _ .vmem, ⟨26, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixBackRefIdeal.lean ====
abbrev S4096x1024 : Shape := ⟨2, ![4096, 1024]⟩
abbrev S4096x2048 : Shape := ⟨2, ![4096, 2048]⟩
abbrev S4096x512 : Shape := ⟨2, ![4096, 512]⟩
abbrev S1024x1024 : Shape := ⟨2, ![1024, 1024]⟩
abbrev S1024x512 : Shape := ⟨2, ![1024, 512]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S1024x1024, .bf16⟩
  | .hbm, ⟨6, _⟩ => ⟨S1024x512, .bf16⟩
  | .hbm, ⟨7, _⟩ => ⟨S1024x1024, .bf16⟩
  | .hbm, ⟨8, _⟩ => ⟨S1024x1024, .f32⟩
  | .hbm, ⟨9, _⟩ => ⟨S1024x512, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S1024x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2048, .f32⟩
  | .hbm, ⟨44, _⟩ => ⟨S4096x1024, .f32⟩
  | .hbm, ⟨45, _⟩ => ⟨S4096x1024, .f32⟩
  | .hbm, ⟨46, _⟩ => ⟨S4096x512, .f32⟩
  | .hbm, ⟨47, _⟩ => ⟨S4096x512, .f32⟩
  | .hbm, ⟨48, _⟩ => ⟨S4096x4x128, .f32⟩
  | .hbm, ⟨49, _⟩ => ⟨S_, .f32⟩
  | .hbm, ⟨50, _⟩ => ⟨S4096x4, .f32⟩
  | .hbm, ⟨51, _⟩ => ⟨S4096x4x1, .f32⟩
  | .hbm, ⟨52, _⟩ => ⟨S4096x2048, .bf16⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S1024x1024, .f32⟩
  | .hbm, ⟨57, _⟩ => ⟨S4096x1024, .f32⟩
  | .hbm, ⟨58, _⟩ => ⟨S4096x512, .bf16⟩
  | .hbm, ⟨59, _⟩ => ⟨S4096x4x128, .f32⟩
  | .hbm, ⟨60, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Merge.lean ====
abbrev S4096x512 : Shape := ⟨2, ![4096, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .bf16⟩
  | .hbm, ⟨8, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S4096x512 : Shape := ⟨2, ![4096, 512]⟩
abbrev S1x4096x512 : Shape := ⟨3, ![1, 4096, 512]⟩
abbrev S3x4096x512 : Shape := ⟨3, ![3, 4096, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x4096x512, .f32⟩
  | .hbm, ⟨7, _⟩ => ⟨S1x4096x512, .f32⟩
  | .hbm, ⟨8, _⟩ => ⟨S1x4096x512, .f32⟩
  | .hbm, ⟨9, _⟩ => ⟨S3x4096x512, .f32⟩
  | .hbm, ⟨10, _⟩ => ⟨S1x4096x512, .f32⟩
  | .hbm, ⟨11, _⟩ => ⟨S1x4096x512, .f32⟩
  | .hbm, ⟨12, _⟩ => ⟨S1x4096x512, .f32⟩
  | .hbm, ⟨13, _⟩ => ⟨S3x4096x512, .f32⟩
  | .hbm, ⟨14, _⟩ => ⟨S_, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S1x4096x512, .f32⟩
  | .hbm, ⟨20, _⟩ => ⟨S3x4096x512, .f32⟩
  | .hbm, ⟨21, _⟩ => ⟨S3x4096x512, .f32⟩
  | .hbm, ⟨22, _⟩ => ⟨S3x4096x512, .f32⟩
  | .hbm, ⟨23, _⟩ => ⟨S_, .f32⟩
  | .hbm, ⟨24, _⟩ => ⟨S4096x512, .f32⟩
  | .hbm, ⟨25, _⟩ => ⟨S1x4096x512, .f32⟩
  | .hbm, ⟨26, _⟩ => ⟨S3x4096x512, .f32⟩
  | .hbm, ⟨27, _⟩ => ⟨S3x4096x512, .f32⟩
  | .hbm, ⟨28, _⟩ => ⟨S3x4096x512, .f32⟩
  | .hbm, ⟨29, _⟩ => ⟨S_, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .bf16⟩
  | .hbm, ⟨34, _⟩ => ⟨S1x4096x512, .f32⟩
  | .hbm, ⟨35, _⟩ => ⟨S3x4096x512, .f32⟩
  | .hbm, ⟨36, _⟩ => ⟨S3x4096x512, .f32⟩
  | .hbm, ⟨37, _⟩ => ⟨S3x4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Talk.lean ====
/-
  Devices that copy to each other all at once. Device `c` starts local copies (indexed by `J`), each crediting a semaphore
  of its own, and copies into arrays of its peers (indexed by `K`), each crediting a send semaphore of its own and a
  receive semaphore of the peer `tg k c`; then it waits on every one of these semaphores. Every semaphore is credited by
  exactly one copy, so each carries ONE round of ONE duty, and nothing is owed any more when the waits begin. What the duty
  hands over is the destination as the copy leaves it, and the share of the source that was lent.
-/
module

public import Idealize.ShloMosaic.Lib.Pipeline.Launch
public import Idealize.ShloMosaic.Lib.Pipeline.Regions
public import Idealize.ShloMosaic.Lib.Pipeline.BigSepL
public import Idealize.ShloMosaic.Lib.Pipeline.Kit
public import Idealize.ShloMosaic.Lib.Rounds
public import Idealize.ShloMosaic.Lib.Tactic

@[expose] public section

set_option Elab.async false

noncomputable section

namespace Cert.Talk

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem Idealize.SL.ProofMode
open Idealize.ShloMosaic.Pipeline (launchCred owing launchCredit_owing)

/-- One copy: its source and destination, both in device memory. -/
structure Cp (sig : RefSig) where
  s : Shape
  e : EltTy
  src : Memref sig .tc .hbm s e
  dst : Memref sig .tc .hbm s e
  hsrc : src.view.WordExact
  hdst : dst.view.WordExact
  hsc : dst.view.ref.isScScratch = false := by first | exact rfl | decide

/-- The copies of a kernel: what each device copies locally and to whom it sends, and the semaphores. -/
structure Copies (nD : Nat) (sig : RefSig) (J K : Type) where
  loc : Dev nD → J → Cp sig
  rem : Dev nD → K → Cp sig
  tg : K → Equiv.Perm (Dev nD)
  sL : J → DmaSem sig
  sS : K → DmaSem sig
  sR : K → DmaSem sig
  nL : J → ℕ
  nK : K → ℕ
  nL_pos : ∀ j, 0 < nL j
  nK_pos : ∀ k, 0 < nK k
  loc_credit : ∀ c j, (loc c j).dst.view.dmaCredit = nL j
  rem_credit : ∀ c k, (rem c k).dst.view.dmaCredit = nK k
  src_credit : ∀ c k, (rem c k).src.view.dmaCredit = nK k
  inj : Function.Injective (Sum.elim (fun j => SemLoc.dma (sL j)) (Sum.elim (fun k => SemLoc.dma (sS k)) (fun k => SemLoc.dma (sR k))) : J ⊕ K ⊕ K → SemLoc sig)

/-- A semaphore's part: that of a local copy, of a send, of an arrival. -/
abbrev Role (J K : Type) : Type := J ⊕ K ⊕ K

variable {nD : Nat} {τ : Topo} {sig : RefSig} {Val : EltTy → Type} {Λ : Labels}
variable {J K : Type} [Fintype J] [DecidableEq J] [Fintype K] [DecidableEq K]
variable {U : Type} [URA U]

local notation "𝕄" => MT nD τ sig Unit Val ℕ U ℕ

section Program

variable (nD τ Val Λ) in
/-- A local copy's start. -/
def startL (p : Cp sig) (sem : DmaSem sig) : Prog (TpuEff nD τ sig Val Λ .tc) PUnit :=
  Prog.lift (.enqueueDma p.src (.here p.dst) (.dma sem) p.hsrc p.hdst ⟨Or.inl rfl, trivial⟩)
variable (τ Val Λ) in
/-- The start of a copy into device `t`'s memory. -/
def startR (p : Cp sig) (t : Dev nD) (sS sR : DmaSem sig) : Prog (TpuEff nD τ sig Val Λ .tc) PUnit :=
  Prog.lift (.enqueueDma p.src (.remote (Dev.tc t) p.dst (.dma sS) p.hsc) (.dma sR) p.hsrc p.hdst ⟨⟨rfl, Or.inl rfl⟩, trivial⟩)
variable (nD τ Val Λ) in
/-- The wait for what was copied into the destination; -/
def waitD (p : Cp sig) (sem : DmaSem sig) : Prog (TpuEff nD τ sig Val Λ .tc) PUnit :=
  Prog.lift (.waitDma2 sem p.src p.dst p.hsrc p.hdst)
variable (nD τ Val Λ) in
/-- and for what was read off the source. -/
def waitS (p : Cp sig) (sem : DmaSem sig) : Prog (TpuEff nD τ sig Val Λ .tc) PUnit :=
  Prog.lift (.waitDma2 sem p.dst p.src p.hdst p.hsrc)

variable (T : Copies nD sig J K)

variable (τ Val Λ) in
/-- The start of one of device `c`'s copies. -/
def Copies.start (c : Dev nD) : J ⊕ K → Prog (TpuEff nD τ sig Val Λ .tc) PUnit
  | .inl j => startL nD τ Val Λ (T.loc c j) (T.sL j)
  | .inr k => startR τ Val Λ (T.rem c k) (T.tg k c) (T.sS k) (T.sR k)
variable (τ Val Λ) in
/-- The wait on one of device `c`'s semaphores. -/
def Copies.wait (c : Dev nD) : Role J K → Prog (TpuEff nD τ sig Val Λ .tc) PUnit
  | .inl j => waitD nD τ Val Λ (T.loc c j) (T.sL j)
  | .inr (.inl k) => waitS nD τ Val Λ (T.rem c k) (T.sS k)
  | .inr (.inr k) => waitD nD τ Val Λ (T.rem c k) (T.sR k)

end Program

variable (T : Copies nD sig J K)

/-- The semaphore of each part. -/
def Copies.osem : Role J K → SemLoc sig :=
  Sum.elim (fun j => SemLoc.dma (T.sL j)) (Sum.elim (fun k => SemLoc.dma (T.sS k)) (fun k => SemLoc.dma (T.sR k)))

variable (τ) in
/-- Device `c`'s counter of that part. -/
def Copies.cell (c : Dev nD) (r : Role J K) : GSem nD τ sig := ((c.tc : Thread nD τ), T.osem r)

/-- What a part's wait waits for. -/
def Copies.amt : Role J K → ℕ := Sum.elim T.nL (Sum.elim T.nK T.nK)

omit [Fintype J] [DecidableEq J] [Fintype K] [DecidableEq K] in
theorem Copies.amt_pos (r : Role J K) : 0 < T.amt r := by
  rcases r with j | k | k
  · exact T.nL_pos j
  · exact T.nK_pos k
  · exact T.nK_pos k

variable (m : (ℓ : Loc nD τ sig) → Buf Val ℓ) (q : J ⊕ K → PosShare TreeShare)

/-- The lent share of a local copy's source, and its destination before and after. -/
def Copies.srcL (c : Dev nD) (j : J) : sProp 𝕄 :=
  (T.loc c j).src.view.loc (c.tc : Thread nD τ) ↦[(T.loc c j).src.view.set]{q (.inl j)} m _
def Copies.dstL (c : Dev nD) (j : J) : sProp 𝕄 :=
  (T.loc c j).dst.view.loc (c.tc : Thread nD τ) ↦[(T.loc c j).dst.view.set]{fullShare} m _
def Copies.gotL (c : Dev nD) (j : J) : sProp 𝕄 :=
  (T.loc c j).dst.view.loc (c.tc : Thread nD τ) ↦[(T.loc c j).dst.view.set]{fullShare}
    ((T.loc c j).dst.view.write Val (m ((T.loc c j).dst.view.loc (c.tc : Thread nD τ))) ((T.loc c j).src.view.read Val (m ((T.loc c j).src.view.loc (c.tc : Thread nD τ)))) Finset.univ)
/-- The same of a copy into a peer's memory. -/
def Copies.srcR (c : Dev nD) (k : K) : sProp 𝕄 :=
  (T.rem c k).src.view.loc (c.tc : Thread nD τ) ↦[(T.rem c k).src.view.set]{q (.inr k)} m _
def Copies.dstR (c : Dev nD) (k : K) : sProp 𝕄 :=
  (T.rem c k).dst.view.loc ((T.tg k c).tc : Thread nD τ) ↦[(T.rem c k).dst.view.set]{fullShare} m _
def Copies.gotR (c : Dev nD) (k : K) : sProp 𝕄 :=
  (T.rem c k).dst.view.loc ((T.tg k c).tc : Thread nD τ) ↦[(T.rem c k).dst.view.set]{fullShare}
    ((T.rem c k).dst.view.write Val (m ((T.rem c k).dst.view.loc ((T.tg k c).tc : Thread nD τ))) ((T.rem c k).src.view.read Val (m ((T.rem c k).src.view.loc (c.tc : Thread nD τ)))) Finset.univ)

/-- What device `c`'s semaphore of each part hands it. -/
def Copies.pay (c : Dev nD) : Role J K → sProp 𝕄
  | .inl j => iprop(T.gotL m c j ∗ T.srcL m q c j)
  | .inr (.inl k) => T.srcR m q c k
  | .inr (.inr k) => T.gotR m ((T.tg k).symm c) k

instance Copies.pay_storable (c : Dev nD) (r : Role J K) : BI.Storable (upEmb : UEmb _ 𝕄) (T.pay m q c r) := by
  rcases r with j | k | k
  · unfold Copies.pay Copies.gotL Copies.srcL; infer_instance
  · unfold Copies.pay Copies.srcR; infer_instance
  · unfold Copies.pay Copies.gotR; infer_instance

/-- The part a counter plays, if any. -/
def Copies.part (g : GSem nD τ sig) : Option (Role J K) := if g.1.2 = .tc then Function.partialInv T.osem g.2 else none

omit [Fintype J] [DecidableEq J] [Fintype K] [DecidableEq K] in
theorem Copies.part_cell (c : Dev nD) (r : Role J K) : T.part (T.cell τ c r) = some r := by
  unfold Copies.part Copies.cell
  rw [if_pos rfl]
  exact Function.partialInv_left T.inj r

variable (U) in
/-- One round of one duty on each of the counters. -/
def Copies.sched : Rounds.Schedule (GSem nD τ sig) Unit 𝕄 where
  duties g r := if r = 0 ∧ (T.part g).isSome then {()} else ∅
  unitless _ := False
  amount g _ _ := (T.part g).elim 1 T.amt
  payload g _ _ := (T.part g).elim iprop(emp) (T.pay m q g.1.1)
  amount_pos g _ _ _ := by
    cases h : T.part g with
    | none => exact Nat.one_pos
    | some r => exact T.amt_pos r

instance Copies.sched_storable (g : GSem nD τ sig) (r : ℕ) (d : Unit) : BI.Storable (upEmb : UEmb _ 𝕄) ((T.sched U m q).payload g r d) := by
  show BI.Storable upEmb ((T.part g).elim iprop(emp) (T.pay m q g.1.1))
  cases T.part g with
  | none => exact inferInstanceAs (BI.Storable upEmb iprop(emp))
  | some r => exact inferInstanceAs (BI.Storable upEmb (T.pay m q g.1.1 r))

section Sched
variable (U)
variable (c : Dev nD) (r : Role J K)

theorem Copies.duties_zero : (T.sched U m q).duties (T.cell τ c r) 0 = {()} := by
  dsimp only [Copies.sched]; exact if_pos ⟨rfl, by rw [T.part_cell]; rfl⟩
theorem Copies.duties_later (g : GSem nD τ sig) : ∀ n, 1 ≤ n → (T.sched U m q).duties g n = ∅ :=
  fun n hn => by dsimp only [Copies.sched]; exact if_neg fun h => by omega
theorem Copies.amount_eq (u : Unit) : (T.sched U m q).amount (T.cell τ c r) 0 u = T.amt r := by
  dsimp only [Copies.sched]; rw [T.part_cell]; rfl
theorem Copies.payload_eq (u : Unit) : (T.sched U m q).payload (T.cell τ c r) 0 u = T.pay m q c r := by
  dsimp only [Copies.sched]; rw [T.part_cell]; rfl
theorem Copies.expect_eq : (T.sched U m q).expect (T.cell τ c r) 0 = T.amt r := by
  unfold Schedule.expect Schedule.amountOf; rw [T.duties_zero U, Finset.sum_singleton, T.amount_eq U]
theorem Copies.rest_eq : bigSep ((T.sched U m q).duties (T.cell τ c r) 0 \ ∅) (fun u => (T.sched U m q).payload (T.cell τ c r) 0 u) = T.pay m q c r := by
  rw [Finset.sdiff_empty, T.duties_zero U, bigSep_singleton, T.payload_eq U]
theorem Copies.mem_duties : () ∈ (T.sched U m q).duties (T.cell τ c r) 0 := by rw [T.duties_zero U]; exact Finset.mem_singleton_self _

end Sched

variable (E : Emb (URounds (GSem nD τ sig) Unit) (MT nD τ sig Unit Val ℕ U ℕ)) [E.LandsIn (upEmb : UEmb _ (MT nD τ sig Unit Val ℕ U ℕ))]

/-- What everybody may know: each counter's invariant, and that its round is reached. -/
def Copies.known (κ : Dev nD × Role J K → ℕ) : sProp 𝕄 :=
  bigSep Finset.univ fun x : Dev nD × Role J K => iprop(cellInv E (T.sched U m q) (κ x) (T.cell τ x.1 x.2) ∗ reached E (T.cell τ x.1 x.2) 0)

instance Copies.known_persistent (κ : Dev nD × Role J K → ℕ) : BI.Persistent (T.known m q E κ) := by unfold Copies.known; infer_instance

omit [E.LandsIn (upEmb : UEmb _ (MT nD τ sig Unit Val ℕ U ℕ))] in
theorem Copies.known_at (κ : Dev nD × Role J K → ℕ) (c : Dev nD) (r : Role J K) :
    T.known m q E κ ⊢ iprop(cellInv E (T.sched U m q) (κ (c, r)) (T.cell τ c r) ∗ reached E (T.cell τ c r) 0) := by
  unfold Copies.known
  exact bigSep_elim (Φ := fun x : Dev nD × Role J K => iprop(cellInv E (T.sched U m q) (κ x) (T.cell τ x.1 x.2) ∗ reached E (T.cell τ x.1 x.2) 0)) (Finset.mem_univ (c, r))

/-- The tokens with which a copy pays. -/
def Copies.tok (c : Dev nD) : J ⊕ K → sProp 𝕄
  | .inl j => dutyTok E (T.cell τ c (.inl j)) 0 ()
  | .inr k => iprop(dutyTok E (T.cell τ c (.inr (.inl k))) 0 () ∗ dutyTok E (T.cell τ (T.tg k c) (.inr (.inr k))) 0 ())

/-- What a copy's start takes of its arrays. -/
def Copies.lend (c : Dev nD) : J ⊕ K → sProp 𝕄
  | .inl j => iprop(T.srcL m q c j ∗ T.dstL m c j)
  | .inr k => iprop(T.srcR m q c k ∗ T.dstR m c k)

variable (τ) in
/-- What a copy's start pays of what the device owes. -/
def Copies.debt (c : Dev nD) : J ⊕ K → CellTallies nD τ sig Unit
  | .inl _ => 0
  | .inr k => tallyAt (T.cell τ (T.tg k c) (.inr (.inr k))) () (T.nK k)

/-- The part whose credit a copy's start brings its own device. -/
def own : J ⊕ K → Role J K
  | .inl j => .inl j
  | .inr k => .inr (.inl k)

variable (defs : Defs nD τ sig Val Λ) (𝒱 : Variants)

theorem Copies.wp_start (hr : ∀ c d : Dev nD, τ.routes (c.tc : Thread nD τ) (d.tc : Thread nD τ) = true) (κ : Dev nD × Role J K → ℕ) (c : Dev nD) (i : J ⊕ K)
    (O : CellTallies nD τ sig Unit) (W : Waits sig Unit) (k : Prog (TpuEff nD τ sig Val Λ .tc) PUnit) (Q : PUnit → sProp 𝕄) :
    iprop(T.known m q E κ ∗ T.lend m q c i ∗ T.tok E c i ∗ owes (c.tc : Thread nD τ) (T.debt τ c i + O) W)
      ⊢ iprop((cred (tallyAt (T.cell τ c (own i)) () (T.amt (own i))) ∗ owes (c.tc : Thread nD τ) O W
            -∗ wp frame (wpE defs 𝒱 (c.tc : Thread nD τ) none) Set.univ k Q)
          -∗ wp frame (wpE defs 𝒱 (c.tc : Thread nD τ) none) Set.univ (T.start τ Val Λ c i >>= fun _ => k) Q) := by
  rcases i with j | i
  · show _ ⊢ iprop(_ -∗ wp frame (wpE defs 𝒱 (c.tc : Thread nD τ) none) Set.univ (startL nD τ Val Λ (T.loc c j) (T.sL j) >>= fun _ => k) Q)
    unfold startL
    simp only [Prog.lift, Prog.bind_op, Prog.bind_ret, Copies.lend, Copies.tok, Copies.debt, own]
    rw [zero_add]
    iintro ⟨#HK, ⟨Hs, Hd⟩, Ht, HO⟩ Hk
    ihave Hc := (T.known_at m q E κ c (.inl j)) $$ HK
    icases Hc with ⟨HI, HR⟩
    unfold Copies.srcL Copies.dstL
    iapply (Rounds.wp_copy_pointsTo 𝒱 E (T.sched U m q) (c.tc : Thread nD τ) none (κ := κ (c, .inl j)) (r := 0) (d := ()) (sem := .dma (T.sL j))
      (T.mem_duties U m q c (.inl j)) () (T.amt (.inl j)) (T.loc_credit c j) (T.amount_eq U m q c (.inl j) ())
      (by rw [show ((c.tc : Thread nD τ), SemLoc.dma (T.sL j)) = T.cell τ c (.inl j) from rfl, T.payload_eq U m q c (.inl j)]; exact Entails.refl _)) $$ [HI Hs Hd Ht HR]
    · isplitl [HI]; · iexact HI
      isplitl [Hs]; · iexact Hs
      isplitl [Hd]; · iexact Hd
      isplitl [Ht]; · iexact Ht
      iexact HR
    iintro Hcr
    iapply Hk
    isplitl [Hcr]; · iexact Hcr
    iexact HO
  · show _ ⊢ iprop(_ -∗ wp frame (wpE defs 𝒱 (c.tc : Thread nD τ) none) Set.univ (startR τ Val Λ (T.rem c i) (T.tg i c) (T.sS i) (T.sR i) >>= fun _ => k) Q)
    unfold startR
    simp only [Prog.lift, Prog.bind_op, Prog.bind_ret, Copies.lend, Copies.tok, Copies.debt, own]
    iintro ⟨#HK, ⟨Hs, Hd⟩, ⟨HtS, HtR⟩, HO⟩ Hk
    ihave Hc := (T.known_at m q E κ c (.inr (.inl i))) $$ HK
    icases Hc with ⟨HI, HR⟩
    ihave Hc' := (T.known_at m q E κ (T.tg i c) (.inr (.inr i))) $$ HK
    icases Hc' with ⟨HI', HR'⟩
    unfold Copies.srcR Copies.dstR
    iapply (Rounds.wp_send_pointsTo 𝒱 E (T.sched U m q) (c.tc : Thread nD τ) none (κ₁ := κ (c, .inr (.inl i))) (κ₂ := κ (T.tg i c, .inr (.inr i)))
      (r₁ := 0) (r₂ := 0) (d₁ := ()) (d₂ := ()) (sS := .dma (T.sS i)) (sem := .dma (T.sR i))
      (T.mem_duties U m q c (.inr (.inl i))) (T.mem_duties U m q (T.tg i c) (.inr (.inr i))) () () (T.nK i) (T.rem_credit c i)
      (T.amount_eq U m q c (.inr (.inl i)) ()) (T.amount_eq U m q (T.tg i c) (.inr (.inr i)) ()) O (add_comm _ _) (W := W)
      (by rw [show ((c.tc : Thread nD τ), SemLoc.dma (T.sS i)) = T.cell τ c (.inr (.inl i)) from rfl, T.payload_eq U m q c (.inr (.inl i))]; exact Entails.refl _)
      (by
        rw [show (((T.tg i c).tc : Thread nD τ), SemLoc.dma (T.sR i)) = T.cell τ (T.tg i c) (.inr (.inr i)) from rfl, T.payload_eq U m q (T.tg i c) (.inr (.inr i))]
        show _ ⊢ T.gotR m ((T.tg i).symm (T.tg i c)) i
        rw [Equiv.symm_apply_apply]; exact Entails.refl _)
      (hr c (T.tg i c))) $$ [HI HI' Hs Hd HtS HtR HR HR' HO]
    · isplitl [HI]; · iexact HI
      isplitl [HI']; · iexact HI'
      isplitl [Hs]; · iexact Hs
      isplitl [Hd]; · iexact Hd
      isplitl [HO]; · iexact HO
      isplitl [HtS]; · iexact HtS
      isplitl [HR]; · iexact HR
      isplitl [HtR]; · iexact HtR
      iexact HR'
    iintro ⟨Hcr, HO⟩
    iapply Hk
    isplitl [Hcr]; · iexact Hcr
    iexact HO

theorem Copies.wp_wait (κ : Dev nD × Role J K → ℕ) (c : Dev nD) (r : Role J K)
    (W : Waits sig Unit) (k : Prog (TpuEff nD τ sig Val Λ .tc) PUnit) (Q : PUnit → sProp 𝕄) :
    iprop(T.known m q E κ ∗ cred (tallyAt (T.cell τ c r) () (T.amt r)) ∗ atPos E (T.cell τ c r) 0 ∅ 0 ∗ owes (c.tc : Thread nD τ) (0 : CellTallies nD τ sig Unit) W)
      ⊢ iprop((∀ W', (T.pay m q c r ∗ semVal (T.cell τ c r) 0) ∗ owes (c.tc : Thread nD τ) (0 : CellTallies nD τ sig Unit) W'
            -∗ wp frame (wpE defs 𝒱 (c.tc : Thread nD τ) none) Set.univ k Q)
          -∗ wp frame (wpE defs 𝒱 (c.tc : Thread nD τ) none) Set.univ (T.wait τ Val Λ c r >>= fun _ => k) Q) := by
  have hw : ∃ w : TpuEff nD τ sig Val Λ (c.tc : Thread nD τ).2 PUnit, T.wait τ Val Λ c r = Prog.lift w
      ∧ ∀ K' : PUnit → sProp 𝕄, wpE defs 𝒱 (c.tc : Thread nD τ) none Set.univ w K' = waitSpec (c.tc : Thread nD τ) Set.univ (T.osem r) (T.amt r) K' := by
    rcases r with j | i | i
    · refine ⟨_, rfl, fun K' => ?_⟩
      rw [wpE_waitDma2_eq 𝒱 (c.tc : Thread nD τ) none Set.univ, T.loc_credit]; rfl
    · refine ⟨_, rfl, fun K' => ?_⟩
      rw [wpE_waitDma2_eq 𝒱 (c.tc : Thread nD τ) none Set.univ, T.src_credit]; rfl
    · refine ⟨_, rfl, fun K' => ?_⟩
      rw [wpE_waitDma2_eq 𝒱 (c.tc : Thread nD τ) none Set.univ, T.rem_credit]; rfl
  obtain ⟨w, hprog, hspec⟩ := hw
  rw [hprog]
  simp only [Prog.lift, Prog.bind_op, Prog.bind_ret]
  iintro ⟨#HK, Hcr, Hat, HO⟩ Hk
  ihave Hc := (T.known_at m q E κ c r) $$ HK
  icases Hc with ⟨#HI, HR⟩
  iapply (Rounds.wp_wait_rest_token 𝒱 E (T.sched U m q) (c.tc : Thread nD τ) none (κ := κ (c, r)) (sm := T.osem r)
      hspec (Set.mem_univ _) () (O := 0) (W := W) (R := 0) (m := 0) (T := ∅)
      (by rw [Nat.zero_add]; exact (T.expect_eq U m q c r).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (show bigSep ((T.sched U m q).duties ((c.tc : Thread nD τ), T.osem r) 0 \ ∅) (fun u => (T.sched U m q).payload ((c.tc : Thread nD τ), T.osem r) 0 u) = T.pay m q c r from T.rest_eq U m q c r)) $$ Hpay
  imod (Rounds.cell_close E (T.sched U m q) (g := T.cell τ c r) (Set.mem_univ (κ (c, r))) (fun h => h) (R := 0 + 1) (T.duties_later U m q (T.cell τ c r))) $$ [Hat] with Hz
  · isplitr; · iexact HI
    iexact Hat
  iapply Hk $$ %(insert (T.osem r, ()) W)
  isplitl [Hp Hz]
  · isplitl [Hp] <;> iassumption
  · iexact HO

theorem Copies.wp_starts (hr : ∀ c d : Dev nD, τ.routes (c.tc : Thread nD τ) (d.tc : Thread nD τ) = true) (κ : Dev nD × Role J K → ℕ) (c : Dev nD)
    (W : Waits sig Unit) (rest : List (Prog (TpuEff nD τ sig Val Λ .tc) PUnit)) (Q : PUnit → sProp 𝕄) (l : List (J ⊕ K)) :
    iprop(T.known m q E κ ∗ bigSepL l (fun i => iprop(T.lend m q c i ∗ T.tok E c i)) ∗ owes (c.tc : Thread nD τ) (l.map (T.debt τ c)).sum W)
      ⊢ iprop((bigSepL l (fun i => cred (tallyAt (T.cell τ c (own i)) () (T.amt (own i)))) ∗ owes (c.tc : Thread nD τ) (0 : CellTallies nD τ sig Unit) W
            -∗ wp frame (wpE defs 𝒱 (c.tc : Thread nD τ) none) Set.univ (Pipeline.chain rest) Q)
          -∗ wp frame (wpE defs 𝒱 (c.tc : Thread nD τ) none) Set.univ (Pipeline.chain (l.map (T.start τ Val Λ c) ++ rest)) Q) := by
  induction l with
  | nil =>
    iintro ⟨-, -, HO⟩ Hk
    iapply Hk
    isplitr; · iempintro
    iexact HO
  | cons i l ih =>
    simp only [List.map_cons, List.sum_cons, List.cons_append, Pipeline.chain_cons]
    rw [bigSepL_cons', bigSepL_cons']
    iintro ⟨#HK, ⟨⟨Hl, Ht⟩, Hrest⟩, HO⟩ Hk
    iapply (T.wp_start m q E defs 𝒱 hr κ c i (l.map (T.debt τ c)).sum W) $$ [Hl Ht HO]
    · isplitr; · iexact HK
      isplitl [Hl]; · iexact Hl
      isplitl [Ht]; · iexact Ht
      iexact HO
    iintro ⟨Hcr, HO⟩
    iapply ih $$ [Hrest HO]
    · isplitr; · iexact HK
      isplitl [Hrest] <;> iassumption
    iintro ⟨Hcrs, HO⟩
    iapply Hk
    isplitl [Hcr Hcrs]
    · isplitl [Hcr] <;> iassumption
    iexact HO

theorem Copies.wp_waits (κ : Dev nD × Role J K → ℕ) (c : Dev nD)
    (rest : List (Prog (TpuEff nD τ sig Val Λ .tc) PUnit)) (Q : PUnit → sProp 𝕄) (l : List (Role J K)) : ∀ W : Waits sig Unit,
    iprop(T.known m q E κ ∗ bigSepL l (fun r => iprop(cred (tallyAt (T.cell τ c r) () (T.amt r)) ∗ atPos E (T.cell τ c r) 0 ∅ 0))
        ∗ owes (c.tc : Thread nD τ) (0 : CellTallies nD τ sig Unit) W)
      ⊢ iprop((∀ W', bigSepL l (fun r => iprop(T.pay m q c r ∗ semVal (T.cell τ c r) 0)) ∗ owes (c.tc : Thread nD τ) (0 : CellTallies nD τ sig Unit) W'
            -∗ wp frame (wpE defs 𝒱 (c.tc : Thread nD τ) none) Set.univ (Pipeline.chain rest) Q)
          -∗ wp frame (wpE defs 𝒱 (c.tc : Thread nD τ) none) Set.univ (Pipeline.chain (l.map (T.wait τ Val Λ c) ++ rest)) Q) := by
  induction l with
  | nil =>
    intro W
    iintro ⟨-, -, HO⟩ Hk
    iapply Hk $$ %W
    isplitr; · iempintro
    iexact HO
  | cons r l ih =>
    intro W
    simp only [List.map_cons, List.cons_append, Pipeline.chain_cons]
    rw [bigSepL_cons', bigSepL_cons']
    iintro ⟨#HK, ⟨⟨Hcr, Hat⟩, Hrest⟩, HO⟩ Hk
    iapply (T.wp_wait m q E defs 𝒱 κ c r W) $$ [Hcr Hat HO]
    · isplitr; · iexact HK
      isplitl [Hcr]; · iexact Hcr
      isplitl [Hat]; · iexact Hat
      iexact HO
    iintro %W1 ⟨Hp, HO⟩
    iapply (ih W1) $$ [Hrest HO]
    · isplitr; · iexact HK
      isplitl [Hrest] <;> iassumption
    iintro %W2 ⟨Hps, HO⟩
    iapply Hk $$ %W2
    isplitl [Hp Hps]
    · isplitl [Hp] <;> iassumption
    iexact HO

/-! ## All of a device's copies -/

variable (τ) in
/-- What device `c` owes at launch: every credit its copies bring its peers. -/
def Copies.owed (c : Dev nD) : CellTallies nD τ sig Unit := ∑ k : K, tallyAt (T.cell τ (T.tg k c) (.inr (.inr k))) () (T.nK k)

omit [DecidableEq J] [DecidableEq K] in
theorem Copies.sum_debt (c : Dev nD) : ∑ i : J ⊕ K, T.debt τ c i = T.owed τ c := by
  rw [Fintype.sum_sum_type]
  simp only [Copies.debt, Finset.sum_const_zero, zero_add]
  rfl

/-- What device `c` needs to know and hold to run its copies: its arrays as the copies take them, the tokens, its place on
    its own counters, and the credit its peers owe it. -/
def Copies.ready (κ : Dev nD × Role J K → ℕ) (c : Dev nD) : sProp 𝕄 :=
  iprop(T.known m q E κ ∗ (bigSep Finset.univ fun i => T.lend m q c i) ∗ (bigSep Finset.univ fun i => T.tok E c i)
    ∗ (bigSep Finset.univ fun r => atPos E (T.cell τ c r) 0 ∅ 0)
    ∗ bigSep Finset.univ fun k : K => cred (tallyAt (T.cell τ c (.inr (.inr k))) () (T.nK k)))

/-- Device `c` starts all its copies and waits for them all: its counters are at zero again and it holds what they handed it. -/
theorem Copies.wp_body (hr : ∀ c d : Dev nD, τ.routes (c.tc : Thread nD τ) (d.tc : Thread nD τ) = true) (κ : Dev nD × Role J K → ℕ) (c : Dev nD)
    (W : Waits sig Unit) (Q : PUnit → sProp 𝕄)
    (ls : List (J ⊕ K)) (hls : Finset.univ = ls.toFinset) (hlsn : ls.Nodup) (lw : List (Role J K)) (hlw : Finset.univ = lw.toFinset) (hlwn : lw.Nodup) :
    iprop(T.ready m q E κ c ∗ owes (c.tc : Thread nD τ) (T.owed τ c) W)
      ⊢ iprop((∀ W', (bigSep Finset.univ fun r => iprop(T.pay m q c r ∗ semVal (T.cell τ c r) 0)) ∗ owes (c.tc : Thread nD τ) (0 : CellTallies nD τ sig Unit) W' -∗ Q ⟨⟩)
          -∗ wp frame (wpE defs 𝒱 (c.tc : Thread nD τ) none) Set.univ (Pipeline.chain (ls.map (T.start τ Val Λ c) ++ lw.map (T.wait τ Val Λ c))) Q) := by
  have hsum : (ls.map (T.debt τ c)).sum = T.owed τ c := by
    rw [← T.sum_debt, hls, List.sum_toFinset _ hlsn]
  have hlend : iprop((bigSep Finset.univ fun i => T.lend m q c i) ∗ (bigSep Finset.univ fun i => T.tok E c i))
      ⊢ (bigSepL ls (fun i => iprop(T.lend m q c i ∗ T.tok E c i)) : sProp 𝕄) := by
    rw [← bigSep_sep', bigSep_univ_eq_bigSepL ls hls hlsn]
  have hcred : iprop(bigSepL ls (fun i => cred (tallyAt (T.cell τ c (own i)) () (T.amt (own i)))) ∗ (bigSep Finset.univ fun r => atPos E (T.cell τ c r) 0 ∅ 0)
        ∗ bigSep Finset.univ fun k : K => cred (tallyAt (T.cell τ c (.inr (.inr k))) () (T.nK k)))
      ⊢ (bigSepL lw (fun r => iprop(cred (tallyAt (T.cell τ c r) () (T.amt r)) ∗ atPos E (T.cell τ c r) 0 ∅ 0)) : sProp 𝕄) := by
    rw [← bigSep_univ_eq_bigSepL ls hls hlsn, ← bigSep_univ_eq_bigSepL lw hlw hlwn, bigSep_sep',
      bigSep_univ_sum (fun r : J ⊕ K => (cred (tallyAt (T.cell τ c (own r)) () (T.amt (own r))) : sProp 𝕄)),
      bigSep_univ_sum (fun r : Role J K => (cred (tallyAt (T.cell τ c r) () (T.amt r)) : sProp 𝕄)),
      bigSep_univ_sum (fun r : K ⊕ K => (cred (tallyAt (T.cell τ c (.inr r)) () (T.amt (.inr r))) : sProp 𝕄))]
    show iprop((_ ∗ _) ∗ _ ∗ _) ⊢ iprop((_ ∗ _ ∗ _) ∗ _)
    iintro ⟨⟨HL, HS⟩, Hat, HR⟩
    isplitr [Hat]
    · isplitl [HL]; · iexact HL
      isplitl [HS]; · iexact HS
      iexact HR
    · iexact Hat
  unfold Copies.ready
  iintro ⟨⟨#HK, Hl, Ht, Hat, Hcr⟩, HO⟩ Hk
  ihave Hlt := hlend $$ [Hl Ht]
  · isplitl [Hl] <;> iassumption
  iapply (T.wp_starts m q E defs 𝒱 hr κ c W (lw.map (T.wait τ Val Λ c)) Q ls) $$ [Hlt HO]
  · isplitr; · iexact HK
    isplitl [Hlt]; · iexact Hlt
    rw [hsum]; iexact HO
  iintro ⟨Hcs, HO⟩
  ihave Hw := hcred $$ [Hcs Hat Hcr]
  · isplitl [Hcs]; · iexact Hcs
    isplitl [Hat] <;> iassumption
  rw [← List.append_nil (lw.map (T.wait τ Val Λ c))]
  iapply (T.wp_waits m q E defs 𝒱 κ c [] Q lw W) $$ [Hw HO]
  · isplitr; · iexact HK
    isplitl [Hw] <;> iassumption
  iintro %W' ⟨Hp, HO⟩
  rw [Pipeline.chain_nil, Prog.pure_eq_ret, wp_ret]; imodintro
  iapply Hk $$ %W'
  isplitl [Hp]
  · rw [bigSep_univ_eq_bigSepL lw hlw hlwn]; iexact Hp
  · iexact HO

/-! ## What the launch deals -/

omit [Fintype J] [DecidableEq J] [Fintype K] [DecidableEq K] in
theorem Copies.cell_inj : Function.Injective (fun x : Dev nD × Role J K => T.cell τ x.1 x.2) := by
  rintro ⟨c, r⟩ ⟨c', r'⟩ h
  have h1 : c = c' := congrArg (fun g : GSem nD τ sig => g.1.1) h
  subst h1
  have h2 : T.osem r = T.osem r' := congrArg Prod.snd h
  rw [T.inj h2]

variable (τ) in
/-- All the counters, and a token for each. -/
def Copies.cells : Finset (GSem nD τ sig) := Finset.univ.map ⟨fun x : Dev nD × Role J K => T.cell τ x.1 x.2, T.cell_inj⟩
variable (τ) in
def Copies.toks : Finset (GSem nD τ sig × ℕ × Unit) :=
  Finset.univ.map ⟨fun x : Dev nD × Role J K => (T.cell τ x.1 x.2, 0, ()), fun _ _ h => T.cell_inj (congrArg Prod.fst h)⟩

/-- From the counters at zero and the ghost state of all of them: their invariants, and for each device its places and the
    tokens its copies pay with — those of its peers' arrivals among them. -/
theorem Copies.deal : iprop((bigSep Finset.univ fun c : Dev nD => bigSep Finset.univ fun r : Role J K => semVal (T.cell τ c r) 0)
        ∗ BI.own (E (initOf (T.cells τ) (T.toks τ))))
      ⊢ (|={Set.univ}=> ∃ κ : Dev nD × Role J K → ℕ, T.known m q E κ
          ∗ (bigSep Finset.univ fun c : Dev nD => bigSep Finset.univ fun r : Role J K => atPos E (T.cell τ c r) 0 ∅ 0)
          ∗ bigSep Finset.univ fun c : Dev nD => bigSep Finset.univ fun i : J ⊕ K => T.tok E c i : sProp 𝕄) := by
  have hX (Φ : GSem nD τ sig → sProp 𝕄) : bigSep (T.cells τ) Φ = bigSep Finset.univ fun x : Dev nD × Role J K => Φ (T.cell τ x.1 x.2) := by
    unfold Copies.cells; rw [bigSep_map]; rfl
  have hT : bigSep (T.toks τ) (fun x => (dutyTok E x.1 x.2.1 x.2.2 : sProp 𝕄))
      ⊢ (bigSep Finset.univ fun c : Dev nD => bigSep Finset.univ fun i : J ⊕ K => T.tok E c i) := by
    have h1 : bigSep (T.toks τ) (fun x => (dutyTok E x.1 x.2.1 x.2.2 : sProp 𝕄))
        = iprop((bigSep Finset.univ fun c : Dev nD => bigSep Finset.univ fun j : J => dutyTok E (T.cell τ c (.inl j)) 0 ())
          ∗ (bigSep Finset.univ fun c : Dev nD => bigSep Finset.univ fun k : K => dutyTok E (T.cell τ c (.inr (.inl k))) 0 ())
          ∗ (bigSep Finset.univ fun c : Dev nD => bigSep Finset.univ fun k : K => dutyTok E (T.cell τ c (.inr (.inr k))) 0 ())) := by
      unfold Copies.toks
      rw [bigSep_map, bigSep_univ_prod, ← bigSep_sep', ← bigSep_sep']
      exact bigSep_congr fun c _ => by rw [bigSep_univ_sum, bigSep_univ_sum]; rfl
    have h2 : (bigSep Finset.univ fun c : Dev nD => bigSep Finset.univ fun k : K => (dutyTok E (T.cell τ c (.inr (.inr k))) 0 () : sProp 𝕄))
        = bigSep Finset.univ fun c : Dev nD => bigSep Finset.univ fun k : K => dutyTok E (T.cell τ (T.tg k c) (.inr (.inr k))) 0 () := by
      rw [bigSep_univ_comm, bigSep_univ_comm (fun (c : Dev nD) (k : K) => (dutyTok E (T.cell τ (T.tg k c) (.inr (.inr k))) 0 () : sProp 𝕄))]
      exact bigSep_congr fun k _ => bigSep_univ_equiv (T.tg k) (fun c : Dev nD => (dutyTok E (T.cell τ c (.inr (.inr k))) 0 () : sProp 𝕄))
    rw [h1, h2, ← bigSep_sep', ← bigSep_sep']
    refine bigSep_mono fun c _ => ?_
    rw [bigSep_univ_sum, ← bigSep_sep']
    exact Entails.refl _
  iintro ⟨Hv, HX⟩
  imod (Rounds.fund E (T.sched U m q) (T.cells τ) (T.toks τ)) $$ HX with ⟨Hst, Hr, Hat, Htok⟩
  ihave Hst' := (Entails.of_eq (hX fun g => roundState E (T.sched U m q) g 0)) $$ Hst
  ihave Hat' := (Entails.of_eq (hX fun g => atPos E g 0 ∅ 0)) $$ Hat
  ihave Hr' := (Entails.of_eq (hX fun g => reached E g 0)) $$ Hr
  ihave Htok' := hT $$ Htok
  imod (show iprop((bigSep Finset.univ fun c : Dev nD => bigSep Finset.univ fun r : Role J K => semVal (T.cell τ c r) 0)
        ∗ bigSep Finset.univ fun x : Dev nD × Role J K => roundState E (T.sched U m q) (T.cell τ x.1 x.2) 0)
      ⊢ (|={Set.univ}=> bigSep Finset.univ fun x : Dev nD × Role J K => iprop(∃ κ : ℕ, cellInv E (T.sched U m q) κ (T.cell τ x.1 x.2)) : sProp 𝕄) from by
        rw [← bigSep_univ_prod (fun x : Dev nD × Role J K => (semVal (T.cell τ x.1 x.2) 0 : sProp 𝕄)), ← bigSep_sep']
        exact (bigSep_mono fun x _ => (Rounds.body_intro E (T.sched U m q) (T.cell τ x.1 x.2)).trans inv_alloc).trans (bigSep_fupd _ _)) $$ [Hv Hst'] with Hinv
  · isplitl [Hv] <;> iassumption
  ihave HK := (BI.bigSep_exists_pi Finset.univ (fun (x : Dev nD × Role J K) (κ : ℕ) => (cellInv E (T.sched U m q) κ (T.cell τ x.1 x.2) : sProp 𝕄))) $$ Hinv
  icases HK with ⟨%κ, HI⟩
  imodintro
  iexists κ
  unfold Copies.known
  rw [bigSep_sep']
  isplitl [HI Hr']
  · isplitl [HI] <;> iassumption
  isplitl [Hat']
  · rw [← bigSep_univ_prod (fun x : Dev nD × Role J K => (atPos E (T.cell τ x.1 x.2) 0 ∅ 0 : sProp 𝕄))]; iexact Hat'
  · iexact Htok'

omit [Fintype J] [DecidableEq J] [DecidableEq K] in
theorem Copies.owed_recv (d c : Dev nD) (k : K) : T.owed τ d (T.cell τ c (.inr (.inr k))) () = if T.tg k d = c then T.nK k else 0 := by
  classical
  have hne : ∀ k' : K, k' ≠ k → T.cell τ (T.tg k' d) (.inr (.inr k')) ≠ T.cell τ c (.inr (.inr k)) := fun k' hk' h => by
    have h' := T.cell_inj (τ := τ) (a₁ := (T.tg k' d, .inr (.inr k'))) (a₂ := (c, .inr (.inr k))) h
    exact hk' (Sum.inr.inj (Sum.inr.inj (congrArg Prod.snd h')))
  unfold Copies.owed
  rw [Finset.sum_apply, Finsupp.finset_sum_apply, Finset.sum_eq_single k (fun k' _ hk' => by rw [tallyAt_apply, if_neg (fun h => hne k' hk' h.1.symm)])
    (fun h => absurd (Finset.mem_univ k) h), tallyAt_apply]
  by_cases h : T.tg k d = c
  · subst h; rw [if_pos ⟨rfl, rfl⟩, if_pos rfl]
  · rw [if_neg h, if_neg (fun h' => h (congrArg Prod.fst (T.cell_inj (τ := τ) (a₁ := (T.tg k d, .inr (.inr k))) (a₂ := (c, .inr (.inr k))) h'.1.symm)))]

omit [Fintype J] [DecidableEq J] in
/-- The credit of what the peers owe: on each arrival semaphore, that of the one copy that credits it. -/
theorem Copies.launch_cred (c : Dev nD) : (launchCred (T.owed τ) c : sProp 𝕄)
    ⊢ bigSep Finset.univ fun k : K => cred (tallyAt (T.cell τ c (.inr (.inr k))) () (T.nK k)) := by
  have h1 (k : K) : tallyOn (T.cell τ c (.inr (.inr k))) (launchCredit (owing (T.owed τ)) 0 (T.cell τ c (.inr (.inr k))))
      = (tallyAt (T.cell τ c (.inr (.inr k))) () (T.nK k) : CellTallies nD τ sig Unit) := by
    unfold tallyAt; refine congrArg _ (Finsupp.ext fun u => ?_); cases u
    rw [launchCredit_owing, Finsupp.single_eq_same, Finset.sum_congr rfl fun d _ => T.owed_recv d c k,
      Finset.sum_eq_single ((T.tg k).symm c) (fun d _ hd => if_neg fun h => hd (by rw [← h, Equiv.symm_apply_apply])) (fun h => absurd (Finset.mem_univ _) h),
      if_pos (Equiv.apply_symm_apply _ _)]
  have hinj : Function.Injective (fun k : K => T.osem (.inr (.inr k))) := fun k k' h => Sum.inr.inj (Sum.inr.inj (T.inj h))
  have h2 : (launchCred (T.owed τ) c : sProp 𝕄) ⊢ bigSep (Finset.univ.map ⟨fun k : K => T.osem (.inr (.inr k)), hinj⟩)
      (fun sm : SemLoc sig => cred (tallyOn ((c.tc : Thread nD τ), sm) (launchCredit (owing (T.owed τ)) 0 ((c.tc : Thread nD τ), sm)))) := by
    unfold launchCred
    exact bigSep_subset (Finset.subset_univ _)
  refine h2.trans ?_
  rw [bigSep_map]
  exact bigSep_mono fun k _ => Entails.of_eq (congrArg cred (h1 k))

end Cert.Talk

end
-- ==== Proof.Gather.lean ====
/-
  The all-gather of the weight shards: its copies, and that the printed kernel is the list of their starts followed by
  the list of their waits.
-/
module

public import proofs.«01_k».proof.Proof.Talk
public import proofs.«01_k».proof.Proof.Gen.KernelIdeal
public import proofs.«01_k».proof.Proof.Gen.KernelIdeal.Launch

@[expose] public section

set_option Elab.async false

noncomputable section

namespace Cert.Gather

open Cert.KernelIdeal Cert.KernelIdeal.Gen Cert.Talk
open Idealize.ShloMosaic Idealize.ShloMosaic.TcCoe Idealize.SL.Sem

variable {F : FTy → Type} [FloatOps F]

/-- A copy of the whole of a into the rows of A from off on. -/
def gcp {n N W : ℕ} {e : EltTy} (a : Memref sig .tc .hbm ⟨2, ![n, W]⟩ e) (ha : a.IsWhole) (A : Memref sig .tc .hbm ⟨2, ![N, W]⟩ e)
    (off : Fin 2 → ℕ) (inb : ∀ i, off i + (⟨2, ![n, W]⟩ : Shape).size i ≤ (⟨2, ![N, W]⟩ : Shape).size i)
    (hw : (A.slice (Rect.unit (s := ⟨2, ![N, W]⟩) off (⟨2, ![n, W]⟩ : Shape).size inb) (fun _ => rfl)).view.WordExact)
    (hsc : (A.slice (Rect.unit (s := ⟨2, ![N, W]⟩) off (⟨2, ![n, W]⟩ : Shape).size inb) (fun _ => rfl)).view.ref.isScScratch = false) : Cp sig :=
  ⟨⟨2, ![n, W]⟩, e, a, A.slice (Rect.unit (s := ⟨2, ![N, W]⟩) off (⟨2, ![n, W]⟩ : Shape).size inb) (fun _ => rfl), ha.wordExact, hw, hsc⟩

/-- Device d0's copy of weight w: its shard into its rows of a gathered array. -/
def wcp (d0 : Dev nD) : Fin 11 → Cp sig
  | 0 => gcp (n := 352) (N := 2816) (W := 1024) (e := .bf16) (Memref.whole main_arg0) (Memref.isWhole_whole _) (Memref.whole main_v1_0) (k0_off1 d0) (k0_off1_inb d0)
      ((Memref.isWhole_whole main_v1_0).wordExact_slice rfl _ (k0_off1_wordsbf16 d0)) rfl
  | 1 => gcp (n := 352) (N := 2816) (W := 1024) (e := .bf16) (Memref.whole main_arg1) (Memref.isWhole_whole _) (Memref.whole main_v1_1) (k0_off1 d0) (k0_off1_inb d0)
      ((Memref.isWhole_whole main_v1_1).wordExact_slice rfl _ (k0_off1_wordsbf16 d0)) rfl
  | 2 => gcp (n := 1088) (N := 8704) (W := 1024) (e := .bf16) (Memref.whole main_arg2) (Memref.isWhole_whole _) (Memref.whole main_v1_2) (k0_off2 d0) (k0_off2_inb d0)
      ((Memref.isWhole_whole main_v1_2).wordExact_slice rfl _ (k0_off2_wordsbf16 d0)) rfl
  | 3 => gcp (n := 128) (N := 1024) (W := 512) (e := .bf16) (Memref.whole main_arg3) (Memref.isWhole_whole _) (Memref.whole main_v1_3) (k0_off3 d0) (k0_off3_inb d0)
      ((Memref.isWhole_whole main_v1_3).wordExact_slice rfl _ (k0_off3_wordsbf16 d0)) rfl
  | 4 => gcp (n := 352) (N := 2816) (W := 1024) (e := .bf16) (Memref.whole main_arg4) (Memref.isWhole_whole _) (Memref.whole main_v1_4) (k0_off1 d0) (k0_off1_inb d0)
      ((Memref.isWhole_whole main_v1_4).wordExact_slice rfl _ (k0_off1_wordsbf16 d0)) rfl
  | 5 => gcp (n := 352) (N := 2816) (W := 1024) (e := .bf16) (Memref.whole main_arg5) (Memref.isWhole_whole _) (Memref.whole main_v1_5) (k0_off1 d0) (k0_off1_inb d0)
      ((Memref.isWhole_whole main_v1_5).wordExact_slice rfl _ (k0_off1_wordsbf16 d0)) rfl
  | 6 => gcp (n := 352) (N := 2816) (W := 1024) (e := .bf16) (Memref.whole main_arg6) (Memref.isWhole_whole _) (Memref.whole main_v1_6) (k0_off1 d0) (k0_off1_inb d0)
      ((Memref.isWhole_whole main_v1_6).wordExact_slice rfl _ (k0_off1_wordsbf16 d0)) rfl
  | 7 => gcp (n := 128) (N := 1024) (W := 1024) (e := .bf16) (Memref.whole main_arg7) (Memref.isWhole_whole _) (Memref.whole main_v1_7) (k0_off4 d0) (k0_off4_inb d0)
      ((Memref.isWhole_whole main_v1_7).wordExact_slice rfl _ (k0_off4_wordsbf16 d0)) rfl
  | 8 => gcp (n := 128) (N := 1024) (W := 1024) (e := .bf16) (Memref.whole main_arg8) (Memref.isWhole_whole _) (Memref.whole main_v1_8) (k0_off4 d0) (k0_off4_inb d0)
      ((Memref.isWhole_whole main_v1_8).wordExact_slice rfl _ (k0_off4_wordsbf16 d0)) rfl
  | 9 => gcp (n := 352) (N := 2816) (W := 1024) (e := .bf16) (Memref.whole main_arg9) (Memref.isWhole_whole _) (Memref.whole main_v1_9) (k0_off1 d0) (k0_off1_inb d0)
      ((Memref.isWhole_whole main_v1_9).wordExact_slice rfl _ (k0_off1_wordsbf16 d0)) rfl
  | 10 => gcp (n := 32) (N := 256) (W := 128) (e := .f32) (Memref.whole main_arg10) (Memref.isWhole_whole _) (Memref.whole main_v1_10) (k0_off5 d0) (k0_off5_inb d0)
      (View.wordExact_bits rfl) rfl

/-- The seven peers of a device: the logical ids that differ from its own in the bits of k + 1. -/
def peer : Fin 7 → Dev nD → Dev nD
  | 0 => fun d0 => ⟨k0_dev1 d0, k0_dev1_lt d0⟩
  | 1 => fun d0 => ⟨k0_dev2 d0, k0_dev2_lt d0⟩
  | 2 => fun d0 => ⟨k0_dev3 d0, k0_dev3_lt d0⟩
  | 3 => fun d0 => ⟨k0_dev4 d0, k0_dev4_lt d0⟩
  | 4 => fun d0 => ⟨k0_dev5 d0, k0_dev5_lt d0⟩
  | 5 => fun d0 => ⟨k0_dev6 d0, k0_dev6_lt d0⟩
  | 6 => fun d0 => ⟨k0_dev7 d0, k0_dev7_lt d0⟩

theorem peer_peer : ∀ (k : Fin 7) (d : Dev nD), peer k (peer k d) = d := by decide +kernel

/-- Being a peer goes both ways. -/
def swap (k : Fin 7) : Equiv.Perm (Dev nD) := ⟨peer k, peer k, peer_peer k, peer_peer k⟩

def semL (w : Fin 11) : DmaSem sig := ⟨154 + w.val, by have := w.isLt; show 154 + w.val < 165; omega⟩
def semS (x : Fin 11 × Fin 7) : DmaSem sig := ⟨7 * x.1.val + x.2.val, by have := x.1.isLt; have := x.2.isLt; show 7 * x.1.val + x.2.val < 165; omega⟩
def semR (x : Fin 11 × Fin 7) : DmaSem sig := ⟨77 + (7 * x.1.val + x.2.val), by have := x.1.isLt; have := x.2.isLt; show 77 + (7 * x.1.val + x.2.val) < 165; omega⟩

theorem sem_inj : Function.Injective (Sum.elim (fun j => SemLoc.dma (semL j)) (Sum.elim (fun k => SemLoc.dma (semS k)) (fun k => SemLoc.dma (semR k))) :
    Fin 11 ⊕ (Fin 11 × Fin 7) ⊕ (Fin 11 × Fin 7) → SemLoc sig) := by
  have key : ∀ {a b : DmaSem sig}, (SemLoc.dma a : SemLoc sig) = SemLoc.dma b → a.val = b.val := fun h => congrArg Fin.val (SemLoc.dma.inj h)
  rintro (j | ⟨w, k⟩ | ⟨w, k⟩) (j' | ⟨w', k'⟩ | ⟨w', k'⟩) h <;> have h := key h <;> simp only [semL, semS, semR] at h
  · rw [Fin.ext (show j.val = j'.val by omega)]
  · omega
  · omega
  · omega
  · rw [Fin.ext (show w.val = w'.val by omega), Fin.ext (show k.val = k'.val by omega)]
  · omega
  · omega
  · omega
  · rw [Fin.ext (show w.val = w'.val by omega), Fin.ext (show k.val = k'.val by omega)]

/-- What a copy of weight w credits. -/
def units (w : Fin 11) : ℕ := RefSig.tileCredit (wcp 0 w).s (wcp 0 w).e

/-- A transfer credits by its shape and type alone. -/
theorem credit_eq {s : Shape} {e : EltTy} (v : View sig .tc .hbm s e) : v.dmaCredit = RefSig.tileCredit s e := rfl

theorem units_pos (w : Fin 11) : 0 < units w := by
  unfold units
  rw [← credit_eq (wcp 0 w).dst.view]
  fin_cases w <;> exact View.dmaCredit_pos _ (by decide)

theorem units_at (c : Dev nD) (w : Fin 11) : RefSig.tileCredit (wcp c w).s (wcp c w).e = units w := by
  unfold units
  have h : ∀ w : Fin 11, (wcp c w).s = (wcp 0 w).s ∧ (wcp c w).e = (wcp 0 w).e := by
    intro w; fin_cases w <;> exact ⟨by chain_rfl, by chain_rfl⟩
  rw [(h w).1, (h w).2]

theorem dst_units (c : Dev nD) (w : Fin 11) : (wcp c w).dst.view.dmaCredit = units w := (credit_eq _).trans (units_at c w)
theorem src_units (c : Dev nD) (w : Fin 11) : (wcp c w).src.view.dmaCredit = units w := (credit_eq _).trans (units_at c w)

/-- The copies: of every weight one local, and one to each peer. -/
def copies : Copies nD sig (Fin 11) (Fin 11 × Fin 7) where
  loc c w := wcp c w
  rem c x := wcp c x.1
  tg x := swap x.2
  sL := semL
  sS := semS
  sR := semR
  nL := units
  nK x := units x.1
  nL_pos := units_pos
  nK_pos x := units_pos x.1
  loc_credit := dst_units
  rem_credit c x := dst_units c x.1
  src_credit c x := src_units c x.1
  inj := sem_inj

def ws : List (Fin 11) := [0, 1, 2, 3, 4, 5, 6, 7, 8, 9, 10]
def ks : List (Fin 7) := [0, 1, 2, 3, 4, 5, 6]
/-- The order of the starts, and of the waits. -/
def starts : List (Fin 11 ⊕ Fin 11 × Fin 7) := ws.flatMap fun w => .inl w :: ks.map fun k => .inr (w, k)
def waits : List (Role (Fin 11) (Fin 11 × Fin 7)) := ws.flatMap fun w => .inl w :: ks.flatMap fun k => [.inr (.inl (w, k)), .inr (.inr (w, k))]

theorem starts_all : Finset.univ = starts.toFinset := by decide +kernel
theorem starts_nodup : starts.Nodup := by decide +kernel
theorem waits_all : Finset.univ = waits.toFinset := by decide +kernel
theorem waits_nodup : waits.Nodup := by decide +kernel

set_option maxRecDepth 65536 in
/-- The printed kernel, of its operands: the starts of all the copies, then all the waits. -/
theorem body_eq : cc0_all_gather_weights (F := F) (Memref.whole main_arg0) (Memref.isWhole_whole _) (Memref.whole main_arg1) (Memref.isWhole_whole _)
    (Memref.whole main_arg2) (Memref.isWhole_whole _) (Memref.whole main_arg3) (Memref.isWhole_whole _) (Memref.whole main_arg4) (Memref.isWhole_whole _)
    (Memref.whole main_arg5) (Memref.isWhole_whole _) (Memref.whole main_arg6) (Memref.isWhole_whole _) (Memref.whole main_arg7) (Memref.isWhole_whole _)
    (Memref.whole main_arg8) (Memref.isWhole_whole _) (Memref.whole main_arg9) (Memref.isWhole_whole _) (Memref.whole main_arg10) (Memref.isWhole_whole _)
    (Memref.whole main_v1_0) (Memref.isWhole_whole _) (Memref.whole main_v1_1) (Memref.isWhole_whole _) (Memref.whole main_v1_2) (Memref.isWhole_whole _)
    (Memref.whole main_v1_3) (Memref.isWhole_whole _) (Memref.whole main_v1_4) (Memref.isWhole_whole _) (Memref.whole main_v1_5) (Memref.isWhole_whole _)
    (Memref.whole main_v1_6) (Memref.isWhole_whole _) (Memref.whole main_v1_7) (Memref.isWhole_whole _) (Memref.whole main_v1_8) (Memref.isWhole_whole _)
    (Memref.whole main_v1_9) (Memref.isWhole_whole _) (Memref.whole main_v1_10) (Memref.isWhole_whole _) cc0_scratch0 cc0_scratch1 cc0_scratch2
    = (Prog.lift .deviceId >>= fun d0 => Pipeline.chain (starts.map (copies.start τ (Elt F) Λ₀ d0) ++ waits.map (copies.wait τ (Elt F) Λ₀ d0))) := by chain_rfl

end Cert.Gather

end
-- ==== Proof.Start.lean ====
/-
  The launch of a program whose devices talk before anybody has said it is ready: ONE update over all the devices at
  once sorts what the launch deals them (region boundary, arrays, semaphores, what each owes and is owed), so that a
  device may be handed a peer's array and the peer's semaphores' tokens before its first instruction.
-/
module

public import Idealize.ShloMosaic.Lib.Pipeline.Launch
public import Idealize.ShloMosaic.Lib.Pipeline.Regions
public import Idealize.ShloMosaic.Lib.Quiescent

@[expose] public section

set_option Elab.async false

noncomputable section

namespace Cert.Talk

open Idealize.ShloMosaic Idealize.ShloMosaic.TcCoe Idealize.ShloMosaic.Rounds Idealize.ShloMosaic.Pipeline
open Idealize.SL Idealize.SL.RA
open Idealize.SL.BI (sProp bigSep bigSep_sep' bigSep_mono bigSep_congr)
open scoped Idealize.SL.BI
open Idealize.SL.BI.BIBase Idealize.SL.BI.Laws Idealize.SL.Sem Idealize.SL.ProofMode

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- What the launch deals device `c`: the region boundary, its arrays at the launch contents, its unscoped semaphores at
    zero, what it owes, the credit of what others owe it, its generator register. -/
def dealt (m : (ℓ : Loc nD τ sig) → Buf Val ℓ) (g : Dev nD → PrngReg) (O₀ : Dev nD → CellTallies nD τ sig Ix) (c : Dev nD) : sProp 𝕄 :=
  iprop(boundary (c.tc : Thread nD τ) ∗ unscopedBufs c (fun b => m ((c.tc : Thread nD τ).loc b)) ∗ unscopedSems0 c
    ∗ owes (c.tc : Thread nD τ) (O₀ c) ∅ ∗ launchCred O₀ c ∗ prngReg c (g c))

/-- Every device runs `main` from its share `T₀` of ONE sorting of everything dealt (`hinit`) to `Tₙ`, the boundary and
    nothing owed; the final memory is read off the `Tₙ` (`hfin`), and every counter outside the TensorCores' unscoped
    semaphores is zero there. -/
theorem run_of_deal {Λ : Labels} (defs : Defs nD τ sig Val Λ) (𝒱 : Variants) [Preorder Lvl] [∀ e, Nonempty (Val e)] [Infinite Name]
    (m : (ℓ : Loc nD τ sig) → Buf Val ℓ) (g : Dev nD → PrngReg)
    (main : Dev nD → Prog (TpuEff nD τ sig Val Λ .tc) PUnit)
    (O₀ : Dev nD → CellTallies nD τ sig Ix) (u₀ : U) (T₀ Tₙ : Dev nD → sProp 𝕄)
    (hinit : iprop((bigSep Finset.univ fun c : Dev nD => dealt m g O₀ c) ∗ ownU u₀) ⊢ |={Set.univ}=> bigSep Finset.univ T₀)
    (hrun : ∀ c, T₀ c ⊢ wp frame (wpE defs 𝒱 (c.tc : Thread nD τ) none) Set.univ (main c)
      fun _ => iprop(iprop(Tₙ c ∗ boundary (c.tc : Thread nD τ)) ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run defs (onTc main) ⟨m, fun _ => 0, g⟩ Q := by
  classical
  let fin : Dev nD → sProp 𝕄 := fun c => iprop(Tₙ c ∗ boundary (c.tc : Thread nD τ))
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu defs _ _ _
    (reflect_intro_fupd_tc_sems (X := Unit) 𝒱 (owing O₀) 0 (noBookings fun _ => le_rfl) (owing_of_ne O₀) u₀ (fun _ => T₀) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ (bigSep Finset.univ fun c : Dev nD => dealt m g O₀ c : sProp 𝕄) :=
      bigSep_mono fun c _ => (coreInit_boundary_owing O₀ m g c).trans (by
        unfold dealt
        iintro ⟨Hb, Hub, Hus, HL, -, Hpr, Hcr⟩
        isplitl [Hb]; · iexact Hb
        isplitl [Hub]; · iexact Hub
        isplitl [Hus]; · iexact Hus
        isplitl [HL]; · iexact HL
        isplitl [Hcr] <;> iassumption)
    iintro ⟨Hcores, Hu⟩
    ihave Hc := hcores $$ Hcores
    imod hinit $$ [Hc Hu] with HT
    · isplitl [Hc] <;> iassumption
    imodintro
    iexists ()
    isplitl
    · iexact HT
    · iempintro
  · refine (hrun c).trans (Entails.of_eq ?_)
    unfold post; simp only [liftTc_tc, fin]
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Talk

end
-- ==== Proof.Region.lean ====
/-
  Entering and leaving a kernel region that stages no window and has one grid point: its body is run once, from what the
  device brings to it, and the region boundary is the same after as before.
-/
module

public import Idealize.ShloMosaic.Lib.Pipeline.Launch
public import Idealize.ShloMosaic.Lib.Pipeline.Regions
public import Idealize.ShloMosaic.Lib.Pipeline.Kit
public import Idealize.ShloMosaic.Lib.Tactic

@[expose] public section

set_option Elab.async false

noncomputable section

namespace Cert.Talk

open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type} {U : Type} [URA U]

local notation "𝕄" => MT nD τ sig Unit Val ℕ U ℕ

variable {Λ₀ : Labels} {P : Type} [Fintype P] [DecidableEq P] [∀ e, Nonempty (Val e)]
variable (cfgs : P → Cfg sig Λ₀)

/-- The proof data of a windowless region: from `X` and what device `c` owes to `Y` and nothing owed. -/
def bareDat (hW : ∀ p, (cfgs p).W = 0) (X Y : sProp 𝕄) (O : CellTallies nD τ sig Unit) (p : P) (c : Dev nD) :
    Dat τ Val Unit ℕ U ℕ (cfgs p) c where
  A w := (Fin.cast (hW p) w).elim0
  after w := (Fin.cast (hW p) w).elim0
  Φ t := if t.val = 0 then X else Y
  q _ := fullShare
  owed t := if t.val = 0 then O else 0

omit [Fintype P] [DecidableEq P] [∀ e, Nonempty (Val e)] in
theorem bareDat_start (hW : ∀ p, (cfgs p).W = 0) (X Y : sProp 𝕄) (O : CellTallies nD τ sig Unit) (p : P) (c : Dev nD)
    (t : Fin ((cfgs p).N + 1)) (h : t.val = 0) :
    (bareDat (τ := τ) (Val := Val) (U := U) cfgs hW X Y O p c).Φ t = X ∧ (bareDat (τ := τ) (Val := Val) (U := U) cfgs hW X Y O p c).owed t = O :=
  ⟨if_pos h, if_pos h⟩
omit [Fintype P] [DecidableEq P] [∀ e, Nonempty (Val e)] in
theorem bareDat_end (hW : ∀ p, (cfgs p).W = 0) (X Y : sProp 𝕄) (O : CellTallies nD τ sig Unit) (p : P) (c : Dev nD)
    (t : Fin ((cfgs p).N + 1)) (h : t.val ≠ 0) :
    (bareDat (τ := τ) (Val := Val) (U := U) cfgs hW X Y O p c).Φ t = Y ∧ (bareDat (τ := τ) (Val := Val) (U := U) cfgs hW X Y O p c).owed t = 0 :=
  ⟨if_neg h, if_neg h⟩

local notation "𝔓" => fun q => Cfg.toPCfg (Val := Val) (cfgs q)

theorem wp_bare_region (hW : ∀ p, (cfgs p).W = 0) (hinj : Function.Injective (cellOf (nD := nD) (τ := τ) cfgs)) (p : P) (hN : (cfgs p).N = 1)
    (hwin : WinFacts₀ (cfgs p).spec) {K : Type} [Fintype K] {osem : K → SemLoc sig} (ho : OwnSemFacts (cfgs p).spec osem)
    (EP : Emb (URounds (GSem nD τ sig) Unit) 𝕄) (defs₀ : Defs nD τ sig Val Λ₀) (𝒱₀ : Variants) (c : Dev nD)
    (X Y : sProp 𝕄) (O : CellTallies nD τ sig Unit)
    (hbody : ∀ (t : Fin (cfgs p).N) (W : Finset (SemLoc sig × Unit)), iprop(X ∗ owes (c.tc : Thread nD τ) O W)
      ⊢ wp frame (wpE defs₀ 𝒱₀ (c.tc : Thread nD τ) none) Set.univ (defs₀ .tc (cfgs p).body ((cfgs p).bodyArgs t ((cfgs p).slots t)))
          fun _ => iprop((Y ∗ ownSems0 osem c) ∗ ∃ W', owes (c.tc : Thread nD τ) 0 W'))
    {α : Type} {k : PUnit → Prog (TpuEff nD τ sig Val (Sig Λ₀ P fun p => (𝔓 p).Adm) Proc.tc) α} {Q : α → sProp 𝕄} :
    iprop(X ∗ owes (c.tc : Thread nD τ) O ∅ ∗ idleSems0 cfgs hinj p ho c ∗ scopedBufs (c.tc : Thread nD τ))
      ⊢ iprop(((Y ∗ (∃ W', owes (c.tc : Thread nD τ) 0 W') ∗ scopedSems0 (c.tc : Thread nD τ) ∗ scopedBufs (c.tc : Thread nD τ))
              -∗ wp frame (wpE (Pipeline.defs 𝔓 defs₀) (Variants.lift 𝒱₀) c none) Set.univ (k ⟨⟩) Q)
          -∗ wp frame (wpE (Pipeline.defs 𝔓 defs₀) (Variants.lift 𝒱₀) c none) Set.univ (.op (.customCall (entry p) ()) k) Q) := by
  classical
  have hE : IsEmpty (Fin (cfgs p).W) := by rw [hW p]; infer_instance
  let dats : (p : P) → (c : Dev nD) → Dat τ Val Unit ℕ U ℕ (cfgs p) c := fun p c => bareDat cfgs hW
    (iprop(X ∗ scopedBufs (c.tc : Thread nD τ))) iprop((Y ∗ ownSems0 osem c) ∗ scopedBufs (c.tc : Thread nD τ)) O p c
  have hb : BodyObligationLoose (dats p c) defs₀ 𝒱₀ () Set.univ := fun t => by
    rw [Finset.univ_eq_empty, bigSep_empty, bigSep_empty]
    have ht : t.val = 0 := by have := t.isLt; omega
    obtain ⟨h0, o0⟩ := bareDat_start cfgs hW (iprop(X ∗ scopedBufs (c.tc : Thread nD τ)))
      (iprop((Y ∗ ownSems0 osem c) ∗ scopedBufs (c.tc : Thread nD τ))) O p c t.castSucc ht
    obtain ⟨h1, o1⟩ := bareDat_end cfgs hW (iprop(X ∗ scopedBufs (c.tc : Thread nD τ)))
      (iprop((Y ∗ ownSems0 osem c) ∗ scopedBufs (c.tc : Thread nD τ))) O p c t.succ (Nat.succ_ne_zero _)
    unfold Dat.owesAt owesWithin
    rw [h0, h1, o0, o1]
    iintro ⟨⟨HX, Hsb⟩, ⟨%W, -, HO⟩, -⟩
    iapply (wp_wand frame (wpE defs₀ 𝒱₀ (c.tc : Thread nD τ) none) Set.univ
      (Q := fun _ => iprop((Y ∗ ownSems0 osem c) ∗ ∃ W', owes (c.tc : Thread nD τ) 0 W'))) $$ [HX HO]
    · iapply (hbody t W)
      isplitl [HX] <;> iassumption
    · iintro %_ ⟨HY, ⟨%W', HO⟩⟩
      isplitl [HY Hsb]
      · isplitl [HY] <;> iassumption
      isplitl
      · iexists W'
        isplitr; · ipureintro; exact fun _ _ => Or.inl trivial
        iexact HO
      · iempintro
  iintro ⟨HX, HO, HI, Hsb⟩ Hk
  iapply (wp_customCall_entry_frame 𝔓 (fun q => (cfgs q).toPCfg_adm) dats () EP (fun _ => 0) hinj p defs₀ 𝒱₀ (fun _ => fullShare) c Set.univ (fun _ _ => Set.mem_univ _)
        hb (fun w => (hE.false w).elim) none (fun u h => nomatch h) (X := X) (Y := Y) (R := scopedBufs (c.tc : Thread nD τ)) (I := idleSems0 cfgs hinj p ho c)
        ?hbufs ?hin ?hout (k := k) (Q := Q)) $$ [HX HO HI Hsb]
  case hbufs =>
    unfold Dat.staging
    rw [Finset.univ_eq_empty, bigSep_empty]
    iintro H
    isplitr [H]
    · iempintro
    · iexact H
  case hin =>
    show _ ⊢ iprop(X ∗ scopedBufs (c.tc : Thread nD τ))
    iintro ⟨HX, -, HR⟩
    isplitl [HX] <;> iassumption
  case hout =>
    obtain ⟨hl, ol⟩ := bareDat_end cfgs hW (iprop(X ∗ scopedBufs (c.tc : Thread nD τ)))
      (iprop((Y ∗ ownSems0 osem c) ∗ scopedBufs (c.tc : Thread nD τ))) O p c (Fin.last (cfgs p).N) (show (cfgs p).N ≠ 0 by omega)
    refine (show iprop((dats p c).Φ (Fin.last (cfgs p).N) ∗ cellsSems0 cfgs p c ∗ Dat.staging (cfgs p) c ∗ idleSems0 cfgs hinj p ho c) ⊢ _ from ?_)
    rw [hl, scopedSems0_split cfgs hinj p hwin ho c]
    iintro ⟨⟨⟨HY, Ho⟩, Hsb⟩, Hc, -, HI⟩
    isplitl [HY]; · iexact HY
    isplitr [Hsb]
    · isplitr [HI]
      · isplitl [Hc] <;> iassumption
      · iexact HI
    · iexact Hsb
  · obtain ⟨h0, o0⟩ := bareDat_start cfgs hW (iprop(X ∗ scopedBufs (c.tc : Thread nD τ)))
      (iprop((Y ∗ ownSems0 osem c) ∗ scopedBufs (c.tc : Thread nD τ))) O p c 0 rfl
    isplitl [HO]
    · unfold EntryPre PerCore.EntryPre Dat.owesAt owesWithin
      rw [o0]
      have none_of : ∀ Φ : Fin (cfgs p).W → sProp 𝕄, (BI.emp : sProp 𝕄) ⊢ bigSep Finset.univ Φ := fun Φ => by
        rw [Finset.univ_eq_empty, bigSep_empty]
      have e1 : (BI.emp : sProp 𝕄) ⊢ (dats p c).arrays ((dats p c).arrAt · 0) := none_of _
      have e2 : (BI.emp : sProp 𝕄) ⊢ cellsWaits cfgs dats () p c := none_of _
      have e3 : (BI.emp : sProp 𝕄) ⊢ PerCore.cellsInit (fun _ : Dev nD => cfgs) dats EP (fun _ => 0) p c := none_of _
      have e4 : (BI.emp : sProp 𝕄) ⊢ toksInit cfgs EP p c := none_of _
      isplitr; · iapply e1; iempintro
      isplitl [HO]
      · iexists ∅; isplitr; · ipureintro; rw [Finset.coe_empty]; exact Set.empty_subset _
        iexact HO
      isplitr; · iapply e2; iempintro
      isplitr; · iapply e3; iempintro
      iapply e4; iempintro
    isplitr
    · unfold prefHeld
      rw [Finset.univ_eq_empty, bigSep_empty]
      iempintro
    isplitl [HX]; · iexact HX
    isplitl [HI]; · iexact HI
    iexact Hsb
  · iintro ⟨Hpost, HY, Hss, Hsb⟩
    iapply Hk
    obtain ⟨hl, ol⟩ := bareDat_end cfgs hW (iprop(X ∗ scopedBufs (c.tc : Thread nD τ)))
      (iprop((Y ∗ ownSems0 osem c) ∗ scopedBufs (c.tc : Thread nD τ))) O p c (Fin.last (cfgs p).N) (show (cfgs p).N ≠ 0 by omega)
    isplitl [HY]; · iexact HY
    isplitl [Hpost]
    · ihave Hp := (show EntryPost cfgs dats () p c ⊢ iprop(∃ W', owes (c.tc : Thread nD τ) 0 W') from by
        unfold EntryPost PerCore.EntryPost Dat.owesAt owesWithin
        rw [ol]
        iintro ⟨-, ⟨%W, -, H⟩⟩
        iexists W
        iexact H) $$ Hpost
      iexact Hp
    isplitl [Hss] <;> iassumption

end Cert.Talk

end
-- ==== Proof.Run.lean ====
/-
  The whole run of a program that is one windowless kernel region in which the devices copy to each other all at once
  (`Talk.lean`): from any memory, given that the devices' arrays can be sorted into what each copy takes, the run ends and
  each device's arrays can be read off what its semaphores handed it.
-/
module

public import proofs.«01_k».proof.Proof.Start
public import proofs.«01_k».proof.Proof.Talk
public import proofs.«01_k».proof.Proof.Region

@[expose] public section

set_option Elab.async false

noncomputable section

namespace Cert.Talk

open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Val : EltTy → Type}

/-- The ghost state: the protocol's, and that of the (absent) windows. -/
abbrev UU (nD : Nat) (τ : Topo) (sig : RefSig) : Type := UR sig nD τ × UR sig nD τ

local notation "𝕄" => MT nD τ sig Unit Val ℕ (UU nD τ sig) ℕ

abbrev EP : Emb (UR sig nD τ) 𝕄 := embL
abbrev ER : Emb (UR sig nD τ) 𝕄 := embR

variable {Λ₀ : Labels} {P : Type} [Fintype P] [DecidableEq P] [∀ e, Nonempty (Val e)]
variable (cfgs : P → Cfg sig Λ₀)
variable {J K : Type} [Fintype J] [DecidableEq J] [Fintype K] [DecidableEq K]

local notation "𝔓" => fun q => Cfg.toPCfg (Val := Val) (cfgs q)

variable (m : (ℓ : Loc nD τ sig) → Buf Val ℓ)

/-- What the final memory holds where the semaphore of each part of device `c` says it: the destination as the copy leaves
    it, the source as it was. -/
def Copies.says (T : Copies nD sig J K) (s : MemSt nD τ sig Val) (c : Dev nD) : Role J K → Prop
  | .inl j => (∀ i ∈ (T.loc c j).dst.view.set, s.mem ((T.loc c j).dst.view.loc (c.tc : Thread nD τ)) i
        = (T.loc c j).dst.view.write Val (m ((T.loc c j).dst.view.loc (c.tc : Thread nD τ))) ((T.loc c j).src.view.read Val (m ((T.loc c j).src.view.loc (c.tc : Thread nD τ)))) Finset.univ i)
      ∧ ∀ i ∈ (T.loc c j).src.view.set, s.mem ((T.loc c j).src.view.loc (c.tc : Thread nD τ)) i = m ((T.loc c j).src.view.loc (c.tc : Thread nD τ)) i
  | .inr (.inl k) => ∀ i ∈ (T.rem c k).src.view.set, s.mem ((T.rem c k).src.view.loc (c.tc : Thread nD τ)) i = m ((T.rem c k).src.view.loc (c.tc : Thread nD τ)) i
  | .inr (.inr k) => ∀ d t : Dev nD, T.tg k d = t → t = c → ∀ i ∈ (T.rem d k).dst.view.set, s.mem ((T.rem d k).dst.view.loc (t.tc : Thread nD τ)) i
        = (T.rem d k).dst.view.write Val (m ((T.rem d k).dst.view.loc (t.tc : Thread nD τ))) ((T.rem d k).src.view.read Val (m ((T.rem d k).src.view.loc (d.tc : Thread nD τ)))) Finset.univ i

omit [Fintype J] [DecidableEq J] [Fintype K] [DecidableEq K] [∀ e, Nonempty (Val e)] in
theorem Copies.pay_says (T : Copies nD sig J K) (q : J ⊕ K → PosShare TreeShare) (c : Dev nD) (s' : Phys nD τ sig Val) (r : Role J K) :
    (iprop(T.pay m q c r ∗ SI s') : sProp 𝕄) ⊢ iprop(⌜T.says m s'.mem c r⌝ ∗ SI s') := by
  rcases r with j | k | k
  · simp only [Copies.pay, Copies.gotL, Copies.srcL, Copies.says]
    iintro ⟨⟨Hg, Hs⟩, HSI⟩
    icombine HSI Hg gives %h
    icombine HSI Hs gives %h'
    isplitr
    · ipureintro; exact ⟨h, h'⟩
    · iexact HSI
  · simp only [Copies.pay, Copies.srcR, Copies.says]
    iintro ⟨Hs, HSI⟩
    icombine HSI Hs gives %h
    isplitr
    · ipureintro; exact h
    · iexact HSI
  · simp only [Copies.pay, Copies.gotR]
    iintro ⟨Hs, HSI⟩
    icombine HSI Hs gives %h
    isplitr
    · ipureintro
      intro d t hd ht
      subst ht
      have hd' : (T.tg k).symm t = d := by rw [← hd, Equiv.symm_apply_apply]
      subst hd
      rw [hd'] at h
      exact h
    · iexact HSI

omit [∀ e, Nonempty (Val e)] in
theorem Copies.pays_say (T : Copies nD sig J K) (q : J ⊕ K → PosShare TreeShare) (c : Dev nD) (s' : Phys nD τ sig Val) (S : Finset (Role J K)) :
    (iprop((bigSep S fun r => T.pay m q c r) ∗ SI s') : sProp 𝕄) ⊢ iprop(⌜∀ r ∈ S, T.says m s'.mem c r⌝ ∗ SI s') := by
  induction S using Finset.induction_on with
  | empty =>
    iintro ⟨-, HSI⟩
    isplitr; · ipureintro; simp
    iexact HSI
  | insert r S hr ih =>
    rw [bigSep_insert hr]
    refine (show iprop((T.pay m q c r ∗ bigSep S fun r => T.pay m q c r) ∗ SI s') ⊢ _ from ?_)
    iintro ⟨⟨Hr, HS⟩, HSI⟩
    ihave H := (T.pay_says m q c s' r) $$ [Hr HSI]
    · isplitl [Hr] <;> iassumption
    icases H with ⟨%h, HSI⟩
    ihave H := ih $$ [HS HSI]
    · isplitl [HS] <;> iassumption
    icases H with ⟨%hS, HSI⟩
    isplitr
    · ipureintro
      intro j hj
      rcases Finset.mem_insert.mp hj with rfl | hj
      exacts [h, hS j hj]
    · iexact HSI

omit m in
theorem run_talk (T : Copies nD sig J K) (hW : ∀ p, (cfgs p).W = 0) (hinj : Function.Injective (cellOf (nD := nD) (τ := τ) cfgs)) (p : P) (hN : (cfgs p).N = 1)
    (hwin : WinFacts₀ (cfgs p).spec) (ho : OwnSemFacts (cfgs p).spec T.osem) (defs₀ : Defs nD τ sig Val Λ₀)
    (main : Dev nD → Prog (TpuEff nD τ sig Val (Sig Λ₀ P fun p => (𝔓 p).Adm) .tc) PUnit)
    (hmain : ∀ c, main c = .op (.customCall (entry p) ()) fun _ => .ret ⟨⟩)
    (hr : ∀ c d : Dev nD, τ.routes (c.tc : Thread nD τ) (d.tc : Thread nD τ) = true)
    (ls : List (J ⊕ K)) (hls : Finset.univ = ls.toFinset) (hlsn : ls.Nodup) (lw : List (Role J K)) (hlw : Finset.univ = lw.toFinset) (hlwn : lw.Nodup)
    (hbody : ∀ (c : Dev nD) (t : Fin (cfgs p).N) (R : sProp 𝕄),
      wp frame (wpE defs₀ Variants.none (c.tc : Thread nD τ) none) Set.univ (Pipeline.chain (ls.map (T.start τ Val Λ₀ c) ++ lw.map (T.wait τ Val Λ₀ c))) (fun _ => R)
        ⊢ wp frame (wpE defs₀ Variants.none (c.tc : Thread nD τ) none) Set.univ (defs₀ .tc (cfgs p).body ((cfgs p).bodyArgs t ((cfgs p).slots t))) fun _ => R)
    (m : (ℓ : Loc nD τ sig) → Buf Val ℓ) (g : Dev nD → PrngReg) (q : J ⊕ K → PosShare TreeShare)
    (hsplit : (bigSep Finset.univ fun c : Dev nD => (unscopedBufs c (fun b => m ((c.tc : Thread nD τ).loc b)) : sProp 𝕄))
      ⊢ bigSep Finset.univ fun c : Dev nD => bigSep Finset.univ fun i => T.lend m q c i)
    {Q : PUnit × MemSt nD τ sig Val → Prop} (hQ : ∀ s : MemSt nD τ sig Val, (∀ (c : Dev nD) (r : Role J K), T.says m s c r) →
      (∀ g' : GSem nD τ sig, (g'.1.2 ≠ .tc ∨ g'.2.isScoped .tc = true) → s.sem g' = 0) → Q (⟨⟩, s)) :
    θ_run (Pipeline.defs 𝔓 defs₀) (onTc main) ⟨m, fun _ => 0, g⟩ Q := by
  classical
  let X : Dev nD → sProp 𝕄 := fun c => iprop(∃ κ, T.ready m q ER κ c)
  let Y : Dev nD → sProp 𝕄 := fun c => bigSep Finset.univ fun r => T.pay m q c r
  let T₀ : Dev nD → sProp 𝕄 := fun c => iprop((X c ∗ owes (c.tc : Thread nD τ) (T.owed τ c) ∅ ∗ idleSems0 cfgs hinj p ho c ∗ scopedBufs (c.tc : Thread nD τ))
    ∗ opIdle (c.tc : Thread nD τ))
  refine run_of_deal (Pipeline.defs 𝔓 defs₀) (Variants.lift Variants.none) m g main (T.owed τ) ((initOf ∅ ∅, initOf (T.cells τ) (T.toks τ)) : UU nD τ sig) T₀ Y ?_ ?_ (fun c s => ∀ r : Role J K, T.says m s c r) (fun c s' => ?_) hQ
  · have hone (c : Dev nD) : (dealt m g (T.owed τ) c : sProp 𝕄)
        ⊢ iprop((owes (c.tc : Thread nD τ) (T.owed τ c) ∅ ∗ idleSems0 cfgs hinj p ho c ∗ scopedBufs (c.tc : Thread nD τ) ∗ opIdle (c.tc : Thread nD τ))
          ∗ unscopedBufs c (fun b => m ((c.tc : Thread nD τ).loc b))
          ∗ (bigSep Finset.univ fun r : Role J K => semVal (T.cell τ c r) 0)
          ∗ bigSep Finset.univ fun k : K => cred (tallyAt (T.cell τ c (.inr (.inr k))) () (T.nK k))) := by
      unfold dealt
      iintro ⟨Hb, Hub, -, HL, Hcr, -⟩
      ihave Hcr := (T.launch_cred c) $$ Hcr
      ihave Hb := (show (boundary (c.tc : Thread nD τ) : sProp 𝕄) ⊢ iprop(scopedBufs (c.tc : Thread nD τ) ∗ scopedSems0 (c.tc : Thread nD τ) ∗ opIdle (c.tc : Thread nD τ))
        from BI.Entails.refl _) $$ Hb
      icases Hb with ⟨Hsb, Hss, Hid⟩
      ihave Hss := (Entails.of_eq (scopedSems0_split cfgs hinj p hwin ho c)) $$ Hss
      icases Hss with ⟨⟨-, Hos⟩, HI⟩
      isplitl [HL Hsb Hid HI]
      · isplitl [HL]; · iexact HL
        isplitl [HI]; · iexact HI
        isplitl [Hsb] <;> iassumption
      isplitl [Hub]; · iexact Hub
      isplitl [Hos]
      · iapply (show (ownSems0 T.osem c : sProp 𝕄) ⊢ bigSep Finset.univ fun r : Role J K => semVal (T.cell τ c r) 0 from BI.Entails.refl _)
        iexact Hos
      iexact Hcr
    refine (sep_mono_left (bigSep_mono fun c _ => hone c)).trans ?_
    simp only [bigSep_sep']
    iintro ⟨⟨Hkeep, Hub, Hos, Hcr⟩, Hu⟩
    ihave Hlend := hsplit $$ Hub
    ihave Hu := (ownU_pair _ _) $$ Hu
    icases Hu with ⟨-, Hu⟩
    imod (T.deal m q ER) $$ [Hos Hu] with ⟨%κ, #Hkn, Hat, Htok⟩
    · isplitl [Hos] <;> iassumption
    imodintro
    ihave Hk := (BI.bigSep_intro_persistent (S := Finset.univ) fun (c : Dev nD) _ => (BI.Entails.refl (T.known m q ER κ : sProp 𝕄))) $$ Hkn
    ihave H := (show iprop((bigSep Finset.univ fun _ : Dev nD => T.known m q ER κ) ∗ (bigSep Finset.univ fun c : Dev nD => bigSep Finset.univ fun i => T.lend m q c i)
          ∗ (bigSep Finset.univ fun c : Dev nD => bigSep Finset.univ fun i => T.tok ER c i)
          ∗ (bigSep Finset.univ fun c : Dev nD => bigSep Finset.univ fun r => atPos ER (T.cell τ c r) 0 ∅ 0)
          ∗ (bigSep Finset.univ fun c : Dev nD => bigSep Finset.univ fun k : K => cred (tallyAt (T.cell τ c (.inr (.inr k))) () (T.nK k))))
        ⊢ (bigSep Finset.univ fun c : Dev nD => iprop(∃ κ, T.ready m q ER κ c) : sProp 𝕄) from by
      simp only [← bigSep_sep']
      refine bigSep_mono fun c _ => (?_ : BIBase.Entails (PROP := sProp 𝕄) _ _)
      iintro H
      iexists κ
      unfold Copies.ready
      iexact H) $$ [Hk Hlend Htok Hat Hcr]
    · isplitl [Hk]; · iexact Hk
      isplitl [Hlend]; · iexact Hlend
      isplitl [Htok]; · iexact Htok
      isplitl [Hat] <;> iassumption
    ihave Hall := (show iprop((bigSep Finset.univ fun c : Dev nD => iprop(∃ κ, T.ready m q ER κ c))
          ∗ bigSep Finset.univ fun c : Dev nD => iprop(owes (c.tc : Thread nD τ) (T.owed τ c) ∅ ∗ idleSems0 cfgs hinj p ho c ∗ scopedBufs (c.tc : Thread nD τ) ∗ opIdle (c.tc : Thread nD τ)))
        ⊢ bigSep Finset.univ T₀ from by
      rw [← bigSep_sep']
      refine bigSep_mono fun c _ => (?_ : BIBase.Entails (PROP := sProp 𝕄) _ _)
      simp only [T₀, X]
      iintro ⟨HR, HL, HI, Hsb, Hid⟩
      isplitr [Hid]
      · isplitl [HR]; · iexact HR
        isplitl [HL]; · iexact HL
        isplitl [HI] <;> iassumption
      · iexact Hid) $$ [H Hkeep]
    · isplitl [H]; · iexact H
      rw [bigSep_sep', bigSep_sep', bigSep_sep']
      iexact Hkeep
    iexact Hall
  · intro c
    rw [hmain c]
    simp only [T₀]
    iintro ⟨H, Hid⟩
    iapply (wp_bare_region cfgs hW hinj p hN hwin ho EP defs₀ Variants.none c (X c) (Y c) (T.owed τ c) (fun t W => ?body)
      (k := fun _ => .ret ⟨⟩)) $$ H
    case body =>
      refine BIBase.Entails.trans ?_ (hbody c t _)
      simp only [X, Y]
      iintro ⟨⟨%κ, HR⟩, HO⟩
      iapply (T.wp_body m q ER defs₀ Variants.none hr κ c W _ ls hls hlsn lw hlw hlwn) $$ [HR HO]
      · isplitl [HR] <;> iassumption
      iintro %W' ⟨Hp, HO⟩
      ihave Hp := (Entails.of_eq (bigSep_sep' Finset.univ (fun r : Role J K => T.pay m q c r) (fun r => semVal (T.cell τ c r) 0))) $$ Hp
      icases Hp with ⟨Hp, Hv⟩
      isplitr [HO]
      · isplitr [Hv]; · iexact Hp
        iapply (show (bigSep Finset.univ fun r : Role J K => semVal (T.cell τ c r) 0) ⊢ (ownSems0 T.osem c : sProp 𝕄) from BI.Entails.refl _)
        iexact Hv
      · iexists W'
        iexact HO
    iintro ⟨HY, HO, Hss, Hsb⟩
    rw [wp_ret]
    imodintro
    isplitr [HO]
    · isplitl [HY]; · iexact HY
      iapply (show iprop(scopedBufs (c.tc : Thread nD τ) ∗ scopedSems0 (c.tc : Thread nD τ) ∗ opIdle (c.tc : Thread nD τ)) ⊢ (boundary (c.tc : Thread nD τ) : sProp 𝕄)
        from BI.Entails.refl _)
      isplitl [Hsb]; · iexact Hsb
      isplitl [Hss] <;> iassumption
    · iexact HO
  · simp only [Y]
    iintro H
    ihave H := (T.pays_say m q c s' Finset.univ) $$ H
    icases H with ⟨%h, HSI⟩
    imodintro
    isplitr
    · ipureintro; exact fun r => h r (Finset.mem_univ r)
    · iexact HSI

end Cert.Talk

end
-- ==== Proof.Split.lean ====
/-
  What the copies of every device are lent at the start: each buffer's own pieces, those that a device's peers write
  handed to these peers.
-/
module

public import proofs.«01_k».proof.Proof.Talk

@[expose] public section

set_option Elab.async false

noncomputable section

namespace Cert.Talk

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem Idealize.SL.ProofMode

variable {nD : ℕ} {τ : Topo} {sig : RefSig} {Val : EltTy → Type} {W : Type} [Fintype W] [DecidableEq W] {n : ℕ}
variable {U : Type} [URA U] [∀ e, Nonempty (Val e)]

local notation "𝕄" => MT nD τ sig Unit Val ℕ U ℕ

/-- If of every buffer w of every device the source S splits into what its own copies read, and the target D into
    what its own and its peers' copies write, then all the S and D are what all the copies are lent. -/
theorem Copies.lend_all (T : Copies nD sig W (W × Fin n)) (m : (ℓ : Loc nD τ sig) → Buf Val ℓ) (q : W ⊕ W × Fin n → PosShare TreeShare)
    (S D : Dev nD → W → sProp 𝕄)
    (hsrc : ∀ c w, S c w ⊢ iprop(T.srcL m q c w ∗ bigSep Finset.univ fun k : Fin n => T.srcR m q c (w, k)))
    (hdst : ∀ c w, D c w ⊢ iprop(T.dstL m c w ∗ bigSep Finset.univ fun k : Fin n => T.dstR m ((T.tg (w, k)).symm c) (w, k))) :
    (bigSep Finset.univ fun c : Dev nD => bigSep Finset.univ fun w => iprop(S c w ∗ D c w))
      ⊢ bigSep Finset.univ fun c : Dev nD => bigSep Finset.univ fun i => T.lend m q c i := by
  have hR : (bigSep Finset.univ fun c : Dev nD => bigSep Finset.univ fun x : W × Fin n => T.dstR m ((T.tg x).symm c) x : sProp 𝕄)
      = bigSep Finset.univ fun c : Dev nD => bigSep Finset.univ fun x : W × Fin n => T.dstR m c x := by
    rw [bigSep_univ_comm, bigSep_univ_comm (Φ := fun (c : Dev nD) (x : W × Fin n) => T.dstR m c x)]
    refine bigSep_congr fun x _ => ?_
    exact (bigSep_univ_equiv (T.tg x).symm fun c => T.dstR m c x).symm
  have h1 : (bigSep Finset.univ fun c : Dev nD => bigSep Finset.univ fun w => iprop(S c w ∗ D c w))
      ⊢ iprop(((bigSep Finset.univ fun c : Dev nD => bigSep Finset.univ fun w => T.srcL m q c w)
        ∗ (bigSep Finset.univ fun c : Dev nD => bigSep Finset.univ fun x : W × Fin n => T.srcR m q c x))
        ∗ (bigSep Finset.univ fun c : Dev nD => bigSep Finset.univ fun w => T.dstL m c w)
        ∗ bigSep Finset.univ fun c : Dev nD => bigSep Finset.univ fun x : W × Fin n => T.dstR m ((T.tg x).symm c) x) := by
    simp only [bigSep_univ_prod, ← bigSep_sep']
    exact bigSep_mono fun c _ => bigSep_mono fun w _ => BIClass.sep_mono (hsrc c w) (hdst c w)
  refine BIBase.Entails.trans h1 ?_
  rw [hR]
  rw [← bigSep_sep', ← bigSep_sep', ← bigSep_sep']
  refine bigSep_mono fun c _ => (?_ : BIBase.Entails (PROP := sProp 𝕄) _ _)
  rw [bigSep_univ_sum]
  simp only [Copies.lend]
  have hs (Φ Ψ : W → sProp 𝕄) : iprop(bigSep Finset.univ Φ ∗ bigSep Finset.univ Ψ) ⊢ bigSep Finset.univ fun w => iprop(Φ w ∗ Ψ w) :=
    Entails.of_eq (bigSep_sep' Finset.univ Φ Ψ).symm
  have hs' (Φ Ψ : W × Fin n → sProp 𝕄) : iprop(bigSep Finset.univ Φ ∗ bigSep Finset.univ Ψ) ⊢ bigSep Finset.univ fun w => iprop(Φ w ∗ Ψ w) :=
    Entails.of_eq (bigSep_sep' Finset.univ Φ Ψ).symm
  refine (show _ ⊢ iprop((bigSep Finset.univ fun w => iprop(T.srcL m q c w ∗ T.dstL m c w)) ∗ bigSep Finset.univ fun x => iprop(T.srcR m q c x ∗ T.dstR m c x)) from ?_)
  iintro ⟨⟨H1, H2⟩, H3, H4⟩
  isplitl [H1 H3]
  · iapply (hs (T.srcL m q c) (T.dstL m c))
    isplitl [H1] <;> iassumption
  · iapply (hs' (T.srcR m q c) (T.dstR m c))
    isplitl [H2] <;> iassumption

end Cert.Talk

end
-- ==== Proof.Slab.lean ====
/-
  Eight slabs of rows of an array, and what a finished copy says of its target.
-/
module

public import Idealize.ShloMosaic.Lib.Transfers
public import Idealize.ShloMosaic.Lib.ReshapeSlab
public import Idealize.ShloMosaic.Lib.Layout
public import Idealize.ShloMosaic.Lib.Pipeline.Launch
public import Idealize.ShloMosaic.Lib.Tactic

@[expose] public section

set_option Elab.async false

noncomputable section

namespace Cert.Slab

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : ℕ} {τ : Topo} {sig : RefSig} {Val : EltTy → Type} {U : Type} [URA U] [∀ e, Nonempty (Val e)]

local notation "𝕄" => MT nD τ sig Unit Val ℕ U ℕ

/-- Eight things are the first and the seven after it. -/
theorem sep_eight {M : Type*} [URA M] (Φ : Fin 8 → sProp M) : bigSep Finset.univ Φ = iprop(Φ 0 ∗ bigSep Finset.univ fun k : Fin 7 => Φ k.succ) := by
  rw [show (Finset.univ : Finset (Fin 8)) = insert 0 (Finset.univ.map ⟨Fin.succ, Fin.succ_injective 7⟩) from by decide +kernel,
    bigSep_insert (by decide +kernel), bigSep_map]
  rfl

/-- Where a buffer is, on a view's elements, as the view writes w, reading through the view gives w. -/
theorem read_of_write {κ : Kind} {sp : Space} {s : Shape} {e : EltTy} (v : View sig κ sp s e) (f g : v.ty.Contents Val) (w : s.Idx → Val e)
    (h : ∀ i ∈ v.set, g i = v.write Val f w Finset.univ i) : v.read Val g = w := by
  funext x
  have hx := h (v.emb x) (Finset.mem_map_of_mem _ (Finset.mem_univ x))
  rw [View.write_emb_of_mem _ _ (Finset.mem_univ x)] at hx
  rw [View.read_apply, hx, cast_cast, cast_eq]

/-- The rows of an array of N rows from off 0 on. -/
abbrev rows (n N W : ℕ) (off : Fin 2 → ℕ) (inb : ∀ i, off i + (⟨2, ![n, W]⟩ : Shape).size i ≤ (⟨2, ![N, W]⟩ : Shape).size i) : Rect ⟨2, ![N, W]⟩ :=
  Rect.unit (s := ⟨2, ![N, W]⟩) off (⟨2, ![n, W]⟩ : Shape).size inb

variable {n N W : ℕ} (off : Fin 8 → Fin 2 → ℕ) (inb : ∀ d i, off d i + (⟨2, ![n, W]⟩ : Shape).size i ≤ (⟨2, ![N, W]⟩ : Shape).size i)

/-- Every row is in one of the eight slabs. -/
theorem mem_slab (hoff : ∀ d, off d = ![n * d.val, 0]) (hN : N = 8 * n) (x : (⟨2, ![N, W]⟩ : Shape).Idx) : ∃ (d : Fin 8) (y : (⟨2, ![n, W]⟩ : Shape).Idx),
    x = (rows n N W (off d) (inb d)).emb y ∧ (x 0).val = n * d.val + (y 0).val ∧ (x 1).val = (y 1).val := by
  have hx : (x 0).val < N := (x 0).isLt
  have hn : 0 < n := by rcases Nat.eq_zero_or_pos n with h | h; · subst h; omega
                        · exact h
  have hd : (x 0).val / n < 8 := by rw [Nat.div_lt_iff_lt_mul hn]; omega
  have hdm : n * ((x 0).val / n) + (x 0).val % n = (x 0).val := Nat.div_add_mod _ _
  let y : (⟨2, ![n, W]⟩ : Shape).Idx := Shape.pair (d := ![n, W]) (⟨(x 0).val % n, Nat.mod_lt _ hn⟩ : Fin n) (⟨(x 1).val, (x 1).isLt⟩ : Fin W)
  have h0 : (y 0).val = (x 0).val % n := rfl
  have h1 : (y 1).val = (x 1).val := rfl
  refine ⟨⟨(x 0).val / n, hd⟩, y, ?_, (congrArg (n * ((x 0).val / n) + ·) h0).symm ▸ hdm.symm, h1.symm⟩
  funext i
  refine Fin.ext ?_
  rw [Rect.emb_apply]
  simp only [Rect.off_unit, Rect.stride_unit, hoff, Nat.one_mul]
  revert i
  refine Fin.cases ?_ (Fin.cases ?_ finZeroElim)
  · exact hdm.symm
  · exact (Nat.zero_add _).symm

variable {κ : Kind} {sp : Space} {e : EltTy}

/-- An array is its eight slabs. -/
theorem slabs (v : View sig .tc sp ⟨2, ![N, W]⟩ e) (hv : v.set = Finset.univ) (hoff : ∀ d, off d = ![n * d.val, 0]) (hN : N = 8 * n)
    (c : Dev nD) (q : PosShare TreeShare) (f : Buf Val (v.loc (c.tc : Thread nD τ))) :
    (v.loc (c.tc : Thread nD τ) ↦{q} f : sProp 𝕄)
      = bigSep Finset.univ fun d : Fin 8 => v.loc (c.tc : Thread nD τ) ↦[(v.slice (rows n N W (off d) (inb d))).set]{q} f := by
  have hU : (Finset.univ : Finset (Idx (v.loc (c.tc : Thread nD τ)))) = Finset.univ.biUnion fun d : Fin 8 => (v.slice (rows n N W (off d) (inb d))).set := by
    refine (Finset.eq_univ_iff_forall.mpr fun i => ?_).symm
    have hi : i ∈ v.set := hv ▸ Finset.mem_univ _
    obtain ⟨x, -, rfl⟩ := Finset.mem_map.mp hi
    obtain ⟨d, y, hy, -⟩ := mem_slab off inb hoff hN x
    refine Finset.mem_biUnion.mpr ⟨d, Finset.mem_univ d, ?_⟩
    rw [hy]
    exact Finset.mem_map_of_mem _ (Finset.mem_univ y)
  rw [hU, pointsTo_biUnion]
  intro d _ d' _ hdd
  refine View.disjoint_slice_of_sep v _ _ 0 rfl rfl ?_
  simp only [Rect.off_unit, Rect.size_unit, hoff]
  show n * d.val + n ≤ n * d'.val ∨ n * d'.val + n ≤ n * d.val
  rcases Nat.lt_or_gt_of_ne (fun h => hdd (Fin.ext h) : d.val ≠ d'.val) with h | h
  · left; calc n * d.val + n = n * (d.val + 1) := (Nat.mul_succ _ _).symm
      _ ≤ _ := Nat.mul_le_mul_left _ h
  · right; calc n * d'.val + n = n * (d'.val + 1) := (Nat.mul_succ _ _).symm
      _ ≤ _ := Nat.mul_le_mul_left _ h

end Cert.Slab

end
-- ==== Proof.GatherMem.lean ====
/-
  The memory of the all-gather: how the arrays split into what the copies take, and what the copies leave in them.
-/
module

public import proofs.«01_k».proof.Proof.Gather
public import proofs.«01_k».proof.Proof.Run
public import proofs.«01_k».proof.Proof.Split
public import proofs.«01_k».proof.Proof.Slab

@[expose] public section

set_option Elab.async false

noncomputable section

namespace Cert.Gather

open Cert.KernelIdeal Cert.KernelIdeal.Gen Cert.Talk
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem Idealize.SL.ProofMode

variable {F : FTy → Type} [FloatOps F] {U : Type} [URA U]

local notation "𝕄" => MT nD τ sig Unit (Elt F) ℕ U ℕ

theorem peers_inj (c : Dev nD) : Function.Injective fun k : Fin 7 => peer k c := by revert c; decide +kernel
theorem all_eq (c : Dev nD) : (Finset.univ : Finset (Dev nD)) = insert c (Finset.univ.map ⟨fun k : Fin 7 => peer k c, peers_inj c⟩) := by revert c; decide +kernel
theorem not_peer (c : Dev nD) : c ∉ Finset.univ.map ⟨fun k : Fin 7 => peer k c, peers_inj c⟩ := by revert c; decide +kernel

/-- All devices are one of them and its peers. -/
theorem sep_peers (Φ : Dev nD → sProp 𝕄) (c : Dev nD) : bigSep Finset.univ Φ = iprop(Φ c ∗ bigSep Finset.univ fun k : Fin 7 => Φ (peer k c)) := by
  rw [all_eq c, bigSep_insert (not_peer c), bigSep_map]
  rfl

theorem exists_peer (c d : Dev nD) : d = c ∨ ∃ k : Fin 7, d = peer k c := by revert c d; decide +kernel

/-- The share of a shard that each copy reads: the local one's, and that to each peer. -/
def share : Fin 11 ⊕ Fin 11 × Fin 7 → PosShare TreeShare
  | .inl _ => Transfers.dealOf fullShare (Finset.univ : Finset (Fin 8)) 0
  | .inr x => Transfers.dealOf fullShare (Finset.univ : Finset (Fin 8)) x.2.succ

theorem shares {ℓ : Loc nD τ sig} (S : Finset (Idx ℓ)) (f : Buf (Elt F) ℓ) (w : Fin 11) :
    (ℓ ↦[S]{fullShare} f : sProp 𝕄) = iprop((ℓ ↦[S]{share (.inl w)} f) ∗ bigSep Finset.univ fun k : Fin 7 => ℓ ↦[S]{share (.inr (w, k))} f) := by
  rw [Transfers.pointsTo_deal (Finset.univ : Finset (Fin 8)) Finset.univ_nonempty fullShare, Slab.sep_eight]
  rfl

section Weight

variable {n N W : ℕ} {e : EltTy} (a : Memref sig .tc .hbm ⟨2, ![n, W]⟩ e) (ha : a.IsWhole) (A : Memref sig .tc .hbm ⟨2, ![N, W]⟩ e)
  (off : Dev nD → Fin 2 → ℕ) (inb : ∀ d i, off d i + (⟨2, ![n, W]⟩ : Shape).size i ≤ (⟨2, ![N, W]⟩ : Shape).size i)
  (hw : ∀ d, (A.slice (Rect.unit (s := ⟨2, ![N, W]⟩) (off d) (⟨2, ![n, W]⟩ : Shape).size (inb d)) (fun _ => rfl)).view.WordExact)
  (hsc : ∀ d, (A.slice (Rect.unit (s := ⟨2, ![N, W]⟩) (off d) (⟨2, ![n, W]⟩ : Shape).size (inb d)) (fun _ => rfl)).view.ref.isScScratch = false)

/-- The copies of one weight. -/
abbrev cpAt (d : Dev nD) : Cp sig := gcp a ha A (off d) (inb d) (hw d) (hsc d)

variable (m : (ℓ : Loc nD τ sig) → Buf (Elt F) ℓ)

/-- A gathered array is what its device's own copy writes and what the peers' copies write. -/
theorem split_dst (hoff : ∀ d, off d = ![n * d.val, 0]) (hN : N = 8 * n) (hA : A.view.set = Finset.univ) (c : Dev nD) :
    (A.view.loc (c.tc : Thread nD τ) ↦{fullShare} m (A.view.loc (c.tc : Thread nD τ)) : sProp 𝕄)
      ⊢ iprop(((cpAt a ha A off inb hw hsc c).dst.view.loc (c.tc : Thread nD τ) ↦[(cpAt a ha A off inb hw hsc c).dst.view.set]{fullShare} m _)
        ∗ bigSep Finset.univ fun k : Fin 7 => (cpAt a ha A off inb hw hsc ((swap k).symm c)).dst.view.loc (((swap k) ((swap k).symm c)).tc : Thread nD τ)
            ↦[(cpAt a ha A off inb hw hsc ((swap k).symm c)).dst.view.set]{fullShare} m _) := by
  rw [Slab.slabs off inb A.view hA hoff hN c fullShare, sep_peers _ c]
  refine BIClass.sep_mono (BIBase.Entails.rfl) (bigSep_mono fun k _ => ?_)
  have : ∀ t : Dev nD, t = c → (A.view.loc (c.tc : Thread nD τ) ↦[(A.view.slice (Slab.rows n N W (off (peer k c)) (inb (peer k c)))).set]{fullShare} m (A.view.loc (c.tc : Thread nD τ)) : sProp 𝕄)
      ⊢ (A.view.loc (t.tc : Thread nD τ) ↦[(A.view.slice (Slab.rows n N W (off (peer k c)) (inb (peer k c)))).set]{fullShare} m (A.view.loc (t.tc : Thread nD τ))) := by
    rintro t rfl; exact BIBase.Entails.rfl
  exact this _ (Equiv.apply_symm_apply (swap k) c)

/-- Where the finished copies have left their payloads, the gathered array is the whole of which the shards are the blocks. -/
theorem gathered (hoff : ∀ d, off d = ![n * d.val, 0]) (hN : N = 8 * n) (s : MemSt nD τ sig (Elt F)) (c : Dev nD)
    (hl : ∀ i ∈ (cpAt a ha A off inb hw hsc c).dst.view.set, s.mem (A.view.loc (c.tc : Thread nD τ)) i
        = (cpAt a ha A off inb hw hsc c).dst.view.write (Elt F) (m (A.view.loc (c.tc : Thread nD τ))) (a.view.read (Elt F) (m (a.view.loc (c.tc : Thread nD τ)))) Finset.univ i)
    (hr : ∀ (k : Fin 7) (d t : Dev nD), swap k d = t → t = c → ∀ i ∈ (cpAt a ha A off inb hw hsc d).dst.view.set, s.mem (A.view.loc (t.tc : Thread nD τ)) i
        = (cpAt a ha A off inb hw hsc d).dst.view.write (Elt F) (m (A.view.loc (t.tc : Thread nD τ))) (a.view.read (Elt F) (m (a.view.loc (d.tc : Thread nD τ)))) Finset.univ i)
    (v : (⟨2, ![N, W]⟩ : Shape).Idx → Elt F e) (ht : Layout.Tiles ⟨2, ![n, W]⟩ ⟨2, ![N, W]⟩ 0 8)
    (hv : ∀ d : Dev nD, a.view.read (Elt F) (m (a.view.loc (d.tc : Thread nD τ))) = Layout.block ⟨2, ![n, W]⟩ ⟨2, ![N, W]⟩ 0 8 d v ht) :
    A.view.read (Elt F) (s.mem (A.view.loc (c.tc : Thread nD τ))) = v := by
  have hall : ∀ d : Dev nD, (cpAt a ha A off inb hw hsc d).dst.view.read (Elt F) (s.mem (A.view.loc (c.tc : Thread nD τ)))
      = a.view.read (Elt F) (m (a.view.loc (d.tc : Thread nD τ))) := by
    intro d
    refine Slab.read_of_write _ (m (A.view.loc (c.tc : Thread nD τ))) _ _ ?_
    rcases exists_peer c d with rfl | ⟨k, rfl⟩
    · exact hl
    · exact hr k (peer k c) c (peer_peer k c) rfl
  funext x
  obtain ⟨d, y, hy, h0, h1⟩ := Slab.mem_slab off inb hoff hN x
  have h := congrFun (hall d) y
  rw [hv d, Layout.block_apply] at h
  have hx : ht.idx d y = x := by
    funext i
    refine Fin.ext ?_
    revert i
    refine Fin.cases ?_ (Fin.cases ?_ finZeroElim)
    · rw [(Layout.idx_rows_val ht d y).1.trans (by rw [Nat.mul_comm])]; exact h0.symm
    · exact ((Layout.idx_rows_val ht d y).2).trans h1.symm
  rw [hx] at h
  rw [← h, hy]
  rfl

end Weight

end Cert.Gather

end
-- ==== Proof.GatherRun.lean ====
/-
  The run of the all-gather over any float values.
-/
module

public import proofs.«01_k».proof.Proof.GatherMem

@[expose] public section

set_option Elab.async false

noncomputable section

namespace Cert.Gather

open Cert.KernelIdeal Cert.KernelIdeal.Gen Cert.Talk
open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ (UU nD τ sig) ℕ

variable (m : (ℓ : Loc nD τ sig) → Buf (Elt F) ℓ)

/-- A shard whole, and a gathered array whole. -/
def srcAll (c : Dev nD) (w : Fin 11) : sProp 𝕄 := (wcp c w).src.view.loc (c.tc : Thread nD τ) ↦[(wcp c w).src.view.set]{fullShare} m _
def dstAll (c : Dev nD) (w : Fin 11) : sProp 𝕄 := (wcp c w).dst.view.loc (c.tc : Thread nD τ) ↦{fullShare} m _

theorem src_split (c : Dev nD) (w : Fin 11) :
    srcAll m c w ⊢ iprop(copies.srcL m share c w ∗ bigSep Finset.univ fun k : Fin 7 => copies.srcR m share c (w, k)) :=
  Entails.of_eq (shares _ _ w)

theorem off1 (d : Dev nD) : k0_off1 d = ![352 * d.val, 0] := by revert d; decide +kernel
theorem off2 (d : Dev nD) : k0_off2 d = ![1088 * d.val, 0] := by revert d; decide +kernel
theorem off3 (d : Dev nD) : k0_off3 d = ![128 * d.val, 0] := by revert d; decide +kernel
theorem off4 (d : Dev nD) : k0_off4 d = ![128 * d.val, 0] := by revert d; decide +kernel
theorem off5 (d : Dev nD) : k0_off5 d = ![32 * d.val, 0] := by revert d; decide +kernel

theorem dst_split (c : Dev nD) : (w : Fin 11) →
    dstAll m c w ⊢ iprop(copies.dstL m c w ∗ bigSep Finset.univ fun k : Fin 7 => copies.dstR m ((copies.tg (w, k)).symm c) (w, k))
  | 0 => split_dst _ (Memref.isWhole_whole _) (Memref.whole main_v1_0) _ k0_off1_inb _ _ m off1 rfl (View.set_whole _) c
  | 1 => split_dst _ (Memref.isWhole_whole _) (Memref.whole main_v1_1) _ k0_off1_inb _ _ m off1 rfl (View.set_whole _) c
  | 2 => split_dst _ (Memref.isWhole_whole _) (Memref.whole main_v1_2) _ k0_off2_inb _ _ m off2 rfl (View.set_whole _) c
  | 3 => split_dst _ (Memref.isWhole_whole _) (Memref.whole main_v1_3) _ k0_off3_inb _ _ m off3 rfl (View.set_whole _) c
  | 4 => split_dst _ (Memref.isWhole_whole _) (Memref.whole main_v1_4) _ k0_off1_inb _ _ m off1 rfl (View.set_whole _) c
  | 5 => split_dst _ (Memref.isWhole_whole _) (Memref.whole main_v1_5) _ k0_off1_inb _ _ m off1 rfl (View.set_whole _) c
  | 6 => split_dst _ (Memref.isWhole_whole _) (Memref.whole main_v1_6) _ k0_off1_inb _ _ m off1 rfl (View.set_whole _) c
  | 7 => split_dst _ (Memref.isWhole_whole _) (Memref.whole main_v1_7) _ k0_off4_inb _ _ m off4 rfl (View.set_whole _) c
  | 8 => split_dst _ (Memref.isWhole_whole _) (Memref.whole main_v1_8) _ k0_off4_inb _ _ m off4 rfl (View.set_whole _) c
  | 9 => split_dst _ (Memref.isWhole_whole _) (Memref.whole main_v1_9) _ k0_off1_inb _ _ m off1 rfl (View.set_whole _) c
  | 10 => split_dst _ (Memref.isWhole_whole _) (Memref.whole main_v1_10) _ k0_off5_inb _ _ m off5 rfl (View.set_whole _) c

theorem W_0 : ∀ p, (cfgs p).W = 0 := by intro p; fin_cases p; rfl

/-- A whole shard and a whole gathered array. -/
theorem pair (c : Dev nD) (b b' : Ref sig .tc) (f : Buf (Elt F) ((c.tc : Thread nD τ).loc b)) (f' : Buf (Elt F) ((c.tc : Thread nD τ).loc b')) :
    iprop(((c.tc : Thread nD τ).loc b ↦{fullShare} f) ∗ ((c.tc : Thread nD τ).loc b' ↦{fullShare} f') : sProp 𝕄)
      ⊢ iprop(((c.tc : Thread nD τ).loc b ↦[(View.whole b : View sig .tc _ _ _).set]{fullShare} f) ∗ ((c.tc : Thread nD τ).loc b' ↦{fullShare} f')) := by
  rw [View.set_whole]

/-- A device's arrays, weight by weight. -/
theorem arrays (c : Dev nD) : (unscopedBufs c (fun b => m ((c.tc : Thread nD τ).loc b)) : sProp 𝕄) ⊢ bigSep Finset.univ fun w => iprop(srcAll m c w ∗ dstAll m c w) := by
  rw [Pipeline.unscopedBufs_split cfgs 0 (fun w => Fin.elim0 w) (fun w => Fin.elim0 w) c, bigSep_univ_eq_bigSepL ws (by decide +kernel) (by decide +kernel)]
  have hrest := unscopedRest0_eq (Ix := Unit) (Name := ℕ) (U := UU nD τ sig) (Lvl := ℕ) c (fun b => m ((c.tc : Thread nD τ).loc b))
  simp only [ws, bigSepL_cons']
  iintro ⟨-, H⟩
  ihave H := (Entails.of_eq hrest) $$ H
  icases H with ⟨A0, A1, A2, A3, A4, A5, A6, A7, A8, A9, A10, B0, B1, B2, B3, B4, B5, B6, B7, B8, B9, B10⟩
  simp only [srcAll, dstAll]
  isplitl [A0 B0]; · iapply (pair (F := F) c main_arg0 main_v1_0 _ _); isplitl [A0]; { iexact A0 }; iexact B0
  isplitl [A1 B1]; · iapply (pair (F := F) c main_arg1 main_v1_1 _ _); isplitl [A1]; { iexact A1 }; iexact B1
  isplitl [A2 B2]; · iapply (pair (F := F) c main_arg2 main_v1_2 _ _); isplitl [A2]; { iexact A2 }; iexact B2
  isplitl [A3 B3]; · iapply (pair (F := F) c main_arg3 main_v1_3 _ _); isplitl [A3]; { iexact A3 }; iexact B3
  isplitl [A4 B4]; · iapply (pair (F := F) c main_arg4 main_v1_4 _ _); isplitl [A4]; { iexact A4 }; iexact B4
  isplitl [A5 B5]; · iapply (pair (F := F) c main_arg5 main_v1_5 _ _); isplitl [A5]; { iexact A5 }; iexact B5
  isplitl [A6 B6]; · iapply (pair (F := F) c main_arg6 main_v1_6 _ _); isplitl [A6]; { iexact A6 }; iexact B6
  isplitl [A7 B7]; · iapply (pair (F := F) c main_arg7 main_v1_7 _ _); isplitl [A7]; { iexact A7 }; iexact B7
  isplitl [A8 B8]; · iapply (pair (F := F) c main_arg8 main_v1_8 _ _); isplitl [A8]; { iexact A8 }; iexact B8
  isplitl [A9 B9]; · iapply (pair (F := F) c main_arg9 main_v1_9 _ _); isplitl [A9]; { iexact A9 }; iexact B9
  isplitl [A10 B10]; · iapply (pair (F := F) c main_arg10 main_v1_10 _ _); isplitl [A10]; { iexact A10 }; iexact B10
  iempintro

/-- The sorting of all arrays into what the copies take. -/
theorem sorted : (bigSep Finset.univ fun c : Dev nD => (unscopedBufs c (fun b => m ((c.tc : Thread nD τ).loc b)) : sProp 𝕄))
    ⊢ bigSep Finset.univ fun c : Dev nD => bigSep Finset.univ fun i => copies.lend m share c i :=
  (bigSep_mono fun c _ => arrays m c).trans (copies.lend_all m share (srcAll m) (dstAll m) (src_split m) (dst_split m))

set_option maxRecDepth 65536 in
theorem run_main (g : Dev nD → PrngReg) : θ_run (defs (F := F)) (onTc (τ := τ) (main (F := F))) ⟨m, fun _ => 0, g⟩
    (fun r => (∀ c x, copies.says m r.2 c x) ∧ r.2.sem = fun _ => 0) := by
  refine run_talk cfgs copies W_0 cellOf_inj 0 N_0 winFacts0.to₀ (by decide +kernel) defs₀ main (fun c => main_chain c) (fun _ _ => Topo.routes_tc _ _) starts starts_all starts_nodup
    waits waits_all waits_nodup ?_ m g share (sorted m) ?_
  · intro c t R
    rw [show defs₀ (F := F) .tc (cfgs 0).body ((cfgs 0).bodyArgs t ((cfgs 0).slots t)) = _ from body_eq]
    simp only [Prog.lift, Prog.bind_op, Prog.bind_ret, wp_deviceId]
    exact BIBase.Entails.rfl
  · intro s h hs
    exact ⟨h, sem_eq_zero_of_scoped (by decide) hs⟩

end Cert.Gather

end
-- ==== Proof.GatherEnd.lean ====
/-
  What the all-gather leaves: every shard as it was, every gathered array the whole of which the shards are the blocks.
-/
module

public import proofs.«01_k».proof.Proof.GatherRun

@[expose] public section

set_option Elab.async false

noncomputable section

namespace Cert.Gather

open Cert.KernelIdeal Cert.KernelIdeal.Gen Cert.Talk
open Idealize.ShloMosaic Idealize.ShloMosaic.TcCoe

variable {F : FTy → Type} [FloatOps F] (m : (ℓ : Loc nD τ sig) → Buf (Elt F) ℓ) (s : MemSt nD τ sig (Elt F))

/-- Every shard ends as it began. -/
abbrev Kept : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)

variable {m s}

omit [FloatOps F] in
theorem whole_eq (c : Dev nD) (b : Ref sig .tc)
    (h : ∀ i ∈ (View.whole b : View sig .tc _ _ _).set, s.mem ((c.tc : Thread nD τ).loc b) i = m ((c.tc : Thread nD τ).loc b) i) :
    s.mem ((c.tc : Thread nD τ).loc b) = m ((c.tc : Thread nD τ).loc b) := by
  rw [View.set_whole] at h
  exact funext fun i => h i (Finset.mem_univ _)

theorem kept (h : ∀ c x, copies.says m s c x) : Kept m s := fun c =>
  ⟨whole_eq c _ (h c (.inl 0)).2, whole_eq c _ (h c (.inl 1)).2, whole_eq c _ (h c (.inl 2)).2, whole_eq c _ (h c (.inl 3)).2,
    whole_eq c _ (h c (.inl 4)).2, whole_eq c _ (h c (.inl 5)).2, whole_eq c _ (h c (.inl 6)).2, whole_eq c _ (h c (.inl 7)).2,
    whole_eq c _ (h c (.inl 8)).2, whole_eq c _ (h c (.inl 9)).2, whole_eq c _ (h c (.inl 10)).2⟩

/-- Every gathered array is the whole of which the shards are the blocks. -/
theorem got (h : ∀ c x, copies.says m s c x)
    (v0 : (⟨2, ![2816, 1024]⟩ : Shape).Idx → Elt F .bf16) (v1 : (⟨2, ![2816, 1024]⟩ : Shape).Idx → Elt F .bf16) (v2 : (⟨2, ![8704, 1024]⟩ : Shape).Idx → Elt F .bf16) (v3 : (⟨2, ![1024, 512]⟩ : Shape).Idx → Elt F .bf16)
    (v4 : (⟨2, ![2816, 1024]⟩ : Shape).Idx → Elt F .bf16) (v5 : (⟨2, ![2816, 1024]⟩ : Shape).Idx → Elt F .bf16) (v6 : (⟨2, ![2816, 1024]⟩ : Shape).Idx → Elt F .bf16) (v7 : (⟨2, ![1024, 1024]⟩ : Shape).Idx → Elt F .bf16)
    (v8 : (⟨2, ![1024, 1024]⟩ : Shape).Idx → Elt F .bf16) (v9 : (⟨2, ![2816, 1024]⟩ : Shape).Idx → Elt F .bf16) (v10 : (⟨2, ![256, 128]⟩ : Shape).Idx → Elt F .f32)
    (hv : ∀ c : Dev nD, m ((c.tc : Thread nD τ).loc main_arg0) = Layout.block ⟨2, ![352, 1024]⟩ ⟨2, ![2816, 1024]⟩ 0 8 c v0
      ∧ m ((c.tc : Thread nD τ).loc main_arg1) = Layout.block ⟨2, ![352, 1024]⟩ ⟨2, ![2816, 1024]⟩ 0 8 c v1
      ∧ m ((c.tc : Thread nD τ).loc main_arg2) = Layout.block ⟨2, ![1088, 1024]⟩ ⟨2, ![8704, 1024]⟩ 0 8 c v2
      ∧ m ((c.tc : Thread nD τ).loc main_arg3) = Layout.block ⟨2, ![128, 512]⟩ ⟨2, ![1024, 512]⟩ 0 8 c v3
      ∧ m ((c.tc : Thread nD τ).loc main_arg4) = Layout.block ⟨2, ![352, 1024]⟩ ⟨2, ![2816, 1024]⟩ 0 8 c v4
      ∧ m ((c.tc : Thread nD τ).loc main_arg5) = Layout.block ⟨2, ![352, 1024]⟩ ⟨2, ![2816, 1024]⟩ 0 8 c v5
      ∧ m ((c.tc : Thread nD τ).loc main_arg6) = Layout.block ⟨2, ![352, 1024]⟩ ⟨2, ![2816, 1024]⟩ 0 8 c v6
      ∧ m ((c.tc : Thread nD τ).loc main_arg7) = Layout.block ⟨2, ![128, 1024]⟩ ⟨2, ![1024, 1024]⟩ 0 8 c v7
      ∧ m ((c.tc : Thread nD τ).loc main_arg8) = Layout.block ⟨2, ![128, 1024]⟩ ⟨2, ![1024, 1024]⟩ 0 8 c v8
      ∧ m ((c.tc : Thread nD τ).loc main_arg9) = Layout.block ⟨2, ![352, 1024]⟩ ⟨2, ![2816, 1024]⟩ 0 8 c v9
      ∧ m ((c.tc : Thread nD τ).loc main_arg10) = Layout.block ⟨2, ![32, 128]⟩ ⟨2, ![256, 128]⟩ 0 8 c v10) (c : Dev nD) :
    s.mem ((c.tc : Thread nD τ).loc main_v1_0) = v0
    ∧ s.mem ((c.tc : Thread nD τ).loc main_v1_1) = v1
    ∧ s.mem ((c.tc : Thread nD τ).loc main_v1_2) = v2
    ∧ s.mem ((c.tc : Thread nD τ).loc main_v1_3) = v3
    ∧ s.mem ((c.tc : Thread nD τ).loc main_v1_4) = v4
    ∧ s.mem ((c.tc : Thread nD τ).loc main_v1_5) = v5
    ∧ s.mem ((c.tc : Thread nD τ).loc main_v1_6) = v6
    ∧ s.mem ((c.tc : Thread nD τ).loc main_v1_7) = v7
    ∧ s.mem ((c.tc : Thread nD τ).loc main_v1_8) = v8
    ∧ s.mem ((c.tc : Thread nD τ).loc main_v1_9) = v9
    ∧ s.mem ((c.tc : Thread nD τ).loc main_v1_10) = v10 :=
  ⟨gathered _ (Memref.isWhole_whole _) (Memref.whole main_v1_0) k0_off1 k0_off1_inb _ _ m off1 rfl s c (h c (.inl 0)).1 (fun k => h c (.inr (.inr (0, k)))) v0 (by decide) fun d => (hv d).1,
    gathered _ (Memref.isWhole_whole _) (Memref.whole main_v1_1) k0_off1 k0_off1_inb _ _ m off1 rfl s c (h c (.inl 1)).1 (fun k => h c (.inr (.inr (1, k)))) v1 (by decide) fun d => (hv d).2.1,
    gathered _ (Memref.isWhole_whole _) (Memref.whole main_v1_2) k0_off2 k0_off2_inb _ _ m off2 rfl s c (h c (.inl 2)).1 (fun k => h c (.inr (.inr (2, k)))) v2 (by decide) fun d => (hv d).2.2.1,
    gathered _ (Memref.isWhole_whole _) (Memref.whole main_v1_3) k0_off3 k0_off3_inb _ _ m off3 rfl s c (h c (.inl 3)).1 (fun k => h c (.inr (.inr (3, k)))) v3 (by decide) fun d => (hv d).2.2.2.1,
    gathered _ (Memref.isWhole_whole _) (Memref.whole main_v1_4) k0_off1 k0_off1_inb _ _ m off1 rfl s c (h c (.inl 4)).1 (fun k => h c (.inr (.inr (4, k)))) v4 (by decide) fun d => (hv d).2.2.2.2.1,
    gathered _ (Memref.isWhole_whole _) (Memref.whole main_v1_5) k0_off1 k0_off1_inb _ _ m off1 rfl s c (h c (.inl 5)).1 (fun k => h c (.inr (.inr (5, k)))) v5 (by decide) fun d => (hv d).2.2.2.2.2.1,
    gathered _ (Memref.isWhole_whole _) (Memref.whole main_v1_6) k0_off1 k0_off1_inb _ _ m off1 rfl s c (h c (.inl 6)).1 (fun k => h c (.inr (.inr (6, k)))) v6 (by decide) fun d => (hv d).2.2.2.2.2.2.1,
    gathered _ (Memref.isWhole_whole _) (Memref.whole main_v1_7) k0_off4 k0_off4_inb _ _ m off4 rfl s c (h c (.inl 7)).1 (fun k => h c (.inr (.inr (7, k)))) v7 (by decide) fun d => (hv d).2.2.2.2.2.2.2.1,
    gathered _ (Memref.isWhole_whole _) (Memref.whole main_v1_8) k0_off4 k0_off4_inb _ _ m off4 rfl s c (h c (.inl 8)).1 (fun k => h c (.inr (.inr (8, k)))) v8 (by decide) fun d => (hv d).2.2.2.2.2.2.2.2.1,
    gathered _ (Memref.isWhole_whole _) (Memref.whole main_v1_9) k0_off1 k0_off1_inb _ _ m off1 rfl s c (h c (.inl 9)).1 (fun k => h c (.inr (.inr (9, k)))) v9 (by decide) fun d => (hv d).2.2.2.2.2.2.2.2.2.1,
    gathered _ (Memref.isWhole_whole _) (Memref.whole main_v1_10) k0_off5 k0_off5_inb _ _ m off5 rfl s c (h c (.inl 10)).1 (fun k => h c (.inr (.inr (10, k)))) v10 (by decide) fun d => (hv d).2.2.2.2.2.2.2.2.2.2⟩

end Cert.Gather

end
-- ==== Proof.Sums.lean ====
/-
  The sums of the gradients' parts over the eight devices: each kernel's result is the reference's sum.
-/
module

public import proofs.«01_k».proof.Defs
public import proofs.«01_k».proof.Proof.Gen.FfnSumIdeal.Value
public import proofs.«01_k».proof.Proof.Gen.FfnSumRefIdeal.Run
public import proofs.«01_k».proof.Proof.Gen.InSumIdeal.Value
public import proofs.«01_k».proof.Proof.Gen.InSumRefIdeal.Run
public import proofs.«01_k».proof.Proof.Gen.AttnSumIdeal.Value
public import proofs.«01_k».proof.Proof.Gen.AttnSumRefIdeal.Run
public import proofs.«01_k».proof.Proof.Gen.OutSumIdeal.Value
public import proofs.«01_k».proof.Proof.Gen.OutSumRefIdeal.Run
public import proofs.«01_k».proof.Proof.Gen.TapsSumIdeal.Value
public import proofs.«01_k».proof.Proof.Gen.TapsSumRefIdeal.Run
public import proofs.«01_k».proof.Proof.Gen.SmallIdeal.Value
public import proofs.«01_k».proof.Proof.Gen.SmallRefIdeal.Run
public import Idealize.ShloMosaic.Lib.Pointwise.Reduce
public import Idealize.ShloMosaic.Lib.IdealHost

@[expose] public section

noncomputable section

namespace Cert.Sums

open Idealize.ShloMosaic Idealize.ShloMosaic.TcCoe Idealize.SL.Sem

/-- Eight summands in order are the sum from zero on. -/
theorem add_eight (g : Fin 8 → EReal) {p0 p1 p2 p3 p4 p5 p6 p7 z : EReal} (hz : z = 0) (h0 : p0 = g 0) (h1 : p1 = g 1) (h2 : p2 = g 2) (h3 : p3 = g 3)
    (h4 : p4 = g 4) (h5 : p5 = g 5) (h6 : p6 = g 6) (h7 : p7 = g 7) :
    p0 + p1 + p2 + p3 + p4 + p5 + p6 + p7 = z + ∑ k, g k := by
  rw [Fin.sum_univ_eight, hz, zero_add, h0, h1, h2, h3, h4, h5, h6, h7]

/-- The reference's sum over the parts. -/
abbrev total {n W : ℕ} (a : FVec Ideal ⟨3, ![8, n, W]⟩ .f32) (h : (⟨3, ![8, n, W]⟩ : Shape).ReducesTo [0] ⟨2, ![n, W]⟩) (hu : 0 < (⟨0, ![]⟩ : Shape).numel) :
    FVec Ideal ⟨2, ![n, W]⟩ .f32 :=
  Host.reduceAdd (F := Ideal) (φ := .f32) a (constant (F := Ideal) ⟨0, ![]⟩ .f32 0x00000000#32) h hu

/-- Its value at a row and a column, part by part. -/
theorem total_apply {n W : ℕ} (a : FVec Ideal ⟨3, ![8, n, W]⟩ .f32) (h hu) (j : (⟨2, ![n, W]⟩ : Shape).Idx) {p0 p1 p2 p3 p4 p5 p6 p7 : EReal}
    (h0 : p0 = a (ix3 0 (j 0) (j 1))) (h1 : p1 = a (ix3 1 (j 0) (j 1))) (h2 : p2 = a (ix3 2 (j 0) (j 1))) (h3 : p3 = a (ix3 3 (j 0) (j 1)))
    (h4 : p4 = a (ix3 4 (j 0) (j 1))) (h5 : p5 = a (ix3 5 (j 0) (j 1))) (h6 : p6 = a (ix3 6 (j 0) (j 1))) (h7 : p7 = a (ix3 7 (j 0) (j 1))) :
    p0 + p1 + p2 + p3 + p4 + p5 + p6 + p7 = total a h hu j := by
  show _ = Ideal.hostReduceAdd h a (constant (F := Ideal) ⟨0, ![]⟩ .f32 0x00000000#32 (Shape.Idx.first hu)) j
  rw [Ideal.hostReduceAdd_r3_a0]
  refine add_eight _ ?_ h0 h1 h2 h3 h4 h5 h6 h7
  show Ideal.ofBits .f32 0x00000000#32 = 0
  simp [Ideal.ofBits, Ideal.ieee]

section
open Cert.FfnSumIdeal Cert.FfnSumIdeal.Gen Cert.FfnSumIdeal.Value

theorem ffn_sum (a : Vec Ideal S8x352x1024 .bf16) (hs h hu) : G1 (F := Ideal) a = total (extf (F := Ideal) (φ := .bf16) .f32 a hs) h hu := by
  funext j
  refine (piece1_0 _ _ _ _ _ _ _ _ j).trans ?_
  refine total_apply _ _ _ j ?_ ?_ ?_ ?_ ?_ ?_ ?_ ?_ <;>
    exact congrArg a (funext fun x => Fin.ext (match x with
      | 0 => rfl
      | 1 => by show 0 + 1 * (0 + 1 * (j 0).val) = (j 0).val; omega
      | 2 => by show 0 + 1 * (0 + 1 * (j 1).val) = (j 1).val; omega))

theorem ffn : Cert.algebraic_FfnSumIdeal_FfnSumRefIdeal := fun m g m' g' _ hm =>
  ⟨fun c => G1 (m ((c.tc : Thread nD τ).loc main_arg0)), run m g,
    (θ_run Cert.FfnSumRefIdeal.defs _ _).mono (fun r h c => ⟨(h c).1.trans (by rw [hm c]; exact (ffn_sum _ _ _ _).symm), (h c).2⟩)
      (Cert.FfnSumRefIdeal.Value.run m' g')⟩
end

section
open Cert.AttnSumIdeal Cert.AttnSumIdeal.Gen Cert.AttnSumIdeal.Value

theorem attn_sum (a : Vec Ideal S8x128x512 .bf16) (hs h hu) : G1 (F := Ideal) a = total (extf (F := Ideal) (φ := .bf16) .f32 a hs) h hu := by
  funext j
  refine (piece1_0 _ _ _ _ _ _ _ _ j).trans ?_
  refine total_apply _ _ _ j ?_ ?_ ?_ ?_ ?_ ?_ ?_ ?_ <;>
    exact congrArg a (funext fun x => Fin.ext (match x with
      | 0 => rfl
      | 1 => by show 0 + 1 * (0 + 1 * (j 0).val) = (j 0).val; omega
      | 2 => by show 0 + 1 * (0 + 1 * (j 1).val) = (j 1).val; omega))

theorem attn : Cert.algebraic_AttnSumIdeal_AttnSumRefIdeal := fun m g m' g' _ hm =>
  ⟨fun c => G1 (m ((c.tc : Thread nD τ).loc main_arg0)), run m g,
    (θ_run Cert.AttnSumRefIdeal.defs _ _).mono (fun r h c => ⟨(h c).1.trans (by rw [hm c]; exact (attn_sum _ _ _ _).symm), (h c).2⟩)
      (Cert.AttnSumRefIdeal.Value.run m' g')⟩
end

section
open Cert.OutSumIdeal Cert.OutSumIdeal.Gen Cert.OutSumIdeal.Value

theorem out_sum (a : Vec Ideal S8x128x1024 .bf16) (hs h hu) : G1 (F := Ideal) a = total (extf (F := Ideal) (φ := .bf16) .f32 a hs) h hu := by
  funext j
  refine (piece1_0 _ _ _ _ _ _ _ _ j).trans ?_
  refine total_apply _ _ _ j ?_ ?_ ?_ ?_ ?_ ?_ ?_ ?_ <;>
    exact congrArg a (funext fun x => Fin.ext (match x with
      | 0 => rfl
      | 1 => by show 0 + 1 * (0 + 1 * (j 0).val) = (j 0).val; omega
      | 2 => by show 0 + 1 * (0 + 1 * (j 1).val) = (j 1).val; omega))

theorem out : Cert.algebraic_OutSumIdeal_OutSumRefIdeal := fun m g m' g' _ hm =>
  ⟨fun c => G1 (m ((c.tc : Thread nD τ).loc main_arg0)), run m g,
    (θ_run Cert.OutSumRefIdeal.defs _ _).mono (fun r h c => ⟨(h c).1.trans (by rw [hm c]; exact (out_sum _ _ _ _).symm), (h c).2⟩)
      (Cert.OutSumRefIdeal.Value.run m' g')⟩
end

section
open Cert.TapsSumIdeal Cert.TapsSumIdeal.Gen Cert.TapsSumIdeal.Value

theorem taps_sum (a : Vec Ideal S8x32x128 .f32) (h hu) : G1 (F := Ideal) a = total a h hu := by
  funext j
  refine (piece1_0 _ _ _ _ _ _ _ _ j).trans ?_
  refine total_apply _ _ _ j ?_ ?_ ?_ ?_ ?_ ?_ ?_ ?_ <;>
    exact congrArg a (funext fun x => Fin.ext (match x with
      | 0 => rfl
      | 1 => by show 0 + 1 * (0 + 1 * (j 0).val) = (j 0).val; omega
      | 2 => by show 0 + 1 * (0 + 1 * (j 1).val) = (j 1).val; omega))

theorem taps : Cert.algebraic_TapsSumIdeal_TapsSumRefIdeal := fun m g m' g' _ hm =>
  ⟨fun c => G1 (m ((c.tc : Thread nD τ).loc main_arg0)), run m g,
    (θ_run Cert.TapsSumRefIdeal.defs _ _).mono (fun r h c => ⟨(h c).1.trans (by rw [hm c]; exact (taps_sum _ _ _).symm), (h c).2⟩)
      (Cert.TapsSumRefIdeal.Value.run m' g')⟩
end

section
open Cert.InSumIdeal Cert.InSumIdeal.Gen Cert.InSumIdeal.Value

variable (m : (ℓ : Loc nD τ sig) → Buf (Elt Ideal) ℓ)

/-- At grid point t both windows stand at row block t. -/
theorem inp_at : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

/-- Point t writes rows 544 t to 544 t + 543 of the sum. -/
theorem inp_rows (hs h hu) (c : Dev nD) (t : Fin cfg0.N) : (dats m 0 c).flushed 1 t
    = ((cfg0.win 1).blk t).view.read (Elt Ideal) (total (extf (F := Ideal) (φ := .bf16) .f32 (m ((c.tc : Thread nD τ).loc main_arg0)) hs) h hu) := by
  obtain ⟨e0, e1⟩ := inp_at t
  have a0 : win0_0.index t (0 : Fin 3) = 0 := congrFun e0 0
  have a1 : win0_0.index t (1 : Fin 3) = t.val := congrFun e0 1
  have a2 : win0_0.index t (2 : Fin 3) = 0 := congrFun e0 2
  have b0 : win0_1.index t (0 : Fin 2) = t.val := congrFun e1 0
  have b1 : win0_1.index t (1 : Fin 2) = 0 := congrFun e1 1
  funext j
  refine (congrFun (flushed1 m c t) j).trans ((canon1_eq _ _ _ _ _ _ _ _ j).trans ?_)
  refine total_apply _ h hu (((cfg0.win 1).blk t).view.emb j) ?_ ?_ ?_ ?_ ?_ ?_ ?_ ?_ <;>
    exact congrArg (m ((c.tc : Thread nD τ).loc main_arg0)) (funext fun x => Fin.ext (match x with
      | 0 => by show win0_0.index t (0 : Fin 3) * 8 + 1 * (_ + 1 * 0) = _; rw [a0]; rfl
      | 1 => by
          show win0_0.index t (1 : Fin 3) * 544 + 1 * (0 + 1 * (j 0).val) = win0_1.index t (0 : Fin 2) * 544 + 1 * (j 0).val
          omega
      | 2 => by
          show win0_0.index t (2 : Fin 3) * 1024 + 1 * (0 + 1 * (j 1).val) = win0_1.index t (1 : Fin 2) * 1024 + 1 * (j 1).val
          omega))

/-- Every row is in one of the two blocks. -/
theorem inp_cover (i : S1088x1024.Idx) : ∃ t : Fin cfg0.N, (cfg0.win 1).flush t = true ∧ i ∈ ((cfg0.win 1).blk t).view.set := by
  have h0 : (i 0).val < 1088 := (i 0).isLt
  have h1 : (i 1).val < 1024 := (i 1).isLt
  have hN : cfg0.N = 2 := rfl
  let t : Fin cfg0.N := ⟨(i 0).val / 544, by omega⟩
  obtain ⟨-, e1⟩ := inp_at t
  have b0 : win0_1.index t (0 : Fin 2) = (i 0).val / 544 := congrFun e1 0
  have b1 : win0_1.index t (1 : Fin 2) = 0 := congrFun e1 1
  refine ⟨t, flush0_1 t, ?_⟩
  show i ∈ ((View.whole main_v0).slice (win0_1.rect t)).set
  rw [View.set_slice_whole, Rect.mem_set_unit]
  intro a
  match a with
  | 0 => show win0_1.index t (0 : Fin 2) * 544 ≤ (i 0).val ∧ (i 0).val < win0_1.index t (0 : Fin 2) * 544 + 544; omega
  | 1 => show win0_1.index t (1 : Fin 2) * 1024 ≤ (i 1).val ∧ (i 1).val < win0_1.index t (1 : Fin 2) * 1024 + 1024; omega

theorem inp : Cert.algebraic_InSumIdeal_InSumRefIdeal := fun m g m' g' _ hm =>
  ⟨_, run_blocks m g,
    (θ_run Cert.InSumRefIdeal.defs _ _).mono
      (fun r h c => ⟨(h c).1.trans (by
        rw [hm c]
        exact ((dats m 0 c).arrAt_eq_of_cover 1 _ (fun t _ => inp_rows m _ _ _ c t) inp_cover).symm), (h c).2⟩)
      (Cert.InSumRefIdeal.Value.run m' g')⟩
end

section
open Cert.SmallIdeal Cert.SmallIdeal.Gen Cert.SmallIdeal.Value

/-- The kernel's sum of the parts is the reference's. -/
theorem small_sum (a : Vec Ideal S8x8x1024 .f32) (b c d : Vec Ideal S8x1024 .f32) (h hu) : k0_pay5 (F := Ideal) a b c d = total a h hu := by
  funext j
  refine (piece4_0 _ _ _ _ _ _ _ _ j).trans ?_
  refine total_apply _ _ _ j ?_ ?_ ?_ ?_ ?_ ?_ ?_ ?_ <;>
    exact congrArg a (funext fun x => Fin.ext (match x with
      | 0 => rfl
      | 1 => by show 0 + 1 * (0 + 1 * (j 0).val) = (j 0).val; omega
      | 2 => by show 0 + 1 * (0 + 1 * (j 1).val) = (j 1).val; omega))

theorem small : Cert.algebraic_SmallIdeal_SmallRefIdeal := fun m g m' g' _ hm =>
  ⟨_, _, _, _, run m g, (θ_run Cert.SmallRefIdeal.defs _ _).mono
    (fun r h c => by
      obtain ⟨h0, h1, h2, h3, h4⟩ := h c
      obtain ⟨e0, e1, e2, e3⟩ := hm c
      have e := fun x y => small_sum (m ((c.tc : Thread nD τ).loc main_arg0)) (m ((c.tc : Thread nD τ).loc main_arg1)) (m ((c.tc : Thread nD τ).loc main_arg2))
        (m ((c.tc : Thread nD τ).loc main_arg3)) x y
      rw [e0] at h0
      rw [e0, e1, e2, e3] at h1
      rw [e0, e2] at h2
      rw [e0, e3] at h3
      refine ⟨h0.trans (e _ _).symm, h1.trans ?_, h2.trans ?_, h3.trans ?_, h4⟩
      · exact congrArg (fun x => k0_pay3 x (m ((c.tc : Thread nD τ).loc main_arg1)) (m ((c.tc : Thread nD τ).loc main_arg2)) (m ((c.tc : Thread nD τ).loc main_arg3))) (e _ _).symm
      · exact congrArg (fun x => k0_pay1 x (m ((c.tc : Thread nD τ).loc main_arg2))) (e _ _).symm
      · exact congrArg (fun x => k0_pay2 x (m ((c.tc : Thread nD τ).loc main_arg3))) (e _ _).symm)
    (Cert.SmallRefIdeal.Value.run m' g')⟩
end

end Cert.Sums

end
-- ==== Proof.Trade.lean ====
/-
  The exchange of the gradients: its copies, and that the printed kernel is the list of their starts followed by the
  list of their waits.
-/
module

public import proofs.«01_k».proof.Proof.Talk
public import proofs.«01_k».proof.Proof.Gen.ExchangeIdeal
public import proofs.«01_k».proof.Proof.Gen.ExchangeIdeal.Launch

@[expose] public section

set_option Elab.async false

noncomputable section

namespace Cert.Trade

open Cert.ExchangeIdeal Cert.ExchangeIdeal.Gen Cert.Talk
open Idealize.ShloMosaic Idealize.ShloMosaic.TcCoe Idealize.SL.Sem

variable {F : FTy → Type} [FloatOps F]

/-- Slot o of an array of eight, as an array of its own. -/
abbrev slot {n W : ℕ} {e : EltTy} (A : Memref sig .tc .hbm ⟨3, ![8, n, W]⟩ e) (o : Fin 3 → ℕ)
    (inb : ∀ i, o i + (⟨3, ![1, n, W]⟩ : Shape).size i ≤ (⟨3, ![8, n, W]⟩ : Shape).size i)
    (sq : (⟨3, ![1, n, W]⟩ : Shape).Squeezes ⟨2, ![n, W]⟩) : Memref sig .tc .hbm ⟨2, ![n, W]⟩ e :=
  (A.slice (Rect.unit (s := ⟨3, ![8, n, W]⟩) o (⟨3, ![1, n, W]⟩ : Shape).size inb) (fun _ => rfl)).squeeze ⟨2, ![n, W]⟩ sq

/-- Some rows of an array, as an array of its own. -/
abbrev part {n N W : ℕ} {e : EltTy} (a : Memref sig .tc .hbm ⟨2, ![N, W]⟩ e) (o : Fin 2 → ℕ)
    (inb : ∀ i, o i + (⟨2, ![n, W]⟩ : Shape).size i ≤ (⟨2, ![N, W]⟩ : Shape).size i) : Memref sig .tc .hbm ⟨2, ![n, W]⟩ e :=
  a.slice (Rect.unit (s := ⟨2, ![N, W]⟩) o (⟨2, ![n, W]⟩ : Shape).size inb) (fun _ => rfl)

/-- A slot lies in its array. -/
theorem slot_inb (n W : ℕ) (j : Fin 8) (i : Fin 3) : (![j.val, 0, 0] : Fin 3 → ℕ) i + (⟨3, ![1, n, W]⟩ : Shape).size i ≤ (⟨3, ![8, n, W]⟩ : Shape).size i := by
  revert i
  refine Fin.cases ?_ (Fin.cases ?_ (Fin.cases ?_ finZeroElim))
  · exact Nat.succ_le_of_lt j.isLt
  · exact (Nat.zero_add n).le
  · exact (Nat.zero_add W).le

/-- The copy of the rows that off names for j into slot j. -/
def tcp {n N W : ℕ} {e : EltTy} (a : Memref sig .tc .hbm ⟨2, ![N, W]⟩ e) (A : Memref sig .tc .hbm ⟨3, ![8, n, W]⟩ e) (off : Fin 8 → Dev nD → Fin 2 → ℕ)
    (inb : ∀ j d i, off j d i + (⟨2, ![n, W]⟩ : Shape).size i ≤ (⟨2, ![N, W]⟩ : Shape).size i) (hs : ∀ j d, (part a (off j d) (inb j d)).view.WordExact)
    (sq : (⟨3, ![1, n, W]⟩ : Shape).Squeezes ⟨2, ![n, W]⟩) (hd : ∀ j : Fin 8, (slot A ![j.val, 0, 0] (slot_inb n W j) sq).view.WordExact)
    (hsc : A.view.ref.isScScratch = false) (j : Fin 8) (d : Dev nD) : Cp sig :=
  ⟨⟨2, ![n, W]⟩, e, part a (off j d) (inb j d), slot A ![j.val, 0, 0] (slot_inb n W j) sq, hs j d, hd j, hsc⟩

/-- The copy of all of a into the slot that off names. -/
def vcp {n W : ℕ} {e : EltTy} (a : Memref sig .tc .hbm ⟨2, ![n, W]⟩ e) (ha : a.IsWhole) (A : Memref sig .tc .hbm ⟨3, ![8, n, W]⟩ e) (off : Dev nD → Fin 3 → ℕ)
    (inb : ∀ d i, off d i + (⟨3, ![1, n, W]⟩ : Shape).size i ≤ (⟨3, ![8, n, W]⟩ : Shape).size i)
    (sq : (⟨3, ![1, n, W]⟩ : Shape).Squeezes ⟨2, ![n, W]⟩) (hd : ∀ d, (slot A (off d) (inb d) sq).view.WordExact)
    (hsc : A.view.ref.isScScratch = false) (d : Dev nD) : Cp sig :=
  ⟨⟨2, ![n, W]⟩, e, a, slot A (off d) (inb d) sq, ha.wordExact, hd d, hsc⟩

/-- Where the rows begin that a device keeps (0) and that it sends to its peers (1 to 7): of the arrays cut in blocks of
    352 rows, of 1088 rows, of 128 rows of 512, of 128 rows of 1024, of 32 rows. -/
def offA : Fin 8 → Dev nD → Fin 2 → ℕ
  | 0 => k0_off1 | 1 => k0_off2 | 2 => k0_off3 | 3 => k0_off4 | 4 => k0_off5 | 5 => k0_off6 | 6 => k0_off7 | 7 => k0_off8
def offB : Fin 8 → Dev nD → Fin 2 → ℕ
  | 0 => k0_off9 | 1 => k0_off10 | 2 => k0_off11 | 3 => k0_off12 | 4 => k0_off13 | 5 => k0_off14 | 6 => k0_off15 | 7 => k0_off16
def offC : Fin 8 → Dev nD → Fin 2 → ℕ
  | 0 => k0_off17 | 1 => k0_off18 | 2 => k0_off19 | 3 => k0_off20 | 4 => k0_off21 | 5 => k0_off22 | 6 => k0_off23 | 7 => k0_off24
def offD : Fin 8 → Dev nD → Fin 2 → ℕ
  | 0 => k0_off25 | 1 => k0_off26 | 2 => k0_off27 | 3 => k0_off28 | 4 => k0_off29 | 5 => k0_off30 | 6 => k0_off31 | 7 => k0_off32
def offE : Fin 8 → Dev nD → Fin 2 → ℕ
  | 0 => k0_off33 | 1 => k0_off34 | 2 => k0_off35 | 3 => k0_off36 | 4 => k0_off37 | 5 => k0_off38 | 6 => k0_off39 | 7 => k0_off40

theorem inbA : ∀ (j : Fin 8) (d : Dev nD) (i : Fin 2), offA j d i + (⟨2, ![352, 1024]⟩ : Shape).size i ≤ (⟨2, ![2816, 1024]⟩ : Shape).size i := by decide +kernel
theorem inbB : ∀ (j : Fin 8) (d : Dev nD) (i : Fin 2), offB j d i + (⟨2, ![1088, 1024]⟩ : Shape).size i ≤ (⟨2, ![8704, 1024]⟩ : Shape).size i := by decide +kernel
theorem inbC : ∀ (j : Fin 8) (d : Dev nD) (i : Fin 2), offC j d i + (⟨2, ![128, 512]⟩ : Shape).size i ≤ (⟨2, ![1024, 512]⟩ : Shape).size i := by decide +kernel
theorem inbD : ∀ (j : Fin 8) (d : Dev nD) (i : Fin 2), offD j d i + (⟨2, ![128, 1024]⟩ : Shape).size i ≤ (⟨2, ![1024, 1024]⟩ : Shape).size i := by decide +kernel
theorem inbE : ∀ (j : Fin 8) (d : Dev nD) (i : Fin 2), offE j d i + (⟨2, ![32, 128]⟩ : Shape).size i ≤ (⟨2, ![256, 128]⟩ : Shape).size i := by decide +kernel

theorem wordsA : ∀ (j : Fin 8) (d : Dev nD), (Rect.unit (s := ⟨2, ![2816, 1024]⟩) (offA j d) (⟨2, ![352, 1024]⟩ : Shape).size (inbA j d)).WholeWords (EltTy.packing .bf16) := by decide +kernel
theorem wordsB : ∀ (j : Fin 8) (d : Dev nD), (Rect.unit (s := ⟨2, ![8704, 1024]⟩) (offB j d) (⟨2, ![1088, 1024]⟩ : Shape).size (inbB j d)).WholeWords (EltTy.packing .bf16) := by decide +kernel
theorem wordsC : ∀ (j : Fin 8) (d : Dev nD), (Rect.unit (s := ⟨2, ![1024, 512]⟩) (offC j d) (⟨2, ![128, 512]⟩ : Shape).size (inbC j d)).WholeWords (EltTy.packing .bf16) := by decide +kernel
theorem wordsD : ∀ (j : Fin 8) (d : Dev nD), (Rect.unit (s := ⟨2, ![1024, 1024]⟩) (offD j d) (⟨2, ![128, 1024]⟩ : Shape).size (inbD j d)).WholeWords (EltTy.packing .bf16) := by decide +kernel

theorem slotA : ∀ j : Fin 8, (Rect.unit (s := ⟨3, ![8, 352, 1024]⟩) ![j.val, 0, 0] (⟨3, ![1, 352, 1024]⟩ : Shape).size (slot_inb 352 1024 j)).WholeWords (EltTy.packing .bf16) := by decide +kernel
theorem slotB : ∀ j : Fin 8, (Rect.unit (s := ⟨3, ![8, 1088, 1024]⟩) ![j.val, 0, 0] (⟨3, ![1, 1088, 1024]⟩ : Shape).size (slot_inb 1088 1024 j)).WholeWords (EltTy.packing .bf16) := by decide +kernel
theorem slotC : ∀ j : Fin 8, (Rect.unit (s := ⟨3, ![8, 128, 512]⟩) ![j.val, 0, 0] (⟨3, ![1, 128, 512]⟩ : Shape).size (slot_inb 128 512 j)).WholeWords (EltTy.packing .bf16) := by decide +kernel
theorem slotD : ∀ j : Fin 8, (Rect.unit (s := ⟨3, ![8, 128, 1024]⟩) ![j.val, 0, 0] (⟨3, ![1, 128, 1024]⟩ : Shape).size (slot_inb 128 1024 j)).WholeWords (EltTy.packing .bf16) := by decide +kernel

/-- The copies of an array of each kind. -/
def cpA (a : Memref sig .tc .hbm ⟨2, ![2816, 1024]⟩ .bf16) (ha : a.IsWhole) (A : Memref sig .tc .hbm ⟨3, ![8, 352, 1024]⟩ .bf16) (hA : A.IsWhole)
    (hsc : A.view.ref.isScScratch = false) : Fin 8 → Dev nD → Cp sig :=
  tcp a A offA inbA (fun j d => ha.wordExact_slice rfl _ (wordsA j d)) squeezes_S1x352x1024_S352x1024 (fun j => (hA.wordExact_slice rfl _ (slotA j)).reshape _ _) hsc
def cpB (a : Memref sig .tc .hbm ⟨2, ![8704, 1024]⟩ .bf16) (ha : a.IsWhole) (A : Memref sig .tc .hbm ⟨3, ![8, 1088, 1024]⟩ .bf16) (hA : A.IsWhole)
    (hsc : A.view.ref.isScScratch = false) : Fin 8 → Dev nD → Cp sig :=
  tcp a A offB inbB (fun j d => ha.wordExact_slice rfl _ (wordsB j d)) squeezes_S1x1088x1024_S1088x1024 (fun j => (hA.wordExact_slice rfl _ (slotB j)).reshape _ _) hsc
def cpC (a : Memref sig .tc .hbm ⟨2, ![1024, 512]⟩ .bf16) (ha : a.IsWhole) (A : Memref sig .tc .hbm ⟨3, ![8, 128, 512]⟩ .bf16) (hA : A.IsWhole)
    (hsc : A.view.ref.isScScratch = false) : Fin 8 → Dev nD → Cp sig :=
  tcp a A offC inbC (fun j d => ha.wordExact_slice rfl _ (wordsC j d)) squeezes_S1x128x512_S128x512 (fun j => (hA.wordExact_slice rfl _ (slotC j)).reshape _ _) hsc
def cpD (a : Memref sig .tc .hbm ⟨2, ![1024, 1024]⟩ .bf16) (ha : a.IsWhole) (A : Memref sig .tc .hbm ⟨3, ![8, 128, 1024]⟩ .bf16) (hA : A.IsWhole)
    (hsc : A.view.ref.isScScratch = false) : Fin 8 → Dev nD → Cp sig :=
  tcp a A offD inbD (fun j d => ha.wordExact_slice rfl _ (wordsD j d)) squeezes_S1x128x1024_S128x1024 (fun j => (hA.wordExact_slice rfl _ (slotD j)).reshape _ _) hsc
def cpE (a : Memref sig .tc .hbm ⟨2, ![256, 128]⟩ .f32) (A : Memref sig .tc .hbm ⟨3, ![8, 32, 128]⟩ .f32) (hsc : A.view.ref.isScScratch = false) : Fin 8 → Dev nD → Cp sig :=
  tcp a A offE inbE (fun _ _ => View.wordExact_bits rfl) squeezes_S1x32x128_S32x128 (fun _ => (View.wordExact_bits rfl).reshape _ _) hsc
def cpV (a : Memref sig .tc .hbm ⟨2, ![8, 1024]⟩ .f32) (ha : a.IsWhole) (A : Memref sig .tc .hbm ⟨3, ![8, 8, 1024]⟩ .f32) (hsc : A.view.ref.isScScratch = false) : Dev nD → Cp sig :=
  vcp a ha A k0_off41 k0_off41_inb squeezes_S1x8x1024_S8x1024 (fun _ => (View.wordExact_bits rfl).reshape _ _) hsc

/-- Device d's copy j of array w: 0 the local one, 1 to 7 those to its peers. -/
def wcp (d : Dev nD) (j : Fin 8) : Fin 12 → Cp sig
  | 0 => cpA (Memref.whole main_arg0) (Memref.isWhole_whole _) (Memref.whole main_v1_0) (Memref.isWhole_whole _) rfl j d
  | 1 => cpA (Memref.whole main_arg1) (Memref.isWhole_whole _) (Memref.whole main_v1_1) (Memref.isWhole_whole _) rfl j d
  | 2 => cpB (Memref.whole main_arg2) (Memref.isWhole_whole _) (Memref.whole main_v1_2) (Memref.isWhole_whole _) rfl j d
  | 3 => cpC (Memref.whole main_arg3) (Memref.isWhole_whole _) (Memref.whole main_v1_3) (Memref.isWhole_whole _) rfl j d
  | 4 => cpA (Memref.whole main_arg4) (Memref.isWhole_whole _) (Memref.whole main_v1_4) (Memref.isWhole_whole _) rfl j d
  | 5 => cpA (Memref.whole main_arg5) (Memref.isWhole_whole _) (Memref.whole main_v1_5) (Memref.isWhole_whole _) rfl j d
  | 6 => cpA (Memref.whole main_arg6) (Memref.isWhole_whole _) (Memref.whole main_v1_6) (Memref.isWhole_whole _) rfl j d
  | 7 => cpD (Memref.whole main_arg7) (Memref.isWhole_whole _) (Memref.whole main_v1_7) (Memref.isWhole_whole _) rfl j d
  | 8 => cpD (Memref.whole main_arg8) (Memref.isWhole_whole _) (Memref.whole main_v1_8) (Memref.isWhole_whole _) rfl j d
  | 9 => cpA (Memref.whole main_arg9) (Memref.isWhole_whole _) (Memref.whole main_v1_9) (Memref.isWhole_whole _) rfl j d
  | 10 => cpE (Memref.whole main_arg10) (Memref.whole main_v1_10) rfl j d
  | 11 => cpV (Memref.whole main_arg11) (Memref.isWhole_whole _) (Memref.whole main_v1_11) rfl d

/-- The seven peers of a device: the logical ids that differ from its own in the bits of k + 1. -/
def peer : Fin 7 → Dev nD → Dev nD
  | 0 => fun d0 => ⟨k0_dev1 d0, k0_dev1_lt d0⟩
  | 1 => fun d0 => ⟨k0_dev2 d0, k0_dev2_lt d0⟩
  | 2 => fun d0 => ⟨k0_dev3 d0, k0_dev3_lt d0⟩
  | 3 => fun d0 => ⟨k0_dev4 d0, k0_dev4_lt d0⟩
  | 4 => fun d0 => ⟨k0_dev5 d0, k0_dev5_lt d0⟩
  | 5 => fun d0 => ⟨k0_dev6 d0, k0_dev6_lt d0⟩
  | 6 => fun d0 => ⟨k0_dev7 d0, k0_dev7_lt d0⟩

theorem peer_peer : ∀ (k : Fin 7) (d : Dev nD), peer k (peer k d) = d := by decide +kernel

/-- Being a peer goes both ways. -/
def swap (k : Fin 7) : Equiv.Perm (Dev nD) := ⟨peer k, peer k, peer_peer k, peer_peer k⟩

def semL (w : Fin 12) : DmaSem sig := ⟨168 + w.val, by have := w.isLt; show 168 + w.val < 180; omega⟩
def semS (x : Fin 12 × Fin 7) : DmaSem sig := ⟨7 * x.1.val + x.2.val, by have := x.1.isLt; have := x.2.isLt; show 7 * x.1.val + x.2.val < 180; omega⟩
def semR (x : Fin 12 × Fin 7) : DmaSem sig := ⟨84 + (7 * x.1.val + x.2.val), by have := x.1.isLt; have := x.2.isLt; show 84 + (7 * x.1.val + x.2.val) < 180; omega⟩

theorem sem_inj : Function.Injective (Sum.elim (fun j => SemLoc.dma (semL j)) (Sum.elim (fun k => SemLoc.dma (semS k)) (fun k => SemLoc.dma (semR k))) :
    Fin 12 ⊕ (Fin 12 × Fin 7) ⊕ (Fin 12 × Fin 7) → SemLoc sig) := by
  have key : ∀ {a b : DmaSem sig}, (SemLoc.dma a : SemLoc sig) = SemLoc.dma b → a.val = b.val := fun h => congrArg Fin.val (SemLoc.dma.inj h)
  rintro (j | ⟨w, k⟩ | ⟨w, k⟩) (j' | ⟨w', k'⟩ | ⟨w', k'⟩) h <;> have h := key h <;> simp only [semL, semS, semR] at h
  · rw [Fin.ext (show j.val = j'.val by omega)]
  · omega
  · omega
  · omega
  · rw [Fin.ext (show w.val = w'.val by omega), Fin.ext (show k.val = k'.val by omega)]
  · omega
  · omega
  · omega
  · rw [Fin.ext (show w.val = w'.val by omega), Fin.ext (show k.val = k'.val by omega)]

/-- What a copy of weight w credits. -/
def units (w : Fin 12) : ℕ := RefSig.tileCredit (wcp 0 0 w).s (wcp 0 0 w).e

/-- A transfer credits by its shape and type alone. -/
theorem credit_eq {s : Shape} {e : EltTy} (v : View sig .tc .hbm s e) : v.dmaCredit = RefSig.tileCredit s e := rfl

theorem units_pos (w : Fin 12) : 0 < units w := by
  unfold units
  rw [← credit_eq (wcp 0 0 w).dst.view]
  fin_cases w <;> exact View.dmaCredit_pos _ (by decide)

theorem units_at (c : Dev nD) (j : Fin 8) (w : Fin 12) : RefSig.tileCredit (wcp c j w).s (wcp c j w).e = units w := by
  unfold units
  have h : ∀ w : Fin 12, (wcp c j w).s = (wcp 0 0 w).s ∧ (wcp c j w).e = (wcp 0 0 w).e := by
    intro w; fin_cases w <;> exact ⟨by chain_rfl, by chain_rfl⟩
  rw [(h w).1, (h w).2]

theorem dst_units (c : Dev nD) (j : Fin 8) (w : Fin 12) : (wcp c j w).dst.view.dmaCredit = units w := (credit_eq _).trans (units_at c j w)
theorem src_units (c : Dev nD) (j : Fin 8) (w : Fin 12) : (wcp c j w).src.view.dmaCredit = units w := (credit_eq _).trans (units_at c j w)

/-- The copies: of every array one local, and one to each peer. -/
def copies : Copies nD sig (Fin 12) (Fin 12 × Fin 7) where
  loc c w := wcp c 0 w
  rem c x := wcp c x.2.succ x.1
  tg x := swap x.2
  sL := semL
  sS := semS
  sR := semR
  nL := units
  nK x := units x.1
  nL_pos := units_pos
  nK_pos x := units_pos x.1
  loc_credit c := dst_units c 0
  rem_credit c x := dst_units c x.2.succ x.1
  src_credit c x := src_units c x.2.succ x.1
  inj := sem_inj

def ws : List (Fin 12) := [0, 1, 2, 3, 4, 5, 6, 7, 8, 9, 10, 11]
def ks : List (Fin 7) := [0, 1, 2, 3, 4, 5, 6]
/-- The order of the starts, and of the waits. -/
def starts : List (Fin 12 ⊕ Fin 12 × Fin 7) := ws.flatMap fun w => .inl w :: ks.map fun k => .inr (w, k)
def waits : List (Role (Fin 12) (Fin 12 × Fin 7)) := ws.flatMap fun w => .inl w :: ks.flatMap fun k => [.inr (.inl (w, k)), .inr (.inr (w, k))]

theorem starts_all : Finset.univ = starts.toFinset := by decide +kernel
theorem starts_nodup : starts.Nodup := by decide +kernel
theorem waits_all : Finset.univ = waits.toFinset := by decide +kernel
theorem waits_nodup : waits.Nodup := by decide +kernel

set_option maxRecDepth 65536 in
/-- The printed kernel, of its operands: the starts of all the copies, then all the waits. -/
theorem body_eq : cc0_exchange_grads (F := F) (Memref.whole main_arg0) (Memref.isWhole_whole _) (Memref.whole main_arg1) (Memref.isWhole_whole _) (Memref.whole main_arg2) (Memref.isWhole_whole _)
    (Memref.whole main_arg3) (Memref.isWhole_whole _) (Memref.whole main_arg4) (Memref.isWhole_whole _) (Memref.whole main_arg5) (Memref.isWhole_whole _)
    (Memref.whole main_arg6) (Memref.isWhole_whole _) (Memref.whole main_arg7) (Memref.isWhole_whole _) (Memref.whole main_arg8) (Memref.isWhole_whole _)
    (Memref.whole main_arg9) (Memref.isWhole_whole _) (Memref.whole main_arg10) (Memref.isWhole_whole _) (Memref.whole main_arg11) (Memref.isWhole_whole _)
    (Memref.whole main_v1_0) (Memref.isWhole_whole _) (Memref.whole main_v1_1) (Memref.isWhole_whole _) (Memref.whole main_v1_2) (Memref.isWhole_whole _)
    (Memref.whole main_v1_3) (Memref.isWhole_whole _) (Memref.whole main_v1_4) (Memref.isWhole_whole _) (Memref.whole main_v1_5) (Memref.isWhole_whole _)
    (Memref.whole main_v1_6) (Memref.isWhole_whole _) (Memref.whole main_v1_7) (Memref.isWhole_whole _) (Memref.whole main_v1_8) (Memref.isWhole_whole _)
    (Memref.whole main_v1_9) (Memref.isWhole_whole _) (Memref.whole main_v1_10) (Memref.isWhole_whole _) (Memref.whole main_v1_11) (Memref.isWhole_whole _) cc0_scratch0 cc0_scratch1 cc0_scratch2
    = (Prog.lift .deviceId >>= fun d0 => Pipeline.chain (starts.map (copies.start τ (Elt F) Λ₀ d0) ++ waits.map (copies.wait τ (Elt F) Λ₀ d0))) := by chain_rfl

end Cert.Trade

end
-- ==== Proof.Slots.lean ====
/-
  Eight slots of an array of rank three, each read as an array of rank two.
-/
module

public import proofs.«01_k».proof.Proof.Slab

@[expose] public section

set_option Elab.async false

noncomputable section

namespace Cert.Slab

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {nD : ℕ} {τ : Topo} {sig : RefSig} {Val : EltTy → Type} {U : Type} [URA U] [∀ e, Nonempty (Val e)]

local notation "𝕄" => MT nD τ sig Unit Val ℕ U ℕ

/-- One slot of an array of eight. -/
abbrev one (n W : ℕ) (off : Fin 3 → ℕ) (inb : ∀ i, off i + (⟨3, ![1, n, W]⟩ : Shape).size i ≤ (⟨3, ![8, n, W]⟩ : Shape).size i) : Rect ⟨3, ![8, n, W]⟩ :=
  Rect.unit (s := ⟨3, ![8, n, W]⟩) off (⟨3, ![1, n, W]⟩ : Shape).size inb

variable {n W : ℕ} (off : Fin 8 → Fin 3 → ℕ) (inb : ∀ d i, off d i + (⟨3, ![1, n, W]⟩ : Shape).size i ≤ (⟨3, ![8, n, W]⟩ : Shape).size i)

/-- Every element is in the slot that its first coordinate names. -/
theorem mem_slot (hoff : ∀ d, off d = ![d.val, 0, 0]) (h : (⟨2, ![n, W]⟩ : Shape).numel = (⟨3, ![1, n, W]⟩ : Shape).numel)
    (x : (⟨3, ![8, n, W]⟩ : Shape).Idx) (j : Fin 8) (hj : j.val = (x 0).val) :
    x = (one n W (off j) (inb j)).emb (Shape.reshapeEquiv h (Shape.pair (d := ![n, W]) (x 1) (x 2))) := by
  rw [show Shape.reshapeEquiv h (Shape.pair (d := ![n, W]) (x 1) (x 2)) = Fin.cons ⟨0, Nat.one_pos⟩ (Shape.pair (d := ![n, W]) (x 1) (x 2)) from
    Shape.reshapeEquiv_cons_one h _]
  funext i
  refine Fin.ext ?_
  rw [Rect.emb_apply]
  simp only [Rect.off_unit, Rect.stride_unit, hoff, Nat.one_mul]
  revert i
  refine Fin.cases ?_ (Fin.cases ?_ (Fin.cases ?_ finZeroElim))
  · exact hj.symm
  · exact (Nat.zero_add _).symm
  · exact (Nat.zero_add _).symm

variable {κ : Kind} {sp : Space} {e : EltTy}

/-- An array of eight is its eight slots. -/
theorem slots (v : View sig .tc sp ⟨3, ![8, n, W]⟩ e) (hv : v.set = Finset.univ) (hoff : ∀ d, off d = ![d.val, 0, 0])
    (h : (⟨2, ![n, W]⟩ : Shape).numel = (⟨3, ![1, n, W]⟩ : Shape).numel)
    (c : Dev nD) (q : PosShare TreeShare) (f : Buf Val (v.loc (c.tc : Thread nD τ))) :
    (v.loc (c.tc : Thread nD τ) ↦{q} f : sProp 𝕄)
      = bigSep Finset.univ fun d : Fin 8 => v.loc (c.tc : Thread nD τ) ↦[((v.slice (one n W (off d) (inb d))).reshape ⟨2, ![n, W]⟩ h).set]{q} f := by
  simp only [View.set_reshape]
  have hU : (Finset.univ : Finset (Idx (v.loc (c.tc : Thread nD τ)))) = Finset.univ.biUnion fun d : Fin 8 => (v.slice (one n W (off d) (inb d))).set := by
    refine (Finset.eq_univ_iff_forall.mpr fun i => ?_).symm
    have hi : i ∈ v.set := hv ▸ Finset.mem_univ _
    obtain ⟨x, -, rfl⟩ := Finset.mem_map.mp hi
    obtain ⟨j, hj⟩ : ∃ j : Fin 8, j.val = (x 0).val := ⟨x 0, rfl⟩
    refine Finset.mem_biUnion.mpr ⟨j, Finset.mem_univ j, ?_⟩
    rw [mem_slot off inb hoff h x j hj]
    exact Finset.mem_map_of_mem (v.slice (one n W (off j) (inb j))).emb (Finset.mem_univ _)
  rw [hU, pointsTo_biUnion]
  intro d _ d' _ hdd
  refine View.disjoint_slice_of_sep v _ _ 0 rfl rfl ?_
  simp only [Rect.off_unit, Rect.size_unit, hoff]
  show d.val + 1 ≤ d'.val ∨ d'.val + 1 ≤ d.val
  exact Nat.lt_or_gt_of_ne fun h => hdd (Fin.ext h)

end Cert.Slab

end
-- ==== Proof.TradeMem.lean ====
/-
  The memory of the exchange: how the arrays split into what the copies take, and what the copies leave in them.
-/
module

public import proofs.«01_k».proof.Proof.Trade
public import proofs.«01_k».proof.Proof.Run
public import proofs.«01_k».proof.Proof.Split
public import proofs.«01_k».proof.Proof.Slots

@[expose] public section

set_option Elab.async false

noncomputable section

namespace Cert.Trade

open Cert.ExchangeIdeal Cert.ExchangeIdeal.Gen Cert.Talk
open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.Sem Idealize.SL.ProofMode

variable {F : FTy → Type} [FloatOps F] {U : Type} [URA U]

local notation "𝕄" => MT nD τ sig Unit (Elt F) ℕ U ℕ

/-- Who sends what lands in slot j of device c: itself (0), and its seven peers. -/
def sender (j : Fin 8) (c : Dev nD) : Dev nD := Fin.cases (motive := fun _ => Dev nD) c (fun k => peer k c) j

theorem sender_inj (c : Dev nD) : Function.Injective fun j : Fin 8 => sender j c := by revert c; decide +kernel
theorem senders (c : Dev nD) : (Finset.univ : Finset (Dev nD)) = Finset.univ.map ⟨fun j : Fin 8 => sender j c, sender_inj c⟩ := by revert c; decide +kernel

/-- All devices are one of them and its peers. -/
theorem sep_peers (Φ : Dev nD → sProp 𝕄) (c : Dev nD) : bigSep Finset.univ Φ = iprop(Φ c ∗ bigSep Finset.univ fun k : Fin 7 => Φ (peer k c)) := by
  rw [senders c, bigSep_map]
  exact Slab.sep_eight fun j => Φ (sender j c)

theorem exists_sender (c d : Dev nD) : ∃ j : Fin 8, d = sender j c := by revert c d; decide +kernel

/-- The share of its source that copy j of an array reads: all of it, but of the last array, which all eight copies read. -/
def lent (w : Fin 12) (j : Fin 8) : PosShare TreeShare := if w = 11 then Transfers.dealOf fullShare (Finset.univ : Finset (Fin 8)) j else fullShare
def share : Fin 12 ⊕ Fin 12 × Fin 7 → PosShare TreeShare := Sum.elim (fun w => lent w 0) fun x => lent x.1 x.2.succ

theorem lent_last (j : Fin 8) : lent 11 j = Transfers.dealOf fullShare (Finset.univ : Finset (Fin 8)) j := if_pos rfl
theorem lent_all {w : Fin 12} (hw : w ≠ 11) (j : Fin 8) : lent w j = fullShare := if_neg hw

theorem shares {ℓ : Loc nD τ sig} (S : Finset (Idx ℓ)) (f : Buf (Elt F) ℓ) :
    (ℓ ↦[S]{fullShare} f : sProp 𝕄) = iprop((ℓ ↦[S]{lent 11 0} f) ∗ bigSep Finset.univ fun k : Fin 7 => ℓ ↦[S]{lent 11 k.succ} f) := by
  rw [Transfers.pointsTo_deal (Finset.univ : Finset (Fin 8)) Finset.univ_nonempty fullShare, Slab.sep_eight]
  simp only [lent_last]

variable (m : (ℓ : Loc nD τ sig) → Buf (Elt F) ℓ)

/-- What holds of a device holds of the one that is a peer's peer. -/
theorem back {ℓ : Dev nD → Loc nD τ sig} (S : (t : Dev nD) → Finset (Idx (ℓ t))) (k : Fin 7) (c : Dev nD) :
    (ℓ c ↦[S c]{fullShare} m (ℓ c) : sProp 𝕄) ⊢ (ℓ ((swap k) ((swap k).symm c)) ↦[S ((swap k) ((swap k).symm c))]{fullShare} m (ℓ ((swap k) ((swap k).symm c)))) := by
  rw [Equiv.apply_symm_apply]

section Cut

variable {n N W M : ℕ} {e : EltTy} (a : Memref sig .tc .hbm ⟨2, ![N, W]⟩ e) (A : Memref sig .tc .hbm ⟨3, ![8, n, W]⟩ e) (off : Fin 8 → Dev nD → Fin 2 → ℕ)
  (inb : ∀ j d i, off j d i + (⟨2, ![n, W]⟩ : Shape).size i ≤ (⟨2, ![N, W]⟩ : Shape).size i) (hs : ∀ j d, (part a (off j d) (inb j d)).view.WordExact)
  (sq : (⟨3, ![1, n, W]⟩ : Shape).Squeezes ⟨2, ![n, W]⟩) (hd : ∀ j : Fin 8, (slot A ![j.val, 0, 0] (slot_inb n W j) sq).view.WordExact)
  (hsc : A.view.ref.isScScratch = false)

/-- An array is what a device's own copy and its copies to its peers read. -/
theorem split_src (hoff : ∀ j d, off j d = ![n * (sender j d).val, 0]) (hN : N = 8 * n) (ha : a.view.set = Finset.univ) (c : Dev nD) (w : Fin 12) (hw : w ≠ 11) :
    (a.view.loc (c.tc : Thread nD τ) ↦{fullShare} m (a.view.loc (c.tc : Thread nD τ)) : sProp 𝕄)
      ⊢ iprop(((tcp a A off inb hs sq hd hsc 0 c).src.view.loc (c.tc : Thread nD τ) ↦[(tcp a A off inb hs sq hd hsc 0 c).src.view.set]{lent w 0} m _)
        ∗ bigSep Finset.univ fun k : Fin 7 => (tcp a A off inb hs sq hd hsc k.succ c).src.view.loc (c.tc : Thread nD τ)
            ↦[(tcp a A off inb hs sq hd hsc k.succ c).src.view.set]{lent w k.succ} m _) := by
  simp only [lent_all hw]
  have inb' : ∀ (d : Fin 8) i, (![n * d.val, 0] : Fin 2 → ℕ) i + (⟨2, ![n, W]⟩ : Shape).size i ≤ (⟨2, ![N, W]⟩ : Shape).size i := fun d i => by
    obtain ⟨j, rfl⟩ := exists_sender c d
    rw [← hoff j c]; exact inb j c i
  rw [Slab.slabs (fun d => ![n * d.val, 0]) inb' a.view ha (fun _ => rfl) hN c fullShare, sep_peers _ c]
  have key : ∀ (j : Fin 8) (o : Fin 2 → ℕ) (io), o = off j c →
      (a.view.loc (c.tc : Thread nD τ) ↦[(a.view.slice (Slab.rows n N W o io)).set]{fullShare} m (a.view.loc (c.tc : Thread nD τ)) : sProp 𝕄)
        ⊢ ((tcp a A off inb hs sq hd hsc j c).src.view.loc (c.tc : Thread nD τ) ↦[(tcp a A off inb hs sq hd hsc j c).src.view.set]{fullShare} m _) := by
    rintro j _ io rfl; exact BIBase.Entails.rfl
  exact BIClass.sep_mono (key 0 _ _ (hoff 0 c).symm) (bigSep_mono fun k _ => key k.succ _ _ (hoff k.succ c).symm)

/-- An array of slots is what its device's own copy writes and what the peers' copies write. -/
theorem split_dst (hA : A.view.set = Finset.univ) (c : Dev nD) :
    (A.view.loc (c.tc : Thread nD τ) ↦{fullShare} m (A.view.loc (c.tc : Thread nD τ)) : sProp 𝕄)
      ⊢ iprop(((tcp a A off inb hs sq hd hsc 0 c).dst.view.loc (c.tc : Thread nD τ) ↦[(tcp a A off inb hs sq hd hsc 0 c).dst.view.set]{fullShare} m _)
        ∗ bigSep Finset.univ fun k : Fin 7 => (tcp a A off inb hs sq hd hsc k.succ ((swap k).symm c)).dst.view.loc (((swap k) ((swap k).symm c)).tc : Thread nD τ)
            ↦[(tcp a A off inb hs sq hd hsc k.succ ((swap k).symm c)).dst.view.set]{fullShare} m _) := by
  rw [Slab.slots (fun j => ![j.val, 0, 0]) (slot_inb n W) A.view hA (fun _ => rfl) sq.numel_eq c fullShare, Slab.sep_eight]
  refine BIClass.sep_mono BIBase.Entails.rfl (bigSep_mono fun k _ => ?_)
  exact back m (ℓ := fun t => A.view.loc (t.tc : Thread nD τ)) (fun _ => (slot A ![k.succ.val, 0, 0] (slot_inb n W k.succ) sq).view.set) k c

/-- Where the finished copies have left their payloads, slot j holds the rows of sender j that are this device's. -/
theorem traded (hoff : ∀ j d, off j d = ![n * (sender j d).val, 0]) (s : MemSt nD τ sig (Elt F)) (c : Dev nD)
    (hl : ∀ i ∈ (tcp a A off inb hs sq hd hsc 0 c).dst.view.set, s.mem (A.view.loc (c.tc : Thread nD τ)) i
        = (tcp a A off inb hs sq hd hsc 0 c).dst.view.write (Elt F) (m (A.view.loc (c.tc : Thread nD τ)))
            ((tcp a A off inb hs sq hd hsc 0 c).src.view.read (Elt F) (m (a.view.loc (c.tc : Thread nD τ)))) Finset.univ i)
    (hr : ∀ (k : Fin 7) (d t : Dev nD), swap k d = t → t = c → ∀ i ∈ (tcp a A off inb hs sq hd hsc k.succ d).dst.view.set, s.mem (A.view.loc (t.tc : Thread nD τ)) i
        = (tcp a A off inb hs sq hd hsc k.succ d).dst.view.write (Elt F) (m (A.view.loc (t.tc : Thread nD τ)))
            ((tcp a A off inb hs sq hd hsc k.succ d).src.view.read (Elt F) (m (a.view.loc (d.tc : Thread nD τ)))) Finset.univ i)
    (V : (⟨2, ![M, W]⟩ : Shape).Idx → Elt F e) (hT : Layout.Tiles ⟨2, ![N, W]⟩ ⟨2, ![M, W]⟩ 0 8)
    (ha : ∀ d : Dev nD, a.view.read (Elt F) (m (a.view.loc (d.tc : Thread nD τ))) = Layout.block ⟨2, ![N, W]⟩ ⟨2, ![M, W]⟩ 0 8 d V hT)
    (v : (⟨3, ![64, n, W]⟩ : Shape).Idx → Elt F e) (ht : Layout.Tiles ⟨3, ![8, n, W]⟩ ⟨3, ![64, n, W]⟩ 0 8)
    (hv : ∀ (j : Fin 8) (x : (⟨3, ![64, n, W]⟩ : Shape).Idx) (z : (⟨2, ![M, W]⟩ : Shape).Idx), (x 0).val = 8 * c.val + j.val →
      (z 0).val = N * (sender j c).val + (n * c.val + (x 1).val) → (z 1).val = (x 2).val → v x = V z) :
    A.view.read (Elt F) (s.mem (A.view.loc (c.tc : Thread nD τ))) = Layout.block ⟨3, ![8, n, W]⟩ ⟨3, ![64, n, W]⟩ 0 8 c v ht := by
  have back_val : ∀ (j : Fin 8) (d : Dev nD), sender j (sender j d) = d := by decide +kernel
  have hall : ∀ j : Fin 8, (slot A ![j.val, 0, 0] (slot_inb n W j) sq).view.read (Elt F) (s.mem (A.view.loc (c.tc : Thread nD τ)))
      = (part a (off j (sender j c)) (inb j (sender j c))).view.read (Elt F) (m (a.view.loc ((sender j c).tc : Thread nD τ))) := by
    intro j
    refine Slab.read_of_write _ (m (A.view.loc (c.tc : Thread nD τ))) _ _ ?_
    revert j
    refine Fin.cases ?_ fun k => ?_
    · exact hl
    · exact hr k (peer k c) c (peer_peer k c) rfl
  funext x
  obtain ⟨j, hj⟩ : ∃ j : Fin 8, j.val = (x 0).val := ⟨x 0, rfl⟩
  let y : (⟨2, ![n, W]⟩ : Shape).Idx := Shape.pair (d := ![n, W]) (x 1) (x 2)
  have h := congrFun (hall j) y
  have h1 : A.view.read (Elt F) (s.mem (A.view.loc (c.tc : Thread nD τ))) x
      = (slot A ![j.val, 0, 0] (slot_inb n W j) sq).view.read (Elt F) (s.mem (A.view.loc (c.tc : Thread nD τ))) y := by
    rw [Slab.mem_slot (fun j => ![j.val, 0, 0]) (slot_inb n W) (fun _ => rfl) sq.numel_eq x j hj]
    rfl
  have h2 : (part a (off j (sender j c)) (inb j (sender j c))).view.read (Elt F) (m (a.view.loc ((sender j c).tc : Thread nD τ))) y
      = a.view.read (Elt F) (m (a.view.loc ((sender j c).tc : Thread nD τ))) ((Slab.rows n N W (off j (sender j c)) (inb j (sender j c))).emb y) := rfl
  rw [h1, h, h2, ha, Layout.block_apply, Layout.block_apply]
  refine (hv j _ _ ?_ ?_ ?_).symm
  · rw [Layout.Tiles.idx_val]
    show c.val * 8 + (x 0).val = _
    rw [hj, Nat.mul_comm]
  · rw [(Layout.idx_rows_val hT _ _).1, Rect.emb_apply]
    simp only [Rect.off_unit, Rect.stride_unit, hoff, Nat.one_mul, back_val]
    show (sender j c).val * N + (n * c.val + (x 1).val) = _
    rw [Nat.mul_comm]
    rfl
  · rw [(Layout.idx_rows_val hT _ _).2, Rect.emb_apply]
    simp only [Rect.off_unit, Rect.stride_unit, hoff, Nat.one_mul]
    exact Nat.zero_add _

end Cut

section Whole

variable {n W M : ℕ} {e : EltTy} (a : Memref sig .tc .hbm ⟨2, ![n, W]⟩ e) (ha : a.IsWhole) (A : Memref sig .tc .hbm ⟨3, ![8, n, W]⟩ e) (off : Dev nD → Fin 3 → ℕ)
  (inb : ∀ d i, off d i + (⟨3, ![1, n, W]⟩ : Shape).size i ≤ (⟨3, ![8, n, W]⟩ : Shape).size i)
  (sq : (⟨3, ![1, n, W]⟩ : Shape).Squeezes ⟨2, ![n, W]⟩) (hd : ∀ d, (slot A (off d) (inb d) sq).view.WordExact) (hsc : A.view.ref.isScScratch = false)

/-- The array that all eight copies read. -/
theorem share_src (hset : a.view.set = Finset.univ) (c : Dev nD) :
    (a.view.loc (c.tc : Thread nD τ) ↦{fullShare} m (a.view.loc (c.tc : Thread nD τ)) : sProp 𝕄)
      ⊢ iprop(((vcp a ha A off inb sq hd hsc c).src.view.loc (c.tc : Thread nD τ) ↦[(vcp a ha A off inb sq hd hsc c).src.view.set]{lent 11 0} m _)
        ∗ bigSep Finset.univ fun k : Fin 7 => (vcp a ha A off inb sq hd hsc c).src.view.loc (c.tc : Thread nD τ)
            ↦[(vcp a ha A off inb sq hd hsc c).src.view.set]{lent 11 k.succ} m _) := by
  have h := shares (U := U) a.view.set (m (a.view.loc (c.tc : Thread nD τ)))
  dsimp only [vcp]
  rw [← h, hset]

/-- Its slots are what the device's own copy writes and what the peers' copies write. -/
theorem share_dst (hoff : ∀ d, off d = ![d.val, 0, 0]) (hA : A.view.set = Finset.univ) (c : Dev nD) :
    (A.view.loc (c.tc : Thread nD τ) ↦{fullShare} m (A.view.loc (c.tc : Thread nD τ)) : sProp 𝕄)
      ⊢ iprop(((vcp a ha A off inb sq hd hsc c).dst.view.loc (c.tc : Thread nD τ) ↦[(vcp a ha A off inb sq hd hsc c).dst.view.set]{fullShare} m _)
        ∗ bigSep Finset.univ fun k : Fin 7 => (vcp a ha A off inb sq hd hsc ((swap k).symm c)).dst.view.loc (((swap k) ((swap k).symm c)).tc : Thread nD τ)
            ↦[(vcp a ha A off inb sq hd hsc ((swap k).symm c)).dst.view.set]{fullShare} m _) := by
  rw [Slab.slots off inb A.view hA hoff sq.numel_eq c fullShare, sep_peers _ c]
  refine BIClass.sep_mono BIBase.Entails.rfl (bigSep_mono fun k _ => ?_)
  exact back m (ℓ := fun t => A.view.loc (t.tc : Thread nD τ)) (fun _ => (slot A (off (peer k c)) (inb (peer k c)) sq).view.set) k c

/-- Where the finished copies have left their payloads, slot d holds the block of device d. -/
theorem shared (hoff : ∀ d, off d = ![d.val, 0, 0]) (s : MemSt nD τ sig (Elt F)) (c : Dev nD)
    (hl : ∀ i ∈ (vcp a ha A off inb sq hd hsc c).dst.view.set, s.mem (A.view.loc (c.tc : Thread nD τ)) i
        = (vcp a ha A off inb sq hd hsc c).dst.view.write (Elt F) (m (A.view.loc (c.tc : Thread nD τ))) (a.view.read (Elt F) (m (a.view.loc (c.tc : Thread nD τ)))) Finset.univ i)
    (hr : ∀ (k : Fin 7) (d t : Dev nD), swap k d = t → t = c → ∀ i ∈ (vcp a ha A off inb sq hd hsc d).dst.view.set, s.mem (A.view.loc (t.tc : Thread nD τ)) i
        = (vcp a ha A off inb sq hd hsc d).dst.view.write (Elt F) (m (A.view.loc (t.tc : Thread nD τ))) (a.view.read (Elt F) (m (a.view.loc (d.tc : Thread nD τ)))) Finset.univ i)
    (V : (⟨2, ![M, W]⟩ : Shape).Idx → Elt F e) (hT : Layout.Tiles ⟨2, ![n, W]⟩ ⟨2, ![M, W]⟩ 0 8)
    (hV : ∀ d : Dev nD, a.view.read (Elt F) (m (a.view.loc (d.tc : Thread nD τ))) = Layout.block ⟨2, ![n, W]⟩ ⟨2, ![M, W]⟩ 0 8 d V hT)
    (v : (⟨3, ![8, n, W]⟩ : Shape).Idx → Elt F e)
    (hv : ∀ (x : (⟨3, ![8, n, W]⟩ : Shape).Idx) (z : (⟨2, ![M, W]⟩ : Shape).Idx), (z 0).val = n * (x 0).val + (x 1).val → (z 1).val = (x 2).val → v x = V z) :
    A.view.read (Elt F) (s.mem (A.view.loc (c.tc : Thread nD τ))) = v := by
  have hall : ∀ d : Dev nD, (slot A (off d) (inb d) sq).view.read (Elt F) (s.mem (A.view.loc (c.tc : Thread nD τ)))
      = a.view.read (Elt F) (m (a.view.loc (d.tc : Thread nD τ))) := by
    intro d
    refine Slab.read_of_write _ (m (A.view.loc (c.tc : Thread nD τ))) _ _ ?_
    obtain ⟨j, rfl⟩ := exists_sender c d
    revert j
    refine Fin.cases ?_ fun k => ?_
    · exact hl
    · exact hr k (peer k c) c (peer_peer k c) rfl
  funext x
  obtain ⟨d, hd⟩ : ∃ d : Fin 8, d.val = (x 0).val := ⟨x 0, rfl⟩
  let y : (⟨2, ![n, W]⟩ : Shape).Idx := Shape.pair (d := ![n, W]) (x 1) (x 2)
  have h := congrFun (hall d) y
  have h1 : A.view.read (Elt F) (s.mem (A.view.loc (c.tc : Thread nD τ))) x
      = (slot A (off d) (inb d) sq).view.read (Elt F) (s.mem (A.view.loc (c.tc : Thread nD τ))) y := by
    rw [Slab.mem_slot off inb hoff sq.numel_eq x d hd]
    rfl
  rw [h1, h, hV, Layout.block_apply]
  refine (hv x _ ?_ ?_).symm
  · rw [(Layout.idx_rows_val hT _ _).1, ← hd, Nat.mul_comm]
    rfl
  · exact (Layout.idx_rows_val hT _ _).2

end Whole

end Cert.Trade

end
-- ==== Proof.TradeRun.lean ====
/-
  The run of the exchange over any float values.
-/
module

public import proofs.«01_k».proof.Proof.TradeMem

@[expose] public section

set_option Elab.async false

noncomputable section

namespace Cert.Trade

open Cert.ExchangeIdeal Cert.ExchangeIdeal.Gen Cert.Talk
open Idealize.ShloMosaic Idealize.ShloMosaic.TcCoe Idealize.ShloMosaic.Rounds Idealize.ShloMosaic.Pipeline
open Idealize.SL Idealize.SL.RA Idealize.SL.BI
open scoped Idealize.SL.BI
open Idealize.SL.BI.BIBase Idealize.SL.BI.Laws Idealize.SL.Sem Idealize.SL.ProofMode

variable {F : FTy → Type} [FloatOps F]

local notation "𝕄" => MT nD τ sig Unit (Elt F) ℕ (UU nD τ sig) ℕ

variable (m : (ℓ : Loc nD τ sig) → Buf (Elt F) ℓ)

/-- A gradient whole, and an array of slots whole. -/
def srcAll (c : Dev nD) (w : Fin 12) : sProp 𝕄 := (wcp c 0 w).src.view.loc (c.tc : Thread nD τ) ↦{fullShare} m _
def dstAll (c : Dev nD) (w : Fin 12) : sProp 𝕄 := (wcp c 0 w).dst.view.loc (c.tc : Thread nD τ) ↦{fullShare} m _

theorem rowsA : ∀ (j : Fin 8) (d : Dev nD), offA j d = ![352 * (sender j d).val, 0] := by decide +kernel
theorem rowsB : ∀ (j : Fin 8) (d : Dev nD), offB j d = ![1088 * (sender j d).val, 0] := by decide +kernel
theorem rowsC : ∀ (j : Fin 8) (d : Dev nD), offC j d = ![128 * (sender j d).val, 0] := by decide +kernel
theorem rowsD : ∀ (j : Fin 8) (d : Dev nD), offD j d = ![128 * (sender j d).val, 0] := by decide +kernel
theorem rowsE : ∀ (j : Fin 8) (d : Dev nD), offE j d = ![32 * (sender j d).val, 0] := by decide +kernel
theorem slotV : ∀ d : Dev nD, k0_off41 d = ![d.val, 0, 0] := by decide +kernel

theorem src_split (c : Dev nD) : (w : Fin 12) →
    srcAll m c w ⊢ iprop(copies.srcL m share c w ∗ bigSep Finset.univ fun k : Fin 7 => copies.srcR m share c (w, k))
  | 0 => split_src m (Memref.whole main_arg0) (Memref.whole main_v1_0) offA inbA _ _ _ rfl rowsA rfl (View.set_whole _) c 0 (by decide)
  | 1 => split_src m (Memref.whole main_arg1) (Memref.whole main_v1_1) offA inbA _ _ _ rfl rowsA rfl (View.set_whole _) c 1 (by decide)
  | 2 => split_src m (Memref.whole main_arg2) (Memref.whole main_v1_2) offB inbB _ _ _ rfl rowsB rfl (View.set_whole _) c 2 (by decide)
  | 3 => split_src m (Memref.whole main_arg3) (Memref.whole main_v1_3) offC inbC _ _ _ rfl rowsC rfl (View.set_whole _) c 3 (by decide)
  | 4 => split_src m (Memref.whole main_arg4) (Memref.whole main_v1_4) offA inbA _ _ _ rfl rowsA rfl (View.set_whole _) c 4 (by decide)
  | 5 => split_src m (Memref.whole main_arg5) (Memref.whole main_v1_5) offA inbA _ _ _ rfl rowsA rfl (View.set_whole _) c 5 (by decide)
  | 6 => split_src m (Memref.whole main_arg6) (Memref.whole main_v1_6) offA inbA _ _ _ rfl rowsA rfl (View.set_whole _) c 6 (by decide)
  | 7 => split_src m (Memref.whole main_arg7) (Memref.whole main_v1_7) offD inbD _ _ _ rfl rowsD rfl (View.set_whole _) c 7 (by decide)
  | 8 => split_src m (Memref.whole main_arg8) (Memref.whole main_v1_8) offD inbD _ _ _ rfl rowsD rfl (View.set_whole _) c 8 (by decide)
  | 9 => split_src m (Memref.whole main_arg9) (Memref.whole main_v1_9) offA inbA _ _ _ rfl rowsA rfl (View.set_whole _) c 9 (by decide)
  | 10 => split_src m (Memref.whole main_arg10) (Memref.whole main_v1_10) offE inbE _ _ _ rfl rowsE rfl (View.set_whole _) c 10 (by decide)
  | 11 => share_src m (Memref.whole main_arg11) (Memref.isWhole_whole _) (Memref.whole main_v1_11) k0_off41 k0_off41_inb _ _ rfl (View.set_whole _) c

theorem dst_split (c : Dev nD) : (w : Fin 12) →
    dstAll m c w ⊢ iprop(copies.dstL m c w ∗ bigSep Finset.univ fun k : Fin 7 => copies.dstR m ((copies.tg (w, k)).symm c) (w, k))
  | 0 => split_dst m (Memref.whole main_arg0) (Memref.whole main_v1_0) offA inbA _ _ _ rfl (View.set_whole _) c
  | 1 => split_dst m (Memref.whole main_arg1) (Memref.whole main_v1_1) offA inbA _ _ _ rfl (View.set_whole _) c
  | 2 => split_dst m (Memref.whole main_arg2) (Memref.whole main_v1_2) offB inbB _ _ _ rfl (View.set_whole _) c
  | 3 => split_dst m (Memref.whole main_arg3) (Memref.whole main_v1_3) offC inbC _ _ _ rfl (View.set_whole _) c
  | 4 => split_dst m (Memref.whole main_arg4) (Memref.whole main_v1_4) offA inbA _ _ _ rfl (View.set_whole _) c
  | 5 => split_dst m (Memref.whole main_arg5) (Memref.whole main_v1_5) offA inbA _ _ _ rfl (View.set_whole _) c
  | 6 => split_dst m (Memref.whole main_arg6) (Memref.whole main_v1_6) offA inbA _ _ _ rfl (View.set_whole _) c
  | 7 => split_dst m (Memref.whole main_arg7) (Memref.whole main_v1_7) offD inbD _ _ _ rfl (View.set_whole _) c
  | 8 => split_dst m (Memref.whole main_arg8) (Memref.whole main_v1_8) offD inbD _ _ _ rfl (View.set_whole _) c
  | 9 => split_dst m (Memref.whole main_arg9) (Memref.whole main_v1_9) offA inbA _ _ _ rfl (View.set_whole _) c
  | 10 => split_dst m (Memref.whole main_arg10) (Memref.whole main_v1_10) offE inbE _ _ _ rfl (View.set_whole _) c
  | 11 => share_dst m (Memref.whole main_arg11) (Memref.isWhole_whole _) (Memref.whole main_v1_11) k0_off41 k0_off41_inb _ _ rfl slotV (View.set_whole _) c

theorem W_0 : ∀ p, (cfgs p).W = 0 := by intro p; fin_cases p; rfl

/-- A device's arrays, gradient by gradient. -/
theorem arrays (c : Dev nD) : (unscopedBufs c (fun b => m ((c.tc : Thread nD τ).loc b)) : sProp 𝕄) ⊢ bigSep Finset.univ fun w => iprop(srcAll m c w ∗ dstAll m c w) := by
  rw [Pipeline.unscopedBufs_split cfgs 0 (fun w => Fin.elim0 w) (fun w => Fin.elim0 w) c, bigSep_univ_eq_bigSepL ws (by decide +kernel) (by decide +kernel)]
  have hrest := unscopedRest0_eq (Ix := Unit) (Name := ℕ) (U := UU nD τ sig) (Lvl := ℕ) c (fun b => m ((c.tc : Thread nD τ).loc b))
  simp only [ws, bigSepL_cons']
  iintro ⟨-, H⟩
  ihave H := (Entails.of_eq hrest) $$ H
  icases H with ⟨A0, A1, A2, A3, A4, A5, A6, A7, A8, A9, A10, A11, B0, B1, B2, B3, B4, B5, B6, B7, B8, B9, B10, B11⟩
  simp only [srcAll, dstAll]
  isplitl [A0 B0]; · isplitl [A0]; { iexact A0 }; iexact B0
  isplitl [A1 B1]; · isplitl [A1]; { iexact A1 }; iexact B1
  isplitl [A2 B2]; · isplitl [A2]; { iexact A2 }; iexact B2
  isplitl [A3 B3]; · isplitl [A3]; { iexact A3 }; iexact B3
  isplitl [A4 B4]; · isplitl [A4]; { iexact A4 }; iexact B4
  isplitl [A5 B5]; · isplitl [A5]; { iexact A5 }; iexact B5
  isplitl [A6 B6]; · isplitl [A6]; { iexact A6 }; iexact B6
  isplitl [A7 B7]; · isplitl [A7]; { iexact A7 }; iexact B7
  isplitl [A8 B8]; · isplitl [A8]; { iexact A8 }; iexact B8
  isplitl [A9 B9]; · isplitl [A9]; { iexact A9 }; iexact B9
  isplitl [A10 B10]; · isplitl [A10]; { iexact A10 }; iexact B10
  isplitl [A11 B11]; · isplitl [A11]; { iexact A11 }; iexact B11
  iempintro

/-- The sorting of all arrays into what the copies take. -/
theorem sorted : (bigSep Finset.univ fun c : Dev nD => (unscopedBufs c (fun b => m ((c.tc : Thread nD τ).loc b)) : sProp 𝕄))
    ⊢ bigSep Finset.univ fun c : Dev nD => bigSep Finset.univ fun i => copies.lend m share c i :=
  (bigSep_mono fun c _ => arrays m c).trans (copies.lend_all m share (srcAll m) (dstAll m) (src_split m) (dst_split m))

set_option maxRecDepth 65536 in
theorem run_main (g : Dev nD → PrngReg) : θ_run (defs (F := F)) (onTc (τ := τ) (main (F := F))) ⟨m, fun _ => 0, g⟩
    (fun r => (∀ c x, copies.says m r.2 c x) ∧ r.2.sem = fun _ => 0) := by
  refine run_talk cfgs copies W_0 cellOf_inj 0 N_0 winFacts0.to₀ (by decide +kernel) defs₀ main (fun c => main_chain c) (fun _ _ => Topo.routes_tc _ _) starts starts_all starts_nodup
    waits waits_all waits_nodup ?_ m g share (sorted m) ?_
  · intro c t R
    rw [show defs₀ (F := F) .tc (cfgs 0).body ((cfgs 0).bodyArgs t ((cfgs 0).slots t)) = _ from body_eq]
    simp only [Prog.lift, Prog.bind_op, Prog.bind_ret, wp_deviceId]
    exact BIBase.Entails.rfl
  · intro s h hs
    exact ⟨h, sem_eq_zero_of_scoped (by decide) hs⟩

end Cert.Trade

end
-- ==== Proof.TradeEnd.lean ====
/-
  What the exchange leaves: every gradient as it was; in slot j of an array the block that the j-th sender holds for the device; of
  the vectors all, in device order.
-/
module

public import proofs.«01_k».proof.Proof.TradeRun

@[expose] public section

set_option Elab.async false

noncomputable section

namespace Cert.Trade

open Cert.ExchangeIdeal Cert.ExchangeIdeal.Gen Cert.Talk
open Idealize.ShloMosaic Idealize.ShloMosaic.TcCoe

variable {F : FTy → Type} [FloatOps F] (m : (ℓ : Loc nD τ sig) → Buf (Elt F) ℓ) (s : MemSt nD τ sig (Elt F))

/-- Every gradient ends as it began. -/
abbrev Kept : Prop := ∀ c : Dev nD,
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7)
  ∧ s.mem ((c.tc : Thread nD τ).loc main_arg8) = m ((c.tc : Thread nD τ).loc main_arg8)
  ∧ s.mem ((c.tc : Thread nD τ).loc main_arg9) = m ((c.tc : Thread nD τ).loc main_arg9)
  ∧ s.mem ((c.tc : Thread nD τ).loc main_arg10) = m ((c.tc : Thread nD τ).loc main_arg10)
  ∧ s.mem ((c.tc : Thread nD τ).loc main_arg11) = m ((c.tc : Thread nD τ).loc main_arg11)

variable {m s}

omit [FloatOps F] in
/-- An array is as it was when each of its blocks is. -/
theorem kept_cut {n N W : ℕ} {e : EltTy} (a : Memref sig .tc .hbm ⟨2, ![N, W]⟩ e) (off : Fin 8 → Dev nD → Fin 2 → ℕ)
    (inb : ∀ j d i, off j d i + (⟨2, ![n, W]⟩ : Shape).size i ≤ (⟨2, ![N, W]⟩ : Shape).size i) (hoff : ∀ j d, off j d = ![n * (sender j d).val, 0])
    (hN : N = 8 * n) (ha : a.view.set = Finset.univ) (c : Dev nD)
    (hl : ∀ i ∈ (part a (off 0 c) (inb 0 c)).view.set, s.mem (a.view.loc (c.tc : Thread nD τ)) i = m (a.view.loc (c.tc : Thread nD τ)) i)
    (hr : ∀ k : Fin 7, ∀ i ∈ (part a (off k.succ c) (inb k.succ c)).view.set, s.mem (a.view.loc (c.tc : Thread nD τ)) i = m (a.view.loc (c.tc : Thread nD τ)) i) :
    s.mem (a.view.loc (c.tc : Thread nD τ)) = m (a.view.loc (c.tc : Thread nD τ)) := by
  have all : ∀ j : Fin 8, ∀ i ∈ (part a (off j c) (inb j c)).view.set, s.mem (a.view.loc (c.tc : Thread nD τ)) i = m (a.view.loc (c.tc : Thread nD τ)) i :=
    fun j => Fin.cases hl hr j
  have inb' : ∀ (d : Fin 8) i, (![n * d.val, 0] : Fin 2 → ℕ) i + (⟨2, ![n, W]⟩ : Shape).size i ≤ (⟨2, ![N, W]⟩ : Shape).size i := fun d i => by
    obtain ⟨j, rfl⟩ := exists_sender c d
    rw [← hoff j c]; exact inb j c i
  have key : ∀ (j : Fin 8) (o : Fin 2 → ℕ) (io), o = off j c → ∀ y : (⟨2, ![n, W]⟩ : Shape).Idx,
      a.view.emb ((Slab.rows n N W o io).emb y) ∈ (part a (off j c) (inb j c)).view.set := by
    rintro j _ io rfl y
    exact Finset.mem_map_of_mem _ (Finset.mem_univ y)
  funext i
  have hi : i ∈ a.view.set := by rw [ha]; exact Finset.mem_univ i
  obtain ⟨x, -, rfl⟩ := Finset.mem_map.mp hi
  obtain ⟨d, y, hy, -, -⟩ := Slab.mem_slab (fun d => ![n * d.val, 0]) inb' (fun _ => rfl) hN x
  obtain ⟨j, rfl⟩ := exists_sender c d
  rw [hy]
  exact all j _ (key j _ _ (hoff j c).symm y)

omit [FloatOps F] in
theorem whole_eq (c : Dev nD) (b : Ref sig .tc)
    (h : ∀ i ∈ (View.whole b : View sig .tc _ _ _).set, s.mem ((c.tc : Thread nD τ).loc b) i = m ((c.tc : Thread nD τ).loc b) i) :
    s.mem ((c.tc : Thread nD τ).loc b) = m ((c.tc : Thread nD τ).loc b) := by
  rw [View.set_whole] at h
  exact funext fun i => h i (Finset.mem_univ _)

theorem kept (h : ∀ c x, copies.says m s c x) : Kept m s := fun c =>
  ⟨kept_cut (Memref.whole main_arg0) offA inbA rowsA rfl (View.set_whole _) c (h c (.inl 0)).2 (fun k => (h c (.inr (.inl (0, k))))),
    kept_cut (Memref.whole main_arg1) offA inbA rowsA rfl (View.set_whole _) c (h c (.inl 1)).2 (fun k => (h c (.inr (.inl (1, k))))),
    kept_cut (Memref.whole main_arg2) offB inbB rowsB rfl (View.set_whole _) c (h c (.inl 2)).2 (fun k => (h c (.inr (.inl (2, k))))),
    kept_cut (Memref.whole main_arg3) offC inbC rowsC rfl (View.set_whole _) c (h c (.inl 3)).2 (fun k => (h c (.inr (.inl (3, k))))),
    kept_cut (Memref.whole main_arg4) offA inbA rowsA rfl (View.set_whole _) c (h c (.inl 4)).2 (fun k => (h c (.inr (.inl (4, k))))),
    kept_cut (Memref.whole main_arg5) offA inbA rowsA rfl (View.set_whole _) c (h c (.inl 5)).2 (fun k => (h c (.inr (.inl (5, k))))),
    kept_cut (Memref.whole main_arg6) offA inbA rowsA rfl (View.set_whole _) c (h c (.inl 6)).2 (fun k => (h c (.inr (.inl (6, k))))),
    kept_cut (Memref.whole main_arg7) offD inbD rowsD rfl (View.set_whole _) c (h c (.inl 7)).2 (fun k => (h c (.inr (.inl (7, k))))),
    kept_cut (Memref.whole main_arg8) offD inbD rowsD rfl (View.set_whole _) c (h c (.inl 8)).2 (fun k => (h c (.inr (.inl (8, k))))),
    kept_cut (Memref.whole main_arg9) offA inbA rowsA rfl (View.set_whole _) c (h c (.inl 9)).2 (fun k => (h c (.inr (.inl (9, k))))),
    kept_cut (Memref.whole main_arg10) offE inbE rowsE rfl (View.set_whole _) c (h c (.inl 10)).2 (fun k => (h c (.inr (.inl (10, k))))),
    whole_eq c _ (h c (.inl 11)).2⟩

/-- In v, block j of the eight of device c is what the j-th sender's block of V, N rows long, holds for c. -/
abbrev Slotted {α : Type} {n W M : ℕ} (N : ℕ) (v : (⟨3, ![64, n, W]⟩ : Shape).Idx → α) (V : (⟨2, ![M, W]⟩ : Shape).Idx → α) : Prop :=
  ∀ (c j : Fin 8) (x : (⟨3, ![64, n, W]⟩ : Shape).Idx) (z : (⟨2, ![M, W]⟩ : Shape).Idx), (x 0).val = 8 * c.val + j.val →
    (z 0).val = N * (sender j c).val + (n * c.val + (x 1).val) → (z 1).val = (x 2).val → v x = V z

/-- v is V cut into stacked pieces. -/
abbrev Stacked {α : Type} {k n W M : ℕ} (v : (⟨3, ![k, n, W]⟩ : Shape).Idx → α) (V : (⟨2, ![M, W]⟩ : Shape).Idx → α) : Prop :=
  ∀ (x : (⟨3, ![k, n, W]⟩ : Shape).Idx) (z : (⟨2, ![M, W]⟩ : Shape).Idx), (z 0).val = n * (x 0).val + (x 1).val → (z 1).val = (x 2).val → v x = V z

/-- Every array of slots holds what its senders hold for the device, the last the vectors of all. -/
theorem got (h : ∀ c x, copies.says m s c x)
    (V0 : (⟨2, ![22528, 1024]⟩ : Shape).Idx → Elt F .bf16) (v0 : (⟨3, ![64, 352, 1024]⟩ : Shape).Idx → Elt F .bf16)
    (V1 : (⟨2, ![22528, 1024]⟩ : Shape).Idx → Elt F .bf16) (v1 : (⟨3, ![64, 352, 1024]⟩ : Shape).Idx → Elt F .bf16)
    (V2 : (⟨2, ![69632, 1024]⟩ : Shape).Idx → Elt F .bf16) (v2 : (⟨3, ![64, 1088, 1024]⟩ : Shape).Idx → Elt F .bf16)
    (V3 : (⟨2, ![8192, 512]⟩ : Shape).Idx → Elt F .bf16) (v3 : (⟨3, ![64, 128, 512]⟩ : Shape).Idx → Elt F .bf16)
    (V4 : (⟨2, ![22528, 1024]⟩ : Shape).Idx → Elt F .bf16) (v4 : (⟨3, ![64, 352, 1024]⟩ : Shape).Idx → Elt F .bf16)
    (V5 : (⟨2, ![22528, 1024]⟩ : Shape).Idx → Elt F .bf16) (v5 : (⟨3, ![64, 352, 1024]⟩ : Shape).Idx → Elt F .bf16)
    (V6 : (⟨2, ![22528, 1024]⟩ : Shape).Idx → Elt F .bf16) (v6 : (⟨3, ![64, 352, 1024]⟩ : Shape).Idx → Elt F .bf16)
    (V7 : (⟨2, ![8192, 1024]⟩ : Shape).Idx → Elt F .bf16) (v7 : (⟨3, ![64, 128, 1024]⟩ : Shape).Idx → Elt F .bf16)
    (V8 : (⟨2, ![8192, 1024]⟩ : Shape).Idx → Elt F .bf16) (v8 : (⟨3, ![64, 128, 1024]⟩ : Shape).Idx → Elt F .bf16)
    (V9 : (⟨2, ![22528, 1024]⟩ : Shape).Idx → Elt F .bf16) (v9 : (⟨3, ![64, 352, 1024]⟩ : Shape).Idx → Elt F .bf16)
    (V10 : (⟨2, ![2048, 128]⟩ : Shape).Idx → Elt F .f32) (v10 : (⟨3, ![64, 32, 128]⟩ : Shape).Idx → Elt F .f32)
    (V11 : (⟨2, ![64, 1024]⟩ : Shape).Idx → Elt F .f32) (v11 : (⟨3, ![8, 8, 1024]⟩ : Shape).Idx → Elt F .f32)
    (hV : ∀ c : Dev nD, m ((c.tc : Thread nD τ).loc main_arg0) = Layout.block ⟨2, ![2816, 1024]⟩ ⟨2, ![22528, 1024]⟩ 0 8 c V0
      ∧ m ((c.tc : Thread nD τ).loc main_arg1) = Layout.block ⟨2, ![2816, 1024]⟩ ⟨2, ![22528, 1024]⟩ 0 8 c V1
      ∧ m ((c.tc : Thread nD τ).loc main_arg2) = Layout.block ⟨2, ![8704, 1024]⟩ ⟨2, ![69632, 1024]⟩ 0 8 c V2
      ∧ m ((c.tc : Thread nD τ).loc main_arg3) = Layout.block ⟨2, ![1024, 512]⟩ ⟨2, ![8192, 512]⟩ 0 8 c V3
      ∧ m ((c.tc : Thread nD τ).loc main_arg4) = Layout.block ⟨2, ![2816, 1024]⟩ ⟨2, ![22528, 1024]⟩ 0 8 c V4
      ∧ m ((c.tc : Thread nD τ).loc main_arg5) = Layout.block ⟨2, ![2816, 1024]⟩ ⟨2, ![22528, 1024]⟩ 0 8 c V5
      ∧ m ((c.tc : Thread nD τ).loc main_arg6) = Layout.block ⟨2, ![2816, 1024]⟩ ⟨2, ![22528, 1024]⟩ 0 8 c V6
      ∧ m ((c.tc : Thread nD τ).loc main_arg7) = Layout.block ⟨2, ![1024, 1024]⟩ ⟨2, ![8192, 1024]⟩ 0 8 c V7
      ∧ m ((c.tc : Thread nD τ).loc main_arg8) = Layout.block ⟨2, ![1024, 1024]⟩ ⟨2, ![8192, 1024]⟩ 0 8 c V8
      ∧ m ((c.tc : Thread nD τ).loc main_arg9) = Layout.block ⟨2, ![2816, 1024]⟩ ⟨2, ![22528, 1024]⟩ 0 8 c V9
      ∧ m ((c.tc : Thread nD τ).loc main_arg10) = Layout.block ⟨2, ![256, 128]⟩ ⟨2, ![2048, 128]⟩ 0 8 c V10
      ∧ m ((c.tc : Thread nD τ).loc main_arg11) = Layout.block ⟨2, ![8, 1024]⟩ ⟨2, ![64, 1024]⟩ 0 8 c V11)
    (hv0 : Slotted 2816 v0 V0) (hv1 : Slotted 2816 v1 V1) (hv2 : Slotted 8704 v2 V2) (hv3 : Slotted 1024 v3 V3) (hv4 : Slotted 2816 v4 V4) (hv5 : Slotted 2816 v5 V5)
    (hv6 : Slotted 2816 v6 V6) (hv7 : Slotted 1024 v7 V7) (hv8 : Slotted 1024 v8 V8) (hv9 : Slotted 2816 v9 V9) (hv10 : Slotted 256 v10 V10)
    (hv11 : Stacked v11 V11) (c : Dev nD) :
    s.mem ((c.tc : Thread nD τ).loc main_v1_0) = Layout.block ⟨3, ![8, 352, 1024]⟩ ⟨3, ![64, 352, 1024]⟩ 0 8 c v0
    ∧ s.mem ((c.tc : Thread nD τ).loc main_v1_1) = Layout.block ⟨3, ![8, 352, 1024]⟩ ⟨3, ![64, 352, 1024]⟩ 0 8 c v1
    ∧ s.mem ((c.tc : Thread nD τ).loc main_v1_2) = Layout.block ⟨3, ![8, 1088, 1024]⟩ ⟨3, ![64, 1088, 1024]⟩ 0 8 c v2
    ∧ s.mem ((c.tc : Thread nD τ).loc main_v1_3) = Layout.block ⟨3, ![8, 128, 512]⟩ ⟨3, ![64, 128, 512]⟩ 0 8 c v3
    ∧ s.mem ((c.tc : Thread nD τ).loc main_v1_4) = Layout.block ⟨3, ![8, 352, 1024]⟩ ⟨3, ![64, 352, 1024]⟩ 0 8 c v4
    ∧ s.mem ((c.tc : Thread nD τ).loc main_v1_5) = Layout.block ⟨3, ![8, 352, 1024]⟩ ⟨3, ![64, 352, 1024]⟩ 0 8 c v5
    ∧ s.mem ((c.tc : Thread nD τ).loc main_v1_6) = Layout.block ⟨3, ![8, 352, 1024]⟩ ⟨3, ![64, 352, 1024]⟩ 0 8 c v6
    ∧ s.mem ((c.tc : Thread nD τ).loc main_v1_7) = Layout.block ⟨3, ![8, 128, 1024]⟩ ⟨3, ![64, 128, 1024]⟩ 0 8 c v7
    ∧ s.mem ((c.tc : Thread nD τ).loc main_v1_8) = Layout.block ⟨3, ![8, 128, 1024]⟩ ⟨3, ![64, 128, 1024]⟩ 0 8 c v8
    ∧ s.mem ((c.tc : Thread nD τ).loc main_v1_9) = Layout.block ⟨3, ![8, 352, 1024]⟩ ⟨3, ![64, 352, 1024]⟩ 0 8 c v9
    ∧ s.mem ((c.tc : Thread nD τ).loc main_v1_10) = Layout.block ⟨3, ![8, 32, 128]⟩ ⟨3, ![64, 32, 128]⟩ 0 8 c v10
    ∧ s.mem ((c.tc : Thread nD τ).loc main_v1_11) = v11 :=
  ⟨traded m (Memref.whole main_arg0) (Memref.whole main_v1_0) offA inbA _ _ _ rfl rowsA s c (h c (.inl 0)).1 (fun k => h c (.inr (.inr (0, k)))) V0 (by decide) (fun d => (hV d).1) v0 (by decide) (hv0 c),
    traded m (Memref.whole main_arg1) (Memref.whole main_v1_1) offA inbA _ _ _ rfl rowsA s c (h c (.inl 1)).1 (fun k => h c (.inr (.inr (1, k)))) V1 (by decide) (fun d => (hV d).2.1) v1 (by decide) (hv1 c),
    traded m (Memref.whole main_arg2) (Memref.whole main_v1_2) offB inbB _ _ _ rfl rowsB s c (h c (.inl 2)).1 (fun k => h c (.inr (.inr (2, k)))) V2 (by decide) (fun d => (hV d).2.2.1) v2 (by decide) (hv2 c),
    traded m (Memref.whole main_arg3) (Memref.whole main_v1_3) offC inbC _ _ _ rfl rowsC s c (h c (.inl 3)).1 (fun k => h c (.inr (.inr (3, k)))) V3 (by decide) (fun d => (hV d).2.2.2.1) v3 (by decide) (hv3 c),
    traded m (Memref.whole main_arg4) (Memref.whole main_v1_4) offA inbA _ _ _ rfl rowsA s c (h c (.inl 4)).1 (fun k => h c (.inr (.inr (4, k)))) V4 (by decide) (fun d => (hV d).2.2.2.2.1) v4 (by decide) (hv4 c),
    traded m (Memref.whole main_arg5) (Memref.whole main_v1_5) offA inbA _ _ _ rfl rowsA s c (h c (.inl 5)).1 (fun k => h c (.inr (.inr (5, k)))) V5 (by decide) (fun d => (hV d).2.2.2.2.2.1) v5 (by decide) (hv5 c),
    traded m (Memref.whole main_arg6) (Memref.whole main_v1_6) offA inbA _ _ _ rfl rowsA s c (h c (.inl 6)).1 (fun k => h c (.inr (.inr (6, k)))) V6 (by decide) (fun d => (hV d).2.2.2.2.2.2.1) v6 (by decide) (hv6 c),
    traded m (Memref.whole main_arg7) (Memref.whole main_v1_7) offD inbD _ _ _ rfl rowsD s c (h c (.inl 7)).1 (fun k => h c (.inr (.inr (7, k)))) V7 (by decide) (fun d => (hV d).2.2.2.2.2.2.2.1) v7 (by decide) (hv7 c),
    traded m (Memref.whole main_arg8) (Memref.whole main_v1_8) offD inbD _ _ _ rfl rowsD s c (h c (.inl 8)).1 (fun k => h c (.inr (.inr (8, k)))) V8 (by decide) (fun d => (hV d).2.2.2.2.2.2.2.2.1) v8 (by decide) (hv8 c),
    traded m (Memref.whole main_arg9) (Memref.whole main_v1_9) offA inbA _ _ _ rfl rowsA s c (h c (.inl 9)).1 (fun k => h c (.inr (.inr (9, k)))) V9 (by decide) (fun d => (hV d).2.2.2.2.2.2.2.2.2.1) v9 (by decide) (hv9 c),
    traded m (Memref.whole main_arg10) (Memref.whole main_v1_10) offE inbE _ _ _ rfl rowsE s c (h c (.inl 10)).1 (fun k => h c (.inr (.inr (10, k)))) V10 (by decide) (fun d => (hV d).2.2.2.2.2.2.2.2.2.2.1) v10 (by decide) (hv10 c),
    shared m (Memref.whole main_arg11) (Memref.isWhole_whole _) (Memref.whole main_v1_11) k0_off41 k0_off41_inb _ _ rfl slotV s c (h c (.inl 11)).1 (fun k => h c (.inr (.inr (11, k)))) V11 (by decide) (fun d => (hV d).2.2.2.2.2.2.2.2.2.2.2) v11 hv11⟩

end Cert.Trade

end
-- ==== Proof.TradeValue.lean ====
/-
  What the reference of the exchange picks: block after block of the gradients laid end to end.
-/
module

public import proofs.«01_k».proof.Proof.TradeEnd
public import proofs.«01_k».proof.Proof.Gen.ExchangedIdeal.Run
public import Idealize.ShloMosaic.Lib.Pipeline.Value

@[expose] public section

set_option Elab.async false

noncomputable section

namespace Cert.Trade

open Idealize.ShloMosaic Idealize.ShloMosaic.TcCoe Idealize.ShloMosaic.Pipeline

/-- The picking of sixty-four blocks of an array by their number. -/
abbrev pickDims (n W : ℕ) (wf : GatherDims.WF ⟨3, ![64, n, W]⟩ ⟨2, ![64, 1]⟩ ⟨3, ![64, n, W]⟩ [1, 2] [0] [] [0] [] 1 ![1, n, W]) :
    GatherDims ⟨3, ![64, n, W]⟩ ⟨2, ![64, 1]⟩ ⟨3, ![64, n, W]⟩ :=
  ⟨[1, 2], [0], [], [], [0], 1, ![1, n, W], wf⟩

variable {α : Type} {n W : ℕ} (wf : GatherDims.WF ⟨3, ![64, n, W]⟩ ⟨2, ![64, 1]⟩ ⟨3, ![64, n, W]⟩ [1, 2] [0] [] [0] [] 1 ![1, n, W])

theorem pick_apply (v : (⟨3, ![64, n, W]⟩ : Shape).Idx → α) (idx : IVec ⟨2, ![64, 1]⟩ 32) (x z : (⟨3, ![64, n, W]⟩ : Shape).Idx)
    (h0 : (z 0).val = min (idx (Shape.pair (d := ![64, 1]) (x 0) (0 : Fin 1))).toInt.toNat 63) (h1 : (z 1).val = (x 1).val) (h2 : (z 2).val = (x 2).val) :
    Host.gather (pickDims n W wf) v idx x = v z := by
  unfold Host.gather
  congr 1
  funext a
  refine Fin.ext ?_
  show (pickDims n W wf).start x idx a + (pickDims n W wf).batchCoord x a + (pickDims n W wf).offCoord x a = _
  rw [GatherDims.batchCoord_eq_zero _ _ _ List.not_mem_nil, Nat.add_zero]
  revert a
  refine Fin.cases ?_ (Fin.cases ?_ (Fin.cases ?_ finZeroElim))
  · rw [GatherDims.offCoord_eq_zero _ _ _ (fun h => ((GatherDims.mem_sKept _ _).mp h).1 (List.mem_singleton.mpr rfl)), Nat.add_zero]
    unfold GatherDims.start
    rw [dif_pos (show (0 : Fin 3) ∈ (pickDims n W wf).startIndexMap from List.mem_singleton.mpr rfl)]
    have hsi : (pickDims n W wf).siIdx x ⟨List.idxOf (0 : Fin 3) (pickDims n W wf).startIndexMap,
        List.idxOf_lt_length_iff.2 (List.mem_singleton.mpr rfl)⟩ = Shape.pair (d := ![64, 1]) (x 0) (0 : Fin 1) := by
      funext b; refine Fin.ext ?_
      revert b
      exact Fin.cases rfl (Fin.cases rfl finZeroElim)
    rw [hsi]
    exact h0.symm
  · have hs : (pickDims n W wf).start x idx 1 = 0 := dif_neg (show (1 : Fin 3) ∉ [(0 : Fin 3)] by decide)
    exact ((congrArg (· + _) hs).trans (Nat.zero_add _)).trans h1.symm
  · have hs : (pickDims n W wf).start x idx 2 = 0 := dif_neg (show (2 : Fin 3) ∉ [(0 : Fin 3)] by decide)
    exact ((congrArg (· + _) hs).trans (Nat.zero_add _)).trans h2.symm

open Cert.ExchangedIdeal Cert.ExchangedIdeal.Gen in
/-- The numbers of the blocks that the devices receive, slot after slot, device after device. -/
abbrev froms (k : BitVec 1) : IVec ⟨2, ![64, 1]⟩ 32 :=
  broadcastInDim S64x1 ![0] bcast_S64_S64x1_0 (select (constantI S64 1 k)
    (addi (fun i => lit0 (S64.rowMajor i)) (broadcastInDim S64 ![] bcast_S_S64 (constantI S_ 32 64#32))) (fun i => lit0 (S64.rowMajor i)))

theorem froms_val : ∀ c j : Fin 8, (froms 0#1 (Shape.pair (d := ![64, 1]) (⟨8 * c.val + j.val, by omega⟩ : Fin 64) (0 : Fin 1))).toInt.toNat = 8 * (sender j c).val + c.val := by
  decide +kernel

variable {M N : ℕ}

/-- The block in slot j of device c is, of what the j-th sender holds, the c-th. -/
theorem picked (hN : N = 8 * n) (V : (⟨2, ![M, W]⟩ : Shape).Idx → α) (hc : (⟨2, ![M, W]⟩ : Shape).ShapeCasts ⟨3, ![64, n, W]⟩) (c j : Fin 8)
    (x : (⟨3, ![64, n, W]⟩ : Shape).Idx) (z : (⟨2, ![M, W]⟩ : Shape).Idx) (h0 : (x 0).val = 8 * c.val + j.val)
    (hz : (z 0).val = N * (sender j c).val + (n * c.val + (x 1).val)) (hz' : (z 1).val = (x 2).val) :
    Host.gather (pickDims n W wf) (shapeCast ⟨3, ![64, n, W]⟩ V hc) (froms 0#1) x = V z := by
  have hs : 8 * (sender j c).val + c.val < 64 := by have := (sender j c).isLt; have : (sender j c).val < 8 := this; omega
  let y : (⟨3, ![64, n, W]⟩ : Shape).Idx := Fin.cons (⟨8 * (sender j c).val + c.val, hs⟩ : Fin 64) (Shape.pair (d := ![n, W]) (x 1) (x 2))
  have hx : x 0 = (⟨8 * c.val + j.val, by omega⟩ : Fin 64) := Fin.ext h0
  rw [pick_apply wf _ _ x y ?_ rfl rfl]
  · refine shapeCast_apply V hc y z ?_
    rw [Shape.rowMajor_val_two, Shape.rowMajor_val_three]
    show (z 0).val * W + (z 1).val = ((8 * (sender j c).val + c.val) * n + (x 1).val) * W + (x 2).val
    rw [hz, hz', hN, Nat.add_mul (8 * (sender j c).val), Nat.mul_comm c.val n, Nat.mul_right_comm 8 _ n, Nat.add_assoc]
  · rw [hx, froms_val]
    show 8 * (sender j c).val + c.val = _
    omega

open Cert.ExchangedIdeal Cert.ExchangedIdeal.Gen

/-- What the reference gives for an array of each kind, and for the vectors. -/
abbrev picksA (V : S22528x1024.Idx → α) : S64x352x1024.Idx → α := Host.gather gather_S64x352x1024_S64x1_S64x352x1024_12_0_n_n_0_1_13521024 (shapeCast _ V shapeCasts_S22528x1024_S64x352x1024) (froms 0#1)
abbrev picksB (V : S69632x1024.Idx → α) : S64x1088x1024.Idx → α := Host.gather gather_S64x1088x1024_S64x1_S64x1088x1024_12_0_n_n_0_1_110881024 (shapeCast _ V shapeCasts_S69632x1024_S64x1088x1024) (froms 0#1)
abbrev picksC (V : S8192x512.Idx → α) : S64x128x512.Idx → α := Host.gather gather_S64x128x512_S64x1_S64x128x512_12_0_n_n_0_1_1128512 (shapeCast _ V shapeCasts_S8192x512_S64x128x512) (froms 0#1)
abbrev picksD (V : S8192x1024.Idx → α) : S64x128x1024.Idx → α := Host.gather gather_S64x128x1024_S64x1_S64x128x1024_12_0_n_n_0_1_11281024 (shapeCast _ V shapeCasts_S8192x1024_S64x128x1024) (froms 0#1)
abbrev picksE (V : S2048x128.Idx → α) : S64x32x128.Idx → α := Host.gather gather_S64x32x128_S64x1_S64x32x128_12_0_n_n_0_1_132128 (shapeCast _ V shapeCasts_S2048x128_S64x32x128) (froms 0#1)
abbrev stack (V : S64x1024.Idx → α) : S8x8x1024.Idx → α := shapeCast _ V shapeCasts_S64x1024_S8x8x1024

theorem slotsA (V : S22528x1024.Idx → α) : Slotted 2816 (picksA V) V := picked _ rfl V _
theorem slotsB (V : S69632x1024.Idx → α) : Slotted 8704 (picksB V) V := picked _ rfl V _
theorem slotsC (V : S8192x512.Idx → α) : Slotted 1024 (picksC V) V := picked _ rfl V _
theorem slotsD (V : S8192x1024.Idx → α) : Slotted 1024 (picksD V) V := picked _ rfl V _
theorem slotsE (V : S2048x128.Idx → α) : Slotted 256 (picksE V) V := picked _ rfl V _

theorem stack_apply (V : S64x1024.Idx → α) : Stacked (stack V) V := fun x z h h' => by
  refine shapeCast_apply V _ x z ?_
  rw [Shape.rowMajor_val_two, Shape.rowMajor_val_three, h, h', Nat.mul_comm 8]
  rfl

end Cert.Trade

end
-- ==== Proof.Steps.lean ====
/-
  The optimizer's step on each kind of weight: the kernel's new change, momentum and variance are the reference's.
-/
module

public import proofs.«01_k».proof.Defs
public import proofs.«01_k».proof.Proof.Gen.GateStepIdeal.Value
public import proofs.«01_k».proof.Proof.Gen.GateStepRefIdeal.Run
public import proofs.«01_k».proof.Proof.Gen.DownStepIdeal.Value
public import proofs.«01_k».proof.Proof.Gen.DownStepRefIdeal.Run
public import proofs.«01_k».proof.Proof.Gen.InStepIdeal.Value
public import proofs.«01_k».proof.Proof.Gen.InStepRefIdeal.Run
public import proofs.«01_k».proof.Proof.Gen.AttnStepIdeal.Value
public import proofs.«01_k».proof.Proof.Gen.AttnStepRefIdeal.Run
public import proofs.«01_k».proof.Proof.Gen.OutStepIdeal.Value
public import proofs.«01_k».proof.Proof.Gen.OutStepRefIdeal.Run
public import proofs.«01_k».proof.Proof.Gen.TapsStepIdeal.Value
public import proofs.«01_k».proof.Proof.Gen.TapsStepRefIdeal.Run

@[expose] public section

noncomputable section

namespace Cert.Steps

open Idealize.ShloMosaic Idealize.ShloMosaic.TcCoe Idealize.SL.Sem

section
open Cert.GateStepIdeal Cert.GateStepIdeal.Gen Cert.GateStepIdeal.Value

theorem gate : Cert.algebraic_GateStepIdeal_GateStepRefIdeal := fun m g m' g' _ hm =>
  ⟨_, _, _, run m g, (θ_run Cert.GateStepRefIdeal.defs _ _).mono
    (fun r h c => by
      obtain ⟨h0, h1, h2, h3⟩ := h c
      obtain ⟨e0, e1, e2, e3⟩ := hm c
      rw [e0, e1, e2, e3] at h0
      rw [e1, e2] at h1
      rw [e1, e3] at h2
      exact ⟨h0, h1, h2, h3⟩)
    (Cert.GateStepRefIdeal.Value.run m' g')⟩
end

section
open Cert.DownStepIdeal Cert.DownStepIdeal.Gen Cert.DownStepIdeal.Value

theorem down : Cert.algebraic_DownStepIdeal_DownStepRefIdeal := fun m g m' g' _ hm =>
  ⟨_, _, _, run m g, (θ_run Cert.DownStepRefIdeal.defs _ _).mono
    (fun r h c => by
      obtain ⟨h0, h1, h2, h3⟩ := h c
      obtain ⟨e0, e1, e2, e3⟩ := hm c
      rw [e0, e1, e2, e3] at h0
      rw [e1, e2] at h1
      rw [e1, e3] at h2
      exact ⟨h0, h1, h2, h3⟩)
    (Cert.DownStepRefIdeal.Value.run m' g')⟩
end

section
open Cert.InStepIdeal Cert.InStepIdeal.Gen Cert.InStepIdeal.Value

theorem inp : Cert.algebraic_InStepIdeal_InStepRefIdeal := fun m g m' g' _ hm =>
  ⟨_, _, _, run m g, (θ_run Cert.InStepRefIdeal.defs _ _).mono
    (fun r h c => by
      obtain ⟨h0, h1, h2, h3⟩ := h c
      obtain ⟨e0, e1, e2, e3⟩ := hm c
      rw [e0, e1, e2, e3] at h0
      rw [e1, e2] at h1
      rw [e1, e3] at h2
      exact ⟨h0, h1, h2, h3⟩)
    (Cert.InStepRefIdeal.Value.run m' g')⟩
end

section
open Cert.AttnStepIdeal Cert.AttnStepIdeal.Gen Cert.AttnStepIdeal.Value

theorem attn : Cert.algebraic_AttnStepIdeal_AttnStepRefIdeal := fun m g m' g' _ hm =>
  ⟨_, _, _, run m g, (θ_run Cert.AttnStepRefIdeal.defs _ _).mono
    (fun r h c => by
      obtain ⟨h0, h1, h2, h3⟩ := h c
      obtain ⟨e0, e1, e2, e3⟩ := hm c
      rw [e0, e1, e2, e3] at h0
      rw [e1, e2] at h1
      rw [e1, e3] at h2
      exact ⟨h0, h1, h2, h3⟩)
    (Cert.AttnStepRefIdeal.Value.run m' g')⟩
end

section
open Cert.OutStepIdeal Cert.OutStepIdeal.Gen Cert.OutStepIdeal.Value

theorem out : Cert.algebraic_OutStepIdeal_OutStepRefIdeal := fun m g m' g' _ hm =>
  ⟨_, _, _, run m g, (θ_run Cert.OutStepRefIdeal.defs _ _).mono
    (fun r h c => by
      obtain ⟨h0, h1, h2, h3⟩ := h c
      obtain ⟨e0, e1, e2, e3⟩ := hm c
      rw [e0, e1, e2, e3] at h0
      rw [e1, e2] at h1
      rw [e1, e3] at h2
      exact ⟨h0, h1, h2, h3⟩)
    (Cert.OutStepRefIdeal.Value.run m' g')⟩
end

section
open Cert.TapsStepIdeal Cert.TapsStepIdeal.Gen Cert.TapsStepIdeal.Value

theorem taps : Cert.algebraic_TapsStepIdeal_TapsStepRefIdeal := fun m g m' g' _ hm =>
  ⟨_, _, _, run m g, (θ_run Cert.TapsStepRefIdeal.defs _ _).mono
    (fun r h c => by
      obtain ⟨h0, h1, h2, h3⟩ := h c
      obtain ⟨e0, e1, e2, e3⟩ := hm c
      rw [e0, e1, e2, e3] at h0
      rw [e1, e2] at h1
      rw [e1, e3] at h2
      exact ⟨h0, h1, h2, h3⟩)
    (Cert.TapsStepRefIdeal.Value.run m' g')⟩
end

end Cert.Steps

end
-- ==== Proof.FfnRow.lean ====
/-
  The backward pass of a feed-forward block `x + ½ · swiglu(rmsnorm(x))`, one row at a time, on extended reals.
-/
module

public import proofs.«01_k».proof.Defs
public import Idealize.ShloMosaic.Lib.IdealHost

@[expose] public section

noncomputable section

namespace Cert.Ffn

open Idealize.ShloMosaic

/-- The constants of the block: a half, one, the width of a row and the guard inside the root. -/
def half : EReal := Ideal.ofBits .f32 0x3F000000#32
def one : EReal := Ideal.ofBits .f32 0x3F800000#32
def width : EReal := Ideal.ofBits .f32 0x44800000#32
def guard : EReal := Ideal.ofBits .f32 0x358637BD#32

/-- The logistic function. -/
def logi (z : EReal) : EReal := Ideal.div one (one + Ideal.exp (-z))

/-- The gate product's gradient from the activation's gradient `a`, the gate product `z` and the up product `u`. -/
def toGate (a z u : EReal) : EReal := a * u * (logi z * (one + z * (one - logi z)))

/-- The up product's gradient. -/
def toUp (a z : EReal) : EReal := a * (z * logi z)

/-- The activation. -/
def act (z u : EReal) : EReal := z * logi z * u

/-- The block's parameters: the norm's scale and the three weight matrices. -/
structure Weights where
  g : Fin 1024 → EReal
  wg : Fin 2816 → Fin 1024 → EReal
  wu : Fin 2816 → Fin 1024 → EReal
  wd : Fin 2816 → Fin 1024 → EReal

/-- One row of the block's data: the input, the output's gradient and the two saved products. -/
structure Line where
  x : Fin 1024 → EReal
  o : Fin 1024 → EReal
  z : Fin 2816 → EReal
  u : Fin 2816 → EReal

/-- The mean over a row. -/
def mean (f : Fin 1024 → EReal) : EReal := Ideal.div (∑ k, f k) width

/-- The reciprocal root mean square of the row, and the row normalized by it. -/
def Line.inv (L : Line) : EReal := Ideal.rsqrt (mean (fun k => L.x k * L.x k) + guard)
def Line.hat (L : Line) (k : Fin 1024) : EReal := L.x k * L.inv

/-- The gradients of the activation, of the two products and of the normalized, scaled row. -/
def Line.da (L : Line) (W : Weights) (q : Fin 2816) : EReal := ∑ k, half * L.o k * W.wd q k
def Line.dg (L : Line) (W : Weights) (q : Fin 2816) : EReal := toGate (L.da W q) (L.z q) (L.u q)
def Line.du (L : Line) (W : Weights) (q : Fin 2816) : EReal := toUp (L.da W q) (L.z q)
def Line.dh (L : Line) (W : Weights) (k : Fin 1024) : EReal := (∑ q, L.dg W q * W.wg q k) + ∑ q, L.du W q * W.wu q k

/-- The row's part of the scale's gradient, and the row's gradient. -/
def Line.dgam (L : Line) (W : Weights) (k : Fin 1024) : EReal := L.dh W k * L.hat k
def Line.dx (L : Line) (W : Weights) (k : Fin 1024) : EReal :=
  L.o k + L.inv * (L.dh W k * W.g k - L.hat k * mean (fun j => L.dh W j * W.g j * L.hat j))

/-- The first `256 n` terms of a sum over the hidden width. -/
def firsts (f : Fin 2816 → EReal) (n : ℕ) : EReal := ∑ q ∈ Finset.univ.filter (fun q : Fin 2816 => q.val < 256 * n), f q

theorem firsts_zero (f : Fin 2816 → EReal) : firsts f 0 = 0 :=
  Finset.sum_eq_zero fun q hq => absurd (Finset.mem_filter.mp hq).2 (by omega)

theorem firsts_all (f : Fin 2816 → EReal) : firsts f 11 = ∑ q, f q := by
  have h : (Finset.univ.filter fun q : Fin 2816 => q.val < 256 * 11) = Finset.univ := Finset.filter_true_of_mem fun q _ => by have := q.isLt; omega
  exact congrArg (fun s => ∑ q ∈ s, f q) h

/-- The next 256 terms. -/
theorem firsts_succ (f : Fin 2816 → EReal) (n : ℕ) (hn : n < 11) :
    firsts f (n + 1) = firsts f n + ∑ i : Fin 256, f ⟨256 * n + i.val, by omega⟩ := by
  unfold firsts
  rw [← Finset.sum_filter_add_sum_filter_not (Finset.univ.filter fun q : Fin 2816 => q.val < 256 * (n + 1)) (fun q => q.val < 256 * n)]
  refine congrArg₂ (· + ·) ?_ ?_
  · rw [Finset.filter_filter]
    exact Finset.sum_congr (Finset.filter_congr fun q _ => by omega) fun _ _ => rfl
  · symm
    refine Finset.sum_bij (fun i _ => (⟨256 * n + i.val, by omega⟩ : Fin 2816)) (fun i _ => ?_) (fun i _ j _ h => ?_) (fun q hq => ?_) (fun _ _ => rfl)
    · simp only [Finset.mem_filter, Finset.mem_univ, true_and]
      omega
    · have := congrArg Fin.val h
      exact Fin.ext (by simpa using this)
    · simp only [Finset.mem_filter, Finset.mem_univ, true_and] at hq
      exact ⟨⟨q.val - 256 * n, by omega⟩, Finset.mem_univ _, Fin.ext (by show 256 * n + (q.val - 256 * n) = q.val; omega)⟩

end Cert.Ffn

end
-- ==== Proof.FfnTile.lean ====
/-
  The feed-forward block's backward kernel: what it computes on one tile of 256 rows, entry by entry.
-/
module

public import proofs.«01_k».proof.Proof.FfnRow
public import proofs.«01_k».proof.Proof.Gen.FfnBackIdeal.Value
public import Idealize.ShloMosaic.Lib.MatmulPlain
public import Idealize.ShloMosaic.Lib.ValueLayout
public import Idealize.ShloMosaic.Lib.ValueLayoutCasts
public import Idealize.ShloMosaic.Lib.WholeRead
public import Idealize.ShloMosaic.Lib.Pointwise.Reduce

@[expose] public section

noncomputable section

namespace Cert.Ffn

open Idealize.ShloMosaic hiding ix1 ix2 eq_ix2
open Idealize.ShloMosaic.TcCoe Idealize.ShloMosaic.ValueIdx Cert.FfnBackIdeal Cert.FfnBackIdeal.Gen

/-- A zero constant is zero. -/
theorem zero_bits : Ideal.ofBits .f32 0x00000000#32 = 0 := by simp [Ideal.ofBits, Ideal.ieee]

/-! ### The operations of one chunk of 256 hidden columns -/

theorem da_apply (b : FVec Ideal S256x1024 .bf16) (w : Vec Ideal S256x1024 .bf16) (r q : Fin 256) :
    k0_pay28 (F := Ideal) b w (ix2 r q) = ∑ k, b (ix2 r k) * w (ix2 q k) := by
  refine (Ideal.matmul_transposedRhs_apply none b w (constant S256x256 .f32 0x00000000#32) r q).trans ?_
  rw [show constant (F := Ideal) S256x256 .f32 0x00000000#32 (ix2 r q) = 0 from zero_bits, zero_add]

theorem logi_apply (z : Vec Ideal S256x256 .bf16) (j : S256x256.Idx) : k0_pay31 (F := Ideal) z j = logi (z j) := by
  show Ideal.div one (one + Ideal.exp (Ideal.ofBits .f32 0x00000000#32 - z j)) = _
  rw [zero_bits, zero_sub]; rfl

theorem toGate_apply (b : FVec Ideal S256x1024 .bf16) (w : Vec Ideal S256x1024 .bf16) (z u : Vec Ideal S256x256 .bf16) (r q : Fin 256) :
    k0_pay33 (F := Ideal) b w z u (ix2 r q) = toGate (∑ k, b (ix2 r k) * w (ix2 q k)) (z (ix2 r q)) (u (ix2 r q)) := by
  show k0_pay28 (F := Ideal) b w (ix2 r q) * u (ix2 r q) * (k0_pay31 (F := Ideal) z (ix2 r q) * (one + z (ix2 r q) * (one - k0_pay31 (F := Ideal) z (ix2 r q)))) = _
  rw [da_apply, logi_apply]; rfl

theorem toUp_apply (b : FVec Ideal S256x1024 .bf16) (w : Vec Ideal S256x1024 .bf16) (z : Vec Ideal S256x256 .bf16) (r q : Fin 256) :
    k0_pay34 (F := Ideal) b w z (ix2 r q) = toUp (∑ k, b (ix2 r k) * w (ix2 q k)) (z (ix2 r q)) := by
  show k0_pay28 (F := Ideal) b w (ix2 r q) * (z (ix2 r q) * k0_pay31 (F := Ideal) z (ix2 r q)) = _
  rw [da_apply, logi_apply]; rfl

theorem act_apply (z u : Vec Ideal S256x256 .bf16) (j : S256x256.Idx) : k0_pay35 (F := Ideal) z u j = act (z j) (u j) := by
  show z j * k0_pay31 (F := Ideal) z j * u j = _
  rw [logi_apply]; rfl

/-- One chunk's two products added onto the accumulator. -/
theorem acc_apply (dg du : FVec Ideal S256x256 .bf16) (a : Vec Ideal S256x1024 .f32) (wg wu : Vec Ideal S256x1024 .bf16) (r : Fin 256) (k : Fin 1024) :
    k0_pay36 (F := Ideal) dg du a wg wu (ix2 r k)
      = a (ix2 r k) + ((∑ q, dg (ix2 r q) * wg (ix2 q k)) + ∑ q, du (ix2 r q) * wu (ix2 q k)) := by
  unfold k0_pay36
  rw [shapeCast_self]
  refine congrArg (a (ix2 r k) + ·) (congrArg₂ (· + ·) ?_ ?_)
  · refine (Ideal.matmul_plain_apply none dg wg (constant S256x1024 .f32 0x00000000#32) r k).trans ?_
    rw [show constant (F := Ideal) S256x1024 .f32 0x00000000#32 (ix2 r k) = 0 from zero_bits, zero_add]
  · refine (Ideal.matmul_plain_apply none du wu (constant S256x1024 .f32 0x00000000#32) r k).trans ?_
    rw [show constant (F := Ideal) S256x1024 .f32 0x00000000#32 (ix2 r k) = 0 from zero_bits, zero_add]

/-! ### The operations on a row -/

/-- A mean over the rows of a tile. -/
theorem mean_apply (v : FVec Ideal S256x1024 .f32) (h h' hφ hacc) (r : Fin 256) :
    Ideal.div (shapeCast S256x1 (multiReduction (F := Ideal) (φ := .f32) .add [1] S256 v 0x00000000#32 h hφ hacc) h' (ix2 r 0)) width
      = mean (fun k => v (ix2 r k)) := by
  rw [shapeCast_a_a1_apply, multiReduction_add_apply]
  exact congrArg (Ideal.div · width) (Ideal.reduceAdd_r2_a1 h v (ix1 r))

theorem inv_apply (x : Vec Ideal S256x1024 .f32) (r : Fin 256) :
    k0_pay4 (F := Ideal) x (ix2 r 0) = Ideal.rsqrt (mean (fun k => x (ix2 r k) * x (ix2 r k)) + guard) :=
  congrArg (fun y => Ideal.rsqrt (y + guard)) (mean_apply (mulf (F := Ideal) (φ := .f32) x x) _ _ _ _ r)

/-- A column spread over a row. -/
theorem spread_apply (v : FVec Ideal S256x1 .f32) (h) (r : Fin 256) (k : Fin 1024) : broadcastTo S256x1024 v h (ix2 r k) = v (ix2 r 0) :=
  broadcastTo_apply v h (ix2 r k) (ix2 r 0) fun ax => match ax with
    | ⟨0, _⟩ => rfl
    | ⟨1, _⟩ => rfl

theorem hat_apply (x : Vec Ideal S256x1024 .f32) (r : Fin 256) (k : Fin 1024) :
    k0_pay5 (F := Ideal) x (ix2 r k) = x (ix2 r k) * Ideal.rsqrt (mean (fun k => x (ix2 r k) * x (ix2 r k)) + guard) := by
  show x (ix2 r k) * broadcastTo S256x1024 (k0_pay4 (F := Ideal) x) _ (ix2 r k) = _
  rw [spread_apply, inv_apply]

theorem scaled_apply (x : Vec Ideal S256x1024 .f32) (g : Vec Ideal S1x1024 .f32) (r : Fin 256) (k : Fin 1024) :
    k0_pay6 (F := Ideal) x g (ix2 r k) = x (ix2 r k) * Ideal.rsqrt (mean (fun k => x (ix2 r k) * x (ix2 r k)) + guard) * g (ix2 0 k) := by
  show k0_pay5 (F := Ideal) x (ix2 r k) * broadcastTo S256x1024 g _ (ix2 r k) = _
  rw [hat_apply, broadcastTo_1b_ab_apply]

theorem halved_apply (o : Vec Ideal S256x1024 .f32) (j : S256x1024.Idx) : k0_pay7 (F := Ideal) o j = half * o j := rfl

theorem dx_apply (v : FVec Ideal S256x1 .f32) (n : FVec Ideal S256x1024 .f32) (g : Vec Ideal S1x1024 .f32) (o d : Vec Ideal S256x1024 .f32)
    (r : Fin 256) (k : Fin 1024) : k0_pay3 (F := Ideal) v n g o d (ix2 r k)
      = o (ix2 r k) + v (ix2 r 0) * (d (ix2 r k) * g (ix2 0 k) - n (ix2 r k) * mean (fun j => d (ix2 r j) * g (ix2 0 j) * n (ix2 r j))) := by
  have hg : ∀ j, broadcastTo S256x1024 g broadcasts_S1x1024_S256x1024 (ix2 r j) = g (ix2 0 j) := fun j => broadcastTo_1b_ab_apply g _ r j
  refine congrArg (o (ix2 r k) + ·) (congrArg₂ (· * ·) (spread_apply v _ r k) (congrArg₂ (· - ·) (congrArg (d (ix2 r k) * ·) (hg k)) ?_))
  refine congrArg (n (ix2 r k) * ·) ((spread_apply _ _ r k).trans ((mean_apply _ _ _ _ _ r).trans (congrArg mean (funext fun j => ?_))))
  exact congrArg (d (ix2 r j) * · * n (ix2 r j)) (hg j)

/-- The tile's column sums added onto the running row. -/
theorem dgam_apply (n : FVec Ideal S256x1024 .f32) (d : Vec Ideal S256x1024 .f32) (a : Vec Ideal S1x1024 .f32) (k : Fin 1024) :
    k0_pay2 (F := Ideal) n d a (ix2 0 k) = a (ix2 0 k) + ∑ r, d (ix2 r k) * n (ix2 r k) := by
  unfold k0_pay2
  rw [shapeCast_self]
  refine congrArg (a (ix2 0 k) + ·) ((shapeCast_a_1a_apply _ _ 0 k).trans ?_)
  exact Ideal.reduceAdd_r2_a0 _ (mulf (F := Ideal) (φ := .f32) d n) (ix1 k)

/-! ### Loads of blocks of columns and of rows -/

/-- The block of 256 columns, the block of 256 rows, and the whole tile. -/
abbrev colsR (n : ℕ) (h : ∀ a, (![0, 256 * n] : Fin 2 → ℕ) a + S256x256.size a ≤ S256x2816.size a) : Rect S256x2816 := Rect.unit ![0, 256 * n] S256x256.size h
abbrev rowsR (n : ℕ) (h : ∀ a, (![256 * n, 0] : Fin 2 → ℕ) a + S256x1024.size a ≤ S2816x1024.size a) : Rect S2816x1024 := Rect.unit ![256 * n, 0] S256x1024.size h
abbrev tileR (h : ∀ a, (![0, 0] : Fin 2 → ℕ) a + S256x1024.size a ≤ S256x1024.size a) : Rect S256x1024 := Rect.unit ![0, 0] S256x1024.size h

theorem off_zero : (![0, 0] : Fin 2 → ℕ) = fun _ => 0 := by funext a; fin_cases a <;> rfl

theorem load_cols {m : Memref sig .tc .vmem S256x2816 .bf16} (hm : m.IsWhole) (x : Vec Ideal S256x2816 .bf16) (n : ℕ) (hn : n < 11) (h) (r q : Fin 256) :
    View.readAt (Elt Ideal) m.view (colsR n h).toLoadRect (hm.unread x) (ix2 r q) = x (ix2 r ⟨256 * n + q.val, by omega⟩) :=
  (hm.readAt_unread x _ _).trans (congrArg x (funext fun a => Fin.ext (match a with
    | ⟨0, _⟩ => by show 0 + 1 * r.val = r.val; omega
    | ⟨1, _⟩ => by show 256 * n + 1 * q.val = 256 * n + q.val; omega)))

theorem load_rows {m : Memref sig .tc .vmem S2816x1024 .bf16} (hm : m.IsWhole) (x : Vec Ideal S2816x1024 .bf16) (n : ℕ) (hn : n < 11) (h) (q : Fin 256) (k : Fin 1024) :
    View.readAt (Elt Ideal) m.view (rowsR n h).toLoadRect (hm.unread x) (ix2 q k) = x (ix2 ⟨256 * n + q.val, by omega⟩ k) :=
  (hm.readAt_unread x _ _).trans (congrArg x (funext fun a => Fin.ext (match a with
    | ⟨0, _⟩ => by show 256 * n + 1 * q.val = 256 * n + q.val; omega
    | ⟨1, _⟩ => by show 0 + 1 * k.val = k.val; omega)))

theorem load_all {s : Shape} {e : EltTy} {m : Memref sig .tc .vmem s e} (hm : m.IsWhole) (x : Vec Ideal s e) {off : Fin s.rank → ℕ} (ho : off = fun _ => 0) (h) :
    View.readAt (Elt Ideal) m.view (Rect.unit off s.size h).toLoadRect (hm.unread x) = x := by
  subst ho
  funext j
  exact (hm.readAt_unread x _ _).trans (congrArg x (funext fun a => Fin.ext (by show 0 + 1 * (j a).val = (j a).val; omega)))

/-! ### A tile's rows -/

/-- Row `r` of a tile. -/
def lineOf {n : ℕ} (x o : (⟨2, ![n, 1024]⟩ : Shape).Idx → EReal) (z u : (⟨2, ![n, 2816]⟩ : Shape).Idx → EReal) (r : Fin n) : Line :=
  ⟨fun k => x (ix2 r k), fun k => o (ix2 r k), fun q => z (ix2 r q), fun q => u (ix2 r q)⟩

/-- The parameters as matrices. -/
def weightsOf (g : (⟨2, ![1, 1024]⟩ : Shape).Idx → EReal) (wg wu wd : (⟨2, ![2816, 1024]⟩ : Shape).Idx → EReal) : Weights :=
  ⟨fun k => g (ix2 0 k), fun q k => wg (ix2 q k), fun q k => wu (ix2 q k), fun q k => wd (ix2 q k)⟩

/-- The two products' sums over the first `256 n` hidden columns. -/
def upto (L : Fin 256 → Line) (W : Weights) (n : ℕ) (a : Vec Ideal S256x1024 .f32) : Prop :=
  ∀ r k, a (ix2 r k) = firsts (fun q => (L r).dg W q * W.wg q k) n + firsts (fun q => (L r).du W q * W.wu q k) n

section
variable {m3 m4 : Memref sig .tc .vmem S256x2816 .bf16} {m5 : Memref sig .tc .vmem S256x1024 .f32} {m6 m7 m8 : Memref sig .tc .vmem S2816x1024 .bf16}
  (h3 : m3.IsWhole) (h4 : m4.IsWhole) (h5 : m5.IsWhole) (h6 : m6.IsWhole) (h7 : m7.IsWhole) (h8 : m8.IsWhole)
  (x0 x4 : Vec Ideal S256x1024 .f32) (x1 : Vec Ideal S1x1024 .f32) (x2 x3 : Vec Ideal S256x2816 .bf16) (x5 x6 x7 : Vec Ideal S2816x1024 .bf16)
  (n : ℕ) (hn : n < 11) (i2 : ∀ a, (![0, 256 * n] : Fin 2 → ℕ) a + S256x256.size a ≤ S256x2816.size a)
  (i1 : ∀ a, (![256 * n, 0] : Fin 2 → ℕ) a + S256x1024.size a ≤ S2816x1024.size a)
  (i0 : ∀ a, (![0, 0] : Fin 2 → ℕ) a + S256x1024.size a ≤ S256x1024.size a)

/-- Chunk `n`'s gradient of the gate product. -/
abbrev chunkGate : FVec Ideal S256x256 .bf16 :=
  k0_pay33 (k0_pay7 (View.readAt (Elt Ideal) m5.view (tileR i0).toLoadRect (h5.unread x4)))
    (View.readAt (Elt Ideal) m8.view (rowsR n i1).toLoadRect (h8.unread x7))
    (View.readAt (Elt Ideal) m3.view (colsR n i2).toLoadRect (h3.unread x2))
    (View.readAt (Elt Ideal) m4.view (colsR n i2).toLoadRect (h4.unread x3))

/-- Chunk `n`'s gradient of the up product. -/
abbrev chunkUp : FVec Ideal S256x256 .bf16 :=
  k0_pay34 (k0_pay7 (View.readAt (Elt Ideal) m5.view (tileR i0).toLoadRect (h5.unread x4)))
    (View.readAt (Elt Ideal) m8.view (rowsR n i1).toLoadRect (h8.unread x7))
    (View.readAt (Elt Ideal) m3.view (colsR n i2).toLoadRect (h3.unread x2))

/-- Chunk `n`'s activation. -/
abbrev chunkAct : FVec Ideal S256x256 .bf16 :=
  k0_pay35 (View.readAt (Elt Ideal) m3.view (colsR n i2).toLoadRect (h3.unread x2))
    (View.readAt (Elt Ideal) m4.view (colsR n i2).toLoadRect (h4.unread x3))

theorem da_chunk (r q : Fin 256) :
    (∑ k, k0_pay7 (F := Ideal) (View.readAt (Elt Ideal) m5.view (tileR i0).toLoadRect (h5.unread x4)) (ix2 r k)
      * View.readAt (Elt Ideal) m8.view (rowsR n i1).toLoadRect (h8.unread x7) (ix2 q k))
      = (lineOf x0 x4 x2 x3 r).da (weightsOf x1 x5 x6 x7) ⟨256 * n + q.val, by omega⟩ :=
  Finset.sum_congr rfl fun k _ => congrArg₂ (· * ·)
    (congrArg (half * ·) (congrFun (load_all h5 x4 off_zero i0) (ix2 r k))) (load_rows h8 x7 n hn i1 q k)

theorem chunkGate_apply (r q : Fin 256) : chunkGate h3 h4 h5 h8 x4 x2 x3 x7 n i2 i1 i0 (ix2 r q)
    = (lineOf x0 x4 x2 x3 r).dg (weightsOf x1 x5 x6 x7) ⟨256 * n + q.val, by omega⟩ := by
  unfold chunkGate
  rw [toGate_apply, da_chunk h5 h8 x0 x4 x1 x2 x3 x5 x6 x7 n hn i1 i0, load_cols h3 x2 n hn, load_cols h4 x3 n hn]; rfl

theorem chunkUp_apply (r q : Fin 256) : chunkUp h3 h5 h8 x4 x2 x7 n i2 i1 i0 (ix2 r q)
    = (lineOf x0 x4 x2 x3 r).du (weightsOf x1 x5 x6 x7) ⟨256 * n + q.val, by omega⟩ := by
  unfold chunkUp
  rw [toUp_apply, da_chunk h5 h8 x0 x4 x1 x2 x3 x5 x6 x7 n hn i1 i0, load_cols h3 x2 n hn]; rfl

theorem chunkAct_apply (r q : Fin 256) : chunkAct h3 h4 x2 x3 n i2 (ix2 r q)
    = act (x2 (ix2 r ⟨256 * n + q.val, by omega⟩)) (x3 (ix2 r ⟨256 * n + q.val, by omega⟩)) := by
  unfold chunkAct
  rw [act_apply, load_cols h3 x2 n hn, load_cols h4 x3 n hn]

include hn in
/-- One chunk of the accumulation. -/
theorem upto_succ (v : View sig .tc .vmem S256x1024 .f32) (Ps : List (View.Piece (Elt Ideal) S256x1024 .f32)) (a : Vec Ideal S256x1024 .f32)
    (ha : upto (lineOf x0 x4 x2 x3) (weightsOf x1 x5 x6 x7) n a) :
    upto (lineOf x0 x4 x2 x3) (weightsOf x1 x5 x6 x7) (n + 1) (v.readCov (Val := Elt Ideal) (⟨tileR i0,
      k0_pay36 (F := Ideal) (chunkGate h3 h4 h5 h8 x4 x2 x3 x7 n i2 i1 i0) (chunkUp h3 h5 h8 x4 x2 x7 n i2 i1 i0) a
        (View.readAt (Elt Ideal) m6.view (rowsR n i1).toLoadRect (h6.unread x5))
        (View.readAt (Elt Ideal) m7.view (rowsR n i1).toLoadRect (h7.unread x6))⟩ :: Ps)
      (tileR i0).toLoadRect) := fun r k => by
  rw [View.readCov_cons_toLoadRect]
  refine (acc_apply _ _ a _ _ r k).trans ?_
  rw [ha r k, firsts_succ _ n hn, firsts_succ _ n hn, add_add_add_comm]
  exact congrArg₂ (· + ·)
    (congrArg (_ + ·) (Finset.sum_congr rfl fun q _ => congrArg₂ (· * ·)
      (chunkGate_apply h3 h4 h5 h8 x0 x4 x1 x2 x3 x5 x6 x7 n hn i2 i1 i0 r q) (load_rows h6 x5 n hn i1 q k)))
    (congrArg (_ + ·) (Finset.sum_congr rfl fun q _ => congrArg₂ (· * ·)
      (chunkUp_apply h3 h5 h8 x0 x4 x1 x2 x3 x5 x6 x7 n hn i2 i1 i0 r q) (load_rows h7 x6 n hn i1 q k)))

/-- The accumulator starts at zero. -/
theorem upto_zero (v : View sig .tc .vmem S256x1024 .f32) (L : Fin 256 → Line) (W : Weights) :
    upto L W 0 (v.readCov (Val := Elt Ideal) [⟨tileR i0, k0_pay8 (F := Ideal)⟩] (tileR i0).toLoadRect) := fun r k => by
  rw [View.readCov_cons_toLoadRect, firsts_zero, firsts_zero, add_zero]
  unfold k0_pay8
  rw [shapeCast_self]
  exact zero_bits
end

end Cert.Ffn

end
-- ==== Proof.FfnOut.lean ====
/-
  The feed-forward block's backward kernel: what a grid point writes, output by output.
-/
module

public import proofs.«01_k».proof.Proof.FfnTile

@[expose] public section

noncomputable section

namespace Cert.Ffn

open Idealize.ShloMosaic hiding ix1 ix2 eq_ix2
open Idealize.ShloMosaic.TcCoe Idealize.ShloMosaic.ValueIdx Cert.FfnBackIdeal Cert.FfnBackIdeal.Gen

section
variable (c : Dev nD) (i : grid0.Coords) (arg3 : Memref sig .tc .vmem S256x2816 .bf16) (harg3 : arg3.IsWhole) (arg4 : Memref sig .tc .vmem S256x2816 .bf16) (harg4 : arg4.IsWhole) (arg5 : Memref sig .tc .vmem S256x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg16 : Memref sig .tc .vmem S256x1024 .f32) (harg16 : arg16.IsWhole)
    (x0 : Vec Ideal S256x1024 .f32) (x1 : Vec Ideal S1x1024 .f32) (x2 : Vec Ideal S256x2816 .bf16) (x3 : Vec Ideal S256x2816 .bf16) (x4 : Vec Ideal S256x1024 .f32) (x5 : Vec Ideal S2816x1024 .bf16) (x6 : Vec Ideal S2816x1024 .bf16) (x7 : Vec Ideal S2816x1024 .bf16)

/-- The accumulator after the eleven chunks, at the first grid point. -/
theorem acc_A : upto (lineOf x0 x4 x2 x3) (weightsOf x1 x5 x6 x7) 11 (kernelRun0_A.sl.v465 (F := Ideal) c arg3 harg3 arg4 harg4 arg5 harg5 arg6 harg6 arg7 harg7 arg8 harg8 arg16 x2 x3 x4 x5 x6 x7) := by
  have s := fun n hn i2 i1 Ps a => upto_succ harg3 harg4 harg5 harg6 harg7 harg8 x0 x4 x1 x2 x3 x5 x6 x7 n hn i2 i1 inb_S256x1024_S256x1024_0_0 arg16.view Ps a
  unfold kernelRun0_A.sl.v465 kernelRun0_A.sl.HS0_12; refine s 10 (by omega) _ _ _ _ ?_
  unfold kernelRun0_A.sl.v455 kernelRun0_A.sl.HS0_11; refine s 9 (by omega) _ _ _ _ ?_
  unfold kernelRun0_A.sl.v415 kernelRun0_A.sl.HS0_10; refine s 8 (by omega) _ _ _ _ ?_
  unfold kernelRun0_A.sl.v375 kernelRun0_A.sl.HS0_9; refine s 7 (by omega) _ _ _ _ ?_
  unfold kernelRun0_A.sl.v335 kernelRun0_A.sl.HS0_8; refine s 6 (by omega) _ _ _ _ ?_
  unfold kernelRun0_A.sl.v295 kernelRun0_A.sl.HS0_7; refine s 5 (by omega) _ _ _ _ ?_
  unfold kernelRun0_A.sl.v255 kernelRun0_A.sl.HS0_6; refine s 4 (by omega) _ _ _ _ ?_
  unfold kernelRun0_A.sl.v215 kernelRun0_A.sl.HS0_5; refine s 3 (by omega) _ _ _ _ ?_
  unfold kernelRun0_A.sl.v175; refine s 2 (by omega) _ _ _ _ ?_
  unfold kernelRun0_A.sl.v135 kernelRun0_A.sl.HS0_3; refine s 1 (by omega) _ _ _ _ ?_
  unfold kernelRun0_A.sl.v95 kernelRun0_A.sl.HS0_2; refine s 0 (by omega) _ _ _ _ ?_
  unfold kernelRun0_A.sl.v55 kernelRun0_A.sl.HS0_1; exact upto_zero _ arg16.view _ _

/-- The accumulator after the eleven chunks, at the later grid points. -/
theorem acc_B : upto (lineOf x0 x4 x2 x3) (weightsOf x1 x5 x6 x7) 11 (kernelRun0_B.sl.v465 (F := Ideal) c arg3 harg3 arg4 harg4 arg5 harg5 arg6 harg6 arg7 harg7 arg8 harg8 arg16 x2 x3 x4 x5 x6 x7) := by
  have s := fun n hn i2 i1 Ps a => upto_succ harg3 harg4 harg5 harg6 harg7 harg8 x0 x4 x1 x2 x3 x5 x6 x7 n hn i2 i1 inb_S256x1024_S256x1024_0_0 arg16.view Ps a
  unfold kernelRun0_B.sl.v465 kernelRun0_B.sl.HS0_12; refine s 10 (by omega) _ _ _ _ ?_
  unfold kernelRun0_B.sl.v455 kernelRun0_B.sl.HS0_11; refine s 9 (by omega) _ _ _ _ ?_
  unfold kernelRun0_B.sl.v415 kernelRun0_B.sl.HS0_10; refine s 8 (by omega) _ _ _ _ ?_
  unfold kernelRun0_B.sl.v375 kernelRun0_B.sl.HS0_9; refine s 7 (by omega) _ _ _ _ ?_
  unfold kernelRun0_B.sl.v335 kernelRun0_B.sl.HS0_8; refine s 6 (by omega) _ _ _ _ ?_
  unfold kernelRun0_B.sl.v295 kernelRun0_B.sl.HS0_7; refine s 5 (by omega) _ _ _ _ ?_
  unfold kernelRun0_B.sl.v255 kernelRun0_B.sl.HS0_6; refine s 4 (by omega) _ _ _ _ ?_
  unfold kernelRun0_B.sl.v215 kernelRun0_B.sl.HS0_5; refine s 3 (by omega) _ _ _ _ ?_
  unfold kernelRun0_B.sl.v175 kernelRun0_B.sl.HS0_4; refine s 2 (by omega) _ _ _ _ ?_
  unfold kernelRun0_B.sl.v135 kernelRun0_B.sl.HS0_3; refine s 1 (by omega) _ _ _ _ ?_
  unfold kernelRun0_B.sl.v95 kernelRun0_B.sl.HS0_2; refine s 0 (by omega) _ _ _ _ ?_
  unfold kernelRun0_B.sl.v55 kernelRun0_B.sl.HS0_1; exact upto_zero _ arg16.view _ _

/-- A property of the eleven pieces of 256 columns, from the last to the first. -/
theorem eleven {P : View.Piece (Elt Ideal) S256x2816 .bf16 → Prop} (w : ∀ n : ℕ, n < 11 → FVec Ideal S256x256 .bf16) (f : ∀ n (hn : n < 11) i2, P ⟨colsR n i2, w n hn⟩) :
    ∀ p ∈ ([⟨colsR 10 inb_S256x2816_S256x256_0_2560, w 10 (by omega)⟩, ⟨colsR 9 inb_S256x2816_S256x256_0_2304, w 9 (by omega)⟩,
      ⟨colsR 8 inb_S256x2816_S256x256_0_2048, w 8 (by omega)⟩, ⟨colsR 7 inb_S256x2816_S256x256_0_1792, w 7 (by omega)⟩,
      ⟨colsR 6 inb_S256x2816_S256x256_0_1536, w 6 (by omega)⟩, ⟨colsR 5 inb_S256x2816_S256x256_0_1280, w 5 (by omega)⟩,
      ⟨colsR 4 inb_S256x2816_S256x256_0_1024, w 4 (by omega)⟩, ⟨colsR 3 inb_S256x2816_S256x256_0_768, w 3 (by omega)⟩,
      ⟨colsR 2 inb_S256x2816_S256x256_0_512, w 2 (by omega)⟩, ⟨colsR 1 inb_S256x2816_S256x256_0_256, w 1 (by omega)⟩,
      ⟨colsR 0 inb_S256x2816_S256x256_0_0, w 0 (by omega)⟩] : List (View.Piece (Elt Ideal) S256x2816 .bf16)), P p := by
  simp only [List.forall_mem_cons, List.not_mem_nil, false_imp_iff, implies_true, and_true]
  exact ⟨f 10 _ _, f 9 _ _, f 8 _ _, f 7 _ _, f 6 _ _, f 5 _ _, f 4 _ _, f 3 _ _, f 2 _ _, f 1 _ _, f 0 _ _⟩

/-- Blocks of 256 columns and of 256 rows lie inside the arrays. -/
theorem cols_in (n : ℕ) (hn : n < 11) : ∀ a, (![0, 256 * n] : Fin 2 → ℕ) a + S256x256.size a ≤ S256x2816.size a
  | ⟨0, _⟩ => by show 0 + 256 ≤ 256; omega
  | ⟨1, _⟩ => by show 256 * n + 256 ≤ 2816; omega
theorem rows_in (n : ℕ) (hn : n < 11) : ∀ a, (![256 * n, 0] : Fin 2 → ℕ) a + S256x1024.size a ≤ S2816x1024.size a
  | ⟨0, _⟩ => by show 256 * n + 256 ≤ 2816; omega
  | ⟨1, _⟩ => by show 0 + 1024 ≤ 1024; omega

/-- Where block `n`'s entry lies. -/
theorem cols_at (n : ℕ) (hn : n < 11) (i2) (j : (colsR n i2).shape.Idx) :
    (colsR n i2).emb j = ix2 (⟨(j 0).val, (j 0).isLt⟩ : Fin 256) (⟨256 * n + (j 1).val, by have : (j 1).val < 256 := (j 1).isLt; omega⟩ : Fin 2816) :=
  funext fun a => Fin.ext (match a with
    | ⟨0, _⟩ => by show 0 + 1 * (j 0).val = (j 0).val; omega
    | ⟨1, _⟩ => by show 256 * n + 1 * (j 1).val = 256 * n + (j 1).val; omega)

/-- The three hidden arrays of a tile: the two products' gradients and the activation. -/
def tileGate : Vec Ideal S256x2816 .bf16 := fun j => (lineOf x0 x4 x2 x3 (j 0)).dg (weightsOf x1 x5 x6 x7) (j 1)
def tileUp : Vec Ideal S256x2816 .bf16 := fun j => (lineOf x0 x4 x2 x3 (j 0)).du (weightsOf x1 x5 x6 x7) (j 1)
def tileAct : Vec Ideal S256x2816 .bf16 := fun j => act (x2 j) (x3 j)

theorem pieceGate (n : ℕ) (hn : n < 11) (i2) (j : (colsR n i2).shape.Idx) :
    chunkGate harg3 harg4 harg5 harg8 x4 x2 x3 x7 n (cols_in n hn) (rows_in n hn) inb_S256x1024_S256x1024_0_0 j
      = tileGate x0 x1 x2 x3 x4 x5 x6 x7 ((colsR n i2).emb j) := by
  rw [cols_at n hn]
  exact (congrArg _ (eq_ix2 j)).trans (chunkGate_apply harg3 harg4 harg5 harg8 x0 x4 x1 x2 x3 x5 x6 x7 n hn _ _ _ (j 0) (j 1))

theorem pieceUp (n : ℕ) (hn : n < 11) (i2) (j : (colsR n i2).shape.Idx) :
    chunkUp harg3 harg5 harg8 x4 x2 x7 n (cols_in n hn) (rows_in n hn) inb_S256x1024_S256x1024_0_0 j
      = tileUp x0 x1 x2 x3 x4 x5 x6 x7 ((colsR n i2).emb j) := by
  rw [cols_at n hn]
  exact (congrArg _ (eq_ix2 j)).trans (chunkUp_apply harg3 harg5 harg8 x0 x4 x1 x2 x3 x5 x6 x7 n hn _ _ _ (j 0) (j 1))

theorem pieceAct (n : ℕ) (hn : n < 11) (i2) (j : (colsR n i2).shape.Idx) :
    chunkAct harg3 harg4 x2 x3 n (cols_in n hn) j = tileAct x2 x3 ((colsR n i2).emb j) := by
  rw [cols_at n hn]
  exact (congrArg _ (eq_ix2 j)).trans (chunkAct_apply harg3 harg4 x2 x3 n hn _ (j 0) (j 1))

/-- The tile's other arrays: the scaled normalized rows, half the output's gradient, the input's gradient, and the scale's gradient summed over the tile. -/
def tileScaled : Vec Ideal S256x1024 .bf16 := fun j => (lineOf x0 x4 x2 x3 (j 0)).hat (j 1) * (weightsOf x1 x5 x6 x7).g (j 1)
def tileHalf : Vec Ideal S256x1024 .bf16 := fun j => half * x4 j
def tileDx : Vec Ideal S256x1024 .f32 := fun j => (lineOf x0 x4 x2 x3 (j 0)).dx (weightsOf x1 x5 x6 x7) (j 1)
def tileDgam : Vec Ideal S1x1024 .f32 := fun j => ∑ r, (lineOf x0 x4 x2 x3 r).dgam (weightsOf x1 x5 x6 x7) (j 1)

/-- The gradient of the normalized, scaled rows, once all chunks are in. -/
theorem upto_all {d : Vec Ideal S256x1024 .f32} (hd : upto (lineOf x0 x4 x2 x3) (weightsOf x1 x5 x6 x7) 11 d) (r : Fin 256) (k : Fin 1024) :
    d (ix2 r k) = (lineOf x0 x4 x2 x3 r).dh (weightsOf x1 x5 x6 x7) k := by
  rw [hd r k, firsts_all, firsts_all]; rfl

variable {arg1 : Memref sig .tc .vmem S256x1024 .f32} (harg1 : arg1.IsWhole) {arg2 : Memref sig .tc .vmem S1x1024 .f32} (harg2 : arg2.IsWhole)

/-- The whole tile and the whole row of scales, loaded. -/
abbrev ldTile : Vec Ideal S256x1024 .f32 := View.readAt (Elt Ideal) arg1.view (tileR inb_S256x1024_S256x1024_0_0).toLoadRect (harg1.unread x0)
abbrev ldScale : Vec Ideal S1x1024 .f32 := View.readAt (Elt Ideal) arg2.view (Rect.unit ![0, 0] S1x1024.size inb_S1x1024_S1x1024_0_0).toLoadRect (harg2.unread x1)

theorem scaled_tile : k0_pay6 (F := Ideal) (ldTile x0 harg1) (ldScale x1 harg2) = tileScaled x0 x1 x2 x3 x4 x5 x6 x7 := by
  unfold ldTile ldScale
  rw [load_all harg1 x0 off_zero, load_all harg2 x1 off_zero]
  exact funext fun j => (congrArg _ (eq_ix2 j)).trans (scaled_apply x0 x1 (j 0) (j 1))

theorem half_tile : k0_pay7 (F := Ideal) (ldTile x4 harg5) = tileHalf x4 := by
  unfold ldTile
  rw [load_all harg5 x4 off_zero]; rfl

theorem dx_tile {d : Vec Ideal S256x1024 .f32} (hd : upto (lineOf x0 x4 x2 x3) (weightsOf x1 x5 x6 x7) 11 d) :
    k0_pay3 (F := Ideal) (k0_pay4 (ldTile x0 harg1)) (k0_pay5 (ldTile x0 harg1)) (ldScale x1 harg2) (ldTile x4 harg5) d = tileDx x0 x1 x2 x3 x4 x5 x6 x7 := by
  unfold ldTile ldScale
  rw [load_all harg1 x0 off_zero, load_all harg2 x1 off_zero, load_all harg5 x4 off_zero]
  refine funext fun j => ?_
  obtain ⟨r, k, rfl⟩ : ∃ (r : Fin 256) (k : Fin 1024), j = ix2 r k := ⟨j 0, j 1, eq_ix2 j⟩
  rw [dx_apply, inv_apply, hat_apply, upto_all x0 x1 x2 x3 x4 x5 x6 x7 hd]
  refine congrArg (fun y => x4 (ix2 r k) + _ * (_ - _ * mean y)) (funext fun k' => ?_)
  rw [hat_apply, upto_all x0 x1 x2 x3 x4 x5 x6 x7 hd]; rfl

theorem dgam_tile {d : Vec Ideal S256x1024 .f32} (hd : upto (lineOf x0 x4 x2 x3) (weightsOf x1 x5 x6 x7) 11 d) (a : Vec Ideal S1x1024 .f32) :
    k0_pay2 (F := Ideal) (k0_pay5 (ldTile x0 harg1)) d a = fun j => a j + tileDgam x0 x1 x2 x3 x4 x5 x6 x7 j := by
  unfold ldTile
  rw [load_all harg1 x0 off_zero]
  refine funext fun j => ?_
  obtain ⟨k, rfl⟩ : ∃ k : Fin 1024, j = ix2 0 k := ⟨j 1, (eq_ix2 j).trans (congrArg (fun z => ix2 z (j 1)) (Subsingleton.elim (α := Fin 1) _ _))⟩
  rw [dgam_apply]
  refine congrArg (a (ix2 0 k) + ·) (Finset.sum_congr rfl fun r _ => ?_)
  rw [hat_apply, upto_all x0 x1 x2 x3 x4 x5 x6 x7 hd]; rfl

end

end Cert.Ffn

end
-- ==== Proof.FfnPoint.lean ====
/-
  The feed-forward block's backward kernel: what the first grid point and a later one leave in each output's window.
-/
module

public import proofs.«01_k».proof.Proof.FfnOut

@[expose] public section

noncomputable section

namespace Cert.Ffn

open Idealize.ShloMosaic hiding ix1 ix2 eq_ix2
open Idealize.ShloMosaic.TcCoe Idealize.ShloMosaic.ValueIdx Cert.FfnBackIdeal Cert.FfnBackIdeal.Gen

variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S256x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .f32) (harg16 : arg16.IsWhole)
    (x0 : Vec Ideal S256x1024 .f32) (x1 : Vec Ideal S1x1024 .f32) (x2 : Vec Ideal S256x2816 .bf16) (x3 : Vec Ideal S256x2816 .bf16) (x4 : Vec Ideal S256x1024 .f32) (x5 : Vec Ideal S2816x1024 .bf16) (x6 : Vec Ideal S2816x1024 .bf16) (x7 : Vec Ideal S2816x1024 .bf16) (xo9 : Vec Ideal S1x1024 .f32)

/-- The row of scale gradients starts at zero. -/
theorem start_zero (j : S1x1024.Idx) : kernelRun0_A.sl.v469 (F := Ideal) c arg10 j = 0 := by
  unfold kernelRun0_A.sl.v469 kernelRun0_A.sl.H9_1
  exact (congrFun (View.readCov_cons_toLoadRect (Val := Elt Ideal) arg10.view (Rect.unit ![0, 0] S1x1024.size inb_S1x1024_S1x1024_0_0) _ []) j).trans (show k0_pay1 (F := Ideal) j = 0 from zero_bits)

theorem gate_A (hc0 : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = tileGate x0 x1 x2 x3 x4 x5 x6 x7 := funext fun y =>
  View.read_writes_apply_of_pieces _ _ (tileGate x0 x1 x2 x3 x4 x5 x6 x7) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 (by
    unfold kernelRun0_A
    exact eleven (fun n hn => chunkGate harg3 harg4 harg5 harg8 x4 x2 x3 x7 n (cols_in n hn) (rows_in n hn) inb_S256x1024_S256x1024_0_0) (fun n hn i2 => pieceGate arg3 harg3 arg4 harg4 arg5 harg5 arg8 harg8 x0 x1 x2 x3 x4 x5 x6 x7 n hn i2)) y
    (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)

theorem up_A (hc0 : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = tileUp x0 x1 x2 x3 x4 x5 x6 x7 := funext fun y =>
  View.read_writes_apply_of_pieces _ _ (tileUp x0 x1 x2 x3 x4 x5 x6 x7) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 (by
    unfold kernelRun0_A
    exact eleven (fun n hn => chunkUp harg3 harg5 harg8 x4 x2 x7 n (cols_in n hn) (rows_in n hn) inb_S256x1024_S256x1024_0_0) (fun n hn i2 => pieceUp arg3 harg3 arg5 harg5 arg8 harg8 x0 x1 x2 x3 x4 x5 x6 x7 n hn i2)) y
    (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)

theorem act_A (hc0 : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = tileAct x2 x3 := funext fun y =>
  View.read_writes_apply_of_pieces _ _ (tileAct x2 x3) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1 (by
    unfold kernelRun0_A
    exact eleven (fun n hn => chunkAct harg3 harg4 x2 x3 n (cols_in n hn)) (fun n hn i2 => pieceAct arg3 harg3 arg4 harg4 x2 x3 n hn i2)) y
    (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 y)

theorem scaled_A (hc0 : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = tileScaled x0 x1 x2 x3 x4 x5 x6 x7 := by
  unfold out0_A_13 kernelRun0_A
  dsimp only
  rw [View.read_writes_junk_eq_canon]
  exact (View.canon_unit_zero off_zero _ _).trans (scaled_tile x0 x1 x2 x3 x4 x5 x6 x7 harg1 harg2)

theorem half_A (hc0 : cond0_0 i) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = tileHalf x4 := by
  unfold out0_A_14 kernelRun0_A
  dsimp only
  rw [View.read_writes_junk_eq_canon]
  exact (View.canon_unit_zero off_zero _ _).trans (half_tile arg5 harg5 x4)

theorem dx_A (hc0 : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = tileDx x0 x1 x2 x3 x4 x5 x6 x7 := by
  unfold out0_A_8 kernelRun0_A
  dsimp only
  rw [View.read_writes_junk_eq_canon]
  exact (View.canon_unit_zero off_zero _ _).trans (dx_tile arg5 harg5 x0 x1 x2 x3 x4 x5 x6 x7 harg1 harg2 (acc_A c arg3 harg3 arg4 harg4 arg5 harg5 arg6 harg6 arg7 harg7 arg8 harg8 arg16 x0 x1 x2 x3 x4 x5 x6 x7))

theorem dgam_A (hc0 : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = tileDgam x0 x1 x2 x3 x4 x5 x6 x7 := by
  unfold out0_A_9 kernelRun0_A
  dsimp only
  rw [View.read_writes_junk_eq_canon]
  exact (View.canon_cons_unit_zero off_zero _ _ _).trans ((dgam_tile x0 x1 x2 x3 x4 x5 x6 x7 harg1 (acc_A c arg3 harg3 arg4 harg4 arg5 harg5 arg6 harg6 arg7 harg7 arg8 harg8 arg16 x0 x1 x2 x3 x4 x5 x6 x7) _).trans (funext fun j => (congrArg (· + _) (start_zero c arg10 j)).trans (zero_add _)))

theorem gate_B (hc0 : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 = tileGate x0 x1 x2 x3 x4 x5 x6 x7 := funext fun y =>
  View.read_writes_apply_of_pieces _ _ (tileGate x0 x1 x2 x3 x4 x5 x6 x7) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9).2.2.1 (by
    unfold kernelRun0_B
    exact eleven (fun n hn => chunkGate harg3 harg4 harg5 harg8 x4 x2 x3 x7 n (cols_in n hn) (rows_in n hn) inb_S256x1024_S256x1024_0_0) (fun n hn i2 => pieceGate arg3 harg3 arg4 harg4 arg5 harg5 arg8 harg8 x0 x1 x2 x3 x4 x5 x6 x7 n hn i2)) y
    (cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 y)

theorem up_B (hc0 : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 = tileUp x0 x1 x2 x3 x4 x5 x6 x7 := funext fun y =>
  View.read_writes_apply_of_pieces _ _ (tileUp x0 x1 x2 x3 x4 x5 x6 x7) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9).2.2.2.1 (by
    unfold kernelRun0_B
    exact eleven (fun n hn => chunkUp harg3 harg5 harg8 x4 x2 x7 n (cols_in n hn) (rows_in n hn) inb_S256x1024_S256x1024_0_0) (fun n hn i2 => pieceUp arg3 harg3 arg5 harg5 arg8 harg8 x0 x1 x2 x3 x4 x5 x6 x7 n hn i2)) y
    (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 y)

theorem act_B (hc0 : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 = tileAct x2 x3 := funext fun y =>
  View.read_writes_apply_of_pieces _ _ (tileAct x2 x3) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9).2.2.2.2.1 (by
    unfold kernelRun0_B
    exact eleven (fun n hn => chunkAct harg3 harg4 x2 x3 n (cols_in n hn)) (fun n hn i2 => pieceAct arg3 harg3 arg4 harg4 x2 x3 n hn i2)) y
    (cover0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 y)

theorem scaled_B (hc0 : ¬cond0_0 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 = tileScaled x0 x1 x2 x3 x4 x5 x6 x7 := by
  unfold out0_B_13 kernelRun0_B
  dsimp only
  rw [View.read_writes_junk_eq_canon]
  exact (View.canon_unit_zero off_zero _ _).trans (scaled_tile x0 x1 x2 x3 x4 x5 x6 x7 harg1 harg2)

theorem half_B (hc0 : ¬cond0_0 i) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 = tileHalf x4 := by
  unfold out0_B_14 kernelRun0_B
  dsimp only
  rw [View.read_writes_junk_eq_canon]
  exact (View.canon_unit_zero off_zero _ _).trans (half_tile arg5 harg5 x4)

theorem dx_B (hc0 : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 = tileDx x0 x1 x2 x3 x4 x5 x6 x7 := by
  unfold out0_B_8 kernelRun0_B
  dsimp only
  rw [View.read_writes_junk_eq_canon]
  exact (View.canon_unit_zero off_zero _ _).trans (dx_tile arg5 harg5 x0 x1 x2 x3 x4 x5 x6 x7 harg1 harg2 (acc_B c arg3 harg3 arg4 harg4 arg5 harg5 arg6 harg6 arg7 harg7 arg8 harg8 arg16 x0 x1 x2 x3 x4 x5 x6 x7))

theorem dgam_B (hc0 : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xo9 = fun j => xo9 j + tileDgam x0 x1 x2 x3 x4 x5 x6 x7 j := by
  unfold out0_B_9 kernelRun0_B
  dsimp only
  rw [View.read_writes_junk_eq_canon]
  exact (View.canon_unit_zero off_zero _ _).trans ((dgam_tile x0 x1 x2 x3 x4 x5 x6 x7 harg1 (acc_B c arg3 harg3 arg4 harg4 arg5 harg5 arg6 harg6 arg7 harg7 arg8 harg8 arg16 x0 x1 x2 x3 x4 x5 x6 x7) _).trans (funext fun j => congrArg (· + _) (congrFun (load_all harg10 xo9 off_zero _) j)))

end Cert.Ffn

end
-- ==== Proof.FfnWhole.lean ====
/-
  The feed-forward block's backward reference: each array it returns, row by row.
-/
module

public import proofs.«01_k».proof.Proof.FfnRow
public import proofs.«01_k».proof.Proof.FfnTile
public import proofs.«01_k».proof.Proof.Gen.FfnBackRefIdeal.Run
public import Idealize.ShloMosaic.Lib.StackMember

@[expose] public section

noncomputable section

namespace Cert.Ffn

open Idealize.ShloMosaic hiding ix1 ix2 eq_ix2
open Idealize.ShloMosaic.TcCoe Idealize.ShloMosaic.ValueIdx Cert.FfnBackRefIdeal Cert.FfnBackRefIdeal.Gen

/-! ## The reference's arrays, in the order it computes them -/

variable (x : FVec Ideal S4096x1024 .f32) (g : FVec Ideal S1x1024 .f32) (z u : FVec Ideal S4096x2816 .bf16) (o : FVec Ideal S4096x1024 .f32)
    (wg wu wd : FVec Ideal S2816x1024 .bf16)

def refMean (f : FVec Ideal S4096x1024 .f32) : FVec Ideal S4096x1 .f32 :=
  Host.divf (broadcastInDim S4096x1 ![0] bcast_S4096_S4096x1_0 (Host.reduceAdd f (constant S_ .f32 0x00000000#32) reducesTo_S4096x1024_S4096_d1 h_S_))
    (broadcastInDim S4096x1 ![] bcast_S_S4096x1 (constant S_ .f32 0x44800000#32))
def refWide (a : FVec Ideal S4096x1 .f32) : FVec Ideal S4096x1024 .f32 := broadcastInDim S4096x1024 ![0, 1] bcast_S4096x1_S4096x1024_0_1 a
def refTall : FVec Ideal S4096x1024 .f32 := broadcastInDim S4096x1024 ![0, 1] bcast_S1x1024_S4096x1024_0_1 g
def refInv : FVec Ideal S4096x1 .f32 := Host.rsqrt (addf (refMean (mulf x x)) (broadcastInDim S4096x1 ![] bcast_S_S4096x1 (constant S_ .f32 0x358637BD#32)))
def refHat : FVec Ideal S4096x1024 .f32 := mulf x (refWide (refInv x))
def refHalf : FVec Ideal S4096x1024 .f32 := mulf (broadcastInDim S4096x1024 ![] bcast_S_S4096x1024 (constant S_ .f32 0x3F000000#32)) o
def refOne : FVec Ideal S4096x2816 .f32 := broadcastInDim S4096x2816 ![] bcast_S_S4096x2816 (constant S_ .f32 0x3F800000#32)
def refLogi : FVec Ideal S4096x2816 .f32 := Host.divf refOne (addf refOne (Host.exp (Host.negf (extf .f32 z bitsLt_bf16_f32))))
def refDa : FVec Ideal S4096x2816 .f32 :=
  Host.dotGeneral dot_S4096x1024_S1024x2816_S4096x2816_1_0_0_1_n_n none (refHalf o)
    (transpose S1024x2816 [1, 0] (extf .f32 wd bitsLt_bf16_f32) transposes_S2816x1024_S1024x2816_1_0)
def refDg : FVec Ideal S4096x2816 .f32 :=
  mulf (mulf (refDa o wd) (extf .f32 u bitsLt_bf16_f32))
    (mulf (refLogi z) (addf refOne (mulf (extf .f32 z bitsLt_bf16_f32) (subf refOne (refLogi z)))))
def refDu : FVec Ideal S4096x2816 .f32 := mulf (refDa o wd) (mulf (extf .f32 z bitsLt_bf16_f32) (refLogi z))
def refInto (a : FVec Ideal S4096x2816 .f32) (w : FVec Ideal S2816x1024 .bf16) : FVec Ideal S4096x1024 .f32 :=
  Host.dotGeneral dot_S4096x2816_S2816x1024_S4096x1024_1_0_0_1_n_n none a (extf .f32 w bitsLt_bf16_f32)
def refDh : FVec Ideal S4096x1024 .f32 := addf (refInto (refDg z u o wd) wg) (refInto (refDu z o wd) wu)
def refDx : FVec Ideal S4096x1024 .f32 :=
  addf o (mulf (refWide (refInv x)) (subf (mulf (refDh z u o wg wu wd) (refTall g))
    (mulf (refHat x) (refWide (refMean (mulf (mulf (refDh z u o wg wu wd) (refTall g)) (refHat x)))))))
def refDgam : FVec Ideal S1x1024 .f32 :=
  broadcastInDim S1x1024 ![1] bcast_S1024_S1x1024_1 (Host.reduceAdd (mulf (refDh z u o wg wu wd) (refHat x)) (constant S_ .f32 0x00000000#32) reducesTo_S4096x1024_S1024_d0 h_S_)

def refAct : FVec Ideal S4096x2816 .f32 := mulf (mulf (extf .f32 z bitsLt_bf16_f32) (refLogi z)) (extf .f32 u bitsLt_bf16_f32)
def refScaled : FVec Ideal S4096x1024 .f32 := mulf (refHat x) (refTall g)

/-! ## Each of them at an index -/

theorem refMean_apply (f : FVec Ideal S4096x1024 .f32) (r : Fin 4096) : refMean f (ix2 r 0) = mean (fun k => f (ix2 r k)) := by
  unfold refMean mean width
  rw [hostDivf_apply, broadcastInDim_scalar_apply,
    broadcastInDim_apply ![0] _ _ (ix2 r (0 : Fin 1)) (ix1 r) (fun a => match a with | 0 => rfl), Host.reduceAdd_apply]
  refine congrArg₂ Ideal.div ((Ideal.hostReduceAdd_r2_a1 _ _ _ _).trans ?_) rfl
  exact (congrArg (· + _) zero_bits).trans (zero_add _)

theorem refWide_apply (a : FVec Ideal S4096x1 .f32) (r : Fin 4096) (k : Fin 1024) : refWide a (ix2 r k) = a (ix2 r 0) :=
  broadcastInDim_apply ![0, 1] _ a (ix2 r k) (ix2 r 0) (fun i => match i with | 0 => rfl | 1 => rfl)

theorem refTall_apply (r : Fin 4096) (k : Fin 1024) : refTall g (ix2 r k) = g (ix2 0 k) :=
  broadcastInDim_apply ![0, 1] _ g (ix2 r k) (ix2 0 k) (fun i => match i with | 0 => rfl | 1 => rfl)

theorem refInv_apply (r : Fin 4096) : refInv x (ix2 r 0) = (lineOf x o z u r).inv := by
  show Ideal.rsqrt (refMean (mulf x x) (ix2 r 0) + _) = _
  rw [refMean_apply]; rfl

theorem refHat_apply (r : Fin 4096) (k : Fin 1024) : refHat x (ix2 r k) = (lineOf x o z u r).hat k := by
  show x (ix2 r k) * refWide (refInv x) (ix2 r k) = _
  rw [refWide_apply, refInv_apply x z u o]; rfl

theorem refHalf_apply (j : S4096x1024.Idx) : refHalf o j = half * o j :=
  congrArg (· * o j) (broadcastInDim_scalar_apply _ _ j)

theorem refOne_apply (j : S4096x2816.Idx) : refOne j = one := broadcastInDim_scalar_apply _ _ j

theorem refLogi_apply (j : S4096x2816.Idx) : refLogi z j = logi (z j) := by
  show Ideal.div (refOne j) (refOne j + Ideal.exp (-(z j))) = _
  rw [refOne_apply]; rfl

theorem refDa_apply (r : Fin 4096) (q : Fin 2816) : refDa o wd (ix2 r q) = (lineOf x o z u r).da (weightsOf g wg wu wd) q := by
  refine (StackMember.dotGeneral_plain_apply none _ _ r q).trans (Finset.sum_congr rfl fun k _ => congrArg₂ (· * ·) (refHalf_apply o _) ?_)
  exact transpose_apply [1, 0] _ _ (ix2 k q) (ix2 q k) (fun b => match b with | 0 => rfl | 1 => rfl)

theorem refDg_apply (r : Fin 4096) (q : Fin 2816) : refDg z u o wd (ix2 r q) = (lineOf x o z u r).dg (weightsOf g wg wu wd) q := by
  show refDa o wd (ix2 r q) * u (ix2 r q) * (refLogi z (ix2 r q) * (refOne (ix2 r q) + z (ix2 r q) * (refOne (ix2 r q) - refLogi z (ix2 r q)))) = _
  rw [refDa_apply x g z u o wg wu wd, refLogi_apply, refOne_apply]; rfl

theorem refDu_apply (r : Fin 4096) (q : Fin 2816) : refDu z o wd (ix2 r q) = (lineOf x o z u r).du (weightsOf g wg wu wd) q := by
  show refDa o wd (ix2 r q) * (z (ix2 r q) * refLogi z (ix2 r q)) = _
  rw [refDa_apply x g z u o wg wu wd, refLogi_apply]; rfl

theorem refInto_apply (a : FVec Ideal S4096x2816 .f32) (w : FVec Ideal S2816x1024 .bf16) (r : Fin 4096) (k : Fin 1024) :
    refInto a w (ix2 r k) = ∑ q : Fin 2816, a (ix2 r q) * w (ix2 q k) := StackMember.dotGeneral_plain_apply none _ _ r k

theorem refDh_apply (r : Fin 4096) (k : Fin 1024) : refDh z u o wg wu wd (ix2 r k) = (lineOf x o z u r).dh (weightsOf g wg wu wd) k := by
  show refInto (refDg z u o wd) wg (ix2 r k) + refInto (refDu z o wd) wu (ix2 r k) = _
  rw [refInto_apply, refInto_apply]
  exact congrArg₂ (· + ·) (Finset.sum_congr rfl fun q _ => congrArg (· * _) (refDg_apply x g z u o wg wu wd r q))
    (Finset.sum_congr rfl fun q _ => congrArg (· * _) (refDu_apply x g z u o wg wu wd r q))

theorem refDx_apply (r : Fin 4096) (k : Fin 1024) : refDx x g z u o wg wu wd (ix2 r k) = (lineOf x o z u r).dx (weightsOf g wg wu wd) k := by
  show o (ix2 r k) + refWide (refInv x) (ix2 r k) * (refDh z u o wg wu wd (ix2 r k) * refTall g (ix2 r k)
    - refHat x (ix2 r k) * refWide (refMean (mulf (mulf (refDh z u o wg wu wd) (refTall g)) (refHat x))) (ix2 r k)) = _
  have e : ∀ j, mulf (mulf (refDh z u o wg wu wd) (refTall g)) (refHat x) (ix2 r j)
      = (lineOf x o z u r).dh (weightsOf g wg wu wd) j * g (ix2 0 j) * (lineOf x o z u r).hat j := fun j =>
    congrArg₂ (· * ·) (congrArg₂ (· * ·) (refDh_apply x g z u o wg wu wd r j) (refTall_apply g r j)) (refHat_apply x z u o r j)
  rw [refWide_apply, refWide_apply, refMean_apply, refInv_apply x z u o, refDh_apply x g, refTall_apply, refHat_apply x z u o, funext e]; rfl

theorem refDgam_apply (k : Fin 1024) : refDgam x z u o wg wu wd (ix2 0 k) = ∑ r, (lineOf x o z u r).dgam (weightsOf g wg wu wd) k := by
  unfold refDgam
  rw [broadcastInDim_apply ![1] _ _ (ix2 (0 : Fin 1) k) (ix1 k) (fun a => match a with | 0 => rfl), Host.reduceAdd_apply]
  refine (Ideal.hostReduceAdd_r2_a0 _ _ _ _).trans (((congrArg (· + _) zero_bits).trans (zero_add _)).trans (Finset.sum_congr rfl fun r _ => ?_))
  exact congrArg₂ (· * ·) (refDh_apply x g z u o wg wu wd r k) (refHat_apply x z u o r k)

theorem refAct_apply (j : S4096x2816.Idx) : refAct z u j = act (z j) (u j) :=
  congrArg (fun a => z j * a * u j) (refLogi_apply z j)

theorem refScaled_apply (r : Fin 4096) (k : Fin 1024) : refScaled x g (ix2 r k) = (lineOf x o z u r).hat k * g (ix2 0 k) :=
  congrArg₂ (· * ·) (refHat_apply x z u o r k) (refTall_apply g r k)

end Cert.Ffn

end
-- ==== Proof.FfnValue.lean ====
/-
  The feed-forward block's backward kernel: its arrays after the run, put together from the grid points, are the
  reference's.
-/
module

public import proofs.«01_k».proof.Proof.FfnPoint
public import proofs.«01_k».proof.Proof.FfnWhole
public import proofs.«01_k».proof.Proof.Gen.FfnBackIdeal.Value
public import Idealize.ShloMosaic.Lib.Pipeline.ValueKit.Geometry

@[expose] public section

noncomputable section

namespace Cert.Ffn

open Idealize.ShloMosaic hiding ix1 ix2 eq_ix2
open Idealize.ShloMosaic.TcCoe Idealize.ShloMosaic.ValueIdx Idealize.SL.Sem Cert.FfnBackIdeal Cert.FfnBackIdeal.Gen

/-- Row `r` of tile `s`, among all rows. -/
def rowOf (s : ℕ) (r : Fin 256) : Fin 4096 := ⟨(256 * s + r.val) % 4096, Nat.mod_lt _ (by omega)⟩

/-- Every row is a row of one tile. -/
theorem sum_rows (f : Fin 4096 → EReal) : ∑ s ∈ Finset.range 16, ∑ r, f (rowOf s r) = ∑ R, f R := by
  rw [Finset.sum_range, ← Fintype.sum_prod_type']
  exact Fintype.sum_equiv (finProdFinEquiv : Fin 16 × Fin 256 ≃ Fin (16 * 256)) _ _ (fun p => congrArg f (Fin.ext (by
    show (256 * p.1.val + p.2.val) % 4096 = p.2.val + 256 * p.1.val
    omega)))

/-- An index that lies in row block `s` at the given place. -/
theorem place {w : ℕ} {f : Fin 2 → ℕ} {s : ℕ} (hs : s < 16) (hf : f = ![s, 0]) (r : Fin 256) (k : Fin w) (i : (⟨2, ![4096, w]⟩ : Shape).Idx)
    (h0 : (i 0).val = f 0 * 256 + 1 * r.val) (h1 : (i 1).val = f 1 * w + 1 * k.val) : i = ix2 (rowOf s r) k := by
  subst hf
  refine (eq_ix2 i).trans (congrArg₂ ix2 (Fin.ext ?_) (Fin.ext ?_))
  · rw [h0]; show s * 256 + 1 * r.val = (256 * s + r.val) % 4096; omega
  · rw [h1]; show 0 * w + 1 * k.val = k.val; omega

/-- An index in a block that is the whole array. -/
theorem stay {n w : ℕ} {f : Fin 2 → ℕ} (hf : f = ![0, 0]) (q : Fin n) (k : Fin w) (i : (⟨2, ![n, w]⟩ : Shape).Idx)
    (h0 : (i 0).val = f 0 * n + 1 * q.val) (h1 : (i 1).val = f 1 * w + 1 * k.val) : i = ix2 q k := by
  subst hf
  refine (eq_ix2 i).trans (congrArg₂ ix2 (Fin.ext ?_) (Fin.ext ?_))
  · rw [h0]; show 0 * n + 1 * q.val = q.val; omega
  · rw [h1]; show 0 * w + 1 * k.val = k.val; omega

/-- At grid point t the windows over rows stand at row block t, the others over their whole array. -/
theorem rows_at : ∀ t : Fin cfg0.N, (win0_0.index t = ![t.val, 0] ∧ win0_2.index t = ![t.val, 0] ∧ win0_3.index t = ![t.val, 0] ∧ win0_4.index t = ![t.val, 0])
    ∧ win0_8.index t = ![t.val, 0] ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, (win0_0.index t = ![t.val, 0] ∧ win0_2.index t = ![t.val, 0] ∧ win0_3.index t = ![t.val, 0] ∧ win0_4.index t = ![t.val, 0])
    ∧ win0_8.index t = ![t.val, 0] ∧ win0_10.index t = ![t.val, 0] ∧ win0_11.index t = ![t.val, 0] ∧ win0_12.index t = ![t.val, 0]
    ∧ win0_13.index t = ![t.val, 0] ∧ win0_14.index t = ![t.val, 0])

theorem whole_at : ∀ t : Fin cfg0.N, win0_1.index t = ![0, 0] ∧ win0_5.index t = ![0, 0] ∧ win0_6.index t = ![0, 0] ∧ win0_7.index t = ![0, 0] :=
  (by decide +kernel : ∀ t : Fin grid0.N, win0_1.index t = ![0, 0] ∧ win0_5.index t = ![0, 0] ∧ win0_6.index t = ![0, 0] ∧ win0_7.index t = ![0, 0])

variable (m : (ℓ : Loc nD τ sig) → Buf (Elt Ideal) ℓ) (c : Dev nD)

/-! ## The arguments -/

abbrev in_x : FVec Ideal S4096x1024 .f32 := m ((c.tc : Thread nD τ).loc main_arg0)
abbrev in_g : FVec Ideal S1x1024 .f32 := m ((c.tc : Thread nD τ).loc main_arg1)
abbrev in_z : FVec Ideal S4096x2816 .bf16 := m ((c.tc : Thread nD τ).loc main_arg2)
abbrev in_u : FVec Ideal S4096x2816 .bf16 := m ((c.tc : Thread nD τ).loc main_arg3)
abbrev in_o : FVec Ideal S4096x1024 .f32 := m ((c.tc : Thread nD τ).loc main_arg4)
abbrev in_wg : FVec Ideal S2816x1024 .bf16 := m ((c.tc : Thread nD τ).loc main_arg5)
abbrev in_wu : FVec Ideal S2816x1024 .bf16 := m ((c.tc : Thread nD τ).loc main_arg6)
abbrev in_wd : FVec Ideal S2816x1024 .bf16 := m ((c.tc : Thread nD τ).loc main_arg7)

/-- Row `R` of the data, and the parameters. -/
def lines (R : Fin 4096) : Line := lineOf (in_x m c) (in_o m c) (in_z m c) (in_u m c) R
def params : Weights := weightsOf (in_g m c) (in_wg m c) (in_wu m c) (in_wd m c)

theorem lt16 (t : Fin cfg0.N) : t.val < 16 := t.isLt

/-- A tile's rows are rows of the data. -/
theorem block_line (t : Fin cfg0.N) (r : Fin 256) : lineOf (iblk m c 0 t) (iblk m c 4 t) (iblk m c 2 t) (iblk m c 3 t) r = lines m c (rowOf t r) := by
  obtain ⟨⟨e0, e2, e3, e4⟩, -⟩ := rows_at t
  unfold lines lineOf
  congr 1
  · exact funext fun k => congrArg (in_x m c) (place (lt16 t) e0 r k _ rfl rfl)
  · exact funext fun k => congrArg (in_o m c) (place (lt16 t) e4 r k _ rfl rfl)
  · exact funext fun k => congrArg (in_z m c) (place (lt16 t) e2 r k _ rfl rfl)
  · exact funext fun k => congrArg (in_u m c) (place (lt16 t) e3 r k _ rfl rfl)

theorem block_weights (t : Fin cfg0.N) : weightsOf (iblk m c 1 t) (iblk m c 5 t) (iblk m c 6 t) (iblk m c 7 t) = params m c := by
  obtain ⟨e1, e5, e6, e7⟩ := whole_at t
  unfold params weightsOf
  congr 1
  · exact funext fun k => congrArg (in_g m c) (stay e1 0 k _ rfl rfl)
  · exact funext fun q => funext fun k => congrArg (in_wg m c) (stay e5 q k _ rfl rfl)
  · exact funext fun q => funext fun k => congrArg (in_wu m c) (stay e6 q k _ rfl rfl)
  · exact funext fun q => funext fun k => congrArg (in_wd m c) (stay e7 q k _ rfl rfl)

/-! ## What each grid point leaves -/

theorem dx_point (t : Fin cfg0.N) : (outsAt0 m c t.val t.isLt).1 = tileDx (iblk m c 0 t) (iblk m c 1 t) (iblk m c 2 t) (iblk m c 3 t) (iblk m c 4 t) (iblk m c 5 t) (iblk m c 6 t) (iblk m c 7 t) := by
  by_cases h0 : t.val % 16 = 0
  · rw [outsAt0_A m c t h0]; dsimp only; apply dx_A
  · rw [outsAt0_B m c t h0]; dsimp only; apply dx_B

theorem gate_point (t : Fin cfg0.N) : (outsAt0 m c t.val t.isLt).2.2.1 = tileGate (iblk m c 0 t) (iblk m c 1 t) (iblk m c 2 t) (iblk m c 3 t) (iblk m c 4 t) (iblk m c 5 t) (iblk m c 6 t) (iblk m c 7 t) := by
  by_cases h0 : t.val % 16 = 0
  · rw [outsAt0_A m c t h0]; dsimp only; apply gate_A
  · rw [outsAt0_B m c t h0]; dsimp only; apply gate_B

theorem up_point (t : Fin cfg0.N) : (outsAt0 m c t.val t.isLt).2.2.2.1 = tileUp (iblk m c 0 t) (iblk m c 1 t) (iblk m c 2 t) (iblk m c 3 t) (iblk m c 4 t) (iblk m c 5 t) (iblk m c 6 t) (iblk m c 7 t) := by
  by_cases h0 : t.val % 16 = 0
  · rw [outsAt0_A m c t h0]; dsimp only; apply up_A
  · rw [outsAt0_B m c t h0]; dsimp only; apply up_B

theorem act_point (t : Fin cfg0.N) : (outsAt0 m c t.val t.isLt).2.2.2.2.1 = tileAct (iblk m c 2 t) (iblk m c 3 t) := by
  by_cases h0 : t.val % 16 = 0
  · rw [outsAt0_A m c t h0]; dsimp only; apply act_A
  · rw [outsAt0_B m c t h0]; dsimp only; apply act_B

theorem scaled_point (t : Fin cfg0.N) : (outsAt0 m c t.val t.isLt).2.2.2.2.2.1 = tileScaled (iblk m c 0 t) (iblk m c 1 t) (iblk m c 2 t) (iblk m c 3 t) (iblk m c 4 t) (iblk m c 5 t) (iblk m c 6 t) (iblk m c 7 t) := by
  by_cases h0 : t.val % 16 = 0
  · rw [outsAt0_A m c t h0]; dsimp only; apply scaled_A
  · rw [outsAt0_B m c t h0]; dsimp only; apply scaled_B

theorem half_point (t : Fin cfg0.N) : (outsAt0 m c t.val t.isLt).2.2.2.2.2.2 = tileHalf (iblk m c 4 t) := by
  by_cases h0 : t.val % 16 = 0
  · rw [outsAt0_A m c t h0]; dsimp only; apply half_A
  · rw [outsAt0_B m c t h0]; dsimp only; apply half_B

/-- The scale's gradient after point `n`: the sum over the rows of the tiles so far. -/
theorem dgam_point (k : Fin 1024) : ∀ (n : ℕ) (hn : n < cfg0.N),
    (outsAt0 m c n hn).2.1 (ix2 0 k) = ∑ s ∈ Finset.range (n + 1), ∑ r, (lines m c (rowOf s r)).dgam (params m c) k := by
  have tile : ∀ t : Fin cfg0.N, tileDgam (iblk m c 0 t) (iblk m c 1 t) (iblk m c 2 t) (iblk m c 3 t) (iblk m c 4 t) (iblk m c 5 t) (iblk m c 6 t) (iblk m c 7 t) (ix2 0 k) = ∑ r, (lines m c (rowOf t r)).dgam (params m c) k := fun t => by
    show ∑ r, (lineOf (iblk m c 0 t) (iblk m c 4 t) (iblk m c 2 t) (iblk m c 3 t) r).dgam (weightsOf (iblk m c 1 t) (iblk m c 5 t) (iblk m c 6 t) (iblk m c 7 t)) k = _
    rw [block_weights]
    exact Finset.sum_congr rfl fun r _ => congrArg (fun L => L.dgam (params m c) k) (block_line m c t r)
  intro n
  induction n with
  | zero =>
    intro hn
    rw [outsAt0_A m c ⟨0, hn⟩ rfl, Finset.sum_range_one]
    dsimp only
    rw [dgam_A]
    exact tile ⟨0, hn⟩
  | succ n ih =>
    intro hn
    have hN : cfg0.N = 16 := rfl
    have h0 : ¬(⟨n + 1, hn⟩ : Fin cfg0.N).val % 16 = 0 := by show ¬(n + 1) % 16 = 0; omega
    rw [outsAt0_B m c ⟨n + 1, hn⟩ h0, Finset.sum_range_succ, ← ih (by omega)]
    dsimp only
    rw [dgam_B]
    exact congrArg (_ + ·) (tile ⟨n + 1, hn⟩)

/-! ## The arrays after the run -/

theorem dx_array : (dats m 0 c).arrAt 8 cfg0.N = refDx (in_x m c) (in_g m c) (in_z m c) (in_u m c) (in_o m c) (in_wg m c) (in_wu m c) (in_wd m c) :=
  (dats m 0 c).arrAt_eq_of_covers 8 _ (by decide +kernel) fun t _ y => by
    refine (congrFun ((after0_8 m c t).trans (dx_point m c t)) _).trans ?_
    rw [place (w := 1024) (lt16 t) (rows_at t).2.1 (y 0) (y 1) (((cfg0.win 8).blk t).view.emb y) rfl rfl]
    exact (congrArg₂ (fun L W => Line.dx L W (y 1)) (block_line m c t (y 0)) (block_weights m c t)).trans (refDx_apply (in_x m c) (in_g m c) (in_z m c) (in_u m c) (in_o m c) (in_wg m c) (in_wu m c) (in_wd m c) _ _).symm

theorem gate_array : (dats m 0 c).arrAt 10 cfg0.N = refDg (in_z m c) (in_u m c) (in_o m c) (in_wd m c) :=
  (dats m 0 c).arrAt_eq_of_covers 10 _ (by decide +kernel) fun t _ y => by
    refine (congrFun ((after0_10 m c t).trans (gate_point m c t)) _).trans ?_
    rw [place (w := 2816) (lt16 t) (rows_at t).2.2.1 (y 0) (y 1) (((cfg0.win 10).blk t).view.emb y) rfl rfl]
    exact (congrArg₂ (fun L W => Line.dg L W (y 1)) (block_line m c t (y 0)) (block_weights m c t)).trans (refDg_apply (in_x m c) (in_g m c) (in_z m c) (in_u m c) (in_o m c) (in_wg m c) (in_wu m c) (in_wd m c) _ _).symm

theorem up_array : (dats m 0 c).arrAt 11 cfg0.N = refDu (in_z m c) (in_o m c) (in_wd m c) :=
  (dats m 0 c).arrAt_eq_of_covers 11 _ (by decide +kernel) fun t _ y => by
    refine (congrFun ((after0_11 m c t).trans (up_point m c t)) _).trans ?_
    rw [place (w := 2816) (lt16 t) (rows_at t).2.2.2.1 (y 0) (y 1) (((cfg0.win 11).blk t).view.emb y) rfl rfl]
    exact (congrArg₂ (fun L W => Line.du L W (y 1)) (block_line m c t (y 0)) (block_weights m c t)).trans (refDu_apply (in_x m c) (in_g m c) (in_z m c) (in_u m c) (in_o m c) (in_wg m c) (in_wu m c) (in_wd m c) _ _).symm

theorem act_array : (dats m 0 c).arrAt 12 cfg0.N = refAct (in_z m c) (in_u m c) :=
  (dats m 0 c).arrAt_eq_of_covers 12 _ (by decide +kernel) fun t _ y => by
    refine (congrFun ((after0_12 m c t).trans (act_point m c t)) _).trans ?_
    rw [place (w := 2816) (lt16 t) (rows_at t).2.2.2.2.1 (y 0) (y 1) (((cfg0.win 12).blk t).view.emb y) rfl rfl]
    refine (congrArg (tileAct (iblk m c 2 t) (iblk m c 3 t)) (eq_ix2 _)).trans ?_
    exact (congrArg (fun L : Line => act (L.z (y 1)) (L.u (y 1))) (block_line m c t (y 0))).trans (refAct_apply (in_z m c) (in_u m c) _).symm

theorem scaled_array : (dats m 0 c).arrAt 13 cfg0.N = refScaled (in_x m c) (in_g m c) :=
  (dats m 0 c).arrAt_eq_of_covers 13 _ (by decide +kernel) fun t _ y => by
    refine (congrFun ((after0_13 m c t).trans (scaled_point m c t)) _).trans ?_
    rw [place (w := 1024) (lt16 t) (rows_at t).2.2.2.2.2.1 (y 0) (y 1) (((cfg0.win 13).blk t).view.emb y) rfl rfl]
    exact (congrArg₂ (fun (L : Line) (W : Weights) => L.hat (y 1) * W.g (y 1)) (block_line m c t (y 0)) (block_weights m c t)).trans (refScaled_apply (in_x m c) (in_g m c) (in_z m c) (in_u m c) (in_o m c) _ _).symm

theorem half_array : (dats m 0 c).arrAt 14 cfg0.N = refHalf (in_o m c) :=
  (dats m 0 c).arrAt_eq_of_covers 14 _ (by decide +kernel) fun t _ y => by
    refine (congrFun ((after0_14 m c t).trans (half_point m c t)) _).trans ?_
    rw [place (w := 1024) (lt16 t) (rows_at t).2.2.2.2.2.2 (y 0) (y 1) (((cfg0.win 14).blk t).view.emb y) rfl rfl]
    refine (congrArg (tileHalf (iblk m c 4 t)) (eq_ix2 _)).trans ?_
    exact (congrArg (fun L : Line => half * L.o (y 1)) (block_line m c t (y 0))).trans (refHalf_apply (in_o m c) _).symm

/-- The last grid point. -/
abbrev last : Fin cfg0.N := ⟨15, (by decide : 15 < grid0.N)⟩

theorem dgam_array : (dats m 0 c).arrAt 9 cfg0.N = refDgam (in_x m c) (in_z m c) (in_u m c) (in_o m c) (in_wg m c) (in_wu m c) (in_wd m c) :=
  (dats m 0 c).arrAt_eq_of_after_last 9 last (by decide +kernel) _ fun j => by
    have one : ∀ i : S1x1024.Idx, i = ix2 0 (i 1) := fun i => (eq_ix2 i).trans (congrArg (fun z => ix2 z (i 1)) (Subsingleton.elim (α := Fin 1) _ _))
    have e : ∀ i : S1x1024.Idx, (dats m 0 c).after 9 last i = refDgam (in_x m c) (in_z m c) (in_u m c) (in_o m c) (in_wg m c) (in_wu m c) (in_wd m c) i := fun i => by
      rw [one i]
      exact (congrFun (after0_9 m c last) _).trans ((dgam_point m c (i 1) 15 last.isLt).trans
        ((sum_rows fun R => (lines m c R).dgam (params m c) (i 1)).trans (refDgam_apply (in_x m c) (in_g m c) (in_z m c) (in_u m c) (in_o m c) (in_wg m c) (in_wu m c) (in_wd m c) (i 1)).symm))
    exact e j

theorem back : Cert.algebraic_FfnBackIdeal_FfnBackRefIdeal := fun m g m' g' _ hm =>
  ⟨_, _, _, _, _, _, _, Value.run_blocks m g,
    (θ_run Cert.FfnBackRefIdeal.defs _ _).mono
      (fun r h c => by
        obtain ⟨e0, e1, e2, e3, e4, e5, e6, e7⟩ := hm c
        obtain ⟨h0, h1, h2, h3, h4, h5, h6, hk⟩ := h c
        unfold Cert.FfnBackRefIdeal.Value.res_main_v50 at h0
        rw [e0, e1, e2, e3, e4, e5, e6, e7] at h0
        rw [e0, e2, e3, e4, e5, e6, e7] at h1
        rw [e2, e3, e4, e7] at h2
        rw [e2, e4, e7] at h3
        rw [e2, e3] at h4
        rw [e0, e1] at h5
        rw [e4] at h6
        exact ⟨h0.trans (dx_array m c).symm, h1.trans (dgam_array m c).symm, h2.trans (gate_array m c).symm, h3.trans (up_array m c).symm,
          h4.trans (act_array m c).symm, h5.trans (scaled_array m c).symm, h6.trans (half_array m c).symm, hk⟩)
      (Cert.FfnBackRefIdeal.Value.run m' g')⟩

end Cert.Ffn

end
-- ==== Proof.NormTile.lean ====
/-
  The root-mean-square norm of rows of 1024 and the pullback along it: on one row, and on a tile of rows entry by entry.
-/
module

public import proofs.«01_k».proof.Proof.FfnTile

@[expose] public section

noncomputable section

namespace Cert.Rms

open Idealize.ShloMosaic hiding ix1 ix2 eq_ix2
open Idealize.ShloMosaic.TcCoe Idealize.ShloMosaic.ValueIdx Cert.Ffn

/-- The shapes of a tile of `n` rows, of one value a row, and of one row. -/
abbrev Wide (n : ℕ) : Shape := ⟨2, ![n, 1024]⟩
abbrev Col (n : ℕ) : Shape := ⟨2, ![n, 1]⟩

/-- A row's reciprocal root mean square, the row normalized by it, and a gradient `e` (the scale taken in) pulled back. -/
def inv (x : Fin 1024 → EReal) : EReal := Ideal.rsqrt (mean (fun k => x k * x k) + guard)
def hat (x : Fin 1024 → EReal) (k : Fin 1024) : EReal := x k * inv x
def pull (x e : Fin 1024 → EReal) (k : Fin 1024) : EReal := inv x * (e k - hat x k * mean (fun j => e j * hat x j))

/-- Row `r` of a tile. -/
abbrev row {n : ℕ} (x : (Wide n).Idx → EReal) (r : Fin n) : Fin 1024 → EReal := fun k => x (ix2 r k)

variable {n : ℕ}

theorem mean_tile (v : FVec Ideal (Wide n) .f32) (h h' hφ hacc) (r : Fin n) :
    Ideal.div (shapeCast (Col n) (multiReduction (F := Ideal) (φ := .f32) .add [1] ⟨1, ![n]⟩ v 0x00000000#32 h hφ hacc) h' (ix2 r 0)) width
      = mean (row v r) := by
  rw [shapeCast_a_a1_apply, multiReduction_add_apply]
  exact congrArg (Ideal.div · width) (Ideal.reduceAdd_r2_a1 h v (ix1 r))

theorem inv_tile (x : FVec Ideal (Wide n) .f32) (h h' hφ hacc) (r : Fin n) :
    Ideal.rsqrt (Ideal.div (shapeCast (Col n) (multiReduction (F := Ideal) (φ := .f32) .add [1] ⟨1, ![n]⟩ (mulf x x) 0x00000000#32 h hφ hacc) h' (ix2 r 0)) width + guard)
      = inv (row x r) :=
  congrArg (fun y => Ideal.rsqrt (y + guard)) (mean_tile (mulf x x) _ _ _ _ r)

/-- A column spread over the tile. -/
theorem spread_tile (v : FVec Ideal (Col n) .f32) (h : (Col n).Broadcasts (Wide n)) (r : Fin n) (k : Fin 1024) : broadcastTo (Wide n) v h (ix2 r k) = v (ix2 r 0) :=
  broadcastTo_apply v h (ix2 r k) (ix2 r 0) fun ax => match ax with
    | ⟨0, _⟩ => by
      show r.val = if n = 1 then 0 else r.val
      have := r.isLt
      split <;> omega
    | ⟨1, _⟩ => rfl

theorem hat_tile (x : FVec Ideal (Wide n) .f32) (i : FVec Ideal (Col n) .f32) (h : (Col n).Broadcasts (Wide n)) (hi : ∀ r, i (ix2 r 0) = inv (row x r))
    (r : Fin n) (k : Fin 1024) : mulf x (broadcastTo (Wide n) i h) (ix2 r k) = hat (row x r) k :=
  congrArg (x (ix2 r k) * ·) ((spread_tile i h r k).trans (hi r))

/-- The sums of a tile's columns. -/
theorem cols_tile (v : FVec Ideal (Wide n) .f32) (h h' hφ hacc) (k : Fin 1024) :
    shapeCast (Wide 1) (multiReduction (F := Ideal) (φ := .f32) .add [0] ⟨1, ![1024]⟩ v 0x00000000#32 h hφ hacc) h' (ix2 0 k) = ∑ r, v (ix2 r k) := by
  refine (shapeCast_a_1a_apply _ _ 0 k).trans ?_
  exact Ideal.reduceAdd_r2_a0 h v (ix1 k)

/-- The pullback on a tile. -/
theorem pull_tile (x e y : FVec Ideal (Wide n) .f32) (i : FVec Ideal (Col n) .f32) (hb hb' : (Col n).Broadcasts (Wide n)) (h h' hφ hacc)
    (hi : ∀ r, i (ix2 r 0) = inv (row x r)) (hy : ∀ r k, y (ix2 r k) = hat (row x r) k) (r : Fin n) (k : Fin 1024) :
    mulf (broadcastTo (Wide n) i hb) (subf e (mulf y (broadcastTo (Wide n) (divf (shapeCast (Col n)
      (multiReduction (F := Ideal) (φ := .f32) .add [1] ⟨1, ![n]⟩ (mulf e y) 0x00000000#32 h hφ hacc) h') (broadcast (Col n) (Scalar.ofBits .f32 0x44800000#32))) hb'))) (ix2 r k)
      = pull (row x r) (row e r) k := by
  refine congrArg₂ (· * ·) ((spread_tile i hb r k).trans (hi r)) (congrArg (e (ix2 r k) - ·) (congrArg₂ (· * ·) (hy r k) ?_))
  refine (spread_tile _ hb' r k).trans ((mean_tile _ _ _ _ _ r).trans (congrArg mean (funext fun j => ?_)))
  exact congrArg (e (ix2 r j) * ·) (hy r j)

/-- A load of a whole staging buffer. -/
theorem load_whole {sig : RefSig} {s : Shape} {e : EltTy} {m : Memref sig .tc .vmem s e} (hm : m.IsWhole) (x : Vec Ideal s e) {off : Fin s.rank → ℕ}
    (ho : off = fun _ => 0) (h) : View.readAt (Elt Ideal) m.view (Rect.unit off s.size h).toLoadRect (hm.unread x) = x := by
  subst ho
  funext j
  exact (hm.readAt_unread x _ _).trans (congrArg x (funext fun a => Fin.ext (by show 0 + 1 * (j a).val = (j a).val; omega)))

/-- Row `r` of tile `s` of 512, among all rows. -/
def rowAt (s : ℕ) (r : Fin 512) : Fin 4096 := ⟨(512 * s + r.val) % 4096, Nat.mod_lt _ (by omega)⟩

/-- Every row is a row of one tile. -/
theorem sum_tiles (f : Fin 4096 → EReal) : ∑ s ∈ Finset.range 8, ∑ r, f (rowAt s r) = ∑ R, f R := by
  rw [Finset.sum_range, ← Fintype.sum_prod_type']
  exact Fintype.sum_equiv (finProdFinEquiv : Fin 8 × Fin 512 ≃ Fin (8 * 512)) _ _ (fun p => congrArg f (Fin.ext (by
    show (512 * p.1.val + p.2.val) % 4096 = p.2.val + 512 * p.1.val
    omega)))

/-- An index that lies in row block `s` at the given place. -/
theorem place {w : ℕ} {f : Fin 2 → ℕ} {s : ℕ} (hs : s < 8) (hf : f = ![s, 0]) (r : Fin 512) (k : Fin w) (i : (⟨2, ![4096, w]⟩ : Shape).Idx)
    (h0 : (i 0).val = f 0 * 512 + 1 * r.val) (h1 : (i 1).val = f 1 * w + 1 * k.val) : i = ix2 (rowAt s r) k := by
  subst hf
  refine (eq_ix2 i).trans (congrArg₂ ix2 (Fin.ext ?_) (Fin.ext ?_))
  · rw [h0]; show s * 512 + 1 * r.val = (512 * s + r.val) % 4096; omega
  · rw [h1]; show 0 * w + 1 * k.val = k.val; omega

/-- An index in a block that is the whole array. -/
theorem stay {n w : ℕ} {f : Fin 2 → ℕ} (hf : f = ![0, 0]) (q : Fin n) (k : Fin w) (i : (⟨2, ![n, w]⟩ : Shape).Idx)
    (h0 : (i 0).val = f 0 * n + 1 * q.val) (h1 : (i 1).val = f 1 * w + 1 * k.val) : i = ix2 q k := by
  subst hf
  refine (eq_ix2 i).trans (congrArg₂ ix2 (Fin.ext ?_) (Fin.ext ?_))
  · rw [h0]; show 0 * n + 1 * q.val = q.val; omega
  · rw [h1]; show 0 * w + 1 * k.val = k.val; omega

/-- An index of a single row. -/
theorem one_row {w : ℕ} (i : (⟨2, ![1, w]⟩ : Shape).Idx) : i = ix2 0 (i 1) :=
  (eq_ix2 i).trans (congrArg (fun z => ix2 z (i 1)) (Subsingleton.elim (α := Fin 1) _ _))

end Cert.Rms

end
-- ==== Proof.NormWhole.lean ====
/-
  The norm and the pullback along it, over the whole array of rows as the references compute them, row by row.
-/
module

public import proofs.«01_k».proof.Proof.NormTile
public import proofs.«01_k».proof.Proof.FfnWhole

@[expose] public section

noncomputable section

namespace Cert.Rms

open Idealize.ShloMosaic hiding ix1 ix2 eq_ix2
open Idealize.ShloMosaic.TcCoe Idealize.ShloMosaic.ValueIdx Cert.FfnBackRefIdeal Cert.FfnBackRefIdeal.Gen Cert.Ffn

/-- The pullback of an array of gradients, and the sums of an array's columns. -/
def refPull (x e : FVec Ideal S4096x1024 .f32) : FVec Ideal S4096x1024 .f32 :=
  mulf (refWide (refInv x)) (subf e (mulf (refHat x) (refWide (refMean (mulf e (refHat x))))))
def refCols (v : FVec Ideal S4096x1024 .f32) : FVec Ideal S1x1024 .f32 :=
  broadcastInDim S1x1024 ![1] bcast_S1024_S1x1024_1 (Host.reduceAdd v (constant S_ .f32 0x00000000#32) reducesTo_S4096x1024_S1024_d0 h_S_)

theorem refInv_row (x : FVec Ideal S4096x1024 .f32) (r : Fin 4096) : refInv x (ix2 r 0) = inv (row x r) :=
  congrArg (fun y => Ideal.rsqrt (y + guard)) (refMean_apply (mulf x x) r)

theorem refHat_row (x : FVec Ideal S4096x1024 .f32) (r : Fin 4096) (k : Fin 1024) : refHat x (ix2 r k) = hat (row x r) k :=
  congrArg (x (ix2 r k) * ·) ((refWide_apply _ r k).trans (refInv_row x r))

theorem refScaled_row (x : FVec Ideal S4096x1024 .f32) (g : FVec Ideal S1x1024 .f32) (r : Fin 4096) (k : Fin 1024) :
    refScaled x g (ix2 r k) = hat (row x r) k * g (ix2 0 k) := congrArg₂ (· * ·) (refHat_row x r k) (refTall_apply g r k)

theorem refPull_row (x e : FVec Ideal S4096x1024 .f32) (r : Fin 4096) (k : Fin 1024) : refPull x e (ix2 r k) = pull (row x r) (row e r) k := by
  refine congrArg₂ (· * ·) ((refWide_apply _ r k).trans (refInv_row x r)) (congrArg (e (ix2 r k) - ·) (congrArg₂ (· * ·) (refHat_row x r k) ?_))
  refine (refWide_apply _ r k).trans ((refMean_apply _ r).trans (congrArg mean (funext fun j => ?_)))
  exact congrArg (e (ix2 r j) * ·) (refHat_row x r j)

theorem refCols_apply (v : FVec Ideal S4096x1024 .f32) (k : Fin 1024) : refCols v (ix2 0 k) = ∑ r, v (ix2 r k) := by
  unfold refCols
  rw [broadcastInDim_apply ![1] _ _ (ix2 (0 : Fin 1) k) (ix1 k) (fun a => match a with | 0 => rfl), Host.reduceAdd_apply]
  exact (Ideal.hostReduceAdd_r2_a0 _ _ _ _).trans ((congrArg (· + _) zero_bits).trans (zero_add _))

end Cert.Rms

end
-- ==== Proof.FwdTile.lean ====
/-
  The feed-forward block's forward kernel: what it computes on one tile of 512 rows.
-/
module

public import proofs.«01_k».proof.Proof.NormWhole
public import proofs.«01_k».proof.Proof.FfnOut
public import proofs.«01_k».proof.Proof.Gen.FfnFwdIdeal.Value

@[expose] public section

noncomputable section

namespace Cert.Fwd

open Idealize.ShloMosaic hiding ix1 ix2 eq_ix2
open Idealize.ShloMosaic.TcCoe Idealize.ShloMosaic.ValueIdx Cert.FfnFwdIdeal Cert.FfnFwdIdeal.Gen
open Cert.Ffn (half one act logi Weights weightsOf firsts firsts_zero firsts_all firsts_succ zero_bits off_zero rows_in)
open Cert.Rms (hat row hat_tile inv_tile load_whole)

/-! ## One row -/

/-- A row's two hidden products, and the row the block returns. -/
def zed (x : Fin 1024 → EReal) (W : Weights) (q : Fin 2816) : EReal := ∑ k, hat x k * W.g k * W.wg q k
def ups (x : Fin 1024 → EReal) (W : Weights) (q : Fin 2816) : EReal := ∑ k, hat x k * W.g k * W.wu q k
def out (x : Fin 1024 → EReal) (W : Weights) (k : Fin 1024) : EReal := x k + half * ∑ q, act (zed x W q) (ups x W q) * W.wd q k

/-! ## The operations of one chunk of 256 hidden columns -/

theorem scaled_apply (x : Vec Ideal S512x1024 .f32) (g : Vec Ideal S1x1024 .f32) (r : Fin 512) (k : Fin 1024) :
    k0_pay3 (F := Ideal) x g (ix2 r k) = hat (row x r) k * g (ix2 0 k) :=
  congrArg₂ (· * ·) (hat_tile (n := 512) x _ _ (fun r => inv_tile (n := 512) x _ _ _ _ r) r k) (broadcastTo_1b_ab_apply g _ r k)

theorem prod_apply (x : Vec Ideal S512x1024 .f32) (g : Vec Ideal S1x1024 .f32) (w : Vec Ideal S256x1024 .bf16) (r : Fin 512) (q : Fin 256) :
    k0_pay5 (F := Ideal) x g w (ix2 r q) = ∑ k, hat (row x r) k * g (ix2 0 k) * w (ix2 q k) := by
  refine (Ideal.matmul_transposedRhs_apply none _ w (constant S512x256 .f32 0x00000000#32) r q).trans ?_
  refine ((congrArg (· + _) zero_bits).trans (zero_add _)).trans (Finset.sum_congr rfl fun k _ => ?_)
  exact congrArg (· * w (ix2 q k)) (scaled_apply x g r k)

/-- The logistic as the kernel writes it. -/
theorem logi_eq (z : EReal) : Ideal.div one (one + Ideal.exp (Ideal.ofBits .f32 0x00000000#32 - z)) = logi z := by
  rw [zero_bits, zero_sub]; rfl

/-- One chunk's product added onto the accumulator. -/
abbrev chunkSum (x : Vec Ideal S512x1024 .f32) (g : Vec Ideal S1x1024 .f32) (wg wu wd : Vec Ideal S256x1024 .bf16) (a : Vec Ideal S512x1024 .f32) : FVec Ideal S512x1024 .f32 :=
  k0_pay11 (F := Ideal) (k0_pay5 x g wg) (k0_pay6 x g wu) (k0_pay9 x g wg) k0_pay10 a wd

theorem sum_apply (x : Vec Ideal S512x1024 .f32) (g : Vec Ideal S1x1024 .f32) (wg wu wd : Vec Ideal S256x1024 .bf16) (a : Vec Ideal S512x1024 .f32) (r : Fin 512) (k : Fin 1024) :
    chunkSum x g wg wu wd a (ix2 r k) = a (ix2 r k) + ∑ q, act (∑ j, hat (row x r) j * g (ix2 0 j) * wg (ix2 q j)) (∑ j, hat (row x r) j * g (ix2 0 j) * wu (ix2 q j)) * wd (ix2 q k) := by
  unfold chunkSum k0_pay11
  rw [shapeCast_self]
  refine congrArg (a (ix2 r k) + ·) ?_
  refine (Ideal.matmul_plain_apply none _ wd (constant S512x1024 .f32 0x00000000#32) r k).trans ?_
  refine ((congrArg (· + _) zero_bits).trans (zero_add _)).trans (Finset.sum_congr rfl fun q _ => congrArg (· * wd (ix2 q k)) ?_)
  refine congrArg₂ (· * ·) (congrArg₂ (· * ·) (prod_apply x g wg r q) ?_) (prod_apply x g wu r q)
  exact (logi_eq (k0_pay5 (F := Ideal) x g wg (ix2 r q))).trans (congrArg logi (prod_apply x g wg r q))

/-! ## Chunks loaded from the whole arrays -/

abbrev RowsIn (n : ℕ) : Prop := ∀ a, (![256 * n, 0] : Fin 2 → ℕ) a + S256x1024.size a ≤ S2816x1024.size a
abbrev rowsR (n : ℕ) (h : RowsIn n) : Rect S2816x1024 := Rect.unit ![256 * n, 0] S256x1024.size h
abbrev colsR (n : ℕ) (h : ∀ a, (![0, 256 * n] : Fin 2 → ℕ) a + S512x256.size a ≤ S512x2816.size a) : Rect S512x2816 := Rect.unit ![0, 256 * n] S512x256.size h
abbrev tileR : Rect S512x1024 := Rect.unit ![0, 0] S512x1024.size inb_S512x1024_S512x1024_0_0

theorem load_rows {m : Memref sig .tc .vmem S2816x1024 .bf16} (hm : m.IsWhole) (x : Vec Ideal S2816x1024 .bf16) (n : ℕ) (hn : n < 11) (h) (q : Fin 256) (k : Fin 1024) :
    View.readAt (Elt Ideal) m.view (rowsR n h).toLoadRect (hm.unread x) (ix2 q k) = x (ix2 ⟨256 * n + q.val, by omega⟩ k) :=
  (hm.readAt_unread x _ _).trans (congrArg x (funext fun a => Fin.ext (match a with
    | ⟨0, _⟩ => by show 256 * n + 1 * q.val = 256 * n + q.val; omega
    | ⟨1, _⟩ => by show 0 + 1 * k.val = k.val; omega)))

/-- Where block `n`'s entry lies. -/
theorem cols_at (n : ℕ) (hn : n < 11) (i2) (j : (colsR n i2).shape.Idx) :
    (colsR n i2).emb j = ix2 (⟨(j 0).val, (j 0).isLt⟩ : Fin 512) (⟨256 * n + (j 1).val, by have : (j 1).val < 256 := (j 1).isLt; omega⟩ : Fin 2816) :=
  funext fun a => Fin.ext (match a with
    | ⟨0, _⟩ => by show 0 + 1 * (j 0).val = (j 0).val; omega
    | ⟨1, _⟩ => by show 256 * n + 1 * (j 1).val = 256 * n + (j 1).val; omega)

/-- A property of the eleven pieces of 256 columns, from the last to the first. -/
theorem eleven {P : View.Piece (Elt Ideal) S512x2816 .bf16 → Prop} (w : ∀ n : ℕ, n < 11 → FVec Ideal S512x256 .bf16) (f : ∀ n (hn : n < 11) i2, P ⟨colsR n i2, w n hn⟩) :
    ∀ p ∈ ([⟨colsR 10 inb_S512x2816_S512x256_0_2560, w 10 (by omega)⟩, ⟨colsR 9 inb_S512x2816_S512x256_0_2304, w 9 (by omega)⟩,
      ⟨colsR 8 inb_S512x2816_S512x256_0_2048, w 8 (by omega)⟩, ⟨colsR 7 inb_S512x2816_S512x256_0_1792, w 7 (by omega)⟩,
      ⟨colsR 6 inb_S512x2816_S512x256_0_1536, w 6 (by omega)⟩, ⟨colsR 5 inb_S512x2816_S512x256_0_1280, w 5 (by omega)⟩,
      ⟨colsR 4 inb_S512x2816_S512x256_0_1024, w 4 (by omega)⟩, ⟨colsR 3 inb_S512x2816_S512x256_0_768, w 3 (by omega)⟩,
      ⟨colsR 2 inb_S512x2816_S512x256_0_512, w 2 (by omega)⟩, ⟨colsR 1 inb_S512x2816_S512x256_0_256, w 1 (by omega)⟩,
      ⟨colsR 0 inb_S512x2816_S512x256_0_0, w 0 (by omega)⟩] : List (View.Piece (Elt Ideal) S512x2816 .bf16)), P p := by
  simp only [List.forall_mem_cons, List.not_mem_nil, false_imp_iff, implies_true, and_true]
  exact ⟨f 10 _ _, f 9 _ _, f 8 _ _, f 7 _ _, f 6 _ _, f 5 _ _, f 4 _ _, f 3 _ _, f 2 _ _, f 1 _ _, f 0 _ _⟩

section
variable {m1 : Memref sig .tc .vmem S512x1024 .f32} (h1 : m1.IsWhole) {m2 : Memref sig .tc .vmem S1x1024 .f32} (h2 : m2.IsWhole)
  {m3 m4 m5 : Memref sig .tc .vmem S2816x1024 .bf16} (h3 : m3.IsWhole) (h4 : m4.IsWhole) (h5 : m5.IsWhole)
  (x : Vec Ideal S512x1024 .f32) (g : Vec Ideal S1x1024 .f32) (wg wu wd w : Vec Ideal S2816x1024 .bf16)

/-- The whole tile and the row of scales, and chunk `n` of a weight matrix, loaded. -/
abbrev ldTile : Vec Ideal S512x1024 .f32 := View.readAt (Elt Ideal) m1.view tileR.toLoadRect (h1.unread x)
abbrev ldScale : Vec Ideal S1x1024 .f32 := View.readAt (Elt Ideal) m2.view (Rect.unit ![0, 0] S1x1024.size inb_S1x1024_S1x1024_0_0).toLoadRect (h2.unread g)
abbrev ldRows (n : ℕ) (i1 : RowsIn n) : Vec Ideal S256x1024 .bf16 := View.readAt (Elt Ideal) m3.view (rowsR n i1).toLoadRect (h3.unread w)

theorem ldTile_eq : ldTile h1 x = x := load_whole h1 x off_zero _
theorem ldScale_eq : ldScale h2 g = g := load_whole h2 g off_zero _

/-- Chunk `n` of a hidden product. -/
abbrev chunkProd (n : ℕ) (i1 : RowsIn n) : FVec Ideal S512x256 .bf16 := k0_pay7 (F := Ideal) (ldTile h1 x) (ldScale h2 g) (ldRows h3 w n i1)

theorem chunkProd_apply (n : ℕ) (hn : n < 11) (i1 : RowsIn n) (r : Fin 512) (q : Fin 256) :
    chunkProd h1 h2 h3 x g w n i1 (ix2 r q) = ∑ k, hat (row x r) k * g (ix2 0 k) * w (ix2 ⟨256 * n + q.val, by omega⟩ k) := by
  refine (prod_apply _ _ _ r q).trans (Finset.sum_congr rfl fun k _ => congrArg₂ (· * ·) ?_ (load_rows h3 w n hn i1 q k))
  rw [ldTile_eq, ldScale_eq]

/-- A hidden product of the whole tile. -/
def tileProd : Vec Ideal S512x2816 .bf16 := fun j => ∑ k, hat (row x (j 0)) k * g (ix2 0 k) * w (ix2 (j 1) k)

theorem pieceProd (n : ℕ) (hn : n < 11) (i2) (j : (colsR n i2).shape.Idx) :
    chunkProd h1 h2 h3 x g w n (rows_in n hn) j = tileProd x g w ((colsR n i2).emb j) := by
  rw [cols_at n hn]
  exact (congrArg _ (eq_ix2 j)).trans (chunkProd_apply h1 h2 h3 x g w n hn _ (j 0) (j 1))

/-- The accumulator holds the sums over the first `256 n` hidden columns. -/
def upto (n : ℕ) (a : Vec Ideal S512x1024 .f32) : Prop :=
  ∀ r k, a (ix2 r k) = firsts (fun q => act (zed (row x r) (weightsOf g wg wu wd) q) (ups (row x r) (weightsOf g wg wu wd) q) * wd (ix2 q k)) n

/-- One chunk of the accumulation. -/
theorem upto_succ (n : ℕ) (hn : n < 11) (i1 : RowsIn n) (v : View sig .tc .vmem S512x1024 .f32) (Ps : List (View.Piece (Elt Ideal) S512x1024 .f32)) (a : Vec Ideal S512x1024 .f32)
    (ha : upto x g wg wu wd n a) :
    upto x g wg wu wd (n + 1) (v.readCov (Val := Elt Ideal) (⟨tileR,
      chunkSum (ldTile h1 x) (ldScale h2 g) (ldRows h3 wg n i1) (ldRows h4 wu n i1) (ldRows h5 wd n i1) a⟩ :: Ps) tileR.toLoadRect) := fun r k => by
  rw [View.readCov_cons_toLoadRect, ldTile_eq, ldScale_eq]
  refine (sum_apply _ _ _ _ _ a r k).trans ?_
  rw [ha r k, firsts_succ _ n hn]
  refine congrArg (_ + ·) (Finset.sum_congr rfl fun q _ => congrArg₂ (· * ·) (congrArg₂ act ?_ ?_) (load_rows h5 wd n hn i1 q k))
  · exact Finset.sum_congr rfl fun j _ => congrArg (_ * ·) (load_rows h3 wg n hn i1 q j)
  · exact Finset.sum_congr rfl fun j _ => congrArg (_ * ·) (load_rows h4 wu n hn i1 q j)

/-- The accumulator starts at zero. -/
theorem upto_zero (v : View sig .tc .vmem S512x1024 .f32) :
    upto x g wg wu wd 0 (v.readCov (Val := Elt Ideal) [⟨tileR, k0_pay4 (F := Ideal)⟩] tileR.toLoadRect) := fun r k => by
  rw [View.readCov_cons_toLoadRect, firsts_zero]
  exact zero_bits

/-- The tile the block returns. -/
def tileOut : Vec Ideal S512x1024 .f32 := fun j => out (row x (j 0)) (weightsOf g wg wu wd) (j 1)

theorem out_tile (a : Vec Ideal S512x1024 .f32) (ha : upto x g wg wu wd 11 a) : k0_pay2 (F := Ideal) (ldTile h1 x) a = tileOut x g wg wu wd := by
  rw [ldTile_eq]
  refine funext fun j => ?_
  obtain ⟨r, k, rfl⟩ : ∃ (r : Fin 512) (k : Fin 1024), j = ix2 r k := ⟨j 0, j 1, eq_ix2 j⟩
  exact congrArg (fun y => x (ix2 r k) + half * y) ((ha r k).trans (firsts_all _))
end

end Cert.Fwd

end
-- ==== Proof.FwdPoint.lean ====
/-
  The feed-forward block's forward kernel: what a grid point writes, output by output.
-/
module

public import proofs.«01_k».proof.Proof.FwdTile

@[expose] public section

noncomputable section

namespace Cert.Fwd

open Idealize.ShloMosaic hiding ix1 ix2 eq_ix2
open Idealize.ShloMosaic.TcCoe Idealize.ShloMosaic.ValueIdx Cert.FfnFwdIdeal Cert.FfnFwdIdeal.Gen
open Cert.Ffn (off_zero rows_in)

variable (c : Dev nD) (i : grid0.Coords) (arg1 : Memref sig .tc .vmem S512x1024 .f32) (harg1 : arg1.IsWhole)
  (arg2 : Memref sig .tc .vmem S1x1024 .f32) (harg2 : arg2.IsWhole) (arg3 arg4 arg5 : Memref sig .tc .vmem S2816x1024 .bf16) (harg3 : arg3.IsWhole) (harg4 : arg4.IsWhole) (harg5 : arg5.IsWhole)
  (arg6 : Memref sig .tc .vmem S512x1024 .f32) (harg6 : arg6.IsWhole) (arg7 arg8 : Memref sig .tc .vmem S512x2816 .bf16) (harg7 : arg7.IsWhole) (harg8 : arg8.IsWhole)
  (arg9 : Memref sig .tc .vmem S512x1024 .f32) (harg9 : arg9.IsWhole)
  (x0 : Vec Ideal S512x1024 .f32) (x1 : Vec Ideal S1x1024 .f32) (x2 x3 x4 : Vec Ideal S2816x1024 .bf16)

/-- The accumulator after the eleven chunks. -/
theorem acc : upto x0 x1 x2 x3 x4 11 (kernelRun0_A.sl.v294 (F := Ideal) c arg1 harg1 arg2 harg2 arg3 harg3 arg4 harg4 arg5 harg5 arg9 x0 x1 x2 x3 x4) := by
  have s := fun n hn i1 Ps a => upto_succ harg1 harg2 harg3 harg4 harg5 x0 x1 x2 x3 x4 n hn i1 arg9.view Ps a
  unfold kernelRun0_A.sl.v294 kernelRun0_A.sl.HS0_12; refine s 10 (by omega) _ _ _ ?_
  unfold kernelRun0_A.sl.v287 kernelRun0_A.sl.HS0_11; refine s 9 (by omega) _ _ _ ?_
  unfold kernelRun0_A.sl.v262 kernelRun0_A.sl.HS0_10; refine s 8 (by omega) _ _ _ ?_
  unfold kernelRun0_A.sl.v237 kernelRun0_A.sl.HS0_9; refine s 7 (by omega) _ _ _ ?_
  unfold kernelRun0_A.sl.v212 kernelRun0_A.sl.HS0_8; refine s 6 (by omega) _ _ _ ?_
  unfold kernelRun0_A.sl.v187 kernelRun0_A.sl.HS0_7; refine s 5 (by omega) _ _ _ ?_
  unfold kernelRun0_A.sl.v162 kernelRun0_A.sl.HS0_6; refine s 4 (by omega) _ _ _ ?_
  unfold kernelRun0_A.sl.v137 kernelRun0_A.sl.HS0_5; refine s 3 (by omega) _ _ _ ?_
  unfold kernelRun0_A.sl.v112 kernelRun0_A.sl.HS0_4; refine s 2 (by omega) _ _ _ ?_
  unfold kernelRun0_A.sl.v87 kernelRun0_A.sl.HS0_3; refine s 1 (by omega) _ _ _ ?_
  unfold kernelRun0_A.sl.v62 kernelRun0_A.sl.HS0_2; refine s 0 (by omega) _ _ _ ?_
  unfold kernelRun0_A.sl.v37 kernelRun0_A.sl.HS0_1; exact upto_zero x0 x1 x2 x3 x4 arg9.view

theorem out_A : out0_A_5 (F := Ideal) c i arg1 harg1 arg2 harg2 arg3 harg3 arg4 harg4 arg5 harg5 arg6 harg6 arg7 harg7 arg8 harg8 arg9 harg9 x0 x1 x2 x3 x4 = tileOut x0 x1 x2 x3 x4 := by
  unfold out0_A_5 kernelRun0_A
  dsimp only
  rw [View.read_writes_junk_eq_canon]
  refine (View.canon_unit_zero off_zero _ _).trans ?_
  exact out_tile harg1 x0 x1 x2 x3 x4 _ (acc c arg1 harg1 arg2 harg2 arg3 arg4 arg5 harg3 harg4 harg5 arg9 x0 x1 x2 x3 x4)

theorem gate_A : out0_A_6 (F := Ideal) c i arg1 harg1 arg2 harg2 arg3 harg3 arg4 harg4 arg5 harg5 arg6 harg6 arg7 harg7 arg8 harg8 arg9 harg9 x0 x1 x2 x3 x4 = tileProd x0 x1 x2 := funext fun y =>
  View.read_writes_apply_of_pieces _ _ (tileProd x0 x1 x2) (kernelRun0_A (F := Ideal) c i arg1 harg1 arg2 harg2 arg3 harg3 arg4 harg4 arg5 harg5 arg6 harg6 arg7 harg7 arg8 harg8 arg9 harg9 x0 x1 x2 x3 x4).2.1 (by
    unfold kernelRun0_A
    exact eleven (fun n hn => chunkProd harg1 harg2 harg3 x0 x1 x2 n (rows_in n hn)) (pieceProd harg1 harg2 harg3 x0 x1 x2)) y
    (cover0_A_6 (F := Ideal) c i arg1 harg1 arg2 harg2 arg3 harg3 arg4 harg4 arg5 harg5 arg6 harg6 arg7 harg7 arg8 harg8 arg9 harg9 x0 x1 x2 x3 x4 y)

theorem up_A : out0_A_7 (F := Ideal) c i arg1 harg1 arg2 harg2 arg3 harg3 arg4 harg4 arg5 harg5 arg6 harg6 arg7 harg7 arg8 harg8 arg9 harg9 x0 x1 x2 x3 x4 = tileProd x0 x1 x3 := funext fun y =>
  View.read_writes_apply_of_pieces _ _ (tileProd x0 x1 x3) (kernelRun0_A (F := Ideal) c i arg1 harg1 arg2 harg2 arg3 harg3 arg4 harg4 arg5 harg5 arg6 harg6 arg7 harg7 arg8 harg8 arg9 harg9 x0 x1 x2 x3 x4).2.2.1 (by
    unfold kernelRun0_A
    exact eleven (fun n hn => chunkProd harg1 harg2 harg4 x0 x1 x3 n (rows_in n hn)) (pieceProd harg1 harg2 harg4 x0 x1 x3)) y
    (cover0_A_7 (F := Ideal) c i arg1 harg1 arg2 harg2 arg3 harg3 arg4 harg4 arg5 harg5 arg6 harg6 arg7 harg7 arg8 harg8 arg9 harg9 x0 x1 x2 x3 x4 y)

end Cert.Fwd

end
-- ==== Proof.FwdValue.lean ====
/-
  The feed-forward block's forward pass: the kernel's arrays after the run are the reference's.
-/
module

public import proofs.«01_k».proof.Proof.FwdPoint
public import proofs.«01_k».proof.Proof.Gen.FfnFwdRefIdeal.Run
public import Idealize.ShloMosaic.Lib.Pipeline.ValueKit.Geometry

@[expose] public section

noncomputable section

namespace Cert.Fwd

open Idealize.ShloMosaic hiding ix1 ix2 eq_ix2
open Idealize.ShloMosaic.TcCoe Idealize.ShloMosaic.ValueIdx Idealize.SL.Sem
open Cert.Ffn (half one act logi weightsOf refScaled refOne refOne_apply refInto refInto_apply refHalf refHalf_apply)
open Cert.Rms (hat row rowAt place stay refScaled_row)

/-! ## The reference's arrays -/

section
open Cert.FfnFwdRefIdeal Cert.FfnFwdRefIdeal.Gen

variable (x : FVec Ideal S4096x1024 .f32) (g : FVec Ideal S1x1024 .f32) (wg wu wd w : FVec Ideal S2816x1024 .bf16)

def refProd : FVec Ideal S4096x2816 .f32 :=
  Host.dotGeneral dot_S4096x1024_S1024x2816_S4096x2816_1_0_0_1_n_n none (refScaled x g)
    (transpose S1024x2816 [1, 0] (extf .f32 w bitsLt_bf16_f32) transposes_S2816x1024_S1024x2816_1_0)
def refLogi (z : FVec Ideal S4096x2816 .f32) : FVec Ideal S4096x2816 .f32 := Host.divf refOne (addf refOne (Host.exp (Host.negf z)))
def refOut : FVec Ideal S4096x1024 .f32 :=
  addf x (refHalf (refInto (mulf (mulf (refProd x g wg) (refLogi (refProd x g wg))) (refProd x g wu)) wd))

theorem refProd_apply (r : Fin 4096) (q : Fin 2816) : refProd x g w (ix2 r q) = ∑ k, hat (row x r) k * g (ix2 0 k) * w (ix2 q k) := by
  refine (StackMember.dotGeneral_plain_apply none _ _ r q).trans (Finset.sum_congr rfl fun k _ => congrArg₂ (· * ·) (refScaled_row x g r k) ?_)
  exact transpose_apply [1, 0] _ _ (ix2 k q) (ix2 q k) (fun b => match b with | 0 => rfl | 1 => rfl)

theorem refLogi_apply (z : FVec Ideal S4096x2816 .f32) (j : S4096x2816.Idx) : refLogi z j = logi (z j) := by
  show Ideal.div (refOne j) (refOne j + Ideal.exp (-(z j))) = _
  rw [refOne_apply]; rfl

theorem refOut_apply (r : Fin 4096) (k : Fin 1024) : refOut x g wg wu wd (ix2 r k) = out (row x r) (weightsOf g wg wu wd) k := by
  refine congrArg (x (ix2 r k) + ·) ((refHalf_apply _ _).trans (congrArg (half * ·) ((refInto_apply _ _ r k).trans (Finset.sum_congr rfl fun q _ => ?_))))
  refine congrArg (· * wd (ix2 q k)) ?_
  have e : refLogi (refProd x g wg) (ix2 r q) = logi (zed (row x r) (weightsOf g wg wu wd) q) :=
    (refLogi_apply _ _).trans (congrArg logi (refProd_apply x g wg r q))
  exact congrArg₂ (· * ·) (congrArg₂ (· * ·) (refProd_apply x g wg r q) e) (refProd_apply x g wu r q)
end

/-! ## The arrays after the run -/

open Cert.FfnFwdIdeal Cert.FfnFwdIdeal.Gen

/-- At grid point t the windows over rows stand at row block t, the parameters' over their whole arrays. -/
theorem fwd_at : ∀ t : Fin cfg0.N, win0_0.index t = ![t.val, 0] ∧ win0_1.index t = ![0, 0] ∧ win0_2.index t = ![0, 0] ∧ win0_3.index t = ![0, 0]
      ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0] ∧ win0_2.index t = ![0, 0] ∧ win0_3.index t = ![0, 0]
      ∧ win0_4.index t = ![0, 0] ∧ win0_5.index t = ![t.val, 0] ∧ win0_6.index t = ![t.val, 0] ∧ win0_7.index t = ![t.val, 0])

variable (m : (ℓ : Loc nD τ sig) → Buf (Elt Ideal) ℓ) (c : Dev nD)

abbrev fwd_x : FVec Ideal S4096x1024 .f32 := m ((c.tc : Thread nD τ).loc main_arg0)
abbrev fwd_g : FVec Ideal S1x1024 .f32 := m ((c.tc : Thread nD τ).loc main_arg1)
abbrev fwd_wg : FVec Ideal S2816x1024 .bf16 := m ((c.tc : Thread nD τ).loc main_arg2)
abbrev fwd_wu : FVec Ideal S2816x1024 .bf16 := m ((c.tc : Thread nD τ).loc main_arg3)
abbrev fwd_wd : FVec Ideal S2816x1024 .bf16 := m ((c.tc : Thread nD τ).loc main_arg4)

theorem fwd_row (t : Fin cfg0.N) (r : Fin 512) : row (n := 512) (iblk m c 0 t) r = row (fwd_x m c) (rowAt t r) := by
  have ht : t.val < 8 := t.isLt
  exact funext fun k => congrArg (fwd_x m c) (place ht (fwd_at t).1 r k _ rfl rfl)

theorem fwd_g_eq (t : Fin cfg0.N) (k : Fin 1024) : (iblk m c 1 t : Vec Ideal S1x1024 .f32) (ix2 0 k) = fwd_g m c (ix2 0 k) :=
  congrArg (fwd_g m c) (stay (w := 1024) (fwd_at t).2.1 0 k _ rfl rfl)
theorem fwd_wg_eq (t : Fin cfg0.N) (q : Fin 2816) (k : Fin 1024) : (iblk m c 2 t : Vec Ideal S2816x1024 .bf16) (ix2 q k) = fwd_wg m c (ix2 q k) :=
  congrArg (fwd_wg m c) (stay (w := 1024) (fwd_at t).2.2.1 q k _ rfl rfl)
theorem fwd_wu_eq (t : Fin cfg0.N) (q : Fin 2816) (k : Fin 1024) : (iblk m c 3 t : Vec Ideal S2816x1024 .bf16) (ix2 q k) = fwd_wu m c (ix2 q k) :=
  congrArg (fwd_wu m c) (stay (w := 1024) (fwd_at t).2.2.2.1 q k _ rfl rfl)
theorem fwd_wd_eq (t : Fin cfg0.N) (q : Fin 2816) (k : Fin 1024) : (iblk m c 4 t : Vec Ideal S2816x1024 .bf16) (ix2 q k) = fwd_wd m c (ix2 q k) :=
  congrArg (fwd_wd m c) (stay (w := 1024) (fwd_at t).2.2.2.2.1 q k _ rfl rfl)

theorem fwd_weights (t : Fin cfg0.N) : weightsOf (iblk m c 1 t) (iblk m c 2 t) (iblk m c 3 t) (iblk m c 4 t)
    = weightsOf (fwd_g m c) (fwd_wg m c) (fwd_wu m c) (fwd_wd m c) := by
  unfold weightsOf
  congr 1
  · exact funext (fwd_g_eq m c t)
  · exact funext fun q => funext (fwd_wg_eq m c t q)
  · exact funext fun q => funext (fwd_wu_eq m c t q)
  · exact funext fun q => funext (fwd_wd_eq m c t q)

/-- What grid point t leaves in its three output blocks. -/
theorem fwd_point (t : Fin cfg0.N) : outsAt0 m c t
    = (tileOut (iblk m c 0 t) (iblk m c 1 t) (iblk m c 2 t) (iblk m c 3 t) (iblk m c 4 t),
      tileProd (iblk m c 0 t) (iblk m c 1 t) (iblk m c 2 t), tileProd (iblk m c 0 t) (iblk m c 1 t) (iblk m c 3 t)) := by
  unfold outsAt0
  rw [out_A, gate_A, up_A]

theorem fwd_out : (dats m 0 c).arrAt 5 cfg0.N = refOut (fwd_x m c) (fwd_g m c) (fwd_wg m c) (fwd_wu m c) (fwd_wd m c) :=
  (dats m 0 c).arrAt_eq_of_covers 5 _ (by decide +kernel) fun t _ y => by
    have ht : t.val < 8 := t.isLt
    refine (congrFun ((after0_5 m c t).trans (congrArg Prod.fst (fwd_point m c t))) _).trans ?_
    rw [place (w := 1024) ht (fwd_at t).2.2.2.2.2.1 (y 0) (y 1) (((cfg0.win 5).blk t).view.emb y) rfl rfl]
    refine (congrArg (tileOut (iblk m c 0 t) (iblk m c 1 t) (iblk m c 2 t) (iblk m c 3 t) (iblk m c 4 t)) (eq_ix2 _)).trans (.trans ?_ (refOut_apply _ _ _ _ _ _ _).symm)
    exact congrArg₂ (fun a W => out a W (y 1)) (fwd_row m c t (y 0)) (fwd_weights m c t)

/-- A hidden product of a tile's row is that of the array's row. -/
theorem fwd_prod (t : Fin cfg0.N) (w : Vec Ideal S2816x1024 .bf16) (w' : FVec Ideal S2816x1024 .bf16) (hw : ∀ q k, w (ix2 q k) = w' (ix2 q k)) (r : Fin 512) (q : Fin 2816) :
    tileProd (iblk m c 0 t) (iblk m c 1 t) w (ix2 r q) = refProd (fwd_x m c) (fwd_g m c) w' (ix2 (rowAt t r) q) := by
  refine Eq.trans (Finset.sum_congr rfl fun k _ => congrArg₂ (· * ·) (congrArg₂ (· * ·) ?_ (fwd_g_eq m c t k)) (hw q k)) (refProd_apply _ _ _ _ _).symm
  exact congrArg (fun a => hat a k) (fwd_row m c t r)

theorem fwd_gate : (dats m 0 c).arrAt 6 cfg0.N = (refProd (fwd_x m c) (fwd_g m c) (fwd_wg m c) : S4096x2816.Idx → EReal) :=
  (dats m 0 c).arrAt_eq_of_covers 6 _ (by decide +kernel) fun t _ y => by
    have ht : t.val < 8 := t.isLt
    refine (congrFun ((after0_6 m c t).trans (congrArg (fun o => o.2.1) (fwd_point m c t))) _).trans ?_
    rw [place (w := 2816) ht (fwd_at t).2.2.2.2.2.2.1 (y 0) (y 1) (((cfg0.win 6).blk t).view.emb y) rfl rfl]
    exact (congrArg (tileProd (iblk m c 0 t) (iblk m c 1 t) (iblk m c 2 t)) (eq_ix2 _)).trans (fwd_prod m c t _ _ (fwd_wg_eq m c t) (y 0) (y 1))

theorem fwd_up : (dats m 0 c).arrAt 7 cfg0.N = (refProd (fwd_x m c) (fwd_g m c) (fwd_wu m c) : S4096x2816.Idx → EReal) :=
  (dats m 0 c).arrAt_eq_of_covers 7 _ (by decide +kernel) fun t _ y => by
    have ht : t.val < 8 := t.isLt
    refine (congrFun ((after0_7 m c t).trans (congrArg (fun o => o.2.2) (fwd_point m c t))) _).trans ?_
    rw [place (w := 2816) ht (fwd_at t).2.2.2.2.2.2.2 (y 0) (y 1) (((cfg0.win 7).blk t).view.emb y) rfl rfl]
    exact (congrArg (tileProd (iblk m c 0 t) (iblk m c 1 t) (iblk m c 3 t)) (eq_ix2 _)).trans (fwd_prod m c t _ _ (fwd_wu_eq m c t) (y 0) (y 1))

theorem forward : Cert.algebraic_FfnFwdIdeal_FfnFwdRefIdeal := fun m g m' g' _ hm =>
  ⟨_, _, _, Value.run_blocks m g,
    (θ_run Cert.FfnFwdRefIdeal.defs _ _).mono
      (fun r h c => by
        obtain ⟨e0, e1, e2, e3, e4⟩ := hm c
        obtain ⟨h0, h1, h2, hk⟩ := h c
        rw [e0, e1, e2, e3, e4] at h0
        rw [e0, e1, e2] at h1
        rw [e0, e1, e3] at h2
        exact ⟨h0.trans (fwd_out m c).symm, h1.trans (fwd_gate m c).symm, h2.trans (fwd_up m c).symm, hk⟩)
      (Cert.FfnFwdRefIdeal.Value.run m' g')⟩

end Cert.Fwd

end
-- ==== Proof.NormValue.lean ====
/-
  The mixer's norm: the kernel's array after the run is the reference's.
-/
module

public import proofs.«01_k».proof.Proof.NormWhole
public import proofs.«01_k».proof.Proof.Gen.NormIdeal.Value
public import proofs.«01_k».proof.Proof.Gen.NormRefIdeal.Run
public import Idealize.ShloMosaic.Lib.Pipeline.ValueKit.Geometry

@[expose] public section

noncomputable section

namespace Cert.Rms

open Idealize.ShloMosaic hiding ix1 ix2 eq_ix2
open Idealize.ShloMosaic.TcCoe Idealize.ShloMosaic.ValueIdx Idealize.SL.Sem Cert.NormIdeal Cert.NormIdeal.Gen Cert.Ffn

/-- The scaled, normalized tile. -/
theorem scaled_tile (x : Vec Ideal S512x1024 .f32) (g : Vec Ideal S1x1024 .f32) (r : Fin 512) (k : Fin 1024) :
    k0_pay1 (F := Ideal) x g (ix2 r k) = hat (row x r) k * g (ix2 0 k) :=
  congrArg₂ (· * ·) (hat_tile (n := 512) x _ _ (fun r => inv_tile (n := 512) x _ _ _ _ r) r k) (broadcastTo_1b_ab_apply g _ r k)

/-- What a grid point writes, from its two blocks. -/
theorem out_tile (x : Vec Ideal S512x1024 .f32) (g : Vec Ideal S1x1024 .f32) : out0_2 (F := Ideal) x g = k0_pay1 (F := Ideal) x g := by
  have ex : View.ld x r0_0 = x := funext fun j => congrArg x (funext fun a => Fin.ext (match a with
    | ⟨0, _⟩ => by show 0 + 1 * (j 0).val = (j 0).val; omega
    | ⟨1, _⟩ => by show 0 + 1 * (j 1).val = (j 1).val; omega))
  have eg : View.ld g r0_1 = g := funext fun j => congrArg g (funext fun a => Fin.ext (match a with
    | ⟨0, _⟩ => by show 0 + 1 * (j 0).val = (j 0).val; omega
    | ⟨1, _⟩ => by show 0 + 1 * (j 1).val = (j 1).val; omega))
  exact (View.canon_unit_zero off_zero _ _).trans (congrArg₂ (k0_pay1 (F := Ideal)) ex eg)

/-- At grid point t the windows over rows stand at row block t, the scale's over its whole array. -/
theorem norm_at : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ) (c : Dev nD)

abbrev norm_x : FVec Ideal S4096x1024 .f32 := m ((c.tc : Thread nD τ).loc main_arg0)
abbrev norm_g : FVec Ideal S1x1024 .f32 := m ((c.tc : Thread nD τ).loc main_arg1)

theorem norm_array : (dats m 0 c).arrAt 2 cfg0.N = refScaled (norm_x m c) (norm_g m c) :=
  (dats m 0 c).arrAt_eq_of_covers 2 _ (by decide +kernel) fun t _ y => by
    obtain ⟨e0, e1, e2⟩ := norm_at t
    have ht : t.val < 8 := t.isLt
    refine (congrFun (after0_2 m c t) _).trans ?_
    rw [place (w := 1024) ht e2 (y 0) (y 1) (((cfg0.win 2).blk t).view.emb y) rfl rfl]
    refine (congrFun (out_tile _ _) _).trans ((congrArg _ (eq_ix2 _)).trans ((scaled_tile _ _ (y 0) (y 1)).trans (.trans ?_ (refScaled_row (norm_x m c) (norm_g m c) _ _).symm)))
    refine congrArg₂ (fun f b => hat f (y 1) * b) (funext fun k => ?_) ?_
    · exact congrArg (norm_x m c) (place ht e0 (y 0) k _ rfl rfl)
    · exact congrArg (norm_g m c) (stay (w := 1024) e1 0 (y 1) _ rfl rfl)

theorem norm : Cert.algebraic_NormIdeal_NormRefIdeal := fun m g m' g' _ hm =>
  ⟨_, Value.run_blocks m g,
    (θ_run Cert.NormRefIdeal.defs _ _).mono
      (fun r h c => by
        obtain ⟨e0, e1⟩ := hm c
        obtain ⟨h0, hk⟩ := h c
        rw [e0, e1] at h0
        exact ⟨h0.trans (norm_array m c).symm, hk⟩)
      (Cert.NormRefIdeal.Value.run m' g')⟩

end Cert.Rms

end
-- ==== Proof.NormBackValue.lean ====
/-
  The pullback along the mixer's norm: the kernel's arrays after the run are the reference's.
-/
module

public import proofs.«01_k».proof.Proof.NormWhole
public import proofs.«01_k».proof.Proof.Gen.NormBackIdeal.Value
public import proofs.«01_k».proof.Proof.Gen.NormBackRefIdeal.Run
public import Idealize.ShloMosaic.Lib.Pipeline.ValueKit.Geometry

@[expose] public section

noncomputable section

namespace Cert.Rms

open Idealize.ShloMosaic hiding ix1 ix2 eq_ix2
open Idealize.ShloMosaic.TcCoe Idealize.ShloMosaic.ValueIdx Idealize.SL.Sem Cert.NormBackIdeal Cert.NormBackIdeal.Gen Cert.Ffn

/-! ## One tile -/

section
variable (x0 : Vec Ideal S512x1024 .f32) (x1 : Vec Ideal S1x1024 .f32) (x2 x3 x4 x5 : Vec Ideal S512x1024 .f32)

/-- The gradient of the normalized, scaled row: three parts added. -/
def three (a b d : Fin 1024 → EReal) (k : Fin 1024) : EReal := a k + b k + d k

/-- The gradient of the tile, and the scale's gradient summed over it. -/
def tileBack : Vec Ideal S512x1024 .f32 := fun j =>
  x5 j + pull (row x0 (j 0)) (fun k => three (row x2 (j 0)) (row x3 (j 0)) (row x4 (j 0)) k * x1 (ix2 0 k)) (j 1)
def tileScale : Vec Ideal S1x1024 .f32 := fun j =>
  ∑ r : Fin 512, three (row x2 r) (row x3 r) (row x4 r) (j 1) * hat (row x0 r) (j 1)

theorem inv_back (r : Fin 512) : k0_pay2 (F := Ideal) x0 (ix2 r 0) = inv (row x0 r) := inv_tile (n := 512) x0 _ _ _ _ r
theorem hat_back (r : Fin 512) (k : Fin 1024) : k0_pay3 (F := Ideal) x0 (ix2 r k) = hat (row x0 r) k :=
  hat_tile (n := 512) x0 _ _ (inv_back x0) r k
theorem scaled_back (r : Fin 512) (k : Fin 1024) :
    k0_pay7 (F := Ideal) x1 x2 x3 x4 (ix2 r k) = three (row x2 r) (row x3 r) (row x4 r) k * x1 (ix2 0 k) :=
  congrArg (fun e => (x2 (ix2 r k) + x3 (ix2 r k) + x4 (ix2 r k)) * e) (broadcastTo_1b_ab_apply x1 _ r k)

theorem back_tile : k0_pay1 (F := Ideal) (k0_pay2 x0) (k0_pay3 x0) (k0_pay7 x1 x2 x3 x4) x5 (k0_pay8 x0 x1 x2 x3 x4) (Scalar.ofBits .f32 0x44800000#32)
    = tileBack x0 x1 x2 x3 x4 x5 := funext fun j => by
  obtain ⟨r, k, rfl⟩ : ∃ (r : Fin 512) (k : Fin 1024), j = ix2 r k := ⟨j 0, j 1, eq_ix2 j⟩
  refine congrArg (x5 (ix2 r k) + ·) ((pull_tile (n := 512) x0 (k0_pay7 (F := Ideal) x1 x2 x3 x4) (k0_pay3 (F := Ideal) x0) (k0_pay2 (F := Ideal) x0) _ _ _ _ _ _ (inv_back x0) (hat_back x0) r k).trans ?_)
  exact congrArg (fun e => pull (row x0 r) e k) (funext fun q => scaled_back x1 x2 x3 x4 r q)

theorem scale_tile (a : Vec Ideal S1x1024 .f32) : k0_pay6 (F := Ideal) x0 x2 x3 x4 a = fun j => a j + tileScale x0 x2 x3 x4 j := funext fun j => by
  obtain ⟨k, rfl⟩ : ∃ k : Fin 1024, j = ix2 0 k := ⟨j 1, one_row j⟩
  unfold k0_pay6
  rw [shapeCast_self]
  refine congrArg (a (ix2 0 k) + ·) ((cols_tile (n := 512) _ _ _ _ _ k).trans (Finset.sum_congr rfl fun r _ => ?_))
  exact congrArg (fun e => (x2 (ix2 r k) + x3 (ix2 r k) + x4 (ix2 r k)) * e) (hat_back x0 r k)
end

/-! ## A grid point -/

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S1x1024 .f32) (harg8 : arg8.IsWhole)
  (x0 : Vec Ideal S512x1024 .f32) (x1 : Vec Ideal S1x1024 .f32) (x2 x3 x4 x5 : Vec Ideal S512x1024 .f32) (xo7 : Vec Ideal S1x1024 .f32)

/-- The row of scale gradients starts at zero. -/
theorem back_start (j : S1x1024.Idx) : kernelRun0_A.sl.v20 (F := Ideal) c arg8 j = 0 := by
  unfold kernelRun0_A.sl.v20 kernelRun0_A.sl.H7_1
  exact (congrFun (View.readCov_cons_toLoadRect (Val := Elt Ideal) arg8.view (Rect.unit ![0, 0] S1x1024.size inb_S1x1024_S1x1024_0_0) _ []) j).trans (show k0_pay5 (F := Ideal) j = 0 from zero_bits)

theorem back_A (hc0 : cond0_0 i) : out0_A_6 (F := Ideal) c i arg1 harg1 arg2 harg2 arg3 harg3 arg4 harg4 arg5 harg5 arg6 harg6 arg7 harg7 arg8 harg8 hc0 x0 x1 x2 x3 x4 x5 = tileBack x0 x1 x2 x3 x4 x5 := by
  unfold out0_A_6 kernelRun0_A
  dsimp only
  rw [View.read_writes_junk_eq_canon]
  refine (View.canon_unit_zero off_zero _ _).trans ?_
  unfold kernelRun0_A.sl.r kernelRun0_A.sl.r_1 kernelRun0_A.sl.r_2 kernelRun0_A.sl.r_3 kernelRun0_A.sl.r_4 kernelRun0_A.sl.cst_20
  rw [load_whole harg1 x0 off_zero, load_whole harg2 x1 off_zero, load_whole harg3 x2 off_zero, load_whole harg4 x3 off_zero, load_whole harg5 x4 off_zero, load_whole harg6 x5 off_zero]
  exact back_tile x0 x1 x2 x3 x4 x5

theorem back_B (hc0 : ¬cond0_0 i) : out0_B_6 (F := Ideal) c i arg1 harg1 arg2 harg2 arg3 harg3 arg4 harg4 arg5 harg5 arg6 harg6 arg7 harg7 arg8 harg8 hc0 x0 x1 x2 x3 x4 x5 xo7 = tileBack x0 x1 x2 x3 x4 x5 := by
  unfold out0_B_6 kernelRun0_B
  dsimp only
  rw [View.read_writes_junk_eq_canon]
  refine (View.canon_unit_zero off_zero _ _).trans ?_
  unfold kernelRun0_B.sl.r kernelRun0_B.sl.r_1 kernelRun0_B.sl.r_2 kernelRun0_B.sl.r_3 kernelRun0_B.sl.r_4 kernelRun0_B.sl.cst_20
  rw [load_whole harg1 x0 off_zero, load_whole harg2 x1 off_zero, load_whole harg3 x2 off_zero, load_whole harg4 x3 off_zero, load_whole harg5 x4 off_zero, load_whole harg6 x5 off_zero]
  exact back_tile x0 x1 x2 x3 x4 x5

theorem scale_A (hc0 : cond0_0 i) : out0_A_7 (F := Ideal) c i arg1 harg1 arg2 harg2 arg3 harg3 arg4 harg4 arg5 harg5 arg6 harg6 arg7 harg7 arg8 harg8 hc0 x0 x1 x2 x3 x4 x5 = tileScale x0 x2 x3 x4 := by
  unfold out0_A_7 kernelRun0_A
  dsimp only
  rw [View.read_writes_junk_eq_canon]
  refine (View.canon_cons_unit_zero off_zero _ _ _).trans ?_
  rw [load_whole harg1 x0 off_zero, load_whole harg3 x2 off_zero, load_whole harg4 x3 off_zero, load_whole harg5 x4 off_zero]
  exact (scale_tile x0 x2 x3 x4 _).trans (funext fun j => (congrArg (· + _) (back_start c arg8 j)).trans (zero_add _))

theorem scale_B (hc0 : ¬cond0_0 i) : out0_B_7 (F := Ideal) c i arg1 harg1 arg2 harg2 arg3 harg3 arg4 harg4 arg5 harg5 arg6 harg6 arg7 harg7 arg8 harg8 hc0 x0 x1 x2 x3 x4 x5 xo7 = fun j => xo7 j + tileScale x0 x2 x3 x4 j := by
  unfold out0_B_7 kernelRun0_B
  dsimp only
  rw [View.read_writes_junk_eq_canon]
  refine (View.canon_unit_zero off_zero _ _).trans ?_
  rw [load_whole harg1 x0 off_zero, load_whole harg3 x2 off_zero, load_whole harg4 x3 off_zero, load_whole harg5 x4 off_zero, load_whole harg8 xo7 off_zero]
  exact scale_tile x0 x2 x3 x4 xo7
end

/-! ## The arrays after the run -/

/-- At grid point t the windows over rows stand at row block t, the scale's over its whole array. -/
theorem back_at : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0])

variable (m : (ℓ : Loc nD τ sig) → Buf (Elt Ideal) ℓ) (c : Dev nD)

abbrev back_x : FVec Ideal S4096x1024 .f32 := m ((c.tc : Thread nD τ).loc main_arg0)
abbrev back_g : FVec Ideal S1x1024 .f32 := m ((c.tc : Thread nD τ).loc main_arg1)
abbrev back_a : FVec Ideal S4096x1024 .f32 := m ((c.tc : Thread nD τ).loc main_arg2)
abbrev back_b : FVec Ideal S4096x1024 .f32 := m ((c.tc : Thread nD τ).loc main_arg3)
abbrev back_d : FVec Ideal S4096x1024 .f32 := m ((c.tc : Thread nD τ).loc main_arg4)
abbrev back_o : FVec Ideal S4096x1024 .f32 := m ((c.tc : Thread nD τ).loc main_arg5)

/-- The parts of the gradient added, and the two arrays the reference returns. -/
abbrev backSum : FVec Ideal S4096x1024 .f32 := addf (addf (back_a m c) (back_b m c)) (back_d m c)
abbrev backDx : FVec Ideal S4096x1024 .f32 := addf (back_o m c) (refPull (back_x m c) (mulf (backSum m c) (refTall (back_g m c))))
abbrev backDgam : FVec Ideal S1x1024 .f32 := refCols (mulf (backSum m c) (refHat (back_x m c)))

theorem back_rows (t : Fin cfg0.N) (r : Fin 512) : row (n := 512) (iblk m c 0 t) r = row (back_x m c) (rowAt t r) ∧ row (n := 512) (iblk m c 2 t) r = row (back_a m c) (rowAt t r)
    ∧ row (n := 512) (iblk m c 3 t) r = row (back_b m c) (rowAt t r) ∧ row (n := 512) (iblk m c 4 t) r = row (back_d m c) (rowAt t r)
    ∧ row (n := 512) (iblk m c 5 t) r = row (back_o m c) (rowAt t r) := by
  obtain ⟨e0, -, e2, e3, e4, e5, -⟩ := back_at t
  have ht : t.val < 8 := t.isLt
  refine ⟨?_, ?_, ?_, ?_, ?_⟩
  · exact funext fun k => congrArg (back_x m c) (place ht e0 r k _ rfl rfl)
  · exact funext fun k => congrArg (back_a m c) (place ht e2 r k _ rfl rfl)
  · exact funext fun k => congrArg (back_b m c) (place ht e3 r k _ rfl rfl)
  · exact funext fun k => congrArg (back_d m c) (place ht e4 r k _ rfl rfl)
  · exact funext fun k => congrArg (back_o m c) (place ht e5 r k _ rfl rfl)

theorem back_point (t : Fin cfg0.N) : (outsAt0 m c t.val t.isLt).1 = tileBack (iblk m c 0 t) (iblk m c 1 t) (iblk m c 2 t) (iblk m c 3 t) (iblk m c 4 t) (iblk m c 5 t) := by
  by_cases h0 : t.val % 8 = 0
  · rw [outsAt0_A m c t h0]; dsimp only; apply back_A
  · rw [outsAt0_B m c t h0]; dsimp only; apply back_B

theorem scale_point (k : Fin 1024) : ∀ (n : ℕ) (hn : n < cfg0.N),
    (outsAt0 m c n hn).2 (ix2 0 k) = ∑ s ∈ Finset.range (n + 1), ∑ r, mulf (backSum m c) (refHat (back_x m c)) (ix2 (rowAt s r) k) := by
  have tile : ∀ t : Fin cfg0.N, tileScale (iblk m c 0 t) (iblk m c 2 t) (iblk m c 3 t) (iblk m c 4 t) (ix2 0 k)
      = ∑ r, mulf (backSum m c) (refHat (back_x m c)) (ix2 (rowAt t r) k) := fun t => by
    refine Finset.sum_congr rfl fun r _ => ?_
    obtain ⟨e0, e2, e3, e4, -⟩ := back_rows m c t r
    rw [e0, e2, e3, e4]
    exact congrArg (backSum m c (ix2 (rowAt t r) k) * ·) (refHat_row (back_x m c) (rowAt t r) k).symm
  intro n
  induction n with
  | zero =>
    intro hn
    rw [outsAt0_A m c ⟨0, hn⟩ rfl, Finset.sum_range_one]
    dsimp only
    rw [scale_A]
    exact tile ⟨0, hn⟩
  | succ n ih =>
    intro hn
    have hN : cfg0.N = 8 := rfl
    have h0 : ¬(⟨n + 1, hn⟩ : Fin cfg0.N).val % 8 = 0 := by show ¬(n + 1) % 8 = 0; omega
    rw [outsAt0_B m c ⟨n + 1, hn⟩ h0, Finset.sum_range_succ, ← ih (by omega)]
    dsimp only
    rw [scale_B]
    exact congrArg (_ + ·) (tile ⟨n + 1, hn⟩)

theorem back_array : (dats m 0 c).arrAt 6 cfg0.N = backDx m c :=
  (dats m 0 c).arrAt_eq_of_covers 6 _ (by decide +kernel) fun t _ y => by
    obtain ⟨-, e1, -, -, -, -, e6⟩ := back_at t
    obtain ⟨f0, f2, f3, f4, f5⟩ := back_rows m c t (y 0)
    have ht : t.val < 8 := t.isLt
    refine (congrFun ((after0_6 m c t).trans (back_point m c t)) _).trans ?_
    rw [place (w := 1024) ht e6 (y 0) (y 1) (((cfg0.win 6).blk t).view.emb y) rfl rfl]
    refine (congrArg (tileBack (iblk m c 0 t) (iblk m c 1 t) (iblk m c 2 t) (iblk m c 3 t) (iblk m c 4 t) (iblk m c 5 t)) (eq_ix2 _)).trans ?_
    refine congrArg₂ (· + ·) (congrFun f5 (y 1)) (.trans ?_ (refPull_row (back_x m c) _ _ _).symm)
    refine congrArg₂ (fun a e => pull a e (y 1)) f0 (funext fun k => congrArg₂ (· * ·) ?_ ?_)
    · exact congr (congrArg₂ (fun a b d => three a b d k) f2 f3) f4
    · exact (congrArg (back_g m c) (stay (w := 1024) e1 0 k _ rfl rfl)).trans (refTall_apply (back_g m c) _ k).symm

/-- The last grid point. -/
abbrev back_last : Fin cfg0.N := ⟨7, (by decide : 7 < grid0.N)⟩

theorem scale_array : (dats m 0 c).arrAt 7 cfg0.N = backDgam m c :=
  (dats m 0 c).arrAt_eq_of_after_last 7 back_last (by decide +kernel) _ fun j => by
    have e : ∀ i : S1x1024.Idx, (dats m 0 c).after 7 back_last i = backDgam m c i := fun i => by
      rw [one_row i]
      exact (congrFun (after0_7 m c back_last) _).trans ((scale_point m c (i 1) 7 back_last.isLt).trans
        ((sum_tiles fun R => mulf (backSum m c) (refHat (back_x m c)) (ix2 R (i 1))).trans (refCols_apply _ (i 1)).symm))
    exact e j

theorem norm_back : Cert.algebraic_NormBackIdeal_NormBackRefIdeal := fun m g m' g' _ hm =>
  ⟨_, _, Value.run_blocks m g,
    (θ_run Cert.NormBackRefIdeal.defs _ _).mono
      (fun r h c => by
        obtain ⟨e0, e1, e2, e3, e4, e5⟩ := hm c
        obtain ⟨h0, h1, hk⟩ := h c
        rw [e0, e1, e2, e3, e4, e5] at h0
        rw [e0, e2, e3, e4] at h1
        exact ⟨h0.trans (back_array m c).symm, h1.trans (scale_array m c).symm, hk⟩)
      (Cert.NormBackRefIdeal.Value.run m' g')⟩

end Cert.Rms

end
-- ==== Proof.LossValue.lean ====
/-
  The final norm, the loss and the pullback of the loss along the norm: the kernel's arrays after the run are the
  reference's.
-/
module

public import proofs.«01_k».proof.Proof.NormWhole
public import proofs.«01_k».proof.Proof.Gen.LossIdeal.Value
public import proofs.«01_k».proof.Proof.Gen.LossRefIdeal.Run
public import Idealize.ShloMosaic.Lib.Pipeline.ValueKit.Geometry

@[expose] public section

noncomputable section

namespace Cert.Rms

open Idealize.ShloMosaic hiding ix1 ix2 eq_ix2
open Idealize.ShloMosaic.TcCoe Idealize.ShloMosaic.ValueIdx Idealize.SL.Sem Cert.Ffn

/-! ## Constants -/

theorem width_eq : width = ((1024 : ℝ) : EReal) := by
  unfold width
  simp [Ideal.ofBits, Ideal.ieee, -EReal.coe_mul]; norm_num
theorem tiny_eq : Ideal.ofBits .f32 0x3A800000#32 = (((1024 : ℝ)⁻¹ : ℝ) : EReal) := by
  simp [Ideal.ofBits, Ideal.ieee, -EReal.coe_mul]; norm_num
theorem half_eq : half = (((1 : ℝ) / 2 : ℝ) : EReal) := by
  unfold half
  simp [Ideal.ofBits, Ideal.ieee, -EReal.coe_mul]; norm_num

/-- Multiplying by 1/1024 is dividing by 1024. -/
theorem by_width (e : EReal) : e * Ideal.ofBits .f32 0x3A800000#32 = Ideal.div e width := by
  have h : width ≠ 0 := by rw [width_eq]; exact EReal.coe_ne_zero.mpr (by norm_num)
  unfold Ideal.div
  rw [if_neg h, width_eq, tiny_eq, EReal.coe_inv]

/-- A half of a sum. -/
theorem half_add (a b : EReal) : half * (a + b) = half * a + half * b := by
  rw [half_eq]
  exact EReal.left_distrib_of_nonneg_of_ne_top (EReal.coe_nonneg.mpr (by norm_num)) (EReal.coe_ne_top _) a b

/-! ## One row -/

/-- The error of a row against its target, its gradient, and the row's loss before halving. -/
def gap (x g y : Fin 1024 → EReal) (k : Fin 1024) : EReal := hat x k * g k - y k
def slope (x g y : Fin 1024 → EReal) (k : Fin 1024) : EReal := Ideal.div (gap x g y k) width
def cost (x g y : Fin 1024 → EReal) : EReal := mean (fun k => gap x g y k * gap x g y k)

/-! ## The reference's arrays -/

section
open Cert.LossRefIdeal Cert.LossRefIdeal.Gen

variable (x : FVec Ideal S4096x1024 .f32) (g : FVec Ideal S1x1024 .f32) (y : FVec Ideal S4096x1024 .f32)

def refGap : FVec Ideal S4096x1024 .f32 := subf (refScaled x g) y
def refSlope : FVec Ideal S4096x1024 .f32 := Host.divf (refGap x g y) (broadcastInDim S4096x1024 ![] bcast_S_S4096x1024 (constant S_ .f32 0x44800000#32))
def refLoss : FVec Ideal S1x128 .f32 :=
  broadcastInDim S1x128 ![] bcast_S_S1x128 (mulf (constant S_ .f32 0x3F000000#32) (Host.reduceAdd
    (Host.divf (Host.reduceAdd (mulf (refGap x g y) (refGap x g y)) (constant S_ .f32 0x00000000#32) reducesTo_S4096x1024_S4096_d1 h_S_)
      (broadcastInDim S4096 ![] bcast_S_S4096 (constant S_ .f32 0x44800000#32)))
    (constant S_ .f32 0x00000000#32) reducesTo_S4096_S_d0 h_S_))

theorem refGap_row (r : Fin 4096) (k : Fin 1024) : refGap x g y (ix2 r k) = gap (row x r) (row g 0) (row y r) k :=
  congrArg (· - y (ix2 r k)) (refScaled_row x g r k)

theorem refSlope_row (r : Fin 4096) (k : Fin 1024) : refSlope x g y (ix2 r k) = slope (row x r) (row g 0) (row y r) k :=
  congrArg₂ Ideal.div (refGap_row x g y r k) (broadcastInDim_scalar_apply _ _ _)

theorem refLoss_apply (j : S1x128.Idx) : refLoss x g y j = half * ∑ r, cost (row x r) (row g 0) (row y r) := by
  refine (broadcastInDim_scalar_apply _ _ j).trans (congrArg (half * ·) ?_)
  rw [Host.reduceAdd_apply]
  refine (Ideal.hostReduceAdd_r1_a0 _ _ _ _).trans (((congrArg (· + _) zero_bits).trans (zero_add _)).trans (Finset.sum_congr rfl fun r _ => ?_))
  refine congrArg₂ Ideal.div ?_ (broadcastInDim_scalar_apply _ _ _)
  rw [Host.reduceAdd_apply]
  refine (Ideal.hostReduceAdd_r2_a1 _ _ _ _).trans (((congrArg (· + _) zero_bits).trans (zero_add _)).trans (Finset.sum_congr rfl fun k _ => ?_))
  exact congrArg₂ (· * ·) (refGap_row x g y r k) (refGap_row x g y r k)
end

open Cert.LossIdeal Cert.LossIdeal.Gen

/-! ## One tile -/

section
variable (x0 : Vec Ideal S512x1024 .f32) (x1 : Vec Ideal S1x1024 .f32) (x2 : Vec Ideal S512x1024 .f32)

/-- The gradient of the tile, the scale's gradient summed over it, and its loss. -/
def tileDx : Vec Ideal S512x1024 .f32 := fun j =>
  pull (row x0 (j 0)) (fun k => slope (row x0 (j 0)) (row x1 0) (row x2 (j 0)) k * row x1 0 k) (j 1)
def tileDgam : Vec Ideal S1x1024 .f32 := fun j => ∑ r : Fin 512, slope (row x0 r) (row x1 0) (row x2 r) (j 1) * hat (row x0 r) (j 1)
def tileLoss : EReal := half * ∑ r : Fin 512, cost (row x0 r) (row x1 0) (row x2 r)

theorem inv_loss (r : Fin 512) : k0_pay3 (F := Ideal) x0 (ix2 r 0) = inv (row x0 r) := inv_tile (n := 512) x0 _ _ _ _ r
theorem hat_loss (r : Fin 512) (k : Fin 1024) : k0_pay4 (F := Ideal) x0 (ix2 r k) = hat (row x0 r) k :=
  hat_tile (n := 512) x0 _ _ (inv_loss x0) r k
theorem gap_loss (r : Fin 512) (k : Fin 1024) : k0_pay5 (F := Ideal) x0 x1 x2 (ix2 r k) = gap (row x0 r) (row x1 0) (row x2 r) k :=
  congrArg (· - x2 (ix2 r k)) (congrArg₂ (· * ·) (hat_loss x0 r k) (broadcastTo_1b_ab_apply x1 _ r k))
theorem slope_loss (r : Fin 512) (k : Fin 1024) : k0_pay7 (F := Ideal) x0 x1 x2 (ix2 r k) = slope (row x0 r) (row x1 0) (row x2 r) k :=
  (by_width _).trans (congrArg (Ideal.div · width) (gap_loss x0 x1 x2 r k))

theorem dx_tile : k0_pay2 (F := Ideal) (k0_pay3 x0) (k0_pay4 x0) x1 (k0_pay7 x0 x1 x2) = tileDx x0 x1 x2 := funext fun j => by
  obtain ⟨r, k, rfl⟩ : ∃ (r : Fin 512) (k : Fin 1024), j = ix2 r k := ⟨j 0, j 1, eq_ix2 j⟩
  refine (pull_tile (n := 512) x0 _ (k0_pay4 (F := Ideal) x0) (k0_pay3 (F := Ideal) x0) _ _ _ _ _ _ (inv_loss x0) (hat_loss x0) r k).trans ?_
  exact congrArg (fun e => pull (row x0 r) e k) (funext fun q => congrArg₂ (· * ·) (slope_loss x0 x1 x2 r q) (broadcastTo_1b_ab_apply x1 _ r q))

theorem dgam_tile (a : Vec Ideal S1x1024 .f32) : k0_pay10 (F := Ideal) x0 x1 x2 a = fun j => a j + tileDgam x0 x1 x2 j := funext fun j => by
  obtain ⟨k, rfl⟩ : ∃ k : Fin 1024, j = ix2 0 k := ⟨j 1, one_row j⟩
  unfold k0_pay10
  rw [shapeCast_self]
  refine congrArg (a (ix2 0 k) + ·) ((cols_tile (n := 512) _ _ _ _ _ k).trans (Finset.sum_congr rfl fun r _ => ?_))
  exact congrArg₂ (· * ·) (slope_loss x0 x1 x2 r k) (hat_loss x0 r k)

theorem part_tile : k0_pay6 (F := Ideal) x0 x1 x2 (ix2 0 0) = tileLoss x0 x1 x2 := by
  refine congrArg (half * ·) ((shapeCast_a_1a_apply _ _ 0 0).trans ((Ideal.reduceAdd_r2_a0 _ _ (ix1 0)).trans (Finset.sum_congr rfl fun r _ => ?_)))
  refine (mean_tile (n := 512) _ _ _ _ _ r).trans (congrArg mean (funext fun k => ?_))
  exact congrArg₂ (· * ·) (gap_loss x0 x1 x2 r k) (gap_loss x0 x1 x2 r k)

theorem loss_tile (a : Vec Ideal S1x128 .f32) : k0_pay1 (F := Ideal) (k0_pay6 x0 x1 x2) a = fun j => a j + tileLoss x0 x1 x2 := funext fun j => by
  unfold k0_pay1
  rw [shapeCast_self, shapeCast_self]
  refine congrArg (a j + ·) (.trans ?_ (part_tile x0 x1 x2))
  exact broadcastTo_apply (k0_pay6 (F := Ideal) x0 x1 x2) _ j (ix2 0 0) fun ax => match ax with
    | ⟨0, _⟩ => rfl
    | ⟨1, _⟩ => rfl
end

/-! ## A grid point -/

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x128 .f32) (harg6 : arg6.IsWhole)
  (x0 : Vec Ideal S512x1024 .f32) (x1 : Vec Ideal S1x1024 .f32) (x2 : Vec Ideal S512x1024 .f32) (xo4 : Vec Ideal S1x1024 .f32) (xo5 : Vec Ideal S1x128 .f32)

/-- The row of scale gradients and the loss start at zero. -/
theorem dgam_start (j : S1x1024.Idx) : kernelRun0_A.sl.v30 (F := Ideal) c arg5 j = 0 := by
  unfold kernelRun0_A.sl.v30 kernelRun0_A.sl.H4_1
  exact (congrFun (View.readCov_cons_toLoadRect (Val := Elt Ideal) arg5.view (Rect.unit ![0, 0] S1x1024.size inb_S1x1024_S1x1024_0_0) _ []) j).trans (show k0_pay8 (F := Ideal) j = 0 from zero_bits)
theorem loss_start (j : S1x128.Idx) : kernelRun0_A.sl.v37 (F := Ideal) c arg6 j = 0 := by
  unfold kernelRun0_A.sl.v37 kernelRun0_A.sl.H5_1
  exact (congrFun (View.readCov_cons_toLoadRect (Val := Elt Ideal) arg6.view (Rect.unit ![0, 0] S1x128.size inb_S1x128_S1x128_0_0) _ []) j).trans (show k0_pay9 (F := Ideal) j = 0 from zero_bits)

theorem dx_A (hc0 : cond0_0 i) : out0_A_3 (F := Ideal) c i arg1 harg1 arg2 harg2 arg3 harg3 arg4 harg4 arg5 harg5 arg6 harg6 hc0 x0 x1 x2 = tileDx x0 x1 x2 := by
  unfold out0_A_3 kernelRun0_A
  dsimp only
  rw [View.read_writes_junk_eq_canon]
  refine (View.canon_unit_zero off_zero _ _).trans ?_
  unfold kernelRun0_A.sl.r kernelRun0_A.sl.r_1 kernelRun0_A.sl.r_2 kernelRun0_A.sl.r_4
  rw [load_whole harg1 x0 off_zero, load_whole harg2 x1 off_zero, load_whole harg3 x2 off_zero]
  exact dx_tile x0 x1 x2

theorem dx_B (hc0 : ¬cond0_0 i) : out0_B_3 (F := Ideal) c i arg1 harg1 arg2 harg2 arg3 harg3 arg4 harg4 arg5 harg5 arg6 harg6 hc0 x0 x1 x2 xo4 xo5 = tileDx x0 x1 x2 := by
  unfold out0_B_3 kernelRun0_B
  dsimp only
  rw [View.read_writes_junk_eq_canon]
  refine (View.canon_unit_zero off_zero _ _).trans ?_
  unfold kernelRun0_B.sl.r kernelRun0_B.sl.r_1 kernelRun0_B.sl.r_2 kernelRun0_B.sl.r_4
  rw [load_whole harg1 x0 off_zero, load_whole harg2 x1 off_zero, load_whole harg3 x2 off_zero]
  exact dx_tile x0 x1 x2

theorem dgam_A (hc0 : cond0_0 i) : out0_A_4 (F := Ideal) c i arg1 harg1 arg2 harg2 arg3 harg3 arg4 harg4 arg5 harg5 arg6 harg6 hc0 x0 x1 x2 = tileDgam x0 x1 x2 := by
  unfold out0_A_4 kernelRun0_A
  dsimp only
  rw [View.read_writes_junk_eq_canon]
  refine (View.canon_cons_unit_zero off_zero _ _ _).trans ?_
  unfold kernelRun0_A.sl.r_5
  rw [load_whole harg1 x0 off_zero, load_whole harg2 x1 off_zero, load_whole harg3 x2 off_zero]
  exact (dgam_tile x0 x1 x2 _).trans (funext fun j => (congrArg (· + _) (dgam_start c arg5 j)).trans (zero_add _))

theorem dgam_B (hc0 : ¬cond0_0 i) : out0_B_4 (F := Ideal) c i arg1 harg1 arg2 harg2 arg3 harg3 arg4 harg4 arg5 harg5 arg6 harg6 hc0 x0 x1 x2 xo4 xo5 = fun j => xo4 j + tileDgam x0 x1 x2 j := by
  unfold out0_B_4 kernelRun0_B
  dsimp only
  rw [View.read_writes_junk_eq_canon]
  refine (View.canon_unit_zero off_zero _ _).trans ?_
  unfold kernelRun0_B.sl.r_5
  rw [load_whole harg1 x0 off_zero, load_whole harg2 x1 off_zero, load_whole harg3 x2 off_zero, load_whole harg5 xo4 off_zero]
  exact dgam_tile x0 x1 x2 xo4

theorem loss_A (hc0 : cond0_0 i) : out0_A_5 (F := Ideal) c i arg1 harg1 arg2 harg2 arg3 harg3 arg4 harg4 arg5 harg5 arg6 harg6 hc0 x0 x1 x2 = fun _ => tileLoss x0 x1 x2 := by
  unfold out0_A_5 kernelRun0_A
  dsimp only
  rw [View.read_writes_junk_eq_canon]
  refine (View.canon_cons_unit_zero off_zero _ _ _).trans ?_
  unfold kernelRun0_A.sl.r_3
  rw [load_whole harg1 x0 off_zero, load_whole harg2 x1 off_zero, load_whole harg3 x2 off_zero]
  exact (loss_tile x0 x1 x2 _).trans (funext fun j => (congrArg (· + _) (loss_start c arg6 j)).trans (zero_add _))

theorem loss_B (hc0 : ¬cond0_0 i) : out0_B_5 (F := Ideal) c i arg1 harg1 arg2 harg2 arg3 harg3 arg4 harg4 arg5 harg5 arg6 harg6 hc0 x0 x1 x2 xo4 xo5 = fun j => xo5 j + tileLoss x0 x1 x2 := by
  unfold out0_B_5 kernelRun0_B
  dsimp only
  rw [View.read_writes_junk_eq_canon]
  refine (View.canon_unit_zero off_zero _ _).trans ?_
  unfold kernelRun0_B.sl.r_3
  rw [load_whole harg1 x0 off_zero, load_whole harg2 x1 off_zero, load_whole harg3 x2 off_zero, load_whole harg6 xo5 off_zero]
  exact loss_tile x0 x1 x2 xo5
end

/-! ## The arrays after the run -/

/-- At grid point t the windows over rows stand at row block t, the scale's over its whole array. -/
theorem loss_at : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

variable (m : (ℓ : Loc nD τ sig) → Buf (Elt Ideal) ℓ) (c : Dev nD)

abbrev loss_x : FVec Ideal S4096x1024 .f32 := m ((c.tc : Thread nD τ).loc main_arg0)
abbrev loss_g : FVec Ideal S1x1024 .f32 := m ((c.tc : Thread nD τ).loc main_arg1)
abbrev loss_y : FVec Ideal S4096x1024 .f32 := m ((c.tc : Thread nD τ).loc main_arg2)

/-- The gradients the reference returns. -/
abbrev lossDx : FVec Ideal S4096x1024 .f32 := refPull (loss_x m c) (mulf (refSlope (loss_x m c) (loss_g m c) (loss_y m c)) (refTall (loss_g m c)))
abbrev lossTerm : FVec Ideal S4096x1024 .f32 := mulf (refSlope (loss_x m c) (loss_g m c) (loss_y m c)) (refHat (loss_x m c))
abbrev lossDgam : FVec Ideal S1x1024 .f32 := refCols (lossTerm m c)

theorem loss_rows (t : Fin cfg0.N) (r : Fin 512) : row (n := 512) (iblk m c 0 t) r = row (loss_x m c) (rowAt t r)
    ∧ row (n := 1) (iblk m c 1 t) 0 = row (loss_g m c) 0 ∧ row (n := 512) (iblk m c 2 t) r = row (loss_y m c) (rowAt t r) := by
  obtain ⟨e0, e1, e2, -⟩ := loss_at t
  have ht : t.val < 8 := t.isLt
  refine ⟨?_, ?_, ?_⟩
  · exact funext fun k => congrArg (loss_x m c) (place ht e0 r k _ rfl rfl)
  · exact funext fun k => congrArg (loss_g m c) (stay (w := 1024) e1 0 k _ rfl rfl)
  · exact funext fun k => congrArg (loss_y m c) (place ht e2 r k _ rfl rfl)

theorem dx_point (t : Fin cfg0.N) : (outsAt0 m c t.val t.isLt).1 = tileDx (iblk m c 0 t) (iblk m c 1 t) (iblk m c 2 t) := by
  by_cases h0 : t.val % 8 = 0
  · rw [outsAt0_A m c t h0]; dsimp only; apply dx_A
  · rw [outsAt0_B m c t h0]; dsimp only; apply dx_B

theorem dgam_point (k : Fin 1024) : ∀ (n : ℕ) (hn : n < cfg0.N),
    (outsAt0 m c n hn).2.1 (ix2 0 k) = ∑ s ∈ Finset.range (n + 1), ∑ r, lossTerm m c (ix2 (rowAt s r) k) := by
  have tile : ∀ t : Fin cfg0.N, tileDgam (iblk m c 0 t) (iblk m c 1 t) (iblk m c 2 t) (ix2 0 k) = ∑ r, lossTerm m c (ix2 (rowAt t r) k) := fun t => by
    refine Finset.sum_congr rfl fun r _ => ?_
    obtain ⟨e0, e1, e2⟩ := loss_rows m c t r
    rw [e0, e1, e2]
    exact (congrArg₂ (· * ·) (refSlope_row (loss_x m c) (loss_g m c) (loss_y m c) (rowAt t r) k) (refHat_row (loss_x m c) (rowAt t r) k)).symm
  intro n
  induction n with
  | zero =>
    intro hn
    rw [outsAt0_A m c ⟨0, hn⟩ rfl, Finset.sum_range_one]
    dsimp only
    rw [dgam_A]
    exact tile ⟨0, hn⟩
  | succ n ih =>
    intro hn
    have hN : cfg0.N = 8 := rfl
    have h0 : ¬(⟨n + 1, hn⟩ : Fin cfg0.N).val % 8 = 0 := by show ¬(n + 1) % 8 = 0; omega
    rw [outsAt0_B m c ⟨n + 1, hn⟩ h0, Finset.sum_range_succ, ← ih (by omega)]
    dsimp only
    rw [dgam_B]
    exact congrArg (_ + ·) (tile ⟨n + 1, hn⟩)

/-- The loss of row `R`, before halving. -/
abbrev costAt (R : Fin 4096) : EReal := cost (row (loss_x m c) R) (row (loss_g m c) 0) (row (loss_y m c) R)

theorem loss_point (j : S1x128.Idx) : ∀ (n : ℕ) (hn : n < cfg0.N),
    (outsAt0 m c n hn).2.2 j = half * ∑ s ∈ Finset.range (n + 1), ∑ r, costAt m c (rowAt s r) := by
  have tile : ∀ t : Fin cfg0.N, tileLoss (iblk m c 0 t) (iblk m c 1 t) (iblk m c 2 t) = half * ∑ r, costAt m c (rowAt t r) := fun t => by
    refine congrArg (half * ·) (Finset.sum_congr rfl fun r _ => ?_)
    obtain ⟨e0, e1, e2⟩ := loss_rows m c t r
    rw [e0, e1, e2]
  intro n
  induction n with
  | zero =>
    intro hn
    rw [outsAt0_A m c ⟨0, hn⟩ rfl, Finset.sum_range_one]
    dsimp only
    rw [loss_A]
    exact tile ⟨0, hn⟩
  | succ n ih =>
    intro hn
    have hN : cfg0.N = 8 := rfl
    have h0 : ¬(⟨n + 1, hn⟩ : Fin cfg0.N).val % 8 = 0 := by show ¬(n + 1) % 8 = 0; omega
    rw [outsAt0_B m c ⟨n + 1, hn⟩ h0, Finset.sum_range_succ, half_add, ← ih (by omega)]
    dsimp only
    rw [loss_B]
    exact congrArg (_ + ·) (tile ⟨n + 1, hn⟩)

theorem dx_array : (dats m 0 c).arrAt 3 cfg0.N = lossDx m c :=
  (dats m 0 c).arrAt_eq_of_covers 3 _ (by decide +kernel) fun t _ y => by
    obtain ⟨f0, f1, f2⟩ := loss_rows m c t (y 0)
    have ht : t.val < 8 := t.isLt
    refine (congrFun ((after0_3 m c t).trans (dx_point m c t)) _).trans ?_
    rw [place (w := 1024) ht (loss_at t).2.2.2 (y 0) (y 1) (((cfg0.win 3).blk t).view.emb y) rfl rfl]
    refine (congrArg (tileDx (iblk m c 0 t) (iblk m c 1 t) (iblk m c 2 t)) (eq_ix2 _)).trans (.trans ?_ (refPull_row (loss_x m c) _ _ _).symm)
    refine congrArg₂ (fun a e => pull a e (y 1)) f0 (funext fun k => congrArg₂ (· * ·) ?_ ?_)
    · exact (congr (congrArg₂ (fun a b d => slope a b d k) f0 f1) f2).trans (refSlope_row (loss_x m c) (loss_g m c) (loss_y m c) _ k).symm
    · exact (congrFun f1 k).trans (refTall_apply (loss_g m c) _ k).symm

/-- The last grid point. -/
abbrev loss_last : Fin cfg0.N := ⟨7, (by decide : 7 < grid0.N)⟩

theorem dgam_array : (dats m 0 c).arrAt 4 cfg0.N = lossDgam m c :=
  (dats m 0 c).arrAt_eq_of_after_last 4 loss_last (by decide +kernel) _ fun j => by
    have e : ∀ i : S1x1024.Idx, (dats m 0 c).after 4 loss_last i = lossDgam m c i := fun i => by
      rw [one_row i]
      exact (congrFun (after0_4 m c loss_last) _).trans ((dgam_point m c (i 1) 7 loss_last.isLt).trans
        ((sum_tiles fun R => lossTerm m c (ix2 R (i 1))).trans (refCols_apply _ (i 1)).symm))
    exact e j

theorem loss_array : (dats m 0 c).arrAt 5 cfg0.N = refLoss (loss_x m c) (loss_g m c) (loss_y m c) :=
  (dats m 0 c).arrAt_eq_of_after_last 5 loss_last (by decide +kernel) _ fun j => by
    have e : ∀ i : S1x128.Idx, (dats m 0 c).after 5 loss_last i = refLoss (loss_x m c) (loss_g m c) (loss_y m c) i := fun i =>
      (congrFun (after0_5 m c loss_last) _).trans ((loss_point m c i 7 loss_last.isLt).trans
        ((congrArg (half * ·) (sum_tiles (costAt m c))).trans (refLoss_apply (loss_x m c) (loss_g m c) (loss_y m c) i).symm))
    exact e j

theorem final : Cert.algebraic_LossIdeal_LossRefIdeal := fun m g m' g' _ hm =>
  ⟨_, _, _, Value.run_blocks m g,
    (θ_run Cert.LossRefIdeal.defs _ _).mono
      (fun r h c => by
        obtain ⟨e0, e1, e2⟩ := hm c
        obtain ⟨h0, h1, h2, hk⟩ := h c
        rw [e0, e1, e2] at h0 h1 h2
        exact ⟨h0.trans (dx_array m c).symm, h1.trans (dgam_array m c).symm, h2.trans (loss_array m c).symm, hk⟩)
      (Cert.LossRefIdeal.Value.run m' g')⟩

end Cert.Rms

end
-- ==== Proof.WGradValue.lean ====
/-
  A weight gradient: one array transposed times another, summed over the rows a tile at a time, is the reference's product.
-/
module

public import proofs.«01_k».proof.Proof.NormWhole
public import proofs.«01_k».proof.Proof.Gen.WGradIdeal.Value
public import proofs.«01_k».proof.Proof.Gen.WGradRefIdeal.Run
public import Idealize.ShloMosaic.Lib.Pipeline.ValueKit.Geometry

@[expose] public section

noncomputable section

namespace Cert.Rms

open Idealize.ShloMosaic hiding ix1 ix2 eq_ix2
open Idealize.ShloMosaic.TcCoe Idealize.ShloMosaic.ValueIdx Idealize.SL.Sem Cert.Ffn

/-! ## The reference's array -/

section
open Cert.WGradRefIdeal Cert.WGradRefIdeal.Gen

/-- The product the reference returns. -/
def refGrad (a : FVec Ideal S4096x2816 .bf16) (b : FVec Ideal S4096x1024 .bf16) : FVec Ideal S2816x1024 .bf16 :=
  truncf .bf16 (Host.dotGeneral dot_S2816x4096_S4096x1024_S2816x1024_1_0_0_1_n_n none
    (transpose S2816x4096 [1, 0] (extf .f32 a bitsLt_bf16_f32) transposes_S4096x2816_S2816x4096_1_0) (extf .f32 b bitsLt_bf16_f32)) bitsLt_bf16_f32

theorem refGrad_apply (a : FVec Ideal S4096x2816 .bf16) (b : FVec Ideal S4096x1024 .bf16) (i : Fin 2816) (k : Fin 1024) :
    refGrad a b (ix2 i k) = ∑ R, a (ix2 R i) * b (ix2 R k) := by
  refine (StackMember.dotGeneral_plain_apply none _ _ i k).trans (Finset.sum_congr rfl fun R _ => ?_)
  exact congrArg (· * b (ix2 R k)) (transpose_apply [1, 0] _ _ (ix2 i R) (ix2 R i) (fun d => match d with | 0 => rfl | 1 => rfl))
end

open Cert.WGradIdeal Cert.WGradIdeal.Gen

/-! ## One tile of rows -/

/-- The kernel's product of a tile transposed with another: entry (i, k) sums over the tile's rows. -/
theorem turned_apply (a : FVec Ideal S512x2816 .bf16) (b : FVec Ideal S512x1024 .bf16) (i : Fin 2816) (k : Fin 1024) :
    matmul (F := Ideal) dot_S512x2816_S512x1024_S2816x1024_0_0_1_1_n_n none a b (constant S2816x1024 .f32 0x00000000#32) (ix2 i k)
      = ∑ r, a (ix2 r i) * b (ix2 r k) := by
  have rank : dot_S512x2816_S512x1024_S2816x1024_0_0_1_1_n_n.contr.rank = 1 := rfl
  have size : dot_S512x2816_S512x1024_S2816x1024_0_0_1_1_n_n.contr.size ⟨0, by rw [rank]; exact Nat.one_pos⟩ = 512 := rfl
  refine (Ideal.matmul_apply _ _ _ _ _ _).trans (((congrArg (· + _) zero_bits).trans (zero_add _)).trans ?_)
  rw [← Equiv.sum_comp (contrEquiv1 _ 512 rank size).symm]
  refine Finset.sum_congr rfl fun r _ => ?_
  have hr := contrEquiv1_symm_val _ 512 rank size r
  refine congrArg₂ (fun p q => a p * b q) ?_ ?_
  all_goals
    funext d
    apply Fin.ext
    match d with
    | ⟨0, _⟩ => exact hr
    | ⟨1, _⟩ => rfl

variable (c : Dev nD) (i : grid0.Coords) (arg3 : Memref sig .tc .vmem S512x2816 .bf16) (harg3 : arg3.IsWhole)
  (arg4 : Memref sig .tc .vmem S512x1024 .bf16) (harg4 : arg4.IsWhole) (arg5 : Memref sig .tc .vmem S2816x1024 .bf16) (harg5 : arg5.IsWhole)
  (arg6 : Memref sig .tc .vmem S2816x1024 .f32) (harg6 : arg6.IsWhole)
  (a : Vec Ideal S512x2816 .bf16) (b : Vec Ideal S512x1024 .bf16) (s : Vec Ideal S2816x1024 .f32)

abbrev tileProd (j : S2816x1024.Idx) : EReal := ∑ r, a (ix2 r (j 0)) * b (ix2 r (j 1))

theorem sum_tile : k0_pay2 s a b = fun j => s j + tileProd a b j := by
  funext j
  unfold k0_pay2
  exact (congrFun (shapeCast_self _ _) j).trans (congrArg (s j + ·) ((congrArg _ (eq_ix2 j)).trans (turned_apply a b (j 0) (j 1))))

theorem start (j : S2816x1024.Idx) : kernelRun0_A.sl.v3 (F := Ideal) c arg6 j = 0 := by
  unfold kernelRun0_A.sl.v3 kernelRun0_A.sl.HS0_1
  exact (congrFun (View.readCov_cons_toLoadRect (Val := Elt Ideal) arg6.view (Rect.unit ![0, 0] S2816x1024.size inb_S2816x1024_S2816x1024_0_0) _ []) j).trans (show k0_pay1 (F := Ideal) j = 0 from zero_bits)

theorem sum_A (hc0 : cond0_0 i) (hc1 : ¬cond0_1 i) : sout0_A_0 (F := Ideal) c i arg3 harg3 arg4 harg4 arg5 harg5 arg6 harg6 hc0 hc1 a b = tileProd a b := by
  unfold sout0_A_0 kernelRun0_A
  dsimp only
  rw [View.read_writes_junk_eq_canon]
  refine (View.canon_cons_unit_zero off_zero _ _ _).trans ?_
  rw [load_whole harg3 a off_zero, load_whole harg4 b off_zero]
  exact (sum_tile a b _).trans (funext fun j => (congrArg (· + _) (start c arg6 j)).trans (zero_add _))

theorem sum_B (hc0 : ¬cond0_0 i) (hc1 : ¬cond0_1 i) : sout0_B_0 (F := Ideal) c i arg3 harg3 arg4 harg4 arg5 harg5 arg6 harg6 hc0 hc1 a b s = fun j => s j + tileProd a b j := by
  unfold sout0_B_0 kernelRun0_B
  dsimp only
  rw [View.read_writes_junk_eq_canon]
  refine (View.canon_unit_zero off_zero _ _).trans ?_
  rw [load_whole harg3 a off_zero, load_whole harg4 b off_zero, load_whole harg6 s off_zero]
  exact sum_tile a b s

theorem out_C (hc0 : ¬cond0_0 i) (hc1 : cond0_1 i) : out0_C_2 (F := Ideal) c i arg3 harg3 arg4 harg4 arg5 harg5 arg6 harg6 hc0 hc1 a b s = fun j => s j + tileProd a b j := by
  unfold out0_C_2 kernelRun0_C
  dsimp only
  rw [View.read_writes_junk_eq_canon]
  refine (View.canon_unit_zero off_zero _ _).trans ?_
  unfold kernelRun0_C.sl.v14 kernelRun0_C.sl.HS0_1
  refine (View.readCov_cons_toLoadRect (Val := Elt Ideal) arg6.view (Rect.unit ![0, 0] S2816x1024.size inb_S2816x1024_S2816x1024_0_0) _ []).trans ?_
  rw [load_whole harg3 a off_zero, load_whole harg4 b off_zero, load_whole harg6 s off_zero]
  exact sum_tile a b s

/-! ## The array after the run -/

theorem grad_at : ∀ t : Fin cfg0.N, win0_0.index t = ![t.val, 0] ∧ win0_1.index t = ![t.val, 0] :=
  (by decide +kernel : ∀ t : Fin grid0.N, win0_0.index t = ![t.val, 0] ∧ win0_1.index t = ![t.val, 0])

variable (m : (ℓ : Loc nD τ sig) → Buf (Elt Ideal) ℓ)

abbrev grad_a : FVec Ideal S4096x2816 .bf16 := m ((c.tc : Thread nD τ).loc main_arg0)
abbrev grad_b : FVec Ideal S4096x1024 .bf16 := m ((c.tc : Thread nD τ).loc main_arg1)

/-- Row `R`'s share of entry `j`. -/
abbrev share (j : S2816x1024.Idx) (R : Fin 4096) : EReal := grad_a c m (ix2 R (j 0)) * grad_b c m (ix2 R (j 1))

theorem grad_tile (t : Fin cfg0.N) (j : S2816x1024.Idx) : tileProd (iblk m c 0 t) (iblk m c 1 t) j = ∑ r, share c m j (rowAt t r) := by
  obtain ⟨e0, e1⟩ := grad_at t
  have ht : t.val < 8 := t.isLt
  refine Finset.sum_congr rfl fun r _ => congrArg₂ (· * ·) ?_ ?_
  · exact congrArg (grad_a c m) (place (w := 2816) ht e0 r (j 0) _ rfl rfl)
  · exact congrArg (grad_b c m) (place (w := 1024) ht e1 r (j 1) _ rfl rfl)

/-- After grid point n < 7 the running sum holds the rows of the tiles so far. -/
theorem grad_point (j : S2816x1024.Idx) : ∀ (n : ℕ) (hn : n < cfg0.N) (_ : n < 7),
    (outsAt0 m c n hn).2 j = ∑ s ∈ Finset.range (n + 1), ∑ r, share c m j (rowAt s r) := by
  intro n
  induction n with
  | zero =>
    intro hn _
    rw [outsAt0_A m c ⟨0, hn⟩ rfl (show ¬0 % 8 = 7 by decide), Finset.sum_range_one]
    dsimp only
    rw [sum_A]
    exact grad_tile c m ⟨0, hn⟩ j
  | succ n ih =>
    intro hn h7
    have hN : cfg0.N = 8 := rfl
    have h0 : ¬(⟨n + 1, hn⟩ : Fin cfg0.N).val % 8 = 0 := by show ¬(n + 1) % 8 = 0; omega
    have h1 : ¬(⟨n + 1, hn⟩ : Fin cfg0.N).val % 8 = 7 := by show ¬(n + 1) % 8 = 7; omega
    rw [outsAt0_B m c ⟨n + 1, hn⟩ h0 h1, Finset.sum_range_succ, ← ih (by omega) (by omega)]
    dsimp only
    rw [sum_B]
    exact congrArg (_ + ·) (grad_tile c m ⟨n + 1, hn⟩ j)

/-- The last grid point writes the whole sum out. -/
abbrev grad_last : Fin cfg0.N := ⟨7, (by decide : 7 < grid0.N)⟩

theorem grad_end (j : S2816x1024.Idx) : (outsAt0 m c 7 grad_last.isLt).1 j = ∑ R, share c m j R := by
  rw [outsAt0_C m c grad_last (by decide) (by decide), ← sum_tiles, Finset.sum_range_succ, ← grad_point c m j 6 (by decide) (by decide)]
  dsimp only
  rw [out_C]
  exact congrArg (_ + ·) (grad_tile c m grad_last j)

theorem grad_array : (dats m 0 c).arrAt 2 cfg0.N = refGrad (grad_a c m) (grad_b c m) :=
  (dats m 0 c).arrAt_eq_of_after_last 2 grad_last (by decide +kernel) _ fun j => by
    have e : ∀ i : S2816x1024.Idx, (dats m 0 c).after 2 grad_last i = refGrad (grad_a c m) (grad_b c m) i := fun i =>
      (congrFun (after0_2 m c grad_last) _).trans ((grad_end c m i).trans
        ((congrArg _ (eq_ix2 i)).trans (refGrad_apply (grad_a c m) (grad_b c m) (i 0) (i 1))).symm)
    exact e j

theorem weight_grad : Cert.algebraic_WGradIdeal_WGradRefIdeal := fun m g m' g' _ hm =>
  ⟨_, Value.run_blocks m g,
    (θ_run Cert.WGradRefIdeal.defs _ _).mono
      (fun r h c => by
        obtain ⟨e0, e1⟩ := hm c
        obtain ⟨h0, hk⟩ := h c
        rw [e0, e1] at h0
        exact ⟨h0.trans (grad_array c m).symm, hk⟩)
      (Cert.WGradRefIdeal.Value.run m' g')⟩

end Cert.Rms

end
-- ==== Proof.MixTile.lean ====
/-
  The gates of the mixer: the halves of the array of gates, and what the operations of a tile of 512 rows are entry by entry.
-/
module

public import proofs.«01_k».proof.Proof.NormWhole
public import proofs.«01_k».proof.Proof.FwdTile
public import proofs.«01_k».proof.Proof.Gen.MixIdeal.Value

@[expose] public section

noncomputable section

namespace Cert.Mixer

open Idealize.ShloMosaic hiding ix1 ix2 eq_ix2
open Idealize.ShloMosaic.TcCoe Idealize.ShloMosaic.ValueIdx Cert.MixIdeal Cert.MixIdeal.Gen
open Cert.Ffn (one logi zero_bits off_zero)

/-- Column `k` of the gates' first half and of their second half. -/
def lo (k : Fin 1024) : Fin 2048 := ⟨k.val, by omega⟩
def hi (k : Fin 1024) : Fin 2048 := ⟨1024 + k.val, by omega⟩

/-- Two values, each under its own gate, added. -/
def mixed (gc ga yc ya : EReal) : EReal := logi gc * yc + logi ga * ya

/-- A load of a whole block. -/
theorem ld_whole {s : Shape} {e : EltTy} (x : Vec Ideal s e) {off : Fin s.rank → ℕ} (ho : off = fun _ => 0) (h) :
    View.ld x (Rect.unit off s.size h) = x := by
  subst ho
  exact funext fun j => congrArg x (funext fun a => Fin.ext (by show 0 + 1 * (j a).val = (j a).val; omega))

/-- A load of either half of a tile of gates. -/
theorem ld_lo (g : Vec Ideal S512x2048 .f32) (h) (r : Fin 512) (k : Fin 1024) :
    View.ld g (Rect.unit ![0, 0] S512x1024.size h) (ix2 r k) = g (ix2 r (lo k)) :=
  congrArg g (funext fun a => Fin.ext (match a with
    | ⟨0, _⟩ => by show 0 + 1 * r.val = r.val; omega
    | ⟨1, _⟩ => by show 0 + 1 * k.val = k.val; omega))
theorem ld_hi (g : Vec Ideal S512x2048 .f32) (h) (r : Fin 512) (k : Fin 1024) :
    View.ld g (Rect.unit ![0, 1024] S512x1024.size h) (ix2 r k) = g (ix2 r (hi k)) :=
  congrArg g (funext fun a => Fin.ext (match a with
    | ⟨0, _⟩ => by show 0 + 1 * r.val = r.val; omega
    | ⟨1, _⟩ => by show 1024 + 1 * k.val = 1024 + k.val; omega))

/-! ## The operations of a tile -/

theorem conv_apply (z : Vec Ideal S512x1024 .bf16) (wc : Vec Ideal S1024x1024 .bf16) (r : Fin 512) (k : Fin 1024) :
    k0_pay2 (F := Ideal) z wc (ix2 r k) = ∑ j, z (ix2 r j) * wc (ix2 j k) :=
  (Ideal.matmul_plain_apply none z wc (constant S512x1024 .f32 0x00000000#32) r k).trans ((congrArg (· + _) zero_bits).trans (zero_add _))

theorem attn_apply (a : Vec Ideal S512x512 .bf16) (wa : Vec Ideal S1024x512 .bf16) (r : Fin 512) (k : Fin 1024) :
    k0_pay3 (F := Ideal) a wa (ix2 r k) = ∑ j, a (ix2 r j) * wa (ix2 k j) :=
  (Ideal.matmul_transposedRhs_apply none a wa (constant S512x1024 .f32 0x00000000#32) r k).trans ((congrArg (· + _) zero_bits).trans (zero_add _))

theorem mixed_apply (z : Vec Ideal S512x1024 .bf16) (wc : Vec Ideal S1024x1024 .bf16) (a : Vec Ideal S512x512 .bf16) (wa : Vec Ideal S1024x512 .bf16)
    (gc ga : Vec Ideal S512x1024 .f32) (j : S512x1024.Idx) :
    k0_pay4 (F := Ideal) z wc a wa gc ga j = mixed (gc j) (ga j) (k0_pay2 (F := Ideal) z wc j) (k0_pay3 (F := Ideal) a wa j) :=
  congrArg₂ (· + ·) (congrArg (· * _) (Cert.Fwd.logi_eq _)) (congrArg (· * _) (Cert.Fwd.logi_eq _))

theorem out_apply (y : Vec Ideal S512x1024 .bf16) (x : Vec Ideal S512x1024 .f32) (wo : Vec Ideal S1024x1024 .bf16) (r : Fin 512) (k : Fin 1024) :
    k0_pay1 (F := Ideal) y x wo (ix2 r k) = x (ix2 r k) + ∑ j, y (ix2 r j) * wo (ix2 j k) :=
  congrArg (x (ix2 r k) + ·) ((Ideal.matmul_plain_apply none y wo (constant S512x1024 .f32 0x00000000#32) r k).trans ((congrArg (· + _) zero_bits).trans (zero_add _)))

/-! ## What a grid point writes -/

variable (z : Vec Ideal S512x1024 .bf16) (a : Vec Ideal S512x512 .bf16) (g : Vec Ideal S512x2048 .f32) (wc : Vec Ideal S1024x1024 .bf16)
  (wa : Vec Ideal S1024x512 .bf16) (wo : Vec Ideal S1024x1024 .bf16) (x : Vec Ideal S512x1024 .f32) (r : Fin 512) (k : Fin 1024)

theorem conv_tile : out0_8 (F := Ideal) z a g wc wa wo x (ix2 r k) = ∑ j, z (ix2 r j) * wc (ix2 j k) := by
  unfold out0_8
  rw [View.canon_unit_zero off_zero, ld_whole z off_zero, ld_whole wc off_zero]
  exact conv_apply z wc r k

theorem attn_tile : out0_9 (F := Ideal) z a g wc wa wo x (ix2 r k) = ∑ j, a (ix2 r j) * wa (ix2 k j) := by
  unfold out0_9
  rw [View.canon_unit_zero off_zero, ld_whole a off_zero, ld_whole wa off_zero]
  exact attn_apply a wa r k

theorem mixed_tile : out0_10 (F := Ideal) z a g wc wa wo x (ix2 r k)
    = mixed (g (ix2 r (lo k))) (g (ix2 r (hi k))) (∑ j, z (ix2 r j) * wc (ix2 j k)) (∑ j, a (ix2 r j) * wa (ix2 k j)) := by
  unfold out0_10
  rw [View.canon_unit_zero off_zero, ld_whole z off_zero, ld_whole wc off_zero, ld_whole a off_zero, ld_whole wa off_zero]
  refine (mixed_apply _ _ _ _ _ _ _).trans ?_
  rw [conv_apply, attn_apply, ld_lo, ld_hi]

theorem out_tile : out0_7 (F := Ideal) z a g wc wa wo x (ix2 r k)
    = x (ix2 r k) + ∑ j, out0_10 (F := Ideal) z a g wc wa wo x (ix2 r j) * wo (ix2 j k) := by
  unfold out0_7 out0_10
  rw [View.canon_unit_zero off_zero, View.canon_unit_zero off_zero, ld_whole x off_zero, ld_whole wo off_zero]
  exact out_apply _ x wo r k

end Cert.Mixer

end
-- ==== Proof.MixValue.lean ====
/-
  The mixer's two paths brought together: the kernel's arrays after the run are the reference's.
-/
module

public import proofs.«01_k».proof.Proof.MixTile
public import proofs.«01_k».proof.Proof.Gen.MixRefIdeal.Run
public import Idealize.ShloMosaic.Lib.Pipeline.ValueKit.Geometry

@[expose] public section

noncomputable section

namespace Cert.Mixer

open Idealize.ShloMosaic hiding ix1 ix2 eq_ix2
open Idealize.ShloMosaic.TcCoe Idealize.ShloMosaic.ValueIdx Idealize.SL.Sem
open Cert.Ffn (one logi)
open Cert.Rms (rowAt place stay)

/-! ## The reference's arrays -/

section
open Cert.MixRefIdeal Cert.MixRefIdeal.Gen

variable (z : FVec Ideal S4096x1024 .bf16) (a : FVec Ideal S4096x512 .bf16) (g : FVec Ideal S4096x2048 .f32) (wc wo : FVec Ideal S1024x1024 .bf16)
  (wa : FVec Ideal S1024x512 .bf16) (x : FVec Ideal S4096x1024 .f32)

def refOnes : FVec Ideal S4096x1024 .f32 := broadcastInDim S4096x1024 ![] bcast_S_S4096x1024 (constant S_ .f32 0x3F800000#32)
def refGate (v : FVec Ideal S4096x1024 .f32) : FVec Ideal S4096x1024 .f32 := Host.divf refOnes (addf refOnes (Host.exp (Host.negf v)))
def refLo : FVec Ideal S4096x1024 .f32 := extractStridedSlice S4096x1024 ![0, 0] g slices_S4096x2048_S4096x1024_0_0
def refHi : FVec Ideal S4096x1024 .f32 := extractStridedSlice S4096x1024 ![0, 1024] g slices_S4096x2048_S4096x1024_0_1024
def refSquare (v : FVec Ideal S4096x1024 .f32) (w : FVec Ideal S1024x1024 .bf16) : FVec Ideal S4096x1024 .f32 :=
  Host.dotGeneral dot_S4096x1024_S1024x1024_S4096x1024_1_0_0_1_n_n none v (extf .f32 w bitsLt_bf16_f32)
def refAttn : FVec Ideal S4096x1024 .f32 :=
  Host.dotGeneral dot_S4096x512_S512x1024_S4096x1024_1_0_0_1_n_n none (extf .f32 a bitsLt_bf16_f32)
    (transpose S512x1024 [1, 0] (extf .f32 wa bitsLt_bf16_f32) transposes_S1024x512_S512x1024_1_0)
def refMixed : FVec Ideal S4096x1024 .f32 :=
  addf (mulf (refGate (refLo g)) (refSquare (extf .f32 z bitsLt_bf16_f32) wc)) (mulf (refGate (refHi g)) (refAttn a wa))
def refMixOut : FVec Ideal S4096x1024 .f32 := addf x (refSquare (refMixed z a g wc wa) wo)

theorem refOnes_apply (j : S4096x1024.Idx) : refOnes j = one := broadcastInDim_scalar_apply _ _ j

theorem refGate_apply (v : FVec Ideal S4096x1024 .f32) (j : S4096x1024.Idx) : refGate v j = logi (v j) := by
  show Ideal.div (refOnes j) (refOnes j + Ideal.exp (-(v j))) = _
  rw [refOnes_apply]; rfl

theorem refLo_apply (r : Fin 4096) (k : Fin 1024) : refLo g (ix2 r k) = g (ix2 r (lo k)) :=
  congrArg g (funext fun b => Fin.ext (match b with
    | ⟨0, _⟩ => by show 0 + r.val = r.val; omega
    | ⟨1, _⟩ => by show 0 + k.val = k.val; omega))
theorem refHi_apply (r : Fin 4096) (k : Fin 1024) : refHi g (ix2 r k) = g (ix2 r (hi k)) :=
  congrArg g (funext fun b => Fin.ext (match b with
    | ⟨0, _⟩ => by show 0 + r.val = r.val; omega
    | ⟨1, _⟩ => rfl))

theorem refSquare_apply (v : FVec Ideal S4096x1024 .f32) (w : FVec Ideal S1024x1024 .bf16) (r : Fin 4096) (k : Fin 1024) :
    refSquare v w (ix2 r k) = ∑ j, v (ix2 r j) * w (ix2 j k) := StackMember.dotGeneral_plain_apply none _ _ r k

theorem refAttn_apply (r : Fin 4096) (k : Fin 1024) : refAttn a wa (ix2 r k) = ∑ j, a (ix2 r j) * wa (ix2 k j) :=
  (StackMember.dotGeneral_plain_apply none _ _ r k).trans (Finset.sum_congr rfl fun j _ => congrArg (a (ix2 r j) * ·)
    (transpose_apply [1, 0] _ _ (ix2 j k) (ix2 k j) (fun b => match b with | 0 => rfl | 1 => rfl)))

theorem refMixed_apply (r : Fin 4096) (k : Fin 1024) : refMixed z a g wc wa (ix2 r k)
    = mixed (g (ix2 r (lo k))) (g (ix2 r (hi k))) (∑ j, z (ix2 r j) * wc (ix2 j k)) (∑ j, a (ix2 r j) * wa (ix2 k j)) :=
  congrArg₂ (· + ·) (congrArg₂ (· * ·) ((refGate_apply _ _).trans (congrArg logi (refLo_apply g r k))) (refSquare_apply _ wc r k))
    (congrArg₂ (· * ·) ((refGate_apply _ _).trans (congrArg logi (refHi_apply g r k))) (refAttn_apply a wa r k))
end

/-! ## The arrays after the run -/

open Cert.MixIdeal Cert.MixIdeal.Gen

/-- At grid point t the windows over rows stand at row block t, the weights' over their whole arrays. -/
theorem mix_at : ∀ t : Fin cfg0.N, (win0_0.index t = ![t.val, 0] ∧ win0_1.index t = ![t.val, 0] ∧ win0_2.index t = ![t.val, 0] ∧ win0_6.index t = ![t.val, 0])
      ∧ (win0_3.index t = ![0, 0] ∧ win0_4.index t = ![0, 0] ∧ win0_5.index t = ![0, 0])
      ∧ (win0_7.index t = ![t.val, 0] ∧ win0_8.index t = ![t.val, 0] ∧ win0_9.index t = ![t.val, 0] ∧ win0_10.index t = ![t.val, 0]) :=
  (by decide +kernel : ∀ t : Fin grid0.N, (win0_0.index t = ![t.val, 0] ∧ win0_1.index t = ![t.val, 0] ∧ win0_2.index t = ![t.val, 0] ∧ win0_6.index t = ![t.val, 0])
      ∧ (win0_3.index t = ![0, 0] ∧ win0_4.index t = ![0, 0] ∧ win0_5.index t = ![0, 0])
      ∧ (win0_7.index t = ![t.val, 0] ∧ win0_8.index t = ![t.val, 0] ∧ win0_9.index t = ![t.val, 0] ∧ win0_10.index t = ![t.val, 0]))

variable (m : (ℓ : Loc nD τ sig) → Buf (Elt Ideal) ℓ) (c : Dev nD)

abbrev mix_z : FVec Ideal S4096x1024 .bf16 := m ((c.tc : Thread nD τ).loc main_arg0)
abbrev mix_a : FVec Ideal S4096x512 .bf16 := m ((c.tc : Thread nD τ).loc main_arg1)
abbrev mix_g : FVec Ideal S4096x2048 .f32 := m ((c.tc : Thread nD τ).loc main_arg2)
abbrev mix_wc : FVec Ideal S1024x1024 .bf16 := m ((c.tc : Thread nD τ).loc main_arg3)
abbrev mix_wa : FVec Ideal S1024x512 .bf16 := m ((c.tc : Thread nD τ).loc main_arg4)
abbrev mix_wo : FVec Ideal S1024x1024 .bf16 := m ((c.tc : Thread nD τ).loc main_arg5)
abbrev mix_x : FVec Ideal S4096x1024 .f32 := m ((c.tc : Thread nD τ).loc main_arg6)

section
variable (t : Fin cfg0.N) (r : Fin 512)

/-- The blocks that enter the two products. -/
abbrev mix_zb : FVec Ideal S512x1024 .bf16 := iblk m c 0 t
abbrev mix_ab : FVec Ideal S512x512 .bf16 := iblk m c 1 t
abbrev mix_wcb : FVec Ideal S1024x1024 .bf16 := iblk m c 3 t
abbrev mix_wab : FVec Ideal S1024x512 .bf16 := iblk m c 4 t

theorem mix_z_eq (k : Fin 1024) : (iblk m c 0 t : Vec Ideal S512x1024 .bf16) (ix2 r k) = mix_z m c (ix2 (rowAt t r) k) :=
  congrArg (mix_z m c) (place (w := 1024) (show t.val < 8 from t.isLt) (mix_at t).1.1 r k _ rfl rfl)
theorem mix_a_eq (k : Fin 512) : (iblk m c 1 t : Vec Ideal S512x512 .bf16) (ix2 r k) = mix_a m c (ix2 (rowAt t r) k) :=
  congrArg (mix_a m c) (place (w := 512) (show t.val < 8 from t.isLt) (mix_at t).1.2.1 r k _ rfl rfl)
theorem mix_g_eq (k : Fin 2048) : (iblk m c 2 t : Vec Ideal S512x2048 .f32) (ix2 r k) = mix_g m c (ix2 (rowAt t r) k) :=
  congrArg (mix_g m c) (place (w := 2048) (show t.val < 8 from t.isLt) (mix_at t).1.2.2.1 r k _ rfl rfl)
theorem mix_x_eq (k : Fin 1024) : (iblk m c 6 t : Vec Ideal S512x1024 .f32) (ix2 r k) = mix_x m c (ix2 (rowAt t r) k) :=
  congrArg (mix_x m c) (place (w := 1024) (show t.val < 8 from t.isLt) (mix_at t).1.2.2.2 r k _ rfl rfl)
theorem mix_wc_eq (j k : Fin 1024) : (iblk m c 3 t : Vec Ideal S1024x1024 .bf16) (ix2 j k) = mix_wc m c (ix2 j k) :=
  congrArg (mix_wc m c) (stay (w := 1024) (mix_at t).2.1.1 j k _ rfl rfl)
theorem mix_wa_eq (k : Fin 1024) (j : Fin 512) : (iblk m c 4 t : Vec Ideal S1024x512 .bf16) (ix2 k j) = mix_wa m c (ix2 k j) :=
  congrArg (mix_wa m c) (stay (w := 512) (mix_at t).2.1.2.1 k j _ rfl rfl)
theorem mix_wo_eq (j k : Fin 1024) : (iblk m c 5 t : Vec Ideal S1024x1024 .bf16) (ix2 j k) = mix_wo m c (ix2 j k) :=
  congrArg (mix_wo m c) (stay (w := 1024) (mix_at t).2.1.2.2 j k _ rfl rfl)

/-- The two products of a tile's row are those of the array's row. -/
theorem mix_conv_row (k : Fin 1024) : ∑ j, mix_zb m c t (ix2 r j) * mix_wcb m c t (ix2 j k)
    = ∑ j, mix_z m c (ix2 (rowAt t r) j) * mix_wc m c (ix2 j k) :=
  Finset.sum_congr rfl fun j _ => congrArg₂ (· * ·) (mix_z_eq m c t r j) (mix_wc_eq m c t j k)
theorem mix_attn_row (k : Fin 1024) : ∑ j, mix_ab m c t (ix2 r j) * mix_wab m c t (ix2 k j)
    = ∑ j, mix_a m c (ix2 (rowAt t r) j) * mix_wa m c (ix2 k j) :=
  Finset.sum_congr rfl fun j _ => congrArg₂ (· * ·) (mix_a_eq m c t r j) (mix_wa_eq m c t k j)

theorem mix_mixed_row (k : Fin 1024) : out0_10 (F := Ideal) (iblk m c 0 t) (iblk m c 1 t) (iblk m c 2 t) (iblk m c 3 t) (iblk m c 4 t) (iblk m c 5 t) (iblk m c 6 t) (ix2 r k)
    = refMixed (mix_z m c) (mix_a m c) (mix_g m c) (mix_wc m c) (mix_wa m c) (ix2 (rowAt t r) k) := by
  refine (mixed_tile _ _ _ _ _ _ _ r k).trans (.trans ?_ (refMixed_apply _ _ _ _ _ _ _).symm)
  exact congr (congr (congrArg₂ mixed (mix_g_eq m c t r (lo k)) (mix_g_eq m c t r (hi k))) (mix_conv_row m c t r k)) (mix_attn_row m c t r k)
end

theorem mix_out : (dats m 0 c).arrAt 7 cfg0.N = refMixOut (mix_z m c) (mix_a m c) (mix_g m c) (mix_wc m c) (mix_wo m c) (mix_wa m c) (mix_x m c) :=
  (dats m 0 c).arrAt_eq_of_covers 7 _ (by decide +kernel) fun t _ y => by
    refine (congrFun (after0_7 m c t) _).trans ?_
    rw [place (w := 1024) (show t.val < 8 from t.isLt) (mix_at t).2.2.1 (y 0) (y 1) (((cfg0.win 7).blk t).view.emb y) rfl rfl]
    refine (congrArg (out0_7 (F := Ideal) _ _ _ _ _ _ _) (eq_ix2 _)).trans ((out_tile _ _ _ _ _ _ _ (y 0) (y 1)).trans ?_)
    refine congrArg₂ (· + ·) (mix_x_eq m c t (y 0) (y 1)) (.trans ?_ (refSquare_apply _ _ _ _).symm)
    exact Finset.sum_congr rfl fun j _ => congrArg₂ (· * ·) (mix_mixed_row m c t (y 0) j) (mix_wo_eq m c t j (y 1))

theorem mix_conv : (dats m 0 c).arrAt 8 cfg0.N = refSquare (mix_z m c) (mix_wc m c) :=
  (dats m 0 c).arrAt_eq_of_covers 8 _ (by decide +kernel) fun t _ y => by
    refine (congrFun (after0_8 m c t) _).trans ?_
    rw [place (w := 1024) (show t.val < 8 from t.isLt) (mix_at t).2.2.2.1 (y 0) (y 1) (((cfg0.win 8).blk t).view.emb y) rfl rfl]
    refine (congrArg (out0_8 (F := Ideal) _ _ _ _ _ _ _) (eq_ix2 _)).trans ((conv_tile _ _ _ _ _ _ _ (y 0) (y 1)).trans ?_)
    exact (mix_conv_row m c t (y 0) (y 1)).trans (refSquare_apply _ _ _ _).symm

theorem mix_attn : (dats m 0 c).arrAt 9 cfg0.N = refAttn (mix_a m c) (mix_wa m c) :=
  (dats m 0 c).arrAt_eq_of_covers 9 _ (by decide +kernel) fun t _ y => by
    refine (congrFun (after0_9 m c t) _).trans ?_
    rw [place (w := 1024) (show t.val < 8 from t.isLt) (mix_at t).2.2.2.2.1 (y 0) (y 1) (((cfg0.win 9).blk t).view.emb y) rfl rfl]
    refine (congrArg (out0_9 (F := Ideal) _ _ _ _ _ _ _) (eq_ix2 _)).trans ((attn_tile _ _ _ _ _ _ _ (y 0) (y 1)).trans ?_)
    exact (mix_attn_row m c t (y 0) (y 1)).trans (refAttn_apply _ _ _ _).symm

theorem mix_mixed : (dats m 0 c).arrAt 10 cfg0.N = (refMixed (mix_z m c) (mix_a m c) (mix_g m c) (mix_wc m c) (mix_wa m c) : S4096x1024.Idx → EReal) :=
  (dats m 0 c).arrAt_eq_of_covers 10 _ (by decide +kernel) fun t _ y => by
    refine (congrFun (after0_10 m c t) _).trans ?_
    rw [place (w := 1024) (show t.val < 8 from t.isLt) (mix_at t).2.2.2.2.2 (y 0) (y 1) (((cfg0.win 10).blk t).view.emb y) rfl rfl]
    exact (congrArg (out0_10 (F := Ideal) _ _ _ _ _ _ _) (eq_ix2 _)).trans (mix_mixed_row m c t (y 0) (y 1))

theorem mix : Cert.algebraic_MixIdeal_MixRefIdeal := fun m g m' g' _ hm =>
  ⟨_, _, _, _, Value.run_blocks m g,
    (θ_run Cert.MixRefIdeal.defs _ _).mono
      (fun r h c => by
        obtain ⟨e0, e1, e2, e3, e4, e5, e6⟩ := hm c
        obtain ⟨h0, h1, h2, h3, hk⟩ := h c
        rw [e0, e1, e2, e3, e4, e5, e6] at h0
        rw [e0, e3] at h1
        rw [e1, e4] at h2
        rw [e0, e1, e2, e3, e4] at h3
        exact ⟨h0.trans (mix_out m c).symm, h1.trans (mix_conv m c).symm, h2.trans (mix_attn m c).symm, h3.trans (mix_mixed m c).symm, hk⟩)
      (Cert.MixRefIdeal.Value.run m' g')⟩

end Cert.Mixer

end
-- ==== Proof.MixBackTile.lean ====
/-
  The mixer's output backwards: each gradient of a row as a function of that row and of the weights, and what a grid point
  writes of a tile of 512 rows.
-/
module

public import proofs.«01_k».proof.Proof.MixTile
public import proofs.«01_k».proof.Proof.Gen.MixBackIdeal.Value
public import Idealize.ShloMosaic.Lib.Pipeline.ValueKit.Tiles

@[expose] public section

noncomputable section

namespace Cert.MixerBack

open Idealize.ShloMosaic hiding ix1 ix2 eq_ix2
open Idealize.ShloMosaic.TcCoe Idealize.ShloMosaic.ValueIdx
open Cert.Ffn (one logi zero_bits off_zero)
open Cert.Mixer (lo hi ld_whole ld_lo ld_hi)

/-! ## A row's gradients -/

/-- A row of an array. -/
abbrev row {n w : ℕ} (v : (⟨2, ![n, w]⟩ : Shape).Idx → EReal) (r : Fin n) : Fin w → EReal := fun k => v (ix2 r k)

/-- A row times a matrix transposed; times a matrix. -/
def back (x : Fin 1024 → EReal) (w : Fin 1024 → Fin 1024 → EReal) (k : Fin 1024) : EReal := ∑ j, x j * w k j
def heads (x : Fin 1024 → EReal) (w : Fin 1024 → Fin 512 → EReal) (k : Fin 512) : EReal := ∑ j, x j * w j k

/-- The gradient of one path's value, and of its gate: the mixture's gradient under the gate, and times the value and the
    logistic function's slope. -/
def path (x g : Fin 1024 → EReal) (wo : Fin 1024 → Fin 1024 → EReal) (k : Fin 1024) : EReal := back x wo k * logi (g k)
def gate (x g y : Fin 1024 → EReal) (wo : Fin 1024 → Fin 1024 → EReal) (k : Fin 1024) : EReal :=
  back x wo k * y k * (logi (g k) * (one - logi (g k)))

/-- The gradients of both halves of a row of gates. -/
def gates (x : Fin 1024 → EReal) (g : Fin 2048 → EReal) (yc ya : Fin 1024 → EReal) (wo : Fin 1024 → Fin 1024 → EReal) (k : Fin 2048) : EReal :=
  if h : k.val < 1024 then gate x (fun j => g (lo j)) yc wo ⟨k.val, h⟩ else gate x (fun j => g (hi j)) ya wo ⟨k.val - 1024, by omega⟩

theorem gates_lo (x : Fin 1024 → EReal) (g : Fin 2048 → EReal) (yc ya : Fin 1024 → EReal) (wo : Fin 1024 → Fin 1024 → EReal) (k : Fin 1024) :
    gates x g yc ya wo (lo k) = gate x (fun j => g (lo j)) yc wo k := dif_pos k.isLt
theorem gates_hi (x : Fin 1024 → EReal) (g : Fin 2048 → EReal) (yc ya : Fin 1024 → EReal) (wo : Fin 1024 → Fin 1024 → EReal) (k : Fin 1024) :
    gates x g yc ya wo (hi k) = gate x (fun j => g (hi j)) ya wo k :=
  (dif_neg (show ¬ 1024 + k.val < 1024 by omega)).trans (congrArg (gate x (fun j => g (hi j)) ya wo) (Fin.ext (show 1024 + k.val - 1024 = k.val by omega)))

/-- The place `d` of the head of 128 columns in which column `k` lies, and a row summed over that head. -/
def inHead (k : Fin 512) (d : Fin 128) : Fin 512 := ⟨k.val / 128 * 128 + d.val, by omega⟩
def headSum (v : Fin 512 → EReal) (k : Fin 512) : EReal := ∑ d, v (inHead k d)

/-! ## The operations of a tile -/

open Cert.MixBackIdeal Cert.MixBackIdeal.Gen

variable (x : Vec Ideal S512x1024 .f32) (g : Vec Ideal S512x2048 .f32) (yc ya : Vec Ideal S512x1024 .f32) (a : Vec Ideal S512x512 .f32)
  (wc : Vec Ideal S1024x1024 .bf16) (wa : Vec Ideal S1024x512 .bf16) (wo : Vec Ideal S1024x1024 .bf16) (r : Fin 512)

abbrev gLo (g : Vec Ideal S512x2048 .f32) (r : Fin 512) : Fin 1024 → EReal := fun k => g (ix2 r (lo k))
abbrev gHi (g : Vec Ideal S512x2048 .f32) (r : Fin 512) : Fin 1024 → EReal := fun k => g (ix2 r (hi k))

theorem back_apply (k : Fin 1024) : k0_pay4 (F := Ideal) x wo (ix2 r k) = back (row x r) (row wo) k :=
  (Ideal.matmul_transposedRhs_apply none (k0_pay3 (F := Ideal) x) wo (constant S512x1024 .f32 0x00000000#32) r k).trans
    ((congrArg (· + _) zero_bits).trans (zero_add _))

theorem mixture_apply (k : Fin 1024) : k0_pay18 (F := Ideal) x g yc ya a wc wa wo (ix2 r k) = back (row x r) (row wo) k := by
  unfold k0_pay18
  rw [ld_whole x off_zero, ld_whole wo off_zero]
  exact back_apply x wo r k

theorem conv_gate (k : Fin 1024) : k0_pay19 (F := Ideal) x g yc ya a wc wa wo (ix2 r k) = logi (gLo g r k) :=
  (Cert.Fwd.logi_eq _).trans (congrArg logi (ld_lo g _ r k))
theorem attn_gate (k : Fin 1024) : k0_pay20 (F := Ideal) x g yc ya a wc wa wo (ix2 r k) = logi (gHi g r k) :=
  (Cert.Fwd.logi_eq _).trans (congrArg logi (ld_hi g _ r k))

theorem conv_path (k : Fin 1024) : k0_pay10 (F := Ideal) (k0_pay18 x g yc ya a wc wa wo) (k0_pay19 x g yc ya a wc wa wo) (ix2 r k) = path (row x r) (gLo g r) (row wo) k :=
  congrArg₂ (· * ·) (mixture_apply x g yc ya a wc wa wo r k) (conv_gate x g yc ya a wc wa wo r k)
theorem attn_path (k : Fin 1024) : k0_pay11 (F := Ideal) (k0_pay18 x g yc ya a wc wa wo) (k0_pay20 x g yc ya a wc wa wo) (ix2 r k) = path (row x r) (gHi g r) (row wo) k :=
  congrArg₂ (· * ·) (mixture_apply x g yc ya a wc wa wo r k) (attn_gate x g yc ya a wc wa wo r k)

theorem heads_apply (k : Fin 512) : k0_pay13 (F := Ideal) (k0_pay18 x g yc ya a wc wa wo) (k0_pay20 x g yc ya a wc wa wo) wa (ix2 r k)
    = heads (path (row x r) (gHi g r) (row wo)) (row wa) k :=
  (Ideal.matmul_plain_apply none (k0_pay11 (F := Ideal) (k0_pay18 x g yc ya a wc wa wo) (k0_pay20 x g yc ya a wc wa wo)) wa (constant S512x512 .f32 0x00000000#32) r k).trans
    ((congrArg (· + _) zero_bits).trans ((zero_add _).trans (Finset.sum_congr rfl fun j _ => congrArg (· * wa (ix2 j k)) (attn_path x g yc ya a wc wa wo r j))))

/-- A row's sum over 128 columns from column `q` on, spread over 128 columns. -/
theorem spread_sum (v : FVec Ideal S512x512 .f32) (q : ℕ) (hq : q + 128 ≤ 512) (hs hr hφ hacc h1 h2 h3) (r : Fin 512) (k : Fin 128) :
    broadcastTo S512x128 (shapeCast S512x1 (shapeCast S512x1 (multiReduction (F := Ideal) (φ := .f32) .add [1] S512
      (extractStridedSlice S512x128 ![0, q] v hs) 0x00000000#32 hr hφ hacc) h1) h2) h3 (ix2 r k) = ∑ d : Fin 128, v (ix2 r ⟨q + d.val, by omega⟩) := by
  rw [shapeCast_self]
  refine (broadcastTo_apply _ h3 (ix2 r k) (ix2 r 0) (fun ax => match ax with | ⟨0, _⟩ => rfl | ⟨1, _⟩ => rfl)).trans ?_
  rw [shapeCast_a_a1_apply, multiReduction_add_apply]
  refine (Ideal.reduceAdd_r2_a1 hr _ (ix1 r)).trans (Finset.sum_congr rfl fun d _ => congrArg v (funext fun ax => Fin.ext (match ax with
    | ⟨0, _⟩ => by show 0 + r.val = r.val; omega
    | ⟨1, _⟩ => rfl)))

/-! ## What a grid point writes -/

theorem attn_gate_piece (k : Fin 1024) : k0_pay9 (F := Ideal) (k0_pay20 x g yc ya a wc wa wo) (k0_pay8 x wo (View.ld g r0_3) ya) (Scalar.ofBits .f32 0x3F800000#32) (ix2 r k)
    = gates (row x r) (row g r) (row yc r) (row ya r) (row wo) (hi k) := by
  rw [gates_hi]
  exact .trans (congrArg₂ (fun b s => b * ya (ix2 r k) * s * (one - s)) (back_apply x wo r k) (attn_gate x g yc ya a wc wa wo r k)) (mul_assoc _ _ _)

theorem conv_gate_piece (k : Fin 1024) : k0_pay7 (F := Ideal) x wo (View.ld g r0_2) yc (ix2 r k) = gates (row x r) (row g r) (row yc r) (row ya r) (row wo) (lo k) := by
  rw [gates_lo]
  exact .trans (congrArg₂ (fun b s => b * yc (ix2 r k) * s * (one - s)) (back_apply x wo r k) (conv_gate x g yc ya (fun _ => 0) wo (fun _ => 0) wo r k)) (mul_assoc _ _ _)

theorem gates_tile (k : Fin 2048) : out0_8 (F := Ideal) x g yc ya a wc wa wo (ix2 r k) = gates (row x r) (row g r) (row yc r) (row ya r) (row wo) k := by
  unfold out0_8
  rw [ld_whole x off_zero, ld_whole yc off_zero, ld_whole ya off_zero, ld_whole wo off_zero]
  refine View.canon_eq_of_allAt _ _ _ (cover0_8 _ _ _) (View.allAt_cons_unit _ _ _ _ _ (fun j hj => ?_)
    (View.allAt_cons_unit _ _ _ _ _ (fun j hj => ?_) (View.allAt_nil _ _)))
  · obtain rfl : r = j 0 := Fin.ext ((hj 0).trans (Nat.zero_add _))
    obtain rfl : k = hi (j 1) := Fin.ext (hj 1)
    exact (congrArg (k0_pay9 (F := Ideal) _ _ _) (eq_ix2 j)).trans (attn_gate_piece x g yc ya a wc wa wo (j 0) (j 1))
  · obtain rfl : r = j 0 := Fin.ext ((hj 0).trans (Nat.zero_add _))
    obtain rfl : k = lo (j 1) := Fin.ext ((hj 1).trans (Nat.zero_add _))
    exact (congrArg (k0_pay7 (F := Ideal) _ _ _ _) (eq_ix2 j)).trans (conv_gate_piece x g yc ya wo (j 0) (j 1))

theorem conv_tile (k : Fin 1024) : out0_9 (F := Ideal) x g yc ya a wc wa wo (ix2 r k) = path (row x r) (gLo g r) (row wo) k := by
  unfold out0_9
  rw [View.canon_unit_zero off_zero]
  exact conv_path x g yc ya a wc wa wo r k

theorem attn_tile (k : Fin 1024) : out0_10 (F := Ideal) x g yc ya a wc wa wo (ix2 r k) = path (row x r) (gHi g r) (row wo) k := by
  unfold out0_10
  rw [View.canon_unit_zero off_zero]
  exact attn_path x g yc ya a wc wa wo r k

theorem kept_tile (k : Fin 1024) : out0_11 (F := Ideal) x g yc ya a wc wa wo (ix2 r k) = x (ix2 r k) := by
  unfold out0_11
  rw [View.canon_unit_zero off_zero, ld_whole x off_zero]
  rfl

theorem z_tile (k : Fin 1024) : out0_12 (F := Ideal) x g yc ya a wc wa wo (ix2 r k) = back (path (row x r) (gLo g r) (row wo)) (row wc) k := by
  unfold out0_12
  rw [View.canon_unit_zero off_zero, ld_whole wc off_zero]
  exact (Ideal.matmul_transposedRhs_apply none (k0_pay10 (F := Ideal) (k0_pay18 x g yc ya a wc wa wo) (k0_pay19 x g yc ya a wc wa wo)) wc (constant S512x1024 .f32 0x00000000#32) r k).trans
    ((congrArg (· + _) zero_bits).trans ((zero_add _).trans (Finset.sum_congr rfl fun j _ => congrArg (· * wc (ix2 k j)) (conv_path x g yc ya a wc wa wo r j))))

theorem heads_tile (k : Fin 512) : out0_13 (F := Ideal) x g yc ya a wc wa wo (ix2 r k) = heads (path (row x r) (gHi g r) (row wo)) (row wa) k := by
  unfold out0_13
  rw [View.canon_unit_zero off_zero, ld_whole wa off_zero]
  exact heads_apply x g yc ya a wc wa wo r k

/-- The gradient of the attention's output times that output. -/
def weighed (x : Fin 1024 → EReal) (g : Fin 1024 → EReal) (wo : Fin 1024 → Fin 1024 → EReal) (wa : Fin 1024 → Fin 512 → EReal) (a : Fin 512 → EReal) (k : Fin 512) : EReal :=
  heads (path x g wo) wa k * a k

theorem weighed_apply (k : Fin 512) : k0_pay15 (F := Ideal) (k0_pay18 x g yc ya a wc wa wo) (k0_pay20 x g yc ya a wc wa wo) wa a (ix2 r k)
    = weighed (row x r) (gHi g r) (row wo) (row wa) (row a r) k :=
  congrArg (· * a (ix2 r k)) (heads_apply x g yc ya a wc wa wo r k)

/-- One of the four pieces, at a column that lies in it. -/
theorem delta_piece (q : ℕ) (hq : q + 128 ≤ 512) (hq' : q / 128 * 128 = q) (hs hr hφ hacc h1 h2 h3) (d : Fin 128) (k : Fin 512) (hk : k.val = q + d.val) :
    broadcastTo S512x128 (shapeCast S512x1 (shapeCast S512x1 (multiReduction (F := Ideal) (φ := .f32) .add [1] S512
      (extractStridedSlice S512x128 ![0, q] (k0_pay15 (F := Ideal) (k0_pay18 x g yc ya a wc wa wo) (k0_pay20 x g yc ya a wc wa wo) wa a) hs) 0x00000000#32 hr hφ hacc) h1) h2) h3 (ix2 r d)
      = headSum (weighed (row x r) (gHi g r) (row wo) (row wa) (row a r)) k := by
  refine (spread_sum _ q hq hs hr hφ hacc h1 h2 h3 r d).trans (Finset.sum_congr rfl fun e _ => ?_)
  rw [weighed_apply]
  exact congrArg _ (Fin.ext (by show q + e.val = k.val / 128 * 128 + e.val; omega))

theorem delta_tile (k : Fin 512) : out0_14 (F := Ideal) x g yc ya a wc wa wo (ix2 r k)
    = headSum (weighed (row x r) (gHi g r) (row wo) (row wa) (row a r)) k := by
  unfold out0_14 k0_pay21
  rw [ld_whole wa off_zero, ld_whole a off_zero]
  refine View.canon_eq_of_allAt _ _ _ (cover0_14 _ _ _ _ _) (View.allAt_cons_unit _ _ _ _ _ (fun j hj => ?_)
    (View.allAt_cons_unit _ _ _ _ _ (fun j hj => ?_) (View.allAt_cons_unit _ _ _ _ _ (fun j hj => ?_)
      (View.allAt_cons_unit _ _ _ _ _ (fun j hj => ?_) (View.allAt_nil _ _)))))
  · obtain rfl : r = j 0 := Fin.ext ((hj 0).trans (Nat.zero_add _))
    exact (congrArg (k0_pay2 (F := Ideal) _) (eq_ix2 j)).trans (delta_piece x g yc ya a wc wa wo (j 0) 384 (by omega) rfl slices_S512x512_o0_384_S512x128 reduces_S512x128_S512 (.inl rfl) rfl shapeCasts_S512_S512x1 shapeCasts_S512x1_S512x1 broadcasts_S512x1_S512x128 (j 1) k (hj 1))
  · obtain rfl : r = j 0 := Fin.ext ((hj 0).trans (Nat.zero_add _))
    exact (congrArg (k0_pay1 (F := Ideal) _) (eq_ix2 j)).trans (delta_piece x g yc ya a wc wa wo (j 0) 256 (by omega) rfl slices_S512x512_o0_256_S512x128 reduces_S512x128_S512 (.inl rfl) rfl shapeCasts_S512_S512x1 shapeCasts_S512x1_S512x1 broadcasts_S512x1_S512x128 (j 1) k (hj 1))
  · obtain rfl : r = j 0 := Fin.ext ((hj 0).trans (Nat.zero_add _))
    exact (congrArg (k0_pay17 (F := Ideal) _ _ _ _) (eq_ix2 j)).trans (delta_piece x g yc ya a wc wa wo (j 0) 128 (by omega) rfl slices_S512x512_o0_128_S512x128 reduces_S512x128_S512 (.inl rfl) rfl shapeCasts_S512_S512x1 shapeCasts_S512x1_S512x1 broadcasts_S512x1_S512x128 (j 1) k (hj 1))
  · obtain rfl : r = j 0 := Fin.ext ((hj 0).trans (Nat.zero_add _))
    exact (congrArg (k0_pay16 (F := Ideal) _ _ _ _) (eq_ix2 j)).trans (delta_piece x g yc ya a wc wa wo (j 0) 0 (by omega) rfl slices_S512x512_o0_0_S512x128 reduces_S512x128_S512 (.inl rfl) rfl shapeCasts_S512_S512x1 shapeCasts_S512x1_S512x1 broadcasts_S512x1_S512x128 (j 1) k (hj 1))

end Cert.MixerBack

end
-- ==== Proof.MixBackValue.lean ====
/-
  The mixer's output backwards: the kernel's arrays after the run are the reference's.
-/
module

public import proofs.«01_k».proof.Proof.MixBackTile
public import proofs.«01_k».proof.Proof.MixValue
public import proofs.«01_k».proof.Proof.Gen.MixBackRefIdeal.Run
public import Idealize.ShloMosaic.Lib.Pipeline.ValueKit.Geometry

@[expose] public section

noncomputable section

namespace Cert.MixerBack

open Idealize.ShloMosaic hiding ix1 ix2 ix3 eq_ix2 eq_ix3
open Idealize.ShloMosaic.TcCoe Idealize.ShloMosaic.ValueIdx Idealize.SL.Sem
open Cert.Ffn (one logi zero_bits)
open Cert.Rms (rowAt place stay)
open Cert.Mixer (lo hi refOnes refGate refLo refHi refOnes_apply refGate_apply refLo_apply refHi_apply)

/-! ## The reference's arrays -/

section
open Cert.MixBackRefIdeal Cert.MixBackRefIdeal.Gen

variable (x : FVec Ideal S4096x1024 .f32) (g : FVec Ideal S4096x2048 .f32) (yc ya : FVec Ideal S4096x1024 .f32) (a : FVec Ideal S4096x512 .f32)
  (wa : FVec Ideal S1024x512 .bf16) (wo : FVec Ideal S1024x1024 .bf16) (h : FVec Ideal S4096x1024 .f32) (r : Fin 4096)

def refBack (v : FVec Ideal S4096x1024 .f32) (w : FVec Ideal S1024x1024 .bf16) : FVec Ideal S4096x1024 .f32 :=
  Host.dotGeneral dot_S4096x1024_S1024x1024_S4096x1024_1_0_0_1_n_n none v (transpose S1024x1024 [1, 0] (extf .f32 w bitsLt_bf16_f32) transposes_S1024x1024_S1024x1024_1_0)
def refPath : FVec Ideal S4096x1024 .f32 := mulf (refBack x wo) (refGate h)
def refSlope (y : FVec Ideal S4096x1024 .f32) : FVec Ideal S4096x1024 .f32 :=
  mulf (mulf (refBack x wo) y) (mulf (refGate h) (subf refOnes (refGate h)))
def refGates : FVec Ideal S4096x2048 .f32 :=
  concatenate S4096x2048 1 [⟨S4096x1024, refSlope x wo (refLo g) yc⟩, ⟨S4096x1024, refSlope x wo (refHi g) ya⟩] concatenates_S4096x1024_S4096x1024_S4096x2048_d1
def refHeads (v : FVec Ideal S4096x1024 .f32) : FVec Ideal S4096x512 .f32 :=
  Host.dotGeneral dot_S4096x1024_S1024x512_S4096x512_1_0_0_1_n_n none v (extf .f32 wa bitsLt_bf16_f32)
def refHeadSum (v : FVec Ideal S4096x512 .f32) : FVec Ideal S4096x512 .f32 :=
  shapeCast _ (broadcastInDim S4096x4x128 ![0, 1, 2] bcast_S4096x4x1_S4096x4x128_0_1_2 (broadcastInDim S4096x4x1 ![0, 1] bcast_S4096x4_S4096x4x1_0_1
    (Host.reduceAdd (shapeCast _ v shapeCasts_S4096x512_S4096x4x128) (constant S_ .f32 0x00000000#32) reducesTo_S4096x4x128_S4096x4_d2 h_S_)))
    shapeCasts_S4096x4x128_S4096x512
def refDelta : FVec Ideal S4096x512 .f32 := refHeadSum (mulf (refHeads wa (refPath x wo (refHi g))) a)

theorem refBack_apply (v : FVec Ideal S4096x1024 .f32) (w : FVec Ideal S1024x1024 .bf16) (k : Fin 1024) : refBack v w (ix2 r k) = back (row v r) (row w) k :=
  (StackMember.dotGeneral_plain_apply none _ _ r k).trans (Finset.sum_congr rfl fun j _ => congrArg (v (ix2 r j) * ·)
    (transpose_apply [1, 0] _ _ (ix2 j k) (ix2 k j) (fun b => match b with | 0 => rfl | 1 => rfl)))

theorem refHeads_apply (v : FVec Ideal S4096x1024 .f32) (k : Fin 512) : refHeads wa v (ix2 r k) = heads (row v r) (row wa) k :=
  StackMember.dotGeneral_plain_apply none _ _ r k

theorem refPath_row : row (refPath x wo h) r = path (row x r) (row h r) (row wo) :=
  funext fun k => congrArg₂ (· * ·) (refBack_apply r x wo k) (refGate_apply h _)

theorem refSlope_apply (y : FVec Ideal S4096x1024 .f32) (k : Fin 1024) : refSlope x wo h y (ix2 r k) = gate (row x r) (row h r) (row y r) (row wo) k := by
  refine congrArg₂ (fun b s => b * y (ix2 r k) * s) (refBack_apply r x wo k) ?_
  show refGate h (ix2 r k) * (refOnes (ix2 r k) - refGate h (ix2 r k)) = _
  rw [refOnes_apply, refGate_apply]

theorem refLo_row : row (refLo g) r = fun k => g (ix2 r (lo k)) := funext fun k => refLo_apply g r k
theorem refHi_row : row (refHi g) r = fun k => g (ix2 r (hi k)) := funext fun k => refHi_apply g r k

theorem refGates_apply (k : Fin 2048) : refGates x g yc ya wo (ix2 r k) = gates (row x r) (row g r) (row yc r) (row ya r) (row wo) k := by
  by_cases hk : k.val < 1024
  · refine (concatenate_pair_apply_left (t := S4096x2048) 1 _ _ concatenates_S4096x1024_S4096x1024_S4096x2048_d1 (ix2 r k) rfl (ix2 r ⟨k.val, hk⟩)
      (fun b => match b with | ⟨0, _⟩ => rfl | ⟨1, _⟩ => rfl)).trans ((refSlope_apply x wo (refLo g) r yc ⟨k.val, hk⟩).trans ?_)
    rw [refLo_row]
    exact (gates_lo (row x r) (row g r) (row yc r) (row ya r) (row wo) ⟨k.val, hk⟩).symm
  · have h1 : k.val - 1024 < 1024 := by omega
    have hk' : k = hi ⟨k.val - 1024, h1⟩ := Fin.ext (show k.val = 1024 + (k.val - 1024) by omega)
    refine (concatenate_pair_apply_right (t := S4096x2048) 1 _ _ concatenates_S4096x1024_S4096x1024_S4096x2048_d1 (ix2 r k) rfl rfl (ix2 r ⟨k.val - 1024, h1⟩)
      (fun b => match b with | ⟨0, _⟩ => fun _ => rfl | ⟨1, _⟩ => fun hb => absurd rfl hb) (show k.val - 1024 + 1024 = k.val by omega)).trans
      ((refSlope_apply x wo (refHi g) r ya ⟨k.val - 1024, h1⟩).trans ?_)
    rw [refHi_row]
    exact ((congrArg (gates (row x r) (row g r) (row yc r) (row ya r) (row wo)) hk').trans (gates_hi (row x r) (row g r) (row yc r) (row ya r) (row wo) ⟨k.val - 1024, h1⟩)).symm

theorem refHeadSum_apply (v : FVec Ideal S4096x512 .f32) (k : Fin 512) : refHeadSum v (ix2 r k) = headSum (row v r) k := by
  have hq : k.val / 128 < 4 := by omega
  have hd : k.val % 128 < 128 := by omega
  unfold refHeadSum
  refine (shapeCast_apply _ _ (ix2 r k) (ix3 r (⟨k.val / 128, hq⟩ : Fin 4) (⟨k.val % 128, hd⟩ : Fin 128)) ?_).trans ?_
  · rw [Shape.rowMajor_val_three, Shape.rowMajor_val_two]
    show (r.val * 4 + k.val / 128) * 128 + k.val % 128 = r.val * 512 + k.val
    omega
  refine (broadcastInDim_apply ![0, 1, 2] _ _ (ix3 r (⟨k.val / 128, hq⟩ : Fin 4) (⟨k.val % 128, hd⟩ : Fin 128)) (ix3 r (⟨k.val / 128, hq⟩ : Fin 4) (0 : Fin 1)) (fun b => match b with | 0 => rfl | 1 => rfl | 2 => rfl)).trans ?_
  refine (broadcastInDim_apply ![0, 1] _ _ (ix3 r (⟨k.val / 128, hq⟩ : Fin 4) (0 : Fin 1)) (ix2 r (⟨k.val / 128, hq⟩ : Fin 4)) (fun b => match b with | 0 => rfl | 1 => rfl)).trans ?_
  rw [Host.reduceAdd_apply]
  refine (Ideal.hostReduceAdd_r3_a2 _ _ _ _).trans ((congrArg (· + _) zero_bits).trans ((zero_add _).trans (Finset.sum_congr rfl fun d _ => ?_)))
  refine shapeCast_apply v _ (ix3 r (⟨k.val / 128, hq⟩ : Fin 4) d) (ix2 r (inHead k d)) ?_
  rw [Shape.rowMajor_val_three, Shape.rowMajor_val_two]
  show r.val * 512 + (k.val / 128 * 128 + d.val) = (r.val * 4 + k.val / 128) * 128 + d.val
  omega

theorem refDelta_apply (k : Fin 512) : refDelta x g a wa wo (ix2 r k)
    = headSum (weighed (row x r) (fun j => g (ix2 r (hi j))) (row wo) (row wa) (row a r)) k := by
  unfold refDelta
  rw [refHeadSum_apply]
  refine congrArg (fun v => headSum v k) (funext fun j => congrArg (· * a (ix2 r j)) ?_)
  rw [refHeads_apply, refPath_row, refHi_row]
end

/-! ## The arrays after the run -/

open Cert.MixBackIdeal Cert.MixBackIdeal.Gen

/-- At grid point t the windows over rows stand at row block t, the weights' over their whole arrays. -/
theorem mixb_at : ∀ t : Fin cfg0.N, (win0_0.index t = ![t.val, 0] ∧ win0_1.index t = ![t.val, 0] ∧ win0_2.index t = ![t.val, 0] ∧ win0_3.index t = ![t.val, 0] ∧ win0_4.index t = ![t.val, 0])
      ∧ (win0_5.index t = ![0, 0] ∧ win0_6.index t = ![0, 0] ∧ win0_7.index t = ![0, 0])
      ∧ (win0_8.index t = ![t.val, 0] ∧ win0_9.index t = ![t.val, 0] ∧ win0_10.index t = ![t.val, 0] ∧ win0_11.index t = ![t.val, 0])
      ∧ (win0_12.index t = ![t.val, 0] ∧ win0_13.index t = ![t.val, 0] ∧ win0_14.index t = ![t.val, 0]) :=
  (by decide +kernel : ∀ t : Fin grid0.N, (win0_0.index t = ![t.val, 0] ∧ win0_1.index t = ![t.val, 0] ∧ win0_2.index t = ![t.val, 0] ∧ win0_3.index t = ![t.val, 0] ∧ win0_4.index t = ![t.val, 0])
      ∧ (win0_5.index t = ![0, 0] ∧ win0_6.index t = ![0, 0] ∧ win0_7.index t = ![0, 0])
      ∧ (win0_8.index t = ![t.val, 0] ∧ win0_9.index t = ![t.val, 0] ∧ win0_10.index t = ![t.val, 0] ∧ win0_11.index t = ![t.val, 0])
      ∧ (win0_12.index t = ![t.val, 0] ∧ win0_13.index t = ![t.val, 0] ∧ win0_14.index t = ![t.val, 0]))

variable (m : (ℓ : Loc nD τ sig) → Buf (Elt Ideal) ℓ) (c : Dev nD)

abbrev mixb_x : FVec Ideal S4096x1024 .f32 := m ((c.tc : Thread nD τ).loc main_arg0)
abbrev mixb_g : FVec Ideal S4096x2048 .f32 := m ((c.tc : Thread nD τ).loc main_arg1)
abbrev mixb_yc : FVec Ideal S4096x1024 .f32 := m ((c.tc : Thread nD τ).loc main_arg2)
abbrev mixb_ya : FVec Ideal S4096x1024 .f32 := m ((c.tc : Thread nD τ).loc main_arg3)
abbrev mixb_a : FVec Ideal S4096x512 .f32 := m ((c.tc : Thread nD τ).loc main_arg4)
abbrev mixb_wc : FVec Ideal S1024x1024 .bf16 := m ((c.tc : Thread nD τ).loc main_arg5)
abbrev mixb_wa : FVec Ideal S1024x512 .bf16 := m ((c.tc : Thread nD τ).loc main_arg6)
abbrev mixb_wo : FVec Ideal S1024x1024 .bf16 := m ((c.tc : Thread nD τ).loc main_arg7)

section
variable (t : Fin cfg0.N) (r : Fin 512)

/-- The blocks a grid point reads; each row of them is a row of its array. -/
abbrev blk_x : FVec Ideal S512x1024 .f32 := iblk m c 0 t
abbrev blk_g : FVec Ideal S512x2048 .f32 := iblk m c 1 t
abbrev blk_yc : FVec Ideal S512x1024 .f32 := iblk m c 2 t
abbrev blk_ya : FVec Ideal S512x1024 .f32 := iblk m c 3 t
abbrev blk_a : FVec Ideal S512x512 .f32 := iblk m c 4 t
abbrev blk_wc : FVec Ideal S1024x1024 .bf16 := iblk m c 5 t
abbrev blk_wa : FVec Ideal S1024x512 .bf16 := iblk m c 6 t
abbrev blk_wo : FVec Ideal S1024x1024 .bf16 := iblk m c 7 t

theorem row_x : row (blk_x m c t) r = row (mixb_x m c) (rowAt t r) :=
  funext fun k => congrArg (mixb_x m c) (place (w := 1024) (show t.val < 8 from t.isLt) (mixb_at t).1.1 r k _ rfl rfl)
theorem row_g : row (blk_g m c t) r = row (mixb_g m c) (rowAt t r) :=
  funext fun k => congrArg (mixb_g m c) (place (w := 2048) (show t.val < 8 from t.isLt) (mixb_at t).1.2.1 r k _ rfl rfl)
theorem row_yc : row (blk_yc m c t) r = row (mixb_yc m c) (rowAt t r) :=
  funext fun k => congrArg (mixb_yc m c) (place (w := 1024) (show t.val < 8 from t.isLt) (mixb_at t).1.2.2.1 r k _ rfl rfl)
theorem row_ya : row (blk_ya m c t) r = row (mixb_ya m c) (rowAt t r) :=
  funext fun k => congrArg (mixb_ya m c) (place (w := 1024) (show t.val < 8 from t.isLt) (mixb_at t).1.2.2.2.1 r k _ rfl rfl)
theorem row_a : row (blk_a m c t) r = row (mixb_a m c) (rowAt t r) :=
  funext fun k => congrArg (mixb_a m c) (place (w := 512) (show t.val < 8 from t.isLt) (mixb_at t).1.2.2.2.2 r k _ rfl rfl)
theorem rows_wc : row (blk_wc m c t) = row (mixb_wc m c) :=
  funext fun j => funext fun k => congrArg (mixb_wc m c) (stay (w := 1024) (mixb_at t).2.1.1 j k _ rfl rfl)
theorem rows_wa : row (blk_wa m c t) = row (mixb_wa m c) :=
  funext fun j => funext fun k => congrArg (mixb_wa m c) (stay (w := 512) (mixb_at t).2.1.2.1 j k _ rfl rfl)
theorem rows_wo : row (blk_wo m c t) = row (mixb_wo m c) :=
  funext fun j => funext fun k => congrArg (mixb_wo m c) (stay (w := 1024) (mixb_at t).2.1.2.2 j k _ rfl rfl)

/-- A tile's paths are the reference's rows. -/
theorem path_lo : path (row (blk_x m c t) r) (gLo (blk_g m c t) r) (row (blk_wo m c t)) = row (refPath (mixb_x m c) (mixb_wo m c) (refLo (mixb_g m c))) (rowAt t r) := by
  rw [refPath_row, refLo_row, row_x, rows_wo]
  exact congrArg (fun v => path _ v _) (funext fun k => congrFun (row_g m c t r) (lo k))
theorem path_hi : path (row (blk_x m c t) r) (gHi (blk_g m c t) r) (row (blk_wo m c t)) = row (refPath (mixb_x m c) (mixb_wo m c) (refHi (mixb_g m c))) (rowAt t r) := by
  rw [refPath_row, refHi_row, row_x, rows_wo]
  exact congrArg (fun v => path _ v _) (funext fun k => congrFun (row_g m c t r) (hi k))

/-- A tile's entries are the reference's. -/
theorem gates_row (k : Fin 2048) : gates (row (blk_x m c t) r) (row (blk_g m c t) r) (row (blk_yc m c t) r) (row (blk_ya m c t) r) (row (blk_wo m c t)) k
    = refGates (mixb_x m c) (mixb_g m c) (mixb_yc m c) (mixb_ya m c) (mixb_wo m c) (ix2 (rowAt t r) k) := by
  rw [row_x, row_g, row_yc, row_ya, rows_wo]
  exact (refGates_apply _ _ _ _ _ _ _).symm
theorem z_row (k : Fin 1024) : back (path (row (blk_x m c t) r) (gLo (blk_g m c t) r) (row (blk_wo m c t))) (row (blk_wc m c t)) k
    = refBack (refPath (mixb_x m c) (mixb_wo m c) (refLo (mixb_g m c))) (mixb_wc m c) (ix2 (rowAt t r) k) := by
  rw [path_lo, rows_wc]
  exact (refBack_apply _ _ _ _).symm
theorem heads_row (k : Fin 512) : heads (path (row (blk_x m c t) r) (gHi (blk_g m c t) r) (row (blk_wo m c t))) (row (blk_wa m c t)) k
    = refHeads (mixb_wa m c) (refPath (mixb_x m c) (mixb_wo m c) (refHi (mixb_g m c))) (ix2 (rowAt t r) k) := by
  rw [path_hi, rows_wa]
  exact (refHeads_apply _ _ _ _).symm
theorem delta_row (k : Fin 512) : headSum (weighed (row (blk_x m c t) r) (gHi (blk_g m c t) r) (row (blk_wo m c t)) (row (blk_wa m c t)) (row (blk_a m c t) r)) k
    = refDelta (mixb_x m c) (mixb_g m c) (mixb_a m c) (mixb_wa m c) (mixb_wo m c) (ix2 (rowAt t r) k) := by
  rw [row_x, row_a, rows_wa, rows_wo]
  exact (congrArg (fun v => headSum (weighed _ v _ _ _) k) (funext fun j => congrFun (row_g m c t r) (hi j))).trans (refDelta_apply _ _ _ _ _ _ _).symm
end

theorem mixb_gates : (dats m 0 c).arrAt 8 cfg0.N = (refGates (mixb_x m c) (mixb_g m c) (mixb_yc m c) (mixb_ya m c) (mixb_wo m c) : S4096x2048.Idx → EReal) :=
  (dats m 0 c).arrAt_eq_of_covers 8 _ (by decide +kernel) fun t _ y => by
    refine (congrFun (after0_8 m c t) _).trans ?_
    rw [place (w := 2048) (show t.val < 8 from t.isLt) (mixb_at t).2.2.1.1 (y 0) (y 1) (((cfg0.win 8).blk t).view.emb y) rfl rfl]
    refine (congrArg (out0_8 (F := Ideal) _ _ _ _ _ _ _ _) (eq_ix2 _)).trans ((gates_tile (blk_x m c t) (blk_g m c t) (blk_yc m c t) (blk_ya m c t) (blk_a m c t) (blk_wc m c t) (blk_wa m c t) (blk_wo m c t) (y 0) (y 1)).trans ?_)
    exact gates_row m c t (y 0) (y 1)

theorem mixb_conv : (dats m 0 c).arrAt 9 cfg0.N = (refPath (mixb_x m c) (mixb_wo m c) (refLo (mixb_g m c)) : S4096x1024.Idx → EReal) :=
  (dats m 0 c).arrAt_eq_of_covers 9 _ (by decide +kernel) fun t _ y => by
    refine (congrFun (after0_9 m c t) _).trans ?_
    rw [place (w := 1024) (show t.val < 8 from t.isLt) (mixb_at t).2.2.1.2.1 (y 0) (y 1) (((cfg0.win 9).blk t).view.emb y) rfl rfl]
    refine (congrArg (out0_9 (F := Ideal) _ _ _ _ _ _ _ _) (eq_ix2 _)).trans ((conv_tile (blk_x m c t) (blk_g m c t) (blk_yc m c t) (blk_ya m c t) (blk_a m c t) (blk_wc m c t) (blk_wa m c t) (blk_wo m c t) (y 0) (y 1)).trans ?_)
    exact congrFun (path_lo m c t (y 0)) (y 1)

theorem mixb_attn : (dats m 0 c).arrAt 10 cfg0.N = (refPath (mixb_x m c) (mixb_wo m c) (refHi (mixb_g m c)) : S4096x1024.Idx → EReal) :=
  (dats m 0 c).arrAt_eq_of_covers 10 _ (by decide +kernel) fun t _ y => by
    refine (congrFun (after0_10 m c t) _).trans ?_
    rw [place (w := 1024) (show t.val < 8 from t.isLt) (mixb_at t).2.2.1.2.2.1 (y 0) (y 1) (((cfg0.win 10).blk t).view.emb y) rfl rfl]
    refine (congrArg (out0_10 (F := Ideal) _ _ _ _ _ _ _ _) (eq_ix2 _)).trans ((attn_tile (blk_x m c t) (blk_g m c t) (blk_yc m c t) (blk_ya m c t) (blk_a m c t) (blk_wc m c t) (blk_wa m c t) (blk_wo m c t) (y 0) (y 1)).trans ?_)
    exact congrFun (path_hi m c t (y 0)) (y 1)

theorem mixb_kept : (dats m 0 c).arrAt 11 cfg0.N = (mixb_x m c : S4096x1024.Idx → EReal) :=
  (dats m 0 c).arrAt_eq_of_covers 11 _ (by decide +kernel) fun t _ y => by
    refine (congrFun (after0_11 m c t) _).trans ?_
    rw [place (w := 1024) (show t.val < 8 from t.isLt) (mixb_at t).2.2.1.2.2.2 (y 0) (y 1) (((cfg0.win 11).blk t).view.emb y) rfl rfl]
    refine (congrArg (out0_11 (F := Ideal) _ _ _ _ _ _ _ _) (eq_ix2 _)).trans ((kept_tile (blk_x m c t) (blk_g m c t) (blk_yc m c t) (blk_ya m c t) (blk_a m c t) (blk_wc m c t) (blk_wa m c t) (blk_wo m c t) (y 0) (y 1)).trans ?_)
    exact congrFun (row_x m c t (y 0)) (y 1)

theorem mixb_z : (dats m 0 c).arrAt 12 cfg0.N = refBack (refPath (mixb_x m c) (mixb_wo m c) (refLo (mixb_g m c))) (mixb_wc m c) :=
  (dats m 0 c).arrAt_eq_of_covers 12 _ (by decide +kernel) fun t _ y => by
    refine (congrFun (after0_12 m c t) _).trans ?_
    rw [place (w := 1024) (show t.val < 8 from t.isLt) (mixb_at t).2.2.2.1 (y 0) (y 1) (((cfg0.win 12).blk t).view.emb y) rfl rfl]
    refine (congrArg (out0_12 (F := Ideal) _ _ _ _ _ _ _ _) (eq_ix2 _)).trans ((z_tile (blk_x m c t) (blk_g m c t) (blk_yc m c t) (blk_ya m c t) (blk_a m c t) (blk_wc m c t) (blk_wa m c t) (blk_wo m c t) (y 0) (y 1)).trans ?_)
    exact z_row m c t (y 0) (y 1)

theorem mixb_heads : (dats m 0 c).arrAt 13 cfg0.N = (refHeads (mixb_wa m c) (refPath (mixb_x m c) (mixb_wo m c) (refHi (mixb_g m c))) : S4096x512.Idx → EReal) :=
  (dats m 0 c).arrAt_eq_of_covers 13 _ (by decide +kernel) fun t _ y => by
    refine (congrFun (after0_13 m c t) _).trans ?_
    rw [place (w := 512) (show t.val < 8 from t.isLt) (mixb_at t).2.2.2.2.1 (y 0) (y 1) (((cfg0.win 13).blk t).view.emb y) rfl rfl]
    refine (congrArg (out0_13 (F := Ideal) _ _ _ _ _ _ _ _) (eq_ix2 _)).trans ((heads_tile (blk_x m c t) (blk_g m c t) (blk_yc m c t) (blk_ya m c t) (blk_a m c t) (blk_wc m c t) (blk_wa m c t) (blk_wo m c t) (y 0) (y 1)).trans ?_)
    exact heads_row m c t (y 0) (y 1)

theorem mixb_delta : (dats m 0 c).arrAt 14 cfg0.N = refDelta (mixb_x m c) (mixb_g m c) (mixb_a m c) (mixb_wa m c) (mixb_wo m c) :=
  (dats m 0 c).arrAt_eq_of_covers 14 _ (by decide +kernel) fun t _ y => by
    refine (congrFun (after0_14 m c t) _).trans ?_
    rw [place (w := 512) (show t.val < 8 from t.isLt) (mixb_at t).2.2.2.2.2 (y 0) (y 1) (((cfg0.win 14).blk t).view.emb y) rfl rfl]
    refine (congrArg (out0_14 (F := Ideal) _ _ _ _ _ _ _ _) (eq_ix2 _)).trans ((delta_tile (blk_x m c t) (blk_g m c t) (blk_yc m c t) (blk_ya m c t) (blk_a m c t) (blk_wc m c t) (blk_wa m c t) (blk_wo m c t) (y 0) (y 1)).trans ?_)
    exact delta_row m c t (y 0) (y 1)

theorem mixb : Cert.algebraic_MixBackIdeal_MixBackRefIdeal := fun m g m' g' _ hm =>
  ⟨_, _, _, _, _, _, _, Value.run_blocks m g,
    (θ_run Cert.MixBackRefIdeal.defs _ _).mono
      (fun r h c => by
        obtain ⟨e0, e1, e2, e3, e4, e5, e6, e7⟩ := hm c
        obtain ⟨h0, h1, h2, h3, h4, h5, h6, hk⟩ := h c
        rw [e0, e1, e2, e3, e7] at h0
        rw [e0, e1, e7] at h1 h2
        rw [e0] at h3
        rw [e0, e1, e5, e7] at h4
        rw [e0, e1, e6, e7] at h5
        rw [e0, e1, e4, e6, e7] at h6
        exact ⟨h0.trans (mixb_gates m c).symm, h1.trans (mixb_conv m c).symm, h2.trans (mixb_attn m c).symm, h3.trans (mixb_kept m c).symm,
          h4.trans (mixb_z m c).symm, h5.trans (mixb_heads m c).symm, h6.trans (mixb_delta m c).symm, hk⟩)
      (Cert.MixBackRefIdeal.Value.run m' g')⟩

end Cert.MixerBack

end
-- ==== Proof.MergeValue.lean ====
/-
  The three groups' attention merged by their softmax denominators: the kernel's arrays after the run are the reference's.
-/
module

public import proofs.«01_k».proof.Proof.MixTile
public import proofs.«01_k».proof.Proof.Gen.MergeIdeal.Frame
public import proofs.«01_k».proof.Proof.Gen.MergeRefIdeal.Run
public import Idealize.ShloMosaic.Lib.Pipeline.Value
public import Idealize.ShloMosaic.Lib.Pipeline.ValueKit.Geometry
public import Idealize.ShloMosaic.Lib.Pipeline.ValueKit.Tiles

@[expose] public section

noncomputable section

namespace Cert.Merging

open Idealize.ShloMosaic hiding ix1 ix2 ix3 eq_ix2 eq_ix3
open Idealize.ShloMosaic.TcCoe Idealize.ShloMosaic.ValueIdx Idealize.SL.Sem
open Cert.Ffn (zero_bits off_zero)
open Cert.Rms (rowAt place)
open Cert.Mixer (ld_whole)

/-! ## Three logarithms of denominators -/

/-- The largest of three, each one's share of the denominator relative to it, their sum, the shares' average of three
    values, and the logarithm of the whole denominator. -/
def top (l : Fin 3 → EReal) : EReal := max (max (l 0) (l 1)) (l 2)
def share (l : Fin 3 → EReal) (i : Fin 3) : EReal := Ideal.exp (l i - top l)
def total (l : Fin 3 → EReal) : EReal := share l 0 + share l 1 + share l 2
def average (l o : Fin 3 → EReal) : EReal := Ideal.div (share l 0) (total l) * o 0 + Ideal.div (share l 1) (total l) * o 1 + Ideal.div (share l 2) (total l) * o 2
def whole (l : Fin 3 → EReal) : EReal := top l + Ideal.log (total l)

/-- The three arrays' entries at one place. -/
def three {s : Shape} (u v w : s.Idx → EReal) (j : s.Idx) : Fin 3 → EReal := ![u j, v j, w j]

/-- The word of minus infinity, and the largest of a finite family of three counted from it. -/
theorem low_bits : Ideal.ofBits .f32 0xFF800000#32 = ⊥ := by simp [Ideal.ofBits, Ideal.ieee]
theorem fold_three (l : Fin 3 → EReal) : (Finset.univ : Finset (Fin 3)).fold max ⊥ l = top l := by
  rw [show (Finset.univ : Finset (Fin 3)) = {0, 1, 2} from rfl]
  simp [top, max_assoc]

/-! ## The reference's arrays -/

section
open Cert.MergeRefIdeal Cert.MergeRefIdeal.Gen

def refLayer (u : FVec Ideal S4096x512 .f32) : FVec Ideal S1x4096x512 .f32 := broadcastInDim S1x4096x512 ![1, 2] bcast_S4096x512_S1x4096x512_1_2 u
def refLayers (u : FVec Ideal S4096x512 .f32) : FVec Ideal S3x4096x512 .f32 := broadcastInDim S3x4096x512 ![0, 1, 2] bcast_S1x4096x512_S3x4096x512_0_1_2 (refLayer u)
def refStack (u v w : FVec Ideal S4096x512 .f32) : FVec Ideal S3x4096x512 .f32 :=
  concatenate S3x4096x512 0 [⟨S1x4096x512, refLayer u⟩, ⟨S1x4096x512, refLayer v⟩, ⟨S1x4096x512, refLayer w⟩] concatenates_S1x4096x512_S1x4096x512_S1x4096x512_S3x4096x512_d0
def refTop (L : FVec Ideal S3x4096x512 .f32) : FVec Ideal S4096x512 .f32 :=
  Host.reduce FloatOps.maximumf L (constant S_ .f32 0xFF800000#32) reducesTo_S3x4096x512_S4096x512_d0 h_S_
def refTop' (L : FVec Ideal S3x4096x512 .f32) : FVec Ideal S4096x512 .f32 :=
  maximumf (broadcastInDim S4096x512 ![] bcast_S_S4096x512 (constant S_ .f32 0xFF800000#32)) (refTop L)
def refTotal (L : FVec Ideal S3x4096x512 .f32) : FVec Ideal S4096x512 .f32 :=
  Host.reduceAdd L (constant S_ .f32 0x00000000#32) reducesTo_S3x4096x512_S4096x512_d0 h_S_
def refShares (L : FVec Ideal S3x4096x512 .f32) (t : FVec Ideal S4096x512 .f32) : FVec Ideal S3x4096x512 .f32 := Host.exp (subf L (refLayers t))
def refAverage (L O : FVec Ideal S3x4096x512 .f32) : FVec Ideal S4096x512 .f32 :=
  refTotal (mulf (Host.divf (refShares L (refTop' L)) (refLayers (refTotal (refShares L (refTop' L))))) O)
def refWhole (L : FVec Ideal S3x4096x512 .f32) : FVec Ideal S4096x512 .f32 := addf (refTop L) (Host.log (refTotal (refShares L (refTop L))))

/-- The three entries of a stack above one place. -/
def above (L : FVec Ideal S3x4096x512 .f32) (r : Fin 4096) (k : Fin 512) : Fin 3 → EReal := fun i => L (ix3 i r k)

theorem refLayers_apply (u : FVec Ideal S4096x512 .f32) (i : Fin 3) (r : Fin 4096) (k : Fin 512) : refLayers u (ix3 i r k) = u (ix2 r k) :=
  (broadcastInDim_apply ![0, 1, 2] _ _ (ix3 i r k) (ix3 (0 : Fin 1) r k) (fun a => match a with | 0 => rfl | 1 => rfl | 2 => rfl)).trans
    (broadcastInDim_apply ![1, 2] _ _ (ix3 (0 : Fin 1) r k) (ix2 r k) (fun a => match a with | 0 => rfl | 1 => rfl))

theorem layer_at (u : FVec Ideal S4096x512 .f32) (i : Fin 3) (r : Fin 4096) (k : Fin 512) (n : ℕ) (v : EReal) (h : i.val = n → u (ix2 r k) = v) :
    PieceAt (t := S3x4096x512) 0 (ix3 i r k) v S1x4096x512 (refLayer u) n := fun hn _ q _ hq => by
  have h1 : r.val = (q 1).val := (hq 1 (by decide)).symm
  have h2 : k.val = (q 2).val := (hq 2 (by decide)).symm
  have hk : ∀ a : Fin 2, (ix2 r k a).val = if S4096x512.size a = 1 then 0 else (q ((![1, 2] : Fin 2 → Fin 3) a)).val := fun a => match a with | 0 => h1 | 1 => h2
  exact (broadcastInDim_apply ![1, 2] bcast_S4096x512_S1x4096x512_1_2 u q (ix2 r k) hk).trans (h hn)

theorem refStack_apply (u v w : FVec Ideal S4096x512 .f32) (r : Fin 4096) (k : Fin 512) : above (refStack u v w) r k = three u v w (ix2 r k) :=
  funext fun i => concatenate_unit_eq (t := S3x4096x512) 0 [⟨S1x4096x512, refLayer u⟩, ⟨S1x4096x512, refLayer v⟩, ⟨S1x4096x512, refLayer w⟩] concatenates_S1x4096x512_S1x4096x512_S1x4096x512_S3x4096x512_d0 (ix3 i r k) _ rfl
    ⟨layer_at u i r k 0 _ (fun h => by rw [show i = 0 from Fin.ext h]; rfl), layer_at v i r k 1 _ (fun h => by rw [show i = 1 from Fin.ext h]; rfl),
      layer_at w i r k 2 _ (fun h => by rw [show i = 2 from Fin.ext h]; rfl), trivial⟩

theorem refTop_apply (L : FVec Ideal S3x4096x512 .f32) (r : Fin 4096) (k : Fin 512) : refTop L (ix2 r k) = top (above L r k) := by
  have hr : S3x4096x512.Reduces [0] S4096x512 := by decide
  refine (Host.reduce_eq_fold_single FloatOps.maximumf L _ reducesTo_S3x4096x512_S4096x512_d0 hr h_S_ (ix2 r k)).trans ?_
  have hf : (L ∘ hr.lift (ix2 r k)) = above L r k := funext fun i => congrArg L (funext fun a => Fin.ext (match a with | 0 => rfl | 1 => rfl | 2 => rfl))
  refine Eq.trans ?_ (fold_three (above L r k))
  exact congrArg₂ (fun b f => Finset.fold max b f (Finset.univ : Finset (Fin 3))) low_bits hf

theorem max_low (u : FVec Ideal S4096x512 .f32) : maximumf (broadcastInDim S4096x512 ![] bcast_S_S4096x512 (constant (F := Ideal) S_ .f32 0xFF800000#32)) u = u :=
  funext fun j => (congrArg (fun b : EReal => max b (u j)) ((broadcastInDim_scalar_apply _ _ j).trans low_bits)).trans (max_eq_right bot_le)

theorem add_log (u v : FVec Ideal S4096x512 .f32) (j : S4096x512.Idx) (a b : EReal) (hu : u j = a) (hv : v j = b) : addf u (Host.log v) j = a + Ideal.log b := by
  subst hu hv; rfl

theorem refTop'_eq (L : FVec Ideal S3x4096x512 .f32) : refTop' L = refTop L := by
  unfold refTop'
  exact max_low _

theorem refTotal_apply (L : FVec Ideal S3x4096x512 .f32) (r : Fin 4096) (k : Fin 512) :
    refTotal L (ix2 r k) = above L r k 0 + above L r k 1 + above L r k 2 := by
  unfold refTotal
  rw [Host.reduceAdd_apply]
  refine (Ideal.hostReduceAdd_r3_a0 _ _ _ _).trans ((congrArg (· + _) zero_bits).trans ((zero_add _).trans ?_))
  exact Fin.sum_univ_three (above L r k)

theorem refShares_apply (L : FVec Ideal S3x4096x512 .f32) (r : Fin 4096) (k : Fin 512) : above (refShares L (refTop L)) r k = share (above L r k) :=
  funext fun i => congrArg (fun y => Ideal.exp (L (ix3 i r k) - y)) ((refLayers_apply _ i r k).trans (refTop_apply L r k))

theorem refSum_apply (L : FVec Ideal S3x4096x512 .f32) (r : Fin 4096) (k : Fin 512) : refTotal (refShares L (refTop L)) (ix2 r k) = total (above L r k) := by
  rw [refTotal_apply, refShares_apply]; rfl

theorem refAverage_apply (L O : FVec Ideal S3x4096x512 .f32) (r : Fin 4096) (k : Fin 512) : refAverage L O (ix2 r k) = average (above L r k) (above O r k) := by
  unfold refAverage
  rw [refTop'_eq, refTotal_apply]
  have e (i : Fin 3) : above (mulf (Host.divf (refShares L (refTop L)) (refLayers (refTotal (refShares L (refTop L))))) O) r k i
      = Ideal.div (share (above L r k) i) (total (above L r k)) * above O r k i :=
    congrArg (· * above O r k i) (congrArg₂ Ideal.div (congrFun (refShares_apply L r k) i) ((refLayers_apply _ i r k).trans (refSum_apply L r k)))
  rw [e, e, e]; rfl

theorem refWhole_apply (L : FVec Ideal S3x4096x512 .f32) (r : Fin 4096) (k : Fin 512) : refWhole L (ix2 r k) = whole (above L r k) := by
  unfold refWhole
  exact add_log _ _ _ _ _ (refTop_apply L r k) (refSum_apply L r k)
end

/-! ## What a grid point writes -/

open Cert.MergeIdeal Cert.MergeIdeal.Gen

theorem ld_tile (x : Vec Ideal S512x512 .f32) : View.ld x r0_0 = x := ld_whole x off_zero _

theorem average_tile (o0 l0 o1 l1 o2 l2 : Vec Ideal S512x512 .f32) (j : S512x512.Idx) :
    out0_6 (F := Ideal) o0 l0 o1 l1 o2 l2 j = average (three l0 l1 l2 j) (three o0 o1 o2 j) := by
  unfold out0_6
  rw [View.canon_unit_zero off_zero]
  simp only [ld_tile]
  rfl

theorem rounded_tile (o0 l0 o1 l1 o2 l2 : Vec Ideal S512x512 .f32) (j : S512x512.Idx) :
    out0_7 (F := Ideal) o0 l0 o1 l1 o2 l2 j = average (three l0 l1 l2 j) (three o0 o1 o2 j) := by
  unfold out0_7
  rw [View.canon_unit_zero off_zero]
  simp only [ld_tile]
  rfl

theorem whole_tile (o0 l0 o1 l1 o2 l2 : Vec Ideal S512x512 .f32) (j : S512x512.Idx) :
    out0_8 (F := Ideal) o0 l0 o1 l1 o2 l2 j = whole (three l0 l1 l2 j) := by
  unfold out0_8
  rw [View.canon_unit_zero off_zero]
  simp only [ld_tile]
  rfl

/-! ## The arrays after the run -/

/-- At grid point t every window stands at row block t. -/
theorem merge_at : ∀ t : Fin cfg0.N, (win0_0.index t = ![t.val, 0] ∧ win0_1.index t = ![t.val, 0] ∧ win0_2.index t = ![t.val, 0])
      ∧ (win0_3.index t = ![t.val, 0] ∧ win0_4.index t = ![t.val, 0] ∧ win0_5.index t = ![t.val, 0])
      ∧ (win0_6.index t = ![t.val, 0] ∧ win0_7.index t = ![t.val, 0] ∧ win0_8.index t = ![t.val, 0]) :=
  (by decide +kernel : ∀ t : Fin grid0.N, (win0_0.index t = ![t.val, 0] ∧ win0_1.index t = ![t.val, 0] ∧ win0_2.index t = ![t.val, 0])
      ∧ (win0_3.index t = ![t.val, 0] ∧ win0_4.index t = ![t.val, 0] ∧ win0_5.index t = ![t.val, 0])
      ∧ (win0_6.index t = ![t.val, 0] ∧ win0_7.index t = ![t.val, 0] ∧ win0_8.index t = ![t.val, 0]))

variable (m : (ℓ : Loc nD τ sig) → Buf (Elt Ideal) ℓ) (c : Dev nD)

abbrev merge_o0 : FVec Ideal S4096x512 .f32 := m ((c.tc : Thread nD τ).loc main_arg0)
abbrev merge_o1 : FVec Ideal S4096x512 .f32 := m ((c.tc : Thread nD τ).loc main_arg1)
abbrev merge_o2 : FVec Ideal S4096x512 .f32 := m ((c.tc : Thread nD τ).loc main_arg2)
abbrev merge_l0 : FVec Ideal S4096x512 .f32 := m ((c.tc : Thread nD τ).loc main_arg3)
abbrev merge_l1 : FVec Ideal S4096x512 .f32 := m ((c.tc : Thread nD τ).loc main_arg4)
abbrev merge_l2 : FVec Ideal S4096x512 .f32 := m ((c.tc : Thread nD τ).loc main_arg5)

section
variable (t : Fin cfg0.N) (r : Fin 512) (k : Fin 512)

/-- A tile's entries of the three outputs, and of the three logarithms, are the arrays'. -/
theorem merge_outs : three (s := S512x512) (iblk m c 0 t) (iblk m c 2 t) (iblk m c 4 t) (ix2 r k)
    = three (merge_o0 m c) (merge_o1 m c) (merge_o2 m c) (ix2 (rowAt t r) k) := by
  have ht : t.val < 8 := t.isLt
  have e0 : (iblk m c 0 t : Vec Ideal S512x512 .f32) (ix2 r k) = merge_o0 m c (ix2 (rowAt t r) k) := congrArg (merge_o0 m c) (place ht (merge_at t).1.1 r k _ rfl rfl)
  have e1 : (iblk m c 2 t : Vec Ideal S512x512 .f32) (ix2 r k) = merge_o1 m c (ix2 (rowAt t r) k) := congrArg (merge_o1 m c) (place ht (merge_at t).1.2.2 r k _ rfl rfl)
  have e2 : (iblk m c 4 t : Vec Ideal S512x512 .f32) (ix2 r k) = merge_o2 m c (ix2 (rowAt t r) k) := congrArg (merge_o2 m c) (place ht (merge_at t).2.1.2.1 r k _ rfl rfl)
  exact congr (congrArg₂ (fun x y z => (![x, y, z] : Fin 3 → EReal)) e0 e1) e2

theorem merge_logs : three (s := S512x512) (iblk m c 1 t) (iblk m c 3 t) (iblk m c 5 t) (ix2 r k)
    = three (merge_l0 m c) (merge_l1 m c) (merge_l2 m c) (ix2 (rowAt t r) k) := by
  have ht : t.val < 8 := t.isLt
  have e0 : (iblk m c 1 t : Vec Ideal S512x512 .f32) (ix2 r k) = merge_l0 m c (ix2 (rowAt t r) k) := congrArg (merge_l0 m c) (place ht (merge_at t).1.2.1 r k _ rfl rfl)
  have e1 : (iblk m c 3 t : Vec Ideal S512x512 .f32) (ix2 r k) = merge_l1 m c (ix2 (rowAt t r) k) := congrArg (merge_l1 m c) (place ht (merge_at t).2.1.1 r k _ rfl rfl)
  have e2 : (iblk m c 5 t : Vec Ideal S512x512 .f32) (ix2 r k) = merge_l2 m c (ix2 (rowAt t r) k) := congrArg (merge_l2 m c) (place ht (merge_at t).2.1.2.2 r k _ rfl rfl)
  exact congr (congrArg₂ (fun x y z => (![x, y, z] : Fin 3 → EReal)) e0 e1) e2
end

abbrev merge_L : FVec Ideal Cert.MergeRefIdeal.S3x4096x512 .f32 := refStack (merge_l0 m c) (merge_l1 m c) (merge_l2 m c)
abbrev merge_O : FVec Ideal Cert.MergeRefIdeal.S3x4096x512 .f32 := refStack (merge_o0 m c) (merge_o1 m c) (merge_o2 m c)

theorem merge_average (t : Fin cfg0.N) (r k : Fin 512) :
    average (three (s := S512x512) (iblk m c 1 t) (iblk m c 3 t) (iblk m c 5 t) (ix2 r k)) (three (s := S512x512) (iblk m c 0 t) (iblk m c 2 t) (iblk m c 4 t) (ix2 r k))
      = refAverage (merge_L m c) (merge_O m c) (ix2 (rowAt t r) k) := by
  rw [merge_logs, merge_outs, refAverage_apply, refStack_apply, refStack_apply]

theorem merge_6 : (dats m 0 c).arrAt 6 cfg0.N = refAverage (merge_L m c) (merge_O m c) :=
  (dats m 0 c).arrAt_eq_of_covers 6 _ (by decide +kernel) fun t _ y => by
    refine (congrFun (after0_6 m c t) _).trans ?_
    rw [place (w := 512) (show t.val < 8 from t.isLt) (merge_at t).2.2.1 (y 0) (y 1) (((cfg0.win 6).blk t).view.emb y) rfl rfl]
    refine (congrArg (out0_6 (F := Ideal) _ _ _ _ _ _) (eq_ix2 _)).trans ((average_tile _ _ _ _ _ _ _).trans ?_)
    exact merge_average m c t (y 0) (y 1)

theorem merge_7 : (dats m 0 c).arrAt 7 cfg0.N = (refAverage (merge_L m c) (merge_O m c) : S4096x512.Idx → EReal) :=
  (dats m 0 c).arrAt_eq_of_covers 7 _ (by decide +kernel) fun t _ y => by
    refine (congrFun (after0_7 m c t) _).trans ?_
    rw [place (w := 512) (show t.val < 8 from t.isLt) (merge_at t).2.2.2.1 (y 0) (y 1) (((cfg0.win 7).blk t).view.emb y) rfl rfl]
    refine (congrArg (out0_7 (F := Ideal) _ _ _ _ _ _) (eq_ix2 _)).trans ((rounded_tile _ _ _ _ _ _ _).trans ?_)
    exact merge_average m c t (y 0) (y 1)

theorem merge_8 : (dats m 0 c).arrAt 8 cfg0.N = refWhole (merge_L m c) :=
  (dats m 0 c).arrAt_eq_of_covers 8 _ (by decide +kernel) fun t _ y => by
    refine (congrFun (after0_8 m c t) _).trans ?_
    rw [place (w := 512) (show t.val < 8 from t.isLt) (merge_at t).2.2.2.2 (y 0) (y 1) (((cfg0.win 8).blk t).view.emb y) rfl rfl]
    refine (congrArg (out0_8 (F := Ideal) _ _ _ _ _ _) (eq_ix2 _)).trans ((whole_tile _ _ _ _ _ _ _).trans (.trans ?_ (refWhole_apply _ _ _).symm))
    exact congrArg whole ((merge_logs m c t (y 0) (y 1)).trans (refStack_apply _ _ _ _ _).symm)

/-- The run: each result is its window's array after the last grid point, and a staged argument is as launched. -/
theorem merge_run (g : Dev nD → PrngReg) : θ_run defs (onTc (τ := τ) (main (F := Ideal))) ⟨m, fun _ => 0, g⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => by
    have kept (w : Fin cfg0.W) (hw : (cfg0.win w).isOut = false) := ((h c).1 w).trans (((dats m 0 c).arrAt_in w hw _).trans (A_eq m c w))
    exact ⟨(h c).1 6, (h c).1 7, (h c).1 8, kept 0 rfl, kept 2 rfl, kept 4 rfl, kept 1 rfl, kept 3 rfl, kept 5 rfl⟩) (run_main m g)

theorem merge : Cert.algebraic_MergeIdeal_MergeRefIdeal := fun m g m' g' _ hm =>
  ⟨_, _, _, merge_run m g,
    (θ_run Cert.MergeRefIdeal.defs _ _).mono
      (fun r h c => by
        obtain ⟨e0, e1, e2, e3, e4, e5⟩ := hm c
        obtain ⟨h0, h1, h2, hk⟩ := h c
        unfold Cert.MergeRefIdeal.Value.res_main_v20 at h0
        unfold Cert.MergeRefIdeal.Value.res_main_v22 at h1
        rw [e0, e1, e2, e3, e4, e5] at h0 h1
        rw [e3, e4, e5] at h2
        exact ⟨h0.trans (merge_6 m c).symm, h1.trans (merge_7 m c).symm, h2.trans (merge_8 m c).symm, hk⟩)
      (Cert.MergeRefIdeal.Value.run m' g')⟩

end Cert.Merging

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.GatherEnd
public import proofs.«01_k».proof.Proof.Sums
public import proofs.«01_k».proof.Proof.TradeValue
public import proofs.«01_k».proof.Proof.Gen.Exchange
public import proofs.«01_k».proof.Proof.Gen.ExchangeIdeal
public import proofs.«01_k».proof.Proof.Gen.ExchangeIdeal.Launch
public import proofs.«01_k».proof.Proof.Gen.Exchanged
public import proofs.«01_k».proof.Proof.Gen.ExchangedIdeal
public import proofs.«01_k».proof.Proof.Gen.ExchangedIdeal.Run
public import proofs.«01_k».proof.Proof.Steps
public import proofs.«01_k».proof.Proof.FfnValue
public import proofs.«01_k».proof.Proof.FwdValue
public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixRefIdeal
public import proofs.«01_k».proof.Proof.Gen.MixRefIdeal.Run
public import proofs.«01_k».proof.Proof.Gen.MixBack
public import proofs.«01_k».proof.Proof.Gen.MixBack.Frame
public import proofs.«01_k».proof.Proof.Gen.MixBackIdeal
public import proofs.«01_k».proof.Proof.Gen.MixBackIdeal.Value
public import proofs.«01_k».proof.Proof.Gen.MixBackRefIdeal
public import proofs.«01_k».proof.Proof.Gen.MixBackRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.NormValue
public import proofs.«01_k».proof.Proof.NormBackValue
public import proofs.«01_k».proof.Proof.LossValue
public import proofs.«01_k».proof.Proof.WGradValue
public import proofs.«01_k».proof.Proof.MixValue
public import proofs.«01_k».proof.Proof.MixBackValue
public import proofs.«01_k».proof.Proof.MergeValue
public import proofs.«01_k».proof.Proof.Gen.FfnSum.Frame
public import proofs.«01_k».proof.Proof.Gen.InSum.Frame
public import proofs.«01_k».proof.Proof.Gen.AttnSum.Frame
public import proofs.«01_k».proof.Proof.Gen.OutSum.Frame
public import proofs.«01_k».proof.Proof.Gen.TapsSum.Frame
public import proofs.«01_k».proof.Proof.Gen.GateStep.Frame
public import proofs.«01_k».proof.Proof.Gen.DownStep.Frame
public import proofs.«01_k».proof.Proof.Gen.InStep.Frame
public import proofs.«01_k».proof.Proof.Gen.AttnStep.Frame
public import proofs.«01_k».proof.Proof.Gen.OutStep.Frame
public import proofs.«01_k».proof.Proof.Gen.TapsStep.Frame
public import proofs.«01_k».proof.Proof.Gen.Small.Frame
public import proofs.«01_k».proof.Proof.Gen.GateStepIdeal.Value
public import proofs.«01_k».proof.Proof.Gen.GateStepRefIdeal.Run
public import proofs.«01_k».proof.Proof.Gen.DownStepIdeal.Value
public import proofs.«01_k».proof.Proof.Gen.DownStepRefIdeal.Run
public import proofs.«01_k».proof.Proof.Gen.InStepIdeal.Value
public import proofs.«01_k».proof.Proof.Gen.InStepRefIdeal.Run
public import proofs.«01_k».proof.Proof.Gen.AttnStepIdeal.Value
public import proofs.«01_k».proof.Proof.Gen.AttnStepRefIdeal.Run
public import proofs.«01_k».proof.Proof.Gen.OutStepIdeal.Value
public import proofs.«01_k».proof.Proof.Gen.OutStepRefIdeal.Run
public import proofs.«01_k».proof.Proof.Gen.TapsStepIdeal.Value
public import proofs.«01_k».proof.Proof.Gen.TapsStepRefIdeal.Run
public import proofs.«01_k».proof.Proof.Gen.SmallIdeal.Value
public import proofs.«01_k».proof.Proof.Gen.SmallRefIdeal.Run
public import proofs.«01_k».proof.Proof.Gen.FfnSumIdeal.Value
public import proofs.«01_k».proof.Proof.Gen.FfnSumRefIdeal.Run
public import proofs.«01_k».proof.Proof.Gen.InSumIdeal.Value
public import proofs.«01_k».proof.Proof.Gen.InSumRefIdeal.Run
public import proofs.«01_k».proof.Proof.Gen.AttnSumIdeal.Value
public import proofs.«01_k».proof.Proof.Gen.AttnSumRefIdeal.Run
public import proofs.«01_k».proof.Proof.Gen.OutSumIdeal.Value
public import proofs.«01_k».proof.Proof.Gen.OutSumRefIdeal.Run
public import proofs.«01_k».proof.Proof.Gen.TapsSumIdeal.Value
public import proofs.«01_k».proof.Proof.Gen.TapsSumRefIdeal.Run
public import proofs.«01_k».proof.Proof.Gen.FfnBack
public import proofs.«01_k».proof.Proof.Gen.FfnBack.Skeleton
public import proofs.«01_k».proof.Proof.Gen.FfnBack.Launch
public import proofs.«01_k».proof.Proof.Gen.FfnBack.Points
public import proofs.«01_k».proof.Proof.Gen.FfnBack.Frame
public import proofs.«01_k».proof.Proof.Gen.FfnBackIdeal
public import proofs.«01_k».proof.Proof.Gen.FfnBackIdeal.Skeleton
public import proofs.«01_k».proof.Proof.Gen.FfnBackIdeal.Launch
public import proofs.«01_k».proof.Proof.Gen.FfnBackIdeal.Points
public import proofs.«01_k».proof.Proof.Gen.FfnBackIdeal.Frame
public import proofs.«01_k».proof.Proof.Gen.FfnBackIdeal.Value
public import proofs.«01_k».proof.Proof.Gen.FfnBackRefIdeal
public import proofs.«01_k».proof.Proof.Gen.FfnBackRefIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormBack
public import proofs.«01_k».proof.Proof.Gen.NormBack.Skeleton
public import proofs.«01_k».proof.Proof.Gen.NormBack.Launch
public import proofs.«01_k».proof.Proof.Gen.NormBack.Points
public import proofs.«01_k».proof.Proof.Gen.NormBack.Frame
public import proofs.«01_k».proof.Proof.Gen.NormBackIdeal
public import proofs.«01_k».proof.Proof.Gen.NormBackIdeal.Skeleton
public import proofs.«01_k».proof.Proof.Gen.NormBackIdeal.Launch
public import proofs.«01_k».proof.Proof.Gen.NormBackIdeal.Points
public import proofs.«01_k».proof.Proof.Gen.NormBackIdeal.Frame
public import proofs.«01_k».proof.Proof.Gen.NormBackIdeal.Value
public import proofs.«01_k».proof.Proof.Gen.NormBackRefIdeal
public import proofs.«01_k».proof.Proof.Gen.NormBackRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.WGrad
public import proofs.«01_k».proof.Proof.Gen.WGrad.Skeleton
public import proofs.«01_k».proof.Proof.Gen.WGrad.Launch
public import proofs.«01_k».proof.Proof.Gen.WGrad.Points
public import proofs.«01_k».proof.Proof.Gen.WGrad.Frame
public import proofs.«01_k».proof.Proof.Gen.WGradIdeal
public import proofs.«01_k».proof.Proof.Gen.WGradIdeal.Skeleton
public import proofs.«01_k».proof.Proof.Gen.WGradIdeal.Launch
public import proofs.«01_k».proof.Proof.Gen.WGradIdeal.Points
public import proofs.«01_k».proof.Proof.Gen.WGradIdeal.Frame
public import proofs.«01_k».proof.Proof.Gen.WGradIdeal.Value
public import proofs.«01_k».proof.Proof.Gen.WGradRefIdeal
public import proofs.«01_k».proof.Proof.Gen.WGradRefIdeal.Run
public import Idealize.ShloMosaic.Init
public import Idealize.ShloMosaic.Lib.StableHlo.RunHlo

@[expose] public section

noncomputable section

namespace Cert.Proof

open Idealize.ShloMosaic Idealize.ShloMosaic.TcCoe Idealize.SL.Sem

instance refFacts₀ : Cert.Reference.Facts₀ where
instance refFacts : Cert.Reference.Facts where

/-- The reference does nothing: its arrays end as they began. -/
theorem run_Reference (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩
      fun r => (∀ (d : Dev Cert.Reference.nD) (b : Ref Cert.Reference.sig .tc), r.2.mem ((d.tc : Thread Cert.Reference.nD Cert.Reference.τ).loc b) = m ((d.tc : Thread Cert.Reference.nD Cert.Reference.τ).loc b))
        ∧ r.2.sem = fun _ => 0 :=
  (θ_run Cert.Reference.defs _ _).mono (fun r h => ⟨h, sem_eq_zero_of_no_sems rfl r.2⟩)
    (StableHlo.run_hlo Cert.Reference.defs Cert.Reference.main (fun _ => StableHlo.IsSeq.nil) (by decide) (by decide) trivial (by simp) m g)

/-- The reference does nothing: its arrays end as they began. -/
theorem run_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      fun r => (∀ (d : Dev Cert.ReferenceIdeal.nD) (b : Ref Cert.ReferenceIdeal.sig .tc), r.2.mem ((d.tc : Thread Cert.ReferenceIdeal.nD Cert.ReferenceIdeal.τ).loc b) = m ((d.tc : Thread Cert.ReferenceIdeal.nD Cert.ReferenceIdeal.τ).loc b))
        ∧ r.2.sem = fun _ => 0 :=
  (θ_run Cert.ReferenceIdeal.defs _ _).mono (fun r h => ⟨h, sem_eq_zero_of_no_sems rfl r.2⟩)
    (StableHlo.run_hlo Cert.ReferenceIdeal.defs Cert.ReferenceIdeal.main (fun _ => StableHlo.IsSeq.nil) (by decide) (by decide) trivial (by simp) m g)

theorem frame_kernel : Cert.quiescent_Kernel := fun m g _ =>
  (θ_run Cert.KernelIdeal.defs _ _).mono (fun _ h => ⟨Cert.Gather.kept h.1, h.2⟩) (Cert.Gather.run_main (F := Bits) m g)

theorem frame_ideal : Cert.quiescent_KernelIdeal := fun m g _ =>
  (θ_run Cert.KernelIdeal.defs _ _).mono (fun _ h => ⟨Cert.Gather.kept h.1, h.2⟩) (Cert.Gather.run_main (F := Ideal) m g)

theorem frame_ref_ideal : Cert.quiescent_ReferenceIdeal := fun m g _ =>
  (θ_run Cert.ReferenceIdeal.defs _ _).mono (fun _ h => ⟨fun c => ⟨h.1 c _, h.1 c _, h.1 c _, h.1 c _, h.1 c _, h.1 c _, h.1 c _, h.1 c _, h.1 c _, h.1 c _, h.1 c _⟩, h.2⟩) (run_ReferenceIdeal m g)

theorem frame_ref : Cert.quiescent_Reference := fun m g _ =>
  (θ_run Cert.Reference.defs _ _).mono (fun _ h => ⟨fun c => ⟨h.1 c _, h.1 c _, h.1 c _, h.1 c _, h.1 c _, h.1 c _, h.1 c _, h.1 c _, h.1 c _, h.1 c _, h.1 c _⟩, h.2⟩) (run_Reference m g)

theorem algebraic : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0), m' (((0 : Dev Cert.ReferenceIdeal.nD).tc : Thread Cert.ReferenceIdeal.nD Cert.ReferenceIdeal.τ).loc Cert.ReferenceIdeal.main_arg1), m' (((0 : Dev Cert.ReferenceIdeal.nD).tc : Thread Cert.ReferenceIdeal.nD Cert.ReferenceIdeal.τ).loc Cert.ReferenceIdeal.main_arg2), m' (((0 : Dev Cert.ReferenceIdeal.nD).tc : Thread Cert.ReferenceIdeal.nD Cert.ReferenceIdeal.τ).loc Cert.ReferenceIdeal.main_arg3), m' (((0 : Dev Cert.ReferenceIdeal.nD).tc : Thread Cert.ReferenceIdeal.nD Cert.ReferenceIdeal.τ).loc Cert.ReferenceIdeal.main_arg4), m' (((0 : Dev Cert.ReferenceIdeal.nD).tc : Thread Cert.ReferenceIdeal.nD Cert.ReferenceIdeal.τ).loc Cert.ReferenceIdeal.main_arg5), m' (((0 : Dev Cert.ReferenceIdeal.nD).tc : Thread Cert.ReferenceIdeal.nD Cert.ReferenceIdeal.τ).loc Cert.ReferenceIdeal.main_arg6), m' (((0 : Dev Cert.ReferenceIdeal.nD).tc : Thread Cert.ReferenceIdeal.nD Cert.ReferenceIdeal.τ).loc Cert.ReferenceIdeal.main_arg7), m' (((0 : Dev Cert.ReferenceIdeal.nD).tc : Thread Cert.ReferenceIdeal.nD Cert.ReferenceIdeal.τ).loc Cert.ReferenceIdeal.main_arg8), m' (((0 : Dev Cert.ReferenceIdeal.nD).tc : Thread Cert.ReferenceIdeal.nD Cert.ReferenceIdeal.τ).loc Cert.ReferenceIdeal.main_arg9), m' (((0 : Dev Cert.ReferenceIdeal.nD).tc : Thread Cert.ReferenceIdeal.nD Cert.ReferenceIdeal.τ).loc Cert.ReferenceIdeal.main_arg10),
    (θ_run Cert.KernelIdeal.defs _ _).mono (fun _ h c => have a := Cert.Gather.got h.1 _ _ _ _ _ _ _ _ _ _ _ hm c
      ⟨a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1,
        a.2.2.2.2.2.2.2.2.2.2, Cert.Gather.kept h.1 c⟩) (Cert.Gather.run_main (F := Ideal) m g),
    (θ_run Cert.ReferenceIdeal.defs _ _).mono (fun _ h => ⟨h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _⟩) (run_ReferenceIdeal m' g')⟩

theorem bitexact : Cert.bitexact_Kernel_Reference := fun m g m' g' _ hm =>
  ⟨m' (((0 : Dev Cert.Reference.nD).tc : Thread Cert.Reference.nD Cert.Reference.τ).loc Cert.Reference.main_arg0), m' (((0 : Dev Cert.Reference.nD).tc : Thread Cert.Reference.nD Cert.Reference.τ).loc Cert.Reference.main_arg1), m' (((0 : Dev Cert.Reference.nD).tc : Thread Cert.Reference.nD Cert.Reference.τ).loc Cert.Reference.main_arg2), m' (((0 : Dev Cert.Reference.nD).tc : Thread Cert.Reference.nD Cert.Reference.τ).loc Cert.Reference.main_arg3), m' (((0 : Dev Cert.Reference.nD).tc : Thread Cert.Reference.nD Cert.Reference.τ).loc Cert.Reference.main_arg4), m' (((0 : Dev Cert.Reference.nD).tc : Thread Cert.Reference.nD Cert.Reference.τ).loc Cert.Reference.main_arg5), m' (((0 : Dev Cert.Reference.nD).tc : Thread Cert.Reference.nD Cert.Reference.τ).loc Cert.Reference.main_arg6), m' (((0 : Dev Cert.Reference.nD).tc : Thread Cert.Reference.nD Cert.Reference.τ).loc Cert.Reference.main_arg7), m' (((0 : Dev Cert.Reference.nD).tc : Thread Cert.Reference.nD Cert.Reference.τ).loc Cert.Reference.main_arg8), m' (((0 : Dev Cert.Reference.nD).tc : Thread Cert.Reference.nD Cert.Reference.τ).loc Cert.Reference.main_arg9), m' (((0 : Dev Cert.Reference.nD).tc : Thread Cert.Reference.nD Cert.Reference.τ).loc Cert.Reference.main_arg10),
    (θ_run Cert.KernelIdeal.defs _ _).mono (fun _ h c => have a := Cert.Gather.got h.1 _ _ _ _ _ _ _ _ _ _ _ hm c
      ⟨a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1,
        a.2.2.2.2.2.2.2.2.2.2, Cert.Gather.kept h.1 c⟩) (Cert.Gather.run_main (F := Bits) m g),
    (θ_run Cert.Reference.defs _ _).mono (fun _ h => ⟨h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _, h.1 0 _⟩) (run_Reference m' g')⟩

theorem frame_exchange : Cert.quiescent_Exchange := fun m g _ =>
  (θ_run Cert.ExchangeIdeal.defs _ _).mono (fun _ h => ⟨Cert.Trade.kept h.1, h.2⟩) (Cert.Trade.run_main (F := Bits) m g)

theorem frame_exchange_ideal : Cert.quiescent_ExchangeIdeal := fun m g _ =>
  (θ_run Cert.ExchangeIdeal.defs _ _).mono (fun _ h => ⟨Cert.Trade.kept h.1, h.2⟩) (Cert.Trade.run_main (F := Ideal) m g)

theorem frame_exchanged_ideal : Cert.quiescent_ExchangedIdeal := fun m g _ =>
  (θ_run Cert.ExchangedIdeal.defs _ _).mono (fun r h => ⟨fun c => (h c).2.2.2.2.2.2.2.2.2.2.2.2, sem_eq_zero_of_no_sems rfl r.2⟩) (Cert.ExchangedIdeal.Value.run (F := Ideal) m g)

theorem frame_exchanged : Cert.quiescent_Exchanged := fun m g _ =>
  (θ_run Cert.ExchangedIdeal.defs _ _).mono (fun r h => ⟨fun c => (h c).2.2.2.2.2.2.2.2.2.2.2.2, sem_eq_zero_of_no_sems rfl r.2⟩) (Cert.ExchangedIdeal.Value.run (F := Bits) m g)

theorem algebraic_exchange : Cert.algebraic_ExchangeIdeal_ExchangedIdeal := fun m g m' g' _ hm =>
  ⟨Cert.Trade.picksA (m' (((0 : Dev Cert.ExchangedIdeal.nD).tc : Thread Cert.ExchangedIdeal.nD Cert.ExchangedIdeal.τ).loc Cert.ExchangedIdeal.main_arg0)),
    Cert.Trade.picksA (m' (((0 : Dev Cert.ExchangedIdeal.nD).tc : Thread Cert.ExchangedIdeal.nD Cert.ExchangedIdeal.τ).loc Cert.ExchangedIdeal.main_arg1)),
    Cert.Trade.picksB (m' (((0 : Dev Cert.ExchangedIdeal.nD).tc : Thread Cert.ExchangedIdeal.nD Cert.ExchangedIdeal.τ).loc Cert.ExchangedIdeal.main_arg2)),
    Cert.Trade.picksC (m' (((0 : Dev Cert.ExchangedIdeal.nD).tc : Thread Cert.ExchangedIdeal.nD Cert.ExchangedIdeal.τ).loc Cert.ExchangedIdeal.main_arg3)),
    Cert.Trade.picksA (m' (((0 : Dev Cert.ExchangedIdeal.nD).tc : Thread Cert.ExchangedIdeal.nD Cert.ExchangedIdeal.τ).loc Cert.ExchangedIdeal.main_arg4)),
    Cert.Trade.picksA (m' (((0 : Dev Cert.ExchangedIdeal.nD).tc : Thread Cert.ExchangedIdeal.nD Cert.ExchangedIdeal.τ).loc Cert.ExchangedIdeal.main_arg5)),
    Cert.Trade.picksA (m' (((0 : Dev Cert.ExchangedIdeal.nD).tc : Thread Cert.ExchangedIdeal.nD Cert.ExchangedIdeal.τ).loc Cert.ExchangedIdeal.main_arg6)),
    Cert.Trade.picksD (m' (((0 : Dev Cert.ExchangedIdeal.nD).tc : Thread Cert.ExchangedIdeal.nD Cert.ExchangedIdeal.τ).loc Cert.ExchangedIdeal.main_arg7)),
    Cert.Trade.picksD (m' (((0 : Dev Cert.ExchangedIdeal.nD).tc : Thread Cert.ExchangedIdeal.nD Cert.ExchangedIdeal.τ).loc Cert.ExchangedIdeal.main_arg8)),
    Cert.Trade.picksA (m' (((0 : Dev Cert.ExchangedIdeal.nD).tc : Thread Cert.ExchangedIdeal.nD Cert.ExchangedIdeal.τ).loc Cert.ExchangedIdeal.main_arg9)),
    Cert.Trade.picksE (m' (((0 : Dev Cert.ExchangedIdeal.nD).tc : Thread Cert.ExchangedIdeal.nD Cert.ExchangedIdeal.τ).loc Cert.ExchangedIdeal.main_arg10)),
    Cert.Trade.stack (m' (((0 : Dev Cert.ExchangedIdeal.nD).tc : Thread Cert.ExchangedIdeal.nD Cert.ExchangedIdeal.τ).loc Cert.ExchangedIdeal.main_arg11)),
    (θ_run Cert.ExchangeIdeal.defs _ _).mono (fun _ h c => have a := Cert.Trade.got h.1 _ _ _ _ _ _ _ _ _ _ _ _ _ _ _ _ _ _ _ _ _ _ _ _ hm (Cert.Trade.slotsA _) (Cert.Trade.slotsA _) (Cert.Trade.slotsB _) (Cert.Trade.slotsC _) (Cert.Trade.slotsA _) (Cert.Trade.slotsA _) (Cert.Trade.slotsA _) (Cert.Trade.slotsD _) (Cert.Trade.slotsD _) (Cert.Trade.slotsA _) (Cert.Trade.slotsE _) (Cert.Trade.stack_apply _) c
      ⟨a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2, Cert.Trade.kept h.1 c⟩) (Cert.Trade.run_main (F := Ideal) m g),
    (θ_run Cert.ExchangedIdeal.defs _ _).mono (fun _ h => h 0) (Cert.ExchangedIdeal.Value.run (F := Ideal) m' g')⟩

set_option maxHeartbeats 2000000 in
theorem bitexact_exchange : Cert.bitexact_Exchange_Exchanged := fun m g m' g' _ hm =>
  ⟨Cert.Trade.picksA (m' (((0 : Dev Cert.Exchanged.nD).tc : Thread Cert.Exchanged.nD Cert.Exchanged.τ).loc Cert.Exchanged.main_arg0)),
    Cert.Trade.picksA (m' (((0 : Dev Cert.Exchanged.nD).tc : Thread Cert.Exchanged.nD Cert.Exchanged.τ).loc Cert.Exchanged.main_arg1)),
    Cert.Trade.picksB (m' (((0 : Dev Cert.Exchanged.nD).tc : Thread Cert.Exchanged.nD Cert.Exchanged.τ).loc Cert.Exchanged.main_arg2)),
    Cert.Trade.picksC (m' (((0 : Dev Cert.Exchanged.nD).tc : Thread Cert.Exchanged.nD Cert.Exchanged.τ).loc Cert.Exchanged.main_arg3)),
    Cert.Trade.picksA (m' (((0 : Dev Cert.Exchanged.nD).tc : Thread Cert.Exchanged.nD Cert.Exchanged.τ).loc Cert.Exchanged.main_arg4)),
    Cert.Trade.picksA (m' (((0 : Dev Cert.Exchanged.nD).tc : Thread Cert.Exchanged.nD Cert.Exchanged.τ).loc Cert.Exchanged.main_arg5)),
    Cert.Trade.picksA (m' (((0 : Dev Cert.Exchanged.nD).tc : Thread Cert.Exchanged.nD Cert.Exchanged.τ).loc Cert.Exchanged.main_arg6)),
    Cert.Trade.picksD (m' (((0 : Dev Cert.Exchanged.nD).tc : Thread Cert.Exchanged.nD Cert.Exchanged.τ).loc Cert.Exchanged.main_arg7)),
    Cert.Trade.picksD (m' (((0 : Dev Cert.Exchanged.nD).tc : Thread Cert.Exchanged.nD Cert.Exchanged.τ).loc Cert.Exchanged.main_arg8)),
    Cert.Trade.picksA (m' (((0 : Dev Cert.Exchanged.nD).tc : Thread Cert.Exchanged.nD Cert.Exchanged.τ).loc Cert.Exchanged.main_arg9)),
    Cert.Trade.picksE (m' (((0 : Dev Cert.Exchanged.nD).tc : Thread Cert.Exchanged.nD Cert.Exchanged.τ).loc Cert.Exchanged.main_arg10)),
    Cert.Trade.stack (m' (((0 : Dev Cert.Exchanged.nD).tc : Thread Cert.Exchanged.nD Cert.Exchanged.τ).loc Cert.Exchanged.main_arg11)),
    (θ_run Cert.ExchangeIdeal.defs _ _).mono (fun _ h c => have a := Cert.Trade.got h.1 _ _ _ _ _ _ _ _ _ _ _ _ _ _ _ _ _ _ _ _ _ _ _ _ hm (Cert.Trade.slotsA _) (Cert.Trade.slotsA _) (Cert.Trade.slotsB _) (Cert.Trade.slotsC _) (Cert.Trade.slotsA _) (Cert.Trade.slotsA _) (Cert.Trade.slotsA _) (Cert.Trade.slotsD _) (Cert.Trade.slotsD _) (Cert.Trade.slotsA _) (Cert.Trade.slotsE _) (Cert.Trade.stack_apply _) c
      ⟨a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2, Cert.Trade.kept h.1 c⟩) (Cert.Trade.run_main (F := Bits) m g),
    (θ_run Cert.ExchangedIdeal.defs _ _).mono (fun _ h => h 0) (Cert.ExchangedIdeal.Value.run (F := Bits) m' g')⟩

theorem frame_ref_FfnSum : Cert.quiescent_FfnSumRefIdeal := fun m g _ =>
  (θ_run Cert.FfnSumRefIdeal.defs _ _).mono (fun r h => ⟨fun c => (h c).2, sem_eq_zero_of_no_sems rfl r.2⟩) (Cert.FfnSumRefIdeal.Value.run m g)

theorem frame_ref_InSum : Cert.quiescent_InSumRefIdeal := fun m g _ =>
  (θ_run Cert.InSumRefIdeal.defs _ _).mono (fun r h => ⟨fun c => (h c).2, sem_eq_zero_of_no_sems rfl r.2⟩) (Cert.InSumRefIdeal.Value.run m g)

theorem frame_ref_AttnSum : Cert.quiescent_AttnSumRefIdeal := fun m g _ =>
  (θ_run Cert.AttnSumRefIdeal.defs _ _).mono (fun r h => ⟨fun c => (h c).2, sem_eq_zero_of_no_sems rfl r.2⟩) (Cert.AttnSumRefIdeal.Value.run m g)

theorem frame_ref_OutSum : Cert.quiescent_OutSumRefIdeal := fun m g _ =>
  (θ_run Cert.OutSumRefIdeal.defs _ _).mono (fun r h => ⟨fun c => (h c).2, sem_eq_zero_of_no_sems rfl r.2⟩) (Cert.OutSumRefIdeal.Value.run m g)

theorem frame_ref_TapsSum : Cert.quiescent_TapsSumRefIdeal := fun m g _ =>
  (θ_run Cert.TapsSumRefIdeal.defs _ _).mono (fun r h => ⟨fun c => (h c).2, sem_eq_zero_of_no_sems rfl r.2⟩) (Cert.TapsSumRefIdeal.Value.run m g)

theorem frame_ref_GateStep : Cert.quiescent_GateStepRefIdeal := fun m g _ =>
  (θ_run Cert.GateStepRefIdeal.defs _ _).mono (fun r h => ⟨fun c => (h c).2.2.2, sem_eq_zero_of_no_sems rfl r.2⟩) (Cert.GateStepRefIdeal.Value.run m g)

theorem frame_ref_DownStep : Cert.quiescent_DownStepRefIdeal := fun m g _ =>
  (θ_run Cert.DownStepRefIdeal.defs _ _).mono (fun r h => ⟨fun c => (h c).2.2.2, sem_eq_zero_of_no_sems rfl r.2⟩) (Cert.DownStepRefIdeal.Value.run m g)

theorem frame_ref_InStep : Cert.quiescent_InStepRefIdeal := fun m g _ =>
  (θ_run Cert.InStepRefIdeal.defs _ _).mono (fun r h => ⟨fun c => (h c).2.2.2, sem_eq_zero_of_no_sems rfl r.2⟩) (Cert.InStepRefIdeal.Value.run m g)

theorem frame_ref_AttnStep : Cert.quiescent_AttnStepRefIdeal := fun m g _ =>
  (θ_run Cert.AttnStepRefIdeal.defs _ _).mono (fun r h => ⟨fun c => (h c).2.2.2, sem_eq_zero_of_no_sems rfl r.2⟩) (Cert.AttnStepRefIdeal.Value.run m g)

theorem frame_ref_OutStep : Cert.quiescent_OutStepRefIdeal := fun m g _ =>
  (θ_run Cert.OutStepRefIdeal.defs _ _).mono (fun r h => ⟨fun c => (h c).2.2.2, sem_eq_zero_of_no_sems rfl r.2⟩) (Cert.OutStepRefIdeal.Value.run m g)

theorem frame_ref_TapsStep : Cert.quiescent_TapsStepRefIdeal := fun m g _ =>
  (θ_run Cert.TapsStepRefIdeal.defs _ _).mono (fun r h => ⟨fun c => (h c).2.2.2, sem_eq_zero_of_no_sems rfl r.2⟩) (Cert.TapsStepRefIdeal.Value.run m g)

theorem frame_ref_Small : Cert.quiescent_SmallRefIdeal := fun m g _ =>
  (θ_run Cert.SmallRefIdeal.defs _ _).mono (fun r h => ⟨fun c => (h c).2.2.2.2, sem_eq_zero_of_no_sems rfl r.2⟩) (Cert.SmallRefIdeal.Value.run m g)

theorem frame_ref_FfnBack : Cert.quiescent_FfnBackRefIdeal := fun m g _ =>
  (θ_run Cert.FfnBackRefIdeal.defs _ _).mono (fun r h => ⟨fun c => (h c).2.2.2.2.2.2.2, sem_eq_zero_of_no_sems rfl r.2⟩) (Cert.FfnBackRefIdeal.Value.run m g)

theorem frame_ref_FfnFwd : Cert.quiescent_FfnFwdRefIdeal := fun m g _ =>
  (θ_run Cert.FfnFwdRefIdeal.defs _ _).mono (fun r h => ⟨fun c => (h c).2.2.2, sem_eq_zero_of_no_sems rfl r.2⟩) (Cert.FfnFwdRefIdeal.Value.run m g)

theorem frame_ref_Norm : Cert.quiescent_NormRefIdeal := fun m g _ =>
  (θ_run Cert.NormRefIdeal.defs _ _).mono (fun r h => ⟨fun c => (h c).2, sem_eq_zero_of_no_sems rfl r.2⟩) (Cert.NormRefIdeal.Value.run m g)

theorem frame_ref_NormBack : Cert.quiescent_NormBackRefIdeal := fun m g _ =>
  (θ_run Cert.NormBackRefIdeal.defs _ _).mono (fun r h => ⟨fun c => (h c).2.2, sem_eq_zero_of_no_sems rfl r.2⟩) (Cert.NormBackRefIdeal.Value.run m g)

theorem frame_ref_Loss : Cert.quiescent_LossRefIdeal := fun m g _ =>
  (θ_run Cert.LossRefIdeal.defs _ _).mono (fun r h => ⟨fun c => (h c).2.2.2, sem_eq_zero_of_no_sems rfl r.2⟩) (Cert.LossRefIdeal.Value.run m g)

theorem frame_ref_WGrad : Cert.quiescent_WGradRefIdeal := fun m g _ =>
  (θ_run Cert.WGradRefIdeal.defs _ _).mono (fun r h => ⟨fun c => (h c).2, sem_eq_zero_of_no_sems rfl r.2⟩) (Cert.WGradRefIdeal.Value.run m g)
theorem frame_ref_Mix : Cert.quiescent_MixRefIdeal := fun m g _ =>
  (θ_run Cert.MixRefIdeal.defs _ _).mono (fun r h => ⟨fun c => (h c).2.2.2.2, sem_eq_zero_of_no_sems rfl r.2⟩) (Cert.MixRefIdeal.Value.run m g)
theorem frame_ref_MixBack : Cert.quiescent_MixBackRefIdeal := fun m g _ =>
  (θ_run Cert.MixBackRefIdeal.defs _ _).mono (fun r h => ⟨fun c => (h c).2.2.2.2.2.2.2, sem_eq_zero_of_no_sems rfl r.2⟩) (Cert.MixBackRefIdeal.Value.run m g)
theorem frame_ref_Merge : Cert.quiescent_MergeRefIdeal := fun m g _ =>
  (θ_run Cert.MergeRefIdeal.defs _ _).mono (fun r h => ⟨fun c => (h c).2.2.2, sem_eq_zero_of_no_sems rfl r.2⟩) (Cert.MergeRefIdeal.Value.run m g)

theorem claim : Cert.Claim :=
  ⟨Cert.Kernel.Gen.facts, Cert.KernelIdeal.Gen.facts, Cert.ReferenceIdeal.Gen.facts,
    refFacts, Cert.Exchange.Gen.facts, Cert.ExchangeIdeal.Gen.facts, Cert.ExchangedIdeal.Gen.facts, Cert.Exchanged.Gen.facts, Cert.FfnSum.Gen.facts, Cert.FfnSumIdeal.Gen.facts,
    Cert.FfnSumRefIdeal.Gen.facts, Cert.InSum.Gen.facts, Cert.InSumIdeal.Gen.facts,
    Cert.InSumRefIdeal.Gen.facts, Cert.AttnSum.Gen.facts, Cert.AttnSumIdeal.Gen.facts,
    Cert.AttnSumRefIdeal.Gen.facts, Cert.OutSum.Gen.facts, Cert.OutSumIdeal.Gen.facts,
    Cert.OutSumRefIdeal.Gen.facts, Cert.TapsSum.Gen.facts, Cert.TapsSumIdeal.Gen.facts,
    Cert.TapsSumRefIdeal.Gen.facts, Cert.GateStep.Gen.facts, Cert.GateStepIdeal.Gen.facts,
    Cert.GateStepRefIdeal.Gen.facts, Cert.DownStep.Gen.facts, Cert.DownStepIdeal.Gen.facts,
    Cert.DownStepRefIdeal.Gen.facts, Cert.InStep.Gen.facts, Cert.InStepIdeal.Gen.facts,
    Cert.InStepRefIdeal.Gen.facts, Cert.AttnStep.Gen.facts, Cert.AttnStepIdeal.Gen.facts,
    Cert.AttnStepRefIdeal.Gen.facts, Cert.OutStep.Gen.facts, Cert.OutStepIdeal.Gen.facts,
    Cert.OutStepRefIdeal.Gen.facts, Cert.TapsStep.Gen.facts, Cert.TapsStepIdeal.Gen.facts,
    Cert.TapsStepRefIdeal.Gen.facts, Cert.Small.Gen.facts, Cert.SmallIdeal.Gen.facts,
    Cert.SmallRefIdeal.Gen.facts, Cert.FfnBack.Gen.facts, Cert.FfnBackIdeal.Gen.facts, Cert.FfnBackRefIdeal.Gen.facts,
    Cert.FfnFwd.Gen.facts, Cert.FfnFwdIdeal.Gen.facts, Cert.FfnFwdRefIdeal.Gen.facts,
    Cert.Norm.Gen.facts, Cert.NormIdeal.Gen.facts, Cert.NormRefIdeal.Gen.facts,
    Cert.NormBack.Gen.facts, Cert.NormBackIdeal.Gen.facts, Cert.NormBackRefIdeal.Gen.facts,
    Cert.Loss.Gen.facts, Cert.LossIdeal.Gen.facts, Cert.LossRefIdeal.Gen.facts,
    Cert.WGrad.Gen.facts, Cert.WGradIdeal.Gen.facts, Cert.WGradRefIdeal.Gen.facts,
    Cert.Mix.Gen.facts, Cert.MixIdeal.Gen.facts, Cert.MixRefIdeal.Gen.facts,
    Cert.MixBack.Gen.facts, Cert.MixBackIdeal.Gen.facts, Cert.MixBackRefIdeal.Gen.facts,
    Cert.Merge.Gen.facts, Cert.MergeIdeal.Gen.facts, Cert.MergeRefIdeal.Gen.facts,
    frame_kernel, frame_ideal, frame_ref_ideal, frame_ref, frame_exchange, frame_exchange_ideal, frame_exchanged_ideal, frame_exchanged,
    fun m g _ => Cert.FfnSum.Gen.frame m g, fun m g _ => Cert.FfnSumIdeal.Gen.frame m g, frame_ref_FfnSum,
    fun m g _ => Cert.InSum.Gen.frame m g, fun m g _ => Cert.InSumIdeal.Gen.frame m g, frame_ref_InSum,
    fun m g _ => Cert.AttnSum.Gen.frame m g, fun m g _ => Cert.AttnSumIdeal.Gen.frame m g, frame_ref_AttnSum,
    fun m g _ => Cert.OutSum.Gen.frame m g, fun m g _ => Cert.OutSumIdeal.Gen.frame m g, frame_ref_OutSum,
    fun m g _ => Cert.TapsSum.Gen.frame m g, fun m g _ => Cert.TapsSumIdeal.Gen.frame m g, frame_ref_TapsSum,
    fun m g _ => Cert.GateStep.Gen.frame m g, fun m g _ => Cert.GateStepIdeal.Gen.frame m g, frame_ref_GateStep,
    fun m g _ => Cert.DownStep.Gen.frame m g, fun m g _ => Cert.DownStepIdeal.Gen.frame m g, frame_ref_DownStep,
    fun m g _ => Cert.InStep.Gen.frame m g, fun m g _ => Cert.InStepIdeal.Gen.frame m g, frame_ref_InStep,
    fun m g _ => Cert.AttnStep.Gen.frame m g, fun m g _ => Cert.AttnStepIdeal.Gen.frame m g, frame_ref_AttnStep,
    fun m g _ => Cert.OutStep.Gen.frame m g, fun m g _ => Cert.OutStepIdeal.Gen.frame m g, frame_ref_OutStep,
    fun m g _ => Cert.TapsStep.Gen.frame m g, fun m g _ => Cert.TapsStepIdeal.Gen.frame m g, frame_ref_TapsStep,
    fun m g _ => Cert.Small.Gen.frame m g, fun m g _ => Cert.SmallIdeal.Gen.frame m g, frame_ref_Small, fun m g _ => Cert.FfnBack.Gen.frame m g, fun m g _ => Cert.FfnBackIdeal.Gen.frame m g, frame_ref_FfnBack,
    fun m g _ => Cert.FfnFwd.Gen.frame m g, fun m g _ => Cert.FfnFwdIdeal.Gen.frame m g, frame_ref_FfnFwd,
    fun m g _ => Cert.Norm.Gen.frame m g, fun m g _ => Cert.NormIdeal.Gen.frame m g, frame_ref_Norm,
    fun m g _ => Cert.NormBack.Gen.frame m g, fun m g _ => Cert.NormBackIdeal.Gen.frame m g, frame_ref_NormBack,
    fun m g _ => Cert.Loss.Gen.frame m g, fun m g _ => Cert.LossIdeal.Gen.frame m g, frame_ref_Loss,
    fun m g _ => Cert.WGrad.Gen.frame m g, fun m g _ => Cert.WGradIdeal.Gen.frame m g, frame_ref_WGrad,
    fun m g _ => Cert.Mix.Gen.frame m g, fun m g _ => Cert.MixIdeal.Gen.frame m g, frame_ref_Mix,
    fun m g _ => Cert.MixBack.Gen.frame m g, fun m g _ => Cert.MixBackIdeal.Gen.frame m g, frame_ref_MixBack,
    fun m g _ => Cert.Merge.Gen.frame m g, fun m g _ => Cert.MergeIdeal.Gen.frame m g, frame_ref_Merge,
    trivial, algebraic, bitexact, trivial, algebraic_exchange, bitexact_exchange, trivial, Cert.Sums.ffn, trivial, Cert.Sums.inp, trivial, Cert.Sums.attn,
    trivial, Cert.Sums.out, trivial, Cert.Sums.taps, trivial, Cert.Steps.gate, trivial, Cert.Steps.down,
    trivial, Cert.Steps.inp, trivial, Cert.Steps.attn, trivial, Cert.Steps.out, trivial, Cert.Steps.taps,
    trivial, Cert.Sums.small, trivial, Cert.Ffn.back, trivial, Cert.Fwd.forward, trivial, Cert.Rms.norm, trivial, Cert.Rms.norm_back, trivial, Cert.Rms.final, trivial, Cert.Rms.weight_grad,
    trivial, Cert.Mixer.mix, trivial, Cert.MixerBack.mixb, trivial, Cert.Merging.merge⟩

end Cert.Proof

end
